-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "log2e_over_sqrt_d" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S3x192 : Shape := ⟨2, ![3, 192]⟩
abbrev S3 : Shape := ⟨1, ![3]⟩
abbrev S3x2x10240x128 : Shape := ⟨4, ![3, 2, 10240, 128]⟩
abbrev S3x2x10x1x1024 : Shape := ⟨5, ![3, 2, 10, 1, 1024]⟩
abbrev S720x2x64x128 : Shape := ⟨4, ![720, 2, 64, 128]⟩
abbrev S2x64x768 : Shape := ⟨3, ![2, 64, 768]⟩
abbrev S3x2x640x128 : Shape := ⟨4, ![3, 2, 640, 128]⟩
abbrev S3x2x640 : Shape := ⟨3, ![3, 2, 640]⟩
abbrev S_ : Shape := ⟨0, ![]⟩

class Facts : Prop where
  bcast_S_S3x192 : S_.BroadcastsInDim S3x192 (![] : Fin 0 → Fin S3x192.rank)
  reducesTo_S3x192_S_d0_1 : S3x192.ReducesTo [0, 1] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : IVec S3x192 32) (main_arg1 : IVec S3 32) (main_arg2 : FVec F S3x2x10240x128 .fp8e4m3) (main_arg3 : FVec F S3x2x10x1x1024 .f32) (main_arg4 : FVec F S720x2x64x128 .fp8e4m3) (main_arg5 : FVec F S2x64x768 .f32) (main_arg6 : FVec F S720x2x64x128 .fp8e4m3) (main_arg7 : FVec F S2x64x768 .f32) (main_arg8 : FVec F S3x2x640x128 .fp8e4m3) (main_arg9 : FVec F S3x2x640 .f32) (main_arg10 : FVec F S3x2x640x128 .fp8e4m3) (main_arg11 : FVec F S3x2x640 .f32) : IVec S_ 1 :=
  let main_c : IVec S_ 32 := constantI S_ 32 0#32
  let main_v0 : IVec S3x192 32 := broadcastInDim S3x192 ![] bcast_S_S3x192 main_c
  let main_v1 : IVec S3x192 1 := cmpi .sge main_arg0 main_v0
  let main_c_0 : IVec S_ 32 := constantI S_ 32 720#32
  let main_v2 : IVec S3x192 32 := broadcastInDim S3x192 ![] bcast_S_S3x192 main_c_0
  let main_v3 : IVec S3x192 1 := cmpi .slt main_arg0 main_v2
  let main_v4 : IVec S3x192 1 := andi main_v1 main_v3
  let main_c_1 : IVec S_ 1 := constantI S_ 1 1#1
  let main_v5 : IVec S_ 1 := (fun x v => Host.reduce IntOp.andi x v reducesTo_S3x192_S_d0_1 h_S_) main_v4 main_c_1
  let main_c_2 : IVec S_ 32 := constantI S_ 32 0#32
  let main_v6 : IVec S3 32 := broadcastInDim S3 ![] bcast_S_S3 main_c_2
  let main_v7 : IVec S3 1 := cmpi .sge main_arg1 main_v6
  let main_c_3 : IVec S_ 32 := constantI S_ 32 12288#32
  let main_v8 : IVec S3 32 := broadcastInDim S3 ![] bcast_S_S3 main_c_3
  let main_v9 : IVec S3 1 := cmpi .sle main_arg1 main_v8
  let main_v10 : IVec S3 1 := andi main_v7 main_v9
  let main_c_4 : IVec S_ 1 := constantI S_ 1 1#1
  let main_v11 : IVec S_ 1 := (fun x v => Host.reduce IntOp.andi x v reducesTo_S3_S_d0 h_S_) main_v10 main_c_4
  let main_v12 : IVec S_ 1 := andi main_v5 main_v11
  main_v12
-- ==== Kernel.lean ====
abbrev S3x192 : Shape := ⟨2, ![3, 192]⟩
abbrev S3 : Shape := ⟨1, ![3]⟩
abbrev S3x2x10240x128 : Shape := ⟨4, ![3, 2, 10240, 128]⟩
abbrev S3x2x10x1x1024 : Shape := ⟨5, ![3, 2, 10, 1, 1024]⟩
abbrev S720x2x64x128 : Shape := ⟨4, ![720, 2, 64, 128]⟩
abbrev S2x64x768 : Shape := ⟨3, ![2, 64, 768]⟩
abbrev S3x2x640x128 : Shape := ⟨4, ![3, 2, 640, 128]⟩
abbrev S3x2x640 : Shape := ⟨3, ![3, 2, 640]⟩
abbrev S3x640x4096 : Shape := ⟨3, ![3, 640, 4096]⟩
abbrev S1x1x1024x128 : Shape := ⟨4, ![1, 1, 1024, 128]⟩
abbrev S1x1x1x1x1024 : Shape := ⟨5, ![1, 1, 1, 1, 1024]⟩
abbrev S1x2x640x128 : Shape := ⟨4, ![1, 2, 640, 128]⟩
abbrev S1x2x640 : Shape := ⟨3, ![1, 2, 640]⟩
abbrev S1x64x2048 : Shape := ⟨3, ![1, 64, 2048]⟩
abbrev S2x13056x128 : Shape := ⟨3, ![2, 13056, 128]⟩
abbrev S2x12288x128 : Shape := ⟨3, ![2, 12288, 128]⟩
abbrev S2x128x13056 : Shape := ⟨3, ![2, 128, 13056]⟩
abbrev S2 : Shape := ⟨1, ![2]⟩
abbrev S1 : Shape := ⟨1, ![1]⟩
abbrev S1x1 : Shape := ⟨2, ![1, 1]⟩
abbrev S_ : Shape := ⟨0, ![]⟩
abbrev S2x64x128 : Shape := ⟨3, ![2, 64, 128]⟩
abbrev S1x2x64x128 : Shape := ⟨4, ![1, 2, 64, 128]⟩
abbrev S1x1x640x128 : Shape := ⟨4, ![1, 1, 640, 128]⟩
abbrev S640x128 : Shape := ⟨2, ![640, 128]⟩
abbrev S1x640x128 : Shape := ⟨3, ![1, 640, 128]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩
abbrev S1x1x128x128 : Shape := ⟨4, ![1, 1, 128, 128]⟩
abbrev S1x64x128 : Shape := ⟨3, ![1, 64, 128]⟩
abbrev S64x128 : Shape := ⟨2, ![64, 128]⟩
abbrev S64x128x1 : Shape := ⟨3, ![64, 128, 1]⟩
abbrev S1024x128 : Shape := ⟨2, ![1024, 128]⟩
abbrev S1x1024 : Shape := ⟨2, ![1, 1024]⟩
abbrev S128x1024 : Shape := ⟨2, ![128, 1024]⟩
abbrev S1x256x128 : Shape := ⟨3, ![1, 256, 128]⟩
abbrev S256x128 : Shape := ⟨2, ![256, 128]⟩
abbrev S256x1024 : Shape := ⟨2, ![256, 1024]⟩
abbrev S1024 : Shape := ⟨1, ![1024]⟩
abbrev S1x128x256 : Shape := ⟨3, ![1, 128, 256]⟩
abbrev S128x256 : Shape := ⟨2, ![128, 256]⟩
abbrev S64x16x128 : Shape := ⟨3, ![64, 16, 128]⟩
abbrev S64x2048 : Shape := ⟨2, ![64, 2048]⟩

abbrev nBuf : Space → Nat
  | .hbm => 11
  | .vmem => 20
  | .smem => 2
  | _ => 0

abbrev bufTy : (tb : Table) → Fin (tcTables nBuf tb) → BufTy
  | .hbm, ⟨0, _⟩ => ⟨S3x2x10240x128, .fp8e4m3⟩
  | .hbm, ⟨1, _⟩ => ⟨S3x2x10x1x1024, .f32⟩
  | .hbm, ⟨2, _⟩ => ⟨S720x2x64x128, .fp8e4m3⟩
  | .hbm, ⟨3, _⟩ => ⟨S2x64x768, .f32⟩
  | .hbm, ⟨4, _⟩ => ⟨S720x2x64x128, .fp8e4m3⟩
  | .hbm, ⟨5, _⟩ => ⟨S2x64x768, .f32⟩
  | .hbm, ⟨6, _⟩ => ⟨S3x2x640x128, .fp8e4m3⟩
  | .hbm, ⟨7, _⟩ => ⟨S3x2x640, .f32⟩
  | .hbm, ⟨8, _⟩ => ⟨S3x2x640x128, .fp8e4m3⟩
  | .hbm, ⟨9, _⟩ => ⟨S3x2x640, .f32⟩
  | .hbm, ⟨10, _⟩ => ⟨S3x640x4096, .bf16⟩
  | .local _ .vmem, ⟨0, _⟩ => ⟨S1x1x1024x128, .fp8e4m3⟩
  | .local _ .vmem, ⟨1, _⟩ => ⟨S1x1x1024x128, .fp8e4m3⟩
  | .local _ .vmem, ⟨2, _⟩ => ⟨S1x1x1x1x1024, .f32⟩
  | .local _ .vmem, ⟨3, _⟩ => ⟨S1x1x1x1x1024, .f32⟩
  | .local _ .vmem, ⟨4, _⟩ => ⟨S2x64x768, .f32⟩
  | .local _ .vmem, ⟨5, _⟩ => ⟨S2x64x768, .f32⟩
  | .local _ .vmem, ⟨6, _⟩ => ⟨S1x2x640x128, .fp8e4m3⟩
  | .local _ .vmem, ⟨7, _⟩ => ⟨S1x2x640x128, .fp8e4m3⟩
  | .local _ .vmem, ⟨8, _⟩ => ⟨S1x2x640, .f32⟩
  | .local _ .vmem, ⟨9, _⟩ => ⟨S1x2x640, .f32⟩
  | .local _ .vmem, ⟨10, _⟩ => ⟨S1x2x640x128, .fp8e4m3⟩
  | .local _ .vmem, ⟨11, _⟩ => ⟨S1x2x640x128, .fp8e4m3⟩
  | .local _ .vmem, ⟨12, _⟩ => ⟨S1x2x640, .f32⟩
  | .local _ .vmem, ⟨13, _⟩ => ⟨S1x2x640, .f32⟩
  | .local _ .vmem, ⟨14, _⟩ => ⟨S1x64x2048, .bf16⟩
  | .local _ .vmem, ⟨15, _⟩ => ⟨S1x64x2048, .bf16⟩
  | .local _ .vmem, ⟨16, _⟩ => ⟨S2x13056x128, .fp8e4m3⟩
  | .local _ .vmem, ⟨17, _⟩ => ⟨S2x12288x128, .fp8e4m3⟩
  | .local _ .vmem, ⟨18, _⟩ => ⟨S2x128x13056, .bf16⟩
  | .local _ .vmem, ⟨19, _⟩ => ⟨S2x13056x128, .f32⟩
  | .local _ .smem, ⟨0, _⟩ => ⟨S3x192, .i32⟩
  | .local _ .smem, ⟨1, _⟩ => ⟨S3, .i32⟩
  | _, _ => ⟨S3x2x10240x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_arg11 : Ref sig .tc := ⟨.hbm, 9, rfl⟩
abbrev main_v0 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![3, 10, 2], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32_6 : BitVec 32 := 0#32
  let v21 : BitVec 1 := Scalar.cmpi .eq arg1 c0_i32_6
  let arg2 : BitVec 32 := BitVec.ofNat 32 (i 2).val
  let c0_i32_7 : BitVec 32 := 0#32
  let v22 : BitVec 1 := Scalar.cmpi .eq arg2 c0_i32_7
  let v23 : BitVec 1 := Scalar.andi v21 v22
  let v24 : BitVec 32 := Scalar.extui v23
  let c0_i32_8 : BitVec 32 := 0#32
  let v25 : BitVec 1 := Scalar.cmpi .ne v24 c0_i32_8
  v25

@[reducible] def k0_t1_loop (v1 : BitVec 32) : Scf.Loop 32 :=
  let c0_i32_83 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v211 : BitVec 32 := Scalar.subi v20 c0_i32_83
  let c1_i32_84 : BitVec 32 := 1#32
  let v213 : BitVec 32 := Scalar.divsi v211 c1_i32_84
  let v214 : BitVec 32 := Scalar.muli v213 c1_i32_84
  let v215 : BitVec 32 := Scalar.addi c0_i32_83 v214
  let c1_i32_85 : BitVec 32 := 1#32
  ⟨c0_i32_83, v215, c1_i32_85⟩

def k0_off2 (i : grid0.Coords) (v1 : BitVec 32) (k0_t1 : Fin (k0_t1_loop v1).trips) : Fin 2 → Nat :=
  let arg0 : BitVec 32 := BitVec.ofNat 32 (i 0).val
  let v504 : Index := Scalar.indexCast arg0
  let c0_i32_83 : BitVec 32 := 0#32
  let c1_i32_85 : BitVec 32 := 1#32
  let arg21 : BitVec 32 := Scf.iv c0_i32_83 c1_i32_85 k0_t1
  let v505 : Index := Scalar.indexCast arg21
  ![v504.toNat, v505.toNat]
def k0_mult1 (v1 : BitVec 32) (k0_t1 : Fin (k0_t1_loop v1).trips) : BitVec 32 :=
  let c0_i32_83 : BitVec 32 := 0#32
  let c1_i32_85 : BitVec 32 := 1#32
  let arg21 : BitVec 32 := Scf.iv c0_i32_83 c1_i32_85 k0_t1
  let c64_i32_273 : BitVec 32 := 64#32
  let v507 : BitVec 32 := Scalar.muli arg21 c64_i32_273
  v507
def k0_off3 (v1 : BitVec 32) (k0_t1 : Fin (k0_t1_loop v1).trips) : Fin 3 → Nat :=
  let c0_i32_275 : BitVec 32 := 0#32
  let c0_i32_83 : BitVec 32 := 0#32
  let c1_i32_85 : BitVec 32 := 1#32
  let arg21 : BitVec 32 := Scf.iv c0_i32_83 c1_i32_85 k0_t1
  let c64_i32_273 : BitVec 32 := 64#32
  let v507 : BitVec 32 := Scalar.muli arg21 c64_i32_273
  let v508 : BitVec 32 := v507
  let c0_i32_276 : BitVec 32 := 0#32
  ![0, v508.toNat, 0]
def k0_off4 (v506 : BitVec 32) : Fin 4 → Nat :=
  let c0_i32_277 : BitVec 32 := 0#32
  let c0_i32_278 : BitVec 32 := 0#32
  let c0_i32_279 : BitVec 32 := 0#32
  ![v506.toNat, 0, 0, 0]

def k0_chk2 (i : grid0.Coords) (v506 : BitVec 32) : Prop :=
  (∀ (k0_h1 : k0_cond1 i = 1#1), ∀ a, (k0_off4 v506) a + S1x2x64x128.size a ≤ S720x2x64x128.size a) ∧
  (∀ (k0_h1 : k0_cond1 i = 1#1), ∀ (hinb : ∀ a, (k0_off4 v506) a + S1x2x64x128.size a ≤ S720x2x64x128.size a), (Rect.unit (s := S720x2x64x128) (k0_off4 v506) S1x2x64x128.size hinb).WholeWords (EltTy.packing .fp8e4m3))
theorem k0_off4_inb : ∀ (i : grid0.Coords) (v506 : BitVec 32) (k0_hw2 : k0_chk2 i v506), ∀ (k0_h1 : k0_cond1 i = 1#1), ∀ a, (k0_off4 v506) a + S1x2x64x128.size a ≤ S720x2x64x128.size a := fun i v506 k0_hw2 k0_h1 => k0_hw2.1 k0_h1
theorem k0_off4_wordsfp8e4m3 : ∀ (i : grid0.Coords) (v506 : BitVec 32) (k0_hw2 : k0_chk2 i v506), ∀ (k0_h1 : k0_cond1 i = 1#1), (Rect.unit (s := S720x2x64x128) (k0_off4 v506) S1x2x64x128.size (k0_off4_inb i v506 k0_hw2 k0_h1)).WholeWords (EltTy.packing .fp8e4m3) := fun i v506 k0_hw2 k0_h1 => k0_hw2.2 k0_h1 (k0_off4_inb i v506 k0_hw2 k0_h1)

def k0_off5 (v1 : BitVec 32) (k0_t1 : Fin (k0_t1_loop v1).trips) : Fin 3 → Nat :=
  let c0_i32_281 : BitVec 32 := 0#32
  let c0_i32_83 : BitVec 32 := 0#32
  let c1_i32_85 : BitVec 32 := 1#32
  let arg21 : BitVec 32 := Scf.iv c0_i32_83 c1_i32_85 k0_t1
  let c64_i32_273 : BitVec 32 := 64#32
  let v507 : BitVec 32 := Scalar.muli arg21 c64_i32_273
  let v508 : BitVec 32 := v507
  let c0_i32_282 : BitVec 32 := 0#32
  ![0, v508.toNat, 0]
@[reducible] def k0_t2_loop (v1 : BitVec 32) : Scf.Loop 32 :=
  let c0_i32_83 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v211 : BitVec 32 := Scalar.subi v20 c0_i32_83
  let c1_i32_84 : BitVec 32 := 1#32
  let v213 : BitVec 32 := Scalar.divsi v211 c1_i32_84
  let v214 : BitVec 32 := Scalar.muli v213 c1_i32_84
  let v215 : BitVec 32 := Scalar.addi c0_i32_83 v214
  let v212 : BitVec 32 := Scalar.addi c0_i32_83 v211
  let c1_i32_86 : BitVec 32 := 1#32
  ⟨v215, v212, c1_i32_86⟩
def k0_off6 (i : grid0.Coords) (v1 : BitVec 32) (k0_t2 : Fin (k0_t2_loop v1).trips) : Fin 2 → Nat :=
  let arg0 : BitVec 32 := BitVec.ofNat 32 (i 0).val
  let v504 : Index := Scalar.indexCast arg0
  let c0_i32_83 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v211 : BitVec 32 := Scalar.subi v20 c0_i32_83
  let c1_i32_84 : BitVec 32 := 1#32
  let v213 : BitVec 32 := Scalar.divsi v211 c1_i32_84
  let v214 : BitVec 32 := Scalar.muli v213 c1_i32_84
  let v215 : BitVec 32 := Scalar.addi c0_i32_83 v214
  let c1_i32_86 : BitVec 32 := 1#32
  let arg21 : BitVec 32 := Scf.iv v215 c1_i32_86 k0_t2
  let v505 : Index := Scalar.indexCast arg21
  ![v504.toNat, v505.toNat]
def k0_mult2 (v1 : BitVec 32) (k0_t2 : Fin (k0_t2_loop v1).trips) : BitVec 32 :=
  let c0_i32_83 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v211 : BitVec 32 := Scalar.subi v20 c0_i32_83
  let c1_i32_84 : BitVec 32 := 1#32
  let v213 : BitVec 32 := Scalar.divsi v211 c1_i32_84
  let v214 : BitVec 32 := Scalar.muli v213 c1_i32_84
  let v215 : BitVec 32 := Scalar.addi c0_i32_83 v214
  let c1_i32_86 : BitVec 32 := 1#32
  let arg21 : BitVec 32 := Scf.iv v215 c1_i32_86 k0_t2
  let c64_i32_273 : BitVec 32 := 64#32
  let v507 : BitVec 32 := Scalar.muli arg21 c64_i32_273
  v507
def k0_off7 (v1 : BitVec 32) (k0_t2 : Fin (k0_t2_loop v1).trips) : Fin 3 → Nat :=
  let c0_i32_275 : BitVec 32 := 0#32
  let c0_i32_83 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v211 : BitVec 32 := Scalar.subi v20 c0_i32_83
  let c1_i32_84 : BitVec 32 := 1#32
  let v213 : BitVec 32 := Scalar.divsi v211 c1_i32_84
  let v214 : BitVec 32 := Scalar.muli v213 c1_i32_84
  let v215 : BitVec 32 := Scalar.addi c0_i32_83 v214
  let c1_i32_86 : BitVec 32 := 1#32
  let arg21 : BitVec 32 := Scf.iv v215 c1_i32_86 k0_t2
  let c64_i32_273 : BitVec 32 := 64#32
  let v507 : BitVec 32 := Scalar.muli arg21 c64_i32_273
  let v508 : BitVec 32 := v507
  let c0_i32_276 : BitVec 32 := 0#32
  ![0, v508.toNat, 0]
def k0_off8 (v506 : BitVec 32) : Fin 4 → Nat :=
  let c0_i32_277 : BitVec 32 := 0#32
  let c0_i32_278 : BitVec 32 := 0#32
  let c0_i32_279 : BitVec 32 := 0#32
  ![v506.toNat, 0, 0, 0]

def k0_chk3 (i : grid0.Coords) (v506 : BitVec 32) : Prop :=
  (∀ (k0_h1 : k0_cond1 i = 1#1), ∀ a, (k0_off8 v506) a + S1x2x64x128.size a ≤ S720x2x64x128.size a) ∧
  (∀ (k0_h1 : k0_cond1 i = 1#1), ∀ (hinb : ∀ a, (k0_off8 v506) a + S1x2x64x128.size a ≤ S720x2x64x128.size a), (Rect.unit (s := S720x2x64x128) (k0_off8 v506) S1x2x64x128.size hinb).WholeWords (EltTy.packing .fp8e4m3))
theorem k0_off8_inb : ∀ (i : grid0.Coords) (v506 : BitVec 32) (k0_hw3 : k0_chk3 i v506), ∀ (k0_h1 : k0_cond1 i = 1#1), ∀ a, (k0_off8 v506) a + S1x2x64x128.size a ≤ S720x2x64x128.size a := fun i v506 k0_hw3 k0_h1 => k0_hw3.1 k0_h1
theorem k0_off8_wordsfp8e4m3 : ∀ (i : grid0.Coords) (v506 : BitVec 32) (k0_hw3 : k0_chk3 i v506), ∀ (k0_h1 : k0_cond1 i = 1#1), (Rect.unit (s := S720x2x64x128) (k0_off8 v506) S1x2x64x128.size (k0_off8_inb i v506 k0_hw3 k0_h1)).WholeWords (EltTy.packing .fp8e4m3) := fun i v506 k0_hw3 k0_h1 => k0_hw3.2 k0_h1 (k0_off8_inb i v506 k0_hw3 k0_h1)

def k0_off9 (v1 : BitVec 32) (k0_t2 : Fin (k0_t2_loop v1).trips) : Fin 3 → Nat :=
  let c0_i32_281 : BitVec 32 := 0#32
  let c0_i32_83 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v211 : BitVec 32 := Scalar.subi v20 c0_i32_83
  let c1_i32_84 : BitVec 32 := 1#32
  let v213 : BitVec 32 := Scalar.divsi v211 c1_i32_84
  let v214 : BitVec 32 := Scalar.muli v213 c1_i32_84
  let v215 : BitVec 32 := Scalar.addi c0_i32_83 v214
  let c1_i32_86 : BitVec 32 := 1#32
  let arg21 : BitVec 32 := Scf.iv v215 c1_i32_86 k0_t2
  let c64_i32_273 : BitVec 32 := 64#32
  let v507 : BitVec 32 := Scalar.muli arg21 c64_i32_273
  let v508 : BitVec 32 := v507
  let c0_i32_282 : BitVec 32 := 0#32
  ![0, v508.toNat, 0]
@[reducible] def k0_t3_loop (v1 : BitVec 32) : Scf.Loop 32 :=
  let c0_i32_88 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v216 : BitVec 32 := Scalar.subi v20 c0_i32_88
  let c1_i32_89 : BitVec 32 := 1#32
  let v218 : BitVec 32 := Scalar.divsi v216 c1_i32_89
  let v219 : BitVec 32 := Scalar.muli v218 c1_i32_89
  let v220 : BitVec 32 := Scalar.addi c0_i32_88 v219
  let c1_i32_90 : BitVec 32 := 1#32
  ⟨c0_i32_88, v220, c1_i32_90⟩
def k0_off10 (i : grid0.Coords) (v1 : BitVec 32) (k0_t3 : Fin (k0_t3_loop v1).trips) : Fin 2 → Nat :=
  let arg0 : BitVec 32 := BitVec.ofNat 32 (i 0).val
  let v504 : Index := Scalar.indexCast arg0
  let c0_i32_88 : BitVec 32 := 0#32
  let c1_i32_90 : BitVec 32 := 1#32
  let arg21 : BitVec 32 := Scf.iv c0_i32_88 c1_i32_90 k0_t3
  let v505 : Index := Scalar.indexCast arg21
  ![v504.toNat, v505.toNat]
def k0_mult3 (v1 : BitVec 32) (k0_t3 : Fin (k0_t3_loop v1).trips) : BitVec 32 :=
  let c0_i32_88 : BitVec 32 := 0#32
  let c1_i32_90 : BitVec 32 := 1#32
  let arg21 : BitVec 32 := Scf.iv c0_i32_88 c1_i32_90 k0_t3
  let c64_i32_273 : BitVec 32 := 64#32
  let v507 : BitVec 32 := Scalar.muli arg21 c64_i32_273
  v507
def k0_off11 (v1 : BitVec 32) (k0_t3 : Fin (k0_t3_loop v1).trips) : Fin 3 → Nat :=
  let c0_i32_275 : BitVec 32 := 0#32
  let c0_i32_88 : BitVec 32 := 0#32
  let c1_i32_90 : BitVec 32 := 1#32
  let arg21 : BitVec 32 := Scf.iv c0_i32_88 c1_i32_90 k0_t3
  let c64_i32_273 : BitVec 32 := 64#32
  let v507 : BitVec 32 := Scalar.muli arg21 c64_i32_273
  let v508 : BitVec 32 := v507
  let c0_i32_276 : BitVec 32 := 0#32
  ![0, v508.toNat, 0]
def k0_off12 (v506 : BitVec 32) : Fin 4 → Nat :=
  let c0_i32_277 : BitVec 32 := 0#32
  let c0_i32_278 : BitVec 32 := 0#32
  let c0_i32_279 : BitVec 32 := 0#32
  ![v506.toNat, 0, 0, 0]

def k0_chk4 (i : grid0.Coords) (v506 : BitVec 32) : Prop :=
  (∀ (k0_h1 : k0_cond1 i = 1#1), ∀ a, (k0_off12 v506) a + S1x2x64x128.size a ≤ S720x2x64x128.size a) ∧
  (∀ (k0_h1 : k0_cond1 i = 1#1), ∀ (hinb : ∀ a, (k0_off12 v506) a + S1x2x64x128.size a ≤ S720x2x64x128.size a), (Rect.unit (s := S720x2x64x128) (k0_off12 v506) S1x2x64x128.size hinb).WholeWords (EltTy.packing .fp8e4m3))
theorem k0_off12_inb : ∀ (i : grid0.Coords) (v506 : BitVec 32) (k0_hw4 : k0_chk4 i v506), ∀ (k0_h1 : k0_cond1 i = 1#1), ∀ a, (k0_off12 v506) a + S1x2x64x128.size a ≤ S720x2x64x128.size a := fun i v506 k0_hw4 k0_h1 => k0_hw4.1 k0_h1
theorem k0_off12_wordsfp8e4m3 : ∀ (i : grid0.Coords) (v506 : BitVec 32) (k0_hw4 : k0_chk4 i v506), ∀ (k0_h1 : k0_cond1 i = 1#1), (Rect.unit (s := S720x2x64x128) (k0_off12 v506) S1x2x64x128.size (k0_off12_inb i v506 k0_hw4 k0_h1)).WholeWords (EltTy.packing .fp8e4m3) := fun i v506 k0_hw4 k0_h1 => k0_hw4.2 k0_h1 (k0_off12_inb i v506 k0_hw4 k0_h1)

def k0_off13 (v1 : BitVec 32) (k0_t3 : Fin (k0_t3_loop v1).trips) : Fin 3 → Nat :=
  let c0_i32_281 : BitVec 32 := 0#32
  let c0_i32_88 : BitVec 32 := 0#32
  let c1_i32_90 : BitVec 32 := 1#32
  let arg21 : BitVec 32 := Scf.iv c0_i32_88 c1_i32_90 k0_t3
  let c64_i32_273 : BitVec 32 := 64#32
  let v507 : BitVec 32 := Scalar.muli arg21 c64_i32_273
  let v508 : BitVec 32 := v507
  let c0_i32_282 : BitVec 32 := 0#32
  ![0, v508.toNat, 0]
@[reducible] def k0_t4_loop (v1 : BitVec 32) : Scf.Loop 32 :=
  let c0_i32_88 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v216 : BitVec 32 := Scalar.subi v20 c0_i32_88
  let c1_i32_89 : BitVec 32 := 1#32
  let v218 : BitVec 32 := Scalar.divsi v216 c1_i32_89
  let v219 : BitVec 32 := Scalar.muli v218 c1_i32_89
  let v220 : BitVec 32 := Scalar.addi c0_i32_88 v219
  let v217 : BitVec 32 := Scalar.addi c0_i32_88 v216
  let c1_i32_91 : BitVec 32 := 1#32
  ⟨v220, v217, c1_i32_91⟩
def k0_off14 (i : grid0.Coords) (v1 : BitVec 32) (k0_t4 : Fin (k0_t4_loop v1).trips) : Fin 2 → Nat :=
  let arg0 : BitVec 32 := BitVec.ofNat 32 (i 0).val
  let v504 : Index := Scalar.indexCast arg0
  let c0_i32_88 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v216 : BitVec 32 := Scalar.subi v20 c0_i32_88
  let c1_i32_89 : BitVec 32 := 1#32
  let v218 : BitVec 32 := Scalar.divsi v216 c1_i32_89
  let v219 : BitVec 32 := Scalar.muli v218 c1_i32_89
  let v220 : BitVec 32 := Scalar.addi c0_i32_88 v219
  let c1_i32_91 : BitVec 32 := 1#32
  let arg21 : BitVec 32 := Scf.iv v220 c1_i32_91 k0_t4
  let v505 : Index := Scalar.indexCast arg21
  ![v504.toNat, v505.toNat]
def k0_mult4 (v1 : BitVec 32) (k0_t4 : Fin (k0_t4_loop v1).trips) : BitVec 32 :=
  let c0_i32_88 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v216 : BitVec 32 := Scalar.subi v20 c0_i32_88
  let c1_i32_89 : BitVec 32 := 1#32
  let v218 : BitVec 32 := Scalar.divsi v216 c1_i32_89
  let v219 : BitVec 32 := Scalar.muli v218 c1_i32_89
  let v220 : BitVec 32 := Scalar.addi c0_i32_88 v219
  let c1_i32_91 : BitVec 32 := 1#32
  let arg21 : BitVec 32 := Scf.iv v220 c1_i32_91 k0_t4
  let c64_i32_273 : BitVec 32 := 64#32
  let v507 : BitVec 32 := Scalar.muli arg21 c64_i32_273
  v507
def k0_off15 (v1 : BitVec 32) (k0_t4 : Fin (k0_t4_loop v1).trips) : Fin 3 → Nat :=
  let c0_i32_275 : BitVec 32 := 0#32
  let c0_i32_88 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v216 : BitVec 32 := Scalar.subi v20 c0_i32_88
  let c1_i32_89 : BitVec 32 := 1#32
  let v218 : BitVec 32 := Scalar.divsi v216 c1_i32_89
  let v219 : BitVec 32 := Scalar.muli v218 c1_i32_89
  let v220 : BitVec 32 := Scalar.addi c0_i32_88 v219
  let c1_i32_91 : BitVec 32 := 1#32
  let arg21 : BitVec 32 := Scf.iv v220 c1_i32_91 k0_t4
  let c64_i32_273 : BitVec 32 := 64#32
  let v507 : BitVec 32 := Scalar.muli arg21 c64_i32_273
  let v508 : BitVec 32 := v507
  let c0_i32_276 : BitVec 32 := 0#32
  ![0, v508.toNat, 0]
def k0_off16 (v506 : BitVec 32) : Fin 4 → Nat :=
  let c0_i32_277 : BitVec 32 := 0#32
  let c0_i32_278 : BitVec 32 := 0#32
  let c0_i32_279 : BitVec 32 := 0#32
  ![v506.toNat, 0, 0, 0]

def k0_chk5 (i : grid0.Coords) (v506 : BitVec 32) : Prop :=
  (∀ (k0_h1 : k0_cond1 i = 1#1), ∀ a, (k0_off16 v506) a + S1x2x64x128.size a ≤ S720x2x64x128.size a) ∧
  (∀ (k0_h1 : k0_cond1 i = 1#1), ∀ (hinb : ∀ a, (k0_off16 v506) a + S1x2x64x128.size a ≤ S720x2x64x128.size a), (Rect.unit (s := S720x2x64x128) (k0_off16 v506) S1x2x64x128.size hinb).WholeWords (EltTy.packing .fp8e4m3))
theorem k0_off16_inb : ∀ (i : grid0.Coords) (v506 : BitVec 32) (k0_hw5 : k0_chk5 i v506), ∀ (k0_h1 : k0_cond1 i = 1#1), ∀ a, (k0_off16 v506) a + S1x2x64x128.size a ≤ S720x2x64x128.size a := fun i v506 k0_hw5 k0_h1 => k0_hw5.1 k0_h1
theorem k0_off16_wordsfp8e4m3 : ∀ (i : grid0.Coords) (v506 : BitVec 32) (k0_hw5 : k0_chk5 i v506), ∀ (k0_h1 : k0_cond1 i = 1#1), (Rect.unit (s := S720x2x64x128) (k0_off16 v506) S1x2x64x128.size (k0_off16_inb i v506 k0_hw5 k0_h1)).WholeWords (EltTy.packing .fp8e4m3) := fun i v506 k0_hw5 k0_h1 => k0_hw5.2 k0_h1 (k0_off16_inb i v506 k0_hw5 k0_h1)

def k0_off17 (v1 : BitVec 32) (k0_t4 : Fin (k0_t4_loop v1).trips) : Fin 3 → Nat :=
  let c0_i32_281 : BitVec 32 := 0#32
  let c0_i32_88 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v216 : BitVec 32 := Scalar.subi v20 c0_i32_88
  let c1_i32_89 : BitVec 32 := 1#32
  let v218 : BitVec 32 := Scalar.divsi v216 c1_i32_89
  let v219 : BitVec 32 := Scalar.muli v218 c1_i32_89
  let v220 : BitVec 32 := Scalar.addi c0_i32_88 v219
  let c1_i32_91 : BitVec 32 := 1#32
  let arg21 : BitVec 32 := Scf.iv v220 c1_i32_91 k0_t4
  let c64_i32_273 : BitVec 32 := 64#32
  let v507 : BitVec 32 := Scalar.muli arg21 c64_i32_273
  let v508 : BitVec 32 := v507
  let c0_i32_282 : BitVec 32 := 0#32
  ![0, v508.toNat, 0]
def k0_mult5 : BitVec 32 :=
  let c12288_i32_111 : BitVec 32 := 12288#32
  c12288_i32_111
def k0_mult6 : BitVec 32 :=
  let c12416_i32 : BitVec 32 := 12416#32
  c12416_i32
def k0_mult7 : BitVec 32 :=
  let c12544_i32 : BitVec 32 := 12544#32
  c12544_i32
def k0_mult8 : BitVec 32 :=
  let c12672_i32 : BitVec 32 := 12672#32
  c12672_i32
def k0_mult9 : BitVec 32 :=
  let c12800_i32 : BitVec 32 := 12800#32
  c12800_i32
def k0_mult10 : BitVec 32 :=
  let c12288_i32_188 : BitVec 32 := 12288#32
  c12288_i32_188
def k0_mult11 : BitVec 32 :=
  let c12416_i32_204 : BitVec 32 := 12416#32
  c12416_i32_204
def k0_mult12 : BitVec 32 :=
  let c12544_i32_220 : BitVec 32 := 12544#32
  c12544_i32_220
def k0_mult13 : BitVec 32 :=
  let c12672_i32_236 : BitVec 32 := 12672#32
  c12672_i32_236
def k0_mult14 : BitVec 32 :=
  let c12800_i32_252 : BitVec 32 := 12800#32
  c12800_i32_252
@[reducible] def k0_t5_loop (v1 : BitVec 32) : Scf.Loop 32 :=
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_271 : BitVec 32 := 1#32
  ⟨c0_i32_269, v503, c1_i32_271⟩
def k0_off18 (i : grid0.Coords) (v1 : BitVec 32) (k0_t5 : Fin (k0_t5_loop v1).trips) : Fin 2 → Nat :=
  let arg0 : BitVec 32 := BitVec.ofNat 32 (i 0).val
  let v507 : Index := Scalar.indexCast arg0
  let c0_i32_269 : BitVec 32 := 0#32
  let c1_i32_271 : BitVec 32 := 1#32
  let arg21 : BitVec 32 := Scf.iv c0_i32_269 c1_i32_271 k0_t5
  let c2_i32_273 : BitVec 32 := 2#32
  let v505 : BitVec 32 := Scalar.muli arg21 c2_i32_273
  let c0_i32_274 : BitVec 32 := 0#32
  let v506 : BitVec 32 := Scalar.addi v505 c0_i32_274
  let v508 : Index := Scalar.indexCast v506
  ![v507.toNat, v508.toNat]
def k0_mult15 (v509 : BitVec 32) : BitVec 32 :=
  let c0_i32_276 : BitVec 32 := 0#32
  let v511 : BitVec 1 := Scalar.cmpi .sgt v509 c0_i32_276
  let v512 : BitVec 32 := Scalar.extui v511
  let c0_i32_277 : BitVec 32 := 0#32
  let v513 : BitVec 1 := Scalar.cmpi .slt v509 c0_i32_277
  let v514 : BitVec 32 := Scalar.extui v513
  let v515 : BitVec 32 := Scalar.subi v512 v514
  let c128_i32_275 : BitVec 32 := 128#32
  let c0_i32_278 : BitVec 32 := 0#32
  let v516 : BitVec 1 := Scalar.cmpi .sgt c128_i32_275 c0_i32_278
  let v517 : BitVec 32 := Scalar.extui v516
  let c0_i32_279 : BitVec 32 := 0#32
  let v518 : BitVec 1 := Scalar.cmpi .slt c128_i32_275 c0_i32_279
  let v519 : BitVec 32 := Scalar.extui v518
  let v520 : BitVec 32 := Scalar.subi v517 v519
  let v521 : BitVec 1 := Scalar.cmpi .ne v515 v520
  let v522 : BitVec 32 := Scalar.remsi v509 c128_i32_275
  let c0_i32_280 : BitVec 32 := 0#32
  let v523 : BitVec 1 := Scalar.cmpi .ne v522 c0_i32_280
  let v524 : BitVec 1 := Scalar.andi v521 v523
  let v510 : BitVec 32 := Scalar.divsi v509 c128_i32_275
  let c1_i32_281 : BitVec 32 := 1#32
  let v525 : BitVec 32 := Scalar.subi v510 c1_i32_281
  let v526 : BitVec 32 := Scalar.select v524 v525 v510
  let c128_i32_282 : BitVec 32 := 128#32
  let v527 : BitVec 32 := Scalar.muli v526 c128_i32_282
  v527

def k0_off19 (v509 : BitVec 32) : Fin 3 → Nat :=
  let c0_283 : Index := 0#32
  let c0_284 : Index := 0#32
  let c0_i32_276 : BitVec 32 := 0#32
  let v511 : BitVec 1 := Scalar.cmpi .sgt v509 c0_i32_276
  let v512 : BitVec 32 := Scalar.extui v511
  let c0_i32_277 : BitVec 32 := 0#32
  let v513 : BitVec 1 := Scalar.cmpi .slt v509 c0_i32_277
  let v514 : BitVec 32 := Scalar.extui v513
  let v515 : BitVec 32 := Scalar.subi v512 v514
  let c128_i32_275 : BitVec 32 := 128#32
  let c0_i32_278 : BitVec 32 := 0#32
  let v516 : BitVec 1 := Scalar.cmpi .sgt c128_i32_275 c0_i32_278
  let v517 : BitVec 32 := Scalar.extui v516
  let c0_i32_279 : BitVec 32 := 0#32
  let v518 : BitVec 1 := Scalar.cmpi .slt c128_i32_275 c0_i32_279
  let v519 : BitVec 32 := Scalar.extui v518
  let v520 : BitVec 32 := Scalar.subi v517 v519
  let v521 : BitVec 1 := Scalar.cmpi .ne v515 v520
  let v522 : BitVec 32 := Scalar.remsi v509 c128_i32_275
  let c0_i32_280 : BitVec 32 := 0#32
  let v523 : BitVec 1 := Scalar.cmpi .ne v522 c0_i32_280
  let v524 : BitVec 1 := Scalar.andi v521 v523
  let v510 : BitVec 32 := Scalar.divsi v509 c128_i32_275
  let c1_i32_281 : BitVec 32 := 1#32
  let v525 : BitVec 32 := Scalar.subi v510 c1_i32_281
  let v526 : BitVec 32 := Scalar.select v524 v525 v510
  let c128_i32_282 : BitVec 32 := 128#32
  let v527 : BitVec 32 := Scalar.muli v526 c128_i32_282
  let v528 : BitVec 32 := v527
  let v529 : Index := Scalar.indexCast v528
  ![0, 0, v529.toNat]

def k0_chk6 (i : grid0.Coords) (v509 : BitVec 32) : Prop :=
  (∀ (k0_h1 : k0_cond1 i = 1#1), 128 ∣ (k0_mult15 v509).toNat) ∧
  (∀ (k0_h1 : k0_cond1 i = 1#1), ∀ a, (k0_off19 v509) a + S1x64x128.size a ≤ S2x64x768.size a)
theorem k0_mult15_dvd : ∀ (i : grid0.Coords) (v509 : BitVec 32) (k0_hw6 : k0_chk6 i v509), ∀ (k0_h1 : k0_cond1 i = 1#1), 128 ∣ (k0_mult15 v509).toNat := fun i v509 k0_hw6 k0_h1 => k0_hw6.1 k0_h1
theorem k0_off19_inb : ∀ (i : grid0.Coords) (v509 : BitVec 32) (k0_hw6 : k0_chk6 i v509), ∀ (k0_h1 : k0_cond1 i = 1#1), ∀ a, (k0_off19 v509) a + S1x64x128.size a ≤ S2x64x768.size a := fun i v509 k0_hw6 k0_h1 => k0_hw6.2 k0_h1

def k0_off20 (i : grid0.Coords) (v1 : BitVec 32) (k0_t5 : Fin (k0_t5_loop v1).trips) : Fin 2 → Nat :=
  let arg0 : BitVec 32 := BitVec.ofNat 32 (i 0).val
  let v553 : Index := Scalar.indexCast arg0
  let c0_i32_269 : BitVec 32 := 0#32
  let c1_i32_271 : BitVec 32 := 1#32
  let arg21 : BitVec 32 := Scf.iv c0_i32_269 c1_i32_271 k0_t5
  let c2_i32_293 : BitVec 32 := 2#32
  let v551 : BitVec 32 := Scalar.muli arg21 c2_i32_293
  let c1_i32_294 : BitVec 32 := 1#32
  let v552 : BitVec 32 := Scalar.addi v551 c1_i32_294
  let v554 : Index := Scalar.indexCast v552
  ![v553.toNat, v554.toNat]
def k0_mult16 (v555 : BitVec 32) : BitVec 32 :=
  let c0_i32_296 : BitVec 32 := 0#32
  let v557 : BitVec 1 := Scalar.cmpi .sgt v555 c0_i32_296
  let v558 : BitVec 32 := Scalar.extui v557
  let c0_i32_297 : BitVec 32 := 0#32
  let v559 : BitVec 1 := Scalar.cmpi .slt v555 c0_i32_297
  let v560 : BitVec 32 := Scalar.extui v559
  let v561 : BitVec 32 := Scalar.subi v558 v560
  let c128_i32_295 : BitVec 32 := 128#32
  let c0_i32_298 : BitVec 32 := 0#32
  let v562 : BitVec 1 := Scalar.cmpi .sgt c128_i32_295 c0_i32_298
  let v563 : BitVec 32 := Scalar.extui v562
  let c0_i32_299 : BitVec 32 := 0#32
  let v564 : BitVec 1 := Scalar.cmpi .slt c128_i32_295 c0_i32_299
  let v565 : BitVec 32 := Scalar.extui v564
  let v566 : BitVec 32 := Scalar.subi v563 v565
  let v567 : BitVec 1 := Scalar.cmpi .ne v561 v566
  let v568 : BitVec 32 := Scalar.remsi v555 c128_i32_295
  let c0_i32_300 : BitVec 32 := 0#32
  let v569 : BitVec 1 := Scalar.cmpi .ne v568 c0_i32_300
  let v570 : BitVec 1 := Scalar.andi v567 v569
  let v556 : BitVec 32 := Scalar.divsi v555 c128_i32_295
  let c1_i32_301 : BitVec 32 := 1#32
  let v571 : BitVec 32 := Scalar.subi v556 c1_i32_301
  let v572 : BitVec 32 := Scalar.select v570 v571 v556
  let c128_i32_302 : BitVec 32 := 128#32
  let v573 : BitVec 32 := Scalar.muli v572 c128_i32_302
  v573

def k0_off21 (v555 : BitVec 32) : Fin 3 → Nat :=
  let c0_303 : Index := 0#32
  let c0_304 : Index := 0#32
  let c0_i32_296 : BitVec 32 := 0#32
  let v557 : BitVec 1 := Scalar.cmpi .sgt v555 c0_i32_296
  let v558 : BitVec 32 := Scalar.extui v557
  let c0_i32_297 : BitVec 32 := 0#32
  let v559 : BitVec 1 := Scalar.cmpi .slt v555 c0_i32_297
  let v560 : BitVec 32 := Scalar.extui v559
  let v561 : BitVec 32 := Scalar.subi v558 v560
  let c128_i32_295 : BitVec 32 := 128#32
  let c0_i32_298 : BitVec 32 := 0#32
  let v562 : BitVec 1 := Scalar.cmpi .sgt c128_i32_295 c0_i32_298
  let v563 : BitVec 32 := Scalar.extui v562
  let c0_i32_299 : BitVec 32 := 0#32
  let v564 : BitVec 1 := Scalar.cmpi .slt c128_i32_295 c0_i32_299
  let v565 : BitVec 32 := Scalar.extui v564
  let v566 : BitVec 32 := Scalar.subi v563 v565
  let v567 : BitVec 1 := Scalar.cmpi .ne v561 v566
  let v568 : BitVec 32 := Scalar.remsi v555 c128_i32_295
  let c0_i32_300 : BitVec 32 := 0#32
  let v569 : BitVec 1 := Scalar.cmpi .ne v568 c0_i32_300
  let v570 : BitVec 1 := Scalar.andi v567 v569
  let v556 : BitVec 32 := Scalar.divsi v555 c128_i32_295
  let c1_i32_301 : BitVec 32 := 1#32
  let v571 : BitVec 32 := Scalar.subi v556 c1_i32_301
  let v572 : BitVec 32 := Scalar.select v570 v571 v556
  let c128_i32_302 : BitVec 32 := 128#32
  let v573 : BitVec 32 := Scalar.muli v572 c128_i32_302
  let v574 : BitVec 32 := v573
  let v575 : Index := Scalar.indexCast v574
  ![0, 0, v575.toNat]

def k0_chk7 (i : grid0.Coords) (v555 : BitVec 32) : Prop :=
  (∀ (k0_h1 : k0_cond1 i = 1#1), 128 ∣ (k0_mult16 v555).toNat) ∧
  (∀ (k0_h1 : k0_cond1 i = 1#1), ∀ a, (k0_off21 v555) a + S1x64x128.size a ≤ S2x64x768.size a)
theorem k0_mult16_dvd : ∀ (i : grid0.Coords) (v555 : BitVec 32) (k0_hw7 : k0_chk7 i v555), ∀ (k0_h1 : k0_cond1 i = 1#1), 128 ∣ (k0_mult16 v555).toNat := fun i v555 k0_hw7 k0_h1 => k0_hw7.1 k0_h1
theorem k0_off21_inb : ∀ (i : grid0.Coords) (v555 : BitVec 32) (k0_hw7 : k0_chk7 i v555), ∀ (k0_h1 : k0_cond1 i = 1#1), ∀ a, (k0_off21 v555) a + S1x64x128.size a ≤ S2x64x768.size a := fun i v555 k0_hw7 k0_h1 => k0_hw7.2 k0_h1

def k0_off22 (i : grid0.Coords) (v1 : BitVec 32) (k0_t5 : Fin (k0_t5_loop v1).trips) : Fin 2 → Nat :=
  let arg0 : BitVec 32 := BitVec.ofNat 32 (i 0).val
  let v600 : Index := Scalar.indexCast arg0
  let c0_i32_269 : BitVec 32 := 0#32
  let c1_i32_271 : BitVec 32 := 1#32
  let arg21 : BitVec 32 := Scf.iv c0_i32_269 c1_i32_271 k0_t5
  let c2_i32_313 : BitVec 32 := 2#32
  let v598 : BitVec 32 := Scalar.muli arg21 c2_i32_313
  let c0_i32_314 : BitVec 32 := 0#32
  let v599 : BitVec 32 := Scalar.addi v598 c0_i32_314
  let v601 : Index := Scalar.indexCast v599
  ![v600.toNat, v601.toNat]
def k0_mult17 (v602 : BitVec 32) : BitVec 32 :=
  let c0_i32_316 : BitVec 32 := 0#32
  let v604 : BitVec 1 := Scalar.cmpi .sgt v602 c0_i32_316
  let v605 : BitVec 32 := Scalar.extui v604
  let c0_i32_317 : BitVec 32 := 0#32
  let v606 : BitVec 1 := Scalar.cmpi .slt v602 c0_i32_317
  let v607 : BitVec 32 := Scalar.extui v606
  let v608 : BitVec 32 := Scalar.subi v605 v607
  let c128_i32_315 : BitVec 32 := 128#32
  let c0_i32_318 : BitVec 32 := 0#32
  let v609 : BitVec 1 := Scalar.cmpi .sgt c128_i32_315 c0_i32_318
  let v610 : BitVec 32 := Scalar.extui v609
  let c0_i32_319 : BitVec 32 := 0#32
  let v611 : BitVec 1 := Scalar.cmpi .slt c128_i32_315 c0_i32_319
  let v612 : BitVec 32 := Scalar.extui v611
  let v613 : BitVec 32 := Scalar.subi v610 v612
  let v614 : BitVec 1 := Scalar.cmpi .ne v608 v613
  let v615 : BitVec 32 := Scalar.remsi v602 c128_i32_315
  let c0_i32_320 : BitVec 32 := 0#32
  let v616 : BitVec 1 := Scalar.cmpi .ne v615 c0_i32_320
  let v617 : BitVec 1 := Scalar.andi v614 v616
  let v603 : BitVec 32 := Scalar.divsi v602 c128_i32_315
  let c1_i32_321 : BitVec 32 := 1#32
  let v618 : BitVec 32 := Scalar.subi v603 c1_i32_321
  let v619 : BitVec 32 := Scalar.select v617 v618 v603
  let c128_i32_322 : BitVec 32 := 128#32
  let v620 : BitVec 32 := Scalar.muli v619 c128_i32_322
  v620

def k0_off23 (v602 : BitVec 32) : Fin 3 → Nat :=
  let c0_323 : Index := 0#32
  let c0_324 : Index := 0#32
  let c0_i32_316 : BitVec 32 := 0#32
  let v604 : BitVec 1 := Scalar.cmpi .sgt v602 c0_i32_316
  let v605 : BitVec 32 := Scalar.extui v604
  let c0_i32_317 : BitVec 32 := 0#32
  let v606 : BitVec 1 := Scalar.cmpi .slt v602 c0_i32_317
  let v607 : BitVec 32 := Scalar.extui v606
  let v608 : BitVec 32 := Scalar.subi v605 v607
  let c128_i32_315 : BitVec 32 := 128#32
  let c0_i32_318 : BitVec 32 := 0#32
  let v609 : BitVec 1 := Scalar.cmpi .sgt c128_i32_315 c0_i32_318
  let v610 : BitVec 32 := Scalar.extui v609
  let c0_i32_319 : BitVec 32 := 0#32
  let v611 : BitVec 1 := Scalar.cmpi .slt c128_i32_315 c0_i32_319
  let v612 : BitVec 32 := Scalar.extui v611
  let v613 : BitVec 32 := Scalar.subi v610 v612
  let v614 : BitVec 1 := Scalar.cmpi .ne v608 v613
  let v615 : BitVec 32 := Scalar.remsi v602 c128_i32_315
  let c0_i32_320 : BitVec 32 := 0#32
  let v616 : BitVec 1 := Scalar.cmpi .ne v615 c0_i32_320
  let v617 : BitVec 1 := Scalar.andi v614 v616
  let v603 : BitVec 32 := Scalar.divsi v602 c128_i32_315
  let c1_i32_321 : BitVec 32 := 1#32
  let v618 : BitVec 32 := Scalar.subi v603 c1_i32_321
  let v619 : BitVec 32 := Scalar.select v617 v618 v603
  let c128_i32_322 : BitVec 32 := 128#32
  let v620 : BitVec 32 := Scalar.muli v619 c128_i32_322
  let v621 : BitVec 32 := v620
  let v622 : Index := Scalar.indexCast v621
  ![0, 0, v622.toNat]

def k0_chk8 (i : grid0.Coords) (v602 : BitVec 32) : Prop :=
  (∀ (k0_h1 : k0_cond1 i = 1#1), 128 ∣ (k0_mult17 v602).toNat) ∧
  (∀ (k0_h1 : k0_cond1 i = 1#1), ∀ a, (k0_off23 v602) a + S1x64x128.size a ≤ S2x64x768.size a)
theorem k0_mult17_dvd : ∀ (i : grid0.Coords) (v602 : BitVec 32) (k0_hw8 : k0_chk8 i v602), ∀ (k0_h1 : k0_cond1 i = 1#1), 128 ∣ (k0_mult17 v602).toNat := fun i v602 k0_hw8 k0_h1 => k0_hw8.1 k0_h1
theorem k0_off23_inb : ∀ (i : grid0.Coords) (v602 : BitVec 32) (k0_hw8 : k0_chk8 i v602), ∀ (k0_h1 : k0_cond1 i = 1#1), ∀ a, (k0_off23 v602) a + S1x64x128.size a ≤ S2x64x768.size a := fun i v602 k0_hw8 k0_h1 => k0_hw8.2 k0_h1

def k0_off24 (i : grid0.Coords) (v1 : BitVec 32) (k0_t5 : Fin (k0_t5_loop v1).trips) : Fin 2 → Nat :=
  let arg0 : BitVec 32 := BitVec.ofNat 32 (i 0).val
  let v646 : Index := Scalar.indexCast arg0
  let c0_i32_269 : BitVec 32 := 0#32
  let c1_i32_271 : BitVec 32 := 1#32
  let arg21 : BitVec 32 := Scf.iv c0_i32_269 c1_i32_271 k0_t5
  let c2_i32_333 : BitVec 32 := 2#32
  let v644 : BitVec 32 := Scalar.muli arg21 c2_i32_333
  let c1_i32_334 : BitVec 32 := 1#32
  let v645 : BitVec 32 := Scalar.addi v644 c1_i32_334
  let v647 : Index := Scalar.indexCast v645
  ![v646.toNat, v647.toNat]
def k0_mult18 (v648 : BitVec 32) : BitVec 32 :=
  let c0_i32_336 : BitVec 32 := 0#32
  let v650 : BitVec 1 := Scalar.cmpi .sgt v648 c0_i32_336
  let v651 : BitVec 32 := Scalar.extui v650
  let c0_i32_337 : BitVec 32 := 0#32
  let v652 : BitVec 1 := Scalar.cmpi .slt v648 c0_i32_337
  let v653 : BitVec 32 := Scalar.extui v652
  let v654 : BitVec 32 := Scalar.subi v651 v653
  let c128_i32_335 : BitVec 32 := 128#32
  let c0_i32_338 : BitVec 32 := 0#32
  let v655 : BitVec 1 := Scalar.cmpi .sgt c128_i32_335 c0_i32_338
  let v656 : BitVec 32 := Scalar.extui v655
  let c0_i32_339 : BitVec 32 := 0#32
  let v657 : BitVec 1 := Scalar.cmpi .slt c128_i32_335 c0_i32_339
  let v658 : BitVec 32 := Scalar.extui v657
  let v659 : BitVec 32 := Scalar.subi v656 v658
  let v660 : BitVec 1 := Scalar.cmpi .ne v654 v659
  let v661 : BitVec 32 := Scalar.remsi v648 c128_i32_335
  let c0_i32_340 : BitVec 32 := 0#32
  let v662 : BitVec 1 := Scalar.cmpi .ne v661 c0_i32_340
  let v663 : BitVec 1 := Scalar.andi v660 v662
  let v649 : BitVec 32 := Scalar.divsi v648 c128_i32_335
  let c1_i32_341 : BitVec 32 := 1#32
  let v664 : BitVec 32 := Scalar.subi v649 c1_i32_341
  let v665 : BitVec 32 := Scalar.select v663 v664 v649
  let c128_i32_342 : BitVec 32 := 128#32
  let v666 : BitVec 32 := Scalar.muli v665 c128_i32_342
  v666

def k0_off25 (v648 : BitVec 32) : Fin 3 → Nat :=
  let c0_343 : Index := 0#32
  let c0_344 : Index := 0#32
  let c0_i32_336 : BitVec 32 := 0#32
  let v650 : BitVec 1 := Scalar.cmpi .sgt v648 c0_i32_336
  let v651 : BitVec 32 := Scalar.extui v650
  let c0_i32_337 : BitVec 32 := 0#32
  let v652 : BitVec 1 := Scalar.cmpi .slt v648 c0_i32_337
  let v653 : BitVec 32 := Scalar.extui v652
  let v654 : BitVec 32 := Scalar.subi v651 v653
  let c128_i32_335 : BitVec 32 := 128#32
  let c0_i32_338 : BitVec 32 := 0#32
  let v655 : BitVec 1 := Scalar.cmpi .sgt c128_i32_335 c0_i32_338
  let v656 : BitVec 32 := Scalar.extui v655
  let c0_i32_339 : BitVec 32 := 0#32
  let v657 : BitVec 1 := Scalar.cmpi .slt c128_i32_335 c0_i32_339
  let v658 : BitVec 32 := Scalar.extui v657
  let v659 : BitVec 32 := Scalar.subi v656 v658
  let v660 : BitVec 1 := Scalar.cmpi .ne v654 v659
  let v661 : BitVec 32 := Scalar.remsi v648 c128_i32_335
  let c0_i32_340 : BitVec 32 := 0#32
  let v662 : BitVec 1 := Scalar.cmpi .ne v661 c0_i32_340
  let v663 : BitVec 1 := Scalar.andi v660 v662
  let v649 : BitVec 32 := Scalar.divsi v648 c128_i32_335
  let c1_i32_341 : BitVec 32 := 1#32
  let v664 : BitVec 32 := Scalar.subi v649 c1_i32_341
  let v665 : BitVec 32 := Scalar.select v663 v664 v649
  let c128_i32_342 : BitVec 32 := 128#32
  let v666 : BitVec 32 := Scalar.muli v665 c128_i32_342
  let v667 : BitVec 32 := v666
  let v668 : Index := Scalar.indexCast v667
  ![0, 0, v668.toNat]

def k0_chk9 (i : grid0.Coords) (v648 : BitVec 32) : Prop :=
  (∀ (k0_h1 : k0_cond1 i = 1#1), 128 ∣ (k0_mult18 v648).toNat) ∧
  (∀ (k0_h1 : k0_cond1 i = 1#1), ∀ a, (k0_off25 v648) a + S1x64x128.size a ≤ S2x64x768.size a)
theorem k0_mult18_dvd : ∀ (i : grid0.Coords) (v648 : BitVec 32) (k0_hw9 : k0_chk9 i v648), ∀ (k0_h1 : k0_cond1 i = 1#1), 128 ∣ (k0_mult18 v648).toNat := fun i v648 k0_hw9 k0_h1 => k0_hw9.1 k0_h1
theorem k0_off25_inb : ∀ (i : grid0.Coords) (v648 : BitVec 32) (k0_hw9 : k0_chk9 i v648), ∀ (k0_h1 : k0_cond1 i = 1#1), ∀ a, (k0_off25 v648) a + S1x64x128.size a ≤ S2x64x768.size a := fun i v648 k0_hw9 k0_h1 => k0_hw9.2 k0_h1

def k0_mult19 (v1 : BitVec 32) (k0_t5 : Fin (k0_t5_loop v1).trips) : BitVec 32 :=
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  v504
def k0_off26 (v1 : BitVec 32) (k0_t5 : Fin (k0_t5_loop v1).trips) : Fin 3 → Nat :=
  let c0_353 : Index := 0#32
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  let v691 : BitVec 32 := v504
  let v692 : Index := Scalar.indexCast v691
  let c0_354 : Index := 0#32
  ![0, v692.toNat, 0]
def k0_mult20 (v1 : BitVec 32) (k0_t5 : Fin (k0_t5_loop v1).trips) : BitVec 32 :=
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  v504
def k0_off27 (v1 : BitVec 32) (k0_t5 : Fin (k0_t5_loop v1).trips) : Fin 3 → Nat :=
  let c0_355 : Index := 0#32
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  let v699 : BitVec 32 := v504
  let v700 : Index := Scalar.indexCast v699
  let c0_356 : Index := 0#32
  ![0, v700.toNat, 0]
def k0_mult21 (v1 : BitVec 32) (k0_t5 : Fin (k0_t5_loop v1).trips) : BitVec 32 :=
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  v504
def k0_off28 (v1 : BitVec 32) (k0_t5 : Fin (k0_t5_loop v1).trips) : Fin 3 → Nat :=
  let c0_358 : Index := 0#32
  let c0_359 : Index := 0#32
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  let v711 : BitVec 32 := v504
  let v712 : Index := Scalar.indexCast v711
  ![0, 0, v712.toNat]
def k0_off29 (i : grid0.Coords) (v1 : BitVec 32) (k0_t5 : Fin (k0_t5_loop v1).trips) : Fin 2 → Nat :=
  let arg0 : BitVec 32 := BitVec.ofNat 32 (i 0).val
  let v718 : Index := Scalar.indexCast arg0
  let c0_i32_269 : BitVec 32 := 0#32
  let c1_i32_271 : BitVec 32 := 1#32
  let arg21 : BitVec 32 := Scf.iv c0_i32_269 c1_i32_271 k0_t5
  let c2_i32_360 : BitVec 32 := 2#32
  let v716 : BitVec 32 := Scalar.muli arg21 c2_i32_360
  let c0_i32_361 : BitVec 32 := 0#32
  let v717 : BitVec 32 := Scalar.addi v716 c0_i32_361
  let v719 : Index := Scalar.indexCast v717
  ![v718.toNat, v719.toNat]
def k0_mult22 (v720 : BitVec 32) : BitVec 32 :=
  let c0_i32_363 : BitVec 32 := 0#32
  let v722 : BitVec 1 := Scalar.cmpi .sgt v720 c0_i32_363
  let v723 : BitVec 32 := Scalar.extui v722
  let c0_i32_364 : BitVec 32 := 0#32
  let v724 : BitVec 1 := Scalar.cmpi .slt v720 c0_i32_364
  let v725 : BitVec 32 := Scalar.extui v724
  let v726 : BitVec 32 := Scalar.subi v723 v725
  let c128_i32_362 : BitVec 32 := 128#32
  let c0_i32_365 : BitVec 32 := 0#32
  let v727 : BitVec 1 := Scalar.cmpi .sgt c128_i32_362 c0_i32_365
  let v728 : BitVec 32 := Scalar.extui v727
  let c0_i32_366 : BitVec 32 := 0#32
  let v729 : BitVec 1 := Scalar.cmpi .slt c128_i32_362 c0_i32_366
  let v730 : BitVec 32 := Scalar.extui v729
  let v731 : BitVec 32 := Scalar.subi v728 v730
  let v732 : BitVec 1 := Scalar.cmpi .ne v726 v731
  let v733 : BitVec 32 := Scalar.remsi v720 c128_i32_362
  let c0_i32_367 : BitVec 32 := 0#32
  let v734 : BitVec 1 := Scalar.cmpi .ne v733 c0_i32_367
  let v735 : BitVec 1 := Scalar.andi v732 v734
  let v721 : BitVec 32 := Scalar.divsi v720 c128_i32_362
  let c1_i32_368 : BitVec 32 := 1#32
  let v736 : BitVec 32 := Scalar.subi v721 c1_i32_368
  let v737 : BitVec 32 := Scalar.select v735 v736 v721
  let c128_i32_369 : BitVec 32 := 128#32
  let v738 : BitVec 32 := Scalar.muli v737 c128_i32_369
  v738

def k0_off30 (v720 : BitVec 32) : Fin 3 → Nat :=
  let c1_370 : Index := 1#32
  let c0_371 : Index := 0#32
  let c0_i32_363 : BitVec 32 := 0#32
  let v722 : BitVec 1 := Scalar.cmpi .sgt v720 c0_i32_363
  let v723 : BitVec 32 := Scalar.extui v722
  let c0_i32_364 : BitVec 32 := 0#32
  let v724 : BitVec 1 := Scalar.cmpi .slt v720 c0_i32_364
  let v725 : BitVec 32 := Scalar.extui v724
  let v726 : BitVec 32 := Scalar.subi v723 v725
  let c128_i32_362 : BitVec 32 := 128#32
  let c0_i32_365 : BitVec 32 := 0#32
  let v727 : BitVec 1 := Scalar.cmpi .sgt c128_i32_362 c0_i32_365
  let v728 : BitVec 32 := Scalar.extui v727
  let c0_i32_366 : BitVec 32 := 0#32
  let v729 : BitVec 1 := Scalar.cmpi .slt c128_i32_362 c0_i32_366
  let v730 : BitVec 32 := Scalar.extui v729
  let v731 : BitVec 32 := Scalar.subi v728 v730
  let v732 : BitVec 1 := Scalar.cmpi .ne v726 v731
  let v733 : BitVec 32 := Scalar.remsi v720 c128_i32_362
  let c0_i32_367 : BitVec 32 := 0#32
  let v734 : BitVec 1 := Scalar.cmpi .ne v733 c0_i32_367
  let v735 : BitVec 1 := Scalar.andi v732 v734
  let v721 : BitVec 32 := Scalar.divsi v720 c128_i32_362
  let c1_i32_368 : BitVec 32 := 1#32
  let v736 : BitVec 32 := Scalar.subi v721 c1_i32_368
  let v737 : BitVec 32 := Scalar.select v735 v736 v721
  let c128_i32_369 : BitVec 32 := 128#32
  let v738 : BitVec 32 := Scalar.muli v737 c128_i32_369
  let v739 : BitVec 32 := v738
  let v740 : Index := Scalar.indexCast v739
  ![1, 0, v740.toNat]

def k0_chk10 (i : grid0.Coords) (v720 : BitVec 32) : Prop :=
  (∀ (k0_h1 : k0_cond1 i = 1#1), 128 ∣ (k0_mult22 v720).toNat) ∧
  (∀ (k0_h1 : k0_cond1 i = 1#1), ∀ a, (k0_off30 v720) a + S1x64x128.size a ≤ S2x64x768.size a)
theorem k0_mult22_dvd : ∀ (i : grid0.Coords) (v720 : BitVec 32) (k0_hw10 : k0_chk10 i v720), ∀ (k0_h1 : k0_cond1 i = 1#1), 128 ∣ (k0_mult22 v720).toNat := fun i v720 k0_hw10 k0_h1 => k0_hw10.1 k0_h1
theorem k0_off30_inb : ∀ (i : grid0.Coords) (v720 : BitVec 32) (k0_hw10 : k0_chk10 i v720), ∀ (k0_h1 : k0_cond1 i = 1#1), ∀ a, (k0_off30 v720) a + S1x64x128.size a ≤ S2x64x768.size a := fun i v720 k0_hw10 k0_h1 => k0_hw10.2 k0_h1

def k0_off31 (i : grid0.Coords) (v1 : BitVec 32) (k0_t5 : Fin (k0_t5_loop v1).trips) : Fin 2 → Nat :=
  let arg0 : BitVec 32 := BitVec.ofNat 32 (i 0).val
  let v764 : Index := Scalar.indexCast arg0
  let c0_i32_269 : BitVec 32 := 0#32
  let c1_i32_271 : BitVec 32 := 1#32
  let arg21 : BitVec 32 := Scf.iv c0_i32_269 c1_i32_271 k0_t5
  let c2_i32_380 : BitVec 32 := 2#32
  let v762 : BitVec 32 := Scalar.muli arg21 c2_i32_380
  let c1_i32_381 : BitVec 32 := 1#32
  let v763 : BitVec 32 := Scalar.addi v762 c1_i32_381
  let v765 : Index := Scalar.indexCast v763
  ![v764.toNat, v765.toNat]
def k0_mult23 (v766 : BitVec 32) : BitVec 32 :=
  let c0_i32_383 : BitVec 32 := 0#32
  let v768 : BitVec 1 := Scalar.cmpi .sgt v766 c0_i32_383
  let v769 : BitVec 32 := Scalar.extui v768
  let c0_i32_384 : BitVec 32 := 0#32
  let v770 : BitVec 1 := Scalar.cmpi .slt v766 c0_i32_384
  let v771 : BitVec 32 := Scalar.extui v770
  let v772 : BitVec 32 := Scalar.subi v769 v771
  let c128_i32_382 : BitVec 32 := 128#32
  let c0_i32_385 : BitVec 32 := 0#32
  let v773 : BitVec 1 := Scalar.cmpi .sgt c128_i32_382 c0_i32_385
  let v774 : BitVec 32 := Scalar.extui v773
  let c0_i32_386 : BitVec 32 := 0#32
  let v775 : BitVec 1 := Scalar.cmpi .slt c128_i32_382 c0_i32_386
  let v776 : BitVec 32 := Scalar.extui v775
  let v777 : BitVec 32 := Scalar.subi v774 v776
  let v778 : BitVec 1 := Scalar.cmpi .ne v772 v777
  let v779 : BitVec 32 := Scalar.remsi v766 c128_i32_382
  let c0_i32_387 : BitVec 32 := 0#32
  let v780 : BitVec 1 := Scalar.cmpi .ne v779 c0_i32_387
  let v781 : BitVec 1 := Scalar.andi v778 v780
  let v767 : BitVec 32 := Scalar.divsi v766 c128_i32_382
  let c1_i32_388 : BitVec 32 := 1#32
  let v782 : BitVec 32 := Scalar.subi v767 c1_i32_388
  let v783 : BitVec 32 := Scalar.select v781 v782 v767
  let c128_i32_389 : BitVec 32 := 128#32
  let v784 : BitVec 32 := Scalar.muli v783 c128_i32_389
  v784

def k0_off32 (v766 : BitVec 32) : Fin 3 → Nat :=
  let c1_390 : Index := 1#32
  let c0_391 : Index := 0#32
  let c0_i32_383 : BitVec 32 := 0#32
  let v768 : BitVec 1 := Scalar.cmpi .sgt v766 c0_i32_383
  let v769 : BitVec 32 := Scalar.extui v768
  let c0_i32_384 : BitVec 32 := 0#32
  let v770 : BitVec 1 := Scalar.cmpi .slt v766 c0_i32_384
  let v771 : BitVec 32 := Scalar.extui v770
  let v772 : BitVec 32 := Scalar.subi v769 v771
  let c128_i32_382 : BitVec 32 := 128#32
  let c0_i32_385 : BitVec 32 := 0#32
  let v773 : BitVec 1 := Scalar.cmpi .sgt c128_i32_382 c0_i32_385
  let v774 : BitVec 32 := Scalar.extui v773
  let c0_i32_386 : BitVec 32 := 0#32
  let v775 : BitVec 1 := Scalar.cmpi .slt c128_i32_382 c0_i32_386
  let v776 : BitVec 32 := Scalar.extui v775
  let v777 : BitVec 32 := Scalar.subi v774 v776
  let v778 : BitVec 1 := Scalar.cmpi .ne v772 v777
  let v779 : BitVec 32 := Scalar.remsi v766 c128_i32_382
  let c0_i32_387 : BitVec 32 := 0#32
  let v780 : BitVec 1 := Scalar.cmpi .ne v779 c0_i32_387
  let v781 : BitVec 1 := Scalar.andi v778 v780
  let v767 : BitVec 32 := Scalar.divsi v766 c128_i32_382
  let c1_i32_388 : BitVec 32 := 1#32
  let v782 : BitVec 32 := Scalar.subi v767 c1_i32_388
  let v783 : BitVec 32 := Scalar.select v781 v782 v767
  let c128_i32_389 : BitVec 32 := 128#32
  let v784 : BitVec 32 := Scalar.muli v783 c128_i32_389
  let v785 : BitVec 32 := v784
  let v786 : Index := Scalar.indexCast v785
  ![1, 0, v786.toNat]

def k0_chk11 (i : grid0.Coords) (v766 : BitVec 32) : Prop :=
  (∀ (k0_h1 : k0_cond1 i = 1#1), 128 ∣ (k0_mult23 v766).toNat) ∧
  (∀ (k0_h1 : k0_cond1 i = 1#1), ∀ a, (k0_off32 v766) a + S1x64x128.size a ≤ S2x64x768.size a)
theorem k0_mult23_dvd : ∀ (i : grid0.Coords) (v766 : BitVec 32) (k0_hw11 : k0_chk11 i v766), ∀ (k0_h1 : k0_cond1 i = 1#1), 128 ∣ (k0_mult23 v766).toNat := fun i v766 k0_hw11 k0_h1 => k0_hw11.1 k0_h1
theorem k0_off32_inb : ∀ (i : grid0.Coords) (v766 : BitVec 32) (k0_hw11 : k0_chk11 i v766), ∀ (k0_h1 : k0_cond1 i = 1#1), ∀ a, (k0_off32 v766) a + S1x64x128.size a ≤ S2x64x768.size a := fun i v766 k0_hw11 k0_h1 => k0_hw11.2 k0_h1

def k0_off33 (i : grid0.Coords) (v1 : BitVec 32) (k0_t5 : Fin (k0_t5_loop v1).trips) : Fin 2 → Nat :=
  let arg0 : BitVec 32 := BitVec.ofNat 32 (i 0).val
  let v811 : Index := Scalar.indexCast arg0
  let c0_i32_269 : BitVec 32 := 0#32
  let c1_i32_271 : BitVec 32 := 1#32
  let arg21 : BitVec 32 := Scf.iv c0_i32_269 c1_i32_271 k0_t5
  let c2_i32_400 : BitVec 32 := 2#32
  let v809 : BitVec 32 := Scalar.muli arg21 c2_i32_400
  let c0_i32_401 : BitVec 32 := 0#32
  let v810 : BitVec 32 := Scalar.addi v809 c0_i32_401
  let v812 : Index := Scalar.indexCast v810
  ![v811.toNat, v812.toNat]
def k0_mult24 (v813 : BitVec 32) : BitVec 32 :=
  let c0_i32_403 : BitVec 32 := 0#32
  let v815 : BitVec 1 := Scalar.cmpi .sgt v813 c0_i32_403
  let v816 : BitVec 32 := Scalar.extui v815
  let c0_i32_404 : BitVec 32 := 0#32
  let v817 : BitVec 1 := Scalar.cmpi .slt v813 c0_i32_404
  let v818 : BitVec 32 := Scalar.extui v817
  let v819 : BitVec 32 := Scalar.subi v816 v818
  let c128_i32_402 : BitVec 32 := 128#32
  let c0_i32_405 : BitVec 32 := 0#32
  let v820 : BitVec 1 := Scalar.cmpi .sgt c128_i32_402 c0_i32_405
  let v821 : BitVec 32 := Scalar.extui v820
  let c0_i32_406 : BitVec 32 := 0#32
  let v822 : BitVec 1 := Scalar.cmpi .slt c128_i32_402 c0_i32_406
  let v823 : BitVec 32 := Scalar.extui v822
  let v824 : BitVec 32 := Scalar.subi v821 v823
  let v825 : BitVec 1 := Scalar.cmpi .ne v819 v824
  let v826 : BitVec 32 := Scalar.remsi v813 c128_i32_402
  let c0_i32_407 : BitVec 32 := 0#32
  let v827 : BitVec 1 := Scalar.cmpi .ne v826 c0_i32_407
  let v828 : BitVec 1 := Scalar.andi v825 v827
  let v814 : BitVec 32 := Scalar.divsi v813 c128_i32_402
  let c1_i32_408 : BitVec 32 := 1#32
  let v829 : BitVec 32 := Scalar.subi v814 c1_i32_408
  let v830 : BitVec 32 := Scalar.select v828 v829 v814
  let c128_i32_409 : BitVec 32 := 128#32
  let v831 : BitVec 32 := Scalar.muli v830 c128_i32_409
  v831

def k0_off34 (v813 : BitVec 32) : Fin 3 → Nat :=
  let c1_410 : Index := 1#32
  let c0_411 : Index := 0#32
  let c0_i32_403 : BitVec 32 := 0#32
  let v815 : BitVec 1 := Scalar.cmpi .sgt v813 c0_i32_403
  let v816 : BitVec 32 := Scalar.extui v815
  let c0_i32_404 : BitVec 32 := 0#32
  let v817 : BitVec 1 := Scalar.cmpi .slt v813 c0_i32_404
  let v818 : BitVec 32 := Scalar.extui v817
  let v819 : BitVec 32 := Scalar.subi v816 v818
  let c128_i32_402 : BitVec 32 := 128#32
  let c0_i32_405 : BitVec 32 := 0#32
  let v820 : BitVec 1 := Scalar.cmpi .sgt c128_i32_402 c0_i32_405
  let v821 : BitVec 32 := Scalar.extui v820
  let c0_i32_406 : BitVec 32 := 0#32
  let v822 : BitVec 1 := Scalar.cmpi .slt c128_i32_402 c0_i32_406
  let v823 : BitVec 32 := Scalar.extui v822
  let v824 : BitVec 32 := Scalar.subi v821 v823
  let v825 : BitVec 1 := Scalar.cmpi .ne v819 v824
  let v826 : BitVec 32 := Scalar.remsi v813 c128_i32_402
  let c0_i32_407 : BitVec 32 := 0#32
  let v827 : BitVec 1 := Scalar.cmpi .ne v826 c0_i32_407
  let v828 : BitVec 1 := Scalar.andi v825 v827
  let v814 : BitVec 32 := Scalar.divsi v813 c128_i32_402
  let c1_i32_408 : BitVec 32 := 1#32
  let v829 : BitVec 32 := Scalar.subi v814 c1_i32_408
  let v830 : BitVec 32 := Scalar.select v828 v829 v814
  let c128_i32_409 : BitVec 32 := 128#32
  let v831 : BitVec 32 := Scalar.muli v830 c128_i32_409
  let v832 : BitVec 32 := v831
  let v833 : Index := Scalar.indexCast v832
  ![1, 0, v833.toNat]

def k0_chk12 (i : grid0.Coords) (v813 : BitVec 32) : Prop :=
  (∀ (k0_h1 : k0_cond1 i = 1#1), 128 ∣ (k0_mult24 v813).toNat) ∧
  (∀ (k0_h1 : k0_cond1 i = 1#1), ∀ a, (k0_off34 v813) a + S1x64x128.size a ≤ S2x64x768.size a)
theorem k0_mult24_dvd : ∀ (i : grid0.Coords) (v813 : BitVec 32) (k0_hw12 : k0_chk12 i v813), ∀ (k0_h1 : k0_cond1 i = 1#1), 128 ∣ (k0_mult24 v813).toNat := fun i v813 k0_hw12 k0_h1 => k0_hw12.1 k0_h1
theorem k0_off34_inb : ∀ (i : grid0.Coords) (v813 : BitVec 32) (k0_hw12 : k0_chk12 i v813), ∀ (k0_h1 : k0_cond1 i = 1#1), ∀ a, (k0_off34 v813) a + S1x64x128.size a ≤ S2x64x768.size a := fun i v813 k0_hw12 k0_h1 => k0_hw12.2 k0_h1

def k0_off35 (i : grid0.Coords) (v1 : BitVec 32) (k0_t5 : Fin (k0_t5_loop v1).trips) : Fin 2 → Nat :=
  let arg0 : BitVec 32 := BitVec.ofNat 32 (i 0).val
  let v857 : Index := Scalar.indexCast arg0
  let c0_i32_269 : BitVec 32 := 0#32
  let c1_i32_271 : BitVec 32 := 1#32
  let arg21 : BitVec 32 := Scf.iv c0_i32_269 c1_i32_271 k0_t5
  let c2_i32_420 : BitVec 32 := 2#32
  let v855 : BitVec 32 := Scalar.muli arg21 c2_i32_420
  let c1_i32_421 : BitVec 32 := 1#32
  let v856 : BitVec 32 := Scalar.addi v855 c1_i32_421
  let v858 : Index := Scalar.indexCast v856
  ![v857.toNat, v858.toNat]
def k0_mult25 (v859 : BitVec 32) : BitVec 32 :=
  let c0_i32_423 : BitVec 32 := 0#32
  let v861 : BitVec 1 := Scalar.cmpi .sgt v859 c0_i32_423
  let v862 : BitVec 32 := Scalar.extui v861
  let c0_i32_424 : BitVec 32 := 0#32
  let v863 : BitVec 1 := Scalar.cmpi .slt v859 c0_i32_424
  let v864 : BitVec 32 := Scalar.extui v863
  let v865 : BitVec 32 := Scalar.subi v862 v864
  let c128_i32_422 : BitVec 32 := 128#32
  let c0_i32_425 : BitVec 32 := 0#32
  let v866 : BitVec 1 := Scalar.cmpi .sgt c128_i32_422 c0_i32_425
  let v867 : BitVec 32 := Scalar.extui v866
  let c0_i32_426 : BitVec 32 := 0#32
  let v868 : BitVec 1 := Scalar.cmpi .slt c128_i32_422 c0_i32_426
  let v869 : BitVec 32 := Scalar.extui v868
  let v870 : BitVec 32 := Scalar.subi v867 v869
  let v871 : BitVec 1 := Scalar.cmpi .ne v865 v870
  let v872 : BitVec 32 := Scalar.remsi v859 c128_i32_422
  let c0_i32_427 : BitVec 32 := 0#32
  let v873 : BitVec 1 := Scalar.cmpi .ne v872 c0_i32_427
  let v874 : BitVec 1 := Scalar.andi v871 v873
  let v860 : BitVec 32 := Scalar.divsi v859 c128_i32_422
  let c1_i32_428 : BitVec 32 := 1#32
  let v875 : BitVec 32 := Scalar.subi v860 c1_i32_428
  let v876 : BitVec 32 := Scalar.select v874 v875 v860
  let c128_i32_429 : BitVec 32 := 128#32
  let v877 : BitVec 32 := Scalar.muli v876 c128_i32_429
  v877

def k0_off36 (v859 : BitVec 32) : Fin 3 → Nat :=
  let c1_430 : Index := 1#32
  let c0_431 : Index := 0#32
  let c0_i32_423 : BitVec 32 := 0#32
  let v861 : BitVec 1 := Scalar.cmpi .sgt v859 c0_i32_423
  let v862 : BitVec 32 := Scalar.extui v861
  let c0_i32_424 : BitVec 32 := 0#32
  let v863 : BitVec 1 := Scalar.cmpi .slt v859 c0_i32_424
  let v864 : BitVec 32 := Scalar.extui v863
  let v865 : BitVec 32 := Scalar.subi v862 v864
  let c128_i32_422 : BitVec 32 := 128#32
  let c0_i32_425 : BitVec 32 := 0#32
  let v866 : BitVec 1 := Scalar.cmpi .sgt c128_i32_422 c0_i32_425
  let v867 : BitVec 32 := Scalar.extui v866
  let c0_i32_426 : BitVec 32 := 0#32
  let v868 : BitVec 1 := Scalar.cmpi .slt c128_i32_422 c0_i32_426
  let v869 : BitVec 32 := Scalar.extui v868
  let v870 : BitVec 32 := Scalar.subi v867 v869
  let v871 : BitVec 1 := Scalar.cmpi .ne v865 v870
  let v872 : BitVec 32 := Scalar.remsi v859 c128_i32_422
  let c0_i32_427 : BitVec 32 := 0#32
  let v873 : BitVec 1 := Scalar.cmpi .ne v872 c0_i32_427
  let v874 : BitVec 1 := Scalar.andi v871 v873
  let v860 : BitVec 32 := Scalar.divsi v859 c128_i32_422
  let c1_i32_428 : BitVec 32 := 1#32
  let v875 : BitVec 32 := Scalar.subi v860 c1_i32_428
  let v876 : BitVec 32 := Scalar.select v874 v875 v860
  let c128_i32_429 : BitVec 32 := 128#32
  let v877 : BitVec 32 := Scalar.muli v876 c128_i32_429
  let v878 : BitVec 32 := v877
  let v879 : Index := Scalar.indexCast v878
  ![1, 0, v879.toNat]

def k0_chk13 (i : grid0.Coords) (v859 : BitVec 32) : Prop :=
  (∀ (k0_h1 : k0_cond1 i = 1#1), 128 ∣ (k0_mult25 v859).toNat) ∧
  (∀ (k0_h1 : k0_cond1 i = 1#1), ∀ a, (k0_off36 v859) a + S1x64x128.size a ≤ S2x64x768.size a)
theorem k0_mult25_dvd : ∀ (i : grid0.Coords) (v859 : BitVec 32) (k0_hw13 : k0_chk13 i v859), ∀ (k0_h1 : k0_cond1 i = 1#1), 128 ∣ (k0_mult25 v859).toNat := fun i v859 k0_hw13 k0_h1 => k0_hw13.1 k0_h1
theorem k0_off36_inb : ∀ (i : grid0.Coords) (v859 : BitVec 32) (k0_hw13 : k0_chk13 i v859), ∀ (k0_h1 : k0_cond1 i = 1#1), ∀ a, (k0_off36 v859) a + S1x64x128.size a ≤ S2x64x768.size a := fun i v859 k0_hw13 k0_h1 => k0_hw13.2 k0_h1

def k0_mult26 (v1 : BitVec 32) (k0_t5 : Fin (k0_t5_loop v1).trips) : BitVec 32 :=
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  v504
def k0_off37 (v1 : BitVec 32) (k0_t5 : Fin (k0_t5_loop v1).trips) : Fin 3 → Nat :=
  let c1_440 : Index := 1#32
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  let v902 : BitVec 32 := v504
  let v903 : Index := Scalar.indexCast v902
  let c0_441 : Index := 0#32
  ![1, v903.toNat, 0]
def k0_mult27 (v1 : BitVec 32) (k0_t5 : Fin (k0_t5_loop v1).trips) : BitVec 32 :=
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  v504
def k0_off38 (v1 : BitVec 32) (k0_t5 : Fin (k0_t5_loop v1).trips) : Fin 3 → Nat :=
  let c1_442 : Index := 1#32
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  let v910 : BitVec 32 := v504
  let v911 : Index := Scalar.indexCast v910
  let c0_443 : Index := 0#32
  ![1, v911.toNat, 0]
def k0_mult28 (v1 : BitVec 32) (k0_t5 : Fin (k0_t5_loop v1).trips) : BitVec 32 :=
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  v504
def k0_off39 (v1 : BitVec 32) (k0_t5 : Fin (k0_t5_loop v1).trips) : Fin 3 → Nat :=
  let c1_445 : Index := 1#32
  let c0_446 : Index := 0#32
  let c0_i32_269 : BitVec 32 := 0#32
  let c1_i32_271 : BitVec 32 := 1#32
  let arg21 : BitVec 32 := Scf.iv c0_i32_269 c1_i32_271 k0_t5
  let c128_i32 : BitVec 32 := 128#32
  let v504 : BitVec 32 := Scalar.muli arg21 c128_i32
  let v922 : BitVec 32 := v504
  let v923 : Index := Scalar.indexCast v922
  ![1, 0, v923.toNat]
@[reducible] def k0_t6_loop (v1 : BitVec 32) : Scf.Loop 32 :=
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let v500 : BitVec 32 := Scalar.addi c0_i32_269 v499
  let c1_i32_272 : BitVec 32 := 1#32
  ⟨v503, v500, c1_i32_272⟩
def k0_off40 (i : grid0.Coords) (v1 : BitVec 32) (k0_t6 : Fin (k0_t6_loop v1).trips) : Fin 2 → Nat :=
  let arg0 : BitVec 32 := BitVec.ofNat 32 (i 0).val
  let v507 : Index := Scalar.indexCast arg0
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c2_i32_273 : BitVec 32 := 2#32
  let v505 : BitVec 32 := Scalar.muli arg21 c2_i32_273
  let c0_i32_274 : BitVec 32 := 0#32
  let v506 : BitVec 32 := Scalar.addi v505 c0_i32_274
  let v508 : Index := Scalar.indexCast v506
  ![v507.toNat, v508.toNat]
def k0_mult29 (v509 : BitVec 32) : BitVec 32 :=
  let c0_i32_276 : BitVec 32 := 0#32
  let v511 : BitVec 1 := Scalar.cmpi .sgt v509 c0_i32_276
  let v512 : BitVec 32 := Scalar.extui v511
  let c0_i32_277 : BitVec 32 := 0#32
  let v513 : BitVec 1 := Scalar.cmpi .slt v509 c0_i32_277
  let v514 : BitVec 32 := Scalar.extui v513
  let v515 : BitVec 32 := Scalar.subi v512 v514
  let c128_i32_275 : BitVec 32 := 128#32
  let c0_i32_278 : BitVec 32 := 0#32
  let v516 : BitVec 1 := Scalar.cmpi .sgt c128_i32_275 c0_i32_278
  let v517 : BitVec 32 := Scalar.extui v516
  let c0_i32_279 : BitVec 32 := 0#32
  let v518 : BitVec 1 := Scalar.cmpi .slt c128_i32_275 c0_i32_279
  let v519 : BitVec 32 := Scalar.extui v518
  let v520 : BitVec 32 := Scalar.subi v517 v519
  let v521 : BitVec 1 := Scalar.cmpi .ne v515 v520
  let v522 : BitVec 32 := Scalar.remsi v509 c128_i32_275
  let c0_i32_280 : BitVec 32 := 0#32
  let v523 : BitVec 1 := Scalar.cmpi .ne v522 c0_i32_280
  let v524 : BitVec 1 := Scalar.andi v521 v523
  let v510 : BitVec 32 := Scalar.divsi v509 c128_i32_275
  let c1_i32_281 : BitVec 32 := 1#32
  let v525 : BitVec 32 := Scalar.subi v510 c1_i32_281
  let v526 : BitVec 32 := Scalar.select v524 v525 v510
  let c128_i32_282 : BitVec 32 := 128#32
  let v527 : BitVec 32 := Scalar.muli v526 c128_i32_282
  v527

def k0_off41 (v509 : BitVec 32) : Fin 3 → Nat :=
  let c0_283 : Index := 0#32
  let c0_284 : Index := 0#32
  let c0_i32_276 : BitVec 32 := 0#32
  let v511 : BitVec 1 := Scalar.cmpi .sgt v509 c0_i32_276
  let v512 : BitVec 32 := Scalar.extui v511
  let c0_i32_277 : BitVec 32 := 0#32
  let v513 : BitVec 1 := Scalar.cmpi .slt v509 c0_i32_277
  let v514 : BitVec 32 := Scalar.extui v513
  let v515 : BitVec 32 := Scalar.subi v512 v514
  let c128_i32_275 : BitVec 32 := 128#32
  let c0_i32_278 : BitVec 32 := 0#32
  let v516 : BitVec 1 := Scalar.cmpi .sgt c128_i32_275 c0_i32_278
  let v517 : BitVec 32 := Scalar.extui v516
  let c0_i32_279 : BitVec 32 := 0#32
  let v518 : BitVec 1 := Scalar.cmpi .slt c128_i32_275 c0_i32_279
  let v519 : BitVec 32 := Scalar.extui v518
  let v520 : BitVec 32 := Scalar.subi v517 v519
  let v521 : BitVec 1 := Scalar.cmpi .ne v515 v520
  let v522 : BitVec 32 := Scalar.remsi v509 c128_i32_275
  let c0_i32_280 : BitVec 32 := 0#32
  let v523 : BitVec 1 := Scalar.cmpi .ne v522 c0_i32_280
  let v524 : BitVec 1 := Scalar.andi v521 v523
  let v510 : BitVec 32 := Scalar.divsi v509 c128_i32_275
  let c1_i32_281 : BitVec 32 := 1#32
  let v525 : BitVec 32 := Scalar.subi v510 c1_i32_281
  let v526 : BitVec 32 := Scalar.select v524 v525 v510
  let c128_i32_282 : BitVec 32 := 128#32
  let v527 : BitVec 32 := Scalar.muli v526 c128_i32_282
  let v528 : BitVec 32 := v527
  let v529 : Index := Scalar.indexCast v528
  ![0, 0, v529.toNat]

def k0_chk14 (i : grid0.Coords) (v509 : BitVec 32) : Prop :=
  (∀ (k0_h1 : k0_cond1 i = 1#1), 128 ∣ (k0_mult29 v509).toNat) ∧
  (∀ (k0_h1 : k0_cond1 i = 1#1), ∀ a, (k0_off41 v509) a + S1x64x128.size a ≤ S2x64x768.size a)
theorem k0_mult29_dvd : ∀ (i : grid0.Coords) (v509 : BitVec 32) (k0_hw14 : k0_chk14 i v509), ∀ (k0_h1 : k0_cond1 i = 1#1), 128 ∣ (k0_mult29 v509).toNat := fun i v509 k0_hw14 k0_h1 => k0_hw14.1 k0_h1
theorem k0_off41_inb : ∀ (i : grid0.Coords) (v509 : BitVec 32) (k0_hw14 : k0_chk14 i v509), ∀ (k0_h1 : k0_cond1 i = 1#1), ∀ a, (k0_off41 v509) a + S1x64x128.size a ≤ S2x64x768.size a := fun i v509 k0_hw14 k0_h1 => k0_hw14.2 k0_h1

def k0_off42 (i : grid0.Coords) (v1 : BitVec 32) (k0_t6 : Fin (k0_t6_loop v1).trips) : Fin 2 → Nat :=
  let arg0 : BitVec 32 := BitVec.ofNat 32 (i 0).val
  let v553 : Index := Scalar.indexCast arg0
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c2_i32_293 : BitVec 32 := 2#32
  let v551 : BitVec 32 := Scalar.muli arg21 c2_i32_293
  let c1_i32_294 : BitVec 32 := 1#32
  let v552 : BitVec 32 := Scalar.addi v551 c1_i32_294
  let v554 : Index := Scalar.indexCast v552
  ![v553.toNat, v554.toNat]
def k0_mult30 (v555 : BitVec 32) : BitVec 32 :=
  let c0_i32_296 : BitVec 32 := 0#32
  let v557 : BitVec 1 := Scalar.cmpi .sgt v555 c0_i32_296
  let v558 : BitVec 32 := Scalar.extui v557
  let c0_i32_297 : BitVec 32 := 0#32
  let v559 : BitVec 1 := Scalar.cmpi .slt v555 c0_i32_297
  let v560 : BitVec 32 := Scalar.extui v559
  let v561 : BitVec 32 := Scalar.subi v558 v560
  let c128_i32_295 : BitVec 32 := 128#32
  let c0_i32_298 : BitVec 32 := 0#32
  let v562 : BitVec 1 := Scalar.cmpi .sgt c128_i32_295 c0_i32_298
  let v563 : BitVec 32 := Scalar.extui v562
  let c0_i32_299 : BitVec 32 := 0#32
  let v564 : BitVec 1 := Scalar.cmpi .slt c128_i32_295 c0_i32_299
  let v565 : BitVec 32 := Scalar.extui v564
  let v566 : BitVec 32 := Scalar.subi v563 v565
  let v567 : BitVec 1 := Scalar.cmpi .ne v561 v566
  let v568 : BitVec 32 := Scalar.remsi v555 c128_i32_295
  let c0_i32_300 : BitVec 32 := 0#32
  let v569 : BitVec 1 := Scalar.cmpi .ne v568 c0_i32_300
  let v570 : BitVec 1 := Scalar.andi v567 v569
  let v556 : BitVec 32 := Scalar.divsi v555 c128_i32_295
  let c1_i32_301 : BitVec 32 := 1#32
  let v571 : BitVec 32 := Scalar.subi v556 c1_i32_301
  let v572 : BitVec 32 := Scalar.select v570 v571 v556
  let c128_i32_302 : BitVec 32 := 128#32
  let v573 : BitVec 32 := Scalar.muli v572 c128_i32_302
  v573

def k0_off43 (v555 : BitVec 32) : Fin 3 → Nat :=
  let c0_303 : Index := 0#32
  let c0_304 : Index := 0#32
  let c0_i32_296 : BitVec 32 := 0#32
  let v557 : BitVec 1 := Scalar.cmpi .sgt v555 c0_i32_296
  let v558 : BitVec 32 := Scalar.extui v557
  let c0_i32_297 : BitVec 32 := 0#32
  let v559 : BitVec 1 := Scalar.cmpi .slt v555 c0_i32_297
  let v560 : BitVec 32 := Scalar.extui v559
  let v561 : BitVec 32 := Scalar.subi v558 v560
  let c128_i32_295 : BitVec 32 := 128#32
  let c0_i32_298 : BitVec 32 := 0#32
  let v562 : BitVec 1 := Scalar.cmpi .sgt c128_i32_295 c0_i32_298
  let v563 : BitVec 32 := Scalar.extui v562
  let c0_i32_299 : BitVec 32 := 0#32
  let v564 : BitVec 1 := Scalar.cmpi .slt c128_i32_295 c0_i32_299
  let v565 : BitVec 32 := Scalar.extui v564
  let v566 : BitVec 32 := Scalar.subi v563 v565
  let v567 : BitVec 1 := Scalar.cmpi .ne v561 v566
  let v568 : BitVec 32 := Scalar.remsi v555 c128_i32_295
  let c0_i32_300 : BitVec 32 := 0#32
  let v569 : BitVec 1 := Scalar.cmpi .ne v568 c0_i32_300
  let v570 : BitVec 1 := Scalar.andi v567 v569
  let v556 : BitVec 32 := Scalar.divsi v555 c128_i32_295
  let c1_i32_301 : BitVec 32 := 1#32
  let v571 : BitVec 32 := Scalar.subi v556 c1_i32_301
  let v572 : BitVec 32 := Scalar.select v570 v571 v556
  let c128_i32_302 : BitVec 32 := 128#32
  let v573 : BitVec 32 := Scalar.muli v572 c128_i32_302
  let v574 : BitVec 32 := v573
  let v575 : Index := Scalar.indexCast v574
  ![0, 0, v575.toNat]

def k0_chk15 (i : grid0.Coords) (v555 : BitVec 32) : Prop :=
  (∀ (k0_h1 : k0_cond1 i = 1#1), 128 ∣ (k0_mult30 v555).toNat) ∧
  (∀ (k0_h1 : k0_cond1 i = 1#1), ∀ a, (k0_off43 v555) a + S1x64x128.size a ≤ S2x64x768.size a)
theorem k0_mult30_dvd : ∀ (i : grid0.Coords) (v555 : BitVec 32) (k0_hw15 : k0_chk15 i v555), ∀ (k0_h1 : k0_cond1 i = 1#1), 128 ∣ (k0_mult30 v555).toNat := fun i v555 k0_hw15 k0_h1 => k0_hw15.1 k0_h1
theorem k0_off43_inb : ∀ (i : grid0.Coords) (v555 : BitVec 32) (k0_hw15 : k0_chk15 i v555), ∀ (k0_h1 : k0_cond1 i = 1#1), ∀ a, (k0_off43 v555) a + S1x64x128.size a ≤ S2x64x768.size a := fun i v555 k0_hw15 k0_h1 => k0_hw15.2 k0_h1

def k0_off44 (i : grid0.Coords) (v1 : BitVec 32) (k0_t6 : Fin (k0_t6_loop v1).trips) : Fin 2 → Nat :=
  let arg0 : BitVec 32 := BitVec.ofNat 32 (i 0).val
  let v600 : Index := Scalar.indexCast arg0
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c2_i32_313 : BitVec 32 := 2#32
  let v598 : BitVec 32 := Scalar.muli arg21 c2_i32_313
  let c0_i32_314 : BitVec 32 := 0#32
  let v599 : BitVec 32 := Scalar.addi v598 c0_i32_314
  let v601 : Index := Scalar.indexCast v599
  ![v600.toNat, v601.toNat]
def k0_mult31 (v602 : BitVec 32) : BitVec 32 :=
  let c0_i32_316 : BitVec 32 := 0#32
  let v604 : BitVec 1 := Scalar.cmpi .sgt v602 c0_i32_316
  let v605 : BitVec 32 := Scalar.extui v604
  let c0_i32_317 : BitVec 32 := 0#32
  let v606 : BitVec 1 := Scalar.cmpi .slt v602 c0_i32_317
  let v607 : BitVec 32 := Scalar.extui v606
  let v608 : BitVec 32 := Scalar.subi v605 v607
  let c128_i32_315 : BitVec 32 := 128#32
  let c0_i32_318 : BitVec 32 := 0#32
  let v609 : BitVec 1 := Scalar.cmpi .sgt c128_i32_315 c0_i32_318
  let v610 : BitVec 32 := Scalar.extui v609
  let c0_i32_319 : BitVec 32 := 0#32
  let v611 : BitVec 1 := Scalar.cmpi .slt c128_i32_315 c0_i32_319
  let v612 : BitVec 32 := Scalar.extui v611
  let v613 : BitVec 32 := Scalar.subi v610 v612
  let v614 : BitVec 1 := Scalar.cmpi .ne v608 v613
  let v615 : BitVec 32 := Scalar.remsi v602 c128_i32_315
  let c0_i32_320 : BitVec 32 := 0#32
  let v616 : BitVec 1 := Scalar.cmpi .ne v615 c0_i32_320
  let v617 : BitVec 1 := Scalar.andi v614 v616
  let v603 : BitVec 32 := Scalar.divsi v602 c128_i32_315
  let c1_i32_321 : BitVec 32 := 1#32
  let v618 : BitVec 32 := Scalar.subi v603 c1_i32_321
  let v619 : BitVec 32 := Scalar.select v617 v618 v603
  let c128_i32_322 : BitVec 32 := 128#32
  let v620 : BitVec 32 := Scalar.muli v619 c128_i32_322
  v620

def k0_off45 (v602 : BitVec 32) : Fin 3 → Nat :=
  let c0_323 : Index := 0#32
  let c0_324 : Index := 0#32
  let c0_i32_316 : BitVec 32 := 0#32
  let v604 : BitVec 1 := Scalar.cmpi .sgt v602 c0_i32_316
  let v605 : BitVec 32 := Scalar.extui v604
  let c0_i32_317 : BitVec 32 := 0#32
  let v606 : BitVec 1 := Scalar.cmpi .slt v602 c0_i32_317
  let v607 : BitVec 32 := Scalar.extui v606
  let v608 : BitVec 32 := Scalar.subi v605 v607
  let c128_i32_315 : BitVec 32 := 128#32
  let c0_i32_318 : BitVec 32 := 0#32
  let v609 : BitVec 1 := Scalar.cmpi .sgt c128_i32_315 c0_i32_318
  let v610 : BitVec 32 := Scalar.extui v609
  let c0_i32_319 : BitVec 32 := 0#32
  let v611 : BitVec 1 := Scalar.cmpi .slt c128_i32_315 c0_i32_319
  let v612 : BitVec 32 := Scalar.extui v611
  let v613 : BitVec 32 := Scalar.subi v610 v612
  let v614 : BitVec 1 := Scalar.cmpi .ne v608 v613
  let v615 : BitVec 32 := Scalar.remsi v602 c128_i32_315
  let c0_i32_320 : BitVec 32 := 0#32
  let v616 : BitVec 1 := Scalar.cmpi .ne v615 c0_i32_320
  let v617 : BitVec 1 := Scalar.andi v614 v616
  let v603 : BitVec 32 := Scalar.divsi v602 c128_i32_315
  let c1_i32_321 : BitVec 32 := 1#32
  let v618 : BitVec 32 := Scalar.subi v603 c1_i32_321
  let v619 : BitVec 32 := Scalar.select v617 v618 v603
  let c128_i32_322 : BitVec 32 := 128#32
  let v620 : BitVec 32 := Scalar.muli v619 c128_i32_322
  let v621 : BitVec 32 := v620
  let v622 : Index := Scalar.indexCast v621
  ![0, 0, v622.toNat]

def k0_chk16 (i : grid0.Coords) (v602 : BitVec 32) : Prop :=
  (∀ (k0_h1 : k0_cond1 i = 1#1), 128 ∣ (k0_mult31 v602).toNat) ∧
  (∀ (k0_h1 : k0_cond1 i = 1#1), ∀ a, (k0_off45 v602) a + S1x64x128.size a ≤ S2x64x768.size a)
theorem k0_mult31_dvd : ∀ (i : grid0.Coords) (v602 : BitVec 32) (k0_hw16 : k0_chk16 i v602), ∀ (k0_h1 : k0_cond1 i = 1#1), 128 ∣ (k0_mult31 v602).toNat := fun i v602 k0_hw16 k0_h1 => k0_hw16.1 k0_h1
theorem k0_off45_inb : ∀ (i : grid0.Coords) (v602 : BitVec 32) (k0_hw16 : k0_chk16 i v602), ∀ (k0_h1 : k0_cond1 i = 1#1), ∀ a, (k0_off45 v602) a + S1x64x128.size a ≤ S2x64x768.size a := fun i v602 k0_hw16 k0_h1 => k0_hw16.2 k0_h1

def k0_off46 (i : grid0.Coords) (v1 : BitVec 32) (k0_t6 : Fin (k0_t6_loop v1).trips) : Fin 2 → Nat :=
  let arg0 : BitVec 32 := BitVec.ofNat 32 (i 0).val
  let v646 : Index := Scalar.indexCast arg0
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c2_i32_333 : BitVec 32 := 2#32
  let v644 : BitVec 32 := Scalar.muli arg21 c2_i32_333
  let c1_i32_334 : BitVec 32 := 1#32
  let v645 : BitVec 32 := Scalar.addi v644 c1_i32_334
  let v647 : Index := Scalar.indexCast v645
  ![v646.toNat, v647.toNat]
def k0_mult32 (v648 : BitVec 32) : BitVec 32 :=
  let c0_i32_336 : BitVec 32 := 0#32
  let v650 : BitVec 1 := Scalar.cmpi .sgt v648 c0_i32_336
  let v651 : BitVec 32 := Scalar.extui v650
  let c0_i32_337 : BitVec 32 := 0#32
  let v652 : BitVec 1 := Scalar.cmpi .slt v648 c0_i32_337
  let v653 : BitVec 32 := Scalar.extui v652
  let v654 : BitVec 32 := Scalar.subi v651 v653
  let c128_i32_335 : BitVec 32 := 128#32
  let c0_i32_338 : BitVec 32 := 0#32
  let v655 : BitVec 1 := Scalar.cmpi .sgt c128_i32_335 c0_i32_338
  let v656 : BitVec 32 := Scalar.extui v655
  let c0_i32_339 : BitVec 32 := 0#32
  let v657 : BitVec 1 := Scalar.cmpi .slt c128_i32_335 c0_i32_339
  let v658 : BitVec 32 := Scalar.extui v657
  let v659 : BitVec 32 := Scalar.subi v656 v658
  let v660 : BitVec 1 := Scalar.cmpi .ne v654 v659
  let v661 : BitVec 32 := Scalar.remsi v648 c128_i32_335
  let c0_i32_340 : BitVec 32 := 0#32
  let v662 : BitVec 1 := Scalar.cmpi .ne v661 c0_i32_340
  let v663 : BitVec 1 := Scalar.andi v660 v662
  let v649 : BitVec 32 := Scalar.divsi v648 c128_i32_335
  let c1_i32_341 : BitVec 32 := 1#32
  let v664 : BitVec 32 := Scalar.subi v649 c1_i32_341
  let v665 : BitVec 32 := Scalar.select v663 v664 v649
  let c128_i32_342 : BitVec 32 := 128#32
  let v666 : BitVec 32 := Scalar.muli v665 c128_i32_342
  v666

def k0_off47 (v648 : BitVec 32) : Fin 3 → Nat :=
  let c0_343 : Index := 0#32
  let c0_344 : Index := 0#32
  let c0_i32_336 : BitVec 32 := 0#32
  let v650 : BitVec 1 := Scalar.cmpi .sgt v648 c0_i32_336
  let v651 : BitVec 32 := Scalar.extui v650
  let c0_i32_337 : BitVec 32 := 0#32
  let v652 : BitVec 1 := Scalar.cmpi .slt v648 c0_i32_337
  let v653 : BitVec 32 := Scalar.extui v652
  let v654 : BitVec 32 := Scalar.subi v651 v653
  let c128_i32_335 : BitVec 32 := 128#32
  let c0_i32_338 : BitVec 32 := 0#32
  let v655 : BitVec 1 := Scalar.cmpi .sgt c128_i32_335 c0_i32_338
  let v656 : BitVec 32 := Scalar.extui v655
  let c0_i32_339 : BitVec 32 := 0#32
  let v657 : BitVec 1 := Scalar.cmpi .slt c128_i32_335 c0_i32_339
  let v658 : BitVec 32 := Scalar.extui v657
  let v659 : BitVec 32 := Scalar.subi v656 v658
  let v660 : BitVec 1 := Scalar.cmpi .ne v654 v659
  let v661 : BitVec 32 := Scalar.remsi v648 c128_i32_335
  let c0_i32_340 : BitVec 32 := 0#32
  let v662 : BitVec 1 := Scalar.cmpi .ne v661 c0_i32_340
  let v663 : BitVec 1 := Scalar.andi v660 v662
  let v649 : BitVec 32 := Scalar.divsi v648 c128_i32_335
  let c1_i32_341 : BitVec 32 := 1#32
  let v664 : BitVec 32 := Scalar.subi v649 c1_i32_341
  let v665 : BitVec 32 := Scalar.select v663 v664 v649
  let c128_i32_342 : BitVec 32 := 128#32
  let v666 : BitVec 32 := Scalar.muli v665 c128_i32_342
  let v667 : BitVec 32 := v666
  let v668 : Index := Scalar.indexCast v667
  ![0, 0, v668.toNat]

def k0_chk17 (i : grid0.Coords) (v648 : BitVec 32) : Prop :=
  (∀ (k0_h1 : k0_cond1 i = 1#1), 128 ∣ (k0_mult32 v648).toNat) ∧
  (∀ (k0_h1 : k0_cond1 i = 1#1), ∀ a, (k0_off47 v648) a + S1x64x128.size a ≤ S2x64x768.size a)
theorem k0_mult32_dvd : ∀ (i : grid0.Coords) (v648 : BitVec 32) (k0_hw17 : k0_chk17 i v648), ∀ (k0_h1 : k0_cond1 i = 1#1), 128 ∣ (k0_mult32 v648).toNat := fun i v648 k0_hw17 k0_h1 => k0_hw17.1 k0_h1
theorem k0_off47_inb : ∀ (i : grid0.Coords) (v648 : BitVec 32) (k0_hw17 : k0_chk17 i v648), ∀ (k0_h1 : k0_cond1 i = 1#1), ∀ a, (k0_off47 v648) a + S1x64x128.size a ≤ S2x64x768.size a := fun i v648 k0_hw17 k0_h1 => k0_hw17.2 k0_h1

def k0_mult33 (v1 : BitVec 32) (k0_t6 : Fin (k0_t6_loop v1).trips) : BitVec 32 :=
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  v504
def k0_off48 (v1 : BitVec 32) (k0_t6 : Fin (k0_t6_loop v1).trips) : Fin 3 → Nat :=
  let c0_353 : Index := 0#32
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  let v691 : BitVec 32 := v504
  let v692 : Index := Scalar.indexCast v691
  let c0_354 : Index := 0#32
  ![0, v692.toNat, 0]
def k0_mult34 (v1 : BitVec 32) (k0_t6 : Fin (k0_t6_loop v1).trips) : BitVec 32 :=
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  v504
def k0_off49 (v1 : BitVec 32) (k0_t6 : Fin (k0_t6_loop v1).trips) : Fin 3 → Nat :=
  let c0_355 : Index := 0#32
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  let v699 : BitVec 32 := v504
  let v700 : Index := Scalar.indexCast v699
  let c0_356 : Index := 0#32
  ![0, v700.toNat, 0]
def k0_mult35 (v1 : BitVec 32) (k0_t6 : Fin (k0_t6_loop v1).trips) : BitVec 32 :=
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  v504
def k0_off50 (v1 : BitVec 32) (k0_t6 : Fin (k0_t6_loop v1).trips) : Fin 3 → Nat :=
  let c0_358 : Index := 0#32
  let c0_359 : Index := 0#32
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  let v711 : BitVec 32 := v504
  let v712 : Index := Scalar.indexCast v711
  ![0, 0, v712.toNat]
def k0_off51 (i : grid0.Coords) (v1 : BitVec 32) (k0_t6 : Fin (k0_t6_loop v1).trips) : Fin 2 → Nat :=
  let arg0 : BitVec 32 := BitVec.ofNat 32 (i 0).val
  let v718 : Index := Scalar.indexCast arg0
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c2_i32_360 : BitVec 32 := 2#32
  let v716 : BitVec 32 := Scalar.muli arg21 c2_i32_360
  let c0_i32_361 : BitVec 32 := 0#32
  let v717 : BitVec 32 := Scalar.addi v716 c0_i32_361
  let v719 : Index := Scalar.indexCast v717
  ![v718.toNat, v719.toNat]
def k0_mult36 (v720 : BitVec 32) : BitVec 32 :=
  let c0_i32_363 : BitVec 32 := 0#32
  let v722 : BitVec 1 := Scalar.cmpi .sgt v720 c0_i32_363
  let v723 : BitVec 32 := Scalar.extui v722
  let c0_i32_364 : BitVec 32 := 0#32
  let v724 : BitVec 1 := Scalar.cmpi .slt v720 c0_i32_364
  let v725 : BitVec 32 := Scalar.extui v724
  let v726 : BitVec 32 := Scalar.subi v723 v725
  let c128_i32_362 : BitVec 32 := 128#32
  let c0_i32_365 : BitVec 32 := 0#32
  let v727 : BitVec 1 := Scalar.cmpi .sgt c128_i32_362 c0_i32_365
  let v728 : BitVec 32 := Scalar.extui v727
  let c0_i32_366 : BitVec 32 := 0#32
  let v729 : BitVec 1 := Scalar.cmpi .slt c128_i32_362 c0_i32_366
  let v730 : BitVec 32 := Scalar.extui v729
  let v731 : BitVec 32 := Scalar.subi v728 v730
  let v732 : BitVec 1 := Scalar.cmpi .ne v726 v731
  let v733 : BitVec 32 := Scalar.remsi v720 c128_i32_362
  let c0_i32_367 : BitVec 32 := 0#32
  let v734 : BitVec 1 := Scalar.cmpi .ne v733 c0_i32_367
  let v735 : BitVec 1 := Scalar.andi v732 v734
  let v721 : BitVec 32 := Scalar.divsi v720 c128_i32_362
  let c1_i32_368 : BitVec 32 := 1#32
  let v736 : BitVec 32 := Scalar.subi v721 c1_i32_368
  let v737 : BitVec 32 := Scalar.select v735 v736 v721
  let c128_i32_369 : BitVec 32 := 128#32
  let v738 : BitVec 32 := Scalar.muli v737 c128_i32_369
  v738

def k0_off52 (v720 : BitVec 32) : Fin 3 → Nat :=
  let c1_370 : Index := 1#32
  let c0_371 : Index := 0#32
  let c0_i32_363 : BitVec 32 := 0#32
  let v722 : BitVec 1 := Scalar.cmpi .sgt v720 c0_i32_363
  let v723 : BitVec 32 := Scalar.extui v722
  let c0_i32_364 : BitVec 32 := 0#32
  let v724 : BitVec 1 := Scalar.cmpi .slt v720 c0_i32_364
  let v725 : BitVec 32 := Scalar.extui v724
  let v726 : BitVec 32 := Scalar.subi v723 v725
  let c128_i32_362 : BitVec 32 := 128#32
  let c0_i32_365 : BitVec 32 := 0#32
  let v727 : BitVec 1 := Scalar.cmpi .sgt c128_i32_362 c0_i32_365
  let v728 : BitVec 32 := Scalar.extui v727
  let c0_i32_366 : BitVec 32 := 0#32
  let v729 : BitVec 1 := Scalar.cmpi .slt c128_i32_362 c0_i32_366
  let v730 : BitVec 32 := Scalar.extui v729
  let v731 : BitVec 32 := Scalar.subi v728 v730
  let v732 : BitVec 1 := Scalar.cmpi .ne v726 v731
  let v733 : BitVec 32 := Scalar.remsi v720 c128_i32_362
  let c0_i32_367 : BitVec 32 := 0#32
  let v734 : BitVec 1 := Scalar.cmpi .ne v733 c0_i32_367
  let v735 : BitVec 1 := Scalar.andi v732 v734
  let v721 : BitVec 32 := Scalar.divsi v720 c128_i32_362
  let c1_i32_368 : BitVec 32 := 1#32
  let v736 : BitVec 32 := Scalar.subi v721 c1_i32_368
  let v737 : BitVec 32 := Scalar.select v735 v736 v721
  let c128_i32_369 : BitVec 32 := 128#32
  let v738 : BitVec 32 := Scalar.muli v737 c128_i32_369
  let v739 : BitVec 32 := v738
  let v740 : Index := Scalar.indexCast v739
  ![1, 0, v740.toNat]

def k0_chk18 (i : grid0.Coords) (v720 : BitVec 32) : Prop :=
  (∀ (k0_h1 : k0_cond1 i = 1#1), 128 ∣ (k0_mult36 v720).toNat) ∧
  (∀ (k0_h1 : k0_cond1 i = 1#1), ∀ a, (k0_off52 v720) a + S1x64x128.size a ≤ S2x64x768.size a)
theorem k0_mult36_dvd : ∀ (i : grid0.Coords) (v720 : BitVec 32) (k0_hw18 : k0_chk18 i v720), ∀ (k0_h1 : k0_cond1 i = 1#1), 128 ∣ (k0_mult36 v720).toNat := fun i v720 k0_hw18 k0_h1 => k0_hw18.1 k0_h1
theorem k0_off52_inb : ∀ (i : grid0.Coords) (v720 : BitVec 32) (k0_hw18 : k0_chk18 i v720), ∀ (k0_h1 : k0_cond1 i = 1#1), ∀ a, (k0_off52 v720) a + S1x64x128.size a ≤ S2x64x768.size a := fun i v720 k0_hw18 k0_h1 => k0_hw18.2 k0_h1

def k0_off53 (i : grid0.Coords) (v1 : BitVec 32) (k0_t6 : Fin (k0_t6_loop v1).trips) : Fin 2 → Nat :=
  let arg0 : BitVec 32 := BitVec.ofNat 32 (i 0).val
  let v764 : Index := Scalar.indexCast arg0
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c2_i32_380 : BitVec 32 := 2#32
  let v762 : BitVec 32 := Scalar.muli arg21 c2_i32_380
  let c1_i32_381 : BitVec 32 := 1#32
  let v763 : BitVec 32 := Scalar.addi v762 c1_i32_381
  let v765 : Index := Scalar.indexCast v763
  ![v764.toNat, v765.toNat]
def k0_mult37 (v766 : BitVec 32) : BitVec 32 :=
  let c0_i32_383 : BitVec 32 := 0#32
  let v768 : BitVec 1 := Scalar.cmpi .sgt v766 c0_i32_383
  let v769 : BitVec 32 := Scalar.extui v768
  let c0_i32_384 : BitVec 32 := 0#32
  let v770 : BitVec 1 := Scalar.cmpi .slt v766 c0_i32_384
  let v771 : BitVec 32 := Scalar.extui v770
  let v772 : BitVec 32 := Scalar.subi v769 v771
  let c128_i32_382 : BitVec 32 := 128#32
  let c0_i32_385 : BitVec 32 := 0#32
  let v773 : BitVec 1 := Scalar.cmpi .sgt c128_i32_382 c0_i32_385
  let v774 : BitVec 32 := Scalar.extui v773
  let c0_i32_386 : BitVec 32 := 0#32
  let v775 : BitVec 1 := Scalar.cmpi .slt c128_i32_382 c0_i32_386
  let v776 : BitVec 32 := Scalar.extui v775
  let v777 : BitVec 32 := Scalar.subi v774 v776
  let v778 : BitVec 1 := Scalar.cmpi .ne v772 v777
  let v779 : BitVec 32 := Scalar.remsi v766 c128_i32_382
  let c0_i32_387 : BitVec 32 := 0#32
  let v780 : BitVec 1 := Scalar.cmpi .ne v779 c0_i32_387
  let v781 : BitVec 1 := Scalar.andi v778 v780
  let v767 : BitVec 32 := Scalar.divsi v766 c128_i32_382
  let c1_i32_388 : BitVec 32 := 1#32
  let v782 : BitVec 32 := Scalar.subi v767 c1_i32_388
  let v783 : BitVec 32 := Scalar.select v781 v782 v767
  let c128_i32_389 : BitVec 32 := 128#32
  let v784 : BitVec 32 := Scalar.muli v783 c128_i32_389
  v784

def k0_off54 (v766 : BitVec 32) : Fin 3 → Nat :=
  let c1_390 : Index := 1#32
  let c0_391 : Index := 0#32
  let c0_i32_383 : BitVec 32 := 0#32
  let v768 : BitVec 1 := Scalar.cmpi .sgt v766 c0_i32_383
  let v769 : BitVec 32 := Scalar.extui v768
  let c0_i32_384 : BitVec 32 := 0#32
  let v770 : BitVec 1 := Scalar.cmpi .slt v766 c0_i32_384
  let v771 : BitVec 32 := Scalar.extui v770
  let v772 : BitVec 32 := Scalar.subi v769 v771
  let c128_i32_382 : BitVec 32 := 128#32
  let c0_i32_385 : BitVec 32 := 0#32
  let v773 : BitVec 1 := Scalar.cmpi .sgt c128_i32_382 c0_i32_385
  let v774 : BitVec 32 := Scalar.extui v773
  let c0_i32_386 : BitVec 32 := 0#32
  let v775 : BitVec 1 := Scalar.cmpi .slt c128_i32_382 c0_i32_386
  let v776 : BitVec 32 := Scalar.extui v775
  let v777 : BitVec 32 := Scalar.subi v774 v776
  let v778 : BitVec 1 := Scalar.cmpi .ne v772 v777
  let v779 : BitVec 32 := Scalar.remsi v766 c128_i32_382
  let c0_i32_387 : BitVec 32 := 0#32
  let v780 : BitVec 1 := Scalar.cmpi .ne v779 c0_i32_387
  let v781 : BitVec 1 := Scalar.andi v778 v780
  let v767 : BitVec 32 := Scalar.divsi v766 c128_i32_382
  let c1_i32_388 : BitVec 32 := 1#32
  let v782 : BitVec 32 := Scalar.subi v767 c1_i32_388
  let v783 : BitVec 32 := Scalar.select v781 v782 v767
  let c128_i32_389 : BitVec 32 := 128#32
  let v784 : BitVec 32 := Scalar.muli v783 c128_i32_389
  let v785 : BitVec 32 := v784
  let v786 : Index := Scalar.indexCast v785
  ![1, 0, v786.toNat]

def k0_chk19 (i : grid0.Coords) (v766 : BitVec 32) : Prop :=
  (∀ (k0_h1 : k0_cond1 i = 1#1), 128 ∣ (k0_mult37 v766).toNat) ∧
  (∀ (k0_h1 : k0_cond1 i = 1#1), ∀ a, (k0_off54 v766) a + S1x64x128.size a ≤ S2x64x768.size a)
theorem k0_mult37_dvd : ∀ (i : grid0.Coords) (v766 : BitVec 32) (k0_hw19 : k0_chk19 i v766), ∀ (k0_h1 : k0_cond1 i = 1#1), 128 ∣ (k0_mult37 v766).toNat := fun i v766 k0_hw19 k0_h1 => k0_hw19.1 k0_h1
theorem k0_off54_inb : ∀ (i : grid0.Coords) (v766 : BitVec 32) (k0_hw19 : k0_chk19 i v766), ∀ (k0_h1 : k0_cond1 i = 1#1), ∀ a, (k0_off54 v766) a + S1x64x128.size a ≤ S2x64x768.size a := fun i v766 k0_hw19 k0_h1 => k0_hw19.2 k0_h1

def k0_off55 (i : grid0.Coords) (v1 : BitVec 32) (k0_t6 : Fin (k0_t6_loop v1).trips) : Fin 2 → Nat :=
  let arg0 : BitVec 32 := BitVec.ofNat 32 (i 0).val
  let v811 : Index := Scalar.indexCast arg0
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c2_i32_400 : BitVec 32 := 2#32
  let v809 : BitVec 32 := Scalar.muli arg21 c2_i32_400
  let c0_i32_401 : BitVec 32 := 0#32
  let v810 : BitVec 32 := Scalar.addi v809 c0_i32_401
  let v812 : Index := Scalar.indexCast v810
  ![v811.toNat, v812.toNat]
def k0_mult38 (v813 : BitVec 32) : BitVec 32 :=
  let c0_i32_403 : BitVec 32 := 0#32
  let v815 : BitVec 1 := Scalar.cmpi .sgt v813 c0_i32_403
  let v816 : BitVec 32 := Scalar.extui v815
  let c0_i32_404 : BitVec 32 := 0#32
  let v817 : BitVec 1 := Scalar.cmpi .slt v813 c0_i32_404
  let v818 : BitVec 32 := Scalar.extui v817
  let v819 : BitVec 32 := Scalar.subi v816 v818
  let c128_i32_402 : BitVec 32 := 128#32
  let c0_i32_405 : BitVec 32 := 0#32
  let v820 : BitVec 1 := Scalar.cmpi .sgt c128_i32_402 c0_i32_405
  let v821 : BitVec 32 := Scalar.extui v820
  let c0_i32_406 : BitVec 32 := 0#32
  let v822 : BitVec 1 := Scalar.cmpi .slt c128_i32_402 c0_i32_406
  let v823 : BitVec 32 := Scalar.extui v822
  let v824 : BitVec 32 := Scalar.subi v821 v823
  let v825 : BitVec 1 := Scalar.cmpi .ne v819 v824
  let v826 : BitVec 32 := Scalar.remsi v813 c128_i32_402
  let c0_i32_407 : BitVec 32 := 0#32
  let v827 : BitVec 1 := Scalar.cmpi .ne v826 c0_i32_407
  let v828 : BitVec 1 := Scalar.andi v825 v827
  let v814 : BitVec 32 := Scalar.divsi v813 c128_i32_402
  let c1_i32_408 : BitVec 32 := 1#32
  let v829 : BitVec 32 := Scalar.subi v814 c1_i32_408
  let v830 : BitVec 32 := Scalar.select v828 v829 v814
  let c128_i32_409 : BitVec 32 := 128#32
  let v831 : BitVec 32 := Scalar.muli v830 c128_i32_409
  v831

def k0_off56 (v813 : BitVec 32) : Fin 3 → Nat :=
  let c1_410 : Index := 1#32
  let c0_411 : Index := 0#32
  let c0_i32_403 : BitVec 32 := 0#32
  let v815 : BitVec 1 := Scalar.cmpi .sgt v813 c0_i32_403
  let v816 : BitVec 32 := Scalar.extui v815
  let c0_i32_404 : BitVec 32 := 0#32
  let v817 : BitVec 1 := Scalar.cmpi .slt v813 c0_i32_404
  let v818 : BitVec 32 := Scalar.extui v817
  let v819 : BitVec 32 := Scalar.subi v816 v818
  let c128_i32_402 : BitVec 32 := 128#32
  let c0_i32_405 : BitVec 32 := 0#32
  let v820 : BitVec 1 := Scalar.cmpi .sgt c128_i32_402 c0_i32_405
  let v821 : BitVec 32 := Scalar.extui v820
  let c0_i32_406 : BitVec 32 := 0#32
  let v822 : BitVec 1 := Scalar.cmpi .slt c128_i32_402 c0_i32_406
  let v823 : BitVec 32 := Scalar.extui v822
  let v824 : BitVec 32 := Scalar.subi v821 v823
  let v825 : BitVec 1 := Scalar.cmpi .ne v819 v824
  let v826 : BitVec 32 := Scalar.remsi v813 c128_i32_402
  let c0_i32_407 : BitVec 32 := 0#32
  let v827 : BitVec 1 := Scalar.cmpi .ne v826 c0_i32_407
  let v828 : BitVec 1 := Scalar.andi v825 v827
  let v814 : BitVec 32 := Scalar.divsi v813 c128_i32_402
  let c1_i32_408 : BitVec 32 := 1#32
  let v829 : BitVec 32 := Scalar.subi v814 c1_i32_408
  let v830 : BitVec 32 := Scalar.select v828 v829 v814
  let c128_i32_409 : BitVec 32 := 128#32
  let v831 : BitVec 32 := Scalar.muli v830 c128_i32_409
  let v832 : BitVec 32 := v831
  let v833 : Index := Scalar.indexCast v832
  ![1, 0, v833.toNat]

def k0_chk20 (i : grid0.Coords) (v813 : BitVec 32) : Prop :=
  (∀ (k0_h1 : k0_cond1 i = 1#1), 128 ∣ (k0_mult38 v813).toNat) ∧
  (∀ (k0_h1 : k0_cond1 i = 1#1), ∀ a, (k0_off56 v813) a + S1x64x128.size a ≤ S2x64x768.size a)
theorem k0_mult38_dvd : ∀ (i : grid0.Coords) (v813 : BitVec 32) (k0_hw20 : k0_chk20 i v813), ∀ (k0_h1 : k0_cond1 i = 1#1), 128 ∣ (k0_mult38 v813).toNat := fun i v813 k0_hw20 k0_h1 => k0_hw20.1 k0_h1
theorem k0_off56_inb : ∀ (i : grid0.Coords) (v813 : BitVec 32) (k0_hw20 : k0_chk20 i v813), ∀ (k0_h1 : k0_cond1 i = 1#1), ∀ a, (k0_off56 v813) a + S1x64x128.size a ≤ S2x64x768.size a := fun i v813 k0_hw20 k0_h1 => k0_hw20.2 k0_h1

def k0_off57 (i : grid0.Coords) (v1 : BitVec 32) (k0_t6 : Fin (k0_t6_loop v1).trips) : Fin 2 → Nat :=
  let arg0 : BitVec 32 := BitVec.ofNat 32 (i 0).val
  let v857 : Index := Scalar.indexCast arg0
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c2_i32_420 : BitVec 32 := 2#32
  let v855 : BitVec 32 := Scalar.muli arg21 c2_i32_420
  let c1_i32_421 : BitVec 32 := 1#32
  let v856 : BitVec 32 := Scalar.addi v855 c1_i32_421
  let v858 : Index := Scalar.indexCast v856
  ![v857.toNat, v858.toNat]
def k0_mult39 (v859 : BitVec 32) : BitVec 32 :=
  let c0_i32_423 : BitVec 32 := 0#32
  let v861 : BitVec 1 := Scalar.cmpi .sgt v859 c0_i32_423
  let v862 : BitVec 32 := Scalar.extui v861
  let c0_i32_424 : BitVec 32 := 0#32
  let v863 : BitVec 1 := Scalar.cmpi .slt v859 c0_i32_424
  let v864 : BitVec 32 := Scalar.extui v863
  let v865 : BitVec 32 := Scalar.subi v862 v864
  let c128_i32_422 : BitVec 32 := 128#32
  let c0_i32_425 : BitVec 32 := 0#32
  let v866 : BitVec 1 := Scalar.cmpi .sgt c128_i32_422 c0_i32_425
  let v867 : BitVec 32 := Scalar.extui v866
  let c0_i32_426 : BitVec 32 := 0#32
  let v868 : BitVec 1 := Scalar.cmpi .slt c128_i32_422 c0_i32_426
  let v869 : BitVec 32 := Scalar.extui v868
  let v870 : BitVec 32 := Scalar.subi v867 v869
  let v871 : BitVec 1 := Scalar.cmpi .ne v865 v870
  let v872 : BitVec 32 := Scalar.remsi v859 c128_i32_422
  let c0_i32_427 : BitVec 32 := 0#32
  let v873 : BitVec 1 := Scalar.cmpi .ne v872 c0_i32_427
  let v874 : BitVec 1 := Scalar.andi v871 v873
  let v860 : BitVec 32 := Scalar.divsi v859 c128_i32_422
  let c1_i32_428 : BitVec 32 := 1#32
  let v875 : BitVec 32 := Scalar.subi v860 c1_i32_428
  let v876 : BitVec 32 := Scalar.select v874 v875 v860
  let c128_i32_429 : BitVec 32 := 128#32
  let v877 : BitVec 32 := Scalar.muli v876 c128_i32_429
  v877

def k0_off58 (v859 : BitVec 32) : Fin 3 → Nat :=
  let c1_430 : Index := 1#32
  let c0_431 : Index := 0#32
  let c0_i32_423 : BitVec 32 := 0#32
  let v861 : BitVec 1 := Scalar.cmpi .sgt v859 c0_i32_423
  let v862 : BitVec 32 := Scalar.extui v861
  let c0_i32_424 : BitVec 32 := 0#32
  let v863 : BitVec 1 := Scalar.cmpi .slt v859 c0_i32_424
  let v864 : BitVec 32 := Scalar.extui v863
  let v865 : BitVec 32 := Scalar.subi v862 v864
  let c128_i32_422 : BitVec 32 := 128#32
  let c0_i32_425 : BitVec 32 := 0#32
  let v866 : BitVec 1 := Scalar.cmpi .sgt c128_i32_422 c0_i32_425
  let v867 : BitVec 32 := Scalar.extui v866
  let c0_i32_426 : BitVec 32 := 0#32
  let v868 : BitVec 1 := Scalar.cmpi .slt c128_i32_422 c0_i32_426
  let v869 : BitVec 32 := Scalar.extui v868
  let v870 : BitVec 32 := Scalar.subi v867 v869
  let v871 : BitVec 1 := Scalar.cmpi .ne v865 v870
  let v872 : BitVec 32 := Scalar.remsi v859 c128_i32_422
  let c0_i32_427 : BitVec 32 := 0#32
  let v873 : BitVec 1 := Scalar.cmpi .ne v872 c0_i32_427
  let v874 : BitVec 1 := Scalar.andi v871 v873
  let v860 : BitVec 32 := Scalar.divsi v859 c128_i32_422
  let c1_i32_428 : BitVec 32 := 1#32
  let v875 : BitVec 32 := Scalar.subi v860 c1_i32_428
  let v876 : BitVec 32 := Scalar.select v874 v875 v860
  let c128_i32_429 : BitVec 32 := 128#32
  let v877 : BitVec 32 := Scalar.muli v876 c128_i32_429
  let v878 : BitVec 32 := v877
  let v879 : Index := Scalar.indexCast v878
  ![1, 0, v879.toNat]

def k0_chk21 (i : grid0.Coords) (v859 : BitVec 32) : Prop :=
  (∀ (k0_h1 : k0_cond1 i = 1#1), 128 ∣ (k0_mult39 v859).toNat) ∧
  (∀ (k0_h1 : k0_cond1 i = 1#1), ∀ a, (k0_off58 v859) a + S1x64x128.size a ≤ S2x64x768.size a)
theorem k0_mult39_dvd : ∀ (i : grid0.Coords) (v859 : BitVec 32) (k0_hw21 : k0_chk21 i v859), ∀ (k0_h1 : k0_cond1 i = 1#1), 128 ∣ (k0_mult39 v859).toNat := fun i v859 k0_hw21 k0_h1 => k0_hw21.1 k0_h1
theorem k0_off58_inb : ∀ (i : grid0.Coords) (v859 : BitVec 32) (k0_hw21 : k0_chk21 i v859), ∀ (k0_h1 : k0_cond1 i = 1#1), ∀ a, (k0_off58 v859) a + S1x64x128.size a ≤ S2x64x768.size a := fun i v859 k0_hw21 k0_h1 => k0_hw21.2 k0_h1

def k0_mult40 (v1 : BitVec 32) (k0_t6 : Fin (k0_t6_loop v1).trips) : BitVec 32 :=
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  v504
def k0_off59 (v1 : BitVec 32) (k0_t6 : Fin (k0_t6_loop v1).trips) : Fin 3 → Nat :=
  let c1_440 : Index := 1#32
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  let v902 : BitVec 32 := v504
  let v903 : Index := Scalar.indexCast v902
  let c0_441 : Index := 0#32
  ![1, v903.toNat, 0]
def k0_mult41 (v1 : BitVec 32) (k0_t6 : Fin (k0_t6_loop v1).trips) : BitVec 32 :=
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  v504
def k0_off60 (v1 : BitVec 32) (k0_t6 : Fin (k0_t6_loop v1).trips) : Fin 3 → Nat :=
  let c1_442 : Index := 1#32
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  let v910 : BitVec 32 := v504
  let v911 : Index := Scalar.indexCast v910
  let c0_443 : Index := 0#32
  ![1, v911.toNat, 0]
def k0_mult42 (v1 : BitVec 32) (k0_t6 : Fin (k0_t6_loop v1).trips) : BitVec 32 :=
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  v504
def k0_off61 (v1 : BitVec 32) (k0_t6 : Fin (k0_t6_loop v1).trips) : Fin 3 → Nat :=
  let c1_445 : Index := 1#32
  let c0_446 : Index := 0#32
  let c0_i32_269 : BitVec 32 := 0#32
  let c256_i32_259 : BitVec 32 := 256#32
  let v479 : BitVec 32 := Scalar.addi v1 c256_i32_259
  let c1_i32_260 : BitVec 32 := 1#32
  let v480 : BitVec 32 := Scalar.subi v479 c1_i32_260
  let c0_i32_262 : BitVec 32 := 0#32
  let v482 : BitVec 1 := Scalar.cmpi .sgt v480 c0_i32_262
  let v483 : BitVec 32 := Scalar.extui v482
  let c0_i32_263 : BitVec 32 := 0#32
  let v484 : BitVec 1 := Scalar.cmpi .slt v480 c0_i32_263
  let v485 : BitVec 32 := Scalar.extui v484
  let v486 : BitVec 32 := Scalar.subi v483 v485
  let c256_i32_261 : BitVec 32 := 256#32
  let c0_i32_264 : BitVec 32 := 0#32
  let v487 : BitVec 1 := Scalar.cmpi .sgt c256_i32_261 c0_i32_264
  let v488 : BitVec 32 := Scalar.extui v487
  let c0_i32_265 : BitVec 32 := 0#32
  let v489 : BitVec 1 := Scalar.cmpi .slt c256_i32_261 c0_i32_265
  let v490 : BitVec 32 := Scalar.extui v489
  let v491 : BitVec 32 := Scalar.subi v488 v490
  let v492 : BitVec 1 := Scalar.cmpi .ne v486 v491
  let v493 : BitVec 32 := Scalar.remsi v480 c256_i32_261
  let c0_i32_266 : BitVec 32 := 0#32
  let v494 : BitVec 1 := Scalar.cmpi .ne v493 c0_i32_266
  let v495 : BitVec 1 := Scalar.andi v492 v494
  let v481 : BitVec 32 := Scalar.divsi v480 c256_i32_261
  let c1_i32_267 : BitVec 32 := 1#32
  let v496 : BitVec 32 := Scalar.subi v481 c1_i32_267
  let v497 : BitVec 32 := Scalar.select v495 v496 v481
  let c2_i32 : BitVec 32 := 2#32
  let v498 : BitVec 32 := Scalar.muli v497 c2_i32
  let v499 : BitVec 32 := Scalar.subi v498 c0_i32_269
  let c1_i32_270 : BitVec 32 := 1#32
  let v501 : BitVec 32 := Scalar.divsi v499 c1_i32_270
  let v502 : BitVec 32 := Scalar.muli v501 c1_i32_270
  let v503 : BitVec 32 := Scalar.addi c0_i32_269 v502
  let c1_i32_272 : BitVec 32 := 1#32
  let arg21 : BitVec 32 := Scf.iv v503 c1_i32_272 k0_t6
  let c128_i32 : BitVec 32 := 128#32
  let v504 : BitVec 32 := Scalar.muli arg21 c128_i32
  let v922 : BitVec 32 := v504
  let v923 : Index := Scalar.indexCast v922
  ![1, 0, v923.toNat]
@[reducible] def k0_t7_loop (i : grid0.Coords) : Scf.Loop 32 :=
  let c0_i32_37 : BitVec 32 := 0#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let c0_i32_30 : BitVec 32 := 0#32
  let v56 : BitVec 1 := Scalar.cmpi .sgt v52 c0_i32_30
  let v57 : BitVec 32 := Scalar.extui v56
  let c0_i32_31 : BitVec 32 := 0#32
  let v58 : BitVec 1 := Scalar.cmpi .slt v52 c0_i32_31
  let v59 : BitVec 32 := Scalar.extui v58
  let v60 : BitVec 32 := Scalar.subi v57 v59
  let c256_i32_29 : BitVec 32 := 256#32
  let c0_i32_32 : BitVec 32 := 0#32
  let v61 : BitVec 1 := Scalar.cmpi .sgt c256_i32_29 c0_i32_32
  let v62 : BitVec 32 := Scalar.extui v61
  let c0_i32_33 : BitVec 32 := 0#32
  let v63 : BitVec 1 := Scalar.cmpi .slt c256_i32_29 c0_i32_33
  let v64 : BitVec 32 := Scalar.extui v63
  let v65 : BitVec 32 := Scalar.subi v62 v64
  let v66 : BitVec 1 := Scalar.cmpi .ne v60 v65
  let v67 : BitVec 32 := Scalar.remsi v52 c256_i32_29
  let c0_i32_34 : BitVec 32 := 0#32
  let v68 : BitVec 1 := Scalar.cmpi .ne v67 c0_i32_34
  let v69 : BitVec 1 := Scalar.andi v66 v68
  let v55 : BitVec 32 := Scalar.divsi v52 c256_i32_29
  let c1_i32_35 : BitVec 32 := 1#32
  let v70 : BitVec 32 := Scalar.subi v55 c1_i32_35
  let v71 : BitVec 32 := Scalar.select v69 v70 v55
  let v73 : BitVec 32 := Scalar.subi v71 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_39 : BitVec 32 := 1#32
  ⟨c0_i32_37, v77, c1_i32_39⟩
def k0_mult43 (i : grid0.Coords) (k0_t7 : Fin (k0_t7_loop i).trips) : BitVec 32 :=
  let c12288_i32_83 : BitVec 32 := 12288#32
  let c0_i32_37 : BitVec 32 := 0#32
  let c1_i32_39 : BitVec 32 := 1#32
  let arg21 : BitVec 32 := Scf.iv c0_i32_37 c1_i32_39 k0_t7
  let c256_i32_82 : BitVec 32 := 256#32
  let v211 : BitVec 32 := Scalar.muli arg21 c256_i32_82
  let v212 : BitVec 32 := Scalar.addi c12288_i32_83 v211
  v212
def k0_off62 (i : grid0.Coords) (k0_t7 : Fin (k0_t7_loop i).trips) : Fin 3 → Nat :=
  let arg2 : BitVec 32 := BitVec.ofNat 32 (i 2).val
  let v214 : Index := Scalar.indexCast arg2
  let c12288_i32_83 : BitVec 32 := 12288#32
  let c0_i32_37 : BitVec 32 := 0#32
  let c1_i32_39 : BitVec 32 := 1#32
  let arg21 : BitVec 32 := Scf.iv c0_i32_37 c1_i32_39 k0_t7
  let c256_i32_82 : BitVec 32 := 256#32
  let v211 : BitVec 32 := Scalar.muli arg21 c256_i32_82
  let v212 : BitVec 32 := Scalar.addi c12288_i32_83 v211
  let v213 : BitVec 32 := v212
  let v215 : Index := Scalar.indexCast v213
  let c0_84 : Index := 0#32
  ![v214.toNat, v215.toNat, 0]
def k0_mult44 (i : grid0.Coords) (k0_t7 : Fin (k0_t7_loop i).trips) : BitVec 32 :=
  let c12288_i32_83 : BitVec 32 := 12288#32
  let c0_i32_37 : BitVec 32 := 0#32
  let c1_i32_39 : BitVec 32 := 1#32
  let arg21 : BitVec 32 := Scf.iv c0_i32_37 c1_i32_39 k0_t7
  let c256_i32_82 : BitVec 32 := 256#32
  let v211 : BitVec 32 := Scalar.muli arg21 c256_i32_82
  let v212 : BitVec 32 := Scalar.addi c12288_i32_83 v211
  v212
def k0_mult45 (i : grid0.Coords) (k0_t7 : Fin (k0_t7_loop i).trips) : BitVec 32 :=
  let c12288_i32_83 : BitVec 32 := 12288#32
  let c0_i32_37 : BitVec 32 := 0#32
  let c1_i32_39 : BitVec 32 := 1#32
  let arg21 : BitVec 32 := Scf.iv c0_i32_37 c1_i32_39 k0_t7
  let c256_i32_82 : BitVec 32 := 256#32
  let v211 : BitVec 32 := Scalar.muli arg21 c256_i32_82
  let v212 : BitVec 32 := Scalar.addi c12288_i32_83 v211
  v212
def k0_off63 (i : grid0.Coords) (k0_t7 : Fin (k0_t7_loop i).trips) : Fin 3 → Nat :=
  let arg2 : BitVec 32 := BitVec.ofNat 32 (i 2).val
  let v243 : Index := Scalar.indexCast arg2
  let c0_89 : Index := 0#32
  let c12288_i32_83 : BitVec 32 := 12288#32
  let c0_i32_37 : BitVec 32 := 0#32
  let c1_i32_39 : BitVec 32 := 1#32
  let arg21 : BitVec 32 := Scf.iv c0_i32_37 c1_i32_39 k0_t7
  let c256_i32_82 : BitVec 32 := 256#32
  let v211 : BitVec 32 := Scalar.muli arg21 c256_i32_82
  let v212 : BitVec 32 := Scalar.addi c12288_i32_83 v211
  let v242 : BitVec 32 := v212
  let v244 : Index := Scalar.indexCast v242
  ![v243.toNat, 0, v244.toNat]
@[reducible] def k0_t8_loop (i : grid0.Coords) : Scf.Loop 32 :=
  let c0_i32_37 : BitVec 32 := 0#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let c0_i32_30 : BitVec 32 := 0#32
  let v56 : BitVec 1 := Scalar.cmpi .sgt v52 c0_i32_30
  let v57 : BitVec 32 := Scalar.extui v56
  let c0_i32_31 : BitVec 32 := 0#32
  let v58 : BitVec 1 := Scalar.cmpi .slt v52 c0_i32_31
  let v59 : BitVec 32 := Scalar.extui v58
  let v60 : BitVec 32 := Scalar.subi v57 v59
  let c256_i32_29 : BitVec 32 := 256#32
  let c0_i32_32 : BitVec 32 := 0#32
  let v61 : BitVec 1 := Scalar.cmpi .sgt c256_i32_29 c0_i32_32
  let v62 : BitVec 32 := Scalar.extui v61
  let c0_i32_33 : BitVec 32 := 0#32
  let v63 : BitVec 1 := Scalar.cmpi .slt c256_i32_29 c0_i32_33
  let v64 : BitVec 32 := Scalar.extui v63
  let v65 : BitVec 32 := Scalar.subi v62 v64
  let v66 : BitVec 1 := Scalar.cmpi .ne v60 v65
  let v67 : BitVec 32 := Scalar.remsi v52 c256_i32_29
  let c0_i32_34 : BitVec 32 := 0#32
  let v68 : BitVec 1 := Scalar.cmpi .ne v67 c0_i32_34
  let v69 : BitVec 1 := Scalar.andi v66 v68
  let v55 : BitVec 32 := Scalar.divsi v52 c256_i32_29
  let c1_i32_35 : BitVec 32 := 1#32
  let v70 : BitVec 32 := Scalar.subi v55 c1_i32_35
  let v71 : BitVec 32 := Scalar.select v69 v70 v55
  let v73 : BitVec 32 := Scalar.subi v71 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let v74 : BitVec 32 := Scalar.addi c0_i32_37 v73
  let c1_i32_40 : BitVec 32 := 1#32
  ⟨v77, v74, c1_i32_40⟩
def k0_mult46 (i : grid0.Coords) (k0_t8 : Fin (k0_t8_loop i).trips) : BitVec 32 :=
  let c12288_i32_83 : BitVec 32 := 12288#32
  let c0_i32_37 : BitVec 32 := 0#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let c0_i32_30 : BitVec 32 := 0#32
  let v56 : BitVec 1 := Scalar.cmpi .sgt v52 c0_i32_30
  let v57 : BitVec 32 := Scalar.extui v56
  let c0_i32_31 : BitVec 32 := 0#32
  let v58 : BitVec 1 := Scalar.cmpi .slt v52 c0_i32_31
  let v59 : BitVec 32 := Scalar.extui v58
  let v60 : BitVec 32 := Scalar.subi v57 v59
  let c256_i32_29 : BitVec 32 := 256#32
  let c0_i32_32 : BitVec 32 := 0#32
  let v61 : BitVec 1 := Scalar.cmpi .sgt c256_i32_29 c0_i32_32
  let v62 : BitVec 32 := Scalar.extui v61
  let c0_i32_33 : BitVec 32 := 0#32
  let v63 : BitVec 1 := Scalar.cmpi .slt c256_i32_29 c0_i32_33
  let v64 : BitVec 32 := Scalar.extui v63
  let v65 : BitVec 32 := Scalar.subi v62 v64
  let v66 : BitVec 1 := Scalar.cmpi .ne v60 v65
  let v67 : BitVec 32 := Scalar.remsi v52 c256_i32_29
  let c0_i32_34 : BitVec 32 := 0#32
  let v68 : BitVec 1 := Scalar.cmpi .ne v67 c0_i32_34
  let v69 : BitVec 1 := Scalar.andi v66 v68
  let v55 : BitVec 32 := Scalar.divsi v52 c256_i32_29
  let c1_i32_35 : BitVec 32 := 1#32
  let v70 : BitVec 32 := Scalar.subi v55 c1_i32_35
  let v71 : BitVec 32 := Scalar.select v69 v70 v55
  let v73 : BitVec 32 := Scalar.subi v71 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg21 : BitVec 32 := Scf.iv v77 c1_i32_40 k0_t8
  let c256_i32_82 : BitVec 32 := 256#32
  let v211 : BitVec 32 := Scalar.muli arg21 c256_i32_82
  let v212 : BitVec 32 := Scalar.addi c12288_i32_83 v211
  v212
def k0_off64 (i : grid0.Coords) (k0_t8 : Fin (k0_t8_loop i).trips) : Fin 3 → Nat :=
  let arg2 : BitVec 32 := BitVec.ofNat 32 (i 2).val
  let v214 : Index := Scalar.indexCast arg2
  let c12288_i32_83 : BitVec 32 := 12288#32
  let c0_i32_37 : BitVec 32 := 0#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let c0_i32_30 : BitVec 32 := 0#32
  let v56 : BitVec 1 := Scalar.cmpi .sgt v52 c0_i32_30
  let v57 : BitVec 32 := Scalar.extui v56
  let c0_i32_31 : BitVec 32 := 0#32
  let v58 : BitVec 1 := Scalar.cmpi .slt v52 c0_i32_31
  let v59 : BitVec 32 := Scalar.extui v58
  let v60 : BitVec 32 := Scalar.subi v57 v59
  let c256_i32_29 : BitVec 32 := 256#32
  let c0_i32_32 : BitVec 32 := 0#32
  let v61 : BitVec 1 := Scalar.cmpi .sgt c256_i32_29 c0_i32_32
  let v62 : BitVec 32 := Scalar.extui v61
  let c0_i32_33 : BitVec 32 := 0#32
  let v63 : BitVec 1 := Scalar.cmpi .slt c256_i32_29 c0_i32_33
  let v64 : BitVec 32 := Scalar.extui v63
  let v65 : BitVec 32 := Scalar.subi v62 v64
  let v66 : BitVec 1 := Scalar.cmpi .ne v60 v65
  let v67 : BitVec 32 := Scalar.remsi v52 c256_i32_29
  let c0_i32_34 : BitVec 32 := 0#32
  let v68 : BitVec 1 := Scalar.cmpi .ne v67 c0_i32_34
  let v69 : BitVec 1 := Scalar.andi v66 v68
  let v55 : BitVec 32 := Scalar.divsi v52 c256_i32_29
  let c1_i32_35 : BitVec 32 := 1#32
  let v70 : BitVec 32 := Scalar.subi v55 c1_i32_35
  let v71 : BitVec 32 := Scalar.select v69 v70 v55
  let v73 : BitVec 32 := Scalar.subi v71 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg21 : BitVec 32 := Scf.iv v77 c1_i32_40 k0_t8
  let c256_i32_82 : BitVec 32 := 256#32
  let v211 : BitVec 32 := Scalar.muli arg21 c256_i32_82
  let v212 : BitVec 32 := Scalar.addi c12288_i32_83 v211
  let v213 : BitVec 32 := v212
  let v215 : Index := Scalar.indexCast v213
  let c0_84 : Index := 0#32
  ![v214.toNat, v215.toNat, 0]
def k0_mult47 (i : grid0.Coords) (k0_t8 : Fin (k0_t8_loop i).trips) : BitVec 32 :=
  let c12288_i32_83 : BitVec 32 := 12288#32
  let c0_i32_37 : BitVec 32 := 0#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let c0_i32_30 : BitVec 32 := 0#32
  let v56 : BitVec 1 := Scalar.cmpi .sgt v52 c0_i32_30
  let v57 : BitVec 32 := Scalar.extui v56
  let c0_i32_31 : BitVec 32 := 0#32
  let v58 : BitVec 1 := Scalar.cmpi .slt v52 c0_i32_31
  let v59 : BitVec 32 := Scalar.extui v58
  let v60 : BitVec 32 := Scalar.subi v57 v59
  let c256_i32_29 : BitVec 32 := 256#32
  let c0_i32_32 : BitVec 32 := 0#32
  let v61 : BitVec 1 := Scalar.cmpi .sgt c256_i32_29 c0_i32_32
  let v62 : BitVec 32 := Scalar.extui v61
  let c0_i32_33 : BitVec 32 := 0#32
  let v63 : BitVec 1 := Scalar.cmpi .slt c256_i32_29 c0_i32_33
  let v64 : BitVec 32 := Scalar.extui v63
  let v65 : BitVec 32 := Scalar.subi v62 v64
  let v66 : BitVec 1 := Scalar.cmpi .ne v60 v65
  let v67 : BitVec 32 := Scalar.remsi v52 c256_i32_29
  let c0_i32_34 : BitVec 32 := 0#32
  let v68 : BitVec 1 := Scalar.cmpi .ne v67 c0_i32_34
  let v69 : BitVec 1 := Scalar.andi v66 v68
  let v55 : BitVec 32 := Scalar.divsi v52 c256_i32_29
  let c1_i32_35 : BitVec 32 := 1#32
  let v70 : BitVec 32 := Scalar.subi v55 c1_i32_35
  let v71 : BitVec 32 := Scalar.select v69 v70 v55
  let v73 : BitVec 32 := Scalar.subi v71 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg21 : BitVec 32 := Scf.iv v77 c1_i32_40 k0_t8
  let c256_i32_82 : BitVec 32 := 256#32
  let v211 : BitVec 32 := Scalar.muli arg21 c256_i32_82
  let v212 : BitVec 32 := Scalar.addi c12288_i32_83 v211
  v212
def k0_mult48 (i : grid0.Coords) (k0_t8 : Fin (k0_t8_loop i).trips) : BitVec 32 :=
  let c12288_i32_83 : BitVec 32 := 12288#32
  let c0_i32_37 : BitVec 32 := 0#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let c0_i32_30 : BitVec 32 := 0#32
  let v56 : BitVec 1 := Scalar.cmpi .sgt v52 c0_i32_30
  let v57 : BitVec 32 := Scalar.extui v56
  let c0_i32_31 : BitVec 32 := 0#32
  let v58 : BitVec 1 := Scalar.cmpi .slt v52 c0_i32_31
  let v59 : BitVec 32 := Scalar.extui v58
  let v60 : BitVec 32 := Scalar.subi v57 v59
  let c256_i32_29 : BitVec 32 := 256#32
  let c0_i32_32 : BitVec 32 := 0#32
  let v61 : BitVec 1 := Scalar.cmpi .sgt c256_i32_29 c0_i32_32
  let v62 : BitVec 32 := Scalar.extui v61
  let c0_i32_33 : BitVec 32 := 0#32
  let v63 : BitVec 1 := Scalar.cmpi .slt c256_i32_29 c0_i32_33
  let v64 : BitVec 32 := Scalar.extui v63
  let v65 : BitVec 32 := Scalar.subi v62 v64
  let v66 : BitVec 1 := Scalar.cmpi .ne v60 v65
  let v67 : BitVec 32 := Scalar.remsi v52 c256_i32_29
  let c0_i32_34 : BitVec 32 := 0#32
  let v68 : BitVec 1 := Scalar.cmpi .ne v67 c0_i32_34
  let v69 : BitVec 1 := Scalar.andi v66 v68
  let v55 : BitVec 32 := Scalar.divsi v52 c256_i32_29
  let c1_i32_35 : BitVec 32 := 1#32
  let v70 : BitVec 32 := Scalar.subi v55 c1_i32_35
  let v71 : BitVec 32 := Scalar.select v69 v70 v55
  let v73 : BitVec 32 := Scalar.subi v71 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg21 : BitVec 32 := Scf.iv v77 c1_i32_40 k0_t8
  let c256_i32_82 : BitVec 32 := 256#32
  let v211 : BitVec 32 := Scalar.muli arg21 c256_i32_82
  let v212 : BitVec 32 := Scalar.addi c12288_i32_83 v211
  v212
def k0_off65 (i : grid0.Coords) (k0_t8 : Fin (k0_t8_loop i).trips) : Fin 3 → Nat :=
  let arg2 : BitVec 32 := BitVec.ofNat 32 (i 2).val
  let v243 : Index := Scalar.indexCast arg2
  let c0_89 : Index := 0#32
  let c12288_i32_83 : BitVec 32 := 12288#32
  let c0_i32_37 : BitVec 32 := 0#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let c0_i32_30 : BitVec 32 := 0#32
  let v56 : BitVec 1 := Scalar.cmpi .sgt v52 c0_i32_30
  let v57 : BitVec 32 := Scalar.extui v56
  let c0_i32_31 : BitVec 32 := 0#32
  let v58 : BitVec 1 := Scalar.cmpi .slt v52 c0_i32_31
  let v59 : BitVec 32 := Scalar.extui v58
  let v60 : BitVec 32 := Scalar.subi v57 v59
  let c256_i32_29 : BitVec 32 := 256#32
  let c0_i32_32 : BitVec 32 := 0#32
  let v61 : BitVec 1 := Scalar.cmpi .sgt c256_i32_29 c0_i32_32
  let v62 : BitVec 32 := Scalar.extui v61
  let c0_i32_33 : BitVec 32 := 0#32
  let v63 : BitVec 1 := Scalar.cmpi .slt c256_i32_29 c0_i32_33
  let v64 : BitVec 32 := Scalar.extui v63
  let v65 : BitVec 32 := Scalar.subi v62 v64
  let v66 : BitVec 1 := Scalar.cmpi .ne v60 v65
  let v67 : BitVec 32 := Scalar.remsi v52 c256_i32_29
  let c0_i32_34 : BitVec 32 := 0#32
  let v68 : BitVec 1 := Scalar.cmpi .ne v67 c0_i32_34
  let v69 : BitVec 1 := Scalar.andi v66 v68
  let v55 : BitVec 32 := Scalar.divsi v52 c256_i32_29
  let c1_i32_35 : BitVec 32 := 1#32
  let v70 : BitVec 32 := Scalar.subi v55 c1_i32_35
  let v71 : BitVec 32 := Scalar.select v69 v70 v55
  let v73 : BitVec 32 := Scalar.subi v71 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg21 : BitVec 32 := Scf.iv v77 c1_i32_40 k0_t8
  let c256_i32_82 : BitVec 32 := 256#32
  let v211 : BitVec 32 := Scalar.muli arg21 c256_i32_82
  let v212 : BitVec 32 := Scalar.addi c12288_i32_83 v211
  let v242 : BitVec 32 := v212
  let v244 : Index := Scalar.indexCast v242
  ![v243.toNat, 0, v244.toNat]
def k0_mult49 (i : grid0.Coords) : BitVec 32 :=
  let c12288_i32 : BitVec 32 := 12288#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let v80 : BitVec 32 := Scalar.addi c12288_i32 v52
  v80
def k0_off66 (i : grid0.Coords) : Fin 3 → Nat :=
  let arg2 : BitVec 32 := BitVec.ofNat 32 (i 2).val
  let v82 : Index := Scalar.indexCast arg2
  let c12288_i32 : BitVec 32 := 12288#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let v80 : BitVec 32 := Scalar.addi c12288_i32 v52
  let v81 : BitVec 32 := v80
  let v83 : Index := Scalar.indexCast v81
  let c0_41 : Index := 0#32
  ![v82.toNat, v83.toNat, 0]
def k0_mult50 (i : grid0.Coords) : BitVec 32 :=
  let c12288_i32 : BitVec 32 := 12288#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let v80 : BitVec 32 := Scalar.addi c12288_i32 v52
  v80
def k0_mult51 (i : grid0.Coords) : BitVec 32 :=
  let c12288_i32 : BitVec 32 := 12288#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let v80 : BitVec 32 := Scalar.addi c12288_i32 v52
  v80
def k0_off67 (i : grid0.Coords) : Fin 3 → Nat :=
  let arg2 : BitVec 32 := BitVec.ofNat 32 (i 2).val
  let v145 : Index := Scalar.indexCast arg2
  let c0_54 : Index := 0#32
  let c12288_i32 : BitVec 32 := 12288#32
  let arg1 : BitVec 32 := BitVec.ofNat 32 (i 1).val
  let c1_i32_17 : BitVec 32 := 1#32
  let v32 : BitVec 32 := Scalar.addi arg1 c1_i32_17
  let c64_i32_18 : BitVec 32 := 64#32
  let v33 : BitVec 32 := Scalar.muli v32 c64_i32_18
  let c1_i32_19 : BitVec 32 := 1#32
  let v34 : BitVec 32 := Scalar.subi v33 c1_i32_19
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c256_i32 : BitVec 32 := 256#32
  let c0_i32_22 : BitVec 32 := 0#32
  let v41 : BitVec 1 := Scalar.cmpi .sgt c256_i32 c0_i32_22
  let v42 : BitVec 32 := Scalar.extui v41
  let c0_i32_23 : BitVec 32 := 0#32
  let v43 : BitVec 1 := Scalar.cmpi .slt c256_i32 c0_i32_23
  let v44 : BitVec 32 := Scalar.extui v43
  let v45 : BitVec 32 := Scalar.subi v42 v44
  let v46 : BitVec 1 := Scalar.cmpi .ne v40 v45
  let v47 : BitVec 32 := Scalar.remsi v34 c256_i32
  let c0_i32_24 : BitVec 32 := 0#32
  let v48 : BitVec 1 := Scalar.cmpi .ne v47 c0_i32_24
  let v49 : BitVec 1 := Scalar.andi v46 v48
  let v35 : BitVec 32 := Scalar.divsi v34 c256_i32
  let c1_i32_25 : BitVec 32 := 1#32
  let v50 : BitVec 32 := Scalar.subi v35 c1_i32_25
  let v51 : BitVec 32 := Scalar.select v49 v50 v35
  let c256_i32_26 : BitVec 32 := 256#32
  let v52 : BitVec 32 := Scalar.muli v51 c256_i32_26
  let v80 : BitVec 32 := Scalar.addi c12288_i32 v52
  let v144 : BitVec 32 := v80
  let v146 : Index := Scalar.indexCast v144
  ![v145.toNat, 0, v146.toNat]
@[reducible] def k0_t9_loop (v1 : BitVec 32) : Scf.Loop 32 :=
  let c0_i32_63 : BitVec 32 := 0#32
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let v169 : BitVec 32 := Scalar.subi v168 c0_i32_63
  let c1_i32_64 : BitVec 32 := 1#32
  let v171 : BitVec 32 := Scalar.divsi v169 c1_i32_64
  let v172 : BitVec 32 := Scalar.muli v171 c1_i32_64
  let v173 : BitVec 32 := Scalar.addi c0_i32_63 v172
  let c1_i32_65 : BitVec 32 := 1#32
  ⟨c0_i32_63, v173, c1_i32_65⟩
def k0_mult52 (v1 : BitVec 32) (k0_t9 : Fin (k0_t9_loop v1).trips) : BitVec 32 :=
  let c0_i32_63 : BitVec 32 := 0#32
  let c1_i32_65 : BitVec 32 := 1#32
  let arg21 : BitVec 32 := Scf.iv c0_i32_63 c1_i32_65 k0_t9
  let c256_i32_82 : BitVec 32 := 256#32
  let v211 : BitVec 32 := Scalar.muli arg21 c256_i32_82
  v211
def k0_off68 (i : grid0.Coords) (v1 : BitVec 32) (k0_t9 : Fin (k0_t9_loop v1).trips) : Fin 3 → Nat :=
  let arg2 : BitVec 32 := BitVec.ofNat 32 (i 2).val
  let v213 : Index := Scalar.indexCast arg2
  let c0_i32_63 : BitVec 32 := 0#32
  let c1_i32_65 : BitVec 32 := 1#32
  let arg21 : BitVec 32 := Scf.iv c0_i32_63 c1_i32_65 k0_t9
  let c256_i32_82 : BitVec 32 := 256#32
  let v211 : BitVec 32 := Scalar.muli arg21 c256_i32_82
  let v212 : BitVec 32 := v211
  let v214 : Index := Scalar.indexCast v212
  let c0_83 : Index := 0#32
  ![v213.toNat, v214.toNat, 0]
def k0_mult53 (v1 : BitVec 32) (k0_t9 : Fin (k0_t9_loop v1).trips) : BitVec 32 :=
  let c0_i32_63 : BitVec 32 := 0#32
  let c1_i32_65 : BitVec 32 := 1#32
  let arg21 : BitVec 32 := Scf.iv c0_i32_63 c1_i32_65 k0_t9
  let c256_i32_82 : BitVec 32 := 256#32
  let v211 : BitVec 32 := Scalar.muli arg21 c256_i32_82
  v211
def k0_mult54 (v1 : BitVec 32) (k0_t9 : Fin (k0_t9_loop v1).trips) : BitVec 32 :=
  let c0_i32_63 : BitVec 32 := 0#32
  let c1_i32_65 : BitVec 32 := 1#32
  let arg21 : BitVec 32 := Scf.iv c0_i32_63 c1_i32_65 k0_t9
  let c256_i32_82 : BitVec 32 := 256#32
  let v211 : BitVec 32 := Scalar.muli arg21 c256_i32_82
  v211
def k0_off69 (i : grid0.Coords) (v1 : BitVec 32) (k0_t9 : Fin (k0_t9_loop v1).trips) : Fin 3 → Nat :=
  let arg2 : BitVec 32 := BitVec.ofNat 32 (i 2).val
  let v242 : Index := Scalar.indexCast arg2
  let c0_88 : Index := 0#32
  let c0_i32_63 : BitVec 32 := 0#32
  let c1_i32_65 : BitVec 32 := 1#32
  let arg21 : BitVec 32 := Scf.iv c0_i32_63 c1_i32_65 k0_t9
  let c256_i32_82 : BitVec 32 := 256#32
  let v211 : BitVec 32 := Scalar.muli arg21 c256_i32_82
  let v241 : BitVec 32 := v211
  let v243 : Index := Scalar.indexCast v241
  ![v242.toNat, 0, v243.toNat]
@[reducible] def k0_t10_loop (v1 : BitVec 32) : Scf.Loop 32 :=
  let c0_i32_63 : BitVec 32 := 0#32
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let v169 : BitVec 32 := Scalar.subi v168 c0_i32_63
  let c1_i32_64 : BitVec 32 := 1#32
  let v171 : BitVec 32 := Scalar.divsi v169 c1_i32_64
  let v172 : BitVec 32 := Scalar.muli v171 c1_i32_64
  let v173 : BitVec 32 := Scalar.addi c0_i32_63 v172
  let v170 : BitVec 32 := Scalar.addi c0_i32_63 v169
  let c1_i32_66 : BitVec 32 := 1#32
  ⟨v173, v170, c1_i32_66⟩
def k0_mult55 (v1 : BitVec 32) (k0_t10 : Fin (k0_t10_loop v1).trips) : BitVec 32 :=
  let c0_i32_63 : BitVec 32 := 0#32
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let v169 : BitVec 32 := Scalar.subi v168 c0_i32_63
  let c1_i32_64 : BitVec 32 := 1#32
  let v171 : BitVec 32 := Scalar.divsi v169 c1_i32_64
  let v172 : BitVec 32 := Scalar.muli v171 c1_i32_64
  let v173 : BitVec 32 := Scalar.addi c0_i32_63 v172
  let c1_i32_66 : BitVec 32 := 1#32
  let arg21 : BitVec 32 := Scf.iv v173 c1_i32_66 k0_t10
  let c256_i32_82 : BitVec 32 := 256#32
  let v211 : BitVec 32 := Scalar.muli arg21 c256_i32_82
  v211
def k0_off70 (i : grid0.Coords) (v1 : BitVec 32) (k0_t10 : Fin (k0_t10_loop v1).trips) : Fin 3 → Nat :=
  let arg2 : BitVec 32 := BitVec.ofNat 32 (i 2).val
  let v213 : Index := Scalar.indexCast arg2
  let c0_i32_63 : BitVec 32 := 0#32
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let v169 : BitVec 32 := Scalar.subi v168 c0_i32_63
  let c1_i32_64 : BitVec 32 := 1#32
  let v171 : BitVec 32 := Scalar.divsi v169 c1_i32_64
  let v172 : BitVec 32 := Scalar.muli v171 c1_i32_64
  let v173 : BitVec 32 := Scalar.addi c0_i32_63 v172
  let c1_i32_66 : BitVec 32 := 1#32
  let arg21 : BitVec 32 := Scf.iv v173 c1_i32_66 k0_t10
  let c256_i32_82 : BitVec 32 := 256#32
  let v211 : BitVec 32 := Scalar.muli arg21 c256_i32_82
  let v212 : BitVec 32 := v211
  let v214 : Index := Scalar.indexCast v212
  let c0_83 : Index := 0#32
  ![v213.toNat, v214.toNat, 0]
def k0_mult56 (v1 : BitVec 32) (k0_t10 : Fin (k0_t10_loop v1).trips) : BitVec 32 :=
  let c0_i32_63 : BitVec 32 := 0#32
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let v169 : BitVec 32 := Scalar.subi v168 c0_i32_63
  let c1_i32_64 : BitVec 32 := 1#32
  let v171 : BitVec 32 := Scalar.divsi v169 c1_i32_64
  let v172 : BitVec 32 := Scalar.muli v171 c1_i32_64
  let v173 : BitVec 32 := Scalar.addi c0_i32_63 v172
  let c1_i32_66 : BitVec 32 := 1#32
  let arg21 : BitVec 32 := Scf.iv v173 c1_i32_66 k0_t10
  let c256_i32_82 : BitVec 32 := 256#32
  let v211 : BitVec 32 := Scalar.muli arg21 c256_i32_82
  v211
def k0_mult57 (v1 : BitVec 32) (k0_t10 : Fin (k0_t10_loop v1).trips) : BitVec 32 :=
  let c0_i32_63 : BitVec 32 := 0#32
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let v169 : BitVec 32 := Scalar.subi v168 c0_i32_63
  let c1_i32_64 : BitVec 32 := 1#32
  let v171 : BitVec 32 := Scalar.divsi v169 c1_i32_64
  let v172 : BitVec 32 := Scalar.muli v171 c1_i32_64
  let v173 : BitVec 32 := Scalar.addi c0_i32_63 v172
  let c1_i32_66 : BitVec 32 := 1#32
  let arg21 : BitVec 32 := Scf.iv v173 c1_i32_66 k0_t10
  let c256_i32_82 : BitVec 32 := 256#32
  let v211 : BitVec 32 := Scalar.muli arg21 c256_i32_82
  v211
def k0_off71 (i : grid0.Coords) (v1 : BitVec 32) (k0_t10 : Fin (k0_t10_loop v1).trips) : Fin 3 → Nat :=
  let arg2 : BitVec 32 := BitVec.ofNat 32 (i 2).val
  let v242 : Index := Scalar.indexCast arg2
  let c0_88 : Index := 0#32
  let c0_i32_63 : BitVec 32 := 0#32
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let v169 : BitVec 32 := Scalar.subi v168 c0_i32_63
  let c1_i32_64 : BitVec 32 := 1#32
  let v171 : BitVec 32 := Scalar.divsi v169 c1_i32_64
  let v172 : BitVec 32 := Scalar.muli v171 c1_i32_64
  let v173 : BitVec 32 := Scalar.addi c0_i32_63 v172
  let c1_i32_66 : BitVec 32 := 1#32
  let arg21 : BitVec 32 := Scf.iv v173 c1_i32_66 k0_t10
  let c256_i32_82 : BitVec 32 := 256#32
  let v211 : BitVec 32 := Scalar.muli arg21 c256_i32_82
  let v241 : BitVec 32 := v211
  let v243 : Index := Scalar.indexCast v241
  ![v242.toNat, 0, v243.toNat]
@[reducible] def k0_t11_loop (v1 : BitVec 32) : Scf.Loop 32 :=
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c256_i32_67 : BitVec 32 := 256#32
  let v176 : BitVec 32 := Scalar.addi v1 c256_i32_67
  let c1_i32_68 : BitVec 32 := 1#32
  let v177 : BitVec 32 := Scalar.subi v176 c1_i32_68
  let c0_i32_70 : BitVec 32 := 0#32
  let v179 : BitVec 1 := Scalar.cmpi .sgt v177 c0_i32_70
  let v180 : BitVec 32 := Scalar.extui v179
  let c0_i32_71 : BitVec 32 := 0#32
  let v181 : BitVec 1 := Scalar.cmpi .slt v177 c0_i32_71
  let v182 : BitVec 32 := Scalar.extui v181
  let v183 : BitVec 32 := Scalar.subi v180 v182
  let c256_i32_69 : BitVec 32 := 256#32
  let c0_i32_72 : BitVec 32 := 0#32
  let v184 : BitVec 1 := Scalar.cmpi .sgt c256_i32_69 c0_i32_72
  let v185 : BitVec 32 := Scalar.extui v184
  let c0_i32_73 : BitVec 32 := 0#32
  let v186 : BitVec 1 := Scalar.cmpi .slt c256_i32_69 c0_i32_73
  let v187 : BitVec 32 := Scalar.extui v186
  let v188 : BitVec 32 := Scalar.subi v185 v187
  let v189 : BitVec 1 := Scalar.cmpi .ne v183 v188
  let v190 : BitVec 32 := Scalar.remsi v177 c256_i32_69
  let c0_i32_74 : BitVec 32 := 0#32
  let v191 : BitVec 1 := Scalar.cmpi .ne v190 c0_i32_74
  let v192 : BitVec 1 := Scalar.andi v189 v191
  let v178 : BitVec 32 := Scalar.divsi v177 c256_i32_69
  let c1_i32_75 : BitVec 32 := 1#32
  let v193 : BitVec 32 := Scalar.subi v178 c1_i32_75
  let v194 : BitVec 32 := Scalar.select v192 v193 v178
  let v195 : BitVec 32 := Scalar.subi v194 v168
  let c1_i32_76 : BitVec 32 := 1#32
  let v197 : BitVec 32 := Scalar.divsi v195 c1_i32_76
  let v198 : BitVec 32 := Scalar.muli v197 c1_i32_76
  let v199 : BitVec 32 := Scalar.addi v168 v198
  let c1_i32_77 : BitVec 32 := 1#32
  ⟨v168, v199, c1_i32_77⟩
def k0_mult58 (v1 : BitVec 32) (k0_t11 : Fin (k0_t11_loop v1).trips) : BitVec 32 :=
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c1_i32_77 : BitVec 32 := 1#32
  let arg21 : BitVec 32 := Scf.iv v168 c1_i32_77 k0_t11
  let c256_i32_82 : BitVec 32 := 256#32
  let v211 : BitVec 32 := Scalar.muli arg21 c256_i32_82
  v211
def k0_off72 (i : grid0.Coords) (v1 : BitVec 32) (k0_t11 : Fin (k0_t11_loop v1).trips) : Fin 3 → Nat :=
  let arg2 : BitVec 32 := BitVec.ofNat 32 (i 2).val
  let v213 : Index := Scalar.indexCast arg2
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c1_i32_77 : BitVec 32 := 1#32
  let arg21 : BitVec 32 := Scf.iv v168 c1_i32_77 k0_t11
  let c256_i32_82 : BitVec 32 := 256#32
  let v211 : BitVec 32 := Scalar.muli arg21 c256_i32_82
  let v212 : BitVec 32 := v211
  let v214 : Index := Scalar.indexCast v212
  let c0_83 : Index := 0#32
  ![v213.toNat, v214.toNat, 0]
def k0_mult59 (v1 : BitVec 32) (k0_t11 : Fin (k0_t11_loop v1).trips) : BitVec 32 :=
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c1_i32_77 : BitVec 32 := 1#32
  let arg21 : BitVec 32 := Scf.iv v168 c1_i32_77 k0_t11
  let c256_i32_82 : BitVec 32 := 256#32
  let v211 : BitVec 32 := Scalar.muli arg21 c256_i32_82
  v211
def k0_mult60 (v1 : BitVec 32) (k0_t11 : Fin (k0_t11_loop v1).trips) : BitVec 32 :=
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c1_i32_77 : BitVec 32 := 1#32
  let arg21 : BitVec 32 := Scf.iv v168 c1_i32_77 k0_t11
  let c256_i32_82 : BitVec 32 := 256#32
  let v211 : BitVec 32 := Scalar.muli arg21 c256_i32_82
  v211
def k0_off73 (i : grid0.Coords) (v1 : BitVec 32) (k0_t11 : Fin (k0_t11_loop v1).trips) : Fin 3 → Nat :=
  let arg2 : BitVec 32 := BitVec.ofNat 32 (i 2).val
  let v250 : Index := Scalar.indexCast arg2
  let c0_90 : Index := 0#32
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c1_i32_77 : BitVec 32 := 1#32
  let arg21 : BitVec 32 := Scf.iv v168 c1_i32_77 k0_t11
  let c256_i32_82 : BitVec 32 := 256#32
  let v211 : BitVec 32 := Scalar.muli arg21 c256_i32_82
  let v249 : BitVec 32 := v211
  let v251 : Index := Scalar.indexCast v249
  ![v250.toNat, 0, v251.toNat]
@[reducible] def k0_t12_loop (v1 : BitVec 32) : Scf.Loop 32 :=
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c256_i32_67 : BitVec 32 := 256#32
  let v176 : BitVec 32 := Scalar.addi v1 c256_i32_67
  let c1_i32_68 : BitVec 32 := 1#32
  let v177 : BitVec 32 := Scalar.subi v176 c1_i32_68
  let c0_i32_70 : BitVec 32 := 0#32
  let v179 : BitVec 1 := Scalar.cmpi .sgt v177 c0_i32_70
  let v180 : BitVec 32 := Scalar.extui v179
  let c0_i32_71 : BitVec 32 := 0#32
  let v181 : BitVec 1 := Scalar.cmpi .slt v177 c0_i32_71
  let v182 : BitVec 32 := Scalar.extui v181
  let v183 : BitVec 32 := Scalar.subi v180 v182
  let c256_i32_69 : BitVec 32 := 256#32
  let c0_i32_72 : BitVec 32 := 0#32
  let v184 : BitVec 1 := Scalar.cmpi .sgt c256_i32_69 c0_i32_72
  let v185 : BitVec 32 := Scalar.extui v184
  let c0_i32_73 : BitVec 32 := 0#32
  let v186 : BitVec 1 := Scalar.cmpi .slt c256_i32_69 c0_i32_73
  let v187 : BitVec 32 := Scalar.extui v186
  let v188 : BitVec 32 := Scalar.subi v185 v187
  let v189 : BitVec 1 := Scalar.cmpi .ne v183 v188
  let v190 : BitVec 32 := Scalar.remsi v177 c256_i32_69
  let c0_i32_74 : BitVec 32 := 0#32
  let v191 : BitVec 1 := Scalar.cmpi .ne v190 c0_i32_74
  let v192 : BitVec 1 := Scalar.andi v189 v191
  let v178 : BitVec 32 := Scalar.divsi v177 c256_i32_69
  let c1_i32_75 : BitVec 32 := 1#32
  let v193 : BitVec 32 := Scalar.subi v178 c1_i32_75
  let v194 : BitVec 32 := Scalar.select v192 v193 v178
  let v195 : BitVec 32 := Scalar.subi v194 v168
  let c1_i32_76 : BitVec 32 := 1#32
  let v197 : BitVec 32 := Scalar.divsi v195 c1_i32_76
  let v198 : BitVec 32 := Scalar.muli v197 c1_i32_76
  let v199 : BitVec 32 := Scalar.addi v168 v198
  let v196 : BitVec 32 := Scalar.addi v168 v195
  let c1_i32_78 : BitVec 32 := 1#32
  ⟨v199, v196, c1_i32_78⟩
def k0_mult61 (v1 : BitVec 32) (k0_t12 : Fin (k0_t12_loop v1).trips) : BitVec 32 :=
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c256_i32_67 : BitVec 32 := 256#32
  let v176 : BitVec 32 := Scalar.addi v1 c256_i32_67
  let c1_i32_68 : BitVec 32 := 1#32
  let v177 : BitVec 32 := Scalar.subi v176 c1_i32_68
  let c0_i32_70 : BitVec 32 := 0#32
  let v179 : BitVec 1 := Scalar.cmpi .sgt v177 c0_i32_70
  let v180 : BitVec 32 := Scalar.extui v179
  let c0_i32_71 : BitVec 32 := 0#32
  let v181 : BitVec 1 := Scalar.cmpi .slt v177 c0_i32_71
  let v182 : BitVec 32 := Scalar.extui v181
  let v183 : BitVec 32 := Scalar.subi v180 v182
  let c256_i32_69 : BitVec 32 := 256#32
  let c0_i32_72 : BitVec 32 := 0#32
  let v184 : BitVec 1 := Scalar.cmpi .sgt c256_i32_69 c0_i32_72
  let v185 : BitVec 32 := Scalar.extui v184
  let c0_i32_73 : BitVec 32 := 0#32
  let v186 : BitVec 1 := Scalar.cmpi .slt c256_i32_69 c0_i32_73
  let v187 : BitVec 32 := Scalar.extui v186
  let v188 : BitVec 32 := Scalar.subi v185 v187
  let v189 : BitVec 1 := Scalar.cmpi .ne v183 v188
  let v190 : BitVec 32 := Scalar.remsi v177 c256_i32_69
  let c0_i32_74 : BitVec 32 := 0#32
  let v191 : BitVec 1 := Scalar.cmpi .ne v190 c0_i32_74
  let v192 : BitVec 1 := Scalar.andi v189 v191
  let v178 : BitVec 32 := Scalar.divsi v177 c256_i32_69
  let c1_i32_75 : BitVec 32 := 1#32
  let v193 : BitVec 32 := Scalar.subi v178 c1_i32_75
  let v194 : BitVec 32 := Scalar.select v192 v193 v178
  let v195 : BitVec 32 := Scalar.subi v194 v168
  let c1_i32_76 : BitVec 32 := 1#32
  let v197 : BitVec 32 := Scalar.divsi v195 c1_i32_76
  let v198 : BitVec 32 := Scalar.muli v197 c1_i32_76
  let v199 : BitVec 32 := Scalar.addi v168 v198
  let c1_i32_78 : BitVec 32 := 1#32
  let arg21 : BitVec 32 := Scf.iv v199 c1_i32_78 k0_t12
  let c256_i32_82 : BitVec 32 := 256#32
  let v211 : BitVec 32 := Scalar.muli arg21 c256_i32_82
  v211
def k0_off74 (i : grid0.Coords) (v1 : BitVec 32) (k0_t12 : Fin (k0_t12_loop v1).trips) : Fin 3 → Nat :=
  let arg2 : BitVec 32 := BitVec.ofNat 32 (i 2).val
  let v213 : Index := Scalar.indexCast arg2
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c256_i32_67 : BitVec 32 := 256#32
  let v176 : BitVec 32 := Scalar.addi v1 c256_i32_67
  let c1_i32_68 : BitVec 32 := 1#32
  let v177 : BitVec 32 := Scalar.subi v176 c1_i32_68
  let c0_i32_70 : BitVec 32 := 0#32
  let v179 : BitVec 1 := Scalar.cmpi .sgt v177 c0_i32_70
  let v180 : BitVec 32 := Scalar.extui v179
  let c0_i32_71 : BitVec 32 := 0#32
  let v181 : BitVec 1 := Scalar.cmpi .slt v177 c0_i32_71
  let v182 : BitVec 32 := Scalar.extui v181
  let v183 : BitVec 32 := Scalar.subi v180 v182
  let c256_i32_69 : BitVec 32 := 256#32
  let c0_i32_72 : BitVec 32 := 0#32
  let v184 : BitVec 1 := Scalar.cmpi .sgt c256_i32_69 c0_i32_72
  let v185 : BitVec 32 := Scalar.extui v184
  let c0_i32_73 : BitVec 32 := 0#32
  let v186 : BitVec 1 := Scalar.cmpi .slt c256_i32_69 c0_i32_73
  let v187 : BitVec 32 := Scalar.extui v186
  let v188 : BitVec 32 := Scalar.subi v185 v187
  let v189 : BitVec 1 := Scalar.cmpi .ne v183 v188
  let v190 : BitVec 32 := Scalar.remsi v177 c256_i32_69
  let c0_i32_74 : BitVec 32 := 0#32
  let v191 : BitVec 1 := Scalar.cmpi .ne v190 c0_i32_74
  let v192 : BitVec 1 := Scalar.andi v189 v191
  let v178 : BitVec 32 := Scalar.divsi v177 c256_i32_69
  let c1_i32_75 : BitVec 32 := 1#32
  let v193 : BitVec 32 := Scalar.subi v178 c1_i32_75
  let v194 : BitVec 32 := Scalar.select v192 v193 v178
  let v195 : BitVec 32 := Scalar.subi v194 v168
  let c1_i32_76 : BitVec 32 := 1#32
  let v197 : BitVec 32 := Scalar.divsi v195 c1_i32_76
  let v198 : BitVec 32 := Scalar.muli v197 c1_i32_76
  let v199 : BitVec 32 := Scalar.addi v168 v198
  let c1_i32_78 : BitVec 32 := 1#32
  let arg21 : BitVec 32 := Scf.iv v199 c1_i32_78 k0_t12
  let c256_i32_82 : BitVec 32 := 256#32
  let v211 : BitVec 32 := Scalar.muli arg21 c256_i32_82
  let v212 : BitVec 32 := v211
  let v214 : Index := Scalar.indexCast v212
  let c0_83 : Index := 0#32
  ![v213.toNat, v214.toNat, 0]
def k0_mult62 (v1 : BitVec 32) (k0_t12 : Fin (k0_t12_loop v1).trips) : BitVec 32 :=
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c256_i32_67 : BitVec 32 := 256#32
  let v176 : BitVec 32 := Scalar.addi v1 c256_i32_67
  let c1_i32_68 : BitVec 32 := 1#32
  let v177 : BitVec 32 := Scalar.subi v176 c1_i32_68
  let c0_i32_70 : BitVec 32 := 0#32
  let v179 : BitVec 1 := Scalar.cmpi .sgt v177 c0_i32_70
  let v180 : BitVec 32 := Scalar.extui v179
  let c0_i32_71 : BitVec 32 := 0#32
  let v181 : BitVec 1 := Scalar.cmpi .slt v177 c0_i32_71
  let v182 : BitVec 32 := Scalar.extui v181
  let v183 : BitVec 32 := Scalar.subi v180 v182
  let c256_i32_69 : BitVec 32 := 256#32
  let c0_i32_72 : BitVec 32 := 0#32
  let v184 : BitVec 1 := Scalar.cmpi .sgt c256_i32_69 c0_i32_72
  let v185 : BitVec 32 := Scalar.extui v184
  let c0_i32_73 : BitVec 32 := 0#32
  let v186 : BitVec 1 := Scalar.cmpi .slt c256_i32_69 c0_i32_73
  let v187 : BitVec 32 := Scalar.extui v186
  let v188 : BitVec 32 := Scalar.subi v185 v187
  let v189 : BitVec 1 := Scalar.cmpi .ne v183 v188
  let v190 : BitVec 32 := Scalar.remsi v177 c256_i32_69
  let c0_i32_74 : BitVec 32 := 0#32
  let v191 : BitVec 1 := Scalar.cmpi .ne v190 c0_i32_74
  let v192 : BitVec 1 := Scalar.andi v189 v191
  let v178 : BitVec 32 := Scalar.divsi v177 c256_i32_69
  let c1_i32_75 : BitVec 32 := 1#32
  let v193 : BitVec 32 := Scalar.subi v178 c1_i32_75
  let v194 : BitVec 32 := Scalar.select v192 v193 v178
  let v195 : BitVec 32 := Scalar.subi v194 v168
  let c1_i32_76 : BitVec 32 := 1#32
  let v197 : BitVec 32 := Scalar.divsi v195 c1_i32_76
  let v198 : BitVec 32 := Scalar.muli v197 c1_i32_76
  let v199 : BitVec 32 := Scalar.addi v168 v198
  let c1_i32_78 : BitVec 32 := 1#32
  let arg21 : BitVec 32 := Scf.iv v199 c1_i32_78 k0_t12
  let c256_i32_82 : BitVec 32 := 256#32
  let v211 : BitVec 32 := Scalar.muli arg21 c256_i32_82
  v211
def k0_mult63 (v1 : BitVec 32) (k0_t12 : Fin (k0_t12_loop v1).trips) : BitVec 32 :=
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c256_i32_67 : BitVec 32 := 256#32
  let v176 : BitVec 32 := Scalar.addi v1 c256_i32_67
  let c1_i32_68 : BitVec 32 := 1#32
  let v177 : BitVec 32 := Scalar.subi v176 c1_i32_68
  let c0_i32_70 : BitVec 32 := 0#32
  let v179 : BitVec 1 := Scalar.cmpi .sgt v177 c0_i32_70
  let v180 : BitVec 32 := Scalar.extui v179
  let c0_i32_71 : BitVec 32 := 0#32
  let v181 : BitVec 1 := Scalar.cmpi .slt v177 c0_i32_71
  let v182 : BitVec 32 := Scalar.extui v181
  let v183 : BitVec 32 := Scalar.subi v180 v182
  let c256_i32_69 : BitVec 32 := 256#32
  let c0_i32_72 : BitVec 32 := 0#32
  let v184 : BitVec 1 := Scalar.cmpi .sgt c256_i32_69 c0_i32_72
  let v185 : BitVec 32 := Scalar.extui v184
  let c0_i32_73 : BitVec 32 := 0#32
  let v186 : BitVec 1 := Scalar.cmpi .slt c256_i32_69 c0_i32_73
  let v187 : BitVec 32 := Scalar.extui v186
  let v188 : BitVec 32 := Scalar.subi v185 v187
  let v189 : BitVec 1 := Scalar.cmpi .ne v183 v188
  let v190 : BitVec 32 := Scalar.remsi v177 c256_i32_69
  let c0_i32_74 : BitVec 32 := 0#32
  let v191 : BitVec 1 := Scalar.cmpi .ne v190 c0_i32_74
  let v192 : BitVec 1 := Scalar.andi v189 v191
  let v178 : BitVec 32 := Scalar.divsi v177 c256_i32_69
  let c1_i32_75 : BitVec 32 := 1#32
  let v193 : BitVec 32 := Scalar.subi v178 c1_i32_75
  let v194 : BitVec 32 := Scalar.select v192 v193 v178
  let v195 : BitVec 32 := Scalar.subi v194 v168
  let c1_i32_76 : BitVec 32 := 1#32
  let v197 : BitVec 32 := Scalar.divsi v195 c1_i32_76
  let v198 : BitVec 32 := Scalar.muli v197 c1_i32_76
  let v199 : BitVec 32 := Scalar.addi v168 v198
  let c1_i32_78 : BitVec 32 := 1#32
  let arg21 : BitVec 32 := Scf.iv v199 c1_i32_78 k0_t12
  let c256_i32_82 : BitVec 32 := 256#32
  let v211 : BitVec 32 := Scalar.muli arg21 c256_i32_82
  v211
def k0_off75 (i : grid0.Coords) (v1 : BitVec 32) (k0_t12 : Fin (k0_t12_loop v1).trips) : Fin 3 → Nat :=
  let arg2 : BitVec 32 := BitVec.ofNat 32 (i 2).val
  let v250 : Index := Scalar.indexCast arg2
  let c0_90 : Index := 0#32
  let c0_i32_57 : BitVec 32 := 0#32
  let v153 : BitVec 1 := Scalar.cmpi .sgt v1 c0_i32_57
  let v154 : BitVec 32 := Scalar.extui v153
  let c0_i32_58 : BitVec 32 := 0#32
  let v155 : BitVec 1 := Scalar.cmpi .slt v1 c0_i32_58
  let v156 : BitVec 32 := Scalar.extui v155
  let v157 : BitVec 32 := Scalar.subi v154 v156
  let c256_i32_56 : BitVec 32 := 256#32
  let c0_i32_59 : BitVec 32 := 0#32
  let v158 : BitVec 1 := Scalar.cmpi .sgt c256_i32_56 c0_i32_59
  let v159 : BitVec 32 := Scalar.extui v158
  let c0_i32_60 : BitVec 32 := 0#32
  let v160 : BitVec 1 := Scalar.cmpi .slt c256_i32_56 c0_i32_60
  let v161 : BitVec 32 := Scalar.extui v160
  let v162 : BitVec 32 := Scalar.subi v159 v161
  let v163 : BitVec 1 := Scalar.cmpi .ne v157 v162
  let v164 : BitVec 32 := Scalar.remsi v1 c256_i32_56
  let c0_i32_61 : BitVec 32 := 0#32
  let v165 : BitVec 1 := Scalar.cmpi .ne v164 c0_i32_61
  let v166 : BitVec 1 := Scalar.andi v163 v165
  let v152 : BitVec 32 := Scalar.divsi v1 c256_i32_56
  let c1_i32_62 : BitVec 32 := 1#32
  let v167 : BitVec 32 := Scalar.subi v152 c1_i32_62
  let v168 : BitVec 32 := Scalar.select v166 v167 v152
  let c256_i32_67 : BitVec 32 := 256#32
  let v176 : BitVec 32 := Scalar.addi v1 c256_i32_67
  let c1_i32_68 : BitVec 32 := 1#32
  let v177 : BitVec 32 := Scalar.subi v176 c1_i32_68
  let c0_i32_70 : BitVec 32 := 0#32
  let v179 : BitVec 1 := Scalar.cmpi .sgt v177 c0_i32_70
  let v180 : BitVec 32 := Scalar.extui v179
  let c0_i32_71 : BitVec 32 := 0#32
  let v181 : BitVec 1 := Scalar.cmpi .slt v177 c0_i32_71
  let v182 : BitVec 32 := Scalar.extui v181
  let v183 : BitVec 32 := Scalar.subi v180 v182
  let c256_i32_69 : BitVec 32 := 256#32
  let c0_i32_72 : BitVec 32 := 0#32
  let v184 : BitVec 1 := Scalar.cmpi .sgt c256_i32_69 c0_i32_72
  let v185 : BitVec 32 := Scalar.extui v184
  let c0_i32_73 : BitVec 32 := 0#32
  let v186 : BitVec 1 := Scalar.cmpi .slt c256_i32_69 c0_i32_73
  let v187 : BitVec 32 := Scalar.extui v186
  let v188 : BitVec 32 := Scalar.subi v185 v187
  let v189 : BitVec 1 := Scalar.cmpi .ne v183 v188
  let v190 : BitVec 32 := Scalar.remsi v177 c256_i32_69
  let c0_i32_74 : BitVec 32 := 0#32
  let v191 : BitVec 1 := Scalar.cmpi .ne v190 c0_i32_74
  let v192 : BitVec 1 := Scalar.andi v189 v191
  let v178 : BitVec 32 := Scalar.divsi v177 c256_i32_69
  let c1_i32_75 : BitVec 32 := 1#32
  let v193 : BitVec 32 := Scalar.subi v178 c1_i32_75
  let v194 : BitVec 32 := Scalar.select v192 v193 v178
  let v195 : BitVec 32 := Scalar.subi v194 v168
  let c1_i32_76 : BitVec 32 := 1#32
  let v197 : BitVec 32 := Scalar.divsi v195 c1_i32_76
  let v198 : BitVec 32 := Scalar.muli v197 c1_i32_76
  let v199 : BitVec 32 := Scalar.addi v168 v198
  let c1_i32_78 : BitVec 32 := 1#32
  let arg21 : BitVec 32 := Scf.iv v199 c1_i32_78 k0_t12
  let c256_i32_82 : BitVec 32 := 256#32
  let v211 : BitVec 32 := Scalar.muli arg21 c256_i32_82
  let v249 : BitVec 32 := v211
  let v251 : Index := Scalar.indexCast v249
  ![v250.toNat, 0, v251.toNat]

def k0_chk1_0 (i : grid0.Coords) (v1 : BitVec 32) : Prop :=
  (∀ (k0_h1 : k0_cond1 i = 1#1), (k0_t1_loop v1).OK) ∧
  (∀ k0_t1 : Fin (k0_t1_loop v1).trips, ∀ (k0_h1 : k0_cond1 i = 1#1), ∀ a, (k0_off2 i v1 k0_t1) a + S1x1.size a ≤ S3x192.size a) ∧
  (∀ k0_t1 : Fin (k0_t1_loop v1).trips, ∀ (k0_h1 : k0_cond1 i = 1#1), 64 ∣ (k0_mult1 v1 k0_t1).toNat) ∧
  (∀ k0_t1 : Fin (k0_t1_loop v1).trips, ∀ (k0_h1 : k0_cond1 i = 1#1), ∀ a, (k0_off3 v1 k0_t1) a + S2x64x128.size a ≤ S2x13056x128.size a) ∧
  (∀ k0_t1 : Fin (k0_t1_loop v1).trips, ∀ (k0_h1 : k0_cond1 i = 1#1), ∀ (hinb : ∀ a, (k0_off3 v1 k0_t1) a + S2x64x128.size a ≤ S2x13056x128.size a), (Rect.unit (s := S2x13056x128) (k0_off3 v1 k0_t1) S2x64x128.size hinb).WholeWords (EltTy.packing .fp8e4m3)) ∧
  (∀ k0_t1 : Fin (k0_t1_loop v1).trips, ∀ (k0_h1 : k0_cond1 i = 1#1), ∀ a, (k0_off5 v1 k0_t1) a + S2x64x128.size a ≤ S2x12288x128.size a) ∧
  (∀ k0_t1 : Fin (k0_t1_loop v1).trips, ∀ (k0_h1 : k0_cond1 i = 1#1), ∀ (hinb : ∀ a, (k0_off5 v1 k0_t1) a + S2x64x128.size a ≤ S2x12288x128.size a), (Rect.unit (s := S2x12288x128) (k0_off5 v1 k0_t1) S2x64x128.size hinb).WholeWords (EltTy.packing .fp8e4m3)) ∧
  (∀ (k0_h1 : k0_cond1 i = 1#1), (k0_t2_loop v1).OK) ∧
  (∀ k0_t2 : Fin (k0_t2_loop v1).trips, ∀ (k0_h1 : k0_cond1 i = 1#1), ∀ a, (k0_off6 i v1 k0_t2) a + S1x1.size a ≤ S3x192.size a) ∧
  (∀ k0_t2 : Fin (k0_t2_loop v1).trips, ∀ (k0_h1 : k0_cond1 i = 1#1), 64 ∣ (k0_mult2 v1 k0_t2).toNat) ∧
  (∀ k0_t2 : Fin (k0_t2_loop v1).trips, ∀ (k0_h1 : k0_cond1 i = 1#1), ∀ a, (k0_off7 v1 k0_t2) a + S2x64x128.size a ≤ S2x13056x128.size a) ∧
  (∀ k0_t2 : Fin (k0_t2_loop v1).trips, ∀ (k0_h1 : k0_cond1 i = 1#1), ∀ (hinb : ∀ a, (k0_off7 v1 k0_t2) a + S2x64x128.size a ≤ S2x13056x128.size a), (Rect.unit (s := S2x13056x128) (k0_off7 v1 k0_t2) S2x64x128.size hinb).WholeWords (EltTy.packing .fp8e4m3)) ∧
  (∀ k0_t2 : Fin (k0_t2_loop v1).trips, ∀ (k0_h1 : k0_cond1 i = 1#1), ∀ a, (k0_off9 v1 k0_t2) a + S2x64x128.size a ≤ S2x12288x128.size a) ∧
  (∀ k0_t2 : Fin (k0_t2_loop v1).trips, ∀ (k0_h1 : k0_cond1 i = 1#1), ∀ (hinb : ∀ a, (k0_off9 v1 k0_t2) a + S2x64x128.size a ≤ S2x12288x128.size a), (Rect.unit (s := S2x12288x128) (k0_off9 v1 k0_t2) S2x64x128.size hinb).WholeWords (EltTy.packing .fp8e4m3)) ∧
  (∀ (k0_h1 : k0_cond1 i = 1#1), (k0_t3_loop v1).OK) ∧
  (∀ k0_t3 : Fin (k0_t3_loop v1).trips, ∀ (k0_h1 : k0_cond1 i = 1#1), ∀ a, (k0_off10 i v1 k0_t3) a + S1x1.size a ≤ S3x192.size a) ∧
  (∀ k0_t3 : Fin (k0_t3_loop v1).trips, ∀ (k0_h1 : k0_cond1 i = 1#1), 64 ∣ (k0_mult3 v1 k0_t3).toNat) ∧
  (∀ k0_t3 : Fin (k0_t3_loop v1).trips, ∀ (k0_h1 : k0_cond1 i = 1#1), ∀ a, (k0_off11 v1 k0_t3) a + S2x64x128.size a ≤ S2x13056x128.size a) ∧
  (∀ k0_t3 : Fin (k0_t3_loop v1).trips, ∀ (k0_h1 : k0_cond1 i = 1#1), ∀ (hinb : ∀ a, (k0_off11 v1 k0_t3) a + S2x64x128.size a ≤ S2x13056x128.size a), (Rect.unit (s := S2x13056x128) (k0_off11 v1 k0_t3) S2x64x128.size hinb).WholeWords (EltTy.packing .fp8e4m3)) ∧
  (∀ k0_t3 : Fin (k0_t3_loop v1).trips, ∀ (k0_h1 : k0_cond1 i = 1#1), ∀ a, (k0_off13 v1 k0_t3) a + S2x64x128.size a ≤ S2x12288x128.size a) ∧
  (∀ k0_t3 : Fin (k0_t3_loop v1).trips, ∀ (k0_h1 : k0_cond1 i = 1#1), ∀ (hinb : ∀ a, (k0_off13 v1 k0_t3) a + S2x64x128.size a ≤ S2x12288x128.size a), (Rect.unit (s := S2x12288x128) (k0_off13 v1 k0_t3) S2x64x128.size hinb).WholeWords (EltTy.packing .fp8e4m3)) ∧
  (∀ (k0_h1 : k0_cond1 i = 1#1), (k0_t4_loop v1).OK) ∧
  (∀ k0_t4 : Fin (k0_t4_loop v1).trips, ∀ (k0_h1 : k0_cond1 i = 1#1), ∀ a, (k0_off14 i v1 k0_t4) a + S1x1.size a ≤ S3x192.size a) ∧
  (∀ k0_t4 : Fin (k0_t4_loop v1).trips, ∀ (k0_h1 : k0_cond1 i = 1#1), 64 ∣ (k0_mult4 v1 k0_t4).toNat) ∧
  (∀ k0_t4 : Fin (k0_t4_loop v1).trips, ∀ (k0_h1 : k0_cond1 i = 1#1), ∀ a, (k0_off15 v1 k0_t4) a + S2x64x128.size a ≤ S2x13056x128.size a) ∧
  (∀ k0_t4 : Fin (k0_t4_loop v1).trips, ∀ (k0_h1 : k0_cond1 i = 1#1), ∀ (hinb : ∀ a, (k0_off15 v1 k0_t4) a + S2x64x128.size a ≤ S2x13056x128.size a), (Rect.unit (s := S2x13056x128) (k0_off15 v1 k0_t4) S2x64x128.size hinb).WholeWords (EltTy.packing .fp8e4m3)) ∧
  (∀ k0_t4 : Fin (k0_t4_loop v1).trips, ∀ (k0_h1 : k0_cond1 i = 1#1), ∀ a, (k0_off17 v1 k0_t4) a + S2x64x128.size a ≤ S2x12288x128.size a) ∧
  (∀ k0_t4 : Fin (k0_t4_loop v1).trips, ∀ (k0_h1 : k0_cond1 i = 1#1), ∀ (hinb : ∀ a, (k0_off17 v1 k0_t4) a + S2x64x128.size a ≤ S2x12288x128.size a), (Rect.unit (s := S2x12288x128) (k0_off17 v1 k0_t4) S2x64x128.size hinb).WholeWords (EltTy.packing .fp8e4m3)) ∧
  (∀ (k0_h1 : k0_cond1 i = 1#1), (k0_t5_loop v1).OK) ∧
  (∀ k0_t5 : Fin (k0_t5_loop v1).trips, ∀ (k0_h1 : k0_cond1 i = 1#1), ∀ a, (k0_off18 i v1 k0_t5) a + S1x1.size a ≤ S3x192.size a) ∧
  (∀ k0_t5 : Fin (k0_t5_loop v1).trips, ∀ (k0_h1 : k0_cond1 i = 1#1), ∀ a, (k0_off20 i v1 k0_t5) a + S1x1.size a ≤ S3x192.size a) ∧
  (∀ k0_t5 : Fin (k0_t5_loop v1).trips, ∀ (k0_h1 : k0_cond1 i = 1#1), ∀ a, (k0_off22 i v1 k0_t5) a + S1x1.size a ≤ S3x192.size a)
def k0_chk1_1 (i : grid0.Coords) (v1 : BitVec 32) : Prop :=
  (∀ k0_t5 : Fin (k0_t5_loop v1).trips, ∀ (k0_h1 : k0_cond1 i = 1#1), ∀ a, (k0_off24 i v1 k0_t5) a + S1x1.size a ≤ S3x192.size a) ∧
  (∀ k0_t5 : Fin (k0_t5_loop v1).trips, ∀ (k0_h1 : k0_cond1 i = 1#1), 128 ∣ (k0_mult19 v1 k0_t5).toNat) ∧
  (∀ k0_t5 : Fin (k0_t5_loop v1).trips, ∀ (k0_h1 : k0_cond1 i = 1#1), ∀ a, (k0_off26 v1 k0_t5) a + S1x128x128.size a ≤ S2x13056x128.size a) ∧
  (∀ k0_t5 : Fin (k0_t5_loop v1).trips, ∀ (k0_h1 : k0_cond1 i = 1#1), 128 ∣ (k0_mult20 v1 k0_t5).toNat) ∧
  (∀ k0_t5 : Fin (k0_t5_loop v1).trips, ∀ (k0_h1 : k0_cond1 i = 1#1), ∀ a, (k0_off27 v1 k0_t5) a + S1x128x128.size a ≤ S2x12288x128.size a) ∧
  (∀ k0_t5 : Fin (k0_t5_loop v1).trips, ∀ (k0_h1 : k0_cond1 i = 1#1), 128 ∣ (k0_mult21 v1 k0_t5).toNat) ∧
  (∀ k0_t5 : Fin (k0_t5_loop v1).trips, ∀ (k0_h1 : k0_cond1 i = 1#1), ∀ a, (k0_off28 v1 k0_t5) a + S1x128x128.size a ≤ S2x128x13056.size a) ∧
  (∀ k0_t5 : Fin (k0_t5_loop v1).trips, ∀ (k0_h1 : k0_cond1 i = 1#1), ∀ (hinb : ∀ a, (k0_off28 v1 k0_t5) a + S1x128x128.size a ≤ S2x128x13056.size a), (Rect.unit (s := S2x128x13056) (k0_off28 v1 k0_t5) S1x128x128.size hinb).PackedRows (EltTy.packing .bf16)) ∧
  (∀ k0_t5 : Fin (k0_t5_loop v1).trips, ∀ (k0_h1 : k0_cond1 i = 1#1), ∀ a, (k0_off29 i v1 k0_t5) a + S1x1.size a ≤ S3x192.size a) ∧
  (∀ k0_t5 : Fin (k0_t5_loop v1).trips, ∀ (k0_h1 : k0_cond1 i = 1#1), ∀ a, (k0_off31 i v1 k0_t5) a + S1x1.size a ≤ S3x192.size a) ∧
  (∀ k0_t5 : Fin (k0_t5_loop v1).trips, ∀ (k0_h1 : k0_cond1 i = 1#1), ∀ a, (k0_off33 i v1 k0_t5) a + S1x1.size a ≤ S3x192.size a) ∧
  (∀ k0_t5 : Fin (k0_t5_loop v1).trips, ∀ (k0_h1 : k0_cond1 i = 1#1), ∀ a, (k0_off35 i v1 k0_t5) a + S1x1.size a ≤ S3x192.size a) ∧
  (∀ k0_t5 : Fin (k0_t5_loop v1).trips, ∀ (k0_h1 : k0_cond1 i = 1#1), 128 ∣ (k0_mult26 v1 k0_t5).toNat) ∧
  (∀ k0_t5 : Fin (k0_t5_loop v1).trips, ∀ (k0_h1 : k0_cond1 i = 1#1), ∀ a, (k0_off37 v1 k0_t5) a + S1x128x128.size a ≤ S2x13056x128.size a) ∧
  (∀ k0_t5 : Fin (k0_t5_loop v1).trips, ∀ (k0_h1 : k0_cond1 i = 1#1), 128 ∣ (k0_mult27 v1 k0_t5).toNat) ∧
  (∀ k0_t5 : Fin (k0_t5_loop v1).trips, ∀ (k0_h1 : k0_cond1 i = 1#1), ∀ a, (k0_off38 v1 k0_t5) a + S1x128x128.size a ≤ S2x12288x128.size a) ∧
  (∀ k0_t5 : Fin (k0_t5_loop v1).trips, ∀ (k0_h1 : k0_cond1 i = 1#1), 128 ∣ (k0_mult28 v1 k0_t5).toNat) ∧
  (∀ k0_t5 : Fin (k0_t5_loop v1).trips, ∀ (k0_h1 : k0_cond1 i = 1#1), ∀ a, (k0_off39 v1 k0_t5) a + S1x128x128.size a ≤ S2x128x13056.size a) ∧
  (∀ k0_t5 : Fin (k0_t5_loop v1).trips, ∀ (k0_h1 : k0_cond1 i = 1#1), ∀ (hinb : ∀ a, (k0_off39 v1 k0_t5) a + S1x128x128.size a ≤ S2x128x13056.size a), (Rect.unit (s := S2x128x13056) (k0_off39 v1 k0_t5) S1x128x128.size hinb).PackedRows (EltTy.packing .bf16)) ∧
  (∀ (k0_h1 : k0_cond1 i = 1#1), (k0_t6_loop v1).OK) ∧
  (∀ k0_t6 : Fin (k0_t6_loop v1).trips, ∀ (k0_h1 : k0_cond1 i = 1#1), ∀ a, (k0_off40 i v1 k0_t6) a + S1x1.size a ≤ S3x192.size a) ∧
  (∀ k0_t6 : Fin (k0_t6_loop v1).trips, ∀ (k0_h1 : k0_cond1 i = 1#1), ∀ a, (k0_off42 i v1 k0_t6) a + S1x1.size a ≤ S3x192.size a) ∧
  (∀ k0_t6 : Fin (k0_t6_loop v1).trips, ∀ (k0_h1 : k0_cond1 i = 1#1), ∀ a, (k0_off44 i v1 k0_t6) a + S1x1.size a ≤ S3x192.size a) ∧
  (∀ k0_t6 : Fin (k0_t6_loop v1).trips, ∀ (k0_h1 : k0_cond1 i = 1#1), ∀ a, (k0_off46 i v1 k0_t6) a + S1x1.size a ≤ S3x192.size a) ∧
  (∀ k0_t6 : Fin (k0_t6_loop v1).trips, ∀ (k0_h1 : k0_cond1 i = 1#1), 128 ∣ (k0_mult33 v1 k0_t6).toNat) ∧
  (∀ k0_t6 : Fin (k0_t6_loop v1).trips, ∀ (k0_h1 : k0_cond1 i = 1#1), ∀ a, (k0_off48 v1 k0_t6) a + S1x128x128.size a ≤ S2x13056x128.size a) ∧
  (∀ k0_t6 : Fin (k0_t6_loop v1).trips, ∀ (k0_h1 : k0_cond1 i = 1#1), 128 ∣ (k0_mult34 v1 k0_t6).toNat) ∧
  (∀ k0_t6 : Fin (k0_t6_loop v1).trips, ∀ (k0_h1 : k0_cond1 i = 1#1), ∀ a, (k0_off49 v1 k0_t6) a + S1x128x128.size a ≤ S2x12288x128.size a) ∧
  (∀ k0_t6 : Fin (k0_t6_loop v1).trips, ∀ (k0_h1 : k0_cond1 i = 1#1), 128 ∣ (k0_mult35 v1 k0_t6).toNat) ∧
  (∀ k0_t6 : Fin (k0_t6_loop v1).trips, ∀ (k0_h1 : k0_cond1 i = 1#1), ∀ a, (k0_off50 v1 k0_t6) a + S1x128x128.size a ≤ S2x128x13056.size a) ∧
  (∀ k0_t6 : Fin (k0_t6_loop v1).trips, ∀ (k0_h1 : k0_cond1 i = 1#1), ∀ (hinb : ∀ a, (k0_off50 v1 k0_t6) a + S1x128x128.size a ≤ S2x128x13056.size a), (Rect.unit (s := S2x128x13056) (k0_off50 v1 k0_t6) S1x128x128.size hinb).PackedRows (EltTy.packing .bf16)) ∧
  (∀ k0_t6 : Fin (k0_t6_loop v1).trips, ∀ (k0_h1 : k0_cond1 i = 1#1), ∀ a, (k0_off51 i v1 k0_t6) a + S1x1.size a ≤ S3x192.size a)
def k0_chk1_2 (i : grid0.Coords) (v1 : BitVec 32) : Prop :=
  (∀ k0_t6 : Fin (k0_t6_loop v1).trips, ∀ (k0_h1 : k0_cond1 i = 1#1), ∀ a, (k0_off53 i v1 k0_t6) a + S1x1.size a ≤ S3x192.size a) ∧
  (∀ k0_t6 : Fin (k0_t6_loop v1).trips, ∀ (k0_h1 : k0_cond1 i = 1#1), ∀ a, (k0_off55 i v1 k0_t6) a + S1x1.size a ≤ S3x192.size a) ∧
  (∀ k0_t6 : Fin (k0_t6_loop v1).trips, ∀ (k0_h1 : k0_cond1 i = 1#1), ∀ a, (k0_off57 i v1 k0_t6) a + S1x1.size a ≤ S3x192.size a) ∧
  (∀ k0_t6 : Fin (k0_t6_loop v1).trips, ∀ (k0_h1 : k0_cond1 i = 1#1), 128 ∣ (k0_mult40 v1 k0_t6).toNat) ∧
  (∀ k0_t6 : Fin (k0_t6_loop v1).trips, ∀ (k0_h1 : k0_cond1 i = 1#1), ∀ a, (k0_off59 v1 k0_t6) a + S1x128x128.size a ≤ S2x13056x128.size a) ∧
  (∀ k0_t6 : Fin (k0_t6_loop v1).trips, ∀ (k0_h1 : k0_cond1 i = 1#1), 128 ∣ (k0_mult41 v1 k0_t6).toNat) ∧
  (∀ k0_t6 : Fin (k0_t6_loop v1).trips, ∀ (k0_h1 : k0_cond1 i = 1#1), ∀ a, (k0_off60 v1 k0_t6) a + S1x128x128.size a ≤ S2x12288x128.size a) ∧
  (∀ k0_t6 : Fin (k0_t6_loop v1).trips, ∀ (k0_h1 : k0_cond1 i = 1#1), 128 ∣ (k0_mult42 v1 k0_t6).toNat) ∧
  (∀ k0_t6 : Fin (k0_t6_loop v1).trips, ∀ (k0_h1 : k0_cond1 i = 1#1), ∀ a, (k0_off61 v1 k0_t6) a + S1x128x128.size a ≤ S2x128x13056.size a) ∧
  (∀ k0_t6 : Fin (k0_t6_loop v1).trips, ∀ (k0_h1 : k0_cond1 i = 1#1), ∀ (hinb : ∀ a, (k0_off61 v1 k0_t6) a + S1x128x128.size a ≤ S2x128x13056.size a), (Rect.unit (s := S2x128x13056) (k0_off61 v1 k0_t6) S1x128x128.size hinb).PackedRows (EltTy.packing .bf16)) ∧
  ((k0_t9_loop v1).OK) ∧
  (∀ k0_t9 : Fin (k0_t9_loop v1).trips, 256 ∣ (k0_mult52 v1 k0_t9).toNat) ∧
  (∀ k0_t9 : Fin (k0_t9_loop v1).trips, ∀ a, (k0_off68 i v1 k0_t9) a + S1x256x128.size a ≤ S2x13056x128.size a) ∧
  (∀ k0_t9 : Fin (k0_t9_loop v1).trips, 256 ∣ (k0_mult53 v1 k0_t9).toNat) ∧
  (∀ k0_t9 : Fin (k0_t9_loop v1).trips, 256 ∣ (k0_mult54 v1 k0_t9).toNat) ∧
  (∀ k0_t9 : Fin (k0_t9_loop v1).trips, ∀ a, (k0_off69 i v1 k0_t9) a + S1x128x256.size a ≤ S2x128x13056.size a) ∧
  ((k0_t10_loop v1).OK) ∧
  (∀ k0_t10 : Fin (k0_t10_loop v1).trips, 256 ∣ (k0_mult55 v1 k0_t10).toNat) ∧
  (∀ k0_t10 : Fin (k0_t10_loop v1).trips, ∀ a, (k0_off70 i v1 k0_t10) a + S1x256x128.size a ≤ S2x13056x128.size a) ∧
  (∀ k0_t10 : Fin (k0_t10_loop v1).trips, 256 ∣ (k0_mult56 v1 k0_t10).toNat) ∧
  (∀ k0_t10 : Fin (k0_t10_loop v1).trips, 256 ∣ (k0_mult57 v1 k0_t10).toNat) ∧
  (∀ k0_t10 : Fin (k0_t10_loop v1).trips, ∀ a, (k0_off71 i v1 k0_t10) a + S1x128x256.size a ≤ S2x128x13056.size a) ∧
  ((k0_t11_loop v1).OK) ∧
  (∀ k0_t11 : Fin (k0_t11_loop v1).trips, 256 ∣ (k0_mult58 v1 k0_t11).toNat) ∧
  (∀ k0_t11 : Fin (k0_t11_loop v1).trips, ∀ a, (k0_off72 i v1 k0_t11) a + S1x256x128.size a ≤ S2x13056x128.size a) ∧
  (∀ k0_t11 : Fin (k0_t11_loop v1).trips, 256 ∣ (k0_mult59 v1 k0_t11).toNat) ∧
  (∀ k0_t11 : Fin (k0_t11_loop v1).trips, 256 ∣ (k0_mult60 v1 k0_t11).toNat) ∧
  (∀ k0_t11 : Fin (k0_t11_loop v1).trips, ∀ a, (k0_off73 i v1 k0_t11) a + S1x128x256.size a ≤ S2x128x13056.size a) ∧
  ((k0_t12_loop v1).OK) ∧
  (∀ k0_t12 : Fin (k0_t12_loop v1).trips, 256 ∣ (k0_mult61 v1 k0_t12).toNat) ∧
  (∀ k0_t12 : Fin (k0_t12_loop v1).trips, ∀ a, (k0_off74 i v1 k0_t12) a + S1x256x128.size a ≤ S2x13056x128.size a) ∧
  (∀ k0_t12 : Fin (k0_t12_loop v1).trips, 256 ∣ (k0_mult62 v1 k0_t12).toNat)
def k0_chk1_3 (i : grid0.Coords) (v1 : BitVec 32) : Prop :=
  (∀ k0_t12 : Fin (k0_t12_loop v1).trips, 256 ∣ (k0_mult63 v1 k0_t12).toNat) ∧
  (∀ k0_t12 : Fin (k0_t12_loop v1).trips, ∀ a, (k0_off75 i v1 k0_t12) a + S1x128x256.size a ≤ S2x128x13056.size a)
def k0_chk1 (i : grid0.Coords) (v1 : BitVec 32) : Prop :=
  k0_chk1_0 i v1 ∧
  k0_chk1_1 i v1 ∧
  k0_chk1_2 i v1 ∧
  k0_chk1_3 i v1
theorem k0_t1_ok : ∀ (i : grid0.Coords) (v1 : BitVec 32) (k0_hw1 : k0_chk1 i v1), ∀ (k0_h1 : k0_cond1 i = 1#1), (k0_t1_loop v1).OK := fun i v1 k0_hw1 k0_h1 => k0_hw1.1.1 k0_h1
theorem k0_off2_inb : ∀ (i : grid0.Coords) (v1 : BitVec 32) (k0_hw1 : k0_chk1 i v1) (k0_t1 : Fin (k0_t1_loop v1).trips), ∀ (k0_h1 : k0_cond1 i = 1#1), ∀ a, (k0_off2 i v1 k0_t1) a + S1x1.size a ≤ S3x192.size a := fun i v1 k0_hw1 k0_t1 k0_h1 => k0_hw1.1.2.1 k0_t1 k0_h1
theorem k0_mult1_dvd : ∀ (i : grid0.Coords) (v1 : BitVec 32) (k0_hw1 : k0_chk1 i v1) (k0_t1 : Fin (k0_t1_loop v1).trips), ∀ (k0_h1 : k0_cond1 i = 1#1), 64 ∣ (k0_mult1 v1 k0_t1).toNat := fun i v1 k0_hw1 k0_t1 k0_h1 => k0_hw1.1.2.2.1 k0_t1 k0_h1
theorem k0_off3_inb : ∀ (i : grid0.Coords) (v1 : BitVec 32) (k0_hw1 : k0_chk1 i v1) (k0_t1 : Fin (k0_t1_loop v1).trips), ∀ (k0_h1 : k0_cond1 i = 1#1), ∀ a, (k0_off3 v1 k0_t1) a + S2x64x128.size a ≤ S2x13056x128.size a := fun i v1 k0_hw1 k0_t1 k0_h1 => k0_hw1.1.2.2.2.1 k0_t1 k0_h1
theorem k0_off3_wordsfp8e4m3 : ∀ (i : grid0.Coords) (v1 : BitVec 32) (k0_hw1 : k0_chk1 i v1) (k0_t1 : Fin (k0_t1_loop v1).trips), ∀ (k0_h1 : k0_cond1 i = 1#1), (Rect.unit (s := S2x13056x128) (k0_off3 v1 k0_t1) S2x64x128.size (k0_off3_inb i v1 k0_hw1 k0_t1 k0_h1)).WholeWords (EltTy.packing .fp8e4m3) := fun i v1 k0_hw1 k0_t1 k0_h1 => k0_hw1.1.2.2.2.2.1 k0_t1 k0_h1 (k0_off3_inb i v1 k0_hw1 k0_t1 k0_h1)
theorem k0_off5_inb : ∀ (i : grid0.Coords) (v1 : BitVec 32) (k0_hw1 : k0_chk1 i v1) (k0_t1 : Fin (k0_t1_loop v1).trips), ∀ (k0_h1 : k0_cond1 i = 1#1), ∀ a, (k0_off5 v1 k0_t1) a + S2x64x128.size a ≤ S2x12288x128.size a := fun i v1 k0_hw1 k0_t1 k0_h1 => k0_hw1.1.2.2.2.2.2.1 k0_t1 k0_h1
theorem k0_off5_wordsfp8e4m3 : ∀ (i : grid0.Coords) (v1 : BitVec 32) (k0_hw1 : k0_chk1 i v1) (k0_t1 : Fin (k0_t1_loop v1).trips), ∀ (k0_h1 : k0_cond1 i = 1#1), (Rect.unit (s := S2x12288x128) (k0_off5 v1 k0_t1) S2x64x128.size (k0_off5_inb i v1 k0_hw1 k0_t1 k0_h1)).WholeWords (EltTy.packing .fp8e4m3) := fun i v1 k0_hw1 k0_t1 k0_h1 => k0_hw1.1.2.2.2.2.2.2.1 k0_t1 k0_h1 (k0_off5_inb i v1 k0_hw1 k0_t1 k0_h1)
theorem k0_t2_ok : ∀ (i : grid0.Coords) (v1 : BitVec 32) (k0_hw1 : k0_chk1 i v1), ∀ (k0_h1 : k0_cond1 i = 1#1), (k0_t2_loop v1).OK := fun i v1 k0_hw1 k0_h1 => k0_hw1.1.2.2.2.2.2.2.2.1 k0_h1
theorem k0_off6_inb : ∀ (i : grid0.Coords) (v1 : BitVec 32) (k0_hw1 : k0_chk1 i v1) (k0_t2 : Fin (k0_t2_loop v1).trips), ∀ (k0_h1 : k0_cond1 i = 1#1), ∀ a, (k0_off6 i v1 k0_t2) a + S1x1.size a ≤ S3x192.size a := fun i v1 k0_hw1 k0_t2 k0_h1 => k0_hw1.1.2.2.2.2.2.2.2.2.1 k0_t2 k0_h1
theorem k0_mult2_dvd : ∀ (i : grid0.Coords) (v1 : BitVec 32) (k0_hw1 : k0_chk1 i v1) (k0_t2 : Fin (k0_t2_loop v1).trips), ∀ (k0_h1 : k0_cond1 i = 1#1), 64 ∣ (k0_mult2 v1 k0_t2).toNat := fun i v1 k0_hw1 k0_t2 k0_h1 => k0_hw1.1.2.2.2.2.2.2.2.2.2.1 k0_t2 k0_h1
theorem k0_off7_inb : ∀ (i : grid0.Coords) (v1 : BitVec 32) (k0_hw1 : k0_chk1 i v1) (k0_t2 : Fin (k0_t2_loop v1).trips), ∀ (k0_h1 : k0_cond1 i = 1#1), ∀ a, (k0_off7 v1 k0_t2) a + S2x64x128.size a ≤ S2x13056x128.size a := fun i v1 k0_hw1 k0_t2 k0_h1 => k0_hw1.1.2.2.2.2.2.2.2.2.2.2.1 k0_t2 k0_h1
theorem k0_off7_wordsfp8e4m3 : ∀ (i : grid0.Coords) (v1 : BitVec 32) (k0_hw1 : k0_chk1 i v1) (k0_t2 : Fin (k0_t2_loop v1).trips), ∀ (k0_h1 : k0_cond1 i = 1#1), (Rect.unit (s := S2x13056x128) (k0_off7 v1 k0_t2) S2x64x128.size (k0_off7_inb i v1 k0_hw1 k0_t2 k0_h1)).WholeWords (EltTy.packing .fp8e4m3) := fun i v1 k0_hw1 k0_t2 k0_h1 => k0_hw1.1.2.2.2.2.2.2.2.2.2.2.2.1 k0_t2 k0_h1 (k0_off7_inb i v1 k0_hw1 k0_t2 k0_h1)
theorem k0_off9_inb : ∀ (i : grid0.Coords) (v1 : BitVec 32) (k0_hw1 : k0_chk1 i v1) (k0_t2 : Fin (k0_t2_loop v1).trips), ∀ (k0_h1 : k0_cond1 i = 1#1), ∀ a, (k0_off9 v1 k0_t2) a + S2x64x128.size a ≤ S2x12288x128.size a := fun i v1 k0_hw1 k0_t2 k0_h1 => k0_hw1.1.2.2.2.2.2.2.2.2.2.2.2.2.1 k0_t2 k0_h1
theorem k0_off9_wordsfp8e4m3 : ∀ (i : grid0.Coords) (v1 : BitVec 32) (k0_hw1 : k0_chk1 i v1) (k0_t2 : Fin (k0_t2_loop v1).trips), ∀ (k0_h1 : k0_cond1 i = 1#1), (Rect.unit (s := S2x12288x128) (k0_off9 v1 k0_t2) S2x64x128.size (k0_off9_inb i v1 k0_hw1 k0_t2 k0_h1)).WholeWords (EltTy.packing .fp8e4m3) := fun i v1 k0_hw1 k0_t2 k0_h1 => k0_hw1.1.2.2.2.2.2.2.2.2.2.2.2.2.2.1 k0_t2 k0_h1 (k0_off9_inb i v1 k0_hw1 k0_t2 k0_h1)
theorem k0_t3_ok : ∀ (i : grid0.Coords) (v1 : BitVec 32) (k0_hw1 : k0_chk1 i v1), ∀ (k0_h1 : k0_cond1 i = 1#1), (k0_t3_loop v1).OK := fun i v1 k0_hw1 k0_h1 => k0_hw1.1.2.2.2.2.2.2.2.2.2.2.2.2.2.2.1 k0_h1
theorem k0_off10_inb : ∀ (i : grid0.Coords) (v1 : BitVec 32) (k0_hw1 : k0_chk1 i v1) (k0_t3 : Fin (k0_t3_loop v1).trips), ∀ (k0_h1 : k0_cond1 i = 1#1), ∀ a, (k0_off10 i v1 k0_t3) a + S1x1.size a ≤ S3x192.size a := fun i v1 k0_hw1 k0_t3 k0_h1 => k0_hw1.1.2.2.2.2.2.2.2.2.2.2.2.2.2.2.2.1 k0_t3 k0_h1
theorem k0_mult3_dvd : ∀ (i : grid0.Coords) (v1 : BitVec 32) (k0_hw1 : k0_chk1 i v1) (k0_t3 : Fin (k0_t3_loop v1).trips), ∀ (k0_h1 : k0_cond1 i = 1#1), 64 ∣ (k0_mult3 v1 k0_t3).toNat := fun i v1 k0_hw1 k0_t3 k0_h1 => k0_hw1.1.2.2.2.2.2.2.2.2.2.2.2.2.2.2.2.2.1 k0_t3 k0_h1
theorem k0_off11_inb : ∀ (i : grid0.Coords) (v1 : BitVec 32) (k0_hw1 : k0_chk1 i v1) (k0_t3 : Fin (k0_t3_loop v1).trips), ∀ (k0_h1 : k0_cond1 i = 1#1), ∀ a, (k0_off11 v1 k0_t3) a + S2x64x128.size a ≤ S2x13056x128.size a := fun i v1 k0_hw1 k0_t3 k0_h1 => k0_hw1.1.2.2.2.2.2.2.2.2.2.2.2.2.2.2.2.2.2.1 k0_t3 k0_h1
theorem k0_off11_wordsfp8e4m3 : ∀ (i : grid0.Coords) (v1 : BitVec 32) (k0_hw1 : k0_chk1 i v1) (k0_t3 : Fin (k0_t3_loop v1).trips), ∀ (k0_h1 : k0_cond1 i = 1#1), (Rect.unit (s := S2x13056x128) (k0_off11 v1 k0_t3) S2x64x128.size (k0_off11_inb i v1 k0_hw1 k0_t3 k0_h1)).WholeWords (EltTy.packing .fp8e4m3) := fun i v1 k0_hw1 k0_t3 k0_h1 => k0_hw1.1.2.2.2.2.2.2.2.2.2.2.2.2.2.2.2.2.2.2.1 k0_t3 k0_h1 (k0_off11_inb i v1 k0_hw1 k0_t3 k0_h1)
theorem k0_off13_inb : ∀ (i : grid0.Coords) (v1 : BitVec 32) (k0_hw1 : k0_chk1 i v1) (k0_t3 : Fin (k0_t3_loop v1).trips), ∀ (k0_h1 : k0_cond1 i = 1#1), ∀ a, (k0_off13 v1 k0_t3) a + S2x64x128.size a ≤ S2x12288x128.size a := fun i v1 k0_hw1 k0_t3 k0_h1 => k0_hw1.1.2.2.2.2.2.2.2.2.2.2.2.2.2.2.2.2.2.2.2.1 k0_t3 k0_h1
theorem k0_off13_wordsfp8e4m3 : ∀ (i : grid0.Coords) (v1 : BitVec 32) (k0_hw1 : k0_chk1 i v1) (k0_t3 : Fin (k0_t3_loop v1).trips), ∀ (k0_h1 : k0_cond1 i = 1#1), (Rect.unit (s := S2x12288x128) (k0_off13 v1 k0_t3) S2x64x128.size (k0_off13_inb i v1 k0_hw1 k0_t3 k0_h1)).WholeWords (EltTy.packing .fp8e4m3) := fun i v1 k0_hw1 k0_t3 k0_h1 => k0_hw1.1.2.2.2.2.2.2.2.2.2.2.2.2.2.2.2.2.2.2.2.2.1 k0_t3 k0_h1 (k0_off13_inb i v1 k0_hw1 k0_t3 k0_h1)
theorem k0_t4_ok : ∀ (i : grid0.Coords) (v1 : BitVec 32) (k0_hw1 : k0_chk1 i v1), ∀ (k0_h1 : k0_cond1 i = 1#1), (k0_t4_loop v1).OK := fun i v1 k0_hw1 k0_h1 => k0_hw1.1.2.2.2.2.2.2.2.2.2.2.2.2.2.2.2.2.2.2.2.2.2.1 k0_h1
theorem k0_off14_inb : ∀ (i : grid0.Coords) (v1 : BitVec 32) (k0_hw1 : k0_chk1 i v1) (k0_t4 : Fin (k0_t4_loop v1).trips), ∀ (k0_h1 : k0_cond1 i = 1#1), ∀ a, (k0_off14 i v1 k0_t4) a + S1x1.size a ≤ S3x192.size a := fun i v1 k0_hw1 k0_t4 k0_h1 => k0_hw1.1.2.2.2.2.2.2.2.2.2.2.2.2.2.2.2.2.2.2.2.2.2.2.1 k0_t4 k0_h1
theorem k0_mult4_dvd : ∀ (i : grid0.Coords) (v1 : BitVec 32) (k0_hw1 : k0_chk1 i v1) (k0_t4 : Fin (k0_t4_loop v1).trips), ∀ (k0_h1 : k0_cond1 i = 1#1), 64 ∣ (k0_mult4 v1 k0_t4).toNat := fun i v1 k0_hw1 k0_t4 k0_h1 => k0_hw1.1.2.2.2.2.2.2.2.2.2.2.2.2.2.2.2.2.2.2.2.2.2.2.2.1 k0_t4 k0_h1
theorem k0_off15_inb : ∀ (i : grid0.Coords) (v1 : BitVec 32) (k0_hw1 : k0_chk1 i v1) (k0_t4 : Fin (k0_t4_loop v1).trips), ∀ (k0_h1 : k0_cond1 i = 1#1), ∀ a, (k0_off15 v1 k0_t4) a + S2x64x128.size a ≤ S2x13056x128.size a := fun i v1 k0_hw1 k0_t4 k0_h1 => k0_hw1.1.2.2.2.2.2.2.2.2.2.2.2.2.2.2.2.2.2.2.2.2.2.2.2.2.1 k0_t4 k0_h1
theorem k0_off15_wordsfp8e4m3 : ∀ (i : grid0.Coords) (v1 : BitVec 32) (k0_hw1 : k0_chk1 i v1) (k0_t4 : Fin (k0_t4_loop v1).trips), ∀ (k0_h1 : k0_cond1 i = 1#1), (Rect.unit (s := S2x13056x128) (k0_off15 v1 k0_t4) S2x64x128.size (k0_off15_inb i v1 k0_hw1 k0_t4 k0_h1)).WholeWords (EltTy.packing .fp8e4m3) := fun i v1 k0_hw1 k0_t4 k0_h1 => k0_hw1.1.2.2.2.2.2.2.2.2.2.2.2.2.2.2.2.2.2.2.2.2.2.2.2.2.2.1 k0_t4 k0_h1 (k0_off15_inb i v1 k0_hw1 k0_t4 k0_h1)
theorem k0_off17_inb : ∀ (i : grid0.Coords) (v1 : BitVec 32) (k0_hw1 : k0_chk1 i v1) (k0_t4 : Fin (k0_t4_loop v1).trips), ∀ (k0_h1 : k0_cond1 i = 1#1), ∀ a, (k0_off17 v1 k0_t4) a + S2x64x128.size a ≤ S2x12288x128.size a := fun i v1 k0_hw1 k0_t4 k0_h1 => k0_hw1.1.2.2.2.2.2.2.2.2.2.2.2.2.2.2.2.2.2.2.2.2.2.2.2.2.2.2.1 k0_t4 k0_h1
theorem k0_off17_wordsfp8e4m3 : ∀ (i : grid0.Coords) (v1 : BitVec 32) (k0_hw1 : k0_chk1 i v1) (k0_t4 : Fin (k0_t4_loop v1).trips), ∀ (k0_h1 : k0_cond1 i = 1#1), (Rect.unit (s := S2x12288x128) (k0_off17 v1 k0_t4) S2x64x128.size (k0_off17_inb i v1 k0_hw1 k0_t4 k0_h1)).WholeWords (EltTy.packing .fp8e4m3) := fun i v1 k0_hw1 k0_t4 k0_h1 => k0_hw1.1.2.2.2.2.2.2.2.2.2.2.2.2.2.2.2.2.2.2.2.2.2.2.2.2.2.2.2.1 k0_t4 k0_h1 (k0_off17_inb i v1 k0_hw1 k0_t4 k0_h1)
theorem k0_t5_ok : ∀ (i : grid0.Coords) (v1 : BitVec 32) (k0_hw1 : k0_chk1 i v1), ∀ (k0_h1 : k0_cond1 i = 1#1), (k0_t5_loop v1).OK := fun i v1 k0_hw1 k0_h1 => k0_hw1.1.2.2.2.2.2.2.2.2.2.2.2.2.2.2.2.2.2.2.2.2.2.2.2.2.2.2.2.2.1 k0_h1
theorem k0_off18_inb : ∀ (i : grid0.Coords) (v1 : BitVec 32) (k0_hw1 : k0_chk1 i v1) (k0_t5 : Fin (k0_t5_loop v1).trips), ∀ (k0_h1 : k0_cond1 i = 1#1), ∀ a, (k0_off18 i v1 k0_t5) a + S1x1.size a ≤ S3x192.size a := fun i v1 k0_hw1 k0_t5 k0_h1 => k0_hw1.1.2.2.2.2.2.2.2.2.2.2.2.2.2.2.2.2.2.2.2.2.2.2.2.2.2.2.2.2.2.1 k0_t5 k0_h1
theorem k0_off20_inb : ∀ (i : grid0.Coords) (v1 : BitVec 32) (k0_hw1 : k0_chk1 i v1) (k0_t5 : Fin (k0_t5_loop v1).trips), ∀ (k0_h1 : k0_cond1 i = 1#1), ∀ a, (k0_off20 i v1 k0_t5) a + S1x1.size a ≤ S3x192.size a := fun i v1 k0_hw1 k0_t5 k0_h1 => k0_hw1.1.2.2.2.2.2.2.2.2.2.2.2.2.2.2.2.2.2.2.2.2.2.2.2.2.2.2.2.2.2.2.1 k0_t5 k0_h1
theorem k0_off22_inb : ∀ (i : grid0.Coords) (v1 : BitVec 32) (k0_hw1 : k0_chk1 i v1) (k0_t5 : Fin (k0_t5_loop v1).trips), ∀ (k0_h1 : k0_cond1 i = 1#1), ∀ a, (k0_off22 i v1 k0_t5) a + S1x1.size a ≤ S3x192.size a := fun i v1 k0_hw1 k0_t5 k0_h1 => k0_hw1.1.2.2.2.2.2.2.2.2.2.2.2.2.2.2.2.2.2.2.2.2.2.2.2.2.2.2.2.2.2.2.2 k0_t5 k0_h1
theorem k0_off24_inb : ∀ (i : grid0.Coords) (v1 : BitVec 32) (k0_hw1 : k0_chk1 i v1) (k0_t5 : Fin (k0_t5_loop v1).trips), ∀ (k0_h1 : k0_cond1 i = 1#1), ∀ a, (k0_off24 i v1 k0_t5) a + S1x1.size a ≤ S3x192.size a := fun i v1 k0_hw1 k0_t5 k0_h1 => k0_hw1.2.1.1 k0_t5 k0_h1
theorem k0_mult19_dvd : ∀ (i : grid0.Coords) (v1 : BitVec 32) (k0_hw1 : k0_chk1 i v1) (k0_t5 : Fin (k0_t5_loop v1).trips), ∀ (k0_h1 : k0_cond1 i = 1#1), 128 ∣ (k0_mult19 v1 k0_t5).toNat := fun i v1 k0_hw1 k0_t5 k0_h1 => k0_hw1.2.1.2.1 k0_t5 k0_h1
theorem k0_off26_inb : ∀ (i : grid0.Coords) (v1 : BitVec 32) (k0_hw1 : k0_chk1 i v1) (k0_t5 : Fin (k0_t5_loop v1).trips), ∀ (k0_h1 : k0_cond1 i = 1#1), ∀ a, (k0_off26 v1 k0_t5) a + S1x128x128.size a ≤ S2x13056x128.size a := fun i v1 k0_hw1 k0_t5 k0_h1 => k0_hw1.2.1.2.2.1 k0_t5 k0_h1
theorem k0_mult20_dvd : ∀ (i : grid0.Coords) (v1 : BitVec 32) (k0_hw1 : k0_chk1 i v1) (k0_t5 : Fin (k0_t5_loop v1).trips), ∀ (k0_h1 : k0_cond1 i = 1#1), 128 ∣ (k0_mult20 v1 k0_t5).toNat := fun i v1 k0_hw1 k0_t5 k0_h1 => k0_hw1.2.1.2.2.2.1 k0_t5 k0_h1
theorem k0_off27_inb : ∀ (i : grid0.Coords) (v1 : BitVec 32) (k0_hw1 : k0_chk1 i v1) (k0_t5 : Fin (k0_t5_loop v1).trips), ∀ (k0_h1 : k0_cond1 i = 1#1), ∀ a, (k0_off27 v1 k0_t5) a + S1x128x128.size a ≤ S2x12288x128.size a := fun i v1 k0_hw1 k0_t5 k0_h1 => k0_hw1.2.1.2.2.2.2.1 k0_t5 k0_h1
theorem k0_mult21_dvd : ∀ (i : grid0.Coords) (v1 : BitVec 32) (k0_hw1 : k0_chk1 i v1) (k0_t5 : Fin (k0_t5_loop v1).trips), ∀ (k0_h1 : k0_cond1 i = 1#1), 128 ∣ (k0_mult21 v1 k0_t5).toNat := fun i v1 k0_hw1 k0_t5 k0_h1 => k0_hw1.2.1.2.2.2.2.2.1 k0_t5 k0_h1
theorem k0_off28_inb : ∀ (i : grid0.Coords) (v1 : BitVec 32) (k0_hw1 : k0_chk1 i v1) (k0_t5 : Fin (k0_t5_loop v1).trips), ∀ (k0_h1 : k0_cond1 i = 1#1), ∀ a, (k0_off28 v1 k0_t5) a + S1x128x128.size a ≤ S2x128x13056.size a := fun i v1 k0_hw1 k0_t5 k0_h1 => k0_hw1.2.1.2.2.2.2.2.2.1 k0_t5 k0_h1
theorem k0_off28_packedbf16 : ∀ (i : grid0.Coords) (v1 : BitVec 32) (k0_hw1 : k0_chk1 i v1) (k0_t5 : Fin (k0_t5_loop v1).trips), ∀ (k0_h1 : k0_cond1 i = 1#1), (Rect.unit (s := S2x128x13056) (k0_off28 v1 k0_t5) S1x128x128.size (k0_off28_inb i v1 k0_hw1 k0_t5 k0_h1)).PackedRows (EltTy.packing .bf16) := fun i v1 k0_hw1 k0_t5 k0_h1 => k0_hw1.2.1.2.2.2.2.2.2.2.1 k0_t5 k0_h1 (k0_off28_inb i v1 k0_hw1 k0_t5 k0_h1)
theorem k0_off29_inb : ∀ (i : grid0.Coords) (v1 : BitVec 32) (k0_hw1 : k0_chk1 i v1) (k0_t5 : Fin (k0_t5_loop v1).trips), ∀ (k0_h1 : k0_cond1 i = 1#1), ∀ a, (k0_off29 i v1 k0_t5) a + S1x1.size a ≤ S3x192.size a := fun i v1 k0_hw1 k0_t5 k0_h1 => k0_hw1.2.1.2.2.2.2.2.2.2.2.1 k0_t5 k0_h1
theorem k0_off31_inb : ∀ (i : grid0.Coords) (v1 : BitVec 32) (k0_hw1 : k0_chk1 i v1) (k0_t5 : Fin (k0_t5_loop v1).trips), ∀ (k0_h1 : k0_cond1 i = 1#1), ∀ a, (k0_off31 i v1 k0_t5) a + S1x1.size a ≤ S3x192.size a := fun i v1 k0_hw1 k0_t5 k0_h1 => k0_hw1.2.1.2.2.2.2.2.2.2.2.2.1 k0_t5 k0_h1
theorem k0_off33_inb : ∀ (i : grid0.Coords) (v1 : BitVec 32) (k0_hw1 : k0_chk1 i v1) (k0_t5 : Fin (k0_t5_loop v1).trips), ∀ (k0_h1 : k0_cond1 i = 1#1), ∀ a, (k0_off33 i v1 k0_t5) a + S1x1.size a ≤ S3x192.size a := fun i v1 k0_hw1 k0_t5 k0_h1 => k0_hw1.2.1.2.2.2.2.2.2.2.2.2.2.1 k0_t5 k0_h1
theorem k0_off35_inb : ∀ (i : grid0.Coords) (v1 : BitVec 32) (k0_hw1 : k0_chk1 i v1) (k0_t5 : Fin (k0_t5_loop v1).trips), ∀ (k0_h1 : k0_cond1 i = 1#1), ∀ a, (k0_off35 i v1 k0_t5) a + S1x1.size a ≤ S3x192.size a := fun i v1 k0_hw1 k0_t5 k0_h1 => k0_hw1.2.1.2.2.2.2.2.2.2.2.2.2.2.1 k0_t5 k0_h1
theorem k0_mult26_dvd : ∀ (i : grid0.Coords) (v1 : BitVec 32) (k0_hw1 : k0_chk1 i v1) (k0_t5 : Fin (k0_t5_loop v1).trips), ∀ (k0_h1 : k0_cond1 i = 1#1), 128 ∣ (k0_mult26 v1 k0_t5).toNat := fun i v1 k0_hw1 k0_t5 k0_h1 => k0_hw1.2.1.2.2.2.2.2.2.2.2.2.2.2.2.1 k0_t5 k0_h1
theorem k0_off37_inb : ∀ (i : grid0.Coords) (v1 : BitVec 32) (k0_hw1 : k0_chk1 i v1) (k0_t5 : Fin (k0_t5_loop v1).trips), ∀ (k0_h1 : k0_cond1 i = 1#1), ∀ a, (k0_off37 v1 k0_t5) a + S1x128x128.size a ≤ S2x13056x128.size a := fun i v1 k0_hw1 k0_t5 k0_h1 => k0_hw1.2.1.2.2.2.2.2.2.2.2.2.2.2.2.2.1 k0_t5 k0_h1
theorem k0_mult27_dvd : ∀ (i : grid0.Coords) (v1 : BitVec 32) (k0_hw1 : k0_chk1 i v1) (k0_t5 : Fin (k0_t5_loop v1).trips), ∀ (k0_h1 : k0_cond1 i = 1#1), 128 ∣ (k0_mult27 v1 k0_t5).toNat := fun i v1 k0_hw1 k0_t5 k0_h1 => k0_hw1.2.1.2.2.2.2.2.2.2.2.2.2.2.2.2.2.1 k0_t5 k0_h1
theorem k0_off38_inb : ∀ (i : grid0.Coords) (v1 : BitVec 32) (k0_hw1 : k0_chk1 i v1) (k0_t5 : Fin (k0_t5_loop v1).trips), ∀ (k0_h1 : k0_cond1 i = 1#1), ∀ a, (k0_off38 v1 k0_t5) a + S1x128x128.size a ≤ S2x12288x128.size a := fun i v1 k0_hw1 k0_t5 k0_h1 => k0_hw1.2.1.2.2.2.2.2.2.2.2.2.2.2.2.2.2.2.1 k0_t5 k0_h1
theorem k0_mult28_dvd : ∀ (i : grid0.Coords) (v1 : BitVec 32) (k0_hw1 : k0_chk1 i v1) (k0_t5 : Fin (k0_t5_loop v1).trips), ∀ (k0_h1 : k0_cond1 i = 1#1), 128 ∣ (k0_mult28 v1 k0_t5).toNat := fun i v1 k0_hw1 k0_t5 k0_h1 => k0_hw1.2.1.2.2.2.2.2.2.2.2.2.2.2.2.2.2.2.2.1 k0_t5 k0_h1
theorem k0_off39_inb : ∀ (i : grid0.Coords) (v1 : BitVec 32) (k0_hw1 : k0_chk1 i v1) (k0_t5 : Fin (k0_t5_loop v1).trips), ∀ (k0_h1 : k0_cond1 i = 1#1), ∀ a, (k0_off39 v1 k0_t5) a + S1x128x128.size a ≤ S2x128x13056.size a := fun i v1 k0_hw1 k0_t5 k0_h1 => k0_hw1.2.1.2.2.2.2.2.2.2.2.2.2.2.2.2.2.2.2.2.1 k0_t5 k0_h1
theorem k0_off39_packedbf16 : ∀ (i : grid0.Coords) (v1 : BitVec 32) (k0_hw1 : k0_chk1 i v1) (k0_t5 : Fin (k0_t5_loop v1).trips), ∀ (k0_h1 : k0_cond1 i = 1#1), (Rect.unit (s := S2x128x13056) (k0_off39 v1 k0_t5) S1x128x128.size (k0_off39_inb i v1 k0_hw1 k0_t5 k0_h1)).PackedRows (EltTy.packing .bf16) := fun i v1 k0_hw1 k0_t5 k0_h1 => k0_hw1.2.1.2.2.2.2.2.2.2.2.2.2.2.2.2.2.2.2.2.2.1 k0_t5 k0_h1 (k0_off39_inb i v1 k0_hw1 k0_t5 k0_h1)
theorem k0_t6_ok : ∀ (i : grid0.Coords) (v1 : BitVec 32) (k0_hw1 : k0_chk1 i v1), ∀ (k0_h1 : k0_cond1 i = 1#1), (k0_t6_loop v1).OK := fun i v1 k0_hw1 k0_h1 => k0_hw1.2.1.2.2.2.2.2.2.2.2.2.2.2.2.2.2.2.2.2.2.2.1 k0_h1
theorem k0_off40_inb : ∀ (i : grid0.Coords) (v1 : BitVec 32) (k0_hw1 : k0_chk1 i v1) (k0_t6 : Fin (k0_t6_loop v1).trips), ∀ (k0_h1 : k0_cond1 i = 1#1), ∀ a, (k0_off40 i v1 k0_t6) a + S1x1.size a ≤ S3x192.size a := fun i v1 k0_hw1 k0_t6 k0_h1 => k0_hw1.2.1.2.2.2.2.2.2.2.2.2.2.2.2.2.2.2.2.2.2.2.2.1 k0_t6 k0_h1
theorem k0_off42_inb : ∀ (i : grid0.Coords) (v1 : BitVec 32) (k0_hw1 : k0_chk1 i v1) (k0_t6 : Fin (k0_t6_loop v1).trips), ∀ (k0_h1 : k0_cond1 i = 1#1), ∀ a, (k0_off42 i v1 k0_t6) a + S1x1.size a ≤ S3x192.size a := fun i v1 k0_hw1 k0_t6 k0_h1 => k0_hw1.2.1.2.2.2.2.2.2.2.2.2.2.2.2.2.2.2.2.2.2.2.2.2.1 k0_t6 k0_h1
theorem k0_off44_inb : ∀ (i : grid0.Coords) (v1 : BitVec 32) (k0_hw1 : k0_chk1 i v1) (k0_t6 : Fin (k0_t6_loop v1).trips), ∀ (k0_h1 : k0_cond1 i = 1#1), ∀ a, (k0_off44 i v1 k0_t6) a + S1x1.size a ≤ S3x192.size a := fun i v1 k0_hw1 k0_t6 k0_h1 => k0_hw1.2.1.2.2.2.2.2.2.2.2.2.2.2.2.2.2.2.2.2.2.2.2.2.2.1 k0_t6 k0_h1
theorem k0_off46_inb : ∀ (i : grid0.Coords) (v1 : BitVec 32) (k0_hw1 : k0_chk1 i v1) (k0_t6 : Fin (k0_t6_loop v1).trips), ∀ (k0_h1 : k0_cond1 i = 1#1), ∀ a, (k0_off46 i v1 k0_t6) a + S1x1.size a ≤ S3x192.size a := fun i v1 k0_hw1 k0_t6 k0_h1 => k0_hw1.2.1.2.2.2.2.2.2.2.2.2.2.2.2.2.2.2.2.2.2.2.2.2.2.2.1 k0_t6 k0_h1
theorem k0_mult33_dvd : ∀ (i : grid0.Coords) (v1 : BitVec 32) (k0_hw1 : k0_chk1 i v1) (k0_t6 : Fin (k0_t6_loop v1).trips), ∀ (k0_h1 : k0_cond1 i = 1#1), 128 ∣ (k0_mult33 v1 k0_t6).toNat := fun i v1 k0_hw1 k0_t6 k0_h1 => k0_hw1.2.1.2.2.2.2.2.2.2.2.2.2.2.2.2.2.2.2.2.2.2.2.2.2.2.2.1 k0_t6 k0_h1
theorem k0_off48_inb : ∀ (i : grid0.Coords) (v1 : BitVec 32) (k0_hw1 : k0_chk1 i v1) (k0_t6 : Fin (k0_t6_loop v1).trips), ∀ (k0_h1 : k0_cond1 i = 1#1), ∀ a, (k0_off48 v1 k0_t6) a + S1x128x128.size a ≤ S2x13056x128.size a := fun i v1 k0_hw1 k0_t6 k0_h1 => k0_hw1.2.1.2.2.2.2.2.2.2.2.2.2.2.2.2.2.2.2.2.2.2.2.2.2.2.2.2.1 k0_t6 k0_h1
theorem k0_mult34_dvd : ∀ (i : grid0.Coords) (v1 : BitVec 32) (k0_hw1 : k0_chk1 i v1) (k0_t6 : Fin (k0_t6_loop v1).trips), ∀ (k0_h1 : k0_cond1 i = 1#1), 128 ∣ (k0_mult34 v1 k0_t6).toNat := fun i v1 k0_hw1 k0_t6 k0_h1 => k0_hw1.2.1.2.2.2.2.2.2.2.2.2.2.2.2.2.2.2.2.2.2.2.2.2.2.2.2.2.2.1 k0_t6 k0_h1
theorem k0_off49_inb : ∀ (i : grid0.Coords) (v1 : BitVec 32) (k0_hw1 : k0_chk1 i v1) (k0_t6 : Fin (k0_t6_loop v1).trips), ∀ (k0_h1 : k0_cond1 i = 1#1), ∀ a, (k0_off49 v1 k0_t6) a + S1x128x128.size a ≤ S2x12288x128.size a := fun i v1 k0_hw1 k0_t6 k0_h1 => k0_hw1.2.1.2.2.2.2.2.2.2.2.2.2.2.2.2.2.2.2.2.2.2.2.2.2.2.2.2.2.2.1 k0_t6 k0_h1
theorem k0_mult35_dvd : ∀ (i : grid0.Coords) (v1 : BitVec 32) (k0_hw1 : k0_chk1 i v1) (k0_t6 : Fin (k0_t6_loop v1).trips), ∀ (k0_h1 : k0_cond1 i = 1#1), 128 ∣ (k0_mult35 v1 k0_t6).toNat := fun i v1 k0_hw1 k0_t6 k0_h1 => k0_hw1.2.1.2.2.2.2.2.2.2.2.2.2.2.2.2.2.2.2.2.2.2.2.2.2.2.2.2.2.2.2.1 k0_t6 k0_h1
theorem k0_off50_inb : ∀ (i : grid0.Coords) (v1 : BitVec 32) (k0_hw1 : k0_chk1 i v1) (k0_t6 : Fin (k0_t6_loop v1).trips), ∀ (k0_h1 : k0_cond1 i = 1#1), ∀ a, (k0_off50 v1 k0_t6) a + S1x128x128.size a ≤ S2x128x13056.size a := fun i v1 k0_hw1 k0_t6 k0_h1 => k0_hw1.2.1.2.2.2.2.2.2.2.2.2.2.2.2.2.2.2.2.2.2.2.2.2.2.2.2.2.2.2.2.2.1 k0_t6 k0_h1
theorem k0_off50_packedbf16 : ∀ (i : grid0.Coords) (v1 : BitVec 32) (k0_hw1 : k0_chk1 i v1) (k0_t6 : Fin (k0_t6_loop v1).trips), ∀ (k0_h1 : k0_cond1 i = 1#1), (Rect.unit (s := S2x128x13056) (k0_off50 v1 k0_t6) S1x128x128.size (k0_off50_inb i v1 k0_hw1 k0_t6 k0_h1)).PackedRows (EltTy.packing .bf16) := fun i v1 k0_hw1 k0_t6 k0_h1 => k0_hw1.2.1.2.2.2.2.2.2.2.2.2.2.2.2.2.2.2.2.2.2.2.2.2.2.2.2.2.2.2.2.2.2.1 k0_t6 k0_h1 (k0_off50_inb i v1 k0_hw1 k0_t6 k0_h1)
theorem k0_off51_inb : ∀ (i : grid0.Coords) (v1 : BitVec 32) (k0_hw1 : k0_chk1 i v1) (k0_t6 : Fin (k0_t6_loop v1).trips), ∀ (k0_h1 : k0_cond1 i = 1#1), ∀ a, (k0_off51 i v1 k0_t6) a + S1x1.size a ≤ S3x192.size a := fun i v1 k0_hw1 k0_t6 k0_h1 => k0_hw1.2.1.2.2.2.2.2.2.2.2.2.2.2.2.2.2.2.2.2.2.2.2.2.2.2.2.2.2.2.2.2.2.2 k0_t6 k0_h1
theorem k0_off53_inb : ∀ (i : grid0.Coords) (v1 : BitVec 32) (k0_hw1 : k0_chk1 i v1) (k0_t6 : Fin (k0_t6_loop v1).trips), ∀ (k0_h1 : k0_cond1 i = 1#1), ∀ a, (k0_off53 i v1 k0_t6) a + S1x1.size a ≤ S3x192.size a := fun i v1 k0_hw1 k0_t6 k0_h1 => k0_hw1.2.2.1.1 k0_t6 k0_h1
theorem k0_off55_inb : ∀ (i : grid0.Coords) (v1 : BitVec 32) (k0_hw1 : k0_chk1 i v1) (k0_t6 : Fin (k0_t6_loop v1).trips), ∀ (k0_h1 : k0_cond1 i = 1#1), ∀ a, (k0_off55 i v1 k0_t6) a + S1x1.size a ≤ S3x192.size a := fun i v1 k0_hw1 k0_t6 k0_h1 => k0_hw1.2.2.1.2.1 k0_t6 k0_h1
theorem k0_off57_inb : ∀ (i : grid0.Coords) (v1 : BitVec 32) (k0_hw1 : k0_chk1 i v1) (k0_t6 : Fin (k0_t6_loop v1).trips), ∀ (k0_h1 : k0_cond1 i = 1#1), ∀ a, (k0_off57 i v1 k0_t6) a + S1x1.size a ≤ S3x192.size a := fun i v1 k0_hw1 k0_t6 k0_h1 => k0_hw1.2.2.1.2.2.1 k0_t6 k0_h1
theorem k0_mult40_dvd : ∀ (i : grid0.Coords) (v1 : BitVec 32) (k0_hw1 : k0_chk1 i v1) (k0_t6 : Fin (k0_t6_loop v1).trips), ∀ (k0_h1 : k0_cond1 i = 1#1), 128 ∣ (k0_mult40 v1 k0_t6).toNat := fun i v1 k0_hw1 k0_t6 k0_h1 => k0_hw1.2.2.1.2.2.2.1 k0_t6 k0_h1
theorem k0_off59_inb : ∀ (i : grid0.Coords) (v1 : BitVec 32) (k0_hw1 : k0_chk1 i v1) (k0_t6 : Fin (k0_t6_loop v1).trips), ∀ (k0_h1 : k0_cond1 i = 1#1), ∀ a, (k0_off59 v1 k0_t6) a + S1x128x128.size a ≤ S2x13056x128.size a := fun i v1 k0_hw1 k0_t6 k0_h1 => k0_hw1.2.2.1.2.2.2.2.1 k0_t6 k0_h1
theorem k0_mult41_dvd : ∀ (i : grid0.Coords) (v1 : BitVec 32) (k0_hw1 : k0_chk1 i v1) (k0_t6 : Fin (k0_t6_loop v1).trips), ∀ (k0_h1 : k0_cond1 i = 1#1), 128 ∣ (k0_mult41 v1 k0_t6).toNat := fun i v1 k0_hw1 k0_t6 k0_h1 => k0_hw1.2.2.1.2.2.2.2.2.1 k0_t6 k0_h1
theorem k0_off60_inb : ∀ (i : grid0.Coords) (v1 : BitVec 32) (k0_hw1 : k0_chk1 i v1) (k0_t6 : Fin (k0_t6_loop v1).trips), ∀ (k0_h1 : k0_cond1 i = 1#1), ∀ a, (k0_off60 v1 k0_t6) a + S1x128x128.size a ≤ S2x12288x128.size a := fun i v1 k0_hw1 k0_t6 k0_h1 => k0_hw1.2.2.1.2.2.2.2.2.2.1 k0_t6 k0_h1
theorem k0_mult42_dvd : ∀ (i : grid0.Coords) (v1 : BitVec 32) (k0_hw1 : k0_chk1 i v1) (k0_t6 : Fin (k0_t6_loop v1).trips), ∀ (k0_h1 : k0_cond1 i = 1#1), 128 ∣ (k0_mult42 v1 k0_t6).toNat := fun i v1 k0_hw1 k0_t6 k0_h1 => k0_hw1.2.2.1.2.2.2.2.2.2.2.1 k0_t6 k0_h1
theorem k0_off61_inb : ∀ (i : grid0.Coords) (v1 : BitVec 32) (k0_hw1 : k0_chk1 i v1) (k0_t6 : Fin (k0_t6_loop v1).trips), ∀ (k0_h1 : k0_cond1 i = 1#1), ∀ a, (k0_off61 v1 k0_t6) a + S1x128x128.size a ≤ S2x128x13056.size a := fun i v1 k0_hw1 k0_t6 k0_h1 => k0_hw1.2.2.1.2.2.2.2.2.2.2.2.1 k0_t6 k0_h1
theorem k0_off61_packedbf16 : ∀ (i : grid0.Coords) (v1 : BitVec 32) (k0_hw1 : k0_chk1 i v1) (k0_t6 : Fin (k0_t6_loop v1).trips), ∀ (k0_h1 : k0_cond1 i = 1#1), (Rect.unit (s := S2x128x13056) (k0_off61 v1 k0_t6) S1x128x128.size (k0_off61_inb i v1 k0_hw1 k0_t6 k0_h1)).PackedRows (EltTy.packing .bf16) := fun i v1 k0_hw1 k0_t6 k0_h1 => k0_hw1.2.2.1.2.2.2.2.2.2.2.2.2.1 k0_t6 k0_h1 (k0_off61_inb i v1 k0_hw1 k0_t6 k0_h1)
theorem k0_t9_ok : ∀ (i : grid0.Coords) (v1 : BitVec 32) (k0_hw1 : k0_chk1 i v1), (k0_t9_loop v1).OK := fun i v1 k0_hw1 => k0_hw1.2.2.1.2.2.2.2.2.2.2.2.2.2.1
theorem k0_mult52_dvd : ∀ (i : grid0.Coords) (v1 : BitVec 32) (k0_hw1 : k0_chk1 i v1) (k0_t9 : Fin (k0_t9_loop v1).trips), 256 ∣ (k0_mult52 v1 k0_t9).toNat := fun i v1 k0_hw1 k0_t9 => k0_hw1.2.2.1.2.2.2.2.2.2.2.2.2.2.2.1 k0_t9
theorem k0_off68_inb : ∀ (i : grid0.Coords) (v1 : BitVec 32) (k0_hw1 : k0_chk1 i v1) (k0_t9 : Fin (k0_t9_loop v1).trips), ∀ a, (k0_off68 i v1 k0_t9) a + S1x256x128.size a ≤ S2x13056x128.size a := fun i v1 k0_hw1 k0_t9 => k0_hw1.2.2.1.2.2.2.2.2.2.2.2.2.2.2.2.1 k0_t9
theorem k0_mult53_dvd : ∀ (i : grid0.Coords) (v1 : BitVec 32) (k0_hw1 : k0_chk1 i v1) (k0_t9 : Fin (k0_t9_loop v1).trips), 256 ∣ (k0_mult53 v1 k0_t9).toNat := fun i v1 k0_hw1 k0_t9 => k0_hw1.2.2.1.2.2.2.2.2.2.2.2.2.2.2.2.2.1 k0_t9
theorem k0_mult54_dvd : ∀ (i : grid0.Coords) (v1 : BitVec 32) (k0_hw1 : k0_chk1 i v1) (k0_t9 : Fin (k0_t9_loop v1).trips), 256 ∣ (k0_mult54 v1 k0_t9).toNat := fun i v1 k0_hw1 k0_t9 => k0_hw1.2.2.1.2.2.2.2.2.2.2.2.2.2.2.2.2.2.1 k0_t9
theorem k0_off69_inb : ∀ (i : grid0.Coords) (v1 : BitVec 32) (k0_hw1 : k0_chk1 i v1) (k0_t9 : Fin (k0_t9_loop v1).trips), ∀ a, (k0_off69 i v1 k0_t9) a + S1x128x256.size a ≤ S2x128x13056.size a := fun i v1 k0_hw1 k0_t9 => k0_hw1.2.2.1.2.2.2.2.2.2.2.2.2.2.2.2.2.2.2.1 k0_t9
theorem k0_t10_ok : ∀ (i : grid0.Coords) (v1 : BitVec 32) (k0_hw1 : k0_chk1 i v1), (k0_t10_loop v1).OK := fun i v1 k0_hw1 => k0_hw1.2.2.1.2.2.2.2.2.2.2.2.2.2.2.2.2.2.2.2.1
theorem k0_mult55_dvd : ∀ (i : grid0.Coords) (v1 : BitVec 32) (k0_hw1 : k0_chk1 i v1) (k0_t10 : Fin (k0_t10_loop v1).trips), 256 ∣ (k0_mult55 v1 k0_t10).toNat := fun i v1 k0_hw1 k0_t10 => k0_hw1.2.2.1.2.2.2.2.2.2.2.2.2.2.2.2.2.2.2.2.2.1 k0_t10
theorem k0_off70_inb : ∀ (i : grid0.Coords) (v1 : BitVec 32) (k0_hw1 : k0_chk1 i v1) (k0_t10 : Fin (k0_t10_loop v1).trips), ∀ a, (k0_off70 i v1 k0_t10) a + S1x256x128.size a ≤ S2x13056x128.size a := fun i v1 k0_hw1 k0_t10 => k0_hw1.2.2.1.2.2.2.2.2.2.2.2.2.2.2.2.2.2.2.2.2.2.1 k0_t10
theorem k0_mult56_dvd : ∀ (i : grid0.Coords) (v1 : BitVec 32) (k0_hw1 : k0_chk1 i v1) (k0_t10 : Fin (k0_t10_loop v1).trips), 256 ∣ (k0_mult56 v1 k0_t10).toNat := fun i v1 k0_hw1 k0_t10 => k0_hw1.2.2.1.2.2.2.2.2.2.2.2.2.2.2.2.2.2.2.2.2.2.2.1 k0_t10
theorem k0_mult57_dvd : ∀ (i : grid0.Coords) (v1 : BitVec 32) (k0_hw1 : k0_chk1 i v1) (k0_t10 : Fin (k0_t10_loop v1).trips), 256 ∣ (k0_mult57 v1 k0_t10).toNat := fun i v1 k0_hw1 k0_t10 => k0_hw1.2.2.1.2.2.2.2.2.2.2.2.2.2.2.2.2.2.2.2.2.2.2.2.1 k0_t10
theorem k0_off71_inb : ∀ (i : grid0.Coords) (v1 : BitVec 32) (k0_hw1 : k0_chk1 i v1) (k0_t10 : Fin (k0_t10_loop v1).trips), ∀ a, (k0_off71 i v1 k0_t10) a + S1x128x256.size a ≤ S2x128x13056.size a := fun i v1 k0_hw1 k0_t10 => k0_hw1.2.2.1.2.2.2.2.2.2.2.2.2.2.2.2.2.2.2.2.2.2.2.2.2.1 k0_t10
theorem k0_t11_ok : ∀ (i : grid0.Coords) (v1 : BitVec 32) (k0_hw1 : k0_chk1 i v1), (k0_t11_loop v1).OK := fun i v1 k0_hw1 => k0_hw1.2.2.1.2.2.2.2.2.2.2.2.2.2.2.2.2.2.2.2.2.2.2.2.2.2.1
theorem k0_mult58_dvd : ∀ (i : grid0.Coords) (v1 : BitVec 32) (k0_hw1 : k0_chk1 i v1) (k0_t11 : Fin (k0_t11_loop v1).trips), 256 ∣ (k0_mult58 v1 k0_t11).toNat := fun i v1 k0_hw1 k0_t11 => k0_hw1.2.2.1.2.2.2.2.2.2.2.2.2.2.2.2.2.2.2.2.2.2.2.2.2.2.2.1 k0_t11
theorem k0_off72_inb : ∀ (i : grid0.Coords) (v1 : BitVec 32) (k0_hw1 : k0_chk1 i v1) (k0_t11 : Fin (k0_t11_loop v1).trips), ∀ a, (k0_off72 i v1 k0_t11) a + S1x256x128.size a ≤ S2x13056x128.size a := fun i v1 k0_hw1 k0_t11 => k0_hw1.2.2.1.2.2.2.2.2.2.2.2.2.2.2.2.2.2.2.2.2.2.2.2.2.2.2.2.1 k0_t11
theorem k0_mult59_dvd : ∀ (i : grid0.Coords) (v1 : BitVec 32) (k0_hw1 : k0_chk1 i v1) (k0_t11 : Fin (k0_t11_loop v1).trips), 256 ∣ (k0_mult59 v1 k0_t11).toNat := fun i v1 k0_hw1 k0_t11 => k0_hw1.2.2.1.2.2.2.2.2.2.2.2.2.2.2.2.2.2.2.2.2.2.2.2.2.2.2.2.2.1 k0_t11
theorem k0_mult60_dvd : ∀ (i : grid0.Coords) (v1 : BitVec 32) (k0_hw1 : k0_chk1 i v1) (k0_t11 : Fin (k0_t11_loop v1).trips), 256 ∣ (k0_mult60 v1 k0_t11).toNat := fun i v1 k0_hw1 k0_t11 => k0_hw1.2.2.1.2.2.2.2.2.2.2.2.2.2.2.2.2.2.2.2.2.2.2.2.2.2.2.2.2.2.1 k0_t11
theorem k0_off73_inb : ∀ (i : grid0.Coords) (v1 : BitVec 32) (k0_hw1 : k0_chk1 i v1) (k0_t11 : Fin (k0_t11_loop v1).trips), ∀ a, (k0_off73 i v1 k0_t11) a + S1x128x256.size a ≤ S2x128x13056.size a := fun i v1 k0_hw1 k0_t11 => k0_hw1.2.2.1.2.2.2.2.2.2.2.2.2.2.2.2.2.2.2.2.2.2.2.2.2.2.2.2.2.2.2.1 k0_t11
theorem k0_t12_ok : ∀ (i : grid0.Coords) (v1 : BitVec 32) (k0_hw1 : k0_chk1 i v1), (k0_t12_loop v1).OK := fun i v1 k0_hw1 => k0_hw1.2.2.1.2.2.2.2.2.2.2.2.2.2.2.2.2.2.2.2.2.2.2.2.2.2.2.2.2.2.2.2.1
theorem k0_mult61_dvd : ∀ (i : grid0.Coords) (v1 : BitVec 32) (k0_hw1 : k0_chk1 i v1) (k0_t12 : Fin (k0_t12_loop v1).trips), 256 ∣ (k0_mult61 v1 k0_t12).toNat := fun i v1 k0_hw1 k0_t12 => k0_hw1.2.2.1.2.2.2.2.2.2.2.2.2.2.2.2.2.2.2.2.2.2.2.2.2.2.2.2.2.2.2.2.2.1 k0_t12
theorem k0_off74_inb : ∀ (i : grid0.Coords) (v1 : BitVec 32) (k0_hw1 : k0_chk1 i v1) (k0_t12 : Fin (k0_t12_loop v1).trips), ∀ a, (k0_off74 i v1 k0_t12) a + S1x256x128.size a ≤ S2x13056x128.size a := fun i v1 k0_hw1 k0_t12 => k0_hw1.2.2.1.2.2.2.2.2.2.2.2.2.2.2.2.2.2.2.2.2.2.2.2.2.2.2.2.2.2.2.2.2.2.1 k0_t12
theorem k0_mult62_dvd : ∀ (i : grid0.Coords) (v1 : BitVec 32) (k0_hw1 : k0_chk1 i v1) (k0_t12 : Fin (k0_t12_loop v1).trips), 256 ∣ (k0_mult62 v1 k0_t12).toNat := fun i v1 k0_hw1 k0_t12 => k0_hw1.2.2.1.2.2.2.2.2.2.2.2.2.2.2.2.2.2.2.2.2.2.2.2.2.2.2.2.2.2.2.2.2.2.2 k0_t12
theorem k0_mult63_dvd : ∀ (i : grid0.Coords) (v1 : BitVec 32) (k0_hw1 : k0_chk1 i v1) (k0_t12 : Fin (k0_t12_loop v1).trips), 256 ∣ (k0_mult63 v1 k0_t12).toNat := fun i v1 k0_hw1 k0_t12 => k0_hw1.2.2.2.1 k0_t12
theorem k0_off75_inb : ∀ (i : grid0.Coords) (v1 : BitVec 32) (k0_hw1 : k0_chk1 i v1) (k0_t12 : Fin (k0_t12_loop v1).trips), ∀ a, (k0_off75 i v1 k0_t12) a + S1x128x256.size a ≤ S2x128x13056.size a := fun i v1 k0_hw1 k0_t12 => k0_hw1.2.2.2.2 k0_t12

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S2x64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S2x64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2x640x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x2x640x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x2x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e_over_sqrt_d" => some (((Real.sqrt 128)⁻¹ * (Real.log 2)⁻¹ : ℝ) : EReal)
  | _ => none
-- ==== ReferenceIdeal.lean ====
abbrev S3x192 : Shape := ⟨2, ![3, 192]⟩
abbrev S3 : Shape := ⟨1, ![3]⟩
abbrev S3x2x10240x128 : Shape := ⟨4, ![3, 2, 10240, 128]⟩
abbrev S3x2x10x1x1024 : Shape := ⟨5, ![3, 2, 10, 1, 1024]⟩
abbrev S720x2x64x128 : Shape := ⟨4, ![720, 2, 64, 128]⟩
abbrev S2x64x768 : Shape := ⟨3, ![2, 64, 768]⟩
abbrev S3x2x640x128 : Shape := ⟨4, ![3, 2, 640, 128]⟩
abbrev S3x2x640 : Shape := ⟨3, ![3, 2, 640]⟩
abbrev S3x2x640x16x128 : Shape := ⟨5, ![3, 2, 640, 16, 128]⟩
abbrev S3x2x640x16 : Shape := ⟨4, ![3, 2, 640, 16]⟩
abbrev S_ : Shape := ⟨0, ![]⟩
abbrev S3x192x1 : Shape := ⟨3, ![3, 192, 1]⟩
abbrev S3x192x2x64x128 : Shape := ⟨5, ![3, 192, 2, 64, 128]⟩
abbrev S3x2x192x64x128 : Shape := ⟨5, ![3, 2, 192, 64, 128]⟩
abbrev S3x2x12288x128 : Shape := ⟨4, ![3, 2, 12288, 128]⟩
abbrev S2x64x3x192 : Shape := ⟨4, ![2, 64, 3, 192]⟩
abbrev S3x2x192x64 : Shape := ⟨4, ![3, 2, 192, 64]⟩
abbrev S3x2x12288 : Shape := ⟨3, ![3, 2, 12288]⟩
abbrev S3x2x640x16x12288 : Shape := ⟨5, ![3, 2, 640, 16, 12288]⟩
abbrev S3x2x640x16x640 : Shape := ⟨5, ![3, 2, 640, 16, 640]⟩
abbrev S3x2x640x16x1 : Shape := ⟨5, ![3, 2, 640, 16, 1]⟩
abbrev S3x2x1x1x12288 : Shape := ⟨5, ![3, 2, 1, 1, 12288]⟩
abbrev S3x2x1x1x640 : Shape := ⟨5, ![3, 2, 1, 1, 640]⟩
abbrev S12288 : Shape := ⟨1, ![12288]⟩
abbrev S1x12288 : Shape := ⟨2, ![1, 12288]⟩
abbrev S3x1 : Shape := ⟨2, ![3, 1]⟩
abbrev S3x12288 : Shape := ⟨2, ![3, 12288]⟩
abbrev S640 : Shape := ⟨1, ![640]⟩
abbrev S1x640 : Shape := ⟨2, ![1, 640]⟩
abbrev S640x1 : Shape := ⟨2, ![640, 1]⟩
abbrev S640x640 : Shape := ⟨2, ![640, 640]⟩
abbrev S3x1x1x1x12288 : Shape := ⟨5, ![3, 1, 1, 1, 12288]⟩
abbrev S1x1x640x1x640 : Shape := ⟨5, ![1, 1, 640, 1, 640]⟩
abbrev S3x640x2x16x128 : Shape := ⟨5, ![3, 640, 2, 16, 128]⟩
abbrev S3x640x4096 : Shape := ⟨3, ![3, 640, 4096]⟩

abbrev nBuf : Space → Nat
  | .hbm => 143
  | .vmem => 10
  | .smem => 0
  | _ => 0

abbrev hbmTy0_0 (i : Nat) : BufTy := match i % 128 with
  | 0 => ⟨S3x192, .i32⟩
  | 1 => ⟨S3, .i32⟩
  | 2 => ⟨S3x2x10240x128, .fp8e4m3⟩
  | 3 => ⟨S3x2x10x1x1024, .f32⟩
  | 4 => ⟨S720x2x64x128, .fp8e4m3⟩
  | 5 => ⟨S2x64x768, .f32⟩
  | 6 => ⟨S720x2x64x128, .fp8e4m3⟩
  | 7 => ⟨S2x64x768, .f32⟩
  | 8 => ⟨S3x2x640x128, .fp8e4m3⟩
  | 9 => ⟨S3x2x640, .f32⟩
  | 10 => ⟨S3x2x640x128, .fp8e4m3⟩
  | 11 => ⟨S3x2x640, .f32⟩
  | 12 => ⟨S3x2x10240x128, .bf16⟩
  | 13 => ⟨S720x2x64x128, .bf16⟩
  | 14 => ⟨S720x2x64x128, .bf16⟩
  | 15 => ⟨S3x2x640x128, .bf16⟩
  | 16 => ⟨S3x2x640x128, .bf16⟩
  | 17 => ⟨S3x2x640x16x128, .bf16⟩
  | 18 => ⟨S3x2x640x16, .f32⟩
  | 19 => ⟨S_, .i32⟩
  | 20 => ⟨S3x192, .i32⟩
  | 21 => ⟨S3x192, .i1⟩
  | 22 => ⟨S_, .i32⟩
  | 23 => ⟨S3x192, .i32⟩
  | 24 => ⟨S3x192, .i32⟩
  | 25 => ⟨S3x192, .i32⟩
  | 26 => ⟨S3x192x1, .i32⟩
  | 27 => ⟨S3x192x2x64x128, .bf16⟩
  | 28 => ⟨S3x2x192x64x128, .bf16⟩
  | 29 => ⟨S3x2x12288x128, .bf16⟩
  | 30 => ⟨S_, .i32⟩
  | 31 => ⟨S3x192, .i32⟩
  | 32 => ⟨S3x192, .i1⟩
  | 33 => ⟨S_, .i32⟩
  | 34 => ⟨S3x192, .i32⟩
  | 35 => ⟨S3x192, .i32⟩
  | 36 => ⟨S3x192, .i32⟩
  | 37 => ⟨S3x192x1, .i32⟩
  | 38 => ⟨S3x192x2x64x128, .bf16⟩
  | 39 => ⟨S3x2x192x64x128, .bf16⟩
  | 40 => ⟨S3x2x12288x128, .bf16⟩
  | 41 => ⟨S_, .i32⟩
  | 42 => ⟨S3x192, .i32⟩
  | 43 => ⟨S3x192, .i1⟩
  | 44 => ⟨S_, .i32⟩
  | 45 => ⟨S3x192, .i32⟩
  | 46 => ⟨S3x192, .i32⟩
  | 47 => ⟨S3x192, .i32⟩
  | 48 => ⟨S3x192x1, .i32⟩
  | 49 => ⟨S2x64x3x192, .f32⟩
  | 50 => ⟨S3x2x192x64, .f32⟩
  | 51 => ⟨S3x2x12288, .f32⟩
  | 52 => ⟨S_, .i32⟩
  | 53 => ⟨S3x192, .i32⟩
  | 54 => ⟨S3x192, .i1⟩
  | 55 => ⟨S_, .i32⟩
  | 56 => ⟨S3x192, .i32⟩
  | 57 => ⟨S3x192, .i32⟩
  | 58 => ⟨S3x192, .i32⟩
  | 59 => ⟨S3x192x1, .i32⟩
  | 60 => ⟨S2x64x3x192, .f32⟩
  | 61 => ⟨S3x2x192x64, .f32⟩
  | 62 => ⟨S3x2x12288, .f32⟩
  | 63 => ⟨S3x2x640x16x12288, .f32⟩
  | 64 => ⟨S3x2x640x16x640, .f32⟩
  | 65 => ⟨S_, .f32⟩
  | 66 => ⟨S_, .f32⟩
  | 67 => ⟨S3x2x640x16x1, .f32⟩
  | 68 => ⟨S3x2x1x1x12288, .f32⟩
  | 69 => ⟨S3x2x640x16x12288, .f32⟩
  | 70 => ⟨S3x2x640x16x12288, .f32⟩
  | 71 => ⟨S3x2x640x16x12288, .f32⟩
  | 72 => ⟨S3x2x640x16x12288, .f32⟩
  | 73 => ⟨S3x2x640x16x12288, .f32⟩
  | 74 => ⟨S3x2x640x16x12288, .f32⟩
  | 75 => ⟨S3x2x640x16x1, .f32⟩
  | 76 => ⟨S3x2x1x1x640, .f32⟩
  | 77 => ⟨S3x2x640x16x640, .f32⟩
  | 78 => ⟨S3x2x640x16x640, .f32⟩
  | 79 => ⟨S3x2x640x16x640, .f32⟩
  | 80 => ⟨S3x2x640x16x640, .f32⟩
  | 81 => ⟨S3x2x640x16x640, .f32⟩
  | 82 => ⟨S3x2x640x16x640, .f32⟩
  | 83 => ⟨S12288, .i32⟩
  | 84 => ⟨S1x12288, .i32⟩
  | 85 => ⟨S3x1, .i32⟩
  | 86 => ⟨S3x12288, .i32⟩
  | 87 => ⟨S3x12288, .i32⟩
  | 88 => ⟨S3x12288, .i1⟩
  | 89 => ⟨S640, .i32⟩
  | 90 => ⟨S1x640, .i32⟩
  | 91 => ⟨S640x1, .i32⟩
  | 92 => ⟨S640x640, .i32⟩
  | 93 => ⟨S640x640, .i32⟩
  | 94 => ⟨S640x640, .i1⟩
  | 95 => ⟨S3x1x1x1x12288, .i1⟩
  | 96 => ⟨S_, .f32⟩
  | 97 => ⟨S_, .f32⟩
  | 98 => ⟨S3x2x640x16x12288, .i1⟩
  | 99 => ⟨S3x2x640x16x12288, .f32⟩
  | 100 => ⟨S3x2x640x16x12288, .f32⟩
  | 101 => ⟨S1x1x640x1x640, .i1⟩
  | 102 => ⟨S_, .f32⟩
  | 103 => ⟨S_, .f32⟩
  | 104 => ⟨S3x2x640x16x640, .i1⟩
  | 105 => ⟨S3x2x640x16x640, .f32⟩
  | 106 => ⟨S3x2x640x16x640, .f32⟩
  | 107 => ⟨S_, .f32⟩
  | 108 => ⟨S3x2x640x16, .f32⟩
  | 109 => ⟨S3x2x640x16x1, .f32⟩
  | 110 => ⟨S_, .f32⟩
  | 111 => ⟨S3x2x640x16, .f32⟩
  | 112 => ⟨S3x2x640x16x1, .f32⟩
  | 113 => ⟨S3x2x640x16x1, .f32⟩
  | 114 => ⟨S3x2x640x16x12288, .f32⟩
  | 115 => ⟨S3x2x640x16x12288, .f32⟩
  | 116 => ⟨S3x2x640x16x12288, .f32⟩
  | 117 => ⟨S3x2x640x16x640, .f32⟩
  | 118 => ⟨S3x2x640x16x640, .f32⟩
  | 119 => ⟨S3x2x640x16x640, .f32⟩
  | 120 => ⟨S_, .f32⟩
  | 121 => ⟨S3x2x640x16, .f32⟩
  | 122 => ⟨S3x2x640x16x1, .f32⟩
  | 123 => ⟨S_, .f32⟩
  | 124 => ⟨S3x2x640x16, .f32⟩
  | 125 => ⟨S3x2x640x16x1, .f32⟩
  | 126 => ⟨S3x2x640x16x1, .f32⟩
  | 127 => ⟨S3x2x1x1x12288, .f32⟩
  | _ => ⟨S3x192, .i32⟩

abbrev hbmTy0_1 (i : Nat) : BufTy := match i % 128 with
  | 0 => ⟨S3x2x640x16x12288, .f32⟩
  | 1 => ⟨S3x2x640x16x12288, .f32⟩
  | 2 => ⟨S3x2x640x16x12288, .bf16⟩
  | 3 => ⟨S3x2x1x1x640, .f32⟩
  | 4 => ⟨S3x2x640x16x640, .f32⟩
  | 5 => ⟨S3x2x640x16x640, .f32⟩
  | 6 => ⟨S3x2x640x16x640, .bf16⟩
  | 7 => ⟨S3x2x640x16x128, .f32⟩
  | 8 => ⟨S3x2x640x16x128, .f32⟩
  | 9 => ⟨S3x2x640x16x128, .f32⟩
  | 10 => ⟨S3x2x640x16x128, .f32⟩
  | 11 => ⟨S3x2x640x16x128, .f32⟩
  | 12 => ⟨S3x640x2x16x128, .f32⟩
  | 13 => ⟨S3x640x4096, .f32⟩
  | 14 => ⟨S3x640x4096, .bf16⟩
  | _ => ⟨S3x192, .i32⟩

abbrev hbmTy (i : Nat) : BufTy := match i / 128 with
  | 0 => hbmTy0_0 i
  | 1 => hbmTy0_1 i
  | _ => ⟨S3x192, .i32⟩

abbrev bufTy : (tb : Table) → Fin (tcTables nBuf tb) → BufTy
  | .hbm, ⟨i, _⟩ => hbmTy i
  | .local _ .vmem, ⟨0, _⟩ => ⟨S3x2x10240x128, .fp8e4m3⟩
  | .local _ .vmem, ⟨1, _⟩ => ⟨S720x2x64x128, .fp8e4m3⟩
  | .local _ .vmem, ⟨2, _⟩ => ⟨S720x2x64x128, .fp8e4m3⟩
  | .local _ .vmem, ⟨3, _⟩ => ⟨S3x2x640x128, .fp8e4m3⟩
  | .local _ .vmem, ⟨4, _⟩ => ⟨S3x2x640x128, .fp8e4m3⟩
  | .local _ .vmem, ⟨5, _⟩ => ⟨S3x2x10240x128, .bf16⟩
  | .local _ .vmem, ⟨6, _⟩ => ⟨S720x2x64x128, .bf16⟩
  | .local _ .vmem, ⟨7, _⟩ => ⟨S720x2x64x128, .bf16⟩
  | .local _ .vmem, ⟨8, _⟩ => ⟨S3x2x640x128, .bf16⟩
  | .local _ .vmem, ⟨9, _⟩ => ⟨S3x2x640x128, .bf16⟩
  | _, _ => ⟨S3x192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_7 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_v71 : Ref sig .tc := ⟨.hbm, 100, rfl⟩
abbrev main_v72 : Ref sig .tc := ⟨.hbm, 101, rfl⟩
abbrev main_cst_8 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v73 : Ref sig .tc := ⟨.hbm, 106, rfl⟩
abbrev main_cst_9 : Ref sig .tc := ⟨.hbm, 107, rfl⟩
abbrev main_v74 : Ref sig .tc := ⟨.hbm, 108, rfl⟩
abbrev main_v75 : Ref sig .tc := ⟨.hbm, 109, rfl⟩
abbrev main_cst_10 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_11 : Ref sig .tc := ⟨.hbm, 120, rfl⟩
abbrev main_v85 : Ref sig .tc := ⟨.hbm, 121, rfl⟩
abbrev main_v86 : Ref sig .tc := ⟨.hbm, 122, rfl⟩
abbrev main_cst_12 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x2x10240x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S720x2x64x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S720x2x64x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2x640x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2x640x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2x10240x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S720x2x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S720x2x64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x2x640x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x2x640x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Range.lean ====
/- The input ranges, read from the precondition. -/
module

public import proofs.«01_k».proof.Defs
public import proofs.«01_k».proof.Proof.Gen.Pre_in_range
public import Idealize.ShloMosaic.Lib.ReduceAll

@[expose] public section

noncomputable section

namespace Cert.Hand

open Idealize.ShloMosaic Idealize.SL.Sem

variable {F : FTy → Type} [FloatOps F]

theorem sub0 (i j : Cert.Pre_in_range.S_.Idx) : i = j := funext fun k => k.elim0

attribute [local instance] Cert.Pre_in_range.Gen.facts in
/-- Under the precondition every table word is a page and every length fits. -/
theorem ranges (a0 : IVec Cert.Pre_in_range.S3x192 32) (a1 : IVec Cert.Pre_in_range.S3 32) (a2 : FVec F Cert.Pre_in_range.S3x2x10240x128 .fp8e4m3) (a3 : FVec F Cert.Pre_in_range.S3x2x10x1x1024 .f32)
    (a4 : FVec F Cert.Pre_in_range.S720x2x64x128 .fp8e4m3) (a5 : FVec F Cert.Pre_in_range.S2x64x768 .f32) (a6 : FVec F Cert.Pre_in_range.S720x2x64x128 .fp8e4m3) (a7 : FVec F Cert.Pre_in_range.S2x64x768 .f32)
    (a8 : FVec F Cert.Pre_in_range.S3x2x640x128 .fp8e4m3) (a9 : FVec F Cert.Pre_in_range.S3x2x640 .f32) (a10 : FVec F Cert.Pre_in_range.S3x2x640x128 .fp8e4m3) (a11 : FVec F Cert.Pre_in_range.S3x2x640 .f32)
    (h : Cert.Pre_in_range.fn (F := F) a0 a1 a2 a3 a4 a5 a6 a7 a8 a9 a10 a11 = fun _ => 1#1) :
    (∀ x, 0 ≤ (a1 x).toInt ∧ (a1 x).toInt ≤ 12288) ∧ ∀ x, 0 ≤ (a0 x).toInt ∧ (a0 x).toInt < 720 := by
  have h0 := congrFun h (fun k => k.elim0)
  dsimp only [Cert.Pre_in_range.fn] at h0
  obtain ⟨hA, hB⟩ := IntOp.andi_eq_one.1 h0
  constructor
  · intro x
    obtain ⟨h1, h2⟩ := IntOp.andi_eq_one.1 (Host.reduce_andi_all _ _ _ _ (fun k => k.elim0) hB x)
    exact ⟨IntOp.cmpi_sge.1 h1, IntOp.cmpi_sle.1 h2⟩
  · intro x
    obtain ⟨h1, h2⟩ := IntOp.andi_eq_one.1 (Host.reduce_andi_all _ _ _ _ (fun k => k.elim0) hA x)
    exact ⟨IntOp.cmpi_sge.1 h1, IntOp.cmpi_slt.1 h2⟩

end Cert.Hand
-- ==== Proof.KN.Chk.lean ====
/- The side conditions the attention body states of the words it reads: of a sequence's length
   (at most 12288) every offset, alignment and loop of the body, and of a page number (below 720) the
   page's slice of each pool and its tile of the scales. -/
module

public import proofs.«01_k».proof.Proof.Gen.Kernel.Skeleton
public import Idealize.ShloMosaic.Lib.LoopRemainder
public import Idealize.ShloMosaic.Lib.Affine

@[expose] public section

namespace Cert.Kernel.Hand

open Idealize.ShloMosaic Cert.Kernel

set_option maxHeartbeats 4000000

theorem t2_trips (v1 : BitVec 32) : (k0_t2_loop v1).trips = 0 := Scf.rem_trips _ _
theorem t4_trips (v1 : BitVec 32) : (k0_t4_loop v1).trips = 0 := Scf.rem_trips _ _
theorem t6_trips (v1 : BitVec 32) : (k0_t6_loop v1).trips = 0 := Scf.rem_trips _ _
theorem t10_trips (v1 : BitVec 32) : (k0_t10_loop v1).trips = 0 := Scf.rem_trips _ _
theorem t12_trips (v1 : BitVec 32) : (k0_t12_loop v1).trips = 0 := Scf.rem_trips _ _

theorem t2_no (v1 : BitVec 32) (t : Fin (k0_t2_loop v1).trips) : False :=
  absurd (t.2.trans_eq (t2_trips v1)) (Nat.not_lt_zero _)
theorem t4_no (v1 : BitVec 32) (t : Fin (k0_t4_loop v1).trips) : False :=
  absurd (t.2.trans_eq (t4_trips v1)) (Nat.not_lt_zero _)
theorem t6_no (v1 : BitVec 32) (t : Fin (k0_t6_loop v1).trips) : False :=
  absurd (t.2.trans_eq (t6_trips v1)) (Nat.not_lt_zero _)
theorem t10_no (v1 : BitVec 32) (t : Fin (k0_t10_loop v1).trips) : False :=
  absurd (t.2.trans_eq (t10_trips v1)) (Nat.not_lt_zero _)
theorem t12_no (v1 : BitVec 32) (t : Fin (k0_t12_loop v1).trips) : False :=
  absurd (t.2.trans_eq (t12_trips v1)) (Nat.not_lt_zero _)

open Affine

/-- The rounded-down quotient of a nonnegative word by a positive literal, as a program spells it. -/
theorem floor_div (x c : BitVec 32) (hx : 0 ≤ x.toInt) (hc : 0 < c.toInt) :
    Scalar.select (Scalar.andi (Scalar.cmpi .ne
        (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
        (Scalar.cmpi .ne (Scalar.remsi x c) 0#32))
      (Scalar.subi (Scalar.divsi x c) 1#32) (Scalar.divsi x c) = Scalar.divsi x c := by
  have h0 : IsInt 0#32 0 := ofNat 0 ⟨rfl, by decide⟩
  rw [Scalar.select, if_neg]
  show Fails _
  rcases Int.lt_or_eq_of_le hx with hp | hz
  · apply andi_fails_left _ trivial
    refine ne_fails (subi (extui_holds (sgt_holds (word x) h0 hp) rfl) (extui_fails (slt_fails (word x) h0 (by omega)) rfl) ⟨rfl, by decide⟩)
      (subi (extui_holds (sgt_holds (word c) h0 hc) rfl) (extui_fails (slt_fails (word c) h0 (by omega)) rfl) ⟨rfl, by decide⟩) rfl
  · apply andi_fails_right trivial
    exact ne_fails (remsi (word x) (word c) ⟨rfl, hx, hc⟩) h0 (by rw [← hz]; simp)

theorem iv_zero (t : Nat) : Scf.iv 0#32 1#32 t = BitVec.ofNat 32 t := by
  simp [Scf.iv]

/-- A loop from zero to a word by ones, spelled with its trip count, makes as many trips as the word says. -/
theorem trips_zero (x : BitVec 32) (h : 0 ≤ x.toInt) :
    Scf.trips 0#32 (Scalar.addi 0#32 (Scalar.muli (Scalar.divsi (Scalar.subi x 0#32) 1#32) 1#32)) 1#32 = x.toNat := by
  rw [Scalar.muli_divsi_one]
  have h0 : IsInt 0#32 0 := ofNat 0 ⟨rfl, by decide⟩
  have e : Scalar.addi 0#32 (Scalar.subi x 0#32) = x := by simp [Scalar.addi, Scalar.subi, IntOp.addi, IntOp.subi]
  rw [e]
  exact trips_eq h0 (word x) (ofNat 1 ⟨rfl, by decide⟩) x.toNat
    ⟨by decide, by have := toNat_of (word x) h; omega⟩

/-- A loop from a word to a later one by ones, spelled with its trip count. -/
theorem trips_from (a b : BitVec 32) (ha : 0 ≤ a.toInt) (hb : a.toInt ≤ b.toInt) :
    Scf.trips a (Scalar.addi a (Scalar.muli (Scalar.divsi (Scalar.subi b a) 1#32) 1#32)) 1#32 = b.toNat - a.toNat := by
  rw [Scalar.muli_divsi_one]
  have e : Scalar.addi a (Scalar.subi b a) = b := by simp [Scalar.addi, Scalar.subi, IntOp.addi, IntOp.subi]
  rw [e]
  exact trips_eq (word a) (word b) (ofNat 1 ⟨rfl, by decide⟩) _
    ⟨by decide, by have := toNat_of (word a) ha; have := toNat_of (word b) (by omega); omega⟩

theorem ok_zero (x : BitVec 32) :
    Scf.OK 0#32 (Scalar.addi 0#32 (Scalar.muli (Scalar.divsi (Scalar.subi x 0#32) 1#32) 1#32)) 1#32 := by
  have h0 : IsInt 0#32 0 := ofNat 0 ⟨rfl, by decide⟩
  have := word_range (Scalar.addi 0#32 (Scalar.muli (Scalar.divsi (Scalar.subi x 0#32) 1#32) 1#32))
  exact ok h0 (word _) (ofNat 1 ⟨rfl, by decide⟩) ⟨by decide, by omega⟩

theorem ok_from (a y : BitVec 32) : Scf.OK a y 1#32 := by
  have := word_range y
  have := word_range a
  exact ok (word a) (word _) (ofNat 1 ⟨rfl, by decide⟩) ⟨by decide, by omega⟩

/-- A word below `2 ^ 31` read unsigned, from its signed range. -/
theorem nat_of (x : BitVec 32) (h : 0 ≤ x.toInt) : (x.toNat : Int) = x.toInt := toNat_of (word x) h

theorem toInt_of {x : BitVec 32} {e : Int} (h : IsInt x e) : x.toInt = e := by unfold IsInt at h; exact h

theorem up (v1 : BitVec 32) (h : 0 ≤ v1.toInt ∧ v1.toInt ≤ 12288) (c : Nat) (hc : 0 < c ∧ c ≤ 256) :
    (Scalar.subi (Scalar.addi v1 (BitVec.ofNat 32 c)) 1#32).toInt = v1.toInt + c - 1 :=
  toInt_of (subi (addi (word v1) (ofNat c (e := c) ⟨rfl, by omega⟩) (e := v1.toInt + c) ⟨rfl, by omega⟩)
    (ofNat 1 (e := 1) ⟨rfl, by decide⟩) (e := v1.toInt + c - 1) ⟨by omega, by omega⟩)

theorem quot (x : BitVec 32) (h : 0 ≤ x.toInt) (c : Nat) (hc : 0 < c ∧ c ≤ 256) :
    (Scalar.divsi x (BitVec.ofNat 32 c)).toInt = x.toInt / c :=
  toInt_of (divsi (word x) (ofNat c (e := c) ⟨rfl, by omega⟩) ⟨rfl, h, by omega⟩)

/-- Pages that hold a sequence of `v1` keys. -/
@[irreducible] def nPages (v1 : BitVec 32) : Nat := (v1.toNat + 63) / 64
/-- Pairs of pages the preparation goes over: two for each block of 256 keys. -/
@[irreducible] def nPrep (v1 : BitVec 32) : Nat := (v1.toNat + 255) / 256 * 2
/-- Blocks of 256 keys that are whole. -/
@[irreducible] def nFull (v1 : BitVec 32) : Nat := v1.toNat / 256
/-- Blocks of 256 keys, the last one perhaps not whole. -/
@[irreducible] def nBlocks (v1 : BitVec 32) : Nat := (v1.toNat + 255) / 256

section
variable (v1 : BitVec 32) (h : 0 ≤ v1.toInt ∧ v1.toInt ≤ 12288)
include h

theorem nPages_le : nPages v1 ≤ 192 := by have := nat_of v1 h.1; unfold nPages; omega
theorem nPrep_le : nPrep v1 ≤ 96 := by have := nat_of v1 h.1; unfold nPrep; omega
theorem nBlocks_le : nBlocks v1 ≤ 48 := by have := nat_of v1 h.1; unfold nBlocks; omega
theorem nFull_le : nFull v1 ≤ nBlocks v1 := by have := nat_of v1 h.1; unfold nFull nBlocks; omega

theorem q64 : (Scalar.divsi (Scalar.subi (Scalar.addi v1 64#32) 1#32) 64#32).toInt = (nPages v1 : Int) := by
  have h1 := up v1 h 64 (by omega)
  rw [quot _ (by omega) 64 (by omega), h1]
  have := nat_of v1 h.1; unfold nPages; omega

theorem q256 : (Scalar.divsi (Scalar.subi (Scalar.addi v1 256#32) 1#32) 256#32).toInt = (nBlocks v1 : Int) := by
  have h1 := up v1 h 256 (by omega)
  rw [quot _ (by omega) 256 (by omega), h1]
  have := nat_of v1 h.1; unfold nBlocks; omega

theorem f256 : (Scalar.divsi v1 256#32).toInt = (nFull v1 : Int) := by
  rw [quot _ (by omega) 256 (by omega)]
  have := nat_of v1 h.1; unfold nFull; omega

theorem t1_trips : (k0_t1_loop v1).trips = nPages v1 := by
  have h1 := up v1 h 64 (by omega)
  have h2 := q64 v1 h
  refine (trips_zero _ ?_).trans ?_
  · rw [floor_div _ _ (by omega) (by decide)]; omega
  · rw [floor_div _ _ (by omega) (by decide)]; have := nat_of _ (show 0 ≤ _ by rw [h2]; omega); omega

theorem t3_trips : (k0_t3_loop v1).trips = nPages v1 := t1_trips v1 h

theorem t5_trips : (k0_t5_loop v1).trips = nPrep v1 := by
  have h1 := up v1 h 256 (by omega)
  have h2 := q256 v1 h
  have h3 := nBlocks_le v1 h
  have h4 : (Scalar.muli (Scalar.divsi (Scalar.subi (Scalar.addi v1 256#32) 1#32) 256#32) 2#32).toInt = (nPrep v1 : Int) := by
    have := toInt_of (muli (word (Scalar.divsi (Scalar.subi (Scalar.addi v1 256#32) 1#32) 256#32)) (ofNat 2 (e := 2) ⟨rfl, by decide⟩) (e := nBlocks v1 * 2) ⟨by rw [h2], by omega, by omega⟩)
    rw [this]; unfold nBlocks nPrep; omega
  refine (trips_zero _ ?_).trans ?_
  · rw [floor_div _ _ (by omega) (by decide)]; omega
  · rw [floor_div _ _ (by omega) (by decide)]; have := nat_of _ (show 0 ≤ _ by rw [h4]; omega); omega

theorem t9_trips : (k0_t9_loop v1).trips = nFull v1 := by
  have h2 := f256 v1 h
  refine (trips_zero _ ?_).trans ?_
  · rw [floor_div _ _ (by omega) (by decide)]; omega
  · rw [floor_div _ _ (by omega) (by decide)]; have := nat_of _ (show 0 ≤ _ by rw [h2]; omega); omega

theorem t11_lb : (k0_t11_loop v1).lb = BitVec.ofNat 32 (nFull v1) := by
  have h2 := f256 v1 h
  refine (floor_div _ _ (by omega) (by decide)).trans ?_
  have := nat_of _ (show 0 ≤ _ by rw [h2]; omega)
  apply BitVec.eq_of_toNat_eq
  have := nFull_le v1 h; have := nBlocks_le v1 h
  rw [BitVec.toNat_ofNat]; omega

theorem lb_int : (k0_t11_loop v1).lb.toInt = (nFull v1 : Int) := by
  have h2 := f256 v1 h
  exact (congrArg BitVec.toInt (floor_div _ _ (by omega) (by decide))).trans h2

theorem t11_trips : (k0_t11_loop v1).trips = nBlocks v1 - nFull v1 := by
  have h1 := up v1 h 256 (by omega)
  have h2 := lb_int v1 h
  have h3 := q256 v1 h
  have := nFull_le v1 h
  refine (trips_from _ _ ?_ ?_).trans ?_
  · rw [h2]; omega
  · rw [floor_div _ _ (by omega) (by decide)]; omega
  · rw [floor_div _ _ (by omega) (by decide)]
    have := nat_of _ (show 0 ≤ _ by rw [h2]; omega); have := nat_of _ (show 0 ≤ _ by rw [h3]; omega); omega

theorem t1_lt (t : Fin (k0_t1_loop v1).trips) : t.val < 192 := by
  have := t.2.trans_eq (t1_trips v1 h); have := nPages_le v1 h; omega
theorem t3_lt (t : Fin (k0_t3_loop v1).trips) : t.val < 192 := by
  have := t.2.trans_eq (t3_trips v1 h); have := nPages_le v1 h; omega
theorem t5_lt (t : Fin (k0_t5_loop v1).trips) : t.val < 96 := by
  have := t.2.trans_eq (t5_trips v1 h); have := nPrep_le v1 h; omega
theorem t9_lt (t : Fin (k0_t9_loop v1).trips) : t.val < 48 := by
  have := t.2.trans_eq (t9_trips v1 h); have := nFull_le v1 h; have := nBlocks_le v1 h; omega
theorem t11_lt (t : Fin (k0_t11_loop v1).trips) : nFull v1 + t.val < 48 := by
  have := t.2.trans_eq (t11_trips v1 h); have := nFull_le v1 h; have := nBlocks_le v1 h; omega

/-! ## The offsets in closed form -/

omit h in
theorem ofNat_toNat (n : Nat) (hn : n < 2 ^ 32) : (BitVec.ofNat 32 n).toNat = n := by
  rw [BitVec.toNat_ofNat]; omega
omit h in
theorem mul_nat (t c : Nat) : Scalar.muli (BitVec.ofNat 32 t) (BitVec.ofNat 32 c) = BitVec.ofNat 32 (t * c) := by
  simp [Scalar.muli, IntOp.muli, BitVec.ofNat_mul]
omit h in
theorem add_nat (t c : Nat) : Scalar.addi (BitVec.ofNat 32 t) (BitVec.ofNat 32 c) = BitVec.ofNat 32 (t + c) := by
  simp [Scalar.addi, IntOp.addi, BitVec.ofNat_add]
omit h in
theorem mul_iv (t c : Nat) : Scalar.muli (Scf.iv 0#32 1#32 t) (BitVec.ofNat 32 c) = BitVec.ofNat 32 (t * c) := by
  rw [iv_zero, mul_nat]
omit h in
theorem mul_iv_toNat (t c : Nat) (hn : t * c < 2 ^ 32) : (Scalar.muli (Scf.iv 0#32 1#32 t) (BitVec.ofNat 32 c)).toNat = t * c := by
  rw [mul_iv, ofNat_toNat _ hn]
omit h in
theorem coord_toNat {n : Nat} (x : Fin n) (hn : n ≤ 2 ^ 32) : (BitVec.ofNat 32 x.val).toNat = x.val :=
  ofNat_toNat _ (by omega)

theorem mult1_eq (t : Fin (k0_t1_loop v1).trips) : (k0_mult1 v1 t).toNat = t.val * 64 :=
  mul_iv_toNat _ 64 (by have := t1_lt v1 h t; omega)
theorem mult3_eq (t : Fin (k0_t3_loop v1).trips) : (k0_mult3 v1 t).toNat = t.val * 64 :=
  mul_iv_toNat _ 64 (by have := t3_lt v1 h t; omega)
theorem off2_eq (i : grid0.Coords) (t : Fin (k0_t1_loop v1).trips) : k0_off2 i v1 t = ![(i 0).val, t.val] := by
  have := t1_lt v1 h t
  show ![(BitVec.ofNat 32 (i 0).val).toNat, (Scf.iv 0#32 1#32 t.val).toNat] = _
  rw [iv_zero, coord_toNat _ (by decide), ofNat_toNat _ (by omega)]
theorem off10_eq (i : grid0.Coords) (t : Fin (k0_t3_loop v1).trips) : k0_off10 i v1 t = ![(i 0).val, t.val] := off2_eq v1 h i t
theorem off3_eq (t : Fin (k0_t1_loop v1).trips) : k0_off3 v1 t = ![0, t.val * 64, 0] := by
  show ![0, (k0_mult1 v1 t).toNat, 0] = _; rw [mult1_eq v1 h]
theorem off5_eq (t : Fin (k0_t1_loop v1).trips) : k0_off5 v1 t = ![0, t.val * 64, 0] := off3_eq v1 h t
theorem off11_eq (t : Fin (k0_t3_loop v1).trips) : k0_off11 v1 t = ![0, t.val * 64, 0] := off3_eq v1 h t
theorem off13_eq (t : Fin (k0_t3_loop v1).trips) : k0_off13 v1 t = ![0, t.val * 64, 0] := off3_eq v1 h t

theorem off18_eq (i : grid0.Coords) (t : Fin (k0_t5_loop v1).trips) : k0_off18 i v1 t = ![(i 0).val, t.val * 2] := by
  have := t5_lt v1 h t
  show ![(BitVec.ofNat 32 (i 0).val).toNat, (Scalar.addi (Scalar.muli (Scf.iv 0#32 1#32 t.val) 2#32) 0#32).toNat] = _
  rw [mul_iv, add_nat, coord_toNat _ (by decide), ofNat_toNat _ (by omega), Nat.add_zero]
theorem off20_eq (i : grid0.Coords) (t : Fin (k0_t5_loop v1).trips) : k0_off20 i v1 t = ![(i 0).val, t.val * 2 + 1] := by
  have := t5_lt v1 h t
  show ![(BitVec.ofNat 32 (i 0).val).toNat, (Scalar.addi (Scalar.muli (Scf.iv 0#32 1#32 t.val) 2#32) 1#32).toNat] = _
  rw [mul_iv, add_nat, coord_toNat _ (by decide), ofNat_toNat _ (by omega)]
theorem off22_eq (i : grid0.Coords) (t : Fin (k0_t5_loop v1).trips) : k0_off22 i v1 t = ![(i 0).val, t.val * 2] := off18_eq v1 h i t
theorem off29_eq (i : grid0.Coords) (t : Fin (k0_t5_loop v1).trips) : k0_off29 i v1 t = ![(i 0).val, t.val * 2] := off18_eq v1 h i t
theorem off33_eq (i : grid0.Coords) (t : Fin (k0_t5_loop v1).trips) : k0_off33 i v1 t = ![(i 0).val, t.val * 2] := off18_eq v1 h i t
theorem off24_eq (i : grid0.Coords) (t : Fin (k0_t5_loop v1).trips) : k0_off24 i v1 t = ![(i 0).val, t.val * 2 + 1] := off20_eq v1 h i t
theorem off31_eq (i : grid0.Coords) (t : Fin (k0_t5_loop v1).trips) : k0_off31 i v1 t = ![(i 0).val, t.val * 2 + 1] := off20_eq v1 h i t
theorem off35_eq (i : grid0.Coords) (t : Fin (k0_t5_loop v1).trips) : k0_off35 i v1 t = ![(i 0).val, t.val * 2 + 1] := off20_eq v1 h i t
theorem mult19_eq (t : Fin (k0_t5_loop v1).trips) : (k0_mult19 v1 t).toNat = t.val * 128 :=
  mul_iv_toNat _ 128 (by have := t5_lt v1 h t; omega)
theorem off26_eq (t : Fin (k0_t5_loop v1).trips) : k0_off26 v1 t = ![0, t.val * 128, 0] := by
  show ![0, (k0_mult19 v1 t).toNat, 0] = _; rw [mult19_eq v1 h]
theorem off27_eq (t : Fin (k0_t5_loop v1).trips) : k0_off27 v1 t = ![0, t.val * 128, 0] := off26_eq v1 h t
theorem off28_eq (t : Fin (k0_t5_loop v1).trips) : k0_off28 v1 t = ![0, 0, t.val * 128] := by
  show ![0, 0, (k0_mult19 v1 t).toNat] = _; rw [mult19_eq v1 h]
theorem off37_eq (t : Fin (k0_t5_loop v1).trips) : k0_off37 v1 t = ![1, t.val * 128, 0] := by
  show ![1, (k0_mult19 v1 t).toNat, 0] = _; rw [mult19_eq v1 h]
theorem off38_eq (t : Fin (k0_t5_loop v1).trips) : k0_off38 v1 t = ![1, t.val * 128, 0] := off37_eq v1 h t
theorem off39_eq (t : Fin (k0_t5_loop v1).trips) : k0_off39 v1 t = ![1, 0, t.val * 128] := by
  show ![1, 0, (k0_mult19 v1 t).toNat] = _; rw [mult19_eq v1 h]

theorem mult52_eq (t : Fin (k0_t9_loop v1).trips) : (k0_mult52 v1 t).toNat = t.val * 256 :=
  mul_iv_toNat _ 256 (by have := t9_lt v1 h t; omega)
theorem off68_eq (i : grid0.Coords) (t : Fin (k0_t9_loop v1).trips) : k0_off68 i v1 t = ![(i 2).val, t.val * 256, 0] := by
  show ![(BitVec.ofNat 32 (i 2).val).toNat, (k0_mult52 v1 t).toNat, 0] = _; rw [mult52_eq v1 h, coord_toNat _ (by decide)]
theorem off69_eq (i : grid0.Coords) (t : Fin (k0_t9_loop v1).trips) : k0_off69 i v1 t = ![(i 2).val, 0, t.val * 256] := by
  show ![(BitVec.ofNat 32 (i 2).val).toNat, 0, (k0_mult52 v1 t).toNat] = _; rw [mult52_eq v1 h, coord_toNat _ (by decide)]
theorem mult58_eq (t : Fin (k0_t11_loop v1).trips) : (k0_mult58 v1 t).toNat = (nFull v1 + t.val) * 256 := by
  have := t11_lt v1 h t
  show (Scalar.muli (Scf.iv (k0_t11_loop v1).lb 1#32 t.val) 256#32).toNat = _
  rw [t11_lb v1 h, show Scf.iv (BitVec.ofNat 32 (nFull v1)) 1#32 t.val = BitVec.ofNat 32 (nFull v1 + t.val) by
    simp [Scf.iv, BitVec.ofNat_add], mul_nat, ofNat_toNat _ (by omega)]
theorem off72_eq (i : grid0.Coords) (t : Fin (k0_t11_loop v1).trips) : k0_off72 i v1 t = ![(i 2).val, (nFull v1 + t.val) * 256, 0] := by
  show ![(BitVec.ofNat 32 (i 2).val).toNat, (k0_mult58 v1 t).toNat, 0] = _; rw [mult58_eq v1 h, coord_toNat _ (by decide)]
theorem off73_eq (i : grid0.Coords) (t : Fin (k0_t11_loop v1).trips) : k0_off73 i v1 t = ![(i 2).val, 0, (nFull v1 + t.val) * 256] := by
  show ![(BitVec.ofNat 32 (i 2).val).toNat, 0, (k0_mult58 v1 t).toNat] = _; rw [mult58_eq v1 h, coord_toNat _ (by decide)]
end

/-! ## The side conditions -/

theorem inb2 {a0 a1 s0 s1 b0 b1 : Nat} (h0 : a0 + s0 ≤ b0) (h1 : a1 + s1 ≤ b1) :
    ∀ a : Fin 2, ![a0, a1] a + ![s0, s1] a ≤ ![b0, b1] a := by
  intro a; fin_cases a
  · exact h0
  · exact h1
theorem inb3 {a0 a1 a2 s0 s1 s2 b0 b1 b2 : Nat} (h0 : a0 + s0 ≤ b0) (h1 : a1 + s1 ≤ b1) (h2 : a2 + s2 ≤ b2) :
    ∀ a : Fin 3, ![a0, a1, a2] a + ![s0, s1, s2] a ≤ ![b0, b1, b2] a := by
  intro a; fin_cases a
  · exact h0
  · exact h1
  · exact h2
theorem rowAx3 {a b c : Nat} (o s : Fin 3 → Nat) (hinb : ∀ x, o x + s x ≤ ![a, b, c] x) (p : Nat) (h1 : p ∣ o 1) (h2 : p ∣ s 1) :
    (Rect.unit (s := ⟨3, ![a, b, c]⟩) o s hinb).PackedRows p := .inr ⟨show 2 ≤ 3 by decide, rfl, .inl ⟨h1, h2⟩⟩

section
variable (i : grid0.Coords) (v1 : BitVec 32) (h : 0 ≤ v1.toInt ∧ v1.toInt ≤ 12288)
include h

theorem chk1_0 : k0_chk1_0 i v1 := by
  have hi : (i 0).val < 3 := (i 0).2
  have e192 : ∀ t : Nat, t < 192 → ∀ a, ![(i 0).val, t] a + S1x1.size a ≤ S3x192.size a := fun t ht =>
    inb2 (by omega) (by omega)
  refine ⟨fun _ => ok_zero _, fun t _ => ?_, fun t _ => ?_, fun t _ => ?_, fun t _ _ => ?_, fun t _ => ?_, fun t _ _ => ?_,
    fun _ => Scf.rem_ok _ _, fun t => (t2_no v1 t).elim, fun t => (t2_no v1 t).elim, fun t => (t2_no v1 t).elim, fun t => (t2_no v1 t).elim, fun t => (t2_no v1 t).elim, fun t => (t2_no v1 t).elim,
    fun _ => ok_zero _, fun t _ => ?_, fun t _ => ?_, fun t _ => ?_, fun t _ _ => ?_, fun t _ => ?_, fun t _ _ => ?_,
    fun _ => Scf.rem_ok _ _, fun t => (t4_no v1 t).elim, fun t => (t4_no v1 t).elim, fun t => (t4_no v1 t).elim, fun t => (t4_no v1 t).elim, fun t => (t4_no v1 t).elim, fun t => (t4_no v1 t).elim,
    fun _ => ok_zero _, fun t _ => ?_, fun t _ => ?_, fun t _ => ?_⟩
  · rw [off2_eq v1 h]; exact e192 _ (t1_lt v1 h t)
  · rw [mult1_eq v1 h]; omega
  · rw [off3_eq v1 h]; have := t1_lt v1 h t; exact inb3 (by omega) (by omega) (by omega)
  · exact (rowAx3 _ _ _ _ (by rw [off3_eq v1 h]; exact ⟨t.val * 16, show t.val * 64 = 4 * (t.val * 16) by omega⟩) (by decide)).wholeWords
  · rw [off5_eq v1 h]; have := t1_lt v1 h t; exact inb3 (by omega) (by omega) (by omega)
  · exact (rowAx3 _ _ _ _ (by rw [off5_eq v1 h]; exact ⟨t.val * 16, show t.val * 64 = 4 * (t.val * 16) by omega⟩) (by decide)).wholeWords
  · rw [off10_eq v1 h]; exact e192 _ (t3_lt v1 h t)
  · rw [mult3_eq v1 h]; omega
  · rw [off11_eq v1 h]; have := t3_lt v1 h t; exact inb3 (by omega) (by omega) (by omega)
  · exact (rowAx3 _ _ _ _ (by rw [off11_eq v1 h]; exact ⟨t.val * 16, show t.val * 64 = 4 * (t.val * 16) by omega⟩) (by decide)).wholeWords
  · rw [off13_eq v1 h]; have := t3_lt v1 h t; exact inb3 (by omega) (by omega) (by omega)
  · exact (rowAx3 _ _ _ _ (by rw [off13_eq v1 h]; exact ⟨t.val * 16, show t.val * 64 = 4 * (t.val * 16) by omega⟩) (by decide)).wholeWords
  · rw [off18_eq v1 h]; exact e192 _ (by have := t5_lt v1 h t; omega)
  · rw [off20_eq v1 h]; exact e192 _ (by have := t5_lt v1 h t; omega)
  · rw [off22_eq v1 h]; exact e192 _ (by have := t5_lt v1 h t; omega)

theorem chk1_1 : k0_chk1_1 i v1 := by
  have hi : (i 0).val < 3 := (i 0).2
  have e192 : ∀ t : Nat, t < 192 → ∀ a, ![(i 0).val, t] a + S1x1.size a ≤ S3x192.size a := fun t ht =>
    inb2 (by omega) (by omega)
  have d128 : ∀ t : Fin (k0_t5_loop v1).trips, 128 ∣ (k0_mult19 v1 t).toNat := fun t => by rw [mult19_eq v1 h]; omega
  refine ⟨fun t _ => ?_, fun t _ => d128 t, fun t _ => ?_, fun t _ => d128 t, fun t _ => ?_, fun t _ => d128 t, fun t _ => ?_, fun t _ _ => ?_,
    fun t _ => ?_, fun t _ => ?_, fun t _ => ?_, fun t _ => ?_, fun t _ => d128 t, fun t _ => ?_, fun t _ => d128 t, fun t _ => ?_, fun t _ => d128 t, fun t _ => ?_, fun t _ _ => ?_,
    fun _ => Scf.rem_ok _ _, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim⟩
  · rw [off24_eq v1 h]; exact e192 _ (by have := t5_lt v1 h t; omega)
  · rw [off26_eq v1 h]; have := t5_lt v1 h t; exact inb3 (by omega) (by omega) (by omega)
  · rw [off27_eq v1 h]; have := t5_lt v1 h t; exact inb3 (by omega) (by omega) (by omega)
  · rw [off28_eq v1 h]; have := t5_lt v1 h t; exact inb3 (by omega) (by omega) (by omega)
  · exact rowAx3 _ _ _ _ (by rw [off28_eq v1 h]; exact ⟨0, rfl⟩) (by decide)
  · rw [off29_eq v1 h]; exact e192 _ (by have := t5_lt v1 h t; omega)
  · rw [off31_eq v1 h]; exact e192 _ (by have := t5_lt v1 h t; omega)
  · rw [off33_eq v1 h]; exact e192 _ (by have := t5_lt v1 h t; omega)
  · rw [off35_eq v1 h]; exact e192 _ (by have := t5_lt v1 h t; omega)
  · rw [off37_eq v1 h]; have := t5_lt v1 h t; exact inb3 (by omega) (by omega) (by omega)
  · rw [off38_eq v1 h]; have := t5_lt v1 h t; exact inb3 (by omega) (by omega) (by omega)
  · rw [off39_eq v1 h]; have := t5_lt v1 h t; exact inb3 (by omega) (by omega) (by omega)
  · exact rowAx3 _ _ _ _ (by rw [off39_eq v1 h]; exact ⟨0, rfl⟩) (by decide)

theorem chk1_2 : k0_chk1_2 i v1 := by
  have hi : (i 2).val < 2 := (i 2).2
  refine ⟨fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim,
    ok_zero _, fun t => ?_, fun t => ?_, fun t => ?_, fun t => ?_, fun t => ?_,
    Scf.rem_ok _ _, fun t => (t10_no v1 t).elim, fun t => (t10_no v1 t).elim, fun t => (t10_no v1 t).elim, fun t => (t10_no v1 t).elim, fun t => (t10_no v1 t).elim,
    ok_from _ _, fun t => ?_, fun t => ?_, fun t => ?_, fun t => ?_, fun t => ?_,
    Scf.rem_ok _ _, fun t => (t12_no v1 t).elim, fun t => (t12_no v1 t).elim, fun t => (t12_no v1 t).elim⟩
  · rw [mult52_eq v1 h]; omega
  · rw [off68_eq v1 h]; have := t9_lt v1 h t; exact inb3 (by omega) (by omega) (by omega)
  · exact (mult52_eq v1 h t).symm ▸ (by omega)
  · exact (mult52_eq v1 h t).symm ▸ (by omega)
  · rw [off69_eq v1 h]; have := t9_lt v1 h t; exact inb3 (by omega) (by omega) (by omega)
  · rw [mult58_eq v1 h]; omega
  · rw [off72_eq v1 h]; have := t11_lt v1 h t; exact inb3 (by omega) (by omega) (by omega)
  · exact (mult58_eq v1 h t).symm ▸ (by omega)
  · exact (mult58_eq v1 h t).symm ▸ (by omega)
  · rw [off73_eq v1 h]; have := t11_lt v1 h t; exact inb3 (by omega) (by omega) (by omega)

theorem chk1 : k0_chk1 i v1 :=
  ⟨chk1_0 i v1 h, chk1_1 i v1 h, chk1_2 i v1 h, fun t => (t12_no v1 t).elim, fun t => (t12_no v1 t).elim⟩
end

section
variable (i : grid0.Coords) (w : BitVec 32) (h : 0 ≤ w.toInt ∧ w.toInt < 720)
include h

theorem chk2 : k0_chk2 i w := by
  have := nat_of w h.1
  have hb : ∀ a, (k0_off4 w) a + S1x2x64x128.size a ≤ S720x2x64x128.size a := by
    show ∀ a, ![w.toNat, 0, 0, 0] a + _ ≤ _
    intro a; fin_cases a
    · show w.toNat + 1 ≤ 720; omega
    · exact Nat.le_refl 2
    · exact Nat.le_refl 64
    · exact Nat.le_refl 128
  exact ⟨fun _ => hb, fun _ _ => .inl (.inr ⟨by decide, rfl, .inl ⟨⟨0, rfl⟩, ⟨16, rfl⟩⟩⟩)⟩
theorem chk4 : k0_chk4 i w := chk2 i w h

/-- Where a page's scales stand among the lanes of their array: the tile of 128 pages it is in. -/
theorem mult15_eq : (k0_mult15 w).toNat = w.toNat / 128 * 128 := by
  have hq := quot w h.1 128 (by omega)
  have := nat_of w h.1
  have h2 := nat_of (Scalar.divsi w 128#32) (by rw [hq]; omega)
  show (Scalar.muli _ 128#32).toNat = _
  rw [floor_div w 128#32 h.1 (by decide)]
  have h3 := toInt_of (muli (word (Scalar.divsi w 128#32)) (ofNat 128 (e := 128) ⟨rfl, by decide⟩) (e := w.toInt / 128 * 128) ⟨by rw [hq]; rfl, by omega, by omega⟩)
  have := nat_of (Scalar.muli (Scalar.divsi w 128#32) 128#32) (by rw [h3]; omega)
  omega

theorem off19_eq : k0_off19 w = ![0, 0, w.toNat / 128 * 128] := by
  show ![0, 0, (k0_mult15 w).toNat] = _; rw [mult15_eq w h]
theorem off30_eq : k0_off30 w = ![1, 0, w.toNat / 128 * 128] := by
  show ![1, 0, (k0_mult15 w).toNat] = _; rw [mult15_eq w h]

theorem chk6 : k0_chk6 i w := by
  have := nat_of w h.1
  refine ⟨fun _ => by rw [mult15_eq w h]; omega, fun _ => ?_⟩
  rw [off19_eq w h]; exact inb3 (by omega) (by omega) (by omega)
theorem chk10 : k0_chk10 i w := by
  have := nat_of w h.1
  refine ⟨fun _ => (mult15_eq w h).symm ▸ (by omega), fun _ => ?_⟩
  rw [off30_eq w h]; exact inb3 (by omega) (by omega) (by omega)
theorem chk7 : k0_chk7 i w := chk6 i w h
theorem chk8 : k0_chk8 i w := chk6 i w h
theorem chk9 : k0_chk9 i w := chk6 i w h
theorem chk11 : k0_chk11 i w := chk10 i w h
theorem chk12 : k0_chk12 i w := chk10 i w h
theorem chk13 : k0_chk13 i w := chk10 i w h
end

end Cert.Kernel.Hand
-- ==== Proof.KN.Dma.lean ====
/- The page copies: one loop issues, for each page of a sequence, a copy of its keys and a copy of its
   values out of the pools; a second loop waits for all of them. -/
module

public import proofs.«01_k».proof.Proof.KN.Chk
public import proofs.«01_k».proof.Proof.Gen.Kernel.Loops
public import proofs.«01_k».proof.Proof.Gen.Kernel.Launch
public import Idealize.ShloMosaic.Lib.Pipeline.Quiescent
public import Idealize.ShloMosaic.Lib.Pipeline.FrameBody
public import Idealize.ShloMosaic.Lib.Batch
public import Idealize.ShloMosaic.Lib.Ring
public import Idealize.ShloMosaic.Lib.ValueIdx
public import Idealize.ShloMosaic.Lib.ValueLayout
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the proof: the buffers and semaphores, the pipeline's records and the counters of the body's own transfers. -/
local notation "𝕄" => MT nD τ sig Unit (Elt F) ℕ (Pipeline.UD sig nD τ) ℕ

open Idealize.ShloMosaic.ValueIdx

/-- The blocks of 64 rows of a two-group array of `N` rows: block `k`. -/
def blk (N k : ℕ) : Finset (⟨3, ![2, N, 128]⟩ : Shape).Idx := Finset.univ.filter fun x => (x 1).val / 64 = k
/-- The rows from block `k` on. -/
def rest (N k : ℕ) : Finset (⟨3, ![2, N, 128]⟩ : Shape).Idx := Finset.univ.filter fun x => k ≤ (x 1).val / 64

theorem rest_zero (N : ℕ) : rest N 0 = Finset.univ := by ext x; simp [rest]
theorem blk_sub (N k : ℕ) : blk N k ⊆ rest N k := fun x hx => by
  simp only [blk, rest, Finset.mem_filter, Finset.mem_univ, true_and] at hx ⊢; omega
theorem rest_sdiff (N k : ℕ) : rest N k \ blk N k = rest N (k + 1) := by
  ext x; simp only [blk, rest, Finset.mem_filter, Finset.mem_univ, true_and, Finset.mem_sdiff]; omega
theorem blk_disj (N : ℕ) {k l : ℕ} (h : k ≠ l) : Disjoint (blk N k) (blk N l) :=
  Finset.disjoint_left.mpr fun x hx hy => by
    simp only [blk, Finset.mem_filter, Finset.mem_univ, true_and] at hx hy; omega
theorem rest_disj (N n : ℕ) : Disjoint ((Finset.univ : Finset (Fin n)).biUnion fun t => blk N t.val) (rest N n) :=
  Finset.disjoint_left.mpr fun x hx hy => by
    simp only [blk, rest, Finset.mem_biUnion, Finset.mem_filter, Finset.mem_univ, true_and] at hx hy
    obtain ⟨t, ht⟩ := hx
    have := t.2
    omega
theorem blk_union (N n : ℕ) : ((Finset.univ : Finset (Fin n)).biUnion fun t => blk N t.val) ∪ rest N n = Finset.univ := by
  ext x
  simp only [blk, rest, Finset.mem_biUnion, Finset.mem_filter, Finset.mem_univ, true_and, Finset.mem_union, iff_true]
  by_cases h : (x 1).val / 64 < n
  · exact .inl ⟨⟨_, h⟩, rfl⟩
  · exact .inr (by omega)

/-- The place of row `b`, position `k` in the page table. -/
def pgIx (b k : ℕ) : (⟨2, ![3, 192]⟩ : Shape).Idx := ix2 (n0 := 3) (n1 := 192) ⟨b % 3, Nat.mod_lt _ (by decide)⟩ ⟨k % 192, Nat.mod_lt _ (by decide)⟩
/-- The page of the table's row `b` at position `k`, as a number below 720. -/
def page (tbl : main_arg0.ty.Contents (Elt F)) (b k : ℕ) : Fin 720 :=
  ⟨((tbl (pgIx b k) : BitVec 32)).toNat % 720, Nat.mod_lt _ (by decide)⟩

/-- What a scratch of `N` rows holds once the first `n` pages of row `b` of the table have been copied into it. -/
def filled (N n : ℕ) (tbl : main_arg0.ty.Contents (Elt F)) (b : ℕ) (pool : (⟨4, ![720, 2, 64, 128]⟩ : Shape).Idx → Elt F .fp8e4m3)
    (f : (⟨3, ![2, N, 128]⟩ : Shape).Idx → Elt F .fp8e4m3) : (⟨3, ![2, N, 128]⟩ : Shape).Idx → Elt F .fp8e4m3 :=
  fun x => if (x 1).val / 64 < n then pool (ix4 (page tbl b ((x 1).val / 64)) (x 0) ⟨(x 1).val % 64, Nat.mod_lt _ (by decide)⟩ (x 2)) else f x

/-- One page's copy, written over the old contents of cc0_scratch0, agrees with the filled array on its block. -/
theorem writeK (tbl : main_arg0.ty.Contents (Elt F)) (b n k : ℕ) (hk : k < n) (pk : main_arg4.ty.Contents (Elt F)) (fk : cc0_scratch0.ty.Contents (Elt F))
    (off : Fin 3 → ℕ) (ho : off = ![0, k * 64, 0]) (inb : ∀ a, off a + S2x64x128.size a ≤ S2x13056x128.size a) (hr)
    (off' : Fin 4 → ℕ) (ho' : off' = ![(page tbl b k).val, 0, 0, 0]) (inb' : ∀ a, off' a + S1x2x64x128.size a ≤ S720x2x64x128.size a) (hr')
    (x) (hx : x ∈ blk 13056 k) :
    ((Memref.whole cc0_scratch0).slice (Rect.unit (s := S2x13056x128) off S2x64x128.size inb) hr).view.write (Elt F) fk
      ((((Memref.whole main_arg4).slice (Rect.unit (s := S720x2x64x128) off' S1x2x64x128.size inb') hr').squeeze S2x64x128 squeezes_S1x2x64x128_S2x64x128).view.read (Elt F) pk) Finset.univ x
      = filled 13056 n tbl b pk fk x := by
  subst ho ho'
  simp only [blk, Finset.mem_filter, Finset.mem_univ, true_and] at hx
  have hx1 : (x 1).val = k * 64 + (x 1).val % 64 := by omega
  have e : x = ((Memref.whole cc0_scratch0).slice (Rect.unit (s := S2x13056x128) ![0, k * 64, 0] S2x64x128.size inb) hr).view.emb
      (ix3 (n0 := 2) (n1 := 64) (n2 := 128) (x 0) ⟨(x 1).val % 64, Nat.mod_lt _ (by decide)⟩ (x 2)) := by
    funext a
    apply Fin.ext
    match a with
    | ⟨0, _⟩ => show (x 0).val = 0 + 1 * (x 0).val; omega
    | ⟨1, _⟩ => show (x 1).val = k * 64 + 1 * ((x 1).val % 64); omega
    | ⟨2, _⟩ => show (x 2).val = 0 + 1 * (x 2).val; omega
  unfold filled
  rw [if_pos (by omega), hx]
  conv_lhs => rw [e]
  refine (View.write_emb_of_mem _ _ (Finset.mem_univ _)).trans ?_
  rw [cast_eq, View.read_apply, cast_eq]
  refine congrArg pk ?_
  show ((Memref.whole main_arg4).slice (Rect.unit (s := S720x2x64x128) ![(page tbl b k).val, 0, 0, 0] S1x2x64x128.size inb') hr').view.emb
    (Shape.reshapeEquiv _ _) = _
  refine (congrArg (fun y => ((Memref.whole main_arg4).slice (Rect.unit (s := S720x2x64x128) ![(page tbl b k).val, 0, 0, 0] S1x2x64x128.size inb') hr').view.emb y)
    (reshapeEquiv_ix3_1abc (a := 2) (b := 64) (c := 128) _ (x 0) ⟨(x 1).val % 64, Nat.mod_lt _ (by decide)⟩ (x 2))).trans ?_
  funext a
  apply Fin.ext
  match a with
  | ⟨0, _⟩ => show (page tbl b k).val + 1 * 0 = (page tbl b k).val; omega
  | ⟨1, _⟩ => show 0 + 1 * (x 0).val = (x 0).val; omega
  | ⟨2, _⟩ => show 0 + 1 * ((x 1).val % 64) = (x 1).val % 64; omega
  | ⟨3, _⟩ => show 0 + 1 * (x 2).val = (x 2).val; omega

/-- A page's block of cc0_scratch0 is the copy's destination. -/
theorem subK (k : ℕ) (off : Fin 3 → ℕ) (ho : off = ![0, k * 64, 0]) (inb : ∀ a, off a + S2x64x128.size a ≤ S2x13056x128.size a) (hr) :
    ((Memref.whole cc0_scratch0).slice (Rect.unit (s := S2x13056x128) off S2x64x128.size inb) hr).view.set ⊆ blk 13056 k := by
  subst ho
  intro x hx
  obtain ⟨y, -, rfl⟩ := Finset.mem_map.mp hx
  simp only [blk, Finset.mem_filter, Finset.mem_univ, true_and]
  have : (y 1).val < 64 := (y 1).2
  show (k * 64 + 1 * (y 1).val) / 64 = k
  omega

/-- One page's copy, written over the old contents of cc0_scratch1, agrees with the filled array on its block. -/
theorem writeV (tbl : main_arg0.ty.Contents (Elt F)) (b n k : ℕ) (hk : k < n) (pk : main_arg6.ty.Contents (Elt F)) (fk : cc0_scratch1.ty.Contents (Elt F))
    (off : Fin 3 → ℕ) (ho : off = ![0, k * 64, 0]) (inb : ∀ a, off a + S2x64x128.size a ≤ S2x12288x128.size a) (hr)
    (off' : Fin 4 → ℕ) (ho' : off' = ![(page tbl b k).val, 0, 0, 0]) (inb' : ∀ a, off' a + S1x2x64x128.size a ≤ S720x2x64x128.size a) (hr')
    (x) (hx : x ∈ blk 12288 k) :
    ((Memref.whole cc0_scratch1).slice (Rect.unit (s := S2x12288x128) off S2x64x128.size inb) hr).view.write (Elt F) fk
      ((((Memref.whole main_arg6).slice (Rect.unit (s := S720x2x64x128) off' S1x2x64x128.size inb') hr').squeeze S2x64x128 squeezes_S1x2x64x128_S2x64x128).view.read (Elt F) pk) Finset.univ x
      = filled 12288 n tbl b pk fk x := by
  subst ho ho'
  simp only [blk, Finset.mem_filter, Finset.mem_univ, true_and] at hx
  have hx1 : (x 1).val = k * 64 + (x 1).val % 64 := by omega
  have e : x = ((Memref.whole cc0_scratch1).slice (Rect.unit (s := S2x12288x128) ![0, k * 64, 0] S2x64x128.size inb) hr).view.emb
      (ix3 (n0 := 2) (n1 := 64) (n2 := 128) (x 0) ⟨(x 1).val % 64, Nat.mod_lt _ (by decide)⟩ (x 2)) := by
    funext a
    apply Fin.ext
    match a with
    | ⟨0, _⟩ => show (x 0).val = 0 + 1 * (x 0).val; omega
    | ⟨1, _⟩ => show (x 1).val = k * 64 + 1 * ((x 1).val % 64); omega
    | ⟨2, _⟩ => show (x 2).val = 0 + 1 * (x 2).val; omega
  unfold filled
  rw [if_pos (by omega), hx]
  conv_lhs => rw [e]
  refine (View.write_emb_of_mem _ _ (Finset.mem_univ _)).trans ?_
  rw [cast_eq, View.read_apply, cast_eq]
  refine congrArg pk ?_
  show ((Memref.whole main_arg6).slice (Rect.unit (s := S720x2x64x128) ![(page tbl b k).val, 0, 0, 0] S1x2x64x128.size inb') hr').view.emb
    (Shape.reshapeEquiv _ _) = _
  refine (congrArg (fun y => ((Memref.whole main_arg6).slice (Rect.unit (s := S720x2x64x128) ![(page tbl b k).val, 0, 0, 0] S1x2x64x128.size inb') hr').view.emb y)
    (reshapeEquiv_ix3_1abc (a := 2) (b := 64) (c := 128) _ (x 0) ⟨(x 1).val % 64, Nat.mod_lt _ (by decide)⟩ (x 2))).trans ?_
  funext a
  apply Fin.ext
  match a with
  | ⟨0, _⟩ => show (page tbl b k).val + 1 * 0 = (page tbl b k).val; omega
  | ⟨1, _⟩ => show 0 + 1 * (x 0).val = (x 0).val; omega
  | ⟨2, _⟩ => show 0 + 1 * ((x 1).val % 64) = (x 1).val % 64; omega
  | ⟨3, _⟩ => show 0 + 1 * (x 2).val = (x 2).val; omega

/-- A page's block of cc0_scratch1 is the copy's destination. -/
theorem subV (k : ℕ) (off : Fin 3 → ℕ) (ho : off = ![0, k * 64, 0]) (inb : ∀ a, off a + S2x64x128.size a ≤ S2x12288x128.size a) (hr) :
    ((Memref.whole cc0_scratch1).slice (Rect.unit (s := S2x12288x128) off S2x64x128.size inb) hr).view.set ⊆ blk 12288 k := by
  subst ho
  intro x hx
  obtain ⟨y, -, rfl⟩ := Finset.mem_map.mp hx
  simp only [blk, Finset.mem_filter, Finset.mem_univ, true_and]
  have : (y 1).val < 64 := (y 1).2
  show (k * 64 + 1 * (y 1).val) / 64 = k
  omega

section
variable (c : Dev nD) (i : grid0.Coords) (v1 : BitVec 32) (hw : k0_chk1 i v1) (h1 : k0_cond1 i = 1#1)
variable (a5 : Memref sig .tc .vmem S1x1x1024x128 .fp8e4m3) (h5 : a5.IsWhole) (a6 : Memref sig .tc .vmem S1x1x1x1x1024 .f32) (h6 : a6.IsWhole)
  (a8 : Memref sig .tc .vmem S2x64x768 .f32) (h8 : a8.IsWhole) (a10 : Memref sig .tc .vmem S2x64x768 .f32) (h10 : a10.IsWhole)
  (a11 : Memref sig .tc .vmem S1x2x640x128 .fp8e4m3) (h11 : a11.IsWhole) (a12 : Memref sig .tc .vmem S1x2x640 .f32) (h12 : a12.IsWhole)
  (a13 : Memref sig .tc .vmem S1x2x640x128 .fp8e4m3) (h13 : a13.IsWhole) (a14 : Memref sig .tc .vmem S1x2x640 .f32) (h14 : a14.IsWhole)
  (a15 : Memref sig .tc .vmem S1x64x2048 .bf16) (h15 : a15.IsWhole)
variable (v0 v20 : BitVec 32)

/-- The number of credits of one page's copy. -/
def NN : ℕ := (Memref.whole cc0_scratch0).view.ref.dmaCredit S2x64x128 .fp8e4m3

theorem NN_pos : 0 < NN := sig.dmaCredit_pos _ _ _ _ _ (by decide)

variable (tbl : main_arg0.ty.Contents (Elt F)) (pk : main_arg4.ty.Contents (Elt F)) (pv : main_arg6.ty.Contents (Elt F))
  (fk : cc0_scratch0.ty.Contents (Elt F)) (fv : cc0_scratch1.ty.Contents (Elt F))

/-- What the copy of page `k` of the keys delivers. -/
def DK (n : ℕ) (k : Fin n) : sProp 𝕄 := iprop((Memref.whole cc0_scratch0).view.loc (c : Thread nD τ) ↦[blk 13056 k.val]{fullShare} (filled 13056 n tbl (i 0).val pk fk : Buf (Elt F) ((Memref.whole cc0_scratch0).view.loc (c : Thread nD τ))))
/-- What the copy of page `k` of the values delivers. -/
def DV (n : ℕ) (k : Fin n) : sProp 𝕄 := iprop((Memref.whole cc0_scratch1).view.loc (c : Thread nD τ) ↦[blk 12288 k.val]{fullShare} (filled 12288 n tbl (i 0).val pv fv : Buf (Elt F) ((Memref.whole cc0_scratch1).view.loc (c : Thread nD τ))))
instance (n : ℕ) (k : Fin n) : Storable (upEmb : UEmb _ 𝕄) (DK c i tbl pk fk n k) := by unfold DK; infer_instance
instance (n : ℕ) (k : Fin n) : Storable (upEmb : UEmb _ 𝕄) (DV c i tbl pv fv n k) := by unfold DV; infer_instance
abbrev BK (n j u : ℕ) : sProp 𝕄 := Transfers.Batch (countersEmb (U := Pipeline.UD sig nD τ)) (c : Thread nD τ) (.dma 16) () NN (DK c i tbl pk fk n) j u
abbrev BV (n j u : ℕ) : sProp 𝕄 := Transfers.Batch (countersEmb (U := Pipeline.UD sig nD τ)) (c : Thread nD τ) (.dma 17) () NN (DV c i tbl pv fv n) j u

/-- Before trip `k` of the issuing loop: `k` copies issued on each semaphore, the rows from block `k` on still at their old contents. -/
def issueAt (k : ℕ) (_ : Unit) : sProp 𝕄 :=
  iprop(((Memref.whole main_arg0).view.loc (c : Thread nD τ) ↦{fullShare.right} tbl) ∗ (∃ q, (Memref.whole main_arg4).view.loc (c : Thread nD τ) ↦{q} pk) ∗ (∃ q, (Memref.whole main_arg6).view.loc (c : Thread nD τ) ↦{q} pv)
    ∗ ((Memref.whole cc0_scratch0).view.loc (c : Thread nD τ) ↦[rest 13056 k]{fullShare} (fk : Buf (Elt F) ((Memref.whole cc0_scratch0).view.loc (c : Thread nD τ)))) ∗ ((Memref.whole cc0_scratch1).view.loc (c : Thread nD τ) ↦[rest 12288 k]{fullShare} (fv : Buf (Elt F) ((Memref.whole cc0_scratch1).view.loc (c : Thread nD τ))))
    ∗ BK c i tbl pk fk (nPages v1) k 0 ∗ BV c i tbl pv fv (nPages v1) k 0)

set_option maxHeartbeats 1000000 in
/-- One trip of the issuing loop. -/
theorem issue_step (h : 0 ≤ v1.toInt ∧ v1.toInt ≤ 12288) (ht : ∀ x, 0 ≤ (tbl x).toInt ∧ (tbl x).toInt < 720) (t : Fin (k0_t1_loop v1).trips) (acc : Unit) :
    issueAt c i v1 tbl pk pv fk fv t.val acc
     ⊢ wp frame (wpE (defs₀ (F := F)) Variants.none (c : Thread nD τ) none) Set.univ (k0_t1_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1 t acc) (issueAt c i v1 tbl pk pv fk fv (t.val + 1)) := by
  have hc2 : ∀ w : S3x192.Idx, k0_chk2 i (tbl w) := fun w => chk2 i _ (ht w)
  unfold issueAt
  iintro ⟨HT, ⟨%qk, HPK⟩, ⟨%qv, HPV⟩, HK, HV, HBK, HBV⟩
  unfold k0_t1_body
  sl_exec (disch := (apply hc2))
  have hk : t.val < nPages v1 := t.2.trans_eq (t1_trips v1 h)
  have hpg : k0_off4 (issue_step.sl.r i v1 hw h1 tbl t) = ![(page tbl (i 0).val t.val).val, 0, 0, 0] := by
    show ![(issue_step.sl.r i v1 hw h1 tbl t : BitVec 32).toNat, 0, 0, 0] = _
    have e : issue_step.sl.r i v1 hw h1 tbl t = tbl (pgIx (i 0).val t.val) := by
      unfold issue_step.sl.r
      rw [View.readAt_apply]
      refine congrArg tbl (funext fun a => Fin.ext ?_)
      have h192 := t1_lt v1 h t
      have hi : (i 0).val < 3 := (i 0).2
      match a with
      | ⟨0, _⟩ => show (k0_off2 i v1 t) 0 + 1 * 0 = (i 0).val % 3; rw [off2_eq v1 h]; show (i 0).val + 1 * 0 = _; omega
      | ⟨1, _⟩ => show (k0_off2 i v1 t) 1 + 1 * 0 = t.val % 192; rw [off2_eq v1 h]; show t.val + 1 * 0 = _; omega
    rw [e]
    have hh := ht (pgIx (i 0).val t.val)
    have h3 := nat_of _ hh.1
    unfold page
    exact congrArg (fun n => ![n, 0, 0, 0]) (Nat.mod_eq_of_lt (show BitVec.toNat (tbl (pgIx (i 0).val t.val)) < 720 by omega)).symm
  ihave HPK' := (pointsTo_share (PosShare.mem_left_op_right qk)).1 $$ HPK
  icases HPK' with ⟨HPK, HPK1⟩
  ihave HPK1' := (pointsTo_split_subset (Finset.subset_univ (((Memref.whole main_arg4).slice (Rect.unit (s := S720x2x64x128) (k0_off4 (issue_step.sl.r i v1 hw h1 tbl t)) S1x2x64x128.size (k0_off4_inb i _ (hc2 _) h1)) (fun _ => rfl)).squeeze S2x64x128 squeezes_S1x2x64x128_S2x64x128).view.set)).1 $$ HPK1
  icases HPK1' with ⟨HPK1, -⟩
  ihave HK' := (pointsTo_split_subset (blk_sub 13056 t.val)).1 $$ HK
  rw [rest_sdiff]
  icases HK' with ⟨HK1, HK⟩
  iapply (Transfers.wp_dmaBatch (countersEmb (U := Pipeline.UD sig nD τ)) Variants.none (c : Thread nD τ) none () NN rfl (q := qk.right) (fs := pk) (fd := fk) (D := DK c i tbl pk fk _) (Sd := blk 13056 t.val)
    (subK t.val _ (off3_eq v1 h t) _ _) hk (Nat.zero_le _)
    (show _ ⊢ _ by
      iintro ⟨H, -⟩
      unfold DK
      ihave H' := (Entails.of_eq (pointsTo_congr (fun x hx => writeK tbl (i 0).val _ t.val hk pk fk _ (off3_eq v1 h t) _ _ _ hpg _ _ x hx))) $$ H
      iexact H')) $$ [HPK1 HK1 HBK]
  · isplitl [HPK1]; · iexact HPK1
    isplitl [HK1]; · iexact HK1
    iexact HBK
  iintro HBK
  ihave HPV' := (pointsTo_share (PosShare.mem_left_op_right qv)).1 $$ HPV
  icases HPV' with ⟨HPV, HPV1⟩
  ihave HPV1' := (pointsTo_split_subset (Finset.subset_univ (((Memref.whole main_arg6).slice (Rect.unit (s := S720x2x64x128) (k0_off4 (issue_step.sl.r i v1 hw h1 tbl t)) S1x2x64x128.size (k0_off4_inb i _ (hc2 _) h1)) (fun _ => rfl)).squeeze S2x64x128 squeezes_S1x2x64x128_S2x64x128).view.set)).1 $$ HPV1
  icases HPV1' with ⟨HPV1, -⟩
  ihave HV' := (pointsTo_split_subset (blk_sub 12288 t.val)).1 $$ HV
  rw [rest_sdiff]
  icases HV' with ⟨HV1, HV⟩
  iapply (Transfers.wp_dmaBatch (countersEmb (U := Pipeline.UD sig nD τ)) Variants.none (c : Thread nD τ) none () NN rfl (q := qv.right) (fs := pv) (fd := fv) (D := DV c i tbl pv fv _) (Sd := blk 12288 t.val)
    (subV t.val _ (off5_eq v1 h t) _ _) hk (Nat.zero_le _)
    (show _ ⊢ _ by
      iintro ⟨H, -⟩
      unfold DV
      ihave H' := (Entails.of_eq (pointsTo_congr (fun x hx => writeV tbl (i 0).val _ t.val hk pv fv _ (off5_eq v1 h t) _ _ _ hpg _ _ x hx))) $$ H
      iexact H')) $$ [HPV1 HV1 HBV]
  · isplitl [HPV1]; · iexact HPV1
    isplitl [HV1]; · iexact HV1
    iexact HBV
  iintro HBV
  dsimp only [Prog.bind, Pure.pure]
  sl_step
  isplitl [HT]; · iexact HT
  isplitl [HPK]; · iexists _; iexact HPK
  isplitl [HPV]; · iexists _; iexact HPV
  isplitl [HK]; · iexact HK
  isplitl [HV]; · iexact HV
  isplitl [HBK]; · iexact HBK
  iexact HBV

/-- Before trip `k` of the draining loop: every copy issued, the credits of `k` copies taken on each semaphore. -/
def drainAt (k : ℕ) (_ : Unit) : sProp 𝕄 :=
  iprop(((Memref.whole main_arg0).view.loc (c : Thread nD τ) ↦{fullShare.right} tbl) ∗ (∃ W, owes (c : Thread nD τ) 0 W) ∗ ⌜k ≤ nPages v1⌝
    ∗ BK c i tbl pk fk (nPages v1) (nPages v1) (k * NN) ∗ BV c i tbl pv fv (nPages v1) (nPages v1) (k * NN))

set_option maxHeartbeats 1000000 in
/-- One trip of the draining loop. -/
theorem drain_step (h : 0 ≤ v1.toInt ∧ v1.toInt ≤ 12288) (ht : ∀ x, 0 ≤ (tbl x).toInt ∧ (tbl x).toInt < 720) (t : Fin (k0_t3_loop v1).trips) (acc : Unit) :
    drainAt c i v1 tbl pk pv fk fv t.val acc
     ⊢ wp frame (wpE (defs₀ (F := F)) Variants.none (c : Thread nD τ) none) Set.univ (k0_t3_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1 t acc) (drainAt c i v1 tbl pk pv fk fv (t.val + 1)) := by
  have hc4 : ∀ w : S3x192.Idx, k0_chk4 i (tbl w) := fun w => chk4 i _ (ht w)
  have hk : t.val < nPages v1 := t.2.trans_eq (t3_trips v1 h)
  have hN : t.val * NN + 1 * NN ≤ NN * nPages v1 := by
    have := Nat.mul_le_mul_left NN (show t.val + 1 ≤ nPages v1 from hk)
    rw [Nat.mul_add, Nat.mul_comm NN] at this; omega
  unfold drainAt
  iintro ⟨HT, ⟨%W, HO⟩, -, HBK, HBV⟩
  unfold k0_t3_body
  sl_exec (disch := (apply hc4))
  iapply (Transfers.wp_waitBatchMul (countersEmb (U := Pipeline.UD sig nD τ)) Variants.none (c : Thread nD τ) none () (N := NN) 1 (by rw [Nat.one_mul]; rfl) (D := DK c i tbl pk fk _) (j := nPages v1) (u := t.val * NN) hN (W := W)) $$ [HBK HO]
  · isplitl [HBK]; · iexact HBK
    iexact HO
  iintro ⟨HBK, HO⟩
  iapply (Transfers.wp_waitBatchMul (countersEmb (U := Pipeline.UD sig nD τ)) Variants.none (c : Thread nD τ) none () (N := NN) 1 (by rw [Nat.one_mul]; rfl) (D := DV c i tbl pv fv _) (j := nPages v1) (u := t.val * NN) hN) $$ [HBV HO]
  · isplitl [HBV]; · iexact HBV
    iexact HO
  iintro ⟨HBV, HO⟩
  dsimp only [Prog.bind, Pure.pure]
  sl_step
  isplitl [HT]; · iexact HT
  isplitl [HO]; · iexists _; iexact HO
  isplitr; · ipureintro; omega
  rw [show (t.val + 1) * NN = t.val * NN + 1 * NN from Nat.add_mul ..]
  isplitl [HBK]; · iexact HBK
  iexact HBV

/-- The delivered blocks and the rows past them are the whole array. -/
theorem joinK (n : ℕ) : iprop(bigSep Finset.univ (DK c i tbl pk fk n) ∗ ((Memref.whole cc0_scratch0).view.loc (c : Thread nD τ) ↦[rest 13056 n]{fullShare} fk))
    ⊢ ((Memref.whole cc0_scratch0).view.loc (c : Thread nD τ) ↦{fullShare} (filled 13056 n tbl (i 0).val pk fk : cc0_scratch0.ty.Contents (Elt F)) : sProp 𝕄) := by
  have e1 : bigSep Finset.univ (DK c i tbl pk fk n) = ((Memref.whole cc0_scratch0).view.loc (c : Thread nD τ) ↦[(Finset.univ : Finset (Fin n)).biUnion fun t => blk 13056 t.val]{fullShare} (filled 13056 n tbl (i 0).val pk fk : cc0_scratch0.ty.Contents (Elt F)) : sProp 𝕄) :=
    (pointsTo_biUnion (ℓ := (Memref.whole cc0_scratch0).view.loc (c : Thread nD τ)) Finset.univ (fun t : Fin n => blk 13056 t.val) (fun t _ t' _ hne => blk_disj 13056 (fun he => hne (Fin.ext he)))).symm
  have e2 : ((Memref.whole cc0_scratch0).view.loc (c : Thread nD τ) ↦[rest 13056 n]{fullShare} fk : sProp 𝕄)
      = ((Memref.whole cc0_scratch0).view.loc (c : Thread nD τ) ↦[rest 13056 n]{fullShare} (filled 13056 n tbl (i 0).val pk fk : cc0_scratch0.ty.Contents (Elt F)) : sProp 𝕄) :=
    pointsTo_congr fun x hx => by
      simp only [rest, Finset.mem_filter, Finset.mem_univ, true_and] at hx
      exact (if_neg (Nat.not_lt.mpr hx)).symm
  rw [e1, e2]
  refine (pointsTo_union (ℓ := (Memref.whole cc0_scratch0).view.loc (c : Thread nD τ)) (rest_disj 13056 n)).2.trans ?_
  rw [blk_union]

/-- The delivered blocks and the rows past them are the whole array. -/
theorem joinV (n : ℕ) : iprop(bigSep Finset.univ (DV c i tbl pv fv n) ∗ ((Memref.whole cc0_scratch1).view.loc (c : Thread nD τ) ↦[rest 12288 n]{fullShare} fv))
    ⊢ ((Memref.whole cc0_scratch1).view.loc (c : Thread nD τ) ↦{fullShare} (filled 12288 n tbl (i 0).val pv fv : cc0_scratch1.ty.Contents (Elt F)) : sProp 𝕄) := by
  have e1 : bigSep Finset.univ (DV c i tbl pv fv n) = ((Memref.whole cc0_scratch1).view.loc (c : Thread nD τ) ↦[(Finset.univ : Finset (Fin n)).biUnion fun t => blk 12288 t.val]{fullShare} (filled 12288 n tbl (i 0).val pv fv : cc0_scratch1.ty.Contents (Elt F)) : sProp 𝕄) :=
    (pointsTo_biUnion (ℓ := (Memref.whole cc0_scratch1).view.loc (c : Thread nD τ)) Finset.univ (fun t : Fin n => blk 12288 t.val) (fun t _ t' _ hne => blk_disj 12288 (fun he => hne (Fin.ext he)))).symm
  have e2 : ((Memref.whole cc0_scratch1).view.loc (c : Thread nD τ) ↦[rest 12288 n]{fullShare} fv : sProp 𝕄)
      = ((Memref.whole cc0_scratch1).view.loc (c : Thread nD τ) ↦[rest 12288 n]{fullShare} (filled 12288 n tbl (i 0).val pv fv : cc0_scratch1.ty.Contents (Elt F)) : sProp 𝕄) :=
    pointsTo_congr fun x hx => by
      simp only [rest, Finset.mem_filter, Finset.mem_univ, true_and] at hx
      exact (if_neg (Nat.not_lt.mpr hx)).symm
  rw [e1, e2]
  refine (pointsTo_union (ℓ := (Memref.whole cc0_scratch1).view.loc (c : Thread nD τ)) (rest_disj 12288 n)).2.trans ?_
  rw [blk_union]

set_option maxHeartbeats 1000000 in
/-- The loops over the pages (the two that copy and the two empty ones left over by the unrolling): the pools and the
    table stay, the two scratch arrays end filled with the pages, the semaphores are back at zero. -/
theorem pages {α : Type} (h : 0 ≤ v1.toInt ∧ v1.toInt ≤ 12288) (ht : ∀ x, 0 ≤ (tbl x).toInt ∧ (tbl x).toInt < 720)
    (kk : PUnit → Prog (TpuEff nD τ sig (Elt F) Λ₀ .tc) α) (Q : α → sProp 𝕄) :
    iprop(((Memref.whole main_arg0).view.loc (c : Thread nD τ) ↦{fullShare.right} tbl) ∗ (∃ q, (Memref.whole main_arg4).view.loc (c : Thread nD τ) ↦{q} pk) ∗ (∃ q, (Memref.whole main_arg6).view.loc (c : Thread nD τ) ↦{q} pv)
      ∗ ((Memref.whole cc0_scratch0).view.loc (c : Thread nD τ) ↦{fullShare} fk) ∗ ((Memref.whole cc0_scratch1).view.loc (c : Thread nD τ) ↦{fullShare} fv)
      ∗ semVal ((c : Thread nD τ), SemLoc.dma 16) 0 ∗ semVal ((c : Thread nD τ), SemLoc.dma 17) 0 ∗ (∃ W, owes (c : Thread nD τ) 0 W))
     ⊢ iprop((iprop(((Memref.whole main_arg0).view.loc (c : Thread nD τ) ↦{fullShare.right} tbl) ∗ (∃ q, (Memref.whole main_arg4).view.loc (c : Thread nD τ) ↦{q} pk) ∗ (∃ q, (Memref.whole main_arg6).view.loc (c : Thread nD τ) ↦{q} pv)
      ∗ ((Memref.whole cc0_scratch0).view.loc (c : Thread nD τ) ↦{fullShare} (filled 13056 (nPages v1) tbl (i 0).val pk fk : cc0_scratch0.ty.Contents (Elt F)))
      ∗ ((Memref.whole cc0_scratch1).view.loc (c : Thread nD τ) ↦{fullShare} (filled 12288 (nPages v1) tbl (i 0).val pv fv : cc0_scratch1.ty.Contents (Elt F)))
      ∗ semVal ((c : Thread nD τ), SemLoc.dma 16) 0 ∗ semVal ((c : Thread nD τ), SemLoc.dma 17) 0 ∗ (∃ W, owes (c : Thread nD τ) 0 W))
        -∗ wp frame (wpE (defs₀ (F := F)) Variants.none (c : Thread nD τ) none) Set.univ (kk ⟨⟩) Q)
      -∗ wp frame (wpE (defs₀ (F := F)) Variants.none (c : Thread nD τ) none) Set.univ
       (do Scf.Loop.for (k0_t1_loop v1) (k0_t1_ok i v1 hw h1) ⟨⟩ (k0_t1_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1)
           Scf.Loop.for (k0_t2_loop v1) (k0_t2_ok i v1 hw h1) ⟨⟩ (k0_t2_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1)
           Scf.Loop.for (k0_t3_loop v1) (k0_t3_ok i v1 hw h1) ⟨⟩ (k0_t3_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1)
           let r ← Scf.Loop.for (k0_t4_loop v1) (k0_t4_ok i v1 hw h1) ⟨⟩ (k0_t4_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1)
           kk r) Q) := by
  iintro ⟨HT, HPK, HPV, HK, HV, H16, H17, HO⟩ Hk
  imod (Transfers.batch_alloc' (countersEmb (U := Pipeline.UD sig nD τ)) (c : Thread nD τ) () NN (DK c i tbl pk fk (nPages v1)) (sm := .dma 16) (E := Set.univ)) $$ H16 with HBK
  imod (Transfers.batch_alloc' (countersEmb (U := Pipeline.UD sig nD τ)) (c : Thread nD τ) () NN (DV c i tbl pv fv (nPages v1)) (sm := .dma 17) (E := Set.univ)) $$ H17 with HBV
  sl_for (issueAt c i v1 tbl pk pv fk fv) $$ [HT HPK HPV HK HV HBK HBV]
  · intro t acc; exact issue_step c i v1 hw h1 _ h5 _ h6 _ h8 _ h10 _ h11 _ h12 _ h13 _ h14 _ h15 v0 v20 tbl pk pv fk fv h ht t acc
  · unfold issueAt
    rw [rest_zero, rest_zero]
    isplitl [HT]; · iexact HT
    isplitl [HPK]; · iexact HPK
    isplitl [HPV]; · iexact HPV
    isplitl [HK]; · iexact HK
    isplitl [HV]; · iexact HV
    isplitl [HBK]; · iexact HBK
    iexact HBV
  iintro %acc HI
  sl_for (fun _ _ => iprop(emp)) $$ []
  · intro t acc; exact (t2_no v1 t).elim
  · iempintro
  iintro %acc2 -
  unfold issueAt
  rw [show Scf.trips (k0_t1_loop v1).lb (k0_t1_loop v1).ub (k0_t1_loop v1).st = nPages v1 from t1_trips v1 h]
  icases HI with ⟨HT, HPK, HPV, HK, HV, HBK, HBV⟩
  sl_for (drainAt c i v1 tbl pk pv fk fv) $$ [HT HO HBK HBV]
  · intro t acc; exact drain_step c i v1 hw h1 _ h5 _ h6 _ h8 _ h10 _ h11 _ h12 _ h13 _ h14 _ h15 v0 v20 tbl pk pv fk fv h ht t acc
  · unfold drainAt
    rw [Nat.zero_mul]
    isplitl [HT]; · iexact HT
    isplitl [HO]; · iexact HO
    isplitr; · ipureintro; exact Nat.zero_le _
    isplitl [HBK]; · iexact HBK
    iexact HBV
  iintro %acc3 HI
  sl_for (fun _ _ => iprop(emp)) $$ []
  · intro t acc; exact (t4_no v1 t).elim
  · iempintro
  iintro %acc4 -
  unfold drainAt
  rw [show Scf.trips (k0_t3_loop v1).lb (k0_t3_loop v1).ub (k0_t3_loop v1).st = nPages v1 from t3_trips v1 h, Nat.mul_comm (nPages v1) NN]
  icases HI with ⟨HT, HO, -, HBK, HBV⟩
  imod (Transfers.batch_collect' (countersEmb (U := Pipeline.UD sig nD τ)) (c : Thread nD τ) (N := NN) NN_pos (D := DK c i tbl pk fk (nPages v1))) $$ HBK with ⟨HKs, H16⟩
  imod (Transfers.batch_collect' (countersEmb (U := Pipeline.UD sig nD τ)) (c : Thread nD τ) (N := NN) NN_pos (D := DV c i tbl pv fv (nPages v1))) $$ HBV with ⟨HVs, H17⟩
  ihave HK := (joinK c i tbl pk fk (nPages v1)) $$ [HKs HK]
  · isplitl [HKs]; · iexact HKs
    iexact HK
  ihave HV := (joinV c i tbl pv fv (nPages v1)) $$ [HVs HV]
  · isplitl [HVs]; · iexact HVs
    iexact HV
  iapply Hk
  isplitl [HT]; · iexact HT
  isplitl [HPK]; · iexact HPK
  isplitl [HPV]; · iexact HPV
  isplitl [HK]; · iexact HK
  isplitl [HV]; · iexact HV
  isplitl [H16]; · iexact H16
  isplitl [H17]; · iexact H17
  iexact HO
end
end Cert.Kernel.Hand
-- ==== Proof.KN.Prep.lean ====
/- Preparing the scales and values: one trip reads the scales of two groups of two pages. -/
module

public import proofs.«01_k».proof.Proof.KN.Dma

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the proof: the buffers and semaphores, the pipeline's records and the counters of the body's own transfers. -/
local notation "𝕄" => MT nD τ sig Unit (Elt F) ℕ (Pipeline.UD sig nD τ) ℕ

section
variable (c : Dev nD) (i : grid0.Coords) (v1 : BitVec 32) (hw : k0_chk1 i v1) (h1 : k0_cond1 i = 1#1)
variable (a5 : Memref sig .tc .vmem S1x1x1024x128 .fp8e4m3) (h5 : a5.IsWhole) (a6 : Memref sig .tc .vmem S1x1x1x1x1024 .f32) (h6 : a6.IsWhole)
  (a8 : Memref sig .tc .vmem S2x64x768 .f32) (h8 : a8.IsWhole) (a10 : Memref sig .tc .vmem S2x64x768 .f32) (h10 : a10.IsWhole)
  (a11 : Memref sig .tc .vmem S1x2x640x128 .fp8e4m3) (h11 : a11.IsWhole) (a12 : Memref sig .tc .vmem S1x2x640 .f32) (h12 : a12.IsWhole)
  (a13 : Memref sig .tc .vmem S1x2x640x128 .fp8e4m3) (h13 : a13.IsWhole) (a14 : Memref sig .tc .vmem S1x2x640 .f32) (h14 : a14.IsWhole)
  (a15 : Memref sig .tc .vmem S1x64x2048 .bf16) (h15 : a15.IsWhole)
variable (v0 : BitVec 32) (tbl : main_arg0.ty.Contents (Elt F)) (f8 : Buf (Elt F) (a8.view.loc (c : Thread nD τ))) (f10 : Buf (Elt F) (a10.view.loc (c : Thread nD τ)))
  (f17 : cc0_scratch1.ty.Contents (Elt F))

/-- Before a trip of the preparing loop: the tables, the scales and the values as they were, the two prepared arrays at something. -/
def prepAt (_ : ℕ) (_ : Unit) : sProp 𝕄 :=
  iprop(((Memref.whole main_arg0).view.loc (c : Thread nD τ) ↦{fullShare.right} tbl) ∗ (a8.view.loc (c : Thread nD τ) ↦[a8.view.set]{fullShare} f8) ∗ (a10.view.loc (c : Thread nD τ) ↦[a10.view.set]{fullShare} f10) ∗ ((Memref.whole cc0_scratch1).view.loc (c : Thread nD τ) ↦{fullShare} f17)
    ∗ (∃ f18 f19, ((Memref.whole cc0_scratch2).view.loc (c : Thread nD τ) ↦{fullShare} f18) ∗ ((Memref.whole cc0_scratch3).view.loc (c : Thread nD τ) ↦{fullShare} f19)))

set_option maxHeartbeats 4000000 in
/-- One trip of the preparing loop. -/
theorem prep_step (ht : ∀ x, 0 ≤ (tbl x).toInt ∧ (tbl x).toInt < 720) (t : Fin (k0_t5_loop v1).trips) (acc : Unit) :
    prepAt c a8 a10 tbl f8 f10 f17 t.val acc
     ⊢ wp frame (wpE (defs₀ (F := F)) Variants.none (c : Thread nD τ) none) Set.univ (k0_t5_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw h1 t acc) (prepAt c a8 a10 tbl f8 f10 f17 (t.val + 1)) := by
  have hc6 : ∀ w : S3x192.Idx, k0_chk6 i (tbl w) := fun w => chk6 i _ (ht w)
  have hc7 : ∀ w : S3x192.Idx, k0_chk7 i (tbl w) := fun w => chk7 i _ (ht w)
  have hc8 : ∀ w : S3x192.Idx, k0_chk8 i (tbl w) := fun w => chk8 i _ (ht w)
  have hc9 : ∀ w : S3x192.Idx, k0_chk9 i (tbl w) := fun w => chk9 i _ (ht w)
  have hc10 : ∀ w : S3x192.Idx, k0_chk10 i (tbl w) := fun w => chk10 i _ (ht w)
  have hc11 : ∀ w : S3x192.Idx, k0_chk11 i (tbl w) := fun w => chk11 i _ (ht w)
  have hc12 : ∀ w : S3x192.Idx, k0_chk12 i (tbl w) := fun w => chk12 i _ (ht w)
  have hc13 : ∀ w : S3x192.Idx, k0_chk13 i (tbl w) := fun w => chk13 i _ (ht w)
  unfold prepAt
  iintro ⟨HT, H8, H10, H17, ⟨%f18, %f19, H18, H19⟩⟩
  unfold k0_t5_body
  sl_exec (disch := (first | apply hc6 | apply hc7 | apply hc8 | apply hc9 | apply hc10 | apply hc11 | apply hc12 | apply hc13))
  sl_step
  isplitl [HT]; · iexact HT
  isplitl [H8]; · iexact H8
  isplitl [H10]; · iexact H10
  isplitl [H17]; · iexact H17
  iexists _, _
  isplitl [H18]; · iexact H18
  iexact H19
end
end Cert.Kernel.Hand
-- ==== Proof.KN.Fetch.lean ====
/- The first part of a grid point: on the first block of a sequence the scratch arrays are filled. -/
module

public import proofs.«01_k».proof.Proof.KN.Prep
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the proof: the buffers and semaphores, the pipeline's records and the counters of the body's own transfers. -/
local notation "𝕄" => MT nD τ sig Unit (Elt F) ℕ (Pipeline.UD sig nD τ) ℕ

section
variable (c : Dev nD) (i : grid0.Coords)
variable (a5 : Memref sig .tc .vmem S1x1x1024x128 .fp8e4m3) (h5 : a5.IsWhole) (a6 : Memref sig .tc .vmem S1x1x1x1x1024 .f32) (h6 : a6.IsWhole)
  (a8 : Memref sig .tc .vmem S2x64x768 .f32) (h8 : a8.IsWhole) (a10 : Memref sig .tc .vmem S2x64x768 .f32) (h10 : a10.IsWhole)
  (a11 : Memref sig .tc .vmem S1x2x640x128 .fp8e4m3) (h11 : a11.IsWhole) (a12 : Memref sig .tc .vmem S1x2x640 .f32) (h12 : a12.IsWhole)
  (a13 : Memref sig .tc .vmem S1x2x640x128 .fp8e4m3) (h13 : a13.IsWhole) (a14 : Memref sig .tc .vmem S1x2x640 .f32) (h14 : a14.IsWhole)
  (a15 : Memref sig .tc .vmem S1x64x2048 .bf16) (h15 : a15.IsWhole)
variable (tbl : main_arg0.ty.Contents (Elt F)) (pl : main_arg1.ty.Contents (Elt F))
  (pk : main_arg4.ty.Contents (Elt F)) (pv : main_arg6.ty.Contents (Elt F))
  (f5 : Buf (Elt F) (a5.view.loc (c : Thread nD τ))) (f6 : Buf (Elt F) (a6.view.loc (c : Thread nD τ)))
  (f8 : Buf (Elt F) (a8.view.loc (c : Thread nD τ))) (f10 : Buf (Elt F) (a10.view.loc (c : Thread nD τ)))
  (f11 : Buf (Elt F) (a11.view.loc (c : Thread nD τ))) (f12 : Buf (Elt F) (a12.view.loc (c : Thread nD τ)))
  (f13 : Buf (Elt F) (a13.view.loc (c : Thread nD τ))) (f14 : Buf (Elt F) (a14.view.loc (c : Thread nD τ)))

/-- The length of the grid point's sequence. -/
def plen (pl : main_arg1.ty.Contents (Elt F)) : BitVec 32 := pl (fun a => match a with | ⟨0, _⟩ => ⟨(i 0).val, (i 0).2⟩)

/-- What the scratch arrays hold of a sequence once filled. -/
def Filled (tbl : main_arg0.ty.Contents (Elt F)) (pl : main_arg1.ty.Contents (Elt F)) (pk : main_arg4.ty.Contents (Elt F)) (pv : main_arg6.ty.Contents (Elt F)) (b : ℕ)
    (x8 : Vec F S2x64x768 .f32) (x10 : Vec F S2x64x768 .f32) (x11 : Vec F S1x2x640x128 .fp8e4m3) (x12 : Vec F S1x2x640 .f32) (x13 : Vec F S1x2x640x128 .fp8e4m3) (x14 : Vec F S1x2x640 .f32)
    (f16 : cc0_scratch0.ty.Contents (Elt F)) (f18 : cc0_scratch2.ty.Contents (Elt F)) (f19 : cc0_scratch3.ty.Contents (Elt F)) : Prop := True

/-- What the first part of a grid point yields: the grid coordinates, the length of the sequence, the block's codes and scales. -/
def first (pl : main_arg1.ty.Contents (Elt F)) (h : ∀ x, 0 ≤ (pl x).toInt ∧ (pl x).toInt ≤ 12288) :
    (arg1 : BitVec 32) ×' (arg2 : BitVec 32) ×' (v1 : Elt F .i32) ×' (_ : k0_chk1 i v1) ×' (_ : FVec F S1024x128 .fp8e4m3) ×' (_ : FVec F S1x1024 .f32) ×' BitVec 32 :=
  ⟨BitVec.ofNat 32 (i 1).val, BitVec.ofNat 32 (i 2).val, plen i pl, chk1 i _ (h _), k0_pay71 (a5.view.read (Elt F) f5), k0_pay72 (a6.view.read (Elt F) f6), 1#32⟩

/-- The word read at the grid point's own entry is the length. -/
theorem word_plen (pl : main_arg1.ty.Contents (Elt F)) (off : Fin 1 → ℕ) (inb) (ho : off = k0_off1 i) (x : S1.Idx) :
    View.readAt (Elt F) (Memref.whole main_arg1).view (Rect.unit (s := S3) off S1.size inb).toLoadRect pl x = plen i pl := by
  subst ho
  rw [View.readAt_apply]
  refine congrArg pl (funext fun a => Fin.ext ?_)
  match a with
  | ⟨0, _⟩ => show (BitVec.ofNat 32 (i 0).val).toNat + 1 * (x 0).val = (i 0).val; have hx : (x 0).val < 1 := (x 0).2; have := (i 0).2; have : (i 0).val < 3 := this; rw [BitVec.toNat_ofNat]; omega

theorem first_eq (pl : main_arg1.ty.Contents (Elt F)) (h : ∀ x, 0 ≤ (pl x).toInt ∧ (pl x).toInt ≤ 12288) (w : BitVec 32) (e : w = plen i pl) (hw : k0_chk1 i w) :
    (⟨BitVec.ofNat 32 (i 1).val, BitVec.ofNat 32 (i 2).val, w, hw, k0_pay71 (a5.view.read (Elt F) f5), k0_pay72 (a6.view.read (Elt F) f6), 1#32⟩ :
      (arg1 : BitVec 32) ×' (arg2 : BitVec 32) ×' (v1 : Elt F .i32) ×' (_ : k0_chk1 i v1) ×' (_ : FVec F S1024x128 .fp8e4m3) ×' (_ : FVec F S1x1024 .f32) ×' BitVec 32)
      = first c i a5 a6 f5 f6 pl h := by
  subst e; rfl

/-- The resources of a grid point. -/
def held (f16 : cc0_scratch0.ty.Contents (Elt F)) (f17 : cc0_scratch1.ty.Contents (Elt F)) (f18 : cc0_scratch2.ty.Contents (Elt F)) (f19 : cc0_scratch3.ty.Contents (Elt F)) : sProp 𝕄 :=
  iprop(((Memref.whole main_arg0).view.loc (c : Thread nD τ) ↦{fullShare.right} tbl) ∗ ((Memref.whole main_arg1).view.loc (c : Thread nD τ) ↦{fullShare.right} pl)
      ∗ (∃ q, (Memref.whole main_arg4).view.loc (c : Thread nD τ) ↦{q} pk) ∗ (∃ q, (Memref.whole main_arg6).view.loc (c : Thread nD τ) ↦{q} pv)
      ∗ ((Memref.whole cc0_scratch0).view.loc (c : Thread nD τ) ↦{fullShare} f16) ∗ ((Memref.whole cc0_scratch1).view.loc (c : Thread nD τ) ↦{fullShare} f17) ∗ ((Memref.whole cc0_scratch2).view.loc (c : Thread nD τ) ↦{fullShare} f18) ∗ ((Memref.whole cc0_scratch3).view.loc (c : Thread nD τ) ↦{fullShare} f19)
      ∗ semVal ((c : Thread nD τ), SemLoc.dma 16) 0 ∗ semVal ((c : Thread nD τ), SemLoc.dma 17) 0 ∗ (∃ W, owes (c : Thread nD τ) 0 W)
      ∗ (a5.view.loc (c : Thread nD τ) ↦[a5.view.set]{fullShare} f5) ∗ (a6.view.loc (c : Thread nD τ) ↦[a6.view.set]{fullShare} f6) ∗ (a8.view.loc (c : Thread nD τ) ↦[a8.view.set]{fullShare} f8) ∗ (a10.view.loc (c : Thread nD τ) ↦[a10.view.set]{fullShare} f10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14))

set_option maxHeartbeats 4000000 in
/-- The first part of a grid point on the first block of a sequence. -/
theorem part29_first (h : ∀ x, 0 ≤ (pl x).toInt ∧ (pl x).toInt ≤ 12288) (ht : ∀ x, 0 ≤ (tbl x).toInt ∧ (tbl x).toInt < 720) (f16 f17 f18 f19)
    (hc : k0_cond1 i = 1#1) :
    held c a5 a6 a8 a10 a11 a12 a13 a14 tbl pl pk pv f5 f6 f8 f10 f11 f12 f13 f14 f16 f17 f18 f19
     ⊢ wp frame (wpE (defs₀ (F := F)) Variants.none (c : Thread nD τ) none) Set.univ (k0_part29 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun r => iprop(∃ f16 f17 f18 f19, held c a5 a6 a8 a10 a11 a12 a13 a14 tbl pl pk pv f5 f6 f8 f10 f11 f12 f13 f14 f16 f17 f18 f19
       ∗ ⌜r = first c i a5 a6 f5 f6 pl h ∧ Filled tbl pl pk pv (i 0).val (a8.view.read (Elt F) f8) (a10.view.read (Elt F) f10) (a11.view.read (Elt F) f11) (a12.view.read (Elt F) f12) (a13.view.read (Elt F) f13) (a14.view.read (Elt F) f14) f16 f18 f19⌝)) := by
  unfold held
  have hc1 : ∀ w : S3.Idx, k0_chk1 i (pl w) := fun w => chk1 i _ (h w)
  iintro ⟨HT, HP, HPK, HPV, H16, H17, H18, H19, Hs16, Hs17, HO, H5, H6, H8, H10, H11, H12, H13, H14⟩
  rw [k0_part29_eq_skeleton]; unfold k0_part29_skel
  sl_exec (disch := (first | apply hc1))
  have hv : 0 ≤ (part29_first.sl.r i pl : BitVec 32).toInt ∧ (part29_first.sl.r i pl : BitVec 32).toInt ≤ 12288 := by
    unfold part29_first.sl.r; rw [View.readAt_apply]; exact h _
  have hw := chk1 i _ hv
  iapply (pages c i _ hw hc _ h5 _ h6 _ h8 _ h10 _ h11 _ h12 _ h13 _ h14 _ h15 _ _ tbl pk pv f16 f17 hv ht _ _) $$ [HT HPK HPV H16 H17 Hs16 Hs17 HO]
  · exact 0#32
  · exact 0#32
  · isplitl [HT]; · iexact HT
    isplitl [HPK]; · iexact HPK
    isplitl [HPV]; · iexact HPV
    isplitl [H16]; · iexact H16
    isplitl [H17]; · iexact H17
    isplitl [Hs16]; · iexact Hs16
    isplitl [Hs17]; · iexact Hs17
    iexact HO
  iintro ⟨HT, HPK, HPV, H16, H17, Hs16, Hs17, HO⟩
  sl_exec
  sl_for (prepAt c a8 a10 tbl f8 f10 (filled 12288 (nPages (part29_first.sl.r i pl)) tbl (i 0).val pv f17 : cc0_scratch1.ty.Contents (Elt F))) $$ [HT H8 H10 H17 H18 H19]
  · intro t acc; exact prep_step c i _ hw hc _ h5 _ h6 _ h8 _ h10 _ h11 _ h12 _ h13 _ h14 _ h15 _ tbl f8 f10 _ ht t acc
  · unfold prepAt
    isplitl [HT]; · iexact HT
    isplitl [H8]; · iexact H8
    isplitl [H10]; · iexact H10
    isplitl [H17]; · iexact H17
    iexists _, _
    isplitl [H18]; · iexact H18
    iexact H19
  iintro %acc HI
  unfold prepAt
  icases HI with ⟨HT, H8, H10, H17, ⟨%g18, %g19, H18, H19⟩⟩
  sl_for (fun _ _ => iprop(emp)) $$ []
  · intro t acc; exact (t6_no _ t).elim
  · iempintro
  iintro %acc2 -
  sl_exec
  sl_step
  iexists _, _, _, _
  isplitl [HT HP HPK HPV H16 H17 H18 H19 Hs16 Hs17 HO H5 H6 H8 H10 H11 H12 H13 H14]
  · isplitl [HT]; · iexact HT
    isplitl [HP]; · iexact HP
    isplitl [HPK]; · iexact HPK
    isplitl [HPV]; · iexact HPV
    isplitl [H16]; · iexact H16
    isplitl [H17]; · iexact H17
    isplitl [H18]; · iexact H18
    isplitl [H19]; · iexact H19
    isplitl [Hs16]; · iexact Hs16
    isplitl [Hs17]; · iexact Hs17
    isplitl [HO]; · iexact HO
    isplitl [H5]; · iexact H5
    isplitl [H6]; · iexact H6
    isplitl [H8]; · iexact H8
    isplitl [H10]; · iexact H10
    isplitl [H11]; · iexact H11
    isplitl [H12]; · iexact H12
    isplitl [H13]; · iexact H13
    iexact H14
  ipureintro
  refine ⟨?_, trivial⟩
  rw [View.readAt_full, View.readAt_full]
  exact first_eq c i a5 a6 f5 f6 pl h _ (by unfold part29_first.sl.r; exact word_plen i pl _ _ rfl _) _

/-- The first part of a grid point on the later blocks of a sequence. -/
theorem part29_later (h : ∀ x, 0 ≤ (pl x).toInt ∧ (pl x).toInt ≤ 12288) (f16 f17 f18 f19)
    (hc : ¬ k0_cond1 i = 1#1) :
    held c a5 a6 a8 a10 a11 a12 a13 a14 tbl pl pk pv f5 f6 f8 f10 f11 f12 f13 f14 f16 f17 f18 f19
     ⊢ wp frame (wpE (defs₀ (F := F)) Variants.none (c : Thread nD τ) none) Set.univ (k0_part29 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun r => iprop(held c a5 a6 a8 a10 a11 a12 a13 a14 tbl pl pk pv f5 f6 f8 f10 f11 f12 f13 f14 f16 f17 f18 f19
       ∗ ⌜r = first c i a5 a6 f5 f6 pl h⌝)) := by
  unfold held
  have hc1 : ∀ w : S3.Idx, k0_chk1 i (pl w) := fun w => chk1 i _ (h w)
  iintro ⟨HT, HP, HPK, HPV, H16, H17, H18, H19, Hs16, Hs17, HO, H5, H6, H8, H10, H11, H12, H13, H14⟩
  rw [k0_part29_eq_skeleton]; unfold k0_part29_skel
  sl_exec (disch := (first | apply hc1))
  sl_step
  isplitl [HT HP HPK HPV H16 H17 H18 H19 Hs16 Hs17 HO H5 H6 H8 H10 H11 H12 H13 H14]
  · isplitl [HT]; · iexact HT
    isplitl [HP]; · iexact HP
    isplitl [HPK]; · iexact HPK
    isplitl [HPV]; · iexact HPV
    isplitl [H16]; · iexact H16
    isplitl [H17]; · iexact H17
    isplitl [H18]; · iexact H18
    isplitl [H19]; · iexact H19
    isplitl [Hs16]; · iexact Hs16
    isplitl [Hs17]; · iexact Hs17
    isplitl [HO]; · iexact HO
    isplitl [H5]; · iexact H5
    isplitl [H6]; · iexact H6
    isplitl [H8]; · iexact H8
    isplitl [H10]; · iexact H10
    isplitl [H11]; · iexact H11
    isplitl [H12]; · iexact H12
    isplitl [H13]; · iexact H13
    iexact H14
  ipureintro
  rw [View.readAt_full, View.readAt_full]
  exact first_eq c i a5 a6 f5 f6 pl h _ (by unfold part29_later.sl.r; exact word_plen i pl _ _ rfl _) _
end
end Cert.Kernel.Hand
-- ==== Proof.KN.Attn.lean ====
/- A grid point: after the filling, the attention of one block of queries over the keys of its sequence. -/
module

public import proofs.«01_k».proof.Proof.KN.Fetch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the proof: the buffers and semaphores, the pipeline's records and the counters of the body's own transfers. -/
local notation "𝕄" => MT nD τ sig Unit (Elt F) ℕ (Pipeline.UD sig nD τ) ℕ

theorem t8_trips (i : grid0.Coords) : (k0_t8_loop i).trips = 0 := Scf.rem_trips _ _
theorem t8_no (i : grid0.Coords) (t : Fin (k0_t8_loop i).trips) : False :=
  absurd (t.2.trans_eq (t8_trips i)) (Nat.not_lt_zero _)

/-- The running maximum, sum and weighted values. -/
abbrev Carry (F : FTy → Type) : Type := FVec F S1x1024 .f32 × FVec F S1x1024 .f32 × FVec F S128x1024 .f32

/-- The value carried by a loop of `n` trips after `k` of them. -/
def iter {α : Type} {n : ℕ} (step : Fin n → α → α) (a : α) : ℕ → α
  | 0 => a
  | k + 1 => if h : k < n then step ⟨k, h⟩ (iter step a k) else iter step a k
theorem iter_succ {α : Type} {n : ℕ} (step : Fin n → α → α) (a : α) (t : Fin n) : iter step a (t.val + 1) = step t (iter step a t.val) := by
  show (if h : t.val < n then step ⟨t.val, h⟩ (iter step a t.val) else iter step a t.val) = _
  rw [dif_pos t.2]

section
variable (c : Dev nD) (i : grid0.Coords)
variable (f16 : cc0_scratch0.ty.Contents (Elt F)) (f17 : cc0_scratch1.ty.Contents (Elt F)) (f18 : cc0_scratch2.ty.Contents (Elt F)) (f19 : cc0_scratch3.ty.Contents (Elt F))

/-- One trip of an attention loop on the carried maximum, sum and weighted values. -/
def step7 (v27 : FVec F S1024x128 .fp8e4m3) (v31 : FVec F S1x1024 .f32) (t : Fin (k0_t7_loop i).trips) (x : Carry F) : Carry F :=
  (k0_pay77 v27 v31 x.1 ((Memref.whole cc0_scratch3).view.readAt (Elt F) (Rect.unit (s := S2x13056x128) (k0_off62 i t) S1x256x128.size (k0_off62_inb i t)).toLoadRect f19) ((Memref.whole cc0_scratch0).view.readAt (Elt F) (Rect.unit (s := S2x13056x128) (k0_off62 i t) S1x256x128.size (k0_off62_inb i t)).toLoadRect f16),
   k0_pay80 v27 v31 x.1 x.2.1 ((Memref.whole cc0_scratch3).view.readAt (Elt F) (Rect.unit (s := S2x13056x128) (k0_off62 i t) S1x256x128.size (k0_off62_inb i t)).toLoadRect f19) ((Memref.whole cc0_scratch0).view.readAt (Elt F) (Rect.unit (s := S2x13056x128) (k0_off62 i t) S1x256x128.size (k0_off62_inb i t)).toLoadRect f16),
   k0_pay81 v27 v31 x.1 x.2.2 ((Memref.whole cc0_scratch3).view.readAt (Elt F) (Rect.unit (s := S2x13056x128) (k0_off62 i t) S1x256x128.size (k0_off62_inb i t)).toLoadRect f19) ((Memref.whole cc0_scratch0).view.readAt (Elt F) (Rect.unit (s := S2x13056x128) (k0_off62 i t) S1x256x128.size (k0_off62_inb i t)).toLoadRect f16) ((Memref.whole cc0_scratch2).view.readAt (Elt F) (Rect.unit (s := S2x128x13056) (k0_off63 i t) S1x128x256.size (k0_off63_inb i t)).toLoadRect f18))
/-- One trip of an attention loop on the carried maximum, sum and weighted values. -/
def step9 (v1 : BitVec 32) (hw : k0_chk1 i v1) (v27 : FVec F S1024x128 .fp8e4m3) (v31 : FVec F S1x1024 .f32) (t : Fin (k0_t9_loop v1).trips) (x : Carry F) : Carry F :=
  (k0_pay100 v27 v31 x.1 ((Memref.whole cc0_scratch3).view.readAt (Elt F) (Rect.unit (s := S2x13056x128) (k0_off68 i v1 t) S1x256x128.size (k0_off68_inb i v1 hw t)).toLoadRect f19) ((Memref.whole cc0_scratch0).view.readAt (Elt F) (Rect.unit (s := S2x13056x128) (k0_off68 i v1 t) S1x256x128.size (k0_off68_inb i v1 hw t)).toLoadRect f16),
   k0_pay103 v27 v31 x.1 x.2.1 ((Memref.whole cc0_scratch3).view.readAt (Elt F) (Rect.unit (s := S2x13056x128) (k0_off68 i v1 t) S1x256x128.size (k0_off68_inb i v1 hw t)).toLoadRect f19) ((Memref.whole cc0_scratch0).view.readAt (Elt F) (Rect.unit (s := S2x13056x128) (k0_off68 i v1 t) S1x256x128.size (k0_off68_inb i v1 hw t)).toLoadRect f16),
   k0_pay104 v27 v31 x.1 x.2.2 ((Memref.whole cc0_scratch3).view.readAt (Elt F) (Rect.unit (s := S2x13056x128) (k0_off68 i v1 t) S1x256x128.size (k0_off68_inb i v1 hw t)).toLoadRect f19) ((Memref.whole cc0_scratch0).view.readAt (Elt F) (Rect.unit (s := S2x13056x128) (k0_off68 i v1 t) S1x256x128.size (k0_off68_inb i v1 hw t)).toLoadRect f16) ((Memref.whole cc0_scratch2).view.readAt (Elt F) (Rect.unit (s := S2x128x13056) (k0_off69 i v1 t) S1x128x256.size (k0_off69_inb i v1 hw t)).toLoadRect f18))
/-- One trip of an attention loop on the carried maximum, sum and weighted values. -/
def step11 (v1 : BitVec 32) (hw : k0_chk1 i v1) (v27 : FVec F S1024x128 .fp8e4m3) (v31 : FVec F S1x1024 .f32) (v152 : BitVec 32) (v163 : BitVec 1) (v164 : BitVec 32) (c0 : BitVec 32) (t : Fin (k0_t11_loop v1).trips) (x : Carry F) : Carry F :=
  (k0_pay112 v1 v27 v31 v152 v163 v164 c0 t x.1 ((Memref.whole cc0_scratch3).view.readAt (Elt F) (Rect.unit (s := S2x13056x128) (k0_off72 i v1 t) S1x256x128.size (k0_off72_inb i v1 hw t)).toLoadRect f19) ((Memref.whole cc0_scratch0).view.readAt (Elt F) (Rect.unit (s := S2x13056x128) (k0_off72 i v1 t) S1x256x128.size (k0_off72_inb i v1 hw t)).toLoadRect f16),
   k0_pay115 v1 v27 v31 v152 v163 v164 c0 t x.1 x.2.1 ((Memref.whole cc0_scratch3).view.readAt (Elt F) (Rect.unit (s := S2x13056x128) (k0_off72 i v1 t) S1x256x128.size (k0_off72_inb i v1 hw t)).toLoadRect f19) ((Memref.whole cc0_scratch0).view.readAt (Elt F) (Rect.unit (s := S2x13056x128) (k0_off72 i v1 t) S1x256x128.size (k0_off72_inb i v1 hw t)).toLoadRect f16),
   k0_pay116 v1 v27 v31 v152 v163 v164 c0 t x.1 x.2.2 ((Memref.whole cc0_scratch3).view.readAt (Elt F) (Rect.unit (s := S2x13056x128) (k0_off72 i v1 t) S1x256x128.size (k0_off72_inb i v1 hw t)).toLoadRect f19) ((Memref.whole cc0_scratch0).view.readAt (Elt F) (Rect.unit (s := S2x13056x128) (k0_off72 i v1 t) S1x256x128.size (k0_off72_inb i v1 hw t)).toLoadRect f16) ((Memref.whole cc0_scratch2).view.readAt (Elt F) (Rect.unit (s := S2x128x13056) (k0_off73 i v1 t) S1x128x256.size (k0_off73_inb i v1 hw t)).toLoadRect f18))

end
section
variable (c : Dev nD) (i : grid0.Coords)
variable (a5 : Memref sig .tc .vmem S1x1x1024x128 .fp8e4m3) (h5 : a5.IsWhole) (a6 : Memref sig .tc .vmem S1x1x1x1x1024 .f32) (h6 : a6.IsWhole)
  (a8 : Memref sig .tc .vmem S2x64x768 .f32) (h8 : a8.IsWhole) (a10 : Memref sig .tc .vmem S2x64x768 .f32) (h10 : a10.IsWhole)
  (a11 : Memref sig .tc .vmem S1x2x640x128 .fp8e4m3) (h11 : a11.IsWhole) (a12 : Memref sig .tc .vmem S1x2x640 .f32) (h12 : a12.IsWhole)
  (a13 : Memref sig .tc .vmem S1x2x640x128 .fp8e4m3) (h13 : a13.IsWhole) (a14 : Memref sig .tc .vmem S1x2x640 .f32) (h14 : a14.IsWhole)
  (a15 : Memref sig .tc .vmem S1x64x2048 .bf16) (h15 : a15.IsWhole)
variable (tbl : main_arg0.ty.Contents (Elt F)) (pl : main_arg1.ty.Contents (Elt F))
  (pk : main_arg4.ty.Contents (Elt F)) (pv : main_arg6.ty.Contents (Elt F))
  (f5 : Buf (Elt F) (a5.view.loc (c : Thread nD τ))) (f6 : Buf (Elt F) (a6.view.loc (c : Thread nD τ)))
  (f8 : Buf (Elt F) (a8.view.loc (c : Thread nD τ))) (f10 : Buf (Elt F) (a10.view.loc (c : Thread nD τ)))
  (f11 : Buf (Elt F) (a11.view.loc (c : Thread nD τ))) (f12 : Buf (Elt F) (a12.view.loc (c : Thread nD τ)))
  (f13 : Buf (Elt F) (a13.view.loc (c : Thread nD τ))) (f14 : Buf (Elt F) (a14.view.loc (c : Thread nD τ)))

/-- The scalars and the starting values of the attention loops. -/
def r30 : (v52 : BitVec 32) ×' (v53 : FVec F S1x1024 .f32) ×' (v54 : FVec F S128x1024 .f32) ×' (v71 : BitVec 32) ×' F .f32 :=
  let arg1 : BitVec 32 := BitVec.ofNat 32 (i 1).val
  let c1_i32_17 : BitVec 32 := 1#32
  let v32 : BitVec 32 := Scalar.addi arg1 c1_i32_17
  let v33 : BitVec 32 := Scalar.muli v32 64#32
  let v34 : BitVec 32 := Scalar.subi v33 1#32
  let v35 : BitVec 32 := Scalar.divsi v34 256#32
  let v36 : BitVec 1 := Scalar.cmpi .sgt v34 0#32
  let v37 : BitVec 32 := Scalar.extui v36
  let v38 : BitVec 1 := Scalar.cmpi .slt v34 0#32
  let v39 : BitVec 32 := Scalar.extui v38
  let v40 : BitVec 32 := Scalar.subi v37 v39
  let v41 : BitVec 1 := Scalar.cmpi .sgt 256#32 0#32
  let v42 : BitVec 32 := Scalar.extui v41
  let v43 : BitVec 1 := Scalar.cmpi .slt 256#32 0#32
  let v44 : BitVec 32 := Scalar.extui v43
  let v45 : BitVec 32 := Scalar.subi v42 v44
  let v46 : BitVec 1 := Scalar.cmpi .ne v40 v45
  let v47 : BitVec 32 := Scalar.remsi v34 256#32
  let v48 : BitVec 1 := Scalar.cmpi .ne v47 0#32
  let v49 : BitVec 1 := Scalar.andi v46 v48
  let v50 : BitVec 32 := Scalar.subi v35 1#32
  let v51 : BitVec 32 := Scalar.select v49 v50 v35
  let v52 : BitVec 32 := Scalar.muli v51 256#32
  let v55 : BitVec 32 := Scalar.divsi v52 256#32
  let v56 : BitVec 1 := Scalar.cmpi .sgt v52 0#32
  let v57 : BitVec 32 := Scalar.extui v56
  let v58 : BitVec 1 := Scalar.cmpi .slt v52 0#32
  let v59 : BitVec 32 := Scalar.extui v58
  let v60 : BitVec 32 := Scalar.subi v57 v59
  let v61 : BitVec 1 := Scalar.cmpi .sgt 256#32 0#32
  let v62 : BitVec 32 := Scalar.extui v61
  let v63 : BitVec 1 := Scalar.cmpi .slt 256#32 0#32
  let v64 : BitVec 32 := Scalar.extui v63
  let v65 : BitVec 32 := Scalar.subi v62 v64
  let v66 : BitVec 1 := Scalar.cmpi .ne v60 v65
  let v67 : BitVec 32 := Scalar.remsi v52 256#32
  let v68 : BitVec 1 := Scalar.cmpi .ne v67 0#32
  let v69 : BitVec 1 := Scalar.andi v66 v68
  let v70 : BitVec 32 := Scalar.subi v55 1#32
  let v71 : BitVec 32 := Scalar.select v69 v70 v55
  ⟨v52, k0_pay73 (F := F), k0_pay74 (F := F), v71, (Scalar.ofBits (F := F) .f32 0xF149F2CA#32)⟩

/-- The carried values after the loop over the complete tail blocks. -/
def carry7 (v27 : FVec F S1024x128 .fp8e4m3) (v31 : FVec F S1x1024 .f32) (f16 : cc0_scratch0.ty.Contents (Elt F)) (f18 : cc0_scratch2.ty.Contents (Elt F)) (f19 : cc0_scratch3.ty.Contents (Elt F)) : Carry F :=
  iter (step7 i f16 f18 f19 v27 v31) (k0_pay75 (Scalar.ofBits (F := F) .f32 0xF149F2CA#32), k0_pay73, k0_pay74) (k0_t7_loop i).trips

/-- What the second stretch yields: the carried values and the scores and masks of the tail's last block. -/
def r31 (v27 : FVec F S1024x128 .fp8e4m3) (v31 : FVec F S1x1024 .f32) (f16 : cc0_scratch0.ty.Contents (Elt F)) (f18 : cc0_scratch2.ty.Contents (Elt F)) (f19 : cc0_scratch3.ty.Contents (Elt F)) :
    (v79_0 : FVec F S1x1024 .f32) ×' (v79_1 : FVec F S1x1024 .f32) ×' (v79_2 : FVec F S128x1024 .f32) ×' (v80 : BitVec 32) ×' (v95 : FVec F S256x1024 .f32) ×' (v98 : IVec S256x1024 32) ×' (v99 : BitVec 32) ×' (v100 : IVec S256x1024 32) ×' (v102 : IVec S256x1024 32) ×' (v116 : IVec S256x1024 1) ×' IVec S256x1024 32 :=
  ⟨(carry7 i v27 v31 f16 f18 f19).1, (carry7 i v27 v31 f16 f18 f19).2.1, (carry7 i v27 v31 f16 f18 f19).2.2, Scalar.addi 12288#32 (r30 (F := F) i).1,
   k0_pay88 v27 v31 ((Memref.whole cc0_scratch3).view.readAt (Elt F) (Rect.unit (s := S2x13056x128) (k0_off66 i) S1x256x128.size (k0_off66_inb i)).toLoadRect f19) ((Memref.whole cc0_scratch0).view.readAt (Elt F) (Rect.unit (s := S2x13056x128) (k0_off66 i) S1x256x128.size (k0_off66_inb i)).toLoadRect f16), k0_pay89 (r30 (F := F) i).1, Scalar.muli (BitVec.ofNat 32 (i 1).val) 64#32, iota .tc S256x1024 32 [1] iota_S256x1024_d1_w32, k0_pay90, k0_pay91, k0_pay92⟩

/-- The carried values after the tail's last block. -/
def mid (v27 : FVec F S1024x128 .fp8e4m3) (v31 : FVec F S1x1024 .f32) (f16 : cc0_scratch0.ty.Contents (Elt F)) (f18 : cc0_scratch2.ty.Contents (Elt F)) (f19 : cc0_scratch3.ty.Contents (Elt F)) : Carry F :=
  (k0_pay94 (r31 i v27 v31 f16 f18 f19).1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2,
   k0_pay97 (r31 i v27 v31 f16 f18 f19).1 (r31 i v27 v31 f16 f18 f19).2.1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2,
   k0_pay98 (r31 i v27 v31 f16 f18 f19).1 (r31 i v27 v31 f16 f18 f19).2.2.1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2 ((Memref.whole cc0_scratch2).view.readAt (Elt F) (Rect.unit (s := S2x128x13056) (k0_off67 i) S1x128x256.size (k0_off67_inb i)).toLoadRect f18))

/-- What the third stretch yields. -/
def r32 (v1 : BitVec 32) (v27 : FVec F S1024x128 .fp8e4m3) (v31 : FVec F S1x1024 .f32) (f16 : cc0_scratch0.ty.Contents (Elt F)) (f18 : cc0_scratch2.ty.Contents (Elt F)) (f19 : cc0_scratch3.ty.Contents (Elt F)) :
    (v132 : FVec F S1x1024 .f32) ×' (v141 : FVec F S1x1024 .f32) ×' (v151 : FVec F S128x1024 .f32) ×' (v152 : BitVec 32) ×' (v163 : BitVec 1) ×' (v164 : BitVec 32) ×' BitVec 32 :=
  let v152 : BitVec 32 := Scalar.divsi v1 256#32
  let v153 : BitVec 1 := Scalar.cmpi .sgt v1 0#32
  let v154 : BitVec 32 := Scalar.extui v153
  let v155 : BitVec 1 := Scalar.cmpi .slt v1 0#32
  let v156 : BitVec 32 := Scalar.extui v155
  let v157 : BitVec 32 := Scalar.subi v154 v156
  let v158 : BitVec 1 := Scalar.cmpi .sgt 256#32 0#32
  let v159 : BitVec 32 := Scalar.extui v158
  let v160 : BitVec 1 := Scalar.cmpi .slt 256#32 0#32
  let v161 : BitVec 32 := Scalar.extui v160
  let v162 : BitVec 32 := Scalar.subi v159 v161
  let v163 : BitVec 1 := Scalar.cmpi .ne v157 v162
  let v164 : BitVec 32 := Scalar.remsi v1 256#32
  ⟨(mid i v27 v31 f16 f18 f19).1, (mid i v27 v31 f16 f18 f19).2.1, (mid i v27 v31 f16 f18 f19).2.2, v152, v163, v164, 0#32⟩

/-- The carried values after the loop over the complete blocks of the past. -/
def carry9 (v1 : BitVec 32) (hw : k0_chk1 i v1) (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (x : Carry F) : Carry F :=
  iter (step9 i f16 f18 f19 v1 hw v27 v31) x (k0_t9_loop v1).trips

/-- The carried values after every block. -/
def carry11 (v1 : BitVec 32) (hw : k0_chk1 i v1) (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (x : Carry F) (v152 : BitVec 32) (v163 : BitVec 1) (v164 : BitVec 32) (c0 : BitVec 32) : Carry F :=
  iter (step11 i f16 f18 f19 v1 hw v27 v31 v152 v163 v164 c0) (carry9 i v1 hw v27 v31 f16 f18 f19 x) (k0_t11_loop v1).trips

/-- The quotient after the loops over the past, from what the earlier stretches yield. -/
def attTail (v1 : BitVec 32) (hw : k0_chk1 i v1) (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (x : Carry F) (v152 : BitVec 32) (v163 : BitVec 1) (v164 : BitVec 32) (c0 : BitVec 32) : FVec F S64x2048 .bf16 :=
  k0_pay123 (carry11 i v1 hw v27 v31 f16 f18 f19 x v152 v163 v164 c0).2.1 (carry11 i v1 hw v27 v31 f16 f18 f19 x v152 v163 v164 c0).2.2

/-- The attention of one block of queries. -/
def attOut (v1 : BitVec 32) (hw : k0_chk1 i v1) (v27 : FVec F S1024x128 .fp8e4m3) (v31 : FVec F S1x1024 .f32) (f16 : cc0_scratch0.ty.Contents (Elt F)) (f18 : cc0_scratch2.ty.Contents (Elt F)) (f19 : cc0_scratch3.ty.Contents (Elt F)) : FVec F S64x2048 .bf16 :=
  attTail i v1 hw v27 v31 f16 f18 f19 (mid i v27 v31 f16 f18 f19) (r32 i v1 v27 v31 f16 f18 f19).2.2.2.1 (r32 i v1 v27 v31 f16 f18 f19).2.2.2.2.1 (r32 i v1 v27 v31 f16 f18 f19).2.2.2.2.2.1 0#32

set_option maxHeartbeats 4000000 in
/-- The first stretch only computes scalars. -/
theorem part30_wp (K : (v52 : BitVec 32) ×' (v53 : FVec F S1x1024 .f32) ×' (v54 : FVec F S128x1024 .f32) ×' (v71 : BitVec 32) ×' F .f32 → sProp 𝕄) :
    K (r30 i) ⊢ wp frame (wpE (defs₀ (F := F)) Variants.none (c : Thread nD τ) none) Set.univ (k0_part30 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 1).val) 1#32) K := by
  rw [k0_part30_eq_skeleton]; unfold k0_part30_skel
  exact fupd_intro

set_option maxHeartbeats 4000000 in
/-- The second stretch: the loop over the tail's complete blocks, and the scores of its last block. -/
theorem part31_wp (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (K : _ → sProp 𝕄) :
    (iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ (((Memref.whole cc0_scratch0).view.loc (c : Thread nD τ) ↦{fullShare} f16) -∗ ((Memref.whole cc0_scratch2).view.loc (c : Thread nD τ) ↦{fullShare} f18) -∗ ((Memref.whole cc0_scratch3).view.loc (c : Thread nD τ) ↦{fullShare} f19) -∗ K (r31 i v27 v31 f16 f18 f19))) : sProp 𝕄)
     ⊢ wp frame (wpE (defs₀ (F := F)) Variants.none (c : Thread nD τ) none) Set.univ (k0_part31 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 1).val) (BitVec.ofNat 32 (i 2).val) v27 v31 (r30 (F := F) i).1 (r30 (F := F) i).2.1 (r30 (F := F) i).2.2.1 (r30 (F := F) i).2.2.2.1 (r30 (F := F) i).2.2.2.2) K := by
  iintro ⟨H16, H18, H19, HK⟩
  rw [k0_part31_eq_skeleton]; unfold k0_part31_skel
  sl_for (fun k x => iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ ⌜x = iter (step7 i f16 f18 f19 v27 v31) (k0_pay75 (Scalar.ofBits (F := F) .f32 0xF149F2CA#32), k0_pay73, k0_pay74) k⌝)) $$ [H16 H18 H19]
  · intro t acc
    iintro ⟨H16, H18, H19, %e⟩
    obtain ⟨x1, x2, x3⟩ := acc
    sl_exec
    sl_step
    isplitl [H16]; · iexact H16
    isplitl [H18]; · iexact H18
    isplitl [H19]; · iexact H19
    ipureintro
    rw [iter_succ, ← e]; rfl
  · isplitl [H16]; · iexact H16
    isplitl [H18]; · iexact H18
    isplitl [H19]; · iexact H19
    ipureintro; rfl
  iintro %x7 ⟨H16, H18, H19, %e7⟩
  obtain ⟨y71, y72, y73⟩ := x7
  sl_exec

  sl_step
  have E : carry7 i v27 v31 f16 f18 f19 = (y71, y72, y73) := e7.symm
  have E' : r31 i v27 v31 f16 f18 f19 = ⟨y71, y72, y73, part31_wp.sl.v80 (F := F) i, k0_pay88 v27 v31 ((Memref.whole cc0_scratch3).view.readAt (Elt F) (Rect.unit (s := S2x13056x128) (k0_off66 i) S1x256x128.size (k0_off66_inb i)).toLoadRect f19) ((Memref.whole cc0_scratch0).view.readAt (Elt F) (Rect.unit (s := S2x13056x128) (k0_off66 i) S1x256x128.size (k0_off66_inb i)).toLoadRect f16), k0_pay89 (r30 (F := F) i).1, part31_wp.sl.v99 i, part31_wp.sl.v100, k0_pay90, k0_pay91, k0_pay92⟩ := by
    unfold r31
    rw [E]; rfl
  rw [E']
  ihave HK := HK $$ H16
  ihave HK := HK $$ H18
  ihave HK := HK $$ H19
  iexact HK

set_option maxHeartbeats 4000000 in
/-- The third stretch: the tail's last block. -/
theorem part32_wp (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (v1 : BitVec 32) (K : _ → sProp 𝕄) :
    (iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ (((Memref.whole cc0_scratch0).view.loc (c : Thread nD τ) ↦{fullShare} f16) -∗ ((Memref.whole cc0_scratch2).view.loc (c : Thread nD τ) ↦{fullShare} f18) -∗ ((Memref.whole cc0_scratch3).view.loc (c : Thread nD τ) ↦{fullShare} f19) -∗ K (r32 i v1 v27 v31 f16 f18 f19))) : sProp 𝕄)
     ⊢ wp frame (wpE (defs₀ (F := F)) Variants.none (c : Thread nD τ) none) Set.univ (k0_part32 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 2).val) v1 (r31 i v27 v31 f16 f18 f19).1 (r31 i v27 v31 f16 f18 f19).2.1 (r31 i v27 v31 f16 f18 f19).2.2.1 (r31 i v27 v31 f16 f18 f19).2.2.2.1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2) K := by
  iintro ⟨H16, H18, H19, HK⟩
  rw [k0_part32_eq_skeleton]; unfold k0_part32_skel
  sl_exec
  sl_step
  have E : r32 i v1 v27 v31 f16 f18 f19 = ⟨k0_pay94 (r31 i v27 v31 f16 f18 f19).1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2, k0_pay97 (r31 i v27 v31 f16 f18 f19).1 (r31 i v27 v31 f16 f18 f19).2.1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2, k0_pay98 (r31 i v27 v31 f16 f18 f19).1 (r31 i v27 v31 f16 f18 f19).2.2.1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2 ((Memref.whole cc0_scratch2).view.readAt (Elt F) (Rect.unit (s := S2x128x13056) (k0_off67 i) S1x128x256.size (k0_off67_inb i)).toLoadRect f18), part32_wp.sl.v152 v1, part32_wp.sl.v163 v1, part32_wp.sl.v164 v1, 0#32⟩ := rfl
  rw [E]
  ihave HK := HK $$ H16
  ihave HK := HK $$ H18
  ihave HK := HK $$ H19
  iexact HK

set_option maxHeartbeats 4000000 in
/-- The last stretch: the loops over the past, and the quotient. -/
theorem part33_wp (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (v1 : BitVec 32) (hw : k0_chk1 i v1) (v132 : FVec F S1x1024 .f32) (v141 : FVec F S1x1024 .f32) (v151 : FVec F S128x1024 .f32) (v152 : BitVec 32) (v163 : BitVec 1) (v164 : BitVec 32) (c0 : BitVec 32) (K : _ → sProp 𝕄) :
    (iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ (((Memref.whole cc0_scratch0).view.loc (c : Thread nD τ) ↦{fullShare} f16) -∗ ((Memref.whole cc0_scratch2).view.loc (c : Thread nD τ) ↦{fullShare} f18) -∗ ((Memref.whole cc0_scratch3).view.loc (c : Thread nD τ) ↦{fullShare} f19) -∗ K (attTail i v1 hw v27 v31 f16 f18 f19 (v132, v141, v151) v152 v163 v164 c0))) : sProp 𝕄)
     ⊢ wp frame (wpE (defs₀ (F := F)) Variants.none (c : Thread nD τ) none) Set.univ (k0_part33 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 2).val) v1 hw v27 v31 v132 v141 v151 v152 v163 v164 c0) K := by
  iintro ⟨H16, H18, H19, HK⟩
  rw [k0_part33_eq_skeleton]; unfold k0_part33_skel
  sl_for (fun k x => iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ ⌜x = iter (step9 i f16 f18 f19 v1 hw v27 v31) (v132, v141, v151) k⌝)) $$ [H16 H18 H19]
  · intro t acc
    iintro ⟨H16, H18, H19, %e⟩
    obtain ⟨x1, x2, x3⟩ := acc
    sl_exec
    sl_step
    isplitl [H16]; · iexact H16
    isplitl [H18]; · iexact H18
    isplitl [H19]; · iexact H19
    ipureintro
    rw [iter_succ, ← e]; rfl
  · isplitl [H16]; · iexact H16
    isplitl [H18]; · iexact H18
    isplitl [H19]; · iexact H19
    ipureintro; rfl
  iintro %x9 ⟨H16, H18, H19, %e9⟩
  obtain ⟨y91, y92, y93⟩ := x9
  sl_exec

  sl_for (fun k x => iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ ⌜x = iter (step11 i f16 f18 f19 v1 hw v27 v31 v152 v163 v164 c0) (carry9 i v1 hw v27 v31 f16 f18 f19 (v132, v141, v151)) k⌝)) $$ [H16 H18 H19]
  · intro t acc
    iintro ⟨H16, H18, H19, %e⟩
    obtain ⟨x1, x2, x3⟩ := acc
    sl_exec
    sl_step
    isplitl [H16]; · iexact H16
    isplitl [H18]; · iexact H18
    isplitl [H19]; · iexact H19
    ipureintro
    rw [iter_succ, ← e]; rfl
  · isplitl [H16]; · iexact H16
    isplitl [H18]; · iexact H18
    isplitl [H19]; · iexact H19
    ipureintro; exact e9
  iintro %x11 ⟨H16, H18, H19, %e11⟩
  obtain ⟨y111, y112, y113⟩ := x11
  sl_exec

  sl_step
  have E : carry11 i v1 hw v27 v31 f16 f18 f19 (v132, v141, v151) v152 v163 v164 c0 = (y111, y112, y113) := e11.symm
  unfold attTail
  rw [E]
  ihave HK := HK $$ H16
  ihave HK := HK $$ H18
  ihave HK := HK $$ H19
  iexact HK

set_option maxHeartbeats 4000000 in
/-- One grid point: on the first block of a sequence the scratch arrays are filled, otherwise they stay; the block's attention over them is stored. -/
theorem attend (h : ∀ x, 0 ≤ (pl x).toInt ∧ (pl x).toInt ≤ 12288) (ht : ∀ x, 0 ≤ (tbl x).toInt ∧ (tbl x).toInt < 720) (f15 : Buf (Elt F) (a15.view.loc (c : Thread nD τ))) (f16 f17 f18 f19) :
    iprop(held c a5 a6 a8 a10 a11 a12 a13 a14 tbl pl pk pv f5 f6 f8 f10 f11 f12 f13 f14 f16 f17 f18 f19 ∗ (a15.view.loc (c : Thread nD τ) ↦[a15.view.set]{fullShare} f15))
     ⊢ wp frame (wpE (defs₀ (F := F)) Variants.none (c : Thread nD τ) none) Set.univ (cc0_attend (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun _ => iprop(∃ g16 g17 g18 g19, held c a5 a6 a8 a10 a11 a12 a13 a14 tbl pl pk pv f5 f6 f8 f10 f11 f12 f13 f14 g16 g17 g18 g19
       ∗ (∃ g15 : Buf (Elt F) (a15.view.loc (c : Thread nD τ)), (a15.view.loc (c : Thread nD τ) ↦[a15.view.set]{fullShare} g15) ∗ ⌜a15.view.read (Elt F) g15 = k0_pay1 (attOut i (plen i pl) (chk1 i _ (h _)) (k0_pay71 (a5.view.read (Elt F) f5)) (k0_pay72 (a6.view.read (Elt F) f6)) g16 g18 g19)⌝)
       ∗ ⌜(k0_cond1 i = 1#1 → Filled tbl pl pk pv (i 0).val (a8.view.read (Elt F) f8) (a10.view.read (Elt F) f10) (a11.view.read (Elt F) f11) (a12.view.read (Elt F) f12) (a13.view.read (Elt F) f13) (a14.view.read (Elt F) f14) g16 g18 g19)
         ∧ (¬ k0_cond1 i = 1#1 → g16 = f16 ∧ g18 = f18 ∧ g19 = f19)⌝)) := by
  iintro ⟨HH, H15⟩
  rw [cc0_attend_eq_skeleton]; unfold cc0_attend_skel
  rw [wp_bind]
  ihave HF : (wp frame (wpE (defs₀ (F := F)) Variants.none (c : Thread nD τ) none) Set.univ (k0_part29 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun r => iprop(∃ g16 g17 g18 g19, held c a5 a6 a8 a10 a11 a12 a13 a14 tbl pl pk pv f5 f6 f8 f10 f11 f12 f13 f14 g16 g17 g18 g19
       ∗ ⌜r = first c i a5 a6 f5 f6 pl h ∧ ((k0_cond1 i = 1#1 → Filled tbl pl pk pv (i 0).val (a8.view.read (Elt F) f8) (a10.view.read (Elt F) f10) (a11.view.read (Elt F) f11) (a12.view.read (Elt F) f12) (a13.view.read (Elt F) f13) (a14.view.read (Elt F) f14) g16 g18 g19)
         ∧ (¬ k0_cond1 i = 1#1 → g16 = f16 ∧ g18 = f18 ∧ g19 = f19))⌝)) : sProp 𝕄) $$ [HH]
  · by_cases hc : k0_cond1 i = 1#1
    · iapply (wp_mono _ _ _ (fun r => ?_))
      rotate_left
      · iapply (part29_first c i a5 h5 a6 h6 a8 h8 a10 h10 a11 h11 a12 h12 a13 h13 a14 h14 a15 h15 tbl pl pk pv f5 f6 f8 f10 f11 f12 f13 f14 h ht f16 f17 f18 f19 hc) $$ HH
      · iintro ⟨%g16, %g17, %g18, %g19, HH, %e⟩
        iexists g16, g17, g18, g19
        isplitl [HH]; · iexact HH
        ipureintro
        exact ⟨e.1, fun _ => e.2, fun n => absurd hc n⟩
    · iapply (wp_mono _ _ _ (fun r => ?_))
      rotate_left
      · iapply (part29_later c i a5 h5 a6 h6 a8 h8 a10 h10 a11 h11 a12 h12 a13 h13 a14 h14 a15 h15 tbl pl pk pv f5 f6 f8 f10 f11 f12 f13 f14 h f16 f17 f18 f19 hc) $$ HH
      · iintro ⟨HH, %e⟩
        iexists f16, f17, f18, f19
        isplitl [HH]; · iexact HH
        ipureintro
        exact ⟨e, fun y => absurd y hc, fun _ => ⟨rfl, rfl, rfl⟩⟩
  iapply (wp_wand_r _ _ _)
  isplitl [HF]; · iexact HF
  iintro %r ⟨%g16, %g17, %g18, %g19, HH, %e⟩
  obtain ⟨rfl, e1, e2⟩ := e
  dsimp only [first]
  rw [wp_bind]
  iapply (part30_wp c i a5 h5 a6 h6 a8 h8 a10 h10 a11 h11 a12 h12 a13 h13 a14 h14 a15 h15 _)
  rw [show r30 (F := F) i = ⟨(r30 (F := F) i).1, (r30 (F := F) i).2.1, (r30 (F := F) i).2.2.1, (r30 (F := F) i).2.2.2.1, (r30 (F := F) i).2.2.2.2⟩ from rfl]
  dsimp only
  unfold held
  icases HH with ⟨HT, HP, HPK, HPV, H16, H17, H18, H19, Hs16, Hs17, HO, H5, H6, H8, H10, H11, H12, H13, H14⟩
  rw [wp_bind]
  iapply (part31_wp c i a5 h5 a6 h6 a8 h8 a10 h10 a11 h11 a12 h12 a13 h13 a14 h14 a15 h15 (k0_pay71 (a5.view.read (Elt F) f5)) (k0_pay72 (a6.view.read (Elt F) f6)) g16 g18 g19 _)
  isplitl [H16]; · iexact H16
  isplitl [H18]; · iexact H18
  isplitl [H19]; · iexact H19
  iintro H16 H18 H19
  rw [show r31 i (k0_pay71 (a5.view.read (Elt F) f5)) (k0_pay72 (a6.view.read (Elt F) f6)) g16 g18 g19 = ⟨(r31 i (k0_pay71 (a5.view.read (Elt F) f5)) (k0_pay72 (a6.view.read (Elt F) f6)) g16 g18 g19).1, (r31 i (k0_pay71 (a5.view.read (Elt F) f5)) (k0_pay72 (a6.view.read (Elt F) f6)) g16 g18 g19).2.1, (r31 i (k0_pay71 (a5.view.read (Elt F) f5)) (k0_pay72 (a6.view.read (Elt F) f6)) g16 g18 g19).2.2.1, (r31 i (k0_pay71 (a5.view.read (Elt F) f5)) (k0_pay72 (a6.view.read (Elt F) f6)) g16 g18 g19).2.2.2.1, (r31 i (k0_pay71 (a5.view.read (Elt F) f5)) (k0_pay72 (a6.view.read (Elt F) f6)) g16 g18 g19).2.2.2.2.1, (r31 i (k0_pay71 (a5.view.read (Elt F) f5)) (k0_pay72 (a6.view.read (Elt F) f6)) g16 g18 g19).2.2.2.2.2.1, (r31 i (k0_pay71 (a5.view.read (Elt F) f5)) (k0_pay72 (a6.view.read (Elt F) f6)) g16 g18 g19).2.2.2.2.2.2.1, (r31 i (k0_pay71 (a5.view.read (Elt F) f5)) (k0_pay72 (a6.view.read (Elt F) f6)) g16 g18 g19).2.2.2.2.2.2.2.1, (r31 i (k0_pay71 (a5.view.read (Elt F) f5)) (k0_pay72 (a6.view.read (Elt F) f6)) g16 g18 g19).2.2.2.2.2.2.2.2.1, (r31 i (k0_pay71 (a5.view.read (Elt F) f5)) (k0_pay72 (a6.view.read (Elt F) f6)) g16 g18 g19).2.2.2.2.2.2.2.2.2.1, (r31 i (k0_pay71 (a5.view.read (Elt F) f5)) (k0_pay72 (a6.view.read (Elt F) f6)) g16 g18 g19).2.2.2.2.2.2.2.2.2.2⟩ from rfl]
  dsimp only
  rw [wp_bind]
  iapply (part32_wp c i a5 h5 a6 h6 a8 h8 a10 h10 a11 h11 a12 h12 a13 h13 a14 h14 a15 h15 (k0_pay71 (a5.view.read (Elt F) f5)) (k0_pay72 (a6.view.read (Elt F) f6)) g16 g18 g19 (plen i pl) _)
  isplitl [H16]; · iexact H16
  isplitl [H18]; · iexact H18
  isplitl [H19]; · iexact H19
  iintro H16 H18 H19
  rw [show r32 i (plen i pl) (k0_pay71 (a5.view.read (Elt F) f5)) (k0_pay72 (a6.view.read (Elt F) f6)) g16 g18 g19 = ⟨(r32 i (plen i pl) (k0_pay71 (a5.view.read (Elt F) f5)) (k0_pay72 (a6.view.read (Elt F) f6)) g16 g18 g19).1, (r32 i (plen i pl) (k0_pay71 (a5.view.read (Elt F) f5)) (k0_pay72 (a6.view.read (Elt F) f6)) g16 g18 g19).2.1, (r32 i (plen i pl) (k0_pay71 (a5.view.read (Elt F) f5)) (k0_pay72 (a6.view.read (Elt F) f6)) g16 g18 g19).2.2.1, (r32 i (plen i pl) (k0_pay71 (a5.view.read (Elt F) f5)) (k0_pay72 (a6.view.read (Elt F) f6)) g16 g18 g19).2.2.2.1, (r32 i (plen i pl) (k0_pay71 (a5.view.read (Elt F) f5)) (k0_pay72 (a6.view.read (Elt F) f6)) g16 g18 g19).2.2.2.2.1, (r32 i (plen i pl) (k0_pay71 (a5.view.read (Elt F) f5)) (k0_pay72 (a6.view.read (Elt F) f6)) g16 g18 g19).2.2.2.2.2.1, (r32 i (plen i pl) (k0_pay71 (a5.view.read (Elt F) f5)) (k0_pay72 (a6.view.read (Elt F) f6)) g16 g18 g19).2.2.2.2.2.2⟩ from rfl]
  dsimp only
  rw [wp_bind]
  iapply (part33_wp c i a5 h5 a6 h6 a8 h8 a10 h10 a11 h11 a12 h12 a13 h13 a14 h14 a15 h15 (k0_pay71 (a5.view.read (Elt F) f5)) (k0_pay72 (a6.view.read (Elt F) f6)) g16 g18 g19 (plen i pl) (chk1 i _ (h _)) _ _ _ _ _ _ _ _)
  isplitl [H16]; · iexact H16
  isplitl [H18]; · iexact H18
  isplitl [H19]; · iexact H19
  iintro H16 H18 H19
  sl_exec
  sl_step
  iexists g16, g17, g18, g19
  isplitl [HT HP HPK HPV H16 H17 H18 H19 Hs16 Hs17 HO H5 H6 H8 H10 H11 H12 H13 H14]
  · isplitl [HT]; · iexact HT
    isplitl [HP]; · iexact HP
    isplitl [HPK]; · iexact HPK
    isplitl [HPV]; · iexact HPV
    isplitl [H16]; · iexact H16
    isplitl [H17]; · iexact H17
    isplitl [H18]; · iexact H18
    isplitl [H19]; · iexact H19
    isplitl [Hs16]; · iexact Hs16
    isplitl [Hs17]; · iexact Hs17
    isplitl [HO]; · iexact HO
    isplitl [H5]; · iexact H5
    isplitl [H6]; · iexact H6
    isplitl [H8]; · iexact H8
    isplitl [H10]; · iexact H10
    isplitl [H11]; · iexact H11
    isplitl [H12]; · iexact H12
    isplitl [H13]; · iexact H13
    iexact H14
  isplitl [H15]
  · iexists _
    isplitl [H15]; · iexact H15
    ipureintro
    exact View.read_writes_full a15.view f15 inb_S1x64x2048_S1x64x2048_0_0_0 _ []
  ipureintro
  exact ⟨e1, e2⟩

end
end Cert.Kernel.Hand
-- ==== Proof.KN.Run.lean ====
/- The run of the call: the pipeline's data, a grid point's obligation, the launch. -/
module

public import proofs.«01_k».proof.Proof.Gen.Kernel.Launch
public import Idealize.ShloMosaic.Lib.Pipeline.DatRel
public import proofs.«01_k».proof.Proof.KN.Attn

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the proof: the buffers and semaphores, the pipeline's records and the counters of the body's own transfers. -/
local notation "𝕄" => MT nD τ sig Unit (Elt F) ℕ (Pipeline.UD sig nD τ) ℕ

variable (m : (ℓ : Loc nD τ sig) → Buf (Elt F) ℓ) (ρ : Dev nD → PrngReg)

/-- What a buffer holds at the start. -/
abbrev V (c : Dev nD) (b : Ref sig .tc) : Buf (Elt F) ((c : Thread nD τ).loc b) := m ((c : Thread nD τ).loc b)

/-- The prefetched tables at the start. -/
abbrev adm : (pcfg0 (F := F)).Adm := ⟨fun k => V m 0 (pre0.ref k), trivial⟩

/-- The table words are pages and the lengths fit. -/
def InRange : Prop := (∀ c : Dev nD, ∀ x, 0 ≤ (V m c main_arg1 x : BitVec 32).toInt ∧ (V m c main_arg1 x : BitVec 32).toInt ≤ 12288)
  ∧ ∀ c : Dev nD, ∀ x, 0 ≤ (V m c main_arg0 x : BitVec 32).toInt ∧ (V m c main_arg0 x : BitVec 32).toInt < 720

abbrev ms0 (t : Fin grid0.N) := spec0_0.stage ((cfg0 (adm m)).slots t 0)
theorem hs0 (t : Fin grid0.N) : (ms0 m t).IsWhole := hstage0_0 (((cfg0 (adm m)).slots t 0).cast nbuf0_0)
abbrev ms1 (t : Fin grid0.N) := spec0_1.stage ((cfg0 (adm m)).slots t 1)
theorem hs1 (t : Fin grid0.N) : (ms1 m t).IsWhole := hstage0_1 (((cfg0 (adm m)).slots t 1).cast nbuf0_1)
abbrev ms2 (t : Fin grid0.N) := spec0_2.stage ((cfg0 (adm m)).slots t 2)
theorem hs2 (t : Fin grid0.N) : (ms2 m t).IsWhole := hstage0_2 (((cfg0 (adm m)).slots t 2).cast nbuf0_2)
abbrev ms3 (t : Fin grid0.N) := spec0_3.stage ((cfg0 (adm m)).slots t 3)
theorem hs3 (t : Fin grid0.N) : (ms3 m t).IsWhole := hstage0_3 (((cfg0 (adm m)).slots t 3).cast nbuf0_3)
abbrev ms4 (t : Fin grid0.N) := spec0_4.stage ((cfg0 (adm m)).slots t 4)
theorem hs4 (t : Fin grid0.N) : (ms4 m t).IsWhole := hstage0_4 (((cfg0 (adm m)).slots t 4).cast nbuf0_4)
abbrev ms5 (t : Fin grid0.N) := spec0_5.stage ((cfg0 (adm m)).slots t 5)
theorem hs5 (t : Fin grid0.N) : (ms5 m t).IsWhole := hstage0_5 (((cfg0 (adm m)).slots t 5).cast nbuf0_5)
abbrev ms6 (t : Fin grid0.N) := spec0_6.stage ((cfg0 (adm m)).slots t 6)
theorem hs6 (t : Fin grid0.N) : (ms6 m t).IsWhole := hstage0_6 (((cfg0 (adm m)).slots t 6).cast nbuf0_6)
abbrev ms7 (t : Fin grid0.N) := spec0_7.stage ((cfg0 (adm m)).slots t 7)
theorem hs7 (t : Fin grid0.N) : (ms7 m t).IsWhole := hstage0_7 (((cfg0 (adm m)).slots t 7).cast nbuf0_7)
abbrev ms8 (t : Fin grid0.N) := spec0_8.stage ((cfg0 (adm m)).slots t 8)
theorem hs8 (t : Fin grid0.N) : (ms8 m t).IsWhole := hstage0_8 (((cfg0 (adm m)).slots t 8).cast nbuf0_8)

/-- The block a window holds at a grid point. -/
def blkAt (c : Dev nD) (w : Fin 9) (t : Fin grid0.N) : (spec0 w).block.Idx → Elt F (spec0 w).elt :=
  Pipeline.heldIn (c := c) (cfg0 (adm m)) (fun w => V m c (Pipeline.arrRef spec0 w)) w t.val t.isLt

/-- The scratch arrays hold the sequence of grid point `t`. -/
def FilledAt (c : Dev nD) (t : Fin grid0.N) (g16 : cc0_scratch0.ty.Contents (Elt F)) (g18 : cc0_scratch2.ty.Contents (Elt F)) (g19 : cc0_scratch3.ty.Contents (Elt F)) : Prop :=
  Filled (V m c main_arg0) (V m c main_arg1) (V m c main_arg4) (V m c main_arg6) (grid0.coords t 0).val (blkAt m c 2 t) (blkAt m c 3 t) (blkAt m c 4 t) (blkAt m c 5 t) (blkAt m c 6 t) (blkAt m c 7 t) g16 g18 g19

/-- What the result's block holds after a grid point. -/
def OutAt (hr : InRange m) (c : Dev nD) (t : Fin grid0.N) (X : Vec F S1x64x2048 .bf16) : Prop :=
  ∃ g16 g18 g19, FilledAt m c t g16 g18 g19
    ∧ X = k0_pay1 (attOut (grid0.coords t) (plen (grid0.coords t) (V m c main_arg1)) (chk1 _ _ (hr.1 c _)) (k0_pay71 (blkAt m c 0 t)) (k0_pay72 (blkAt m c 1 t)) g16 g18 g19)

/-- The invariant between grid points: the scratch arrays hold the sequence of the last point. -/
def PhiAt (c : Dev nD) (n : ℕ) : sProp 𝕄 :=
  iprop(∃ (f16 : cc0_scratch0.ty.Contents (Elt F)) (f17 : cc0_scratch1.ty.Contents (Elt F)) (f18 : cc0_scratch2.ty.Contents (Elt F)) (f19 : cc0_scratch3.ty.Contents (Elt F)),
    ((Memref.whole main_arg0).view.loc (c : Thread nD τ) ↦{fullShare.right} V m c main_arg0) ∗ ((Memref.whole main_arg1).view.loc (c : Thread nD τ) ↦{fullShare.right} V m c main_arg1)
      ∗ (∃ q, (Memref.whole main_arg4).view.loc (c : Thread nD τ) ↦{q} V m c main_arg4) ∗ (∃ q, (Memref.whole main_arg6).view.loc (c : Thread nD τ) ↦{q} V m c main_arg6)
      ∗ ((Memref.whole cc0_scratch0).view.loc (c : Thread nD τ) ↦{fullShare} f16) ∗ ((Memref.whole cc0_scratch1).view.loc (c : Thread nD τ) ↦{fullShare} f17) ∗ ((Memref.whole cc0_scratch2).view.loc (c : Thread nD τ) ↦{fullShare} f18) ∗ ((Memref.whole cc0_scratch3).view.loc (c : Thread nD τ) ↦{fullShare} f19)
      ∗ semVal ((c : Thread nD τ), SemLoc.dma 16) 0 ∗ semVal ((c : Thread nD τ), SemLoc.dma 17) 0
      ∗ ⌜∀ u : Fin grid0.N, u.val + 1 = n → FilledAt m c u f16 f18 f19⌝)

/-- The proof data of the pipeline. -/
def dats (c : Dev nD) : Pipeline.Dat τ (Elt F) Unit ℕ (Pipeline.UD sig nD τ) ℕ (cfg0 (adm m)) c where
  A w := V m c (Pipeline.arrRef spec0 w)
  after w t := blkAt m c w t
  Φ t := PhiAt m c t.val
  q _ := fullShare
  owed _ := 0

/-- The result's window, the only one that the body writes. -/
def fgt (w : Fin 9) : Bool := match w with | ⟨8, _⟩ => true | _ => false

/-- What the body leaves in the result's window. -/
def Rl (hr : InRange m) (c : Dev nD) : (w : Fin 9) → Fin grid0.N → ((spec0 w).block.Idx → Elt F (spec0 w).elt) → Prop
  | ⟨8, _⟩, t, X => OutAt m hr c t X
  | _, _, _ => True

theorem before_eq (c : Dev nD) (w : Fin 9) (hw : (spec0 w).isOut = false) (t : Fin grid0.N) (d) : (dats m c).before w t d = blkAt m c w t :=
  Pipeline.Dat.before_eq_heldIn (dats m c) w hw (fun _ => rfl) (fun _ _ => rfl) (fun _ => rfl) t d

theorem same_seq' : ∀ t : Fin grid0.N, (h : 0 < t.val) → ¬ k0_cond1 (grid0.coords t) = 1#1 → grid0.coords t 0 = grid0.coords ⟨t.val - 1, lt_of_le_of_lt (Nat.sub_le _ _) t.isLt⟩ 0 := by
  decide +kernel
theorem same_seq (n : ℕ) (h : n + 1 < grid0.N) (hc : ¬ k0_cond1 (grid0.coords ⟨n + 1, h⟩) = 1#1) : grid0.coords ⟨n + 1, h⟩ 0 = grid0.coords ⟨n, Nat.lt_of_succ_lt h⟩ 0 :=
  same_seq' ⟨n + 1, h⟩ (Nat.succ_pos n) hc
theorem first_cond' : ∀ t : Fin grid0.N, t.val = 0 → k0_cond1 (grid0.coords t) = 1#1 := by
  decide +kernel
theorem first_cond (h : 0 < grid0.N) : k0_cond1 (grid0.coords ⟨0, h⟩) = 1#1 := first_cond' ⟨0, h⟩ rfl

/-- The windows of a sequence move at most with the sequence. -/
theorem reads_seq : ∀ w : Fin 9, (w = 2 ∨ w = 3 ∨ w = 4 ∨ w = 5 ∨ w = 6 ∨ w = 7) → (spec0 w).isOut = false ∧ ∀ a, (spec0 w).reads a = true → a = 0 := by
  decide

theorem blk_same (c : Dev nD) (w : Fin 9) (hw : w = 2 ∨ w = 3 ∨ w = 4 ∨ w = 5 ∨ w = 6 ∨ w = 7) (n : ℕ) (h : n + 1 < grid0.N) (e : grid0.coords ⟨n + 1, h⟩ 0 = grid0.coords ⟨n, Nat.lt_of_succ_lt h⟩ 0) :
    blkAt m c w ⟨n + 1, h⟩ = blkAt m c w ⟨n, Nat.lt_of_succ_lt h⟩ := by
  refine Pipeline.heldIn_of_not_fetch (c := c) (cfg := cfg0 (adm m)) _ w n h ?_
  rw [Bool.eq_false_iff]
  intro hf
  rcases (Pipeline.Window.fetch_in ((cfg0 (adm m)).win w) (reads_seq w hw).1 ⟨n + 1, h⟩).mp hf with h0 | ⟨_, hn⟩
  · exact absurd h0 (Nat.succ_ne_zero n)
  · refine hn (hreads0 (adm m).1 w _ _ fun a ha => ?_)
    obtain rfl := (reads_seq w hw).2 a ha
    exact e

/-- Within a sequence the scratch arrays stay good. -/
theorem filled_step (c : Dev nD) (t : Fin grid0.N) (hc : ¬ k0_cond1 (grid0.coords t) = 1#1) (f16 f18 f19)
    (hk : ∀ u : Fin grid0.N, u.val + 1 = t.val → FilledAt m c u f16 f18 f19) : FilledAt m c t f16 f18 f19 := by
  obtain ⟨n, hn⟩ := t
  cases n with
  | zero => exact absurd (first_cond hn) hc
  | succ n =>
    have e := same_seq n hn hc
    have := hk ⟨n, Nat.lt_of_succ_lt hn⟩ rfl
    unfold FilledAt at this ⊢
    rw [blk_same m c 2 (by decide) n hn e, blk_same m c 3 (by decide) n hn e, blk_same m c 4 (by decide) n hn e, blk_same m c 5 (by decide) n hn e, blk_same m c 6 (by decide) n hn e, blk_same m c 7 (by decide) n hn e, e]
    exact this

/-- The body at a grid point. -/
abbrev bodyAt (t : Fin grid0.N) : Prog (TpuEff nD τ sig (Elt F) Λ₀ .tc) PUnit :=
  cc0_attend (F := F) (grid0.coords t) (Memref.whole main_arg0) (Memref.isWhole_whole _) (Memref.whole main_arg1) (Memref.isWhole_whole _) (ms0 m t) (hs0 m t) (ms1 m t) (hs1 m t) (Memref.whole main_arg4) (Memref.isWhole_whole _) (ms2 m t) (hs2 m t) (Memref.whole main_arg6) (Memref.isWhole_whole _) (ms3 m t) (hs3 m t) (ms4 m t) (hs4 m t) (ms5 m t) (hs5 m t) (ms6 m t) (hs6 m t) (ms7 m t) (hs7 m t) (ms8 m t) (hs8 m t) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

/-- What a grid point is given. -/
def bodyPre (hr : InRange m) (c : Dev nD) (t : Fin grid0.N) : sProp 𝕄 :=
  iprop((dats m c).Φ t.castSucc ∗ (dats m c).owesAt () t.castSucc
    ∗ (∃ d, owns (c : Thread nD τ) (ms0 m t) fullShare ((dats m c).before 0 t d))
    ∗ (∃ d, owns (c : Thread nD τ) (ms1 m t) fullShare ((dats m c).before 1 t d))
    ∗ (∃ d, owns (c : Thread nD τ) (ms2 m t) fullShare ((dats m c).before 2 t d))
    ∗ (∃ d, owns (c : Thread nD τ) (ms3 m t) fullShare ((dats m c).before 3 t d))
    ∗ (∃ d, owns (c : Thread nD τ) (ms4 m t) fullShare ((dats m c).before 4 t d))
    ∗ (∃ d, owns (c : Thread nD τ) (ms5 m t) fullShare ((dats m c).before 5 t d))
    ∗ (∃ d, owns (c : Thread nD τ) (ms6 m t) fullShare ((dats m c).before 6 t d))
    ∗ (∃ d, owns (c : Thread nD τ) (ms7 m t) fullShare ((dats m c).before 7 t d))
    ∗ (∃ Y, ⌜((dats m c).toRRel fgt (Rl m hr c)).Finds 8 t Y⌝ ∗ owns (c : Thread nD τ) (ms8 m t) fullShare Y))
/-- What a grid point leaves. -/
def bodyPost (hr : InRange m) (c : Dev nD) (t : Fin grid0.N) : sProp 𝕄 :=
  iprop((dats m c).Φ t.succ ∗ (dats m c).owesAt () t.succ
    ∗ owns (c : Thread nD τ) (ms0 m t) fullShare (blkAt m c 0 t)
    ∗ owns (c : Thread nD τ) (ms1 m t) fullShare (blkAt m c 1 t)
    ∗ owns (c : Thread nD τ) (ms2 m t) fullShare (blkAt m c 2 t)
    ∗ owns (c : Thread nD τ) (ms3 m t) fullShare (blkAt m c 3 t)
    ∗ owns (c : Thread nD τ) (ms4 m t) fullShare (blkAt m c 4 t)
    ∗ owns (c : Thread nD τ) (ms5 m t) fullShare (blkAt m c 5 t)
    ∗ owns (c : Thread nD τ) (ms6 m t) fullShare (blkAt m c 6 t)
    ∗ owns (c : Thread nD τ) (ms7 m t) fullShare (blkAt m c 7 t)
    ∗ (∃ X, ⌜OutAt m hr c t X⌝ ∗ owns (c : Thread nD τ) (ms8 m t) fullShare X))

set_option maxHeartbeats 4000000 in
/-- A grid point's obligation. -/
theorem sound_body (hr : InRange m) (c : Dev nD) (t : Fin grid0.N) :
    bodyPre m hr c t ⊢ wp frame (wpE (defs₀ (F := F)) Variants.none (c : Thread nD τ) none) Set.univ (bodyAt m t) (fun _ => bodyPost m hr c t) := by
  unfold bodyPre bodyPost bodyAt
  rw [show (dats m c).Φ t.castSucc = PhiAt m c t.val from rfl, show (dats m c).Φ t.succ = PhiAt m c (t.val + 1) from rfl]
  unfold Pipeline.Dat.owesAt Pipeline.owesWithin
  rw [show (dats m c).owed t.castSucc = 0 from rfl, show (dats m c).owed t.succ = 0 from rfl]
  simp only [before_eq m c 0 rfl, before_eq m c 1 rfl, before_eq m c 2 rfl, before_eq m c 3 rfl, before_eq m c 4 rfl, before_eq m c 5 rfl, before_eq m c 6 rfl, before_eq m c 7 rfl]
  unfold PhiAt owns
  iintro ⟨⟨%f16, %f17, %f18, %f19, HT, HP, HPK, HPV, H16, H17, H18, H19, Hs16, Hs17, %hk⟩, ⟨%W0, -, HW⟩, ⟨%d0, %f5, %e5, H5⟩, ⟨%d1, %f6, %e6, H6⟩, ⟨%d2, %f8, %e8, H8⟩, ⟨%d3, %f10, %e10, H10⟩, ⟨%d4, %f11, %e11, H11⟩, ⟨%d5, %f12, %e12, H12⟩, ⟨%d6, %f13, %e13, H13⟩, ⟨%d7, %f14, %e14, H14⟩, ⟨%Y, -, %f15, -, H15⟩⟩
  iapply (wp_wand_r _ _ _)
  isplitl [HT HP HPK HPV H16 H17 H18 H19 Hs16 Hs17 HW H5 H6 H8 H10 H11 H12 H13 H14 H15]
  · iapply (attend c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (V m c main_arg0) (V m c main_arg1) (V m c main_arg4) (V m c main_arg6) f5 f6 f8 f10 f11 f12 f13 f14 (hr.1 c) (hr.2 c) f15 f16 f17 f18 f19)
    isplitr [H15]
    · unfold held
      isplitl [HT]; · iexact HT
      isplitl [HP]; · iexact HP
      isplitl [HPK]; · iexact HPK
      isplitl [HPV]; · iexact HPV
      isplitl [H16]; · iexact H16
      isplitl [H17]; · iexact H17
      isplitl [H18]; · iexact H18
      isplitl [H19]; · iexact H19
      isplitl [Hs16]; · iexact Hs16
      isplitl [Hs17]; · iexact Hs17
      isplitl [HW]; · iexists _; iexact HW
      isplitl [H5]; · iexact H5
      isplitl [H6]; · iexact H6
      isplitl [H8]; · iexact H8
      isplitl [H10]; · iexact H10
      isplitl [H11]; · iexact H11
      isplitl [H12]; · iexact H12
      isplitl [H13]; · iexact H13
      iexact H14
    iexact H15
  unfold held
  iintro %_ ⟨%g16, %g17, %g18, %g19, ⟨HT, HP, HPK, HPV, H16, H17, H18, H19, Hs16, Hs17, ⟨%W1, HW⟩, H5, H6, H8, H10, H11, H12, H13, H14⟩, ⟨%g15, H15, %e15⟩, %e⟩
  replace e5 := e5.trans (before_eq m c 0 rfl t d0)
  replace e6 := e6.trans (before_eq m c 1 rfl t d1)
  replace e8 := e8.trans (before_eq m c 2 rfl t d2)
  replace e10 := e10.trans (before_eq m c 3 rfl t d3)
  replace e11 := e11.trans (before_eq m c 4 rfl t d4)
  replace e12 := e12.trans (before_eq m c 5 rfl t d5)
  replace e13 := e13.trans (before_eq m c 6 rfl t d6)
  replace e14 := e14.trans (before_eq m c 7 rfl t d7)
  have hF : FilledAt m c t g16 g18 g19 := by
    by_cases hc : k0_cond1 (grid0.coords t) = 1#1
    · have := e.1 hc
      rw [e8, e10, e11, e12, e13, e14] at this
      exact this
    · obtain ⟨rfl, rfl, rfl⟩ := e.2 hc
      exact filled_step m c t hc _ _ _ hk
  isplitl [HT HP HPK HPV H16 H17 H18 H19 Hs16 Hs17]
  · iexists g16, g17, g18, g19
    isplitl [HT]; · iexact HT
    isplitl [HP]; · iexact HP
    isplitl [HPK]; · iexact HPK
    isplitl [HPV]; · iexact HPV
    isplitl [H16]; · iexact H16
    isplitl [H17]; · iexact H17
    isplitl [H18]; · iexact H18
    isplitl [H19]; · iexact H19
    isplitl [Hs16]; · iexact Hs16
    isplitl [Hs17]; · iexact Hs17
    ipureintro
    intro u hu
    obtain rfl : u = t := Fin.ext (Nat.succ.inj hu)
    exact hF
  isplitl [HW]
  · iexists W1; isplitr; · ipureintro; exact fun _ _ => Or.inl trivial
    iexact HW
  isplitl [H5]
  · iexists f5; isplitr; · ipureintro; exact e5
    iexact H5
  isplitl [H6]
  · iexists f6; isplitr; · ipureintro; exact e6
    iexact H6
  isplitl [H8]
  · iexists f8; isplitr; · ipureintro; exact e8
    iexact H8
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  isplitl [H14]
  · iexists f14; isplitr; · ipureintro; exact e14
    iexact H14
  iexists _
  isplitr
  swap
  · iexists g15; isplitr; swap; · iexact H15
    ipureintro; rfl
  ipureintro
  refine ⟨g16, g18, g19, hF, ?_⟩
  rw [e15, e5, e6]

theorem defs₀_row (t : Fin grid0.N) :
    defs₀ (F := F) .tc (cfg0 (adm m)).body ((cfg0 (adm m)).bodyArgs t ((cfg0 (adm m)).slots t)) = bodyAt m t := by
  unfold defs₀; rw [Defs.onTc_tc]

theorem body_obligation (hr : InRange m) (c : Dev nD) : ((dats m c).toRRel fgt (Rl m hr c)).BodyObligation (defs₀ (F := F)) Variants.none () Set.univ :=
  Pipeline.BodyObligationRel.toRRel (dats m c) fun t => by
    rw [bigSep_W0, bigSep_W0, defs₀_row]
    exact triple_restated (sound_body m hr c t) rfl .rfl fun _ => .rfl

/-- The cells of the body's transfers. -/
def osem0 : Fin 2 → SemLoc sig := ![SemLoc.dma 16, SemLoc.dma 17]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0) := by
  rw [Pipeline.ownSems0_eq_of_list c osem0 [0, 1] (by decide) (by decide)]; rfl

theorem prefHeld0_eq (c : Dev nD) :
    (Pipeline.prefHeld pre0 c (fun _ => fullShare.right) (adm m).1 : sProp 𝕄)
      = iprop(((c : Thread nD τ).loc main_arg0 ↦{fullShare.right} V m 0 main_arg0) ∗ ((c : Thread nD τ).loc main_arg1 ↦{fullShare.right} V m 0 main_arg1)) := by
  unfold Pipeline.prefHeld
  rw [BI.bigSep_eq_bigSepL_of_eq [(0 : Fin 2), 1] (by decide) (by decide)]; rfl

/-- The relational data of every core. -/
abbrev rdat (hr : InRange m) (c : Dev nD) : Pipeline.RDat τ (Elt F) Unit ℕ (Pipeline.UD sig nD τ) ℕ (cfg0 (adm m)) c := (dats m c).toRRel fgt (Rl m hr c)

theorem dev0 (c : Dev nD) : c = 0 := Subsingleton.elim _ _

open Idealize.ShloMosaic.Pipeline Idealize.ShloMosaic.Rounds in
/-- Every run of the program terminates with the arrays as the data say, the tables and pools unchanged, and every counter at zero. -/
theorem run_main (hr : InRange m) : θ_run defs (onTc (τ := τ) (main (F := F))) ⟨m, fun _ => 0, ρ⟩
    (fun r => (∀ c : Dev nD, (∀ w, (rdat m hr c).ArrAt w grid0.N (r.2.mem ((spec0 w).arr.view.loc (c : Thread nD τ))))
      ∧ (∀ k, r.2.mem ((c : Thread nD τ).loc (pre0.ref k)) = (adm m).1 k)
      ∧ r.2.mem ((c : Thread nD τ).loc main_arg4) = V m c main_arg4 ∧ r.2.mem ((c : Thread nD τ).loc main_arg6) = V m c main_arg6)
      ∧ r.2.sem = fun _ => 0) :=
  RDat.θ_run_region_pf_quiescent pcfgs (fun _ => adm m) (fun _ c => rdat m hr c) () (cellOf_inj _) (0 : Fin 1) (launch0 (F := F)).win.to₀ ownSemFacts0 (launch0 (F := F)).pre
    embL defs₀ Variants.none m ρ main
    (fun c => body_obligation m hr c) (launch0 (F := F)).block_pos (launch0 (F := F)).arr_whole (launch0 (F := F)).stage_whole
    (fun c t => rfl)
    (G := fun _ => iprop(emp)) (u₀ := (initOf (cells (pin pcfgs fun _ => adm m) (cellOf_inj _)) (launchToks (pin pcfgs fun _ => adm m) (cellOf_inj _)), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainP_region pcfgs 0 defs₀ Variants.none m main fun c => rfl)
    (hsplit := fun c => RDat.arrays_split₁ pcfgs (fun _ => adm m) 0 (fun c => rdat m hr c) (launch0 (F := F)).win.arr_inj c (launch0 (F := F)).arr_whole (fun w => (dats m c).share_full (fun _ => rfl) w) (V m c) _ fun w => rfl)
    (hpf := fun c k => by obtain rfl := dev0 c; rfl)
    (X := fun c => iprop((((c : Thread nD τ).loc main_arg4) ↦{fullShare} V m c main_arg4) ∗ (((c : Thread nD τ).loc main_arg6) ↦{fullShare} V m c main_arg6)
      ∗ semVal ((c : Thread nD τ), SemLoc.dma 16) 0 ∗ semVal ((c : Thread nD τ), SemLoc.dma 17) 0))
    (Y := fun c => iprop((∃ q, ((c : Thread nD τ).loc main_arg4) ↦{q} V m c main_arg4) ∗ (∃ q, ((c : Thread nD τ).loc main_arg6) ↦{q} V m c main_arg6)))
    (Z := fun _ => iprop(emp))
    (hX := fun c => by
      show iprop(unscopedRestP pre0 spec0 c (V m c) ∗ _) ⊢ _
      rw [unscopedRestP0_eq, ownSems00_eq]
      iintro ⟨⟨H4, H6⟩, ⟨Hs, Hs'⟩, -⟩
      imodintro
      isplitl [H4 H6 Hs Hs']
      · isplitl [H4]; · iexact H4
        isplitl [H6]; · iexact H6
        isplitl [Hs]; · iexact Hs
        iexact Hs'
      iempintro)
    (hin := fun c => by
      show iprop(_ ∗ prefHeld pre0 c (fun _ => fullShare.right) (adm m).1 ∗ scopedRest spec0 c) ⊢ PhiAt m c 0
      rw [scopedRest0_eq, prefHeld0_eq]
      obtain rfl := dev0 c
      unfold PhiAt
      iintro ⟨⟨H4, H6, Hs, Hs'⟩, ⟨HT, HP⟩, ⟨%f16, H16⟩, ⟨%f17, H17⟩, ⟨%f18, H18⟩, ⟨%f19, H19⟩⟩
      iexists f16, f17, f18, f19
      isplitl [HT]; · iexact HT
      isplitl [HP]; · iexact HP
      isplitl [H4]; · iexists _; iexact H4
      isplitl [H6]; · iexists _; iexact H6
      isplitl [H16]; · iexact H16
      isplitl [H17]; · iexact H17
      isplitl [H18]; · iexact H18
      isplitl [H19]; · iexact H19
      isplitl [Hs]; · iexact Hs
      isplitl [Hs']; · iexact Hs'
      ipureintro
      intro u hu
      exact absurd hu (Nat.succ_ne_zero _))
    (hout := fun c => by
      show PhiAt m c grid0.N ⊢ iprop(_ ∗ ownSems0 osem0 c ∗ scopedRest spec0 c)
      rw [scopedRest0_eq, ownSems00_eq]
      unfold PhiAt
      iintro ⟨%f16, %f17, %f18, %f19, HT, HP, H4, H6, H16, H17, H18, H19, Hs, Hs', -⟩
      isplitl [H4 H6]
      · isplitl [H4]; · iexact H4
        iexact H6
      isplitl [Hs Hs']
      · isplitl [Hs]; · iexact Hs
        iexact Hs'
      isplitl [H16]; · iexists f16; iexact H16
      isplitl [H17]; · iexists f17; iexact H17
      isplitl [H18]; · iexists f18; iexact H18
      iexists f19; iexact H19)
    (QY := fun c s => s.mem ((c : Thread nD τ).loc main_arg4) = V m c main_arg4 ∧ s.mem ((c : Thread nD τ).loc main_arg6) = V m c main_arg6)
    (hY := fun c s' => by
      iintro ⟨⟨⟨%q, H3⟩, ⟨%q', H6⟩⟩, -, HSI⟩
      icombine HSI H3 gives %h3
      icombine HSI H6 gives %h6
      imodintro
      isplitr; · ipureintro; exact ⟨Buf.eq_of_forall_mem_univ h3, Buf.eq_of_forall_mem_univ h6⟩
      iexact HSI)
    (hQ := fun _ h hz => ⟨h, hz⟩)

theorem in_same (hr : InRange m) (c : Dev nD) (w : Fin 9) (hw : (spec0 w).isOut = false) (X) (h : (rdat m hr c).ArrAt w grid0.N X) : X = V m c (Pipeline.arrRef spec0 w) := by
  exact Eq.mp (congrFun (Pipeline.RDat.ArrAt_in (rdat m hr c) w hw grid0.N) X) h

/-- The frame: the arguments are unchanged and every counter is at zero. -/
theorem frame (hr : InRange m) : θ_run defs (onTc (τ := τ) (main (F := F))) ⟨m, fun _ => 0, ρ⟩ (fun r => (∀ c : Dev nD,
r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0) :=
  (θ_run defs _ _).mono (fun r h => ⟨fun c => by
    obtain ⟨hw, hp, h4, h6⟩ := h.1 c
    have hi := fun w hw' => in_same m hr c w hw' _ (hw w)
    refine ⟨?_, ?_, hi 0 rfl, hi 1 rfl, h4, hi 2 rfl, h6, hi 3 rfl, hi 4 rfl, hi 5 rfl, hi 6 rfl, hi 7 rfl⟩
    · have := hp 0; obtain rfl := dev0 c; exact this
    · have := hp 1; obtain rfl := dev0 c; exact this, h.2⟩) (run_main m ρ hr)

end Cert.Kernel.Hand
-- ==== Proof.Soft.lean ====
/- Softmax in the extended reals: one pass over blocks of keys against the two-pass form. -/
module

public import Idealize.ShloMosaic.PureOps.Ideal
public import Idealize.ShloMosaic.PureOps.Ideal.Laws

@[expose] public section

noncomputable section

namespace Cert.Soft

open Idealize.ShloMosaic

theorem exp2_mul {s m m' : EReal} (c0 : ℝ) (h0 : (c0 : EReal) ≤ m) (h1 : m ≤ m') (h2 : s ≤ m) :
    Ideal.exp2 (s - m) * Ideal.exp2 (m - m') = Ideal.exp2 (s - m') := by
  induction m with
  | bot => exact absurd h0 (by simp)
  | top =>
    obtain rfl : m' = ⊤ := top_le_iff.mp h1
    simp
  | coe m =>
    induction m' with
    | bot => simp at h1
    | top => simp
    | coe m' =>
      induction s with
      | bot => simp
      | top => simp at h2
      | coe s =>
        rw [← EReal.coe_sub, ← EReal.coe_sub, ← EReal.coe_sub, Ideal.exp2_coe, Ideal.exp2_coe, Ideal.exp2_coe, ← EReal.coe_mul]
        congr 1
        show (2 : ℝ) ^ (s - m) * (2 : ℝ) ^ (m - m') = (2 : ℝ) ^ (s - m')
        rw [← Real.rpow_add (by norm_num)]
        congr 1; ring

theorem exp2_nonneg (x : EReal) : 0 ≤ Ideal.exp2 x := by
  induction x with
  | bot => simp
  | top => simp
  | coe x => rw [Ideal.exp2_coe]; exact EReal.coe_nonneg.mpr (Real.rpow_nonneg (by norm_num) _)

theorem exp2_ne_top {x : EReal} (h : x ≠ ⊤) : Ideal.exp2 x ≠ ⊤ := by
  induction x with
  | bot => simp
  | top => exact absurd rfl h
  | coe x => rw [Ideal.exp2_coe]; exact EReal.coe_ne_top _

theorem sub_ne_top {m m' : EReal} (c0 : ℝ) (h0 : (c0 : EReal) ≤ m) (h1 : m ≤ m') : m - m' ≠ ⊤ := by
  induction m with
  | bot => exact absurd h0 (by simp)
  | top =>
    obtain rfl : m' = ⊤ := top_le_iff.mp h1
    simp
  | coe m =>
    induction m' with
    | bot => simp at h1
    | top => simp
    | coe m' => rw [← EReal.coe_sub]; exact EReal.coe_ne_top _

theorem sum_mul_right {ι : Type} (T : Finset ι) (f : ι → EReal) {x : EReal} (h0 : 0 ≤ x) (h1 : x ≠ ⊤) :
    (∑ k ∈ T, f k) * x = ∑ k ∈ T, f k * x := by
  classical
  induction T using Finset.induction_on with
  | empty => simp
  | insert a T ha ih =>
    rw [Finset.sum_insert ha, Finset.sum_insert ha, EReal.right_distrib_of_nonneg_of_ne_top h0 h1, ih]

/-- What is carried of a row: the largest score so far, the sum of the weights and the weighted values. -/
structure Inv (c0 : ℝ) {D : Type} (s : ℕ → EReal) (v : D → ℕ → EReal) (T : Finset ℕ) (m l : EReal) (a : D → EReal) : Prop where
  top : m = max (c0 : EReal) (T.sup s)
  sum : l = ∑ k ∈ T, Ideal.exp2 (s k - m)
  acc : ∀ d, a d = ∑ k ∈ T, v d k * Ideal.exp2 (s k - m)

theorem Inv.start (c0 : ℝ) {D : Type} (s : ℕ → EReal) (v : D → ℕ → EReal) : Inv c0 s v ∅ (c0 : EReal) 0 (fun _ => 0) :=
  ⟨by simp, by simp, by simp⟩

theorem Inv.step {c0 : ℝ} {D : Type} {s : ℕ → EReal} {v : D → ℕ → EReal} {T B : Finset ℕ} {m l : EReal} {a : D → EReal}
    (h : Inv c0 s v T m l a) (hd : Disjoint T B) {m' l' : EReal} {a' : D → EReal}
    (hm : m' = max m (B.sup s)) (hl : l' = l * Ideal.exp2 (m - m') + ∑ k ∈ B, Ideal.exp2 (s k - m'))
    (ha : ∀ d, a' d = a d * Ideal.exp2 (m - m') + ∑ k ∈ B, v d k * Ideal.exp2 (s k - m')) : Inv c0 s v (T ∪ B) m' l' a' := by
  have h0 : (c0 : EReal) ≤ m := by rw [h.top]; exact le_max_left _ _
  have h1 : m ≤ m' := by rw [hm]; exact le_max_left _ _
  have h2 : ∀ k ∈ T, s k ≤ m := fun k hk => by rw [h.top]; exact le_max_of_le_right (Finset.le_sup hk)
  have n0 := exp2_nonneg (m - m')
  have n1 := exp2_ne_top (sub_ne_top c0 h0 h1)
  refine ⟨?_, ?_, fun d => ?_⟩
  · rw [hm, h.top, Finset.sup_union, max_assoc]
  · rw [hl, h.sum, sum_mul_right _ _ n0 n1, Finset.sum_union hd]
    congr 1
    exact Finset.sum_congr rfl fun k hk => exp2_mul c0 h0 h1 (h2 k hk)
  · rw [ha, h.acc, sum_mul_right _ _ n0 n1, Finset.sum_union hd]
    congr 1
    exact Finset.sum_congr rfl fun k hk => by rw [mul_assoc, exp2_mul c0 h0 h1 (h2 k hk)]

/-- A block of rows, those that count and those that are masked. -/
theorem Inv.block {c0 : ℝ} {D : Type} {s : ℕ → EReal} {v : D → ℕ → EReal} {T : Finset ℕ} {m l : EReal} {a : D → EReal}
    (h : Inv c0 s v T m l a) (b : ℕ) (ok : Fin 256 → Prop) (S : Fin 256 → EReal) (V : D → Fin 256 → EReal)
    (hS : ∀ k, ok k → S k = s (b + k.val)) (hN : ∀ k, ¬ ok k → S k = ⊥) (hV : ∀ d k, ok k → V d k = v d (b + k.val))
    (B : Finset ℕ) (hB : ∀ x, x ∈ B ↔ ∃ k : Fin 256, ok k ∧ x = b + k.val) (hd : Disjoint T B)
    {m' l' : EReal} {a' : D → EReal}
    (hm : m' = max m (Finset.univ.sup S)) (hl : l' = l * Ideal.exp2 (m - m') + ∑ k, Ideal.exp2 (S k - m'))
    (ha : ∀ d, a' d = a d * Ideal.exp2 (m - m') + ∑ k, V d k * Ideal.exp2 (S k - m')) : Inv c0 s v (T ∪ B) m' l' a' := by
  classical
  have inj : Function.Injective fun k : Fin 256 => b + k.val := fun x y e => Fin.ext (Nat.add_left_cancel e)
  have eB : B = (Finset.univ.filter ok).image fun k : Fin 256 => b + k.val := by
    ext x; rw [hB]; simp only [Finset.mem_image, Finset.mem_filter, Finset.mem_univ, true_and]
    exact ⟨fun ⟨k, h, e⟩ => ⟨k, h, e.symm⟩, fun ⟨k, h, e⟩ => ⟨k, h, e.symm⟩⟩
  have sumB : ∀ f : ℕ → EReal, ∑ x ∈ B, f x = ∑ k : Fin 256, if ok k then f (b + k.val) else 0 := fun f => by
    rw [eB, Finset.sum_image (fun x _ y _ e => inj e), Finset.sum_filter]
  have nb : ∀ x : EReal, Ideal.exp2 ((⊥ : EReal) - x) = 0 := fun x => by rw [EReal.bot_sub]; exact Ideal.exp2_bot
  refine h.step hd (hm.trans (congrArg (max m) ?_)) (hl.trans (congrArg (l * Ideal.exp2 (m - m') + ·) ?_)) (fun d => (ha d).trans (congrArg (a d * Ideal.exp2 (m - m') + ·) ?_))
  · rw [eB, Finset.sup_image]
    refine le_antisymm (Finset.sup_le fun k _ => ?_) (Finset.sup_le fun k hk => ?_)
    · by_cases hk : ok k
      · rw [hS k hk]
        exact Finset.le_sup (f := s ∘ fun k : Fin 256 => b + k.val) (Finset.mem_filter.mpr ⟨Finset.mem_univ _, hk⟩)
      · rw [hN k hk]; exact bot_le
    · show s (b + k.val) ≤ _
      rw [← hS k (Finset.mem_filter.mp hk).2]
      exact Finset.le_sup (Finset.mem_univ k)
  · rw [sumB]
    refine Finset.sum_congr rfl fun k _ => ?_
    by_cases hk : ok k
    · rw [if_pos hk, hS k hk]
    · rw [if_neg hk, hN k hk, nb]
  · rw [sumB]
    refine Finset.sum_congr rfl fun k _ => ?_
    by_cases hk : ok k
    · rw [if_pos hk, hS k hk, hV d k hk]
    · rw [if_neg hk, hN k hk, nb, mul_zero]

theorem mul_coe_pos_mono {c : ℝ} (hc : 0 < c) (x y : EReal) (h : x ≤ y) : x * (c : EReal) ≤ y * (c : EReal) :=
  mul_le_mul_of_nonneg_right h (EReal.coe_nonneg.mpr hc.le)

theorem sup_mul {c : ℝ} (hc : 0 < c) (T : Finset ℕ) (s : ℕ → EReal) : T.sup (fun k => s k * (c : EReal)) = T.sup s * (c : EReal) := by
  classical
  induction T using Finset.induction_on with
  | empty => simp [EReal.bot_mul_coe_of_pos hc]
  | insert a T ha ih =>
    rw [Finset.sup_insert, Finset.sup_insert, ih]
    have : Monotone fun x : EReal => x * (c : EReal) := fun x y h => mul_coe_pos_mono hc x y h
    exact (this.map_max).symm

theorem exp_bot_sub (x : EReal) : Ideal.exp ((⊥ : EReal) - x) = 0 := by rw [EReal.bot_sub]; exact Ideal.exp_bot

/-- The row's quotient is the two-pass one. -/
theorem Inv.quotient {c0 : ℝ} {D : Type} {s : ℕ → EReal} {v : D → ℕ → EReal} {T : Finset ℕ} {m l : EReal} {a : D → EReal}
    (h : Inv c0 (fun k => s k * ((Real.log 2)⁻¹ : ℝ)) v T m l a) (d : D) :
    Ideal.div (a d) l = Ideal.div (∑ k ∈ T, v d k * Ideal.exp (s k - T.sup s)) (∑ k ∈ T, Ideal.exp (s k - T.sup s)) := by
  have hL : 0 < (Real.log 2)⁻¹ := inv_pos.mpr (Real.log_pos (by norm_num))
  have hs : ∀ k ∈ T, s k ≤ T.sup s := fun k hk => Finset.le_sup hk
  have hm := h.top
  rw [sup_mul hL] at hm
  rw [h.acc, h.sum]
  generalize hM : T.sup s = M at *
  induction M with
  | bot =>
    have e : ∀ k ∈ T, s k = ⊥ := fun k hk => le_bot_iff.mp (hs k hk)
    have e1 : ∀ k ∈ T, Ideal.exp2 (s k * ((Real.log 2)⁻¹ : ℝ) - m) = 0 := fun k hk => by
      rw [e k hk, EReal.bot_mul_coe_of_pos hL, EReal.bot_sub]; exact Ideal.exp2_bot
    have e2 : ∀ k ∈ T, Ideal.exp (s k - ⊥) = 0 := fun k hk => by rw [e k hk]; exact exp_bot_sub _
    rw [Finset.sum_congr rfl e1, Finset.sum_congr rfl e2, Finset.sum_congr rfl (fun k hk => congrArg (v d k * ·) (e1 k hk)), Finset.sum_congr rfl (fun k hk => congrArg (v d k * ·) (e2 k hk))]
  | top =>
    rw [EReal.top_mul_coe_of_pos hL, max_eq_right le_top] at hm
    subst hm
    have e1 : ∀ k ∈ T, Ideal.exp2 (s k * ((Real.log 2)⁻¹ : ℝ) - ⊤) = 0 := fun k hk => by
      rw [EReal.sub_top]; exact Ideal.exp2_bot
    have e2 : ∀ k ∈ T, Ideal.exp (s k - ⊤) = 0 := fun k hk => by rw [EReal.sub_top]; exact Ideal.exp_bot
    rw [Finset.sum_congr rfl e1, Finset.sum_congr rfl e2, Finset.sum_congr rfl (fun k hk => congrArg (v d k * ·) (e1 k hk)), Finset.sum_congr rfl (fun k hk => congrArg (v d k * ·) (e2 k hk))]
  | coe M =>
    obtain ⟨m, rfl⟩ : ∃ r : ℝ, m = r := ⟨max c0 (M * (Real.log 2)⁻¹), by rw [hm, ← EReal.coe_mul]; exact (EReal.coe_strictMono.monotone.map_max).symm⟩
    have hc : 0 < Real.exp (M - m * Real.log 2) := Real.exp_pos _
    have l2 : Real.log 2 ≠ 0 := (Real.log_pos (by norm_num)).ne'
    have e1 : ∀ k ∈ T, Ideal.exp2 (s k * ((Real.log 2)⁻¹ : ℝ) - m) = Ideal.exp (s k - M) * (Real.exp (M - m * Real.log 2) : ℝ) := fun k hk => by
      have := hs k hk
      generalize s k = x at *
      induction x with
      | bot => rw [EReal.bot_mul_coe_of_pos hL, EReal.bot_sub, EReal.bot_sub, Ideal.exp2_bot, Ideal.exp_bot, zero_mul]
      | top => simp at this
      | coe x =>
        rw [← EReal.coe_mul, ← EReal.coe_sub, ← EReal.coe_sub, Ideal.exp2_coe, Ideal.exp_coe, ← EReal.coe_mul]
        congr 1
        show (2 : ℝ) ^ (x * (Real.log 2)⁻¹ - m) = _
        rw [Real.rpow_def_of_pos (by norm_num), ← Real.exp_add]
        congr 1; field_simp; ring
    have e3 : ∀ k ∈ T, ∃ r : ℝ, 0 ≤ r ∧ Ideal.exp (s k - M) = r := fun k hk => by
      have := hs k hk
      generalize s k = x at *
      induction x with
      | bot => exact ⟨0, le_refl _, by rw [EReal.bot_sub, Ideal.exp_bot]; rfl⟩
      | top => simp at this
      | coe x => exact ⟨_, (Real.exp_pos (x - M)).le, by rw [← EReal.coe_sub, Ideal.exp_coe]⟩
    have ne : T.Nonempty := by
      rw [Finset.nonempty_iff_ne_empty]; rintro rfl; simp at hM
    obtain ⟨k0, hk0, ek0⟩ := Finset.exists_mem_eq_sup T ne s
    rw [hM] at ek0
    choose! r hr using e3
    have eL : ∑ k ∈ T, Ideal.exp (s k - M) = ((∑ k ∈ T, r k : ℝ) : EReal) := by
      rw [Finset.sum_congr rfl fun k hk => (hr k hk).2]
      classical
      clear * -
      induction T using Finset.induction_on with
      | empty => simp
      | insert a T ha ih => rw [Finset.sum_insert ha, Finset.sum_insert ha, ih, EReal.coe_add]
    have pL : 0 < ∑ k ∈ T, r k := by
      refine Finset.sum_pos' (fun k hk => (hr k hk).1) ⟨k0, hk0, ?_⟩
      have := (hr k0 hk0).2
      rw [← ek0, ← EReal.coe_sub, sub_self, Ideal.exp_coe] at this
      rw [← EReal.coe_injective this]
      exact Real.exp_pos _
    rw [Finset.sum_congr rfl e1, Finset.sum_congr rfl (fun k hk => congrArg (v d k * ·) (e1 k hk))]
    simp only [← mul_assoc]
    rw [← sum_mul_right _ _ (EReal.coe_nonneg.mpr hc.le) (EReal.coe_ne_top _), ← sum_mul_right _ _ (EReal.coe_nonneg.mpr hc.le) (EReal.coe_ne_top _), eL]
    generalize (∑ k ∈ T, v d k * Ideal.exp (s k - M)) = A
    generalize (∑ k ∈ T, r k) = L at *
    generalize Real.exp (M - m * Real.log 2) = c at *
    have n1 : ((L : ℝ) : EReal) * (c : ℝ) ≠ 0 := by rw [← EReal.coe_mul]; exact fun e => (mul_pos pL hc).ne' (EReal.coe_eq_zero.mp e)
    have n2 : ((L : ℝ) : EReal) ≠ 0 := fun e => pL.ne' (EReal.coe_eq_zero.mp e)
    unfold Ideal.div
    rw [if_neg n1, if_neg n2, ← EReal.coe_mul, ← EReal.coe_inv, ← EReal.coe_inv, mul_assoc, ← EReal.coe_mul]
    congr 2
    field_simp

end Cert.Soft
-- ==== Proof.Att.lean ====
/- Attention over the stored and the new keys of a sequence, by query, head and lane. -/
module

public import proofs.«01_k».proof.Proof.Soft
public import Idealize.ShloMosaic.Lib.Pointwise

@[expose] public section

noncomputable section

namespace Cert.Att

open Idealize.ShloMosaic Idealize.ShloMosaic.Tactic

/-- The keys of a row, tail after position 12288: the new ones up to token `t`, the first `n` stored ones. -/
def keys (n t : ℕ) : Finset ℕ := Finset.Icc 12288 (12288 + t) ∪ Finset.Ico 0 n

theorem sum_keys (n t : ℕ) (hn : n ≤ 12288) (ht : t < 640) (H : ℕ → EReal) (F : Fin 12288 → EReal) (G : Fin 640 → EReal)
    (hF : ∀ j, F j = if j.val < n then H j.val else 0) (hG : ∀ j, G j = if j.val ≤ t then H (12288 + j.val) else 0) :
    (∑ j, F j) + (∑ j, G j) = ∑ k ∈ keys n t, H k := by
  have hd : Disjoint (Finset.Icc 12288 (12288 + t)) (Finset.Ico 0 n) := by
    rw [Finset.disjoint_left]; intro y h1 h2; rw [Finset.mem_Icc] at h1; rw [Finset.mem_Ico] at h2; omega
  have e1 : (∑ j, F j) = ∑ k ∈ Finset.Ico 0 n, H k := by
    rw [Finset.sum_congr rfl fun j _ => hF j, Fin.sum_univ_eq_sum_range (fun k => if k < n then H k else 0) 12288, ← Finset.sum_filter]
    refine Finset.sum_congr ?_ fun _ _ => rfl
    ext y; simp only [Finset.mem_filter, Finset.mem_range, Finset.mem_Ico]; omega
  have e2 : (∑ j, G j) = ∑ k ∈ Finset.Icc 12288 (12288 + t), H k := by
    rw [Finset.sum_congr rfl fun j _ => hG j, Fin.sum_univ_eq_sum_range (fun k => if k ≤ t then H (12288 + k) else 0) 640, ← Finset.sum_filter]
    rw [show Finset.Icc 12288 (12288 + t) = Finset.Ico 12288 (12288 + t + 1) by ext y; simp only [Finset.mem_Icc, Finset.mem_Ico]; omega,
      Finset.sum_Ico_eq_sum_range]
    refine Finset.sum_congr ?_ fun _ _ => rfl
    ext y; simp only [Finset.mem_filter, Finset.mem_range]; omega
  unfold keys
  rw [Finset.sum_union hd, e1, e2, add_comm]

theorem sup_keys (n t : ℕ) (hn : n ≤ 12288) (ht : t < 640) (H : ℕ → EReal) (F : Fin 12288 → EReal) (G : Fin 640 → EReal)
    (hF : ∀ j, F j = if j.val < n then H j.val else ⊥) (hG : ∀ j, G j = if j.val ≤ t then H (12288 + j.val) else ⊥) :
    max (Finset.univ.sup F) (Finset.univ.sup G) = (keys n t).sup H := by
  apply le_antisymm
  · refine max_le (Finset.sup_le fun j _ => ?_) (Finset.sup_le fun j _ => ?_)
    · rw [hF j]; split
      · exact Finset.le_sup (f := H) (Finset.mem_union_right _ (Finset.mem_Ico.mpr ⟨Nat.zero_le _, by assumption⟩))
      · exact bot_le
    · rw [hG j]; split
      · exact Finset.le_sup (f := H) (Finset.mem_union_left _ (Finset.mem_Icc.mpr ⟨by omega, by omega⟩))
      · exact bot_le
  · refine Finset.sup_le fun k hk => ?_
    rcases Finset.mem_union.mp hk with h | h
    · rw [Finset.mem_Icc] at h
      refine le_trans ?_ (le_max_right _ _)
      refine le_trans (le_of_eq ?_) (Finset.le_sup (f := G) (Finset.mem_univ ⟨k - 12288, by omega⟩))
      rw [hG, if_pos (show k - 12288 ≤ t by omega)]
      show H k = H (12288 + (k - 12288)); rw [show 12288 + (k - 12288) = k from Nat.add_sub_of_le h.1]
    · rw [Finset.mem_Ico] at h
      refine le_trans ?_ (le_max_left _ _)
      refine le_trans (le_of_eq ?_) (Finset.le_sup (f := F) (Finset.mem_univ ⟨k, by omega⟩))
      rw [hF, if_pos h.2]

section
variable (a0 : (⟨2, ![3, 192]⟩ : Shape).Idx → BitVec 32) (a1 : (⟨1, ![3]⟩ : Shape).Idx → BitVec 32) (a2 : (⟨4, ![3, 2, 10240, 128]⟩ : Shape).Idx → EReal) (a3 : (⟨5, ![3, 2, 10, 1, 1024]⟩ : Shape).Idx → EReal)
  (a4 : (⟨4, ![720, 2, 64, 128]⟩ : Shape).Idx → EReal) (a5 : (⟨3, ![2, 64, 768]⟩ : Shape).Idx → EReal) (a6 : (⟨4, ![720, 2, 64, 128]⟩ : Shape).Idx → EReal) (a7 : (⟨3, ![2, 64, 768]⟩ : Shape).Idx → EReal)
  (a8 : (⟨4, ![3, 2, 640, 128]⟩ : Shape).Idx → EReal) (a9 : (⟨3, ![3, 2, 640]⟩ : Shape).Idx → EReal) (a10 : (⟨4, ![3, 2, 640, 128]⟩ : Shape).Idx → EReal) (a11 : (⟨3, ![3, 2, 640]⟩ : Shape).Idx → EReal)
  (b : Fin 3) (g : Fin 2) (t : Fin 640) (r : Fin 16)

/-- The page of the sequence's key `k`. -/
def pageOf (k : ℕ) : Fin 720 := ⟨(a0 (ix2 b (⟨k / 64 % 192, Nat.mod_lt _ (by decide)⟩ : Fin 192))).toNat % 720, Nat.mod_lt _ (by decide)⟩

/-- A row of codes: of the pool before 12288, of the new tokens from there. -/
def codeOf (x4 : (⟨4, ![720, 2, 64, 128]⟩ : Shape).Idx → EReal) (x8 : (⟨4, ![3, 2, 640, 128]⟩ : Shape).Idx → EReal) (k : ℕ) (l : Fin 128) : EReal :=
  if k < 12288 then x4 (ix4 (pageOf a0 b k) g (⟨k % 64, Nat.mod_lt _ (by decide)⟩ : Fin 64) l) else x8 (ix4 b g (⟨(k - 12288) % 640, Nat.mod_lt _ (by decide)⟩ : Fin 640) l)

/-- Its scale. -/
def scaleOf (x5 : (⟨3, ![2, 64, 768]⟩ : Shape).Idx → EReal) (x9 : (⟨3, ![3, 2, 640]⟩ : Shape).Idx → EReal) (k : ℕ) : EReal :=
  if k < 12288 then x5 (ix3 g (⟨k % 64, Nat.mod_lt _ (by decide)⟩ : Fin 64) (⟨(pageOf a0 b k).val, by have := (pageOf a0 b k).2; omega⟩ : Fin 768)) else x9 (ix3 b g (⟨(k - 12288) % 640, Nat.mod_lt _ (by decide)⟩ : Fin 640))

/-- The score of a key: the product of the decoded query and key, over the root of the width. -/
def score (k : ℕ) : EReal :=
  Ideal.div ((∑ l : Fin 128, a2 (ix4 b g (⟨t.val * 16 + r.val, by omega⟩ : Fin 10240) l) * codeOf a0 b g a4 a8 k l)
    * (a3 (ix5 b g (⟨t.val / 64, by omega⟩ : Fin 10) (0 : Fin 1) (⟨t.val % 64 * 16 + r.val, by omega⟩ : Fin 1024)) * scaleOf a0 b g a5 a9 k)) (Real.sqrt 128 : ℝ)

/-- A decoded value. -/
def value (d : Fin 128) (k : ℕ) : EReal := codeOf a0 b g a6 a10 k d * scaleOf a0 b g a7 a11 k

/-- The attention of a row: the values weighted by the softmax of the scores. -/
def att (d : Fin 128) : EReal :=
  Ideal.div (∑ k ∈ keys (a1 (ix1 b)).toNat t.val, value a0 a6 a7 a10 a11 b g d k * Ideal.exp (score a0 a2 a3 a4 a5 a8 a9 b g t r k - (keys (a1 (ix1 b)).toNat t.val).sup (score a0 a2 a3 a4 a5 a8 a9 b g t r)))
    (∑ k ∈ keys (a1 (ix1 b)).toNat t.val, Ideal.exp (score a0 a2 a3 a4 a5 a8 a9 b g t r k - (keys (a1 (ix1 b)).toNat t.val).sup (score a0 a2 a3 a4 a5 a8 a9 b g t r)))

/-- The result array. -/
def result (x : (⟨3, ![3, 640, 4096]⟩ : Shape).Idx) : EReal :=
  att a0 a1 a2 a3 a4 a5 a6 a7 a8 a9 a10 a11 (x 0) ⟨(x 2).val / 2048, by have : (x 2).val < 4096 := (x 2).2; omega⟩ (x 1) ⟨(x 2).val / 128 % 16, Nat.mod_lt _ (by decide)⟩ ⟨(x 2).val % 128, Nat.mod_lt _ (by decide)⟩

end

end Cert.Att
-- ==== Proof.KI.Chk.lean ====
/- The side conditions the attention body states of the words it reads: of a sequence's length
   (at most 12288) every offset, alignment and loop of the body, and of a page number (below 720) the
   page's slice of each pool and its tile of the scales. -/
module

public import proofs.«01_k».proof.Proof.Gen.KernelIdeal.Skeleton
public import Idealize.ShloMosaic.Lib.LoopRemainder
public import Idealize.ShloMosaic.Lib.Affine

@[expose] public section

namespace Cert.KernelIdeal.Hand

open Idealize.ShloMosaic Cert.KernelIdeal

set_option maxHeartbeats 4000000

theorem t2_trips (v1 : BitVec 32) : (k0_t2_loop v1).trips = 0 := Scf.rem_trips _ _
theorem t4_trips (v1 : BitVec 32) : (k0_t4_loop v1).trips = 0 := Scf.rem_trips _ _
theorem t6_trips (v1 : BitVec 32) : (k0_t6_loop v1).trips = 0 := Scf.rem_trips _ _
theorem t10_trips (v1 : BitVec 32) : (k0_t10_loop v1).trips = 0 := Scf.rem_trips _ _
theorem t12_trips (v1 : BitVec 32) : (k0_t12_loop v1).trips = 0 := Scf.rem_trips _ _

theorem t2_no (v1 : BitVec 32) (t : Fin (k0_t2_loop v1).trips) : False :=
  absurd (t.2.trans_eq (t2_trips v1)) (Nat.not_lt_zero _)
theorem t4_no (v1 : BitVec 32) (t : Fin (k0_t4_loop v1).trips) : False :=
  absurd (t.2.trans_eq (t4_trips v1)) (Nat.not_lt_zero _)
theorem t6_no (v1 : BitVec 32) (t : Fin (k0_t6_loop v1).trips) : False :=
  absurd (t.2.trans_eq (t6_trips v1)) (Nat.not_lt_zero _)
theorem t10_no (v1 : BitVec 32) (t : Fin (k0_t10_loop v1).trips) : False :=
  absurd (t.2.trans_eq (t10_trips v1)) (Nat.not_lt_zero _)
theorem t12_no (v1 : BitVec 32) (t : Fin (k0_t12_loop v1).trips) : False :=
  absurd (t.2.trans_eq (t12_trips v1)) (Nat.not_lt_zero _)

open Affine

/-- The rounded-down quotient of a nonnegative word by a positive literal, as a program spells it. -/
theorem floor_div (x c : BitVec 32) (hx : 0 ≤ x.toInt) (hc : 0 < c.toInt) :
    Scalar.select (Scalar.andi (Scalar.cmpi .ne
        (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
        (Scalar.cmpi .ne (Scalar.remsi x c) 0#32))
      (Scalar.subi (Scalar.divsi x c) 1#32) (Scalar.divsi x c) = Scalar.divsi x c := by
  have h0 : IsInt 0#32 0 := ofNat 0 ⟨rfl, by decide⟩
  rw [Scalar.select, if_neg]
  show Fails _
  rcases Int.lt_or_eq_of_le hx with hp | hz
  · apply andi_fails_left _ trivial
    refine ne_fails (subi (extui_holds (sgt_holds (word x) h0 hp) rfl) (extui_fails (slt_fails (word x) h0 (by omega)) rfl) ⟨rfl, by decide⟩)
      (subi (extui_holds (sgt_holds (word c) h0 hc) rfl) (extui_fails (slt_fails (word c) h0 (by omega)) rfl) ⟨rfl, by decide⟩) rfl
  · apply andi_fails_right trivial
    exact ne_fails (remsi (word x) (word c) ⟨rfl, hx, hc⟩) h0 (by rw [← hz]; simp)

theorem iv_zero (t : Nat) : Scf.iv 0#32 1#32 t = BitVec.ofNat 32 t := by
  simp [Scf.iv]

/-- A loop from zero to a word by ones, spelled with its trip count, makes as many trips as the word says. -/
theorem trips_zero (x : BitVec 32) (h : 0 ≤ x.toInt) :
    Scf.trips 0#32 (Scalar.addi 0#32 (Scalar.muli (Scalar.divsi (Scalar.subi x 0#32) 1#32) 1#32)) 1#32 = x.toNat := by
  rw [Scalar.muli_divsi_one]
  have h0 : IsInt 0#32 0 := ofNat 0 ⟨rfl, by decide⟩
  have e : Scalar.addi 0#32 (Scalar.subi x 0#32) = x := by simp [Scalar.addi, Scalar.subi, IntOp.addi, IntOp.subi]
  rw [e]
  exact trips_eq h0 (word x) (ofNat 1 ⟨rfl, by decide⟩) x.toNat
    ⟨by decide, by have := toNat_of (word x) h; omega⟩

/-- A loop from a word to a later one by ones, spelled with its trip count. -/
theorem trips_from (a b : BitVec 32) (ha : 0 ≤ a.toInt) (hb : a.toInt ≤ b.toInt) :
    Scf.trips a (Scalar.addi a (Scalar.muli (Scalar.divsi (Scalar.subi b a) 1#32) 1#32)) 1#32 = b.toNat - a.toNat := by
  rw [Scalar.muli_divsi_one]
  have e : Scalar.addi a (Scalar.subi b a) = b := by simp [Scalar.addi, Scalar.subi, IntOp.addi, IntOp.subi]
  rw [e]
  exact trips_eq (word a) (word b) (ofNat 1 ⟨rfl, by decide⟩) _
    ⟨by decide, by have := toNat_of (word a) ha; have := toNat_of (word b) (by omega); omega⟩

theorem ok_zero (x : BitVec 32) :
    Scf.OK 0#32 (Scalar.addi 0#32 (Scalar.muli (Scalar.divsi (Scalar.subi x 0#32) 1#32) 1#32)) 1#32 := by
  have h0 : IsInt 0#32 0 := ofNat 0 ⟨rfl, by decide⟩
  have := word_range (Scalar.addi 0#32 (Scalar.muli (Scalar.divsi (Scalar.subi x 0#32) 1#32) 1#32))
  exact ok h0 (word _) (ofNat 1 ⟨rfl, by decide⟩) ⟨by decide, by omega⟩

theorem ok_from (a y : BitVec 32) : Scf.OK a y 1#32 := by
  have := word_range y
  have := word_range a
  exact ok (word a) (word _) (ofNat 1 ⟨rfl, by decide⟩) ⟨by decide, by omega⟩

/-- A word below `2 ^ 31` read unsigned, from its signed range. -/
theorem nat_of (x : BitVec 32) (h : 0 ≤ x.toInt) : (x.toNat : Int) = x.toInt := toNat_of (word x) h

theorem toInt_of {x : BitVec 32} {e : Int} (h : IsInt x e) : x.toInt = e := by unfold IsInt at h; exact h

theorem up (v1 : BitVec 32) (h : 0 ≤ v1.toInt ∧ v1.toInt ≤ 12288) (c : Nat) (hc : 0 < c ∧ c ≤ 256) :
    (Scalar.subi (Scalar.addi v1 (BitVec.ofNat 32 c)) 1#32).toInt = v1.toInt + c - 1 :=
  toInt_of (subi (addi (word v1) (ofNat c (e := c) ⟨rfl, by omega⟩) (e := v1.toInt + c) ⟨rfl, by omega⟩)
    (ofNat 1 (e := 1) ⟨rfl, by decide⟩) (e := v1.toInt + c - 1) ⟨by omega, by omega⟩)

theorem quot (x : BitVec 32) (h : 0 ≤ x.toInt) (c : Nat) (hc : 0 < c ∧ c ≤ 256) :
    (Scalar.divsi x (BitVec.ofNat 32 c)).toInt = x.toInt / c :=
  toInt_of (divsi (word x) (ofNat c (e := c) ⟨rfl, by omega⟩) ⟨rfl, h, by omega⟩)

/-- Pages that hold a sequence of `v1` keys. -/
@[irreducible] def nPages (v1 : BitVec 32) : Nat := (v1.toNat + 63) / 64
/-- Pairs of pages the preparation goes over: two for each block of 256 keys. -/
@[irreducible] def nPrep (v1 : BitVec 32) : Nat := (v1.toNat + 255) / 256 * 2
/-- Blocks of 256 keys that are whole. -/
@[irreducible] def nFull (v1 : BitVec 32) : Nat := v1.toNat / 256
/-- Blocks of 256 keys, the last one perhaps not whole. -/
@[irreducible] def nBlocks (v1 : BitVec 32) : Nat := (v1.toNat + 255) / 256

section
variable (v1 : BitVec 32) (h : 0 ≤ v1.toInt ∧ v1.toInt ≤ 12288)
include h

theorem nPages_le : nPages v1 ≤ 192 := by have := nat_of v1 h.1; unfold nPages; omega
theorem nPrep_le : nPrep v1 ≤ 96 := by have := nat_of v1 h.1; unfold nPrep; omega
theorem nBlocks_le : nBlocks v1 ≤ 48 := by have := nat_of v1 h.1; unfold nBlocks; omega
theorem nFull_le : nFull v1 ≤ nBlocks v1 := by have := nat_of v1 h.1; unfold nFull nBlocks; omega

theorem q64 : (Scalar.divsi (Scalar.subi (Scalar.addi v1 64#32) 1#32) 64#32).toInt = (nPages v1 : Int) := by
  have h1 := up v1 h 64 (by omega)
  rw [quot _ (by omega) 64 (by omega), h1]
  have := nat_of v1 h.1; unfold nPages; omega

theorem q256 : (Scalar.divsi (Scalar.subi (Scalar.addi v1 256#32) 1#32) 256#32).toInt = (nBlocks v1 : Int) := by
  have h1 := up v1 h 256 (by omega)
  rw [quot _ (by omega) 256 (by omega), h1]
  have := nat_of v1 h.1; unfold nBlocks; omega

theorem f256 : (Scalar.divsi v1 256#32).toInt = (nFull v1 : Int) := by
  rw [quot _ (by omega) 256 (by omega)]
  have := nat_of v1 h.1; unfold nFull; omega

theorem t1_trips : (k0_t1_loop v1).trips = nPages v1 := by
  have h1 := up v1 h 64 (by omega)
  have h2 := q64 v1 h
  refine (trips_zero _ ?_).trans ?_
  · rw [floor_div _ _ (by omega) (by decide)]; omega
  · rw [floor_div _ _ (by omega) (by decide)]; have := nat_of _ (show 0 ≤ _ by rw [h2]; omega); omega

theorem t3_trips : (k0_t3_loop v1).trips = nPages v1 := t1_trips v1 h

theorem t5_trips : (k0_t5_loop v1).trips = nPrep v1 := by
  have h1 := up v1 h 256 (by omega)
  have h2 := q256 v1 h
  have h3 := nBlocks_le v1 h
  have h4 : (Scalar.muli (Scalar.divsi (Scalar.subi (Scalar.addi v1 256#32) 1#32) 256#32) 2#32).toInt = (nPrep v1 : Int) := by
    have := toInt_of (muli (word (Scalar.divsi (Scalar.subi (Scalar.addi v1 256#32) 1#32) 256#32)) (ofNat 2 (e := 2) ⟨rfl, by decide⟩) (e := nBlocks v1 * 2) ⟨by rw [h2], by omega, by omega⟩)
    rw [this]; unfold nBlocks nPrep; omega
  refine (trips_zero _ ?_).trans ?_
  · rw [floor_div _ _ (by omega) (by decide)]; omega
  · rw [floor_div _ _ (by omega) (by decide)]; have := nat_of _ (show 0 ≤ _ by rw [h4]; omega); omega

theorem t9_trips : (k0_t9_loop v1).trips = nFull v1 := by
  have h2 := f256 v1 h
  refine (trips_zero _ ?_).trans ?_
  · rw [floor_div _ _ (by omega) (by decide)]; omega
  · rw [floor_div _ _ (by omega) (by decide)]; have := nat_of _ (show 0 ≤ _ by rw [h2]; omega); omega

theorem t11_lb : (k0_t11_loop v1).lb = BitVec.ofNat 32 (nFull v1) := by
  have h2 := f256 v1 h
  refine (floor_div _ _ (by omega) (by decide)).trans ?_
  have := nat_of _ (show 0 ≤ _ by rw [h2]; omega)
  apply BitVec.eq_of_toNat_eq
  have := nFull_le v1 h; have := nBlocks_le v1 h
  rw [BitVec.toNat_ofNat]; omega

theorem lb_int : (k0_t11_loop v1).lb.toInt = (nFull v1 : Int) := by
  have h2 := f256 v1 h
  exact (congrArg BitVec.toInt (floor_div _ _ (by omega) (by decide))).trans h2

theorem t11_trips : (k0_t11_loop v1).trips = nBlocks v1 - nFull v1 := by
  have h1 := up v1 h 256 (by omega)
  have h2 := lb_int v1 h
  have h3 := q256 v1 h
  have := nFull_le v1 h
  refine (trips_from _ _ ?_ ?_).trans ?_
  · rw [h2]; omega
  · rw [floor_div _ _ (by omega) (by decide)]; omega
  · rw [floor_div _ _ (by omega) (by decide)]
    have := nat_of _ (show 0 ≤ _ by rw [h2]; omega); have := nat_of _ (show 0 ≤ _ by rw [h3]; omega); omega

theorem t1_lt (t : Fin (k0_t1_loop v1).trips) : t.val < 192 := by
  have := t.2.trans_eq (t1_trips v1 h); have := nPages_le v1 h; omega
theorem t3_lt (t : Fin (k0_t3_loop v1).trips) : t.val < 192 := by
  have := t.2.trans_eq (t3_trips v1 h); have := nPages_le v1 h; omega
theorem t5_lt (t : Fin (k0_t5_loop v1).trips) : t.val < 96 := by
  have := t.2.trans_eq (t5_trips v1 h); have := nPrep_le v1 h; omega
theorem t9_lt (t : Fin (k0_t9_loop v1).trips) : t.val < 48 := by
  have := t.2.trans_eq (t9_trips v1 h); have := nFull_le v1 h; have := nBlocks_le v1 h; omega
theorem t11_lt (t : Fin (k0_t11_loop v1).trips) : nFull v1 + t.val < 48 := by
  have := t.2.trans_eq (t11_trips v1 h); have := nFull_le v1 h; have := nBlocks_le v1 h; omega

/-! ## The offsets in closed form -/

omit h in
theorem ofNat_toNat (n : Nat) (hn : n < 2 ^ 32) : (BitVec.ofNat 32 n).toNat = n := by
  rw [BitVec.toNat_ofNat]; omega
omit h in
theorem mul_nat (t c : Nat) : Scalar.muli (BitVec.ofNat 32 t) (BitVec.ofNat 32 c) = BitVec.ofNat 32 (t * c) := by
  simp [Scalar.muli, IntOp.muli, BitVec.ofNat_mul]
omit h in
theorem add_nat (t c : Nat) : Scalar.addi (BitVec.ofNat 32 t) (BitVec.ofNat 32 c) = BitVec.ofNat 32 (t + c) := by
  simp [Scalar.addi, IntOp.addi, BitVec.ofNat_add]
omit h in
theorem mul_iv (t c : Nat) : Scalar.muli (Scf.iv 0#32 1#32 t) (BitVec.ofNat 32 c) = BitVec.ofNat 32 (t * c) := by
  rw [iv_zero, mul_nat]
omit h in
theorem mul_iv_toNat (t c : Nat) (hn : t * c < 2 ^ 32) : (Scalar.muli (Scf.iv 0#32 1#32 t) (BitVec.ofNat 32 c)).toNat = t * c := by
  rw [mul_iv, ofNat_toNat _ hn]
omit h in
theorem coord_toNat {n : Nat} (x : Fin n) (hn : n ≤ 2 ^ 32) : (BitVec.ofNat 32 x.val).toNat = x.val :=
  ofNat_toNat _ (by omega)

theorem mult1_eq (t : Fin (k0_t1_loop v1).trips) : (k0_mult1 v1 t).toNat = t.val * 64 :=
  mul_iv_toNat _ 64 (by have := t1_lt v1 h t; omega)
theorem mult3_eq (t : Fin (k0_t3_loop v1).trips) : (k0_mult3 v1 t).toNat = t.val * 64 :=
  mul_iv_toNat _ 64 (by have := t3_lt v1 h t; omega)
theorem off2_eq (i : grid0.Coords) (t : Fin (k0_t1_loop v1).trips) : k0_off2 i v1 t = ![(i 0).val, t.val] := by
  have := t1_lt v1 h t
  show ![(BitVec.ofNat 32 (i 0).val).toNat, (Scf.iv 0#32 1#32 t.val).toNat] = _
  rw [iv_zero, coord_toNat _ (by decide), ofNat_toNat _ (by omega)]
theorem off10_eq (i : grid0.Coords) (t : Fin (k0_t3_loop v1).trips) : k0_off10 i v1 t = ![(i 0).val, t.val] := off2_eq v1 h i t
theorem off3_eq (t : Fin (k0_t1_loop v1).trips) : k0_off3 v1 t = ![0, t.val * 64, 0] := by
  show ![0, (k0_mult1 v1 t).toNat, 0] = _; rw [mult1_eq v1 h]
theorem off5_eq (t : Fin (k0_t1_loop v1).trips) : k0_off5 v1 t = ![0, t.val * 64, 0] := off3_eq v1 h t
theorem off11_eq (t : Fin (k0_t3_loop v1).trips) : k0_off11 v1 t = ![0, t.val * 64, 0] := off3_eq v1 h t
theorem off13_eq (t : Fin (k0_t3_loop v1).trips) : k0_off13 v1 t = ![0, t.val * 64, 0] := off3_eq v1 h t

theorem off18_eq (i : grid0.Coords) (t : Fin (k0_t5_loop v1).trips) : k0_off18 i v1 t = ![(i 0).val, t.val * 2] := by
  have := t5_lt v1 h t
  show ![(BitVec.ofNat 32 (i 0).val).toNat, (Scalar.addi (Scalar.muli (Scf.iv 0#32 1#32 t.val) 2#32) 0#32).toNat] = _
  rw [mul_iv, add_nat, coord_toNat _ (by decide), ofNat_toNat _ (by omega), Nat.add_zero]
theorem off20_eq (i : grid0.Coords) (t : Fin (k0_t5_loop v1).trips) : k0_off20 i v1 t = ![(i 0).val, t.val * 2 + 1] := by
  have := t5_lt v1 h t
  show ![(BitVec.ofNat 32 (i 0).val).toNat, (Scalar.addi (Scalar.muli (Scf.iv 0#32 1#32 t.val) 2#32) 1#32).toNat] = _
  rw [mul_iv, add_nat, coord_toNat _ (by decide), ofNat_toNat _ (by omega)]
theorem off22_eq (i : grid0.Coords) (t : Fin (k0_t5_loop v1).trips) : k0_off22 i v1 t = ![(i 0).val, t.val * 2] := off18_eq v1 h i t
theorem off29_eq (i : grid0.Coords) (t : Fin (k0_t5_loop v1).trips) : k0_off29 i v1 t = ![(i 0).val, t.val * 2] := off18_eq v1 h i t
theorem off33_eq (i : grid0.Coords) (t : Fin (k0_t5_loop v1).trips) : k0_off33 i v1 t = ![(i 0).val, t.val * 2] := off18_eq v1 h i t
theorem off24_eq (i : grid0.Coords) (t : Fin (k0_t5_loop v1).trips) : k0_off24 i v1 t = ![(i 0).val, t.val * 2 + 1] := off20_eq v1 h i t
theorem off31_eq (i : grid0.Coords) (t : Fin (k0_t5_loop v1).trips) : k0_off31 i v1 t = ![(i 0).val, t.val * 2 + 1] := off20_eq v1 h i t
theorem off35_eq (i : grid0.Coords) (t : Fin (k0_t5_loop v1).trips) : k0_off35 i v1 t = ![(i 0).val, t.val * 2 + 1] := off20_eq v1 h i t
theorem mult19_eq (t : Fin (k0_t5_loop v1).trips) : (k0_mult19 v1 t).toNat = t.val * 128 :=
  mul_iv_toNat _ 128 (by have := t5_lt v1 h t; omega)
theorem off26_eq (t : Fin (k0_t5_loop v1).trips) : k0_off26 v1 t = ![0, t.val * 128, 0] := by
  show ![0, (k0_mult19 v1 t).toNat, 0] = _; rw [mult19_eq v1 h]
theorem off27_eq (t : Fin (k0_t5_loop v1).trips) : k0_off27 v1 t = ![0, t.val * 128, 0] := off26_eq v1 h t
theorem off28_eq (t : Fin (k0_t5_loop v1).trips) : k0_off28 v1 t = ![0, 0, t.val * 128] := by
  show ![0, 0, (k0_mult19 v1 t).toNat] = _; rw [mult19_eq v1 h]
theorem off37_eq (t : Fin (k0_t5_loop v1).trips) : k0_off37 v1 t = ![1, t.val * 128, 0] := by
  show ![1, (k0_mult19 v1 t).toNat, 0] = _; rw [mult19_eq v1 h]
theorem off38_eq (t : Fin (k0_t5_loop v1).trips) : k0_off38 v1 t = ![1, t.val * 128, 0] := off37_eq v1 h t
theorem off39_eq (t : Fin (k0_t5_loop v1).trips) : k0_off39 v1 t = ![1, 0, t.val * 128] := by
  show ![1, 0, (k0_mult19 v1 t).toNat] = _; rw [mult19_eq v1 h]

theorem mult52_eq (t : Fin (k0_t9_loop v1).trips) : (k0_mult52 v1 t).toNat = t.val * 256 :=
  mul_iv_toNat _ 256 (by have := t9_lt v1 h t; omega)
theorem off68_eq (i : grid0.Coords) (t : Fin (k0_t9_loop v1).trips) : k0_off68 i v1 t = ![(i 2).val, t.val * 256, 0] := by
  show ![(BitVec.ofNat 32 (i 2).val).toNat, (k0_mult52 v1 t).toNat, 0] = _; rw [mult52_eq v1 h, coord_toNat _ (by decide)]
theorem off69_eq (i : grid0.Coords) (t : Fin (k0_t9_loop v1).trips) : k0_off69 i v1 t = ![(i 2).val, 0, t.val * 256] := by
  show ![(BitVec.ofNat 32 (i 2).val).toNat, 0, (k0_mult52 v1 t).toNat] = _; rw [mult52_eq v1 h, coord_toNat _ (by decide)]
theorem mult58_eq (t : Fin (k0_t11_loop v1).trips) : (k0_mult58 v1 t).toNat = (nFull v1 + t.val) * 256 := by
  have := t11_lt v1 h t
  show (Scalar.muli (Scf.iv (k0_t11_loop v1).lb 1#32 t.val) 256#32).toNat = _
  rw [t11_lb v1 h, show Scf.iv (BitVec.ofNat 32 (nFull v1)) 1#32 t.val = BitVec.ofNat 32 (nFull v1 + t.val) by
    simp [Scf.iv, BitVec.ofNat_add], mul_nat, ofNat_toNat _ (by omega)]
theorem off72_eq (i : grid0.Coords) (t : Fin (k0_t11_loop v1).trips) : k0_off72 i v1 t = ![(i 2).val, (nFull v1 + t.val) * 256, 0] := by
  show ![(BitVec.ofNat 32 (i 2).val).toNat, (k0_mult58 v1 t).toNat, 0] = _; rw [mult58_eq v1 h, coord_toNat _ (by decide)]
theorem off73_eq (i : grid0.Coords) (t : Fin (k0_t11_loop v1).trips) : k0_off73 i v1 t = ![(i 2).val, 0, (nFull v1 + t.val) * 256] := by
  show ![(BitVec.ofNat 32 (i 2).val).toNat, 0, (k0_mult58 v1 t).toNat] = _; rw [mult58_eq v1 h, coord_toNat _ (by decide)]
end

/-! ## The side conditions -/

theorem inb2 {a0 a1 s0 s1 b0 b1 : Nat} (h0 : a0 + s0 ≤ b0) (h1 : a1 + s1 ≤ b1) :
    ∀ a : Fin 2, ![a0, a1] a + ![s0, s1] a ≤ ![b0, b1] a := by
  intro a; fin_cases a
  · exact h0
  · exact h1
theorem inb3 {a0 a1 a2 s0 s1 s2 b0 b1 b2 : Nat} (h0 : a0 + s0 ≤ b0) (h1 : a1 + s1 ≤ b1) (h2 : a2 + s2 ≤ b2) :
    ∀ a : Fin 3, ![a0, a1, a2] a + ![s0, s1, s2] a ≤ ![b0, b1, b2] a := by
  intro a; fin_cases a
  · exact h0
  · exact h1
  · exact h2
theorem rowAx3 {a b c : Nat} (o s : Fin 3 → Nat) (hinb : ∀ x, o x + s x ≤ ![a, b, c] x) (p : Nat) (h1 : p ∣ o 1) (h2 : p ∣ s 1) :
    (Rect.unit (s := ⟨3, ![a, b, c]⟩) o s hinb).PackedRows p := .inr ⟨show 2 ≤ 3 by decide, rfl, .inl ⟨h1, h2⟩⟩

section
variable (i : grid0.Coords) (v1 : BitVec 32) (h : 0 ≤ v1.toInt ∧ v1.toInt ≤ 12288)
include h

theorem chk1_0 : k0_chk1_0 i v1 := by
  have hi : (i 0).val < 3 := (i 0).2
  have e192 : ∀ t : Nat, t < 192 → ∀ a, ![(i 0).val, t] a + S1x1.size a ≤ S3x192.size a := fun t ht =>
    inb2 (by omega) (by omega)
  refine ⟨fun _ => ok_zero _, fun t _ => ?_, fun t _ => ?_, fun t _ => ?_, fun t _ _ => ?_, fun t _ => ?_, fun t _ _ => ?_,
    fun _ => Scf.rem_ok _ _, fun t => (t2_no v1 t).elim, fun t => (t2_no v1 t).elim, fun t => (t2_no v1 t).elim, fun t => (t2_no v1 t).elim, fun t => (t2_no v1 t).elim, fun t => (t2_no v1 t).elim,
    fun _ => ok_zero _, fun t _ => ?_, fun t _ => ?_, fun t _ => ?_, fun t _ _ => ?_, fun t _ => ?_, fun t _ _ => ?_,
    fun _ => Scf.rem_ok _ _, fun t => (t4_no v1 t).elim, fun t => (t4_no v1 t).elim, fun t => (t4_no v1 t).elim, fun t => (t4_no v1 t).elim, fun t => (t4_no v1 t).elim, fun t => (t4_no v1 t).elim,
    fun _ => ok_zero _, fun t _ => ?_, fun t _ => ?_, fun t _ => ?_⟩
  · rw [off2_eq v1 h]; exact e192 _ (t1_lt v1 h t)
  · rw [mult1_eq v1 h]; omega
  · rw [off3_eq v1 h]; have := t1_lt v1 h t; exact inb3 (by omega) (by omega) (by omega)
  · exact (rowAx3 _ _ _ _ (by rw [off3_eq v1 h]; exact ⟨t.val * 16, show t.val * 64 = 4 * (t.val * 16) by omega⟩) (by decide)).wholeWords
  · rw [off5_eq v1 h]; have := t1_lt v1 h t; exact inb3 (by omega) (by omega) (by omega)
  · exact (rowAx3 _ _ _ _ (by rw [off5_eq v1 h]; exact ⟨t.val * 16, show t.val * 64 = 4 * (t.val * 16) by omega⟩) (by decide)).wholeWords
  · rw [off10_eq v1 h]; exact e192 _ (t3_lt v1 h t)
  · rw [mult3_eq v1 h]; omega
  · rw [off11_eq v1 h]; have := t3_lt v1 h t; exact inb3 (by omega) (by omega) (by omega)
  · exact (rowAx3 _ _ _ _ (by rw [off11_eq v1 h]; exact ⟨t.val * 16, show t.val * 64 = 4 * (t.val * 16) by omega⟩) (by decide)).wholeWords
  · rw [off13_eq v1 h]; have := t3_lt v1 h t; exact inb3 (by omega) (by omega) (by omega)
  · exact (rowAx3 _ _ _ _ (by rw [off13_eq v1 h]; exact ⟨t.val * 16, show t.val * 64 = 4 * (t.val * 16) by omega⟩) (by decide)).wholeWords
  · rw [off18_eq v1 h]; exact e192 _ (by have := t5_lt v1 h t; omega)
  · rw [off20_eq v1 h]; exact e192 _ (by have := t5_lt v1 h t; omega)
  · rw [off22_eq v1 h]; exact e192 _ (by have := t5_lt v1 h t; omega)

theorem chk1_1 : k0_chk1_1 i v1 := by
  have hi : (i 0).val < 3 := (i 0).2
  have e192 : ∀ t : Nat, t < 192 → ∀ a, ![(i 0).val, t] a + S1x1.size a ≤ S3x192.size a := fun t ht =>
    inb2 (by omega) (by omega)
  have d128 : ∀ t : Fin (k0_t5_loop v1).trips, 128 ∣ (k0_mult19 v1 t).toNat := fun t => by rw [mult19_eq v1 h]; omega
  refine ⟨fun t _ => ?_, fun t _ => d128 t, fun t _ => ?_, fun t _ => d128 t, fun t _ => ?_, fun t _ => d128 t, fun t _ => ?_, fun t _ _ => ?_,
    fun t _ => ?_, fun t _ => ?_, fun t _ => ?_, fun t _ => ?_, fun t _ => d128 t, fun t _ => ?_, fun t _ => d128 t, fun t _ => ?_, fun t _ => d128 t, fun t _ => ?_, fun t _ _ => ?_,
    fun _ => Scf.rem_ok _ _, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim⟩
  · rw [off24_eq v1 h]; exact e192 _ (by have := t5_lt v1 h t; omega)
  · rw [off26_eq v1 h]; have := t5_lt v1 h t; exact inb3 (by omega) (by omega) (by omega)
  · rw [off27_eq v1 h]; have := t5_lt v1 h t; exact inb3 (by omega) (by omega) (by omega)
  · rw [off28_eq v1 h]; have := t5_lt v1 h t; exact inb3 (by omega) (by omega) (by omega)
  · exact rowAx3 _ _ _ _ (by rw [off28_eq v1 h]; exact ⟨0, rfl⟩) (by decide)
  · rw [off29_eq v1 h]; exact e192 _ (by have := t5_lt v1 h t; omega)
  · rw [off31_eq v1 h]; exact e192 _ (by have := t5_lt v1 h t; omega)
  · rw [off33_eq v1 h]; exact e192 _ (by have := t5_lt v1 h t; omega)
  · rw [off35_eq v1 h]; exact e192 _ (by have := t5_lt v1 h t; omega)
  · rw [off37_eq v1 h]; have := t5_lt v1 h t; exact inb3 (by omega) (by omega) (by omega)
  · rw [off38_eq v1 h]; have := t5_lt v1 h t; exact inb3 (by omega) (by omega) (by omega)
  · rw [off39_eq v1 h]; have := t5_lt v1 h t; exact inb3 (by omega) (by omega) (by omega)
  · exact rowAx3 _ _ _ _ (by rw [off39_eq v1 h]; exact ⟨0, rfl⟩) (by decide)

theorem chk1_2 : k0_chk1_2 i v1 := by
  have hi : (i 2).val < 2 := (i 2).2
  refine ⟨fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim, fun t => (t6_no v1 t).elim,
    ok_zero _, fun t => ?_, fun t => ?_, fun t => ?_, fun t => ?_, fun t => ?_,
    Scf.rem_ok _ _, fun t => (t10_no v1 t).elim, fun t => (t10_no v1 t).elim, fun t => (t10_no v1 t).elim, fun t => (t10_no v1 t).elim, fun t => (t10_no v1 t).elim,
    ok_from _ _, fun t => ?_, fun t => ?_, fun t => ?_, fun t => ?_, fun t => ?_,
    Scf.rem_ok _ _, fun t => (t12_no v1 t).elim, fun t => (t12_no v1 t).elim, fun t => (t12_no v1 t).elim⟩
  · rw [mult52_eq v1 h]; omega
  · rw [off68_eq v1 h]; have := t9_lt v1 h t; exact inb3 (by omega) (by omega) (by omega)
  · exact (mult52_eq v1 h t).symm ▸ (by omega)
  · exact (mult52_eq v1 h t).symm ▸ (by omega)
  · rw [off69_eq v1 h]; have := t9_lt v1 h t; exact inb3 (by omega) (by omega) (by omega)
  · rw [mult58_eq v1 h]; omega
  · rw [off72_eq v1 h]; have := t11_lt v1 h t; exact inb3 (by omega) (by omega) (by omega)
  · exact (mult58_eq v1 h t).symm ▸ (by omega)
  · exact (mult58_eq v1 h t).symm ▸ (by omega)
  · rw [off73_eq v1 h]; have := t11_lt v1 h t; exact inb3 (by omega) (by omega) (by omega)

theorem chk1 : k0_chk1 i v1 :=
  ⟨chk1_0 i v1 h, chk1_1 i v1 h, chk1_2 i v1 h, fun t => (t12_no v1 t).elim, fun t => (t12_no v1 t).elim⟩
end

section
variable (i : grid0.Coords) (w : BitVec 32) (h : 0 ≤ w.toInt ∧ w.toInt < 720)
include h

theorem chk2 : k0_chk2 i w := by
  have := nat_of w h.1
  have hb : ∀ a, (k0_off4 w) a + S1x2x64x128.size a ≤ S720x2x64x128.size a := by
    show ∀ a, ![w.toNat, 0, 0, 0] a + _ ≤ _
    intro a; fin_cases a
    · show w.toNat + 1 ≤ 720; omega
    · exact Nat.le_refl 2
    · exact Nat.le_refl 64
    · exact Nat.le_refl 128
  exact ⟨fun _ => hb, fun _ _ => .inl (.inr ⟨by decide, rfl, .inl ⟨⟨0, rfl⟩, ⟨16, rfl⟩⟩⟩)⟩
theorem chk4 : k0_chk4 i w := chk2 i w h

/-- Where a page's scales stand among the lanes of their array: the tile of 128 pages it is in. -/
theorem mult15_eq : (k0_mult15 w).toNat = w.toNat / 128 * 128 := by
  have hq := quot w h.1 128 (by omega)
  have := nat_of w h.1
  have h2 := nat_of (Scalar.divsi w 128#32) (by rw [hq]; omega)
  show (Scalar.muli _ 128#32).toNat = _
  rw [floor_div w 128#32 h.1 (by decide)]
  have h3 := toInt_of (muli (word (Scalar.divsi w 128#32)) (ofNat 128 (e := 128) ⟨rfl, by decide⟩) (e := w.toInt / 128 * 128) ⟨by rw [hq]; rfl, by omega, by omega⟩)
  have := nat_of (Scalar.muli (Scalar.divsi w 128#32) 128#32) (by rw [h3]; omega)
  omega

theorem off19_eq : k0_off19 w = ![0, 0, w.toNat / 128 * 128] := by
  show ![0, 0, (k0_mult15 w).toNat] = _; rw [mult15_eq w h]
theorem off30_eq : k0_off30 w = ![1, 0, w.toNat / 128 * 128] := by
  show ![1, 0, (k0_mult15 w).toNat] = _; rw [mult15_eq w h]

theorem chk6 : k0_chk6 i w := by
  have := nat_of w h.1
  refine ⟨fun _ => by rw [mult15_eq w h]; omega, fun _ => ?_⟩
  rw [off19_eq w h]; exact inb3 (by omega) (by omega) (by omega)
theorem chk10 : k0_chk10 i w := by
  have := nat_of w h.1
  refine ⟨fun _ => (mult15_eq w h).symm ▸ (by omega), fun _ => ?_⟩
  rw [off30_eq w h]; exact inb3 (by omega) (by omega) (by omega)
theorem chk7 : k0_chk7 i w := chk6 i w h
theorem chk8 : k0_chk8 i w := chk6 i w h
theorem chk9 : k0_chk9 i w := chk6 i w h
theorem chk11 : k0_chk11 i w := chk10 i w h
theorem chk12 : k0_chk12 i w := chk10 i w h
theorem chk13 : k0_chk13 i w := chk10 i w h
end

end Cert.KernelIdeal.Hand
-- ==== Proof.KI.Dma.lean ====
/- The page copies: one loop issues, for each page of a sequence, a copy of its keys and a copy of its
   values out of the pools; a second loop waits for all of them. -/
module

public import proofs.«01_k».proof.Proof.KI.Chk
public import proofs.«01_k».proof.Proof.Gen.KernelIdeal.Loops
public import proofs.«01_k».proof.Proof.Gen.KernelIdeal.Launch
public import Idealize.ShloMosaic.Lib.Pipeline.Quiescent
public import Idealize.ShloMosaic.Lib.Pipeline.FrameBody
public import Idealize.ShloMosaic.Lib.Batch
public import Idealize.ShloMosaic.Lib.Ring
public import Idealize.ShloMosaic.Lib.ValueIdx
public import Idealize.ShloMosaic.Lib.ValueLayout
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources of the proof: the buffers and semaphores, the pipeline's records and the counters of the body's own transfers. -/
local notation "𝕄" => MT nD τ sig Unit (Elt F) ℕ (Pipeline.UD sig nD τ) ℕ

open Idealize.ShloMosaic.ValueIdx

/-- The blocks of 64 rows of a two-group array of `N` rows: block `k`. -/
def blk (N k : ℕ) : Finset (⟨3, ![2, N, 128]⟩ : Shape).Idx := Finset.univ.filter fun x => (x 1).val / 64 = k
/-- The rows from block `k` on. -/
def rest (N k : ℕ) : Finset (⟨3, ![2, N, 128]⟩ : Shape).Idx := Finset.univ.filter fun x => k ≤ (x 1).val / 64

theorem rest_zero (N : ℕ) : rest N 0 = Finset.univ := by ext x; simp [rest]
theorem blk_sub (N k : ℕ) : blk N k ⊆ rest N k := fun x hx => by
  simp only [blk, rest, Finset.mem_filter, Finset.mem_univ, true_and] at hx ⊢; omega
theorem rest_sdiff (N k : ℕ) : rest N k \ blk N k = rest N (k + 1) := by
  ext x; simp only [blk, rest, Finset.mem_filter, Finset.mem_univ, true_and, Finset.mem_sdiff]; omega
theorem blk_disj (N : ℕ) {k l : ℕ} (h : k ≠ l) : Disjoint (blk N k) (blk N l) :=
  Finset.disjoint_left.mpr fun x hx hy => by
    simp only [blk, Finset.mem_filter, Finset.mem_univ, true_and] at hx hy; omega
theorem rest_disj (N n : ℕ) : Disjoint ((Finset.univ : Finset (Fin n)).biUnion fun t => blk N t.val) (rest N n) :=
  Finset.disjoint_left.mpr fun x hx hy => by
    simp only [blk, rest, Finset.mem_biUnion, Finset.mem_filter, Finset.mem_univ, true_and] at hx hy
    obtain ⟨t, ht⟩ := hx
    have := t.2
    omega
theorem blk_union (N n : ℕ) : ((Finset.univ : Finset (Fin n)).biUnion fun t => blk N t.val) ∪ rest N n = Finset.univ := by
  ext x
  simp only [blk, rest, Finset.mem_biUnion, Finset.mem_filter, Finset.mem_univ, true_and, Finset.mem_union, iff_true]
  by_cases h : (x 1).val / 64 < n
  · exact .inl ⟨⟨_, h⟩, rfl⟩
  · exact .inr (by omega)

/-- The place of row `b`, position `k` in the page table. -/
def pgIx (b k : ℕ) : (⟨2, ![3, 192]⟩ : Shape).Idx := ix2 (n0 := 3) (n1 := 192) ⟨b % 3, Nat.mod_lt _ (by decide)⟩ ⟨k % 192, Nat.mod_lt _ (by decide)⟩
/-- The page of the table's row `b` at position `k`, as a number below 720. -/
def page (tbl : main_arg0.ty.Contents (Elt F)) (b k : ℕ) : Fin 720 :=
  ⟨((tbl (pgIx b k) : BitVec 32)).toNat % 720, Nat.mod_lt _ (by decide)⟩

/-- What a scratch of `N` rows holds once the first `n` pages of row `b` of the table have been copied into it. -/
def filled (N n : ℕ) (tbl : main_arg0.ty.Contents (Elt F)) (b : ℕ) (pool : (⟨4, ![720, 2, 64, 128]⟩ : Shape).Idx → Elt F .fp8e4m3)
    (f : (⟨3, ![2, N, 128]⟩ : Shape).Idx → Elt F .fp8e4m3) : (⟨3, ![2, N, 128]⟩ : Shape).Idx → Elt F .fp8e4m3 :=
  fun x => if (x 1).val / 64 < n then pool (ix4 (page tbl b ((x 1).val / 64)) (x 0) ⟨(x 1).val % 64, Nat.mod_lt _ (by decide)⟩ (x 2)) else f x

/-- One page's copy, written over the old contents of cc0_scratch0, agrees with the filled array on its block. -/
theorem writeK (tbl : main_arg0.ty.Contents (Elt F)) (b n k : ℕ) (hk : k < n) (pk : main_arg4.ty.Contents (Elt F)) (fk : cc0_scratch0.ty.Contents (Elt F))
    (off : Fin 3 → ℕ) (ho : off = ![0, k * 64, 0]) (inb : ∀ a, off a + S2x64x128.size a ≤ S2x13056x128.size a) (hr)
    (off' : Fin 4 → ℕ) (ho' : off' = ![(page tbl b k).val, 0, 0, 0]) (inb' : ∀ a, off' a + S1x2x64x128.size a ≤ S720x2x64x128.size a) (hr')
    (x) (hx : x ∈ blk 13056 k) :
    ((Memref.whole cc0_scratch0).slice (Rect.unit (s := S2x13056x128) off S2x64x128.size inb) hr).view.write (Elt F) fk
      ((((Memref.whole main_arg4).slice (Rect.unit (s := S720x2x64x128) off' S1x2x64x128.size inb') hr').squeeze S2x64x128 squeezes_S1x2x64x128_S2x64x128).view.read (Elt F) pk) Finset.univ x
      = filled 13056 n tbl b pk fk x := by
  subst ho ho'
  simp only [blk, Finset.mem_filter, Finset.mem_univ, true_and] at hx
  have hx1 : (x 1).val = k * 64 + (x 1).val % 64 := by omega
  have e : x = ((Memref.whole cc0_scratch0).slice (Rect.unit (s := S2x13056x128) ![0, k * 64, 0] S2x64x128.size inb) hr).view.emb
      (ix3 (n0 := 2) (n1 := 64) (n2 := 128) (x 0) ⟨(x 1).val % 64, Nat.mod_lt _ (by decide)⟩ (x 2)) := by
    funext a
    apply Fin.ext
    match a with
    | ⟨0, _⟩ => show (x 0).val = 0 + 1 * (x 0).val; omega
    | ⟨1, _⟩ => show (x 1).val = k * 64 + 1 * ((x 1).val % 64); omega
    | ⟨2, _⟩ => show (x 2).val = 0 + 1 * (x 2).val; omega
  unfold filled
  rw [if_pos (by omega), hx]
  conv_lhs => rw [e]
  refine (View.write_emb_of_mem _ _ (Finset.mem_univ _)).trans ?_
  rw [cast_eq, View.read_apply, cast_eq]
  refine congrArg pk ?_
  show ((Memref.whole main_arg4).slice (Rect.unit (s := S720x2x64x128) ![(page tbl b k).val, 0, 0, 0] S1x2x64x128.size inb') hr').view.emb
    (Shape.reshapeEquiv _ _) = _
  refine (congrArg (fun y => ((Memref.whole main_arg4).slice (Rect.unit (s := S720x2x64x128) ![(page tbl b k).val, 0, 0, 0] S1x2x64x128.size inb') hr').view.emb y)
    (reshapeEquiv_ix3_1abc (a := 2) (b := 64) (c := 128) _ (x 0) ⟨(x 1).val % 64, Nat.mod_lt _ (by decide)⟩ (x 2))).trans ?_
  funext a
  apply Fin.ext
  match a with
  | ⟨0, _⟩ => show (page tbl b k).val + 1 * 0 = (page tbl b k).val; omega
  | ⟨1, _⟩ => show 0 + 1 * (x 0).val = (x 0).val; omega
  | ⟨2, _⟩ => show 0 + 1 * ((x 1).val % 64) = (x 1).val % 64; omega
  | ⟨3, _⟩ => show 0 + 1 * (x 2).val = (x 2).val; omega

/-- A page's block of cc0_scratch0 is the copy's destination. -/
theorem subK (k : ℕ) (off : Fin 3 → ℕ) (ho : off = ![0, k * 64, 0]) (inb : ∀ a, off a + S2x64x128.size a ≤ S2x13056x128.size a) (hr) :
    ((Memref.whole cc0_scratch0).slice (Rect.unit (s := S2x13056x128) off S2x64x128.size inb) hr).view.set ⊆ blk 13056 k := by
  subst ho
  intro x hx
  obtain ⟨y, -, rfl⟩ := Finset.mem_map.mp hx
  simp only [blk, Finset.mem_filter, Finset.mem_univ, true_and]
  have : (y 1).val < 64 := (y 1).2
  show (k * 64 + 1 * (y 1).val) / 64 = k
  omega

/-- One page's copy, written over the old contents of cc0_scratch1, agrees with the filled array on its block. -/
theorem writeV (tbl : main_arg0.ty.Contents (Elt F)) (b n k : ℕ) (hk : k < n) (pk : main_arg6.ty.Contents (Elt F)) (fk : cc0_scratch1.ty.Contents (Elt F))
    (off : Fin 3 → ℕ) (ho : off = ![0, k * 64, 0]) (inb : ∀ a, off a + S2x64x128.size a ≤ S2x12288x128.size a) (hr)
    (off' : Fin 4 → ℕ) (ho' : off' = ![(page tbl b k).val, 0, 0, 0]) (inb' : ∀ a, off' a + S1x2x64x128.size a ≤ S720x2x64x128.size a) (hr')
    (x) (hx : x ∈ blk 12288 k) :
    ((Memref.whole cc0_scratch1).slice (Rect.unit (s := S2x12288x128) off S2x64x128.size inb) hr).view.write (Elt F) fk
      ((((Memref.whole main_arg6).slice (Rect.unit (s := S720x2x64x128) off' S1x2x64x128.size inb') hr').squeeze S2x64x128 squeezes_S1x2x64x128_S2x64x128).view.read (Elt F) pk) Finset.univ x
      = filled 12288 n tbl b pk fk x := by
  subst ho ho'
  simp only [blk, Finset.mem_filter, Finset.mem_univ, true_and] at hx
  have hx1 : (x 1).val = k * 64 + (x 1).val % 64 := by omega
  have e : x = ((Memref.whole cc0_scratch1).slice (Rect.unit (s := S2x12288x128) ![0, k * 64, 0] S2x64x128.size inb) hr).view.emb
      (ix3 (n0 := 2) (n1 := 64) (n2 := 128) (x 0) ⟨(x 1).val % 64, Nat.mod_lt _ (by decide)⟩ (x 2)) := by
    funext a
    apply Fin.ext
    match a with
    | ⟨0, _⟩ => show (x 0).val = 0 + 1 * (x 0).val; omega
    | ⟨1, _⟩ => show (x 1).val = k * 64 + 1 * ((x 1).val % 64); omega
    | ⟨2, _⟩ => show (x 2).val = 0 + 1 * (x 2).val; omega
  unfold filled
  rw [if_pos (by omega), hx]
  conv_lhs => rw [e]
  refine (View.write_emb_of_mem _ _ (Finset.mem_univ _)).trans ?_
  rw [cast_eq, View.read_apply, cast_eq]
  refine congrArg pk ?_
  show ((Memref.whole main_arg6).slice (Rect.unit (s := S720x2x64x128) ![(page tbl b k).val, 0, 0, 0] S1x2x64x128.size inb') hr').view.emb
    (Shape.reshapeEquiv _ _) = _
  refine (congrArg (fun y => ((Memref.whole main_arg6).slice (Rect.unit (s := S720x2x64x128) ![(page tbl b k).val, 0, 0, 0] S1x2x64x128.size inb') hr').view.emb y)
    (reshapeEquiv_ix3_1abc (a := 2) (b := 64) (c := 128) _ (x 0) ⟨(x 1).val % 64, Nat.mod_lt _ (by decide)⟩ (x 2))).trans ?_
  funext a
  apply Fin.ext
  match a with
  | ⟨0, _⟩ => show (page tbl b k).val + 1 * 0 = (page tbl b k).val; omega
  | ⟨1, _⟩ => show 0 + 1 * (x 0).val = (x 0).val; omega
  | ⟨2, _⟩ => show 0 + 1 * ((x 1).val % 64) = (x 1).val % 64; omega
  | ⟨3, _⟩ => show 0 + 1 * (x 2).val = (x 2).val; omega

/-- A page's block of cc0_scratch1 is the copy's destination. -/
theorem subV (k : ℕ) (off : Fin 3 → ℕ) (ho : off = ![0, k * 64, 0]) (inb : ∀ a, off a + S2x64x128.size a ≤ S2x12288x128.size a) (hr) :
    ((Memref.whole cc0_scratch1).slice (Rect.unit (s := S2x12288x128) off S2x64x128.size inb) hr).view.set ⊆ blk 12288 k := by
  subst ho
  intro x hx
  obtain ⟨y, -, rfl⟩ := Finset.mem_map.mp hx
  simp only [blk, Finset.mem_filter, Finset.mem_univ, true_and]
  have : (y 1).val < 64 := (y 1).2
  show (k * 64 + 1 * (y 1).val) / 64 = k
  omega

section
variable (c : Dev nD) (i : grid0.Coords) (v1 : BitVec 32) (hw : k0_chk1 i v1) (h1 : k0_cond1 i = 1#1)
variable (a5 : Memref sig .tc .vmem S1x1x1024x128 .fp8e4m3) (h5 : a5.IsWhole) (a6 : Memref sig .tc .vmem S1x1x1x1x1024 .f32) (h6 : a6.IsWhole)
  (a8 : Memref sig .tc .vmem S2x64x768 .f32) (h8 : a8.IsWhole) (a10 : Memref sig .tc .vmem S2x64x768 .f32) (h10 : a10.IsWhole)
  (a11 : Memref sig .tc .vmem S1x2x640x128 .fp8e4m3) (h11 : a11.IsWhole) (a12 : Memref sig .tc .vmem S1x2x640 .f32) (h12 : a12.IsWhole)
  (a13 : Memref sig .tc .vmem S1x2x640x128 .fp8e4m3) (h13 : a13.IsWhole) (a14 : Memref sig .tc .vmem S1x2x640 .f32) (h14 : a14.IsWhole)
  (a15 : Memref sig .tc .vmem S1x64x2048 .bf16) (h15 : a15.IsWhole)
variable (v0 v20 : BitVec 32)

/-- The number of credits of one page's copy. -/
def NN : ℕ := (Memref.whole cc0_scratch0).view.ref.dmaCredit S2x64x128 .fp8e4m3

theorem NN_pos : 0 < NN := sig.dmaCredit_pos _ _ _ _ _ (by decide)

variable (tbl : main_arg0.ty.Contents (Elt F)) (pk : main_arg4.ty.Contents (Elt F)) (pv : main_arg6.ty.Contents (Elt F))
  (fk : cc0_scratch0.ty.Contents (Elt F)) (fv : cc0_scratch1.ty.Contents (Elt F))

/-- What the copy of page `k` of the keys delivers. -/
def DK (n : ℕ) (k : Fin n) : sProp 𝕄 := iprop((Memref.whole cc0_scratch0).view.loc (c : Thread nD τ) ↦[blk 13056 k.val]{fullShare} (filled 13056 n tbl (i 0).val pk fk : Buf (Elt F) ((Memref.whole cc0_scratch0).view.loc (c : Thread nD τ))))
/-- What the copy of page `k` of the values delivers. -/
def DV (n : ℕ) (k : Fin n) : sProp 𝕄 := iprop((Memref.whole cc0_scratch1).view.loc (c : Thread nD τ) ↦[blk 12288 k.val]{fullShare} (filled 12288 n tbl (i 0).val pv fv : Buf (Elt F) ((Memref.whole cc0_scratch1).view.loc (c : Thread nD τ))))
instance (n : ℕ) (k : Fin n) : Storable (upEmb : UEmb _ 𝕄) (DK c i tbl pk fk n k) := by unfold DK; infer_instance
instance (n : ℕ) (k : Fin n) : Storable (upEmb : UEmb _ 𝕄) (DV c i tbl pv fv n k) := by unfold DV; infer_instance
abbrev BK (n j u : ℕ) : sProp 𝕄 := Transfers.Batch (countersEmb (U := Pipeline.UD sig nD τ)) (c : Thread nD τ) (.dma 16) () NN (DK c i tbl pk fk n) j u
abbrev BV (n j u : ℕ) : sProp 𝕄 := Transfers.Batch (countersEmb (U := Pipeline.UD sig nD τ)) (c : Thread nD τ) (.dma 17) () NN (DV c i tbl pv fv n) j u

/-- Before trip `k` of the issuing loop: `k` copies issued on each semaphore, the rows from block `k` on still at their old contents. -/
def issueAt (k : ℕ) (_ : Unit) : sProp 𝕄 :=
  iprop(((Memref.whole main_arg0).view.loc (c : Thread nD τ) ↦{fullShare.right} tbl) ∗ (∃ q, (Memref.whole main_arg4).view.loc (c : Thread nD τ) ↦{q} pk) ∗ (∃ q, (Memref.whole main_arg6).view.loc (c : Thread nD τ) ↦{q} pv)
    ∗ ((Memref.whole cc0_scratch0).view.loc (c : Thread nD τ) ↦[rest 13056 k]{fullShare} (fk : Buf (Elt F) ((Memref.whole cc0_scratch0).view.loc (c : Thread nD τ)))) ∗ ((Memref.whole cc0_scratch1).view.loc (c : Thread nD τ) ↦[rest 12288 k]{fullShare} (fv : Buf (Elt F) ((Memref.whole cc0_scratch1).view.loc (c : Thread nD τ))))
    ∗ BK c i tbl pk fk (nPages v1) k 0 ∗ BV c i tbl pv fv (nPages v1) k 0)

set_option maxHeartbeats 1000000 in
/-- One trip of the issuing loop. -/
theorem issue_step (h : 0 ≤ v1.toInt ∧ v1.toInt ≤ 12288) (ht : ∀ x, 0 ≤ (tbl x).toInt ∧ (tbl x).toInt < 720) (t : Fin (k0_t1_loop v1).trips) (acc : Unit) :
    issueAt c i v1 tbl pk pv fk fv t.val acc
     ⊢ wp frame (wpE (defs₀ (F := F)) Variants.none (c : Thread nD τ) none) Set.univ (k0_t1_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1 t acc) (issueAt c i v1 tbl pk pv fk fv (t.val + 1)) := by
  have hc2 : ∀ w : S3x192.Idx, k0_chk2 i (tbl w) := fun w => chk2 i _ (ht w)
  unfold issueAt
  iintro ⟨HT, ⟨%qk, HPK⟩, ⟨%qv, HPV⟩, HK, HV, HBK, HBV⟩
  unfold k0_t1_body
  sl_exec (disch := (apply hc2))
  have hk : t.val < nPages v1 := t.2.trans_eq (t1_trips v1 h)
  have hpg : k0_off4 (issue_step.sl.r i v1 hw h1 tbl t) = ![(page tbl (i 0).val t.val).val, 0, 0, 0] := by
    show ![(issue_step.sl.r i v1 hw h1 tbl t : BitVec 32).toNat, 0, 0, 0] = _
    have e : issue_step.sl.r i v1 hw h1 tbl t = tbl (pgIx (i 0).val t.val) := by
      unfold issue_step.sl.r
      rw [View.readAt_apply]
      refine congrArg tbl (funext fun a => Fin.ext ?_)
      have h192 := t1_lt v1 h t
      have hi : (i 0).val < 3 := (i 0).2
      match a with
      | ⟨0, _⟩ => show (k0_off2 i v1 t) 0 + 1 * 0 = (i 0).val % 3; rw [off2_eq v1 h]; show (i 0).val + 1 * 0 = _; omega
      | ⟨1, _⟩ => show (k0_off2 i v1 t) 1 + 1 * 0 = t.val % 192; rw [off2_eq v1 h]; show t.val + 1 * 0 = _; omega
    rw [e]
    have hh := ht (pgIx (i 0).val t.val)
    have h3 := nat_of _ hh.1
    unfold page
    exact congrArg (fun n => ![n, 0, 0, 0]) (Nat.mod_eq_of_lt (show BitVec.toNat (tbl (pgIx (i 0).val t.val)) < 720 by omega)).symm
  ihave HPK' := (pointsTo_share (PosShare.mem_left_op_right qk)).1 $$ HPK
  icases HPK' with ⟨HPK, HPK1⟩
  ihave HPK1' := (pointsTo_split_subset (Finset.subset_univ (((Memref.whole main_arg4).slice (Rect.unit (s := S720x2x64x128) (k0_off4 (issue_step.sl.r i v1 hw h1 tbl t)) S1x2x64x128.size (k0_off4_inb i _ (hc2 _) h1)) (fun _ => rfl)).squeeze S2x64x128 squeezes_S1x2x64x128_S2x64x128).view.set)).1 $$ HPK1
  icases HPK1' with ⟨HPK1, -⟩
  ihave HK' := (pointsTo_split_subset (blk_sub 13056 t.val)).1 $$ HK
  rw [rest_sdiff]
  icases HK' with ⟨HK1, HK⟩
  iapply (Transfers.wp_dmaBatch (countersEmb (U := Pipeline.UD sig nD τ)) Variants.none (c : Thread nD τ) none () NN rfl (q := qk.right) (fs := pk) (fd := fk) (D := DK c i tbl pk fk _) (Sd := blk 13056 t.val)
    (subK t.val _ (off3_eq v1 h t) _ _) hk (Nat.zero_le _)
    (show _ ⊢ _ by
      iintro ⟨H, -⟩
      unfold DK
      ihave H' := (Entails.of_eq (pointsTo_congr (fun x hx => writeK tbl (i 0).val _ t.val hk pk fk _ (off3_eq v1 h t) _ _ _ hpg _ _ x hx))) $$ H
      iexact H')) $$ [HPK1 HK1 HBK]
  · isplitl [HPK1]; · iexact HPK1
    isplitl [HK1]; · iexact HK1
    iexact HBK
  iintro HBK
  ihave HPV' := (pointsTo_share (PosShare.mem_left_op_right qv)).1 $$ HPV
  icases HPV' with ⟨HPV, HPV1⟩
  ihave HPV1' := (pointsTo_split_subset (Finset.subset_univ (((Memref.whole main_arg6).slice (Rect.unit (s := S720x2x64x128) (k0_off4 (issue_step.sl.r i v1 hw h1 tbl t)) S1x2x64x128.size (k0_off4_inb i _ (hc2 _) h1)) (fun _ => rfl)).squeeze S2x64x128 squeezes_S1x2x64x128_S2x64x128).view.set)).1 $$ HPV1
  icases HPV1' with ⟨HPV1, -⟩
  ihave HV' := (pointsTo_split_subset (blk_sub 12288 t.val)).1 $$ HV
  rw [rest_sdiff]
  icases HV' with ⟨HV1, HV⟩
  iapply (Transfers.wp_dmaBatch (countersEmb (U := Pipeline.UD sig nD τ)) Variants.none (c : Thread nD τ) none () NN rfl (q := qv.right) (fs := pv) (fd := fv) (D := DV c i tbl pv fv _) (Sd := blk 12288 t.val)
    (subV t.val _ (off5_eq v1 h t) _ _) hk (Nat.zero_le _)
    (show _ ⊢ _ by
      iintro ⟨H, -⟩
      unfold DV
      ihave H' := (Entails.of_eq (pointsTo_congr (fun x hx => writeV tbl (i 0).val _ t.val hk pv fv _ (off5_eq v1 h t) _ _ _ hpg _ _ x hx))) $$ H
      iexact H')) $$ [HPV1 HV1 HBV]
  · isplitl [HPV1]; · iexact HPV1
    isplitl [HV1]; · iexact HV1
    iexact HBV
  iintro HBV
  dsimp only [Prog.bind, Pure.pure]
  sl_step
  isplitl [HT]; · iexact HT
  isplitl [HPK]; · iexists _; iexact HPK
  isplitl [HPV]; · iexists _; iexact HPV
  isplitl [HK]; · iexact HK
  isplitl [HV]; · iexact HV
  isplitl [HBK]; · iexact HBK
  iexact HBV

/-- Before trip `k` of the draining loop: every copy issued, the credits of `k` copies taken on each semaphore. -/
def drainAt (k : ℕ) (_ : Unit) : sProp 𝕄 :=
  iprop(((Memref.whole main_arg0).view.loc (c : Thread nD τ) ↦{fullShare.right} tbl) ∗ (∃ W, owes (c : Thread nD τ) 0 W) ∗ ⌜k ≤ nPages v1⌝
    ∗ BK c i tbl pk fk (nPages v1) (nPages v1) (k * NN) ∗ BV c i tbl pv fv (nPages v1) (nPages v1) (k * NN))

set_option maxHeartbeats 1000000 in
/-- One trip of the draining loop. -/
theorem drain_step (h : 0 ≤ v1.toInt ∧ v1.toInt ≤ 12288) (ht : ∀ x, 0 ≤ (tbl x).toInt ∧ (tbl x).toInt < 720) (t : Fin (k0_t3_loop v1).trips) (acc : Unit) :
    drainAt c i v1 tbl pk pv fk fv t.val acc
     ⊢ wp frame (wpE (defs₀ (F := F)) Variants.none (c : Thread nD τ) none) Set.univ (k0_t3_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1 t acc) (drainAt c i v1 tbl pk pv fk fv (t.val + 1)) := by
  have hc4 : ∀ w : S3x192.Idx, k0_chk4 i (tbl w) := fun w => chk4 i _ (ht w)
  have hk : t.val < nPages v1 := t.2.trans_eq (t3_trips v1 h)
  have hN : t.val * NN + 1 * NN ≤ NN * nPages v1 := by
    have := Nat.mul_le_mul_left NN (show t.val + 1 ≤ nPages v1 from hk)
    rw [Nat.mul_add, Nat.mul_comm NN] at this; omega
  unfold drainAt
  iintro ⟨HT, ⟨%W, HO⟩, -, HBK, HBV⟩
  unfold k0_t3_body
  sl_exec (disch := (apply hc4))
  iapply (Transfers.wp_waitBatchMul (countersEmb (U := Pipeline.UD sig nD τ)) Variants.none (c : Thread nD τ) none () (N := NN) 1 (by rw [Nat.one_mul]; rfl) (D := DK c i tbl pk fk _) (j := nPages v1) (u := t.val * NN) hN (W := W)) $$ [HBK HO]
  · isplitl [HBK]; · iexact HBK
    iexact HO
  iintro ⟨HBK, HO⟩
  iapply (Transfers.wp_waitBatchMul (countersEmb (U := Pipeline.UD sig nD τ)) Variants.none (c : Thread nD τ) none () (N := NN) 1 (by rw [Nat.one_mul]; rfl) (D := DV c i tbl pv fv _) (j := nPages v1) (u := t.val * NN) hN) $$ [HBV HO]
  · isplitl [HBV]; · iexact HBV
    iexact HO
  iintro ⟨HBV, HO⟩
  dsimp only [Prog.bind, Pure.pure]
  sl_step
  isplitl [HT]; · iexact HT
  isplitl [HO]; · iexists _; iexact HO
  isplitr; · ipureintro; omega
  rw [show (t.val + 1) * NN = t.val * NN + 1 * NN from Nat.add_mul ..]
  isplitl [HBK]; · iexact HBK
  iexact HBV

/-- The delivered blocks and the rows past them are the whole array. -/
theorem joinK (n : ℕ) : iprop(bigSep Finset.univ (DK c i tbl pk fk n) ∗ ((Memref.whole cc0_scratch0).view.loc (c : Thread nD τ) ↦[rest 13056 n]{fullShare} fk))
    ⊢ ((Memref.whole cc0_scratch0).view.loc (c : Thread nD τ) ↦{fullShare} (filled 13056 n tbl (i 0).val pk fk : cc0_scratch0.ty.Contents (Elt F)) : sProp 𝕄) := by
  have e1 : bigSep Finset.univ (DK c i tbl pk fk n) = ((Memref.whole cc0_scratch0).view.loc (c : Thread nD τ) ↦[(Finset.univ : Finset (Fin n)).biUnion fun t => blk 13056 t.val]{fullShare} (filled 13056 n tbl (i 0).val pk fk : cc0_scratch0.ty.Contents (Elt F)) : sProp 𝕄) :=
    (pointsTo_biUnion (ℓ := (Memref.whole cc0_scratch0).view.loc (c : Thread nD τ)) Finset.univ (fun t : Fin n => blk 13056 t.val) (fun t _ t' _ hne => blk_disj 13056 (fun he => hne (Fin.ext he)))).symm
  have e2 : ((Memref.whole cc0_scratch0).view.loc (c : Thread nD τ) ↦[rest 13056 n]{fullShare} fk : sProp 𝕄)
      = ((Memref.whole cc0_scratch0).view.loc (c : Thread nD τ) ↦[rest 13056 n]{fullShare} (filled 13056 n tbl (i 0).val pk fk : cc0_scratch0.ty.Contents (Elt F)) : sProp 𝕄) :=
    pointsTo_congr fun x hx => by
      simp only [rest, Finset.mem_filter, Finset.mem_univ, true_and] at hx
      exact (if_neg (Nat.not_lt.mpr hx)).symm
  rw [e1, e2]
  refine (pointsTo_union (ℓ := (Memref.whole cc0_scratch0).view.loc (c : Thread nD τ)) (rest_disj 13056 n)).2.trans ?_
  rw [blk_union]

/-- The delivered blocks and the rows past them are the whole array. -/
theorem joinV (n : ℕ) : iprop(bigSep Finset.univ (DV c i tbl pv fv n) ∗ ((Memref.whole cc0_scratch1).view.loc (c : Thread nD τ) ↦[rest 12288 n]{fullShare} fv))
    ⊢ ((Memref.whole cc0_scratch1).view.loc (c : Thread nD τ) ↦{fullShare} (filled 12288 n tbl (i 0).val pv fv : cc0_scratch1.ty.Contents (Elt F)) : sProp 𝕄) := by
  have e1 : bigSep Finset.univ (DV c i tbl pv fv n) = ((Memref.whole cc0_scratch1).view.loc (c : Thread nD τ) ↦[(Finset.univ : Finset (Fin n)).biUnion fun t => blk 12288 t.val]{fullShare} (filled 12288 n tbl (i 0).val pv fv : cc0_scratch1.ty.Contents (Elt F)) : sProp 𝕄) :=
    (pointsTo_biUnion (ℓ := (Memref.whole cc0_scratch1).view.loc (c : Thread nD τ)) Finset.univ (fun t : Fin n => blk 12288 t.val) (fun t _ t' _ hne => blk_disj 12288 (fun he => hne (Fin.ext he)))).symm
  have e2 : ((Memref.whole cc0_scratch1).view.loc (c : Thread nD τ) ↦[rest 12288 n]{fullShare} fv : sProp 𝕄)
      = ((Memref.whole cc0_scratch1).view.loc (c : Thread nD τ) ↦[rest 12288 n]{fullShare} (filled 12288 n tbl (i 0).val pv fv : cc0_scratch1.ty.Contents (Elt F)) : sProp 𝕄) :=
    pointsTo_congr fun x hx => by
      simp only [rest, Finset.mem_filter, Finset.mem_univ, true_and] at hx
      exact (if_neg (Nat.not_lt.mpr hx)).symm
  rw [e1, e2]
  refine (pointsTo_union (ℓ := (Memref.whole cc0_scratch1).view.loc (c : Thread nD τ)) (rest_disj 12288 n)).2.trans ?_
  rw [blk_union]

set_option maxHeartbeats 1000000 in
/-- The loops over the pages (the two that copy and the two empty ones left over by the unrolling): the pools and the
    table stay, the two scratch arrays end filled with the pages, the semaphores are back at zero. -/
theorem pages {α : Type} (h : 0 ≤ v1.toInt ∧ v1.toInt ≤ 12288) (ht : ∀ x, 0 ≤ (tbl x).toInt ∧ (tbl x).toInt < 720)
    (kk : PUnit → Prog (TpuEff nD τ sig (Elt F) Λ₀ .tc) α) (Q : α → sProp 𝕄) :
    iprop(((Memref.whole main_arg0).view.loc (c : Thread nD τ) ↦{fullShare.right} tbl) ∗ (∃ q, (Memref.whole main_arg4).view.loc (c : Thread nD τ) ↦{q} pk) ∗ (∃ q, (Memref.whole main_arg6).view.loc (c : Thread nD τ) ↦{q} pv)
      ∗ ((Memref.whole cc0_scratch0).view.loc (c : Thread nD τ) ↦{fullShare} fk) ∗ ((Memref.whole cc0_scratch1).view.loc (c : Thread nD τ) ↦{fullShare} fv)
      ∗ semVal ((c : Thread nD τ), SemLoc.dma 16) 0 ∗ semVal ((c : Thread nD τ), SemLoc.dma 17) 0 ∗ (∃ W, owes (c : Thread nD τ) 0 W))
     ⊢ iprop((iprop(((Memref.whole main_arg0).view.loc (c : Thread nD τ) ↦{fullShare.right} tbl) ∗ (∃ q, (Memref.whole main_arg4).view.loc (c : Thread nD τ) ↦{q} pk) ∗ (∃ q, (Memref.whole main_arg6).view.loc (c : Thread nD τ) ↦{q} pv)
      ∗ ((Memref.whole cc0_scratch0).view.loc (c : Thread nD τ) ↦{fullShare} (filled 13056 (nPages v1) tbl (i 0).val pk fk : cc0_scratch0.ty.Contents (Elt F)))
      ∗ ((Memref.whole cc0_scratch1).view.loc (c : Thread nD τ) ↦{fullShare} (filled 12288 (nPages v1) tbl (i 0).val pv fv : cc0_scratch1.ty.Contents (Elt F)))
      ∗ semVal ((c : Thread nD τ), SemLoc.dma 16) 0 ∗ semVal ((c : Thread nD τ), SemLoc.dma 17) 0 ∗ (∃ W, owes (c : Thread nD τ) 0 W))
        -∗ wp frame (wpE (defs₀ (F := F)) Variants.none (c : Thread nD τ) none) Set.univ (kk ⟨⟩) Q)
      -∗ wp frame (wpE (defs₀ (F := F)) Variants.none (c : Thread nD τ) none) Set.univ
       (do Scf.Loop.for (k0_t1_loop v1) (k0_t1_ok i v1 hw h1) ⟨⟩ (k0_t1_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1)
           Scf.Loop.for (k0_t2_loop v1) (k0_t2_ok i v1 hw h1) ⟨⟩ (k0_t2_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1)
           Scf.Loop.for (k0_t3_loop v1) (k0_t3_ok i v1 hw h1) ⟨⟩ (k0_t3_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1)
           let r ← Scf.Loop.for (k0_t4_loop v1) (k0_t4_ok i v1 hw h1) ⟨⟩ (k0_t4_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw v20 h1)
           kk r) Q) := by
  iintro ⟨HT, HPK, HPV, HK, HV, H16, H17, HO⟩ Hk
  imod (Transfers.batch_alloc' (countersEmb (U := Pipeline.UD sig nD τ)) (c : Thread nD τ) () NN (DK c i tbl pk fk (nPages v1)) (sm := .dma 16) (E := Set.univ)) $$ H16 with HBK
  imod (Transfers.batch_alloc' (countersEmb (U := Pipeline.UD sig nD τ)) (c : Thread nD τ) () NN (DV c i tbl pv fv (nPages v1)) (sm := .dma 17) (E := Set.univ)) $$ H17 with HBV
  sl_for (issueAt c i v1 tbl pk pv fk fv) $$ [HT HPK HPV HK HV HBK HBV]
  · intro t acc; exact issue_step c i v1 hw h1 _ h5 _ h6 _ h8 _ h10 _ h11 _ h12 _ h13 _ h14 _ h15 v0 v20 tbl pk pv fk fv h ht t acc
  · unfold issueAt
    rw [rest_zero, rest_zero]
    isplitl [HT]; · iexact HT
    isplitl [HPK]; · iexact HPK
    isplitl [HPV]; · iexact HPV
    isplitl [HK]; · iexact HK
    isplitl [HV]; · iexact HV
    isplitl [HBK]; · iexact HBK
    iexact HBV
  iintro %acc HI
  sl_for (fun _ _ => iprop(emp)) $$ []
  · intro t acc; exact (t2_no v1 t).elim
  · iempintro
  iintro %acc2 -
  unfold issueAt
  rw [show Scf.trips (k0_t1_loop v1).lb (k0_t1_loop v1).ub (k0_t1_loop v1).st = nPages v1 from t1_trips v1 h]
  icases HI with ⟨HT, HPK, HPV, HK, HV, HBK, HBV⟩
  sl_for (drainAt c i v1 tbl pk pv fk fv) $$ [HT HO HBK HBV]
  · intro t acc; exact drain_step c i v1 hw h1 _ h5 _ h6 _ h8 _ h10 _ h11 _ h12 _ h13 _ h14 _ h15 v0 v20 tbl pk pv fk fv h ht t acc
  · unfold drainAt
    rw [Nat.zero_mul]
    isplitl [HT]; · iexact HT
    isplitl [HO]; · iexact HO
    isplitr; · ipureintro; exact Nat.zero_le _
    isplitl [HBK]; · iexact HBK
    iexact HBV
  iintro %acc3 HI
  sl_for (fun _ _ => iprop(emp)) $$ []
  · intro t acc; exact (t4_no v1 t).elim
  · iempintro
  iintro %acc4 -
  unfold drainAt
  rw [show Scf.trips (k0_t3_loop v1).lb (k0_t3_loop v1).ub (k0_t3_loop v1).st = nPages v1 from t3_trips v1 h, Nat.mul_comm (nPages v1) NN]
  icases HI with ⟨HT, HO, -, HBK, HBV⟩
  imod (Transfers.batch_collect' (countersEmb (U := Pipeline.UD sig nD τ)) (c : Thread nD τ) (N := NN) NN_pos (D := DK c i tbl pk fk (nPages v1))) $$ HBK with ⟨HKs, H16⟩
  imod (Transfers.batch_collect' (countersEmb (U := Pipeline.UD sig nD τ)) (c : Thread nD τ) (N := NN) NN_pos (D := DV c i tbl pv fv (nPages v1))) $$ HBV with ⟨HVs, H17⟩
  ihave HK := (joinK c i tbl pk fk (nPages v1)) $$ [HKs HK]
  · isplitl [HKs]; · iexact HKs
    iexact HK
  ihave HV := (joinV c i tbl pv fv (nPages v1)) $$ [HVs HV]
  · isplitl [HVs]; · iexact HVs
    iexact HV
  iapply Hk
  isplitl [HT]; · iexact HT
  isplitl [HPK]; · iexact HPK
  isplitl [HPV]; · iexact HPV
  isplitl [HK]; · iexact HK
  isplitl [HV]; · iexact HV
  isplitl [H16]; · iexact H16
  isplitl [H17]; · iexact H17
  iexact HO
end
end Cert.KernelIdeal.Hand
-- ==== Proof.KI.Gath.lean ====
/- Reading the scales of a page out of the array of all scales. -/
module

public import proofs.«01_k».proof.Proof.KI.Dma
public import Idealize.ShloMosaic.Lib.Pointwise
public import Idealize.ShloMosaic.Lib.WritesUnit

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The lane of a page's scales in its tile, as the kernel computes it. -/
def laneOf (w : BitVec 32) : BitVec 32 :=
  Scalar.select (Scalar.andi (Scalar.xori (Scalar.cmpi CmpIPredicate.slt (Scalar.remsi w 128#32) 0#32) 0#1) (Scalar.cmpi CmpIPredicate.ne (Scalar.remsi w 128#32) 0#32))
    (Scalar.addi (Scalar.remsi w 128#32) 128#32) (Scalar.remsi w 128#32)
/-- The same as an index along the lanes. -/
def laneIx (w : BitVec 32) : BitVec 32 :=
  Scalar.select (IntOp.cmpi CmpIPredicate.slt (laneOf w) 0#32) (IntOp.addi (laneOf w) 128#32) (laneOf w)

set_option maxRecDepth 100000 in
theorem laneIx_nat : ∀ n, n < 720 → (laneIx (BitVec.ofNat 32 n)).toNat = n % 128 := by
  decide +kernel

theorem laneIx_eq (w : BitVec 32) (h : w.toNat < 720) : (laneIx w).toNat = w.toNat % 128 := by
  have := laneIx_nat w.toNat h
  rwa [BitVec.ofNat_toNat, BitVec.setWidth_eq] at this

theorem gath0 {α : Type} (X : S1x64x128.Idx → α) (I : IVec S64x128 32) (hs) (r : Fin 64) (l : Fin 128) (lane : ℕ) (hl : lane < 128) (hI : (I (ix2 r l)).toNat = lane) :
    dynamicGather 1 (shapeCast S64x128 X hs) I (ix2 r l) = X (ix3 0 r ⟨lane, hl⟩) := by
  pointwise
  subst hI
  have : (I (ix2 r l)).toNat % 128 = (I (ix2 r l)).toNat := Nat.mod_eq_of_lt hl
  simp only [this]

theorem selIx (s : BitVec 32) (hs1) (hs2) (r : Fin 64) (l : Fin 128) :
    (shapeCast S64x128 (shapeCast S64x128x1 (select (cmpi CmpIPredicate.slt (broadcast S64x128 s) (broadcast S64x128 0#32)) (addi (broadcast S64x128 s) (broadcast S64x128 128#32)) (broadcast S64x128 s)) hs1) hs2 : IVec S64x128 32) (ix2 r l)
      = Scalar.select (IntOp.cmpi CmpIPredicate.slt s 0#32) (IntOp.addi s 128#32) s := rfl

/-- A gather along the lanes of a page's tile of scales reads the page's scale in every lane. -/
theorem gath {c : Dev nD} (a8 : Memref sig .tc .vmem S2x64x768 .f32) (f8 : Buf (Elt F) (a8.view.loc (c : Thread nD τ))) (w : BitVec 32) (hw : w.toNat < 720)
    (g : Fin 2) (off : Fin 3 → ℕ) (inb) (ho : off = ![g.val, 0, w.toNat / 128 * 128]) (hs hs1 hs2) (r : Fin 64) (l : Fin 128) :
    dynamicGather 1 (shapeCast S64x128 (View.readAt (Elt F) a8.view (Rect.unit (s := S2x64x768) off S1x64x128.size inb).toLoadRect f8) hs)
      (shapeCast S64x128 (shapeCast S64x128x1 (select (cmpi CmpIPredicate.slt (broadcast S64x128 (laneOf w)) (broadcast S64x128 0#32)) (addi (broadcast S64x128 (laneOf w)) (broadcast S64x128 128#32)) (broadcast S64x128 (laneOf w))) hs1) hs2)
      (ix2 r l) = a8.view.read (Elt F) f8 (ix3 (n0 := 2) (n1 := 64) (n2 := 768) g r ⟨w.toNat, by omega⟩) := by
  subst ho
  have hl := laneIx_eq w hw
  refine (gath0 _ _ hs r l (w.toNat % 128) (Nat.mod_lt _ (by decide)) ((congrArg BitVec.toNat (selIx (laneOf w) hs1 hs2 r l)).trans hl)).trans ?_
  rw [View.readAt_apply]
  refine congrArg (a8.view.read (Elt F) f8) (funext fun a => Fin.ext ?_)
  match a with
  | ⟨0, _⟩ => show g.val + 1 * 0 = g.val; omega
  | ⟨1, _⟩ => show 0 + 1 * r.val = r.val; omega
  | ⟨2, _⟩ => show w.toNat / 128 * 128 + 1 * (w.toNat % 128) = w.toNat; omega

/-- The word of the table at a place. -/
theorem word_at (tbl : main_arg0.ty.Contents (Elt F)) (off : Fin 2 → ℕ) (inb) (b k : ℕ) (hb : b < 3) (hk : k < 192) (ho : off = ![b, k]) (x : S1x1.Idx) :
    View.readAt (Elt F) (Memref.whole main_arg0).view (Rect.unit (s := S3x192) off S1x1.size inb).toLoadRect tbl x = tbl (pgIx b k) := by
  subst ho
  rw [View.readAt_apply]
  refine congrArg tbl (funext fun a => Fin.ext ?_)
  match a with
  | ⟨0, _⟩ => show b + 1 * (x 0).val = b % 3; have : (x 0).val < 1 := (x 0).2; omega
  | ⟨1, _⟩ => show k + 1 * (x 1).val = k % 192; have : (x 1).val < 1 := (x 1).2; omega

/-- A value code times its scale, rounded. -/
def valOf (x : F .fp8e4m3) (s : F .f32) : F .bf16 := FloatOps.truncf .bf16 bitsLt_bf16_f32 (FloatOps.mulf (FloatOps.extf .f32 bitsLt_fp8e4m3_f32 x) s)

/-- A block of scales joins the scales of its two pages. -/
theorem joined {α : Type} (x y : S64x128.Idx → α) (h) (hs) (r : Fin 128) (l : Fin 128) :
    (shapeCast S1x128x128 (concatenate S128x128 0 [⟨S64x128, x⟩, ⟨S64x128, y⟩] h) hs : S1x128x128.Idx → α) (ix3 0 r l)
      = if h : r.val < 64 then x (ix2 ⟨r.val, h⟩ l) else y (ix2 ⟨r.val - 64, by omega⟩ l) := by
  pointwise
  try rfl

theorem joined' {α : Type} (x y : S64x128.Idx → α) (h) (r : Fin 128) (l : Fin 128) :
    (concatenate S128x128 0 [⟨S64x128, x⟩, ⟨S64x128, y⟩] h : S128x128.Idx → α) (ix2 r l)
      = if h : r.val < 64 then x (ix2 ⟨r.val, h⟩ l) else y (ix2 ⟨r.val - 64, by omega⟩ l) := by
  pointwise
  try rfl

/-- Reading two blocks written one per group. -/
theorem two_rows_gen {κ : Kind} {sp : Space} {e : EltTy} {Val : EltTy → Type} {N M : ℕ} (v : View sig κ sp ⟨3, ![2, N, M]⟩ e) (f : v.ty.Contents Val) (t : ℕ) (off off' : Fin 3 → ℕ)
    (inb : ∀ a : Fin 3, off a + (![1, 128, M] : Fin 3 → ℕ) a ≤ (![2, N, M] : Fin 3 → ℕ) a) (inb' : ∀ a : Fin 3, off' a + (![1, 128, M] : Fin 3 → ℕ) a ≤ (![2, N, M] : Fin 3 → ℕ) a)
    (w w' : (⟨3, ![1, 128, M]⟩ : Shape).Idx → Val e) (ho : off = ![1, t * 128, 0]) (ho' : off' = ![0, t * 128, 0]) (g : Fin 2) (k : Fin N) (l : Fin M) :
    v.read Val (v.writes Val f [⟨Rect.unit off (![1, 128, M] : Fin 3 → ℕ) inb, w⟩, ⟨Rect.unit off' (![1, 128, M] : Fin 3 → ℕ) inb', w'⟩]) (ix3 g k l)
      = if h : t * 128 ≤ k.val ∧ k.val < t * 128 + 128 then (if g.val = 1 then w (ix3 (n0 := 1) (n1 := 128) (n2 := M) 0 ⟨k.val - t * 128, by omega⟩ l) else w' (ix3 (n0 := 1) (n1 := 128) (n2 := M) 0 ⟨k.val - t * 128, by omega⟩ l)) else v.read Val f (ix3 g k l) := by
  have hg := g.2
  by_cases h : t * 128 ≤ k.val ∧ k.val < t * 128 + 128
  · rw [dif_pos h]
    by_cases h1 : g.val = 1
    · rw [if_pos h1]
      refine View.read_writes_cons_unit_of_mem v f inb w _ _ (ix3 (n0 := 1) (n1 := 128) (n2 := M) 0 ⟨k.val - t * 128, by omega⟩ l) ho fun a => ?_
      match a with
      | ⟨0, _⟩ => show g.val = 1 + 0; omega
      | ⟨1, _⟩ => show k.val = t * 128 + (k.val - t * 128); omega
      | ⟨2, _⟩ => show l.val = 0 + l.val; omega
    · rw [if_neg h1]
      refine (View.read_writes_cons_unit_of_not_mem v f inb w _ _ ho 0 (.inl (show g.val < 1 by omega))).trans ?_
      refine View.read_writes_cons_unit_of_mem v f inb' w' _ _ (ix3 (n0 := 1) (n1 := 128) (n2 := M) 0 ⟨k.val - t * 128, by omega⟩ l) ho' fun a => ?_
      match a with
      | ⟨0, _⟩ => show g.val = 0 + 0; omega
      | ⟨1, _⟩ => show k.val = t * 128 + (k.val - t * 128); omega
      | ⟨2, _⟩ => show l.val = 0 + l.val; omega
  · rw [dif_neg h]
    refine (View.read_writes_cons_unit_of_not_mem v f inb w _ _ ho 1 (show k.val < t * 128 ∨ t * 128 + 128 ≤ k.val by omega)).trans ?_
    exact View.read_writes_cons_unit_of_not_mem v f inb' w' [] _ ho' 1 (show k.val < t * 128 ∨ t * 128 + 128 ≤ k.val by omega)

/-- Reading two blocks written one per group. -/
theorem two_cols_gen {κ : Kind} {sp : Space} {e : EltTy} {Val : EltTy → Type} {N M : ℕ} (v : View sig κ sp ⟨3, ![2, M, N]⟩ e) (f : v.ty.Contents Val) (t : ℕ) (off off' : Fin 3 → ℕ)
    (inb : ∀ a : Fin 3, off a + (![1, M, 128] : Fin 3 → ℕ) a ≤ (![2, M, N] : Fin 3 → ℕ) a) (inb' : ∀ a : Fin 3, off' a + (![1, M, 128] : Fin 3 → ℕ) a ≤ (![2, M, N] : Fin 3 → ℕ) a)
    (w w' : (⟨3, ![1, M, 128]⟩ : Shape).Idx → Val e) (ho : off = ![1, 0, t * 128]) (ho' : off' = ![0, 0, t * 128]) (g : Fin 2) (k : Fin N) (l : Fin M) :
    v.read Val (v.writes Val f [⟨Rect.unit off (![1, M, 128] : Fin 3 → ℕ) inb, w⟩, ⟨Rect.unit off' (![1, M, 128] : Fin 3 → ℕ) inb', w'⟩]) (ix3 g l k)
      = if h : t * 128 ≤ k.val ∧ k.val < t * 128 + 128 then (if g.val = 1 then w (ix3 (n0 := 1) (n1 := M) (n2 := 128) 0 l ⟨k.val - t * 128, by omega⟩) else w' (ix3 (n0 := 1) (n1 := M) (n2 := 128) 0 l ⟨k.val - t * 128, by omega⟩)) else v.read Val f (ix3 g l k) := by
  have hg := g.2
  by_cases h : t * 128 ≤ k.val ∧ k.val < t * 128 + 128
  · rw [dif_pos h]
    by_cases h1 : g.val = 1
    · rw [if_pos h1]
      refine View.read_writes_cons_unit_of_mem v f inb w _ _ (ix3 (n0 := 1) (n1 := M) (n2 := 128) 0 l ⟨k.val - t * 128, by omega⟩) ho fun a => ?_
      match a with
      | ⟨0, _⟩ => show g.val = 1 + 0; omega
      | ⟨2, _⟩ => show k.val = t * 128 + (k.val - t * 128); omega
      | ⟨1, _⟩ => show l.val = 0 + l.val; omega
    · rw [if_neg h1]
      refine (View.read_writes_cons_unit_of_not_mem v f inb w _ _ ho 0 (.inl (show g.val < 1 by omega))).trans ?_
      refine View.read_writes_cons_unit_of_mem v f inb' w' _ _ (ix3 (n0 := 1) (n1 := M) (n2 := 128) 0 l ⟨k.val - t * 128, by omega⟩) ho' fun a => ?_
      match a with
      | ⟨0, _⟩ => show g.val = 0 + 0; omega
      | ⟨2, _⟩ => show k.val = t * 128 + (k.val - t * 128); omega
      | ⟨1, _⟩ => show l.val = 0 + l.val; omega
  · rw [dif_neg h]
    refine (View.read_writes_cons_unit_of_not_mem v f inb w _ _ ho 2 (show k.val < t * 128 ∨ t * 128 + 128 ≤ k.val by omega)).trans ?_
    exact View.read_writes_cons_unit_of_not_mem v f inb' w' [] _ ho' 2 (show k.val < t * 128 ∨ t * 128 + 128 ≤ k.val by omega)

/-- The page of the table's row `b` at position `k`, among the lanes of the scales. -/
def pg (tbl : main_arg0.ty.Contents (Elt F)) (b k : ℕ) : Fin 768 := ⟨(page tbl b k).val, by have := (page tbl b k).2; omega⟩

/-- What the preparing loop has done after `n` trips: the keys of `n` blocks have their scales and values, the tail is as it was. -/
def Prepped (v1 : BitVec 32) (tbl : main_arg0.ty.Contents (Elt F)) (b : ℕ) (x8 x10 : Vec F S2x64x768 .f32) (f17 : cc0_scratch1.ty.Contents (Elt F))
    (g18 : cc0_scratch2.ty.Contents (Elt F)) (g19 : cc0_scratch3.ty.Contents (Elt F)) (n : ℕ) (f18 : cc0_scratch2.ty.Contents (Elt F)) (f19 : cc0_scratch3.ty.Contents (Elt F)) : Prop :=
  (∀ (g : Fin 2) (k : Fin 13056) (l : Fin 128), k.val < n * 128 → f19 (ix3 g k l) = x8 (ix3 g ⟨k.val % 64, Nat.mod_lt _ (by decide)⟩ (pg tbl b (k.val / 64))))
  ∧ (∀ (g : Fin 2) (k : Fin 13056) (l : Fin 128), k.val < n * 128 → ∀ hk : k.val < 12288, k.val < v1.toNat →
      f18 (ix3 g l k) = valOf (f17 (ix3 g ⟨k.val, hk⟩ l)) (x10 (ix3 g ⟨k.val % 64, Nat.mod_lt _ (by decide)⟩ (pg tbl b (k.val / 64)))))
  ∧ (∀ (g : Fin 2) (k : Fin 13056) (l : Fin 128), 12288 ≤ k.val → f19 (ix3 g k l) = g19 (ix3 g k l))
  ∧ (∀ (g : Fin 2) (k : Fin 13056) (l : Fin 128), 12288 ≤ k.val → f18 (ix3 g l k) = g18 (ix3 g l k))

/-- One trip prepares one more block. -/
theorem prepped_step (v1 : BitVec 32) (tbl : main_arg0.ty.Contents (Elt F)) (b : ℕ) (x8 x10 : Vec F S2x64x768 .f32) (f17 : cc0_scratch1.ty.Contents (Elt F))
    (g18 : cc0_scratch2.ty.Contents (Elt F)) (g19 : cc0_scratch3.ty.Contents (Elt F)) (t : ℕ) (ht : t < 96) (f18 : cc0_scratch2.ty.Contents (Elt F)) (f19 : cc0_scratch3.ty.Contents (Elt F))
    (off off' : Fin 3 → ℕ) (inb inb') (w w' : S1x128x128.Idx → F .f32) (ho : off = ![1, t * 128, 0]) (ho' : off' = ![0, t * 128, 0])
    (coff coff' : Fin 3 → ℕ) (cinb cinb') (u u' : S1x128x128.Idx → F .bf16) (co : coff = ![1, 0, t * 128]) (co' : coff' = ![0, 0, t * 128])
    (hw : ∀ (r l : Fin 128), w (ix3 0 r l) = x8 (ix3 1 ⟨r.val % 64, Nat.mod_lt _ (by decide)⟩ (pg tbl b (t * 2 + r.val / 64))))
    (hw' : ∀ (r l : Fin 128), w' (ix3 0 r l) = x8 (ix3 0 ⟨r.val % 64, Nat.mod_lt _ (by decide)⟩ (pg tbl b (t * 2 + r.val / 64))))
    (hu : ∀ (r l : Fin 128), t * 128 + r.val < v1.toNat → u (ix3 0 l r) = valOf (f17 (ix3 1 ⟨t * 128 + r.val, by omega⟩ l)) (x10 (ix3 1 ⟨r.val % 64, Nat.mod_lt _ (by decide)⟩ (pg tbl b (t * 2 + r.val / 64)))))
    (hu' : ∀ (r l : Fin 128), t * 128 + r.val < v1.toNat → u' (ix3 0 l r) = valOf (f17 (ix3 0 ⟨t * 128 + r.val, by omega⟩ l)) (x10 (ix3 0 ⟨r.val % 64, Nat.mod_lt _ (by decide)⟩ (pg tbl b (t * 2 + r.val / 64)))))
    (H : Prepped v1 tbl b x8 x10 f17 g18 g19 t f18 f19) :
    Prepped v1 tbl b x8 x10 f17 g18 g19 (t + 1)
      ((Memref.whole cc0_scratch2).view.writes (Elt F) f18 [⟨Rect.unit (s := S2x128x13056) coff S1x128x128.size cinb, u⟩, ⟨Rect.unit (s := S2x128x13056) coff' S1x128x128.size cinb', u'⟩])
      ((Memref.whole cc0_scratch3).view.writes (Elt F) f19 [⟨Rect.unit (s := S2x13056x128) off S1x128x128.size inb, w⟩, ⟨Rect.unit (s := S2x13056x128) off' S1x128x128.size inb', w'⟩]) := by
  obtain ⟨H1, H2, H3, H4⟩ := H
  refine ⟨fun g k l hk => ?_, fun g k l hk hk2 hv => ?_, fun g k l hk => ?_, fun g k l hk => ?_⟩
  · refine (congrFun (View.read_whole cc0_scratch3 _) _).symm.trans ?_
    refine (two_rows_gen (Memref.whole cc0_scratch3).view f19 t off off' inb inb' w w' ho ho' g k l).trans ?_
    by_cases h : t * 128 ≤ k.val ∧ k.val < t * 128 + 128
    · rw [dif_pos h]
      have e1 : (k.val - t * 128) % 64 = k.val % 64 := by omega
      have e2 : t * 2 + (k.val - t * 128) / 64 = k.val / 64 := by omega
      have hg := g.2
      by_cases hg1 : g.val = 1
      · have : g = 1 := Fin.ext hg1
        rw [if_pos hg1, hw]; simp only [e1, e2, this]
      · have : g = 0 := Fin.ext (by show g.val = 0; omega)
        rw [if_neg hg1, hw']; simp only [e1, e2, this]
    · rw [dif_neg h]; exact H1 g k l (by omega)
  · refine (congrFun (View.read_whole cc0_scratch2 _) _).symm.trans ?_
    refine (two_cols_gen (Memref.whole cc0_scratch2).view f18 t coff coff' cinb cinb' u u' co co' g k l).trans ?_
    by_cases h : t * 128 ≤ k.val ∧ k.val < t * 128 + 128
    · rw [dif_pos h]
      have e1 : (k.val - t * 128) % 64 = k.val % 64 := by omega
      have e2 : t * 2 + (k.val - t * 128) / 64 = k.val / 64 := by omega
      have e3 : t * 128 + (k.val - t * 128) = k.val := by omega
      have hg := g.2
      by_cases hg1 : g.val = 1
      · have : g = 1 := Fin.ext hg1
        rw [if_pos hg1, hu _ _ (by show t * 128 + (k.val - t * 128) < _; omega)]; simp only [e1, e2, e3, this]
      · have : g = 0 := Fin.ext (by show g.val = 0; omega)
        rw [if_neg hg1, hu' _ _ (by show t * 128 + (k.val - t * 128) < _; omega)]; simp only [e1, e2, e3, this]
    · rw [dif_neg h]; exact H2 g k l (by omega) hk2 hv
  · refine (congrFun (View.read_whole cc0_scratch3 _) _).symm.trans ?_
    refine (two_rows_gen (Memref.whole cc0_scratch3).view f19 t off off' inb inb' w w' ho ho' g k l).trans ?_; rw [dif_neg (by omega)]; exact H3 g k l hk
  · refine (congrFun (View.read_whole cc0_scratch2 _) _).symm.trans ?_
    refine (two_cols_gen (Memref.whole cc0_scratch2).view f18 t coff coff' cinb cinb' u u' co co' g k l).trans ?_; rw [dif_neg (by omega)]; exact H4 g k l hk

/-- The values of a block, transposed and masked, at a key that counts. -/
theorem val_at (v1 : BitVec 32) (hv : 0 ≤ v1.toInt) (t : ℕ) (ht : t < 96) (base : BitVec 32) (hb : base = BitVec.ofNat 32 (t * 128)) (V : FVec F S1x128x128 .fp8e4m3) (S : FVec F S128x128 .f32) (z : FVec F S128x128 .f32) (hio) (hs hs' htr) (r l : Fin 128) (hr : t * 128 + r.val < v1.toNat) :
    shapeCast S1x128x128 (transpose S128x128 [1, 0] (truncf .bf16 (select (cmpi CmpIPredicate.slt (addi (broadcast S128x128 base) (iota .tc S128x128 32 [0] hio)) (broadcast S128x128 v1))
      (mulf (extf .f32 (shapeCast S128x128 V hs) bitsLt_fp8e4m3_f32) S) z) bitsLt_bf16_f32) htr) hs' (ix3 0 l r) = valOf (V (ix3 0 r l)) (S (ix2 r l)) := by
  subst hb
  have hm : IntOp.cmpi CmpIPredicate.slt (IntOp.addi (BitVec.ofNat 32 (t * 128)) (BitVec.ofNat 32 r.val)) v1 = 1#1 := by
    have hr' := r.2
    have h1 : (BitVec.ofNat 32 (t * 128) + BitVec.ofNat 32 r.val).toNat = t * 128 + r.val := by
      rw [BitVec.toNat_add, BitVec.toNat_ofNat, BitVec.toNat_ofNat]; omega
    have h2 : (BitVec.ofNat 32 (t * 128) + BitVec.ofNat 32 r.val).toInt = t * 128 + r.val := by
      rw [BitVec.toInt_eq_toNat_of_lt (by omega), h1]; push_cast; ring
    have h3 : v1.toInt = v1.toNat := by
      rw [BitVec.toInt_eq_toNat_cond] at hv ⊢; split at hv <;> omega
    show BitVec.ofBool (BitVec.slt _ v1) = 1#1
    have : BitVec.slt (IntOp.addi (BitVec.ofNat 32 (t * 128)) (BitVec.ofNat 32 r.val)) v1 = true := by
      show decide ((BitVec.ofNat 32 (t * 128) + BitVec.ofNat 32 r.val).toInt < v1.toInt) = true
      rw [h2, h3]; exact decide_eq_true (by exact_mod_cast hr)
    rw [this]; rfl
  pointwise
  rw [hm]
  rfl
end Cert.KernelIdeal.Hand
-- ==== Proof.KI.Prep.lean ====
/- Preparing the scales and values: one trip reads the scales of two groups of two pages. -/
module

public import proofs.«01_k».proof.Proof.KI.Gath

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources of the proof: the buffers and semaphores, the pipeline's records and the counters of the body's own transfers. -/
local notation "𝕄" => MT nD τ sig Unit (Elt F) ℕ (Pipeline.UD sig nD τ) ℕ

section
variable (c : Dev nD) (i : grid0.Coords) (v1 : BitVec 32) (hw : k0_chk1 i v1) (h1 : k0_cond1 i = 1#1)
variable (a5 : Memref sig .tc .vmem S1x1x1024x128 .fp8e4m3) (h5 : a5.IsWhole) (a6 : Memref sig .tc .vmem S1x1x1x1x1024 .f32) (h6 : a6.IsWhole)
  (a8 : Memref sig .tc .vmem S2x64x768 .f32) (h8 : a8.IsWhole) (a10 : Memref sig .tc .vmem S2x64x768 .f32) (h10 : a10.IsWhole)
  (a11 : Memref sig .tc .vmem S1x2x640x128 .fp8e4m3) (h11 : a11.IsWhole) (a12 : Memref sig .tc .vmem S1x2x640 .f32) (h12 : a12.IsWhole)
  (a13 : Memref sig .tc .vmem S1x2x640x128 .fp8e4m3) (h13 : a13.IsWhole) (a14 : Memref sig .tc .vmem S1x2x640 .f32) (h14 : a14.IsWhole)
  (a15 : Memref sig .tc .vmem S1x64x2048 .bf16) (h15 : a15.IsWhole)
variable (v0 : BitVec 32) (tbl : main_arg0.ty.Contents (Elt F)) (f8 : Buf (Elt F) (a8.view.loc (c : Thread nD τ))) (f10 : Buf (Elt F) (a10.view.loc (c : Thread nD τ)))
  (f17 : cc0_scratch1.ty.Contents (Elt F)) (g18 : cc0_scratch2.ty.Contents (Elt F)) (g19 : cc0_scratch3.ty.Contents (Elt F))

/-- Before a trip of the preparing loop: the tables, the scales and the values as they were, the two prepared arrays filled up to the trip's block. -/
def prepAt (n : ℕ) (_ : Unit) : sProp 𝕄 :=
  iprop(((Memref.whole main_arg0).view.loc (c : Thread nD τ) ↦{fullShare.right} tbl) ∗ (a8.view.loc (c : Thread nD τ) ↦[a8.view.set]{fullShare} f8) ∗ (a10.view.loc (c : Thread nD τ) ↦[a10.view.set]{fullShare} f10) ∗ ((Memref.whole cc0_scratch1).view.loc (c : Thread nD τ) ↦{fullShare} f17)
    ∗ (∃ f18 f19, ((Memref.whole cc0_scratch2).view.loc (c : Thread nD τ) ↦{fullShare} f18) ∗ ((Memref.whole cc0_scratch3).view.loc (c : Thread nD τ) ↦{fullShare} f19) ∗ ⌜Prepped v1 tbl (i 0).val (a8.view.read (Elt F) f8) (a10.view.read (Elt F) f10) f17 g18 g19 n f18 f19⌝))

/-- A page's scales, gathered along the lanes, by the page's place in the table. -/
theorem gath_pg (a8 : Memref sig .tc .vmem S2x64x768 .f32) (f8 : Buf (Elt F) (a8.view.loc (c : Thread nD τ))) (tbl : main_arg0.ty.Contents (Elt F)) (ht : ∀ x, 0 ≤ (tbl x).toInt ∧ (tbl x).toInt < 720)
    (b k : ℕ) (w : BitVec 32) (e : w = tbl (pgIx b k)) (g : Fin 2) (off : BitVec 32 → Fin 3 → ℕ) (inb) (ho : ∀ w : BitVec 32, 0 ≤ w.toInt ∧ w.toInt < 720 → off w = ![g.val, 0, w.toNat / 128 * 128]) (hs hs1 hs2) (r : Fin 64) (l : Fin 128) :
    dynamicGather 1 (shapeCast S64x128 (View.readAt (Elt F) a8.view (Rect.unit (s := S2x64x768) (off w) S1x64x128.size inb).toLoadRect f8) hs)
      (shapeCast S64x128 (shapeCast S64x128x1 (select (cmpi CmpIPredicate.slt (broadcast S64x128 (laneOf w)) (broadcast S64x128 0#32)) (addi (broadcast S64x128 (laneOf w)) (broadcast S64x128 128#32)) (broadcast S64x128 (laneOf w))) hs1) hs2)
      (ix2 r l) = a8.view.read (Elt F) f8 (ix3 (n0 := 2) (n1 := 64) (n2 := 768) g r (pg tbl b k)) := by
  subst e
  have wl : ((tbl (pgIx b k) : BitVec 32)).toNat < 720 := by have := ht (pgIx b k); have := nat_of _ this.1; omega
  refine (gath a8 f8 _ wl g _ inb (ho _ (ht _)) hs hs1 hs2 r l).trans ?_
  have : pg tbl b k = ⟨(tbl (pgIx b k) : BitVec 32).toNat, by omega⟩ := Fin.ext (Nat.mod_eq_of_lt wl)
  rw [this]

set_option maxHeartbeats 4000000 in
/-- One trip of the preparing loop. -/
theorem prep_step (hv : 0 ≤ v1.toInt ∧ v1.toInt ≤ 12288) (ht : ∀ x, 0 ≤ (tbl x).toInt ∧ (tbl x).toInt < 720) (t : Fin (k0_t5_loop v1).trips) (acc : Unit) :
    prepAt c i v1 a8 a10 tbl f8 f10 f17 g18 g19 t.val acc
     ⊢ wp frame (wpE (defs₀ (F := F)) Variants.none (c : Thread nD τ) none) Set.univ (k0_t5_body (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v0 v1 hw h1 t acc) (prepAt c i v1 a8 a10 tbl f8 f10 f17 g18 g19 (t.val + 1)) := by
  have hc6 : ∀ w : S3x192.Idx, k0_chk6 i (tbl w) := fun w => chk6 i _ (ht w)
  have hc7 : ∀ w : S3x192.Idx, k0_chk7 i (tbl w) := fun w => chk7 i _ (ht w)
  have hc8 : ∀ w : S3x192.Idx, k0_chk8 i (tbl w) := fun w => chk8 i _ (ht w)
  have hc9 : ∀ w : S3x192.Idx, k0_chk9 i (tbl w) := fun w => chk9 i _ (ht w)
  have hc10 : ∀ w : S3x192.Idx, k0_chk10 i (tbl w) := fun w => chk10 i _ (ht w)
  have hc11 : ∀ w : S3x192.Idx, k0_chk11 i (tbl w) := fun w => chk11 i _ (ht w)
  have hc12 : ∀ w : S3x192.Idx, k0_chk12 i (tbl w) := fun w => chk12 i _ (ht w)
  have hc13 : ∀ w : S3x192.Idx, k0_chk13 i (tbl w) := fun w => chk13 i _ (ht w)
  unfold prepAt
  iintro ⟨HT, H8, H10, H17, ⟨%f18, %f19, H18, H19, %HP⟩⟩
  unfold k0_t5_body
  sl_exec (disch := (first | apply hc6 | apply hc7 | apply hc8 | apply hc9 | apply hc10 | apply hc11 | apply hc12 | apply hc13))
  sl_step
  isplitl [HT]; · iexact HT
  isplitl [H8]; · iexact H8
  isplitl [H10]; · iexact H10
  isplitl [H17]; · iexact H17
  iexists _, _
  isplitl [H18]; · iexact H18
  isplitl [H19]; · iexact H19
  ipureintro
  have t96 := t5_lt v1 hv t
  have ib : (i 0).val < 3 := (i 0).2
  have e2 : prep_step.sl.r_2 i v1 hw h1 tbl t = tbl (pgIx (i 0).val (t.val * 2)) := word_at tbl _ _ _ _ ib (by omega) (off22_eq v1 hv i t) _
  have e3 : prep_step.sl.r_3 i v1 hw h1 tbl t = tbl (pgIx (i 0).val (t.val * 2 + 1)) := word_at tbl _ _ _ _ ib (by omega) (off24_eq v1 hv i t) _
  have e4 : prep_step.sl.r_4 i v1 hw h1 tbl t = tbl (pgIx (i 0).val (t.val * 2)) := word_at tbl _ _ _ _ ib (by omega) (off29_eq v1 hv i t) _
  have e5 : prep_step.sl.r_5 i v1 hw h1 tbl t = tbl (pgIx (i 0).val (t.val * 2 + 1)) := word_at tbl _ _ _ _ ib (by omega) (off31_eq v1 hv i t) _
  have e6 : prep_step.sl.r_6 i v1 hw h1 tbl t = tbl (pgIx (i 0).val (t.val * 2)) := word_at tbl _ _ _ _ ib (by omega) (off33_eq v1 hv i t) _
  have e7 : prep_step.sl.r_7 i v1 hw h1 tbl t = tbl (pgIx (i 0).val (t.val * 2 + 1)) := word_at tbl _ _ _ _ ib (by omega) (off35_eq v1 hv i t) _
  have e0 : prep_step.sl.r i v1 hw h1 tbl t = tbl (pgIx (i 0).val (t.val * 2)) := word_at tbl _ _ _ _ ib (by omega) (off18_eq v1 hv i t) _
  have e1 : prep_step.sl.r_1 i v1 hw h1 tbl t = tbl (pgIx (i 0).val (t.val * 2 + 1)) := word_at tbl _ _ _ _ ib (by omega) (off20_eq v1 hv i t) _
  have eb : prep_step.sl.v504 v1 t = BitVec.ofNat 32 (t.val * 128) := by
    show Scalar.muli (Scf.iv 0#32 1#32 t.val) 128#32 = _
    rw [mul_iv]
  refine prepped_step v1 tbl (i 0).val _ _ f17 g18 g19 t.val t96 f18 f19 _ _ _ _ _ _ (off37_eq v1 hv t) (off26_eq v1 hv t) _ _ _ _ _ _ (off39_eq v1 hv t) (off28_eq v1 hv t) ?_ ?_ ?_ ?_ HP
  · intro r l
    refine (joined _ _ _ _ r l).trans ?_
    by_cases h : r.val < 64
    · rw [dif_pos h]
      refine (gath_pg c a8 f8 tbl ht (i 0).val (t.val * 2) _ e4 1 _ _ (fun w hw => off30_eq w hw) _ _ _ ⟨r.val, h⟩ l).trans ?_
      have q1 : r.val % 64 = r.val := by omega
      have q2 : t.val * 2 + r.val / 64 = t.val * 2 := by omega
      simp only [q1, q2]
    · rw [dif_neg h]
      refine (gath_pg c a8 f8 tbl ht (i 0).val (t.val * 2 + 1) _ e5 1 _ _ (fun w hw => off30_eq w hw) _ _ _ ⟨r.val - 64, by omega⟩ l).trans ?_
      have q1 : r.val % 64 = r.val - 64 := by omega
      have q2 : t.val * 2 + r.val / 64 = t.val * 2 + 1 := by omega
      simp only [q1, q2]
  · intro r l
    refine (joined _ _ _ _ r l).trans ?_
    by_cases h : r.val < 64
    · rw [dif_pos h]
      refine (gath_pg c a8 f8 tbl ht (i 0).val (t.val * 2) _ e0 0 _ _ (fun w hw => off19_eq w hw) _ _ _ ⟨r.val, h⟩ l).trans ?_
      have q1 : r.val % 64 = r.val := by omega
      have q2 : t.val * 2 + r.val / 64 = t.val * 2 := by omega
      simp only [q1, q2]
    · rw [dif_neg h]
      refine (gath_pg c a8 f8 tbl ht (i 0).val (t.val * 2 + 1) _ e1 0 _ _ (fun w hw => off19_eq w hw) _ _ _ ⟨r.val - 64, by omega⟩ l).trans ?_
      have q1 : r.val % 64 = r.val - 64 := by omega
      have q2 : t.val * 2 + r.val / 64 = t.val * 2 + 1 := by omega
      simp only [q1, q2]
  · intro r l hr
    refine (val_at v1 hv.1 t.val t96 _ ?_ _ _ _ _ _ _ _ r l hr).trans ?_
    · exact eb
    refine congr (congrArg valOf ?_) ?_
    · refine (View.readAt_apply _ _ _).trans (congrArg f17 (funext fun a => Fin.ext ?_))
      have hoff := off38_eq v1 hv t
      match a with
      | ⟨0, _⟩ => show k0_off38 v1 t 0 + 1 * 0 = 1; rw [hoff]; rfl
      | ⟨1, _⟩ => show k0_off38 v1 t 1 + 1 * r.val = t.val * 128 + r.val; rw [hoff]; show t.val * 128 + 1 * r.val = _; omega
      | ⟨2, _⟩ => show k0_off38 v1 t 2 + 1 * l.val = l.val; rw [hoff]; show 0 + 1 * l.val = _; omega
    refine (joined' _ _ _ r l).trans ?_
    by_cases h : r.val < 64
    · rw [dif_pos h]
      refine (gath_pg c a10 f10 tbl ht (i 0).val (t.val * 2) _ e6 1 _ _ (fun w hw => off30_eq w hw) _ _ _ ⟨r.val, h⟩ l).trans ?_
      have q1 : r.val % 64 = r.val := by omega
      have q2 : t.val * 2 + r.val / 64 = t.val * 2 := by omega
      simp only [q1, q2]
    · rw [dif_neg h]
      refine (gath_pg c a10 f10 tbl ht (i 0).val (t.val * 2 + 1) _ e7 1 _ _ (fun w hw => off30_eq w hw) _ _ _ ⟨r.val - 64, by omega⟩ l).trans ?_
      have q1 : r.val % 64 = r.val - 64 := by omega
      have q2 : t.val * 2 + r.val / 64 = t.val * 2 + 1 := by omega
      simp only [q1, q2]
  · intro r l hr
    refine (val_at v1 hv.1 t.val t96 _ ?_ _ _ _ _ _ _ _ r l hr).trans ?_
    · exact eb
    refine congr (congrArg valOf ?_) ?_
    · refine (View.readAt_apply _ _ _).trans (congrArg f17 (funext fun a => Fin.ext ?_))
      have hoff := off27_eq v1 hv t
      match a with
      | ⟨0, _⟩ => show k0_off27 v1 t 0 + 1 * 0 = 0; rw [hoff]; rfl
      | ⟨1, _⟩ => show k0_off27 v1 t 1 + 1 * r.val = t.val * 128 + r.val; rw [hoff]; show t.val * 128 + 1 * r.val = _; omega
      | ⟨2, _⟩ => show k0_off27 v1 t 2 + 1 * l.val = l.val; rw [hoff]; show 0 + 1 * l.val = _; omega
    refine (joined' _ _ _ r l).trans ?_
    by_cases h : r.val < 64
    · rw [dif_pos h]
      refine (gath_pg c a10 f10 tbl ht (i 0).val (t.val * 2) _ e2 0 _ _ (fun w hw => off19_eq w hw) _ _ _ ⟨r.val, h⟩ l).trans ?_
      have q1 : r.val % 64 = r.val := by omega
      have q2 : t.val * 2 + r.val / 64 = t.val * 2 := by omega
      simp only [q1, q2]
    · rw [dif_neg h]
      refine (gath_pg c a10 f10 tbl ht (i 0).val (t.val * 2 + 1) _ e3 0 _ _ (fun w hw => off19_eq w hw) _ _ _ ⟨r.val - 64, by omega⟩ l).trans ?_
      have q1 : r.val % 64 = r.val - 64 := by omega
      have q2 : t.val * 2 + r.val / 64 = t.val * 2 + 1 := by omega
      simp only [q1, q2]
end
end Cert.KernelIdeal.Hand
-- ==== Proof.KI.Tail.lean ====
/- The tail of a sequence: its keys, scales and values as they are written into the scratch arrays. -/
module

public import proofs.«01_k».proof.Proof.KI.Gath

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- Reading a tail written block by block for both groups. -/
theorem tail_cols {κ : Kind} {sp : Space} {e : EltTy} {Val : EltTy → Type} {N M : ℕ} (v : View sig κ sp ⟨3, ![2, M, N]⟩ e) (f : v.ty.Contents Val) (B : ℕ) (hN : B + 640 ≤ N)
    (o15 : Fin 3 → ℕ) (inb15 : ∀ a : Fin 3, o15 a + (![1, M, 128] : Fin 3 → ℕ) a ≤ (![2, M, N] : Fin 3 → ℕ) a) (w15 : (⟨3, ![1, M, 128]⟩ : Shape).Idx → Val e) (h15 : o15 = ![1, 0, B + 640])
    (o14 : Fin 3 → ℕ) (inb14 : ∀ a : Fin 3, o14 a + (![1, M, 128] : Fin 3 → ℕ) a ≤ (![2, M, N] : Fin 3 → ℕ) a) (w14 : (⟨3, ![1, M, 128]⟩ : Shape).Idx → Val e) (h14 : o14 = ![1, 0, B + 512])
    (o13 : Fin 3 → ℕ) (inb13 : ∀ a : Fin 3, o13 a + (![1, M, 128] : Fin 3 → ℕ) a ≤ (![2, M, N] : Fin 3 → ℕ) a) (w13 : (⟨3, ![1, M, 128]⟩ : Shape).Idx → Val e) (h13 : o13 = ![1, 0, B + 384])
    (o12 : Fin 3 → ℕ) (inb12 : ∀ a : Fin 3, o12 a + (![1, M, 128] : Fin 3 → ℕ) a ≤ (![2, M, N] : Fin 3 → ℕ) a) (w12 : (⟨3, ![1, M, 128]⟩ : Shape).Idx → Val e) (h12 : o12 = ![1, 0, B + 256])
    (o11 : Fin 3 → ℕ) (inb11 : ∀ a : Fin 3, o11 a + (![1, M, 128] : Fin 3 → ℕ) a ≤ (![2, M, N] : Fin 3 → ℕ) a) (w11 : (⟨3, ![1, M, 128]⟩ : Shape).Idx → Val e) (h11 : o11 = ![1, 0, B + 128])
    (o10 : Fin 3 → ℕ) (inb10 : ∀ a : Fin 3, o10 a + (![1, M, 128] : Fin 3 → ℕ) a ≤ (![2, M, N] : Fin 3 → ℕ) a) (w10 : (⟨3, ![1, M, 128]⟩ : Shape).Idx → Val e) (h10 : o10 = ![1, 0, B + 0])
    (o05 : Fin 3 → ℕ) (inb05 : ∀ a : Fin 3, o05 a + (![1, M, 128] : Fin 3 → ℕ) a ≤ (![2, M, N] : Fin 3 → ℕ) a) (w05 : (⟨3, ![1, M, 128]⟩ : Shape).Idx → Val e) (h05 : o05 = ![0, 0, B + 640])
    (o04 : Fin 3 → ℕ) (inb04 : ∀ a : Fin 3, o04 a + (![1, M, 128] : Fin 3 → ℕ) a ≤ (![2, M, N] : Fin 3 → ℕ) a) (w04 : (⟨3, ![1, M, 128]⟩ : Shape).Idx → Val e) (h04 : o04 = ![0, 0, B + 512])
    (o03 : Fin 3 → ℕ) (inb03 : ∀ a : Fin 3, o03 a + (![1, M, 128] : Fin 3 → ℕ) a ≤ (![2, M, N] : Fin 3 → ℕ) a) (w03 : (⟨3, ![1, M, 128]⟩ : Shape).Idx → Val e) (h03 : o03 = ![0, 0, B + 384])
    (o02 : Fin 3 → ℕ) (inb02 : ∀ a : Fin 3, o02 a + (![1, M, 128] : Fin 3 → ℕ) a ≤ (![2, M, N] : Fin 3 → ℕ) a) (w02 : (⟨3, ![1, M, 128]⟩ : Shape).Idx → Val e) (h02 : o02 = ![0, 0, B + 256])
    (o01 : Fin 3 → ℕ) (inb01 : ∀ a : Fin 3, o01 a + (![1, M, 128] : Fin 3 → ℕ) a ≤ (![2, M, N] : Fin 3 → ℕ) a) (w01 : (⟨3, ![1, M, 128]⟩ : Shape).Idx → Val e) (h01 : o01 = ![0, 0, B + 128])
    (o00 : Fin 3 → ℕ) (inb00 : ∀ a : Fin 3, o00 a + (![1, M, 128] : Fin 3 → ℕ) a ≤ (![2, M, N] : Fin 3 → ℕ) a) (w00 : (⟨3, ![1, M, 128]⟩ : Shape).Idx → Val e) (h00 : o00 = ![0, 0, B + 0])
    (W : Fin 2 → Fin 640 → Fin M → Val e)
    (e14 : ∀ (r : Fin 128) (l : Fin M), w14 (ix3 (n0 := 1) (n1 := M) (n2 := 128) 0 l r) = W 1 ⟨512 + r.val, by omega⟩ l)
    (e13 : ∀ (r : Fin 128) (l : Fin M), w13 (ix3 (n0 := 1) (n1 := M) (n2 := 128) 0 l r) = W 1 ⟨384 + r.val, by omega⟩ l)
    (e12 : ∀ (r : Fin 128) (l : Fin M), w12 (ix3 (n0 := 1) (n1 := M) (n2 := 128) 0 l r) = W 1 ⟨256 + r.val, by omega⟩ l)
    (e11 : ∀ (r : Fin 128) (l : Fin M), w11 (ix3 (n0 := 1) (n1 := M) (n2 := 128) 0 l r) = W 1 ⟨128 + r.val, by omega⟩ l)
    (e10 : ∀ (r : Fin 128) (l : Fin M), w10 (ix3 (n0 := 1) (n1 := M) (n2 := 128) 0 l r) = W 1 ⟨0 + r.val, by omega⟩ l)
    (e04 : ∀ (r : Fin 128) (l : Fin M), w04 (ix3 (n0 := 1) (n1 := M) (n2 := 128) 0 l r) = W 0 ⟨512 + r.val, by omega⟩ l)
    (e03 : ∀ (r : Fin 128) (l : Fin M), w03 (ix3 (n0 := 1) (n1 := M) (n2 := 128) 0 l r) = W 0 ⟨384 + r.val, by omega⟩ l)
    (e02 : ∀ (r : Fin 128) (l : Fin M), w02 (ix3 (n0 := 1) (n1 := M) (n2 := 128) 0 l r) = W 0 ⟨256 + r.val, by omega⟩ l)
    (e01 : ∀ (r : Fin 128) (l : Fin M), w01 (ix3 (n0 := 1) (n1 := M) (n2 := 128) 0 l r) = W 0 ⟨128 + r.val, by omega⟩ l)
    (e00 : ∀ (r : Fin 128) (l : Fin M), w00 (ix3 (n0 := 1) (n1 := M) (n2 := 128) 0 l r) = W 0 ⟨0 + r.val, by omega⟩ l)
    (g : Fin 2) (j : Fin 640) (l : Fin M) (k : Fin N) (hk : k.val = B + j.val) :
    v.read Val (v.writes Val f [⟨Rect.unit o15 (![1, M, 128] : Fin 3 → ℕ) inb15, w15⟩, ⟨Rect.unit o14 (![1, M, 128] : Fin 3 → ℕ) inb14, w14⟩, ⟨Rect.unit o13 (![1, M, 128] : Fin 3 → ℕ) inb13, w13⟩, ⟨Rect.unit o12 (![1, M, 128] : Fin 3 → ℕ) inb12, w12⟩, ⟨Rect.unit o11 (![1, M, 128] : Fin 3 → ℕ) inb11, w11⟩, ⟨Rect.unit o10 (![1, M, 128] : Fin 3 → ℕ) inb10, w10⟩, ⟨Rect.unit o05 (![1, M, 128] : Fin 3 → ℕ) inb05, w05⟩, ⟨Rect.unit o04 (![1, M, 128] : Fin 3 → ℕ) inb04, w04⟩, ⟨Rect.unit o03 (![1, M, 128] : Fin 3 → ℕ) inb03, w03⟩, ⟨Rect.unit o02 (![1, M, 128] : Fin 3 → ℕ) inb02, w02⟩, ⟨Rect.unit o01 (![1, M, 128] : Fin 3 → ℕ) inb01, w01⟩, ⟨Rect.unit o00 (![1, M, 128] : Fin 3 → ℕ) inb00, w00⟩]) (ix3 g l k) = W g j l := by
  have hg := g.2
  have hj := j.2
  have c0 : g.val = 1 ∨ g.val = 0 := by omega
  have c1 : j.val / 128 = 0 ∨ j.val / 128 = 1 ∨ j.val / 128 = 2 ∨ j.val / 128 = 3 ∨ j.val / 128 = 4 := by omega
  rcases c0 with c0 | c0
  · rcases c1 with c1 | c1 | c1 | c1 | c1
    · refine (View.read_writes_cons_unit_of_not_mem v f inb15 w15 _ _ h15 2 (.inl (show k.val < B + 640 by omega))).trans ?_
      refine (View.read_writes_cons_unit_of_not_mem v f inb14 w14 _ _ h14 2 (.inl (show k.val < B + 512 by omega))).trans ?_
      refine (View.read_writes_cons_unit_of_not_mem v f inb13 w13 _ _ h13 2 (.inl (show k.val < B + 384 by omega))).trans ?_
      refine (View.read_writes_cons_unit_of_not_mem v f inb12 w12 _ _ h12 2 (.inl (show k.val < B + 256 by omega))).trans ?_
      refine (View.read_writes_cons_unit_of_not_mem v f inb11 w11 _ _ h11 2 (.inl (show k.val < B + 128 by omega))).trans ?_
      refine (View.read_writes_cons_unit_of_mem v f inb10 w10 _ _ (ix3 (n0 := 1) (n1 := M) (n2 := 128) 0 l ⟨j.val - 0, by omega⟩) h10 fun a => ?_).trans ?_
      · match a with
        | ⟨0, _⟩ => show g.val = 1 + 0; omega
        | ⟨2, _⟩ => show k.val = B + 0 + (j.val - 0); omega
        | ⟨1, _⟩ => show l.val = 0 + l.val; omega
      · rw [e10]; congr 1; · exact Fin.ext (by show 1 = g.val; omega)
        · exact Fin.ext (by show 0 + (j.val - 0) = j.val; omega)
    · refine (View.read_writes_cons_unit_of_not_mem v f inb15 w15 _ _ h15 2 (.inl (show k.val < B + 640 by omega))).trans ?_
      refine (View.read_writes_cons_unit_of_not_mem v f inb14 w14 _ _ h14 2 (.inl (show k.val < B + 512 by omega))).trans ?_
      refine (View.read_writes_cons_unit_of_not_mem v f inb13 w13 _ _ h13 2 (.inl (show k.val < B + 384 by omega))).trans ?_
      refine (View.read_writes_cons_unit_of_not_mem v f inb12 w12 _ _ h12 2 (.inl (show k.val < B + 256 by omega))).trans ?_
      refine (View.read_writes_cons_unit_of_mem v f inb11 w11 _ _ (ix3 (n0 := 1) (n1 := M) (n2 := 128) 0 l ⟨j.val - 128, by omega⟩) h11 fun a => ?_).trans ?_
      · match a with
        | ⟨0, _⟩ => show g.val = 1 + 0; omega
        | ⟨2, _⟩ => show k.val = B + 128 + (j.val - 128); omega
        | ⟨1, _⟩ => show l.val = 0 + l.val; omega
      · rw [e11]; congr 1; · exact Fin.ext (by show 1 = g.val; omega)
        · exact Fin.ext (by show 128 + (j.val - 128) = j.val; omega)
    · refine (View.read_writes_cons_unit_of_not_mem v f inb15 w15 _ _ h15 2 (.inl (show k.val < B + 640 by omega))).trans ?_
      refine (View.read_writes_cons_unit_of_not_mem v f inb14 w14 _ _ h14 2 (.inl (show k.val < B + 512 by omega))).trans ?_
      refine (View.read_writes_cons_unit_of_not_mem v f inb13 w13 _ _ h13 2 (.inl (show k.val < B + 384 by omega))).trans ?_
      refine (View.read_writes_cons_unit_of_mem v f inb12 w12 _ _ (ix3 (n0 := 1) (n1 := M) (n2 := 128) 0 l ⟨j.val - 256, by omega⟩) h12 fun a => ?_).trans ?_
      · match a with
        | ⟨0, _⟩ => show g.val = 1 + 0; omega
        | ⟨2, _⟩ => show k.val = B + 256 + (j.val - 256); omega
        | ⟨1, _⟩ => show l.val = 0 + l.val; omega
      · rw [e12]; congr 1; · exact Fin.ext (by show 1 = g.val; omega)
        · exact Fin.ext (by show 256 + (j.val - 256) = j.val; omega)
    · refine (View.read_writes_cons_unit_of_not_mem v f inb15 w15 _ _ h15 2 (.inl (show k.val < B + 640 by omega))).trans ?_
      refine (View.read_writes_cons_unit_of_not_mem v f inb14 w14 _ _ h14 2 (.inl (show k.val < B + 512 by omega))).trans ?_
      refine (View.read_writes_cons_unit_of_mem v f inb13 w13 _ _ (ix3 (n0 := 1) (n1 := M) (n2 := 128) 0 l ⟨j.val - 384, by omega⟩) h13 fun a => ?_).trans ?_
      · match a with
        | ⟨0, _⟩ => show g.val = 1 + 0; omega
        | ⟨2, _⟩ => show k.val = B + 384 + (j.val - 384); omega
        | ⟨1, _⟩ => show l.val = 0 + l.val; omega
      · rw [e13]; congr 1; · exact Fin.ext (by show 1 = g.val; omega)
        · exact Fin.ext (by show 384 + (j.val - 384) = j.val; omega)
    · refine (View.read_writes_cons_unit_of_not_mem v f inb15 w15 _ _ h15 2 (.inl (show k.val < B + 640 by omega))).trans ?_
      refine (View.read_writes_cons_unit_of_mem v f inb14 w14 _ _ (ix3 (n0 := 1) (n1 := M) (n2 := 128) 0 l ⟨j.val - 512, by omega⟩) h14 fun a => ?_).trans ?_
      · match a with
        | ⟨0, _⟩ => show g.val = 1 + 0; omega
        | ⟨2, _⟩ => show k.val = B + 512 + (j.val - 512); omega
        | ⟨1, _⟩ => show l.val = 0 + l.val; omega
      · rw [e14]; congr 1; · exact Fin.ext (by show 1 = g.val; omega)
        · exact Fin.ext (by show 512 + (j.val - 512) = j.val; omega)
  · rcases c1 with c1 | c1 | c1 | c1 | c1
    · refine (View.read_writes_cons_unit_of_not_mem v f inb15 w15 _ _ h15 0 (.inl (show g.val < 1 by omega))).trans ?_
      refine (View.read_writes_cons_unit_of_not_mem v f inb14 w14 _ _ h14 0 (.inl (show g.val < 1 by omega))).trans ?_
      refine (View.read_writes_cons_unit_of_not_mem v f inb13 w13 _ _ h13 0 (.inl (show g.val < 1 by omega))).trans ?_
      refine (View.read_writes_cons_unit_of_not_mem v f inb12 w12 _ _ h12 0 (.inl (show g.val < 1 by omega))).trans ?_
      refine (View.read_writes_cons_unit_of_not_mem v f inb11 w11 _ _ h11 0 (.inl (show g.val < 1 by omega))).trans ?_
      refine (View.read_writes_cons_unit_of_not_mem v f inb10 w10 _ _ h10 0 (.inl (show g.val < 1 by omega))).trans ?_
      refine (View.read_writes_cons_unit_of_not_mem v f inb05 w05 _ _ h05 2 (.inl (show k.val < B + 640 by omega))).trans ?_
      refine (View.read_writes_cons_unit_of_not_mem v f inb04 w04 _ _ h04 2 (.inl (show k.val < B + 512 by omega))).trans ?_
      refine (View.read_writes_cons_unit_of_not_mem v f inb03 w03 _ _ h03 2 (.inl (show k.val < B + 384 by omega))).trans ?_
      refine (View.read_writes_cons_unit_of_not_mem v f inb02 w02 _ _ h02 2 (.inl (show k.val < B + 256 by omega))).trans ?_
      refine (View.read_writes_cons_unit_of_not_mem v f inb01 w01 _ _ h01 2 (.inl (show k.val < B + 128 by omega))).trans ?_
      refine (View.read_writes_cons_unit_of_mem v f inb00 w00 _ _ (ix3 (n0 := 1) (n1 := M) (n2 := 128) 0 l ⟨j.val - 0, by omega⟩) h00 fun a => ?_).trans ?_
      · match a with
        | ⟨0, _⟩ => show g.val = 0 + 0; omega
        | ⟨2, _⟩ => show k.val = B + 0 + (j.val - 0); omega
        | ⟨1, _⟩ => show l.val = 0 + l.val; omega
      · rw [e00]; congr 1; · exact Fin.ext (by show 0 = g.val; omega)
        · exact Fin.ext (by show 0 + (j.val - 0) = j.val; omega)
    · refine (View.read_writes_cons_unit_of_not_mem v f inb15 w15 _ _ h15 0 (.inl (show g.val < 1 by omega))).trans ?_
      refine (View.read_writes_cons_unit_of_not_mem v f inb14 w14 _ _ h14 0 (.inl (show g.val < 1 by omega))).trans ?_
      refine (View.read_writes_cons_unit_of_not_mem v f inb13 w13 _ _ h13 0 (.inl (show g.val < 1 by omega))).trans ?_
      refine (View.read_writes_cons_unit_of_not_mem v f inb12 w12 _ _ h12 0 (.inl (show g.val < 1 by omega))).trans ?_
      refine (View.read_writes_cons_unit_of_not_mem v f inb11 w11 _ _ h11 0 (.inl (show g.val < 1 by omega))).trans ?_
      refine (View.read_writes_cons_unit_of_not_mem v f inb10 w10 _ _ h10 0 (.inl (show g.val < 1 by omega))).trans ?_
      refine (View.read_writes_cons_unit_of_not_mem v f inb05 w05 _ _ h05 2 (.inl (show k.val < B + 640 by omega))).trans ?_
      refine (View.read_writes_cons_unit_of_not_mem v f inb04 w04 _ _ h04 2 (.inl (show k.val < B + 512 by omega))).trans ?_
      refine (View.read_writes_cons_unit_of_not_mem v f inb03 w03 _ _ h03 2 (.inl (show k.val < B + 384 by omega))).trans ?_
      refine (View.read_writes_cons_unit_of_not_mem v f inb02 w02 _ _ h02 2 (.inl (show k.val < B + 256 by omega))).trans ?_
      refine (View.read_writes_cons_unit_of_mem v f inb01 w01 _ _ (ix3 (n0 := 1) (n1 := M) (n2 := 128) 0 l ⟨j.val - 128, by omega⟩) h01 fun a => ?_).trans ?_
      · match a with
        | ⟨0, _⟩ => show g.val = 0 + 0; omega
        | ⟨2, _⟩ => show k.val = B + 128 + (j.val - 128); omega
        | ⟨1, _⟩ => show l.val = 0 + l.val; omega
      · rw [e01]; congr 1; · exact Fin.ext (by show 0 = g.val; omega)
        · exact Fin.ext (by show 128 + (j.val - 128) = j.val; omega)
    · refine (View.read_writes_cons_unit_of_not_mem v f inb15 w15 _ _ h15 0 (.inl (show g.val < 1 by omega))).trans ?_
      refine (View.read_writes_cons_unit_of_not_mem v f inb14 w14 _ _ h14 0 (.inl (show g.val < 1 by omega))).trans ?_
      refine (View.read_writes_cons_unit_of_not_mem v f inb13 w13 _ _ h13 0 (.inl (show g.val < 1 by omega))).trans ?_
      refine (View.read_writes_cons_unit_of_not_mem v f inb12 w12 _ _ h12 0 (.inl (show g.val < 1 by omega))).trans ?_
      refine (View.read_writes_cons_unit_of_not_mem v f inb11 w11 _ _ h11 0 (.inl (show g.val < 1 by omega))).trans ?_
      refine (View.read_writes_cons_unit_of_not_mem v f inb10 w10 _ _ h10 0 (.inl (show g.val < 1 by omega))).trans ?_
      refine (View.read_writes_cons_unit_of_not_mem v f inb05 w05 _ _ h05 2 (.inl (show k.val < B + 640 by omega))).trans ?_
      refine (View.read_writes_cons_unit_of_not_mem v f inb04 w04 _ _ h04 2 (.inl (show k.val < B + 512 by omega))).trans ?_
      refine (View.read_writes_cons_unit_of_not_mem v f inb03 w03 _ _ h03 2 (.inl (show k.val < B + 384 by omega))).trans ?_
      refine (View.read_writes_cons_unit_of_mem v f inb02 w02 _ _ (ix3 (n0 := 1) (n1 := M) (n2 := 128) 0 l ⟨j.val - 256, by omega⟩) h02 fun a => ?_).trans ?_
      · match a with
        | ⟨0, _⟩ => show g.val = 0 + 0; omega
        | ⟨2, _⟩ => show k.val = B + 256 + (j.val - 256); omega
        | ⟨1, _⟩ => show l.val = 0 + l.val; omega
      · rw [e02]; congr 1; · exact Fin.ext (by show 0 = g.val; omega)
        · exact Fin.ext (by show 256 + (j.val - 256) = j.val; omega)
    · refine (View.read_writes_cons_unit_of_not_mem v f inb15 w15 _ _ h15 0 (.inl (show g.val < 1 by omega))).trans ?_
      refine (View.read_writes_cons_unit_of_not_mem v f inb14 w14 _ _ h14 0 (.inl (show g.val < 1 by omega))).trans ?_
      refine (View.read_writes_cons_unit_of_not_mem v f inb13 w13 _ _ h13 0 (.inl (show g.val < 1 by omega))).trans ?_
      refine (View.read_writes_cons_unit_of_not_mem v f inb12 w12 _ _ h12 0 (.inl (show g.val < 1 by omega))).trans ?_
      refine (View.read_writes_cons_unit_of_not_mem v f inb11 w11 _ _ h11 0 (.inl (show g.val < 1 by omega))).trans ?_
      refine (View.read_writes_cons_unit_of_not_mem v f inb10 w10 _ _ h10 0 (.inl (show g.val < 1 by omega))).trans ?_
      refine (View.read_writes_cons_unit_of_not_mem v f inb05 w05 _ _ h05 2 (.inl (show k.val < B + 640 by omega))).trans ?_
      refine (View.read_writes_cons_unit_of_not_mem v f inb04 w04 _ _ h04 2 (.inl (show k.val < B + 512 by omega))).trans ?_
      refine (View.read_writes_cons_unit_of_mem v f inb03 w03 _ _ (ix3 (n0 := 1) (n1 := M) (n2 := 128) 0 l ⟨j.val - 384, by omega⟩) h03 fun a => ?_).trans ?_
      · match a with
        | ⟨0, _⟩ => show g.val = 0 + 0; omega
        | ⟨2, _⟩ => show k.val = B + 384 + (j.val - 384); omega
        | ⟨1, _⟩ => show l.val = 0 + l.val; omega
      · rw [e03]; congr 1; · exact Fin.ext (by show 0 = g.val; omega)
        · exact Fin.ext (by show 384 + (j.val - 384) = j.val; omega)
    · refine (View.read_writes_cons_unit_of_not_mem v f inb15 w15 _ _ h15 0 (.inl (show g.val < 1 by omega))).trans ?_
      refine (View.read_writes_cons_unit_of_not_mem v f inb14 w14 _ _ h14 0 (.inl (show g.val < 1 by omega))).trans ?_
      refine (View.read_writes_cons_unit_of_not_mem v f inb13 w13 _ _ h13 0 (.inl (show g.val < 1 by omega))).trans ?_
      refine (View.read_writes_cons_unit_of_not_mem v f inb12 w12 _ _ h12 0 (.inl (show g.val < 1 by omega))).trans ?_
      refine (View.read_writes_cons_unit_of_not_mem v f inb11 w11 _ _ h11 0 (.inl (show g.val < 1 by omega))).trans ?_
      refine (View.read_writes_cons_unit_of_not_mem v f inb10 w10 _ _ h10 0 (.inl (show g.val < 1 by omega))).trans ?_
      refine (View.read_writes_cons_unit_of_not_mem v f inb05 w05 _ _ h05 2 (.inl (show k.val < B + 640 by omega))).trans ?_
      refine (View.read_writes_cons_unit_of_mem v f inb04 w04 _ _ (ix3 (n0 := 1) (n1 := M) (n2 := 128) 0 l ⟨j.val - 512, by omega⟩) h04 fun a => ?_).trans ?_
      · match a with
        | ⟨0, _⟩ => show g.val = 0 + 0; omega
        | ⟨2, _⟩ => show k.val = B + 512 + (j.val - 512); omega
        | ⟨1, _⟩ => show l.val = 0 + l.val; omega
      · rw [e04]; congr 1; · exact Fin.ext (by show 0 = g.val; omega)
        · exact Fin.ext (by show 512 + (j.val - 512) = j.val; omega)

/-- Reading a tail written block by block for both groups. -/
theorem tail_rows {κ : Kind} {sp : Space} {e : EltTy} {Val : EltTy → Type} {N M : ℕ} (v : View sig κ sp ⟨3, ![2, N, M]⟩ e) (f : v.ty.Contents Val) (B : ℕ) (hN : B + 640 ≤ N)
    (o14 : Fin 3 → ℕ) (inb14 : ∀ a : Fin 3, o14 a + (![1, 128, M] : Fin 3 → ℕ) a ≤ (![2, N, M] : Fin 3 → ℕ) a) (w14 : (⟨3, ![1, 128, M]⟩ : Shape).Idx → Val e) (h14 : o14 = ![1, B + 512, 0])
    (o13 : Fin 3 → ℕ) (inb13 : ∀ a : Fin 3, o13 a + (![1, 128, M] : Fin 3 → ℕ) a ≤ (![2, N, M] : Fin 3 → ℕ) a) (w13 : (⟨3, ![1, 128, M]⟩ : Shape).Idx → Val e) (h13 : o13 = ![1, B + 384, 0])
    (o12 : Fin 3 → ℕ) (inb12 : ∀ a : Fin 3, o12 a + (![1, 128, M] : Fin 3 → ℕ) a ≤ (![2, N, M] : Fin 3 → ℕ) a) (w12 : (⟨3, ![1, 128, M]⟩ : Shape).Idx → Val e) (h12 : o12 = ![1, B + 256, 0])
    (o11 : Fin 3 → ℕ) (inb11 : ∀ a : Fin 3, o11 a + (![1, 128, M] : Fin 3 → ℕ) a ≤ (![2, N, M] : Fin 3 → ℕ) a) (w11 : (⟨3, ![1, 128, M]⟩ : Shape).Idx → Val e) (h11 : o11 = ![1, B + 128, 0])
    (o10 : Fin 3 → ℕ) (inb10 : ∀ a : Fin 3, o10 a + (![1, 128, M] : Fin 3 → ℕ) a ≤ (![2, N, M] : Fin 3 → ℕ) a) (w10 : (⟨3, ![1, 128, M]⟩ : Shape).Idx → Val e) (h10 : o10 = ![1, B + 0, 0])
    (o04 : Fin 3 → ℕ) (inb04 : ∀ a : Fin 3, o04 a + (![1, 128, M] : Fin 3 → ℕ) a ≤ (![2, N, M] : Fin 3 → ℕ) a) (w04 : (⟨3, ![1, 128, M]⟩ : Shape).Idx → Val e) (h04 : o04 = ![0, B + 512, 0])
    (o03 : Fin 3 → ℕ) (inb03 : ∀ a : Fin 3, o03 a + (![1, 128, M] : Fin 3 → ℕ) a ≤ (![2, N, M] : Fin 3 → ℕ) a) (w03 : (⟨3, ![1, 128, M]⟩ : Shape).Idx → Val e) (h03 : o03 = ![0, B + 384, 0])
    (o02 : Fin 3 → ℕ) (inb02 : ∀ a : Fin 3, o02 a + (![1, 128, M] : Fin 3 → ℕ) a ≤ (![2, N, M] : Fin 3 → ℕ) a) (w02 : (⟨3, ![1, 128, M]⟩ : Shape).Idx → Val e) (h02 : o02 = ![0, B + 256, 0])
    (o01 : Fin 3 → ℕ) (inb01 : ∀ a : Fin 3, o01 a + (![1, 128, M] : Fin 3 → ℕ) a ≤ (![2, N, M] : Fin 3 → ℕ) a) (w01 : (⟨3, ![1, 128, M]⟩ : Shape).Idx → Val e) (h01 : o01 = ![0, B + 128, 0])
    (o00 : Fin 3 → ℕ) (inb00 : ∀ a : Fin 3, o00 a + (![1, 128, M] : Fin 3 → ℕ) a ≤ (![2, N, M] : Fin 3 → ℕ) a) (w00 : (⟨3, ![1, 128, M]⟩ : Shape).Idx → Val e) (h00 : o00 = ![0, B + 0, 0])
    (W : Fin 2 → Fin 640 → Fin M → Val e)
    (e14 : ∀ (r : Fin 128) (l : Fin M), w14 (ix3 (n0 := 1) (n1 := 128) (n2 := M) 0 r l) = W 1 ⟨512 + r.val, by omega⟩ l)
    (e13 : ∀ (r : Fin 128) (l : Fin M), w13 (ix3 (n0 := 1) (n1 := 128) (n2 := M) 0 r l) = W 1 ⟨384 + r.val, by omega⟩ l)
    (e12 : ∀ (r : Fin 128) (l : Fin M), w12 (ix3 (n0 := 1) (n1 := 128) (n2 := M) 0 r l) = W 1 ⟨256 + r.val, by omega⟩ l)
    (e11 : ∀ (r : Fin 128) (l : Fin M), w11 (ix3 (n0 := 1) (n1 := 128) (n2 := M) 0 r l) = W 1 ⟨128 + r.val, by omega⟩ l)
    (e10 : ∀ (r : Fin 128) (l : Fin M), w10 (ix3 (n0 := 1) (n1 := 128) (n2 := M) 0 r l) = W 1 ⟨0 + r.val, by omega⟩ l)
    (e04 : ∀ (r : Fin 128) (l : Fin M), w04 (ix3 (n0 := 1) (n1 := 128) (n2 := M) 0 r l) = W 0 ⟨512 + r.val, by omega⟩ l)
    (e03 : ∀ (r : Fin 128) (l : Fin M), w03 (ix3 (n0 := 1) (n1 := 128) (n2 := M) 0 r l) = W 0 ⟨384 + r.val, by omega⟩ l)
    (e02 : ∀ (r : Fin 128) (l : Fin M), w02 (ix3 (n0 := 1) (n1 := 128) (n2 := M) 0 r l) = W 0 ⟨256 + r.val, by omega⟩ l)
    (e01 : ∀ (r : Fin 128) (l : Fin M), w01 (ix3 (n0 := 1) (n1 := 128) (n2 := M) 0 r l) = W 0 ⟨128 + r.val, by omega⟩ l)
    (e00 : ∀ (r : Fin 128) (l : Fin M), w00 (ix3 (n0 := 1) (n1 := 128) (n2 := M) 0 r l) = W 0 ⟨0 + r.val, by omega⟩ l)
    (g : Fin 2) (j : Fin 640) (l : Fin M) (k : Fin N) (hk : k.val = B + j.val) :
    v.read Val (v.writes Val f [⟨Rect.unit o14 (![1, 128, M] : Fin 3 → ℕ) inb14, w14⟩, ⟨Rect.unit o13 (![1, 128, M] : Fin 3 → ℕ) inb13, w13⟩, ⟨Rect.unit o12 (![1, 128, M] : Fin 3 → ℕ) inb12, w12⟩, ⟨Rect.unit o11 (![1, 128, M] : Fin 3 → ℕ) inb11, w11⟩, ⟨Rect.unit o10 (![1, 128, M] : Fin 3 → ℕ) inb10, w10⟩, ⟨Rect.unit o04 (![1, 128, M] : Fin 3 → ℕ) inb04, w04⟩, ⟨Rect.unit o03 (![1, 128, M] : Fin 3 → ℕ) inb03, w03⟩, ⟨Rect.unit o02 (![1, 128, M] : Fin 3 → ℕ) inb02, w02⟩, ⟨Rect.unit o01 (![1, 128, M] : Fin 3 → ℕ) inb01, w01⟩, ⟨Rect.unit o00 (![1, 128, M] : Fin 3 → ℕ) inb00, w00⟩]) (ix3 g k l) = W g j l := by
  have hg := g.2
  have hj := j.2
  have c0 : g.val = 1 ∨ g.val = 0 := by omega
  have c1 : j.val / 128 = 0 ∨ j.val / 128 = 1 ∨ j.val / 128 = 2 ∨ j.val / 128 = 3 ∨ j.val / 128 = 4 := by omega
  rcases c0 with c0 | c0
  · rcases c1 with c1 | c1 | c1 | c1 | c1
    · refine (View.read_writes_cons_unit_of_not_mem v f inb14 w14 _ _ h14 1 (.inl (show k.val < B + 512 by omega))).trans ?_
      refine (View.read_writes_cons_unit_of_not_mem v f inb13 w13 _ _ h13 1 (.inl (show k.val < B + 384 by omega))).trans ?_
      refine (View.read_writes_cons_unit_of_not_mem v f inb12 w12 _ _ h12 1 (.inl (show k.val < B + 256 by omega))).trans ?_
      refine (View.read_writes_cons_unit_of_not_mem v f inb11 w11 _ _ h11 1 (.inl (show k.val < B + 128 by omega))).trans ?_
      refine (View.read_writes_cons_unit_of_mem v f inb10 w10 _ _ (ix3 (n0 := 1) (n1 := 128) (n2 := M) 0 ⟨j.val - 0, by omega⟩ l) h10 fun a => ?_).trans ?_
      · match a with
        | ⟨0, _⟩ => show g.val = 1 + 0; omega
        | ⟨1, _⟩ => show k.val = B + 0 + (j.val - 0); omega
        | ⟨2, _⟩ => show l.val = 0 + l.val; omega
      · rw [e10]; congr 1; · exact Fin.ext (by show 1 = g.val; omega)
        · exact Fin.ext (by show 0 + (j.val - 0) = j.val; omega)
    · refine (View.read_writes_cons_unit_of_not_mem v f inb14 w14 _ _ h14 1 (.inl (show k.val < B + 512 by omega))).trans ?_
      refine (View.read_writes_cons_unit_of_not_mem v f inb13 w13 _ _ h13 1 (.inl (show k.val < B + 384 by omega))).trans ?_
      refine (View.read_writes_cons_unit_of_not_mem v f inb12 w12 _ _ h12 1 (.inl (show k.val < B + 256 by omega))).trans ?_
      refine (View.read_writes_cons_unit_of_mem v f inb11 w11 _ _ (ix3 (n0 := 1) (n1 := 128) (n2 := M) 0 ⟨j.val - 128, by omega⟩ l) h11 fun a => ?_).trans ?_
      · match a with
        | ⟨0, _⟩ => show g.val = 1 + 0; omega
        | ⟨1, _⟩ => show k.val = B + 128 + (j.val - 128); omega
        | ⟨2, _⟩ => show l.val = 0 + l.val; omega
      · rw [e11]; congr 1; · exact Fin.ext (by show 1 = g.val; omega)
        · exact Fin.ext (by show 128 + (j.val - 128) = j.val; omega)
    · refine (View.read_writes_cons_unit_of_not_mem v f inb14 w14 _ _ h14 1 (.inl (show k.val < B + 512 by omega))).trans ?_
      refine (View.read_writes_cons_unit_of_not_mem v f inb13 w13 _ _ h13 1 (.inl (show k.val < B + 384 by omega))).trans ?_
      refine (View.read_writes_cons_unit_of_mem v f inb12 w12 _ _ (ix3 (n0 := 1) (n1 := 128) (n2 := M) 0 ⟨j.val - 256, by omega⟩ l) h12 fun a => ?_).trans ?_
      · match a with
        | ⟨0, _⟩ => show g.val = 1 + 0; omega
        | ⟨1, _⟩ => show k.val = B + 256 + (j.val - 256); omega
        | ⟨2, _⟩ => show l.val = 0 + l.val; omega
      · rw [e12]; congr 1; · exact Fin.ext (by show 1 = g.val; omega)
        · exact Fin.ext (by show 256 + (j.val - 256) = j.val; omega)
    · refine (View.read_writes_cons_unit_of_not_mem v f inb14 w14 _ _ h14 1 (.inl (show k.val < B + 512 by omega))).trans ?_
      refine (View.read_writes_cons_unit_of_mem v f inb13 w13 _ _ (ix3 (n0 := 1) (n1 := 128) (n2 := M) 0 ⟨j.val - 384, by omega⟩ l) h13 fun a => ?_).trans ?_
      · match a with
        | ⟨0, _⟩ => show g.val = 1 + 0; omega
        | ⟨1, _⟩ => show k.val = B + 384 + (j.val - 384); omega
        | ⟨2, _⟩ => show l.val = 0 + l.val; omega
      · rw [e13]; congr 1; · exact Fin.ext (by show 1 = g.val; omega)
        · exact Fin.ext (by show 384 + (j.val - 384) = j.val; omega)
    · refine (View.read_writes_cons_unit_of_mem v f inb14 w14 _ _ (ix3 (n0 := 1) (n1 := 128) (n2 := M) 0 ⟨j.val - 512, by omega⟩ l) h14 fun a => ?_).trans ?_
      · match a with
        | ⟨0, _⟩ => show g.val = 1 + 0; omega
        | ⟨1, _⟩ => show k.val = B + 512 + (j.val - 512); omega
        | ⟨2, _⟩ => show l.val = 0 + l.val; omega
      · rw [e14]; congr 1; · exact Fin.ext (by show 1 = g.val; omega)
        · exact Fin.ext (by show 512 + (j.val - 512) = j.val; omega)
  · rcases c1 with c1 | c1 | c1 | c1 | c1
    · refine (View.read_writes_cons_unit_of_not_mem v f inb14 w14 _ _ h14 0 (.inl (show g.val < 1 by omega))).trans ?_
      refine (View.read_writes_cons_unit_of_not_mem v f inb13 w13 _ _ h13 0 (.inl (show g.val < 1 by omega))).trans ?_
      refine (View.read_writes_cons_unit_of_not_mem v f inb12 w12 _ _ h12 0 (.inl (show g.val < 1 by omega))).trans ?_
      refine (View.read_writes_cons_unit_of_not_mem v f inb11 w11 _ _ h11 0 (.inl (show g.val < 1 by omega))).trans ?_
      refine (View.read_writes_cons_unit_of_not_mem v f inb10 w10 _ _ h10 0 (.inl (show g.val < 1 by omega))).trans ?_
      refine (View.read_writes_cons_unit_of_not_mem v f inb04 w04 _ _ h04 1 (.inl (show k.val < B + 512 by omega))).trans ?_
      refine (View.read_writes_cons_unit_of_not_mem v f inb03 w03 _ _ h03 1 (.inl (show k.val < B + 384 by omega))).trans ?_
      refine (View.read_writes_cons_unit_of_not_mem v f inb02 w02 _ _ h02 1 (.inl (show k.val < B + 256 by omega))).trans ?_
      refine (View.read_writes_cons_unit_of_not_mem v f inb01 w01 _ _ h01 1 (.inl (show k.val < B + 128 by omega))).trans ?_
      refine (View.read_writes_cons_unit_of_mem v f inb00 w00 _ _ (ix3 (n0 := 1) (n1 := 128) (n2 := M) 0 ⟨j.val - 0, by omega⟩ l) h00 fun a => ?_).trans ?_
      · match a with
        | ⟨0, _⟩ => show g.val = 0 + 0; omega
        | ⟨1, _⟩ => show k.val = B + 0 + (j.val - 0); omega
        | ⟨2, _⟩ => show l.val = 0 + l.val; omega
      · rw [e00]; congr 1; · exact Fin.ext (by show 0 = g.val; omega)
        · exact Fin.ext (by show 0 + (j.val - 0) = j.val; omega)
    · refine (View.read_writes_cons_unit_of_not_mem v f inb14 w14 _ _ h14 0 (.inl (show g.val < 1 by omega))).trans ?_
      refine (View.read_writes_cons_unit_of_not_mem v f inb13 w13 _ _ h13 0 (.inl (show g.val < 1 by omega))).trans ?_
      refine (View.read_writes_cons_unit_of_not_mem v f inb12 w12 _ _ h12 0 (.inl (show g.val < 1 by omega))).trans ?_
      refine (View.read_writes_cons_unit_of_not_mem v f inb11 w11 _ _ h11 0 (.inl (show g.val < 1 by omega))).trans ?_
      refine (View.read_writes_cons_unit_of_not_mem v f inb10 w10 _ _ h10 0 (.inl (show g.val < 1 by omega))).trans ?_
      refine (View.read_writes_cons_unit_of_not_mem v f inb04 w04 _ _ h04 1 (.inl (show k.val < B + 512 by omega))).trans ?_
      refine (View.read_writes_cons_unit_of_not_mem v f inb03 w03 _ _ h03 1 (.inl (show k.val < B + 384 by omega))).trans ?_
      refine (View.read_writes_cons_unit_of_not_mem v f inb02 w02 _ _ h02 1 (.inl (show k.val < B + 256 by omega))).trans ?_
      refine (View.read_writes_cons_unit_of_mem v f inb01 w01 _ _ (ix3 (n0 := 1) (n1 := 128) (n2 := M) 0 ⟨j.val - 128, by omega⟩ l) h01 fun a => ?_).trans ?_
      · match a with
        | ⟨0, _⟩ => show g.val = 0 + 0; omega
        | ⟨1, _⟩ => show k.val = B + 128 + (j.val - 128); omega
        | ⟨2, _⟩ => show l.val = 0 + l.val; omega
      · rw [e01]; congr 1; · exact Fin.ext (by show 0 = g.val; omega)
        · exact Fin.ext (by show 128 + (j.val - 128) = j.val; omega)
    · refine (View.read_writes_cons_unit_of_not_mem v f inb14 w14 _ _ h14 0 (.inl (show g.val < 1 by omega))).trans ?_
      refine (View.read_writes_cons_unit_of_not_mem v f inb13 w13 _ _ h13 0 (.inl (show g.val < 1 by omega))).trans ?_
      refine (View.read_writes_cons_unit_of_not_mem v f inb12 w12 _ _ h12 0 (.inl (show g.val < 1 by omega))).trans ?_
      refine (View.read_writes_cons_unit_of_not_mem v f inb11 w11 _ _ h11 0 (.inl (show g.val < 1 by omega))).trans ?_
      refine (View.read_writes_cons_unit_of_not_mem v f inb10 w10 _ _ h10 0 (.inl (show g.val < 1 by omega))).trans ?_
      refine (View.read_writes_cons_unit_of_not_mem v f inb04 w04 _ _ h04 1 (.inl (show k.val < B + 512 by omega))).trans ?_
      refine (View.read_writes_cons_unit_of_not_mem v f inb03 w03 _ _ h03 1 (.inl (show k.val < B + 384 by omega))).trans ?_
      refine (View.read_writes_cons_unit_of_mem v f inb02 w02 _ _ (ix3 (n0 := 1) (n1 := 128) (n2 := M) 0 ⟨j.val - 256, by omega⟩ l) h02 fun a => ?_).trans ?_
      · match a with
        | ⟨0, _⟩ => show g.val = 0 + 0; omega
        | ⟨1, _⟩ => show k.val = B + 256 + (j.val - 256); omega
        | ⟨2, _⟩ => show l.val = 0 + l.val; omega
      · rw [e02]; congr 1; · exact Fin.ext (by show 0 = g.val; omega)
        · exact Fin.ext (by show 256 + (j.val - 256) = j.val; omega)
    · refine (View.read_writes_cons_unit_of_not_mem v f inb14 w14 _ _ h14 0 (.inl (show g.val < 1 by omega))).trans ?_
      refine (View.read_writes_cons_unit_of_not_mem v f inb13 w13 _ _ h13 0 (.inl (show g.val < 1 by omega))).trans ?_
      refine (View.read_writes_cons_unit_of_not_mem v f inb12 w12 _ _ h12 0 (.inl (show g.val < 1 by omega))).trans ?_
      refine (View.read_writes_cons_unit_of_not_mem v f inb11 w11 _ _ h11 0 (.inl (show g.val < 1 by omega))).trans ?_
      refine (View.read_writes_cons_unit_of_not_mem v f inb10 w10 _ _ h10 0 (.inl (show g.val < 1 by omega))).trans ?_
      refine (View.read_writes_cons_unit_of_not_mem v f inb04 w04 _ _ h04 1 (.inl (show k.val < B + 512 by omega))).trans ?_
      refine (View.read_writes_cons_unit_of_mem v f inb03 w03 _ _ (ix3 (n0 := 1) (n1 := 128) (n2 := M) 0 ⟨j.val - 384, by omega⟩ l) h03 fun a => ?_).trans ?_
      · match a with
        | ⟨0, _⟩ => show g.val = 0 + 0; omega
        | ⟨1, _⟩ => show k.val = B + 384 + (j.val - 384); omega
        | ⟨2, _⟩ => show l.val = 0 + l.val; omega
      · rw [e03]; congr 1; · exact Fin.ext (by show 0 = g.val; omega)
        · exact Fin.ext (by show 384 + (j.val - 384) = j.val; omega)
    · refine (View.read_writes_cons_unit_of_not_mem v f inb14 w14 _ _ h14 0 (.inl (show g.val < 1 by omega))).trans ?_
      refine (View.read_writes_cons_unit_of_not_mem v f inb13 w13 _ _ h13 0 (.inl (show g.val < 1 by omega))).trans ?_
      refine (View.read_writes_cons_unit_of_not_mem v f inb12 w12 _ _ h12 0 (.inl (show g.val < 1 by omega))).trans ?_
      refine (View.read_writes_cons_unit_of_not_mem v f inb11 w11 _ _ h11 0 (.inl (show g.val < 1 by omega))).trans ?_
      refine (View.read_writes_cons_unit_of_not_mem v f inb10 w10 _ _ h10 0 (.inl (show g.val < 1 by omega))).trans ?_
      refine (View.read_writes_cons_unit_of_mem v f inb04 w04 _ _ (ix3 (n0 := 1) (n1 := 128) (n2 := M) 0 ⟨j.val - 512, by omega⟩ l) h04 fun a => ?_).trans ?_
      · match a with
        | ⟨0, _⟩ => show g.val = 0 + 0; omega
        | ⟨1, _⟩ => show k.val = B + 512 + (j.val - 512); omega
        | ⟨2, _⟩ => show l.val = 0 + l.val; omega
      · rw [e04]; congr 1; · exact Fin.ext (by show 0 = g.val; omega)
        · exact Fin.ext (by show 512 + (j.val - 512) = j.val; omega)

theorem kpc0 {α : Type} (Y : S1x1x128.Idx → α) (h1 h2 h3 h4 h5) (r l : Fin 128) :
    (shapeCast S1x128x128 (transpose S128x128 [1, 0] (broadcastTo S128x128 (shapeCast S1x128 (shapeCast S1x128 Y h1) h2) h3) h4) h5 : S1x128x128.Idx → α) (ix3 0 r l) = Y (ix3 0 0 r) := by
  pointwise

theorem vpc0 (X : S1x1x128x128.Idx → F .fp8e4m3) (Y : S1x1x128.Idx → F .f32) (h1 h2 h3 h4 h5 h6 h7) (r l : Fin 128) :
    shapeCast S1x128x128 (transpose S128x128 [1, 0] (truncf (F := F) .bf16 (mulf (extf .f32 (shapeCast S128x128 X h6) bitsLt_fp8e4m3_f32) (transpose S128x128 [1, 0] (broadcastTo S128x128 (shapeCast S1x128 (shapeCast S1x128 Y h1) h2) h3) h4)) bitsLt_bf16_f32) h7) h5 (ix3 0 l r)
      = valOf (X (ix4 0 0 r l)) (Y (ix3 0 0 r)) := by
  pointwise
  rfl

theorem xpc0 {α : Type} (X : S1x1x640x128.Idx → α) (h1 h2) (r : Fin 640) (l : Fin 128) :
    (shapeCast S1x640x128 (shapeCast S640x128 X h1) h2 : S1x640x128.Idx → α) (ix3 0 r l) = X (ix4 0 0 r l) := by
  pointwise

variable {c : Dev nD}

/-- A block of the tail's scales is that block of the array, read along the rows. -/
theorem rd3 (a : Memref sig .tc .vmem S1x2x640 .f32) (f : Buf (Elt F) (a.view.loc (c : Thread nD τ))) (g : Fin 2) (B : ℕ) (hB : B ≤ 512) (off : Fin 3 → ℕ) (inb) (ho : off = ![0, g.val, B]) (r : Fin 128) :
    View.readAt (Elt F) a.view (Rect.unit (s := S1x2x640) off S1x1x128.size inb).toLoadRect f (ix3 0 0 r) = a.view.read (Elt F) f (ix3 0 g ⟨B + r.val, by omega⟩) := by
  subst ho
  rw [View.readAt_apply]
  refine congrArg (a.view.read (Elt F) f) (funext fun a => Fin.ext ?_)
  match a with
  | ⟨0, _⟩ => rfl
  | ⟨1, _⟩ => show g.val + 1 * 0 = g.val; omega
  | ⟨2, _⟩ => show B + 1 * r.val = B + r.val; omega

theorem rd4 (a : Memref sig .tc .vmem S1x2x640x128 .fp8e4m3) (f : Buf (Elt F) (a.view.loc (c : Thread nD τ))) (g : Fin 2) (B : ℕ) (hB : B ≤ 512) (off : Fin 4 → ℕ) (inb) (ho : off = ![0, g.val, B, 0]) (r l : Fin 128) :
    View.readAt (Elt F) a.view (Rect.unit (s := S1x2x640x128) off S1x1x128x128.size inb).toLoadRect f (ix4 0 0 r l) = a.view.read (Elt F) f (ix4 0 g ⟨B + r.val, by omega⟩ l) := by
  subst ho
  rw [View.readAt_apply]
  refine congrArg (a.view.read (Elt F) f) (funext fun a => Fin.ext ?_)
  match a with
  | ⟨0, _⟩ => rfl
  | ⟨1, _⟩ => show g.val + 1 * 0 = g.val; omega
  | ⟨2, _⟩ => show B + 1 * r.val = B + r.val; omega
  | ⟨3, _⟩ => show 0 + 1 * l.val = l.val; omega

theorem rd4w (a : Memref sig .tc .vmem S1x2x640x128 .fp8e4m3) (f : Buf (Elt F) (a.view.loc (c : Thread nD τ))) (g : Fin 2) (off : Fin 4 → ℕ) (inb) (ho : off = ![0, g.val, 0, 0]) (r : Fin 640) (l : Fin 128) :
    View.readAt (Elt F) a.view (Rect.unit (s := S1x2x640x128) off S1x1x640x128.size inb).toLoadRect f (ix4 0 0 r l) = a.view.read (Elt F) f (ix4 0 g r l) := by
  subst ho
  rw [View.readAt_apply]
  refine congrArg (a.view.read (Elt F) f) (funext fun a => Fin.ext ?_)
  match a with
  | ⟨0, _⟩ => rfl
  | ⟨1, _⟩ => show g.val + 1 * 0 = g.val; omega
  | ⟨2, _⟩ => show 0 + 1 * r.val = r.val; omega
  | ⟨3, _⟩ => show 0 + 1 * l.val = l.val; omega

/-- The scales of a block of the tail. -/
theorem kpc (a : Memref sig .tc .vmem S1x2x640 .f32) (f : Buf (Elt F) (a.view.loc (c : Thread nD τ))) (g : Fin 2) (B : ℕ) (hB : B ≤ 512) (off : Fin 3 → ℕ) (inb) (ho : off = ![0, g.val, B]) (h1 h2 h3 h4 h5) (r l : Fin 128) :
    shapeCast S1x128x128 (transpose S128x128 [1, 0] (broadcastTo S128x128 (shapeCast S1x128 (shapeCast S1x128 (View.readAt (Elt F) a.view (Rect.unit (s := S1x2x640) off S1x1x128.size inb).toLoadRect f) h1) h2) h3) h4) h5 (ix3 0 r l)
      = a.view.read (Elt F) f (ix3 0 g ⟨B + r.val, by omega⟩) :=
  (kpc0 _ h1 h2 h3 h4 h5 r l).trans (rd3 a f g B hB off inb ho r)

/-- The values of a block of the tail. -/
theorem vpc (a : Memref sig .tc .vmem S1x2x640x128 .fp8e4m3) (f : Buf (Elt F) (a.view.loc (c : Thread nD τ))) (b : Memref sig .tc .vmem S1x2x640 .f32) (f' : Buf (Elt F) (b.view.loc (c : Thread nD τ)))
    (g : Fin 2) (B : ℕ) (hB : B ≤ 512) (off : Fin 4 → ℕ) (inb) (ho : off = ![0, g.val, B, 0]) (off' : Fin 3 → ℕ) (inb') (ho' : off' = ![0, g.val, B]) (h1 h2 h3 h4 h5 h6 h7) (r l : Fin 128) :
    shapeCast S1x128x128 (transpose S128x128 [1, 0] (truncf (F := F) .bf16 (mulf (extf .f32 (shapeCast S128x128 (View.readAt (Elt F) a.view (Rect.unit (s := S1x2x640x128) off S1x1x128x128.size inb).toLoadRect f) h6) bitsLt_fp8e4m3_f32)
      (transpose S128x128 [1, 0] (broadcastTo S128x128 (shapeCast S1x128 (shapeCast S1x128 (View.readAt (Elt F) b.view (Rect.unit (s := S1x2x640) off' S1x1x128.size inb').toLoadRect f') h1) h2) h3) h4)) bitsLt_bf16_f32) h7) h5 (ix3 0 l r)
      = valOf (a.view.read (Elt F) f (ix4 0 g ⟨B + r.val, by omega⟩ l)) (b.view.read (Elt F) f' (ix3 0 g ⟨B + r.val, by omega⟩)) :=
  (vpc0 _ _ h1 h2 h3 h4 h5 h6 h7 r l).trans (congrArg₂ valOf (rd4 a f g B hB off inb ho r l) (rd3 b f' g B hB off' inb' ho' r))

/-- The keys of a group's tail. -/
theorem xpc (a : Memref sig .tc .vmem S1x2x640x128 .fp8e4m3) (f : Buf (Elt F) (a.view.loc (c : Thread nD τ))) (g : Fin 2) (off : Fin 4 → ℕ) (inb) (ho : off = ![0, g.val, 0, 0]) (h1 h2) (r : Fin 640) (l : Fin 128) :
    shapeCast S1x640x128 (shapeCast S640x128 (View.readAt (Elt F) a.view (Rect.unit (s := S1x2x640x128) off S1x1x640x128.size inb).toLoadRect f) h1) h2 (ix3 0 r l)
      = a.view.read (Elt F) f (ix4 0 g r l) :=
  (xpc0 _ h1 h2 r l).trans (rd4w a f g off inb ho r l)

/-- Reading the two long blocks of keys written one per group. -/
theorem two_long {κ : Kind} {sp : Space} {e : EltTy} {Val : EltTy → Type} {N M : ℕ} (v : View sig κ sp ⟨3, ![2, N, M]⟩ e) (f : v.ty.Contents Val) (B : ℕ) (off off' : Fin 3 → ℕ)
    (inb : ∀ a : Fin 3, off a + (![1, 640, M] : Fin 3 → ℕ) a ≤ (![2, N, M] : Fin 3 → ℕ) a) (inb' : ∀ a : Fin 3, off' a + (![1, 640, M] : Fin 3 → ℕ) a ≤ (![2, N, M] : Fin 3 → ℕ) a)
    (w w' : (⟨3, ![1, 640, M]⟩ : Shape).Idx → Val e) (ho : off = ![1, B, 0]) (ho' : off' = ![0, B, 0]) (W : Fin 2 → Fin 640 → Fin M → Val e)
    (e1 : ∀ r l, w (ix3 (n0 := 1) (n1 := 640) (n2 := M) 0 r l) = W 1 r l) (e0 : ∀ r l, w' (ix3 (n0 := 1) (n1 := 640) (n2 := M) 0 r l) = W 0 r l) (g : Fin 2) (k : Fin N) (l : Fin M) :
    (k.val < B → v.read Val (v.writes Val f [⟨Rect.unit off (![1, 640, M] : Fin 3 → ℕ) inb, w⟩, ⟨Rect.unit off' (![1, 640, M] : Fin 3 → ℕ) inb', w'⟩]) (ix3 g k l) = v.read Val f (ix3 g k l))
    ∧ (∀ j : Fin 640, k.val = B + j.val → v.read Val (v.writes Val f [⟨Rect.unit off (![1, 640, M] : Fin 3 → ℕ) inb, w⟩, ⟨Rect.unit off' (![1, 640, M] : Fin 3 → ℕ) inb', w'⟩]) (ix3 g k l) = W g j l) := by
  have hg := g.2
  constructor
  · intro h
    refine (View.read_writes_cons_unit_of_not_mem v f inb w _ _ ho 1 (.inl (show k.val < B by omega))).trans ?_
    exact View.read_writes_cons_unit_of_not_mem v f inb' w' [] _ ho' 1 (.inl (show k.val < B by omega))
  · intro j h
    by_cases h1 : g.val = 1
    · refine (View.read_writes_cons_unit_of_mem v f inb w _ _ (ix3 (n0 := 1) (n1 := 640) (n2 := M) 0 j l) ho fun a => ?_).trans ?_
      · match a with
        | ⟨0, _⟩ => show g.val = 1 + 0; omega
        | ⟨1, _⟩ => show k.val = B + j.val; omega
        | ⟨2, _⟩ => show l.val = 0 + l.val; omega
      · rw [e1]; congr 1; exact Fin.ext h1.symm
    · refine (View.read_writes_cons_unit_of_not_mem v f inb w _ _ ho 0 (.inl (show g.val < 1 by omega))).trans ?_
      refine (View.read_writes_cons_unit_of_mem v f inb' w' _ _ (ix3 (n0 := 1) (n1 := 640) (n2 := M) 0 j l) ho' fun a => ?_).trans ?_
      · match a with
        | ⟨0, _⟩ => show g.val = 0 + 0; omega
        | ⟨1, _⟩ => show k.val = B + j.val; omega
        | ⟨2, _⟩ => show l.val = 0 + l.val; omega
      · rw [e0]; congr 1; exact Fin.ext (by show 0 = g.val; omega)
end Cert.KernelIdeal.Hand
-- ==== Proof.KI.Fetch.lean ====
/- The first part of a grid point: on the first block of a sequence the scratch arrays are filled. -/
module

public import proofs.«01_k».proof.Proof.KI.Prep
public import proofs.«01_k».proof.Proof.KI.Tail
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources of the proof: the buffers and semaphores, the pipeline's records and the counters of the body's own transfers. -/
local notation "𝕄" => MT nD τ sig Unit (Elt F) ℕ (Pipeline.UD sig nD τ) ℕ

section
variable (c : Dev nD) (i : grid0.Coords)
variable (a5 : Memref sig .tc .vmem S1x1x1024x128 .fp8e4m3) (h5 : a5.IsWhole) (a6 : Memref sig .tc .vmem S1x1x1x1x1024 .f32) (h6 : a6.IsWhole)
  (a8 : Memref sig .tc .vmem S2x64x768 .f32) (h8 : a8.IsWhole) (a10 : Memref sig .tc .vmem S2x64x768 .f32) (h10 : a10.IsWhole)
  (a11 : Memref sig .tc .vmem S1x2x640x128 .fp8e4m3) (h11 : a11.IsWhole) (a12 : Memref sig .tc .vmem S1x2x640 .f32) (h12 : a12.IsWhole)
  (a13 : Memref sig .tc .vmem S1x2x640x128 .fp8e4m3) (h13 : a13.IsWhole) (a14 : Memref sig .tc .vmem S1x2x640 .f32) (h14 : a14.IsWhole)
  (a15 : Memref sig .tc .vmem S1x64x2048 .bf16) (h15 : a15.IsWhole)
variable (tbl : main_arg0.ty.Contents (Elt F)) (pl : main_arg1.ty.Contents (Elt F))
  (pk : main_arg4.ty.Contents (Elt F)) (pv : main_arg6.ty.Contents (Elt F))
  (f5 : Buf (Elt F) (a5.view.loc (c : Thread nD τ))) (f6 : Buf (Elt F) (a6.view.loc (c : Thread nD τ)))
  (f8 : Buf (Elt F) (a8.view.loc (c : Thread nD τ))) (f10 : Buf (Elt F) (a10.view.loc (c : Thread nD τ)))
  (f11 : Buf (Elt F) (a11.view.loc (c : Thread nD τ))) (f12 : Buf (Elt F) (a12.view.loc (c : Thread nD τ)))
  (f13 : Buf (Elt F) (a13.view.loc (c : Thread nD τ))) (f14 : Buf (Elt F) (a14.view.loc (c : Thread nD τ)))

/-- The length of the grid point's sequence. -/
def plen (pl : main_arg1.ty.Contents (Elt F)) : BitVec 32 := pl (fun a => match a with | ⟨0, _⟩ => ⟨(i 0).val, (i 0).2⟩)

/-- What the scratch arrays hold of a sequence once filled: the codes, scales and values of its stored keys, and of its tail. -/
structure Filled (tbl : main_arg0.ty.Contents (Elt F)) (n : BitVec 32) (pk : main_arg4.ty.Contents (Elt F)) (pv : main_arg6.ty.Contents (Elt F)) (b : ℕ)
    (x8 : Vec F S2x64x768 .f32) (x10 : Vec F S2x64x768 .f32) (x11 : Vec F S1x2x640x128 .fp8e4m3) (x12 : Vec F S1x2x640 .f32) (x13 : Vec F S1x2x640x128 .fp8e4m3) (x14 : Vec F S1x2x640 .f32)
    (f16 : cc0_scratch0.ty.Contents (Elt F)) (f18 : cc0_scratch2.ty.Contents (Elt F)) (f19 : cc0_scratch3.ty.Contents (Elt F)) : Prop where
  keyP : ∀ (g : Fin 2) (k : Fin 13056) (l : Fin 128), k.val < n.toNat → f16 (ix3 g k l) = pk (ix4 (page tbl b (k.val / 64)) g ⟨k.val % 64, Nat.mod_lt _ (by decide)⟩ l)
  keyT : ∀ (g : Fin 2) (k : Fin 13056) (l : Fin 128) (j : Fin 640), k.val = 12288 + j.val → f16 (ix3 g k l) = x11 (ix4 0 g j l)
  sclP : ∀ (g : Fin 2) (k : Fin 13056) (l : Fin 128), k.val < n.toNat → f19 (ix3 g k l) = x8 (ix3 g ⟨k.val % 64, Nat.mod_lt _ (by decide)⟩ (pg tbl b (k.val / 64)))
  sclT : ∀ (g : Fin 2) (k : Fin 13056) (l : Fin 128) (j : Fin 640), k.val = 12288 + j.val → f19 (ix3 g k l) = x12 (ix3 0 g j)
  valP : ∀ (g : Fin 2) (k : Fin 13056) (l : Fin 128), k.val < n.toNat → f18 (ix3 g l k) = valOf (pv (ix4 (page tbl b (k.val / 64)) g ⟨k.val % 64, Nat.mod_lt _ (by decide)⟩ l)) (x10 (ix3 g ⟨k.val % 64, Nat.mod_lt _ (by decide)⟩ (pg tbl b (k.val / 64))))
  valT : ∀ (g : Fin 2) (k : Fin 13056) (l : Fin 128) (j : Fin 640), k.val = 12288 + j.val → f18 (ix3 g l k) = valOf (x13 (ix4 0 g j l)) (x14 (ix3 0 g j))

theorem filled_lt (N n : ℕ) (tbl : main_arg0.ty.Contents (Elt F)) (b : ℕ) (pool : (⟨4, ![720, 2, 64, 128]⟩ : Shape).Idx → Elt F .fp8e4m3) (f : (⟨3, ![2, N, 128]⟩ : Shape).Idx → Elt F .fp8e4m3)
    (g : Fin 2) (k : Fin N) (l : Fin 128) (h : k.val / 64 < n) : filled N n tbl b pool f (ix3 g k l) = pool (ix4 (page tbl b (k.val / 64)) g ⟨k.val % 64, Nat.mod_lt _ (by decide)⟩ l) :=
  if_pos h

/-- What the first part of a grid point yields: the grid coordinates, the length of the sequence, the block's codes and scales. -/
def first (pl : main_arg1.ty.Contents (Elt F)) (h : ∀ x, 0 ≤ (pl x).toInt ∧ (pl x).toInt ≤ 12288) :
    (arg1 : BitVec 32) ×' (arg2 : BitVec 32) ×' (v1 : Elt F .i32) ×' (_ : k0_chk1 i v1) ×' (_ : FVec F S1024x128 .fp8e4m3) ×' (_ : FVec F S1x1024 .f32) ×' BitVec 32 :=
  ⟨BitVec.ofNat 32 (i 1).val, BitVec.ofNat 32 (i 2).val, plen i pl, chk1 i _ (h _), k0_pay71 (a5.view.read (Elt F) f5), k0_pay72 (a6.view.read (Elt F) f6), 1#32⟩

/-- The word read at the grid point's own entry is the length. -/
theorem word_plen (pl : main_arg1.ty.Contents (Elt F)) (off : Fin 1 → ℕ) (inb) (ho : off = k0_off1 i) (x : S1.Idx) :
    View.readAt (Elt F) (Memref.whole main_arg1).view (Rect.unit (s := S3) off S1.size inb).toLoadRect pl x = plen i pl := by
  subst ho
  rw [View.readAt_apply]
  refine congrArg pl (funext fun a => Fin.ext ?_)
  match a with
  | ⟨0, _⟩ => show (BitVec.ofNat 32 (i 0).val).toNat + 1 * (x 0).val = (i 0).val; have hx : (x 0).val < 1 := (x 0).2; have := (i 0).2; have : (i 0).val < 3 := this; rw [BitVec.toNat_ofNat]; omega

theorem first_eq (pl : main_arg1.ty.Contents (Elt F)) (h : ∀ x, 0 ≤ (pl x).toInt ∧ (pl x).toInt ≤ 12288) (w : BitVec 32) (e : w = plen i pl) (hw : k0_chk1 i w) :
    (⟨BitVec.ofNat 32 (i 1).val, BitVec.ofNat 32 (i 2).val, w, hw, k0_pay71 (a5.view.read (Elt F) f5), k0_pay72 (a6.view.read (Elt F) f6), 1#32⟩ :
      (arg1 : BitVec 32) ×' (arg2 : BitVec 32) ×' (v1 : Elt F .i32) ×' (_ : k0_chk1 i v1) ×' (_ : FVec F S1024x128 .fp8e4m3) ×' (_ : FVec F S1x1024 .f32) ×' BitVec 32)
      = first c i a5 a6 f5 f6 pl h := by
  subst e; rfl

/-- The resources of a grid point. -/
def held (f16 : cc0_scratch0.ty.Contents (Elt F)) (f17 : cc0_scratch1.ty.Contents (Elt F)) (f18 : cc0_scratch2.ty.Contents (Elt F)) (f19 : cc0_scratch3.ty.Contents (Elt F)) : sProp 𝕄 :=
  iprop(((Memref.whole main_arg0).view.loc (c : Thread nD τ) ↦{fullShare.right} tbl) ∗ ((Memref.whole main_arg1).view.loc (c : Thread nD τ) ↦{fullShare.right} pl)
      ∗ (∃ q, (Memref.whole main_arg4).view.loc (c : Thread nD τ) ↦{q} pk) ∗ (∃ q, (Memref.whole main_arg6).view.loc (c : Thread nD τ) ↦{q} pv)
      ∗ ((Memref.whole cc0_scratch0).view.loc (c : Thread nD τ) ↦{fullShare} f16) ∗ ((Memref.whole cc0_scratch1).view.loc (c : Thread nD τ) ↦{fullShare} f17) ∗ ((Memref.whole cc0_scratch2).view.loc (c : Thread nD τ) ↦{fullShare} f18) ∗ ((Memref.whole cc0_scratch3).view.loc (c : Thread nD τ) ↦{fullShare} f19)
      ∗ semVal ((c : Thread nD τ), SemLoc.dma 16) 0 ∗ semVal ((c : Thread nD τ), SemLoc.dma 17) 0 ∗ (∃ W, owes (c : Thread nD τ) 0 W)
      ∗ (a5.view.loc (c : Thread nD τ) ↦[a5.view.set]{fullShare} f5) ∗ (a6.view.loc (c : Thread nD τ) ↦[a6.view.set]{fullShare} f6) ∗ (a8.view.loc (c : Thread nD τ) ↦[a8.view.set]{fullShare} f8) ∗ (a10.view.loc (c : Thread nD τ) ↦[a10.view.set]{fullShare} f10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14))

set_option maxHeartbeats 4000000 in
/-- The first part of a grid point on the first block of a sequence. -/
theorem part29_first (h : ∀ x, 0 ≤ (pl x).toInt ∧ (pl x).toInt ≤ 12288) (ht : ∀ x, 0 ≤ (tbl x).toInt ∧ (tbl x).toInt < 720) (f16 f17 f18 f19)
    (hc : k0_cond1 i = 1#1) :
    held c a5 a6 a8 a10 a11 a12 a13 a14 tbl pl pk pv f5 f6 f8 f10 f11 f12 f13 f14 f16 f17 f18 f19
     ⊢ wp frame (wpE (defs₀ (F := F)) Variants.none (c : Thread nD τ) none) Set.univ (k0_part29 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun r => iprop(∃ f16 f17 f18 f19, held c a5 a6 a8 a10 a11 a12 a13 a14 tbl pl pk pv f5 f6 f8 f10 f11 f12 f13 f14 f16 f17 f18 f19
       ∗ ⌜r = first c i a5 a6 f5 f6 pl h ∧ Filled tbl (plen i pl) pk pv (i 0).val (a8.view.read (Elt F) f8) (a10.view.read (Elt F) f10) (a11.view.read (Elt F) f11) (a12.view.read (Elt F) f12) (a13.view.read (Elt F) f13) (a14.view.read (Elt F) f14) f16 f18 f19⌝)) := by
  unfold held
  have hc1 : ∀ w : S3.Idx, k0_chk1 i (pl w) := fun w => chk1 i _ (h w)
  iintro ⟨HT, HP, HPK, HPV, H16, H17, H18, H19, Hs16, Hs17, HO, H5, H6, H8, H10, H11, H12, H13, H14⟩
  rw [k0_part29_eq_skeleton]; unfold k0_part29_skel
  sl_exec (disch := (first | apply hc1))
  have hv : 0 ≤ (part29_first.sl.r i pl : BitVec 32).toInt ∧ (part29_first.sl.r i pl : BitVec 32).toInt ≤ 12288 := by
    unfold part29_first.sl.r; rw [View.readAt_apply]; exact h _
  have hw := chk1 i _ hv
  iapply (pages c i _ hw hc _ h5 _ h6 _ h8 _ h10 _ h11 _ h12 _ h13 _ h14 _ h15 _ _ tbl pk pv f16 f17 hv ht _ _) $$ [HT HPK HPV H16 H17 Hs16 Hs17 HO]
  · exact 0#32
  · exact 0#32
  · isplitl [HT]; · iexact HT
    isplitl [HPK]; · iexact HPK
    isplitl [HPV]; · iexact HPV
    isplitl [H16]; · iexact H16
    isplitl [H17]; · iexact H17
    isplitl [Hs16]; · iexact Hs16
    isplitl [Hs17]; · iexact Hs17
    iexact HO
  iintro ⟨HT, HPK, HPV, H16, H17, Hs16, Hs17, HO⟩
  sl_exec
  sl_for (prepAt c i (part29_first.sl.r i pl) a8 a10 tbl f8 f10 (filled 12288 (nPages (part29_first.sl.r i pl)) tbl (i 0).val pv f17 : cc0_scratch1.ty.Contents (Elt F)) ((Memref.whole cc0_scratch2).view.writes (Elt F) f18 [⟨Rect.unit (s := S2x128x13056) ![1, 0, 12928] S1x128x128.size inb_S2x128x13056_S1x128x128_1_0_12928, k0_pay68 part29_first.sl.cst_166⟩, ⟨Rect.unit (s := S2x128x13056) ![1, 0, 12800] S1x128x128.size inb_S2x128x13056_S1x128x128_1_0_12800, part29_first.sl.v474 c a13 a14 f13 f14⟩, ⟨Rect.unit (s := S2x128x13056) ![1, 0, 12672] S1x128x128.size inb_S2x128x13056_S1x128x128_1_0_12672, part29_first.sl.v450 c a13 a14 f13 f14⟩, ⟨Rect.unit (s := S2x128x13056) ![1, 0, 12544] S1x128x128.size inb_S2x128x13056_S1x128x128_1_0_12544, part29_first.sl.v426 c a13 a14 f13 f14⟩, ⟨Rect.unit (s := S2x128x13056) ![1, 0, 12416] S1x128x128.size inb_S2x128x13056_S1x128x128_1_0_12416, part29_first.sl.v402 c a13 a14 f13 f14⟩, ⟨Rect.unit (s := S2x128x13056) ![1, 0, 12288] S1x128x128.size inb_S2x128x13056_S1x128x128_1_0_12288, part29_first.sl.v378 c a13 a14 f13 f14⟩, ⟨Rect.unit (s := S2x128x13056) ![0, 0, 12928] S1x128x128.size inb_S2x128x13056_S1x128x128_0_0_12928, part29_first.sl.v349⟩, ⟨Rect.unit (s := S2x128x13056) ![0, 0, 12800] S1x128x128.size inb_S2x128x13056_S1x128x128_0_0_12800, part29_first.sl.v345 c a13 a14 f13 f14⟩, ⟨Rect.unit (s := S2x128x13056) ![0, 0, 12672] S1x128x128.size inb_S2x128x13056_S1x128x128_0_0_12672, part29_first.sl.v321 c a13 a14 f13 f14⟩, ⟨Rect.unit (s := S2x128x13056) ![0, 0, 12544] S1x128x128.size inb_S2x128x13056_S1x128x128_0_0_12544, part29_first.sl.v297 c a13 a14 f13 f14⟩, ⟨Rect.unit (s := S2x128x13056) ![0, 0, 12416] S1x128x128.size inb_S2x128x13056_S1x128x128_0_0_12416, part29_first.sl.v273 c a13 a14 f13 f14⟩, ⟨Rect.unit (s := S2x128x13056) ![0, 0, 12288] S1x128x128.size inb_S2x128x13056_S1x128x128_0_0_12288, part29_first.sl.v249 c a13 a14 f13 f14⟩]) ((Memref.whole cc0_scratch3).view.writes (Elt F) f19 [⟨Rect.unit (s := S2x13056x128) ![1, 12800, 0] S1x128x128.size inb_S2x13056x128_S1x128x128_1_12800_0, part29_first.sl.v458 c a12 f12⟩, ⟨Rect.unit (s := S2x13056x128) ![1, 12672, 0] S1x128x128.size inb_S2x13056x128_S1x128x128_1_12672_0, part29_first.sl.v434 c a12 f12⟩, ⟨Rect.unit (s := S2x13056x128) ![1, 12544, 0] S1x128x128.size inb_S2x13056x128_S1x128x128_1_12544_0, part29_first.sl.v410 c a12 f12⟩, ⟨Rect.unit (s := S2x13056x128) ![1, 12416, 0] S1x128x128.size inb_S2x13056x128_S1x128x128_1_12416_0, part29_first.sl.v386 c a12 f12⟩, ⟨Rect.unit (s := S2x13056x128) ![1, 12288, 0] S1x128x128.size inb_S2x13056x128_S1x128x128_1_12288_0, part29_first.sl.v362 c a12 f12⟩, ⟨Rect.unit (s := S2x13056x128) ![0, 12800, 0] S1x128x128.size inb_S2x13056x128_S1x128x128_0_12800_0, part29_first.sl.v329 c a12 f12⟩, ⟨Rect.unit (s := S2x13056x128) ![0, 12672, 0] S1x128x128.size inb_S2x13056x128_S1x128x128_0_12672_0, part29_first.sl.v305 c a12 f12⟩, ⟨Rect.unit (s := S2x13056x128) ![0, 12544, 0] S1x128x128.size inb_S2x13056x128_S1x128x128_0_12544_0, part29_first.sl.v281 c a12 f12⟩, ⟨Rect.unit (s := S2x13056x128) ![0, 12416, 0] S1x128x128.size inb_S2x13056x128_S1x128x128_0_12416_0, part29_first.sl.v257 c a12 f12⟩, ⟨Rect.unit (s := S2x13056x128) ![0, 12288, 0] S1x128x128.size inb_S2x13056x128_S1x128x128_0_12288_0, part29_first.sl.v233 c a12 f12⟩])) $$ [HT H8 H10 H17 H18 H19]
  · intro t acc; exact prep_step c i _ hw hc _ h5 _ h6 _ h8 _ h10 _ h11 _ h12 _ h13 _ h14 _ h15 _ tbl f8 f10 _ _ _ hv ht t acc
  · unfold prepAt
    isplitl [HT]; · iexact HT
    isplitl [H8]; · iexact H8
    isplitl [H10]; · iexact H10
    isplitl [H17]; · iexact H17
    iexists _, _
    isplitl [H18]; · iexact H18
    isplitl [H19]; · iexact H19
    ipureintro
    exact ⟨fun _ _ _ h => absurd h (by omega), fun _ _ _ h => absurd h (by omega), fun _ _ _ _ => rfl, fun _ _ _ _ => rfl⟩
  iintro %acc HI
  unfold prepAt
  icases HI with ⟨HT, H8, H10, H17, ⟨%g18, %g19, H18, H19, %HP⟩⟩
  sl_for (fun _ _ => iprop(emp)) $$ []
  · intro t acc; exact (t6_no _ t).elim
  · iempintro
  iintro %acc2 -
  sl_exec
  sl_step
  iexists _, _, _, _
  isplitl [HT HP HPK HPV H16 H17 H18 H19 Hs16 Hs17 HO H5 H6 H8 H10 H11 H12 H13 H14]
  · isplitl [HT]; · iexact HT
    isplitl [HP]; · iexact HP
    isplitl [HPK]; · iexact HPK
    isplitl [HPV]; · iexact HPV
    isplitl [H16]; · iexact H16
    isplitl [H17]; · iexact H17
    isplitl [H18]; · iexact H18
    isplitl [H19]; · iexact H19
    isplitl [Hs16]; · iexact Hs16
    isplitl [Hs17]; · iexact Hs17
    isplitl [HO]; · iexact HO
    isplitl [H5]; · iexact H5
    isplitl [H6]; · iexact H6
    isplitl [H8]; · iexact H8
    isplitl [H10]; · iexact H10
    isplitl [H11]; · iexact H11
    isplitl [H12]; · iexact H12
    isplitl [H13]; · iexact H13
    iexact H14
  ipureintro
  have el : part29_first.sl.r i pl = plen i pl := by unfold part29_first.sl.r; exact word_plen i pl _ _ rfl _
  refine ⟨?_, ?_⟩
  · rw [View.readAt_full, View.readAt_full]
    exact first_eq c i a5 a6 f5 f6 pl h _ el _
  obtain ⟨P1, P2, P3, P4⟩ := HP
  have hp : nPrep (part29_first.sl.r i pl) * 128 ≥ (plen i pl).toNat ∧ (plen i pl).toNat ≤ 12288 ∧ nPages (part29_first.sl.r i pl) * 64 ≥ (plen i pl).toNat := by
    rw [← el]; have := hv.1; have := hv.2; have := nat_of _ hv.1; unfold nPrep nPages; omega
  have et := t5_trips _ hv
  constructor
  · intro g k l hk
    refine (congrFun (View.read_whole cc0_scratch0 _) _).symm.trans ?_
    refine ((two_long (Val := Elt F) (Memref.whole cc0_scratch0).view _ 12288 _ _ _ _ _ _ rfl rfl (fun g j l => a11.view.read (Elt F) f11 (ix4 0 g j l)) ?_ ?_ g k l).1 (by omega)).trans ?_
    pick_goal 3
    exact (congrFun (View.read_whole cc0_scratch0 _) _).trans (filled_lt _ _ _ _ _ _ g k l (by omega))
    · exact fun r l => xpc a11 f11 1 _ _ rfl _ _ r l
    · exact fun r l => xpc a11 f11 0 _ _ rfl _ _ r l
  · intro g k l j hk
    refine (congrFun (View.read_whole cc0_scratch0 _) _).symm.trans ?_
    refine (two_long (Val := Elt F) (Memref.whole cc0_scratch0).view _ 12288 _ _ _ _ _ _ rfl rfl (fun g j l => a11.view.read (Elt F) f11 (ix4 0 g j l)) ?_ ?_ g k l).2 j hk
    · exact fun r l => xpc a11 f11 1 _ _ rfl _ _ r l
    · exact fun r l => xpc a11 f11 0 _ _ rfl _ _ r l
  · intro g k l hk; exact P1 g k l (show k.val < (k0_t5_loop (part29_first.sl.r i pl)).trips * 128 by rw [et]; omega)
  · intro g k l j hk
    refine (P3 g k l (by omega)).trans ?_
    refine (congrFun (View.read_whole cc0_scratch3 _) _).symm.trans ?_
    refine tail_rows (Val := Elt F) (Memref.whole cc0_scratch3).view _ 12288 (by decide) _ _ _ rfl _ _ _ rfl _ _ _ rfl _ _ _ rfl _ _ _ rfl _ _ _ rfl _ _ _ rfl _ _ _ rfl _ _ _ rfl _ _ _ rfl
      (fun g j _ => a12.view.read (Elt F) f12 (ix3 0 g j)) ?_ ?_ ?_ ?_ ?_ ?_ ?_ ?_ ?_ ?_ g j l k hk
    · exact fun r l => kpc a12 f12 1 512 (by decide) _ _ rfl _ _ _ _ _ r l
    · exact fun r l => kpc a12 f12 1 384 (by decide) _ _ rfl _ _ _ _ _ r l
    · exact fun r l => kpc a12 f12 1 256 (by decide) _ _ rfl _ _ _ _ _ r l
    · exact fun r l => kpc a12 f12 1 128 (by decide) _ _ rfl _ _ _ _ _ r l
    · exact fun r l => kpc a12 f12 1 0 (by decide) _ _ rfl _ _ _ _ _ r l
    · exact fun r l => kpc a12 f12 0 512 (by decide) _ _ rfl _ _ _ _ _ r l
    · exact fun r l => kpc a12 f12 0 384 (by decide) _ _ rfl _ _ _ _ _ r l
    · exact fun r l => kpc a12 f12 0 256 (by decide) _ _ rfl _ _ _ _ _ r l
    · exact fun r l => kpc a12 f12 0 128 (by decide) _ _ rfl _ _ _ _ _ r l
    · exact fun r l => kpc a12 f12 0 0 (by decide) _ _ rfl _ _ _ _ _ r l
  · intro g k l hk
    refine (P2 g k l (show k.val < (k0_t5_loop (part29_first.sl.r i pl)).trips * 128 by rw [et]; omega) (by omega) (by rw [el]; exact hk)).trans (congrArg₂ valOf ?_ rfl)
    exact filled_lt _ _ _ _ _ _ g ⟨k.val, _⟩ l (show k.val / 64 < _ by omega)
  · intro g k l j hk
    refine (P4 g k l (by omega)).trans ?_
    refine (congrFun (View.read_whole cc0_scratch2 _) _).symm.trans ?_
    refine tail_cols (Val := Elt F) (Memref.whole cc0_scratch2).view _ 12288 (by decide) _ _ _ rfl _ _ _ rfl _ _ _ rfl _ _ _ rfl _ _ _ rfl _ _ _ rfl _ _ _ rfl _ _ _ rfl _ _ _ rfl _ _ _ rfl _ _ _ rfl _ _ _ rfl
      (fun g j l => valOf (a13.view.read (Elt F) f13 (ix4 0 g j l)) (a14.view.read (Elt F) f14 (ix3 0 g j))) ?_ ?_ ?_ ?_ ?_ ?_ ?_ ?_ ?_ ?_ g j l k hk
    · exact fun r l => vpc a13 f13 a14 f14 1 512 (by decide) _ _ rfl _ _ rfl _ _ _ _ _ _ _ r l
    · exact fun r l => vpc a13 f13 a14 f14 1 384 (by decide) _ _ rfl _ _ rfl _ _ _ _ _ _ _ r l
    · exact fun r l => vpc a13 f13 a14 f14 1 256 (by decide) _ _ rfl _ _ rfl _ _ _ _ _ _ _ r l
    · exact fun r l => vpc a13 f13 a14 f14 1 128 (by decide) _ _ rfl _ _ rfl _ _ _ _ _ _ _ r l
    · exact fun r l => vpc a13 f13 a14 f14 1 0 (by decide) _ _ rfl _ _ rfl _ _ _ _ _ _ _ r l
    · exact fun r l => vpc a13 f13 a14 f14 0 512 (by decide) _ _ rfl _ _ rfl _ _ _ _ _ _ _ r l
    · exact fun r l => vpc a13 f13 a14 f14 0 384 (by decide) _ _ rfl _ _ rfl _ _ _ _ _ _ _ r l
    · exact fun r l => vpc a13 f13 a14 f14 0 256 (by decide) _ _ rfl _ _ rfl _ _ _ _ _ _ _ r l
    · exact fun r l => vpc a13 f13 a14 f14 0 128 (by decide) _ _ rfl _ _ rfl _ _ _ _ _ _ _ r l
    · exact fun r l => vpc a13 f13 a14 f14 0 0 (by decide) _ _ rfl _ _ rfl _ _ _ _ _ _ _ r l

/-- The first part of a grid point on the later blocks of a sequence. -/
theorem part29_later (h : ∀ x, 0 ≤ (pl x).toInt ∧ (pl x).toInt ≤ 12288) (f16 f17 f18 f19)
    (hc : ¬ k0_cond1 i = 1#1) :
    held c a5 a6 a8 a10 a11 a12 a13 a14 tbl pl pk pv f5 f6 f8 f10 f11 f12 f13 f14 f16 f17 f18 f19
     ⊢ wp frame (wpE (defs₀ (F := F)) Variants.none (c : Thread nD τ) none) Set.univ (k0_part29 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun r => iprop(held c a5 a6 a8 a10 a11 a12 a13 a14 tbl pl pk pv f5 f6 f8 f10 f11 f12 f13 f14 f16 f17 f18 f19
       ∗ ⌜r = first c i a5 a6 f5 f6 pl h⌝)) := by
  unfold held
  have hc1 : ∀ w : S3.Idx, k0_chk1 i (pl w) := fun w => chk1 i _ (h w)
  iintro ⟨HT, HP, HPK, HPV, H16, H17, H18, H19, Hs16, Hs17, HO, H5, H6, H8, H10, H11, H12, H13, H14⟩
  rw [k0_part29_eq_skeleton]; unfold k0_part29_skel
  sl_exec (disch := (first | apply hc1))
  sl_step
  isplitl [HT HP HPK HPV H16 H17 H18 H19 Hs16 Hs17 HO H5 H6 H8 H10 H11 H12 H13 H14]
  · isplitl [HT]; · iexact HT
    isplitl [HP]; · iexact HP
    isplitl [HPK]; · iexact HPK
    isplitl [HPV]; · iexact HPV
    isplitl [H16]; · iexact H16
    isplitl [H17]; · iexact H17
    isplitl [H18]; · iexact H18
    isplitl [H19]; · iexact H19
    isplitl [Hs16]; · iexact Hs16
    isplitl [Hs17]; · iexact Hs17
    isplitl [HO]; · iexact HO
    isplitl [H5]; · iexact H5
    isplitl [H6]; · iexact H6
    isplitl [H8]; · iexact H8
    isplitl [H10]; · iexact H10
    isplitl [H11]; · iexact H11
    isplitl [H12]; · iexact H12
    isplitl [H13]; · iexact H13
    iexact H14
  ipureintro
  rw [View.readAt_full, View.readAt_full]
  exact first_eq c i a5 a6 f5 f6 pl h _ (by unfold part29_later.sl.r; exact word_plen i pl _ _ rfl _) _
end
end Cert.KernelIdeal.Hand
-- ==== Proof.KI.Attn.lean ====
/- A grid point: after the filling, the attention of one block of queries over the keys of its sequence. -/
module

public import proofs.«01_k».proof.Proof.KI.Fetch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources of the proof: the buffers and semaphores, the pipeline's records and the counters of the body's own transfers. -/
local notation "𝕄" => MT nD τ sig Unit (Elt F) ℕ (Pipeline.UD sig nD τ) ℕ

theorem t8_trips (i : grid0.Coords) : (k0_t8_loop i).trips = 0 := Scf.rem_trips _ _
theorem t8_no (i : grid0.Coords) (t : Fin (k0_t8_loop i).trips) : False :=
  absurd (t.2.trans_eq (t8_trips i)) (Nat.not_lt_zero _)

/-- The running maximum, sum and weighted values. -/
abbrev Carry (F : FTy → Type) : Type := FVec F S1x1024 .f32 × FVec F S1x1024 .f32 × FVec F S128x1024 .f32

/-- The value carried by a loop of `n` trips after `k` of them. -/
def iter {α : Type} {n : ℕ} (step : Fin n → α → α) (a : α) : ℕ → α
  | 0 => a
  | k + 1 => if h : k < n then step ⟨k, h⟩ (iter step a k) else iter step a k
theorem iter_succ {α : Type} {n : ℕ} (step : Fin n → α → α) (a : α) (t : Fin n) : iter step a (t.val + 1) = step t (iter step a t.val) := by
  show (if h : t.val < n then step ⟨t.val, h⟩ (iter step a t.val) else iter step a t.val) = _
  rw [dif_pos t.2]

section
variable (c : Dev nD) (i : grid0.Coords)
variable (f16 : cc0_scratch0.ty.Contents (Elt F)) (f17 : cc0_scratch1.ty.Contents (Elt F)) (f18 : cc0_scratch2.ty.Contents (Elt F)) (f19 : cc0_scratch3.ty.Contents (Elt F))

/-- One trip of an attention loop on the carried maximum, sum and weighted values. -/
def step7 (v27 : FVec F S1024x128 .fp8e4m3) (v31 : FVec F S1x1024 .f32) (t : Fin (k0_t7_loop i).trips) (x : Carry F) : Carry F :=
  (k0_pay77 v27 v31 x.1 ((Memref.whole cc0_scratch3).view.readAt (Elt F) (Rect.unit (s := S2x13056x128) (k0_off62 i t) S1x256x128.size (k0_off62_inb i t)).toLoadRect f19) ((Memref.whole cc0_scratch0).view.readAt (Elt F) (Rect.unit (s := S2x13056x128) (k0_off62 i t) S1x256x128.size (k0_off62_inb i t)).toLoadRect f16),
   k0_pay80 v27 v31 x.1 x.2.1 ((Memref.whole cc0_scratch3).view.readAt (Elt F) (Rect.unit (s := S2x13056x128) (k0_off62 i t) S1x256x128.size (k0_off62_inb i t)).toLoadRect f19) ((Memref.whole cc0_scratch0).view.readAt (Elt F) (Rect.unit (s := S2x13056x128) (k0_off62 i t) S1x256x128.size (k0_off62_inb i t)).toLoadRect f16),
   k0_pay81 v27 v31 x.1 x.2.2 ((Memref.whole cc0_scratch3).view.readAt (Elt F) (Rect.unit (s := S2x13056x128) (k0_off62 i t) S1x256x128.size (k0_off62_inb i t)).toLoadRect f19) ((Memref.whole cc0_scratch0).view.readAt (Elt F) (Rect.unit (s := S2x13056x128) (k0_off62 i t) S1x256x128.size (k0_off62_inb i t)).toLoadRect f16) ((Memref.whole cc0_scratch2).view.readAt (Elt F) (Rect.unit (s := S2x128x13056) (k0_off63 i t) S1x128x256.size (k0_off63_inb i t)).toLoadRect f18))
/-- One trip of an attention loop on the carried maximum, sum and weighted values. -/
def step9 (v1 : BitVec 32) (hw : k0_chk1 i v1) (v27 : FVec F S1024x128 .fp8e4m3) (v31 : FVec F S1x1024 .f32) (t : Fin (k0_t9_loop v1).trips) (x : Carry F) : Carry F :=
  (k0_pay100 v27 v31 x.1 ((Memref.whole cc0_scratch3).view.readAt (Elt F) (Rect.unit (s := S2x13056x128) (k0_off68 i v1 t) S1x256x128.size (k0_off68_inb i v1 hw t)).toLoadRect f19) ((Memref.whole cc0_scratch0).view.readAt (Elt F) (Rect.unit (s := S2x13056x128) (k0_off68 i v1 t) S1x256x128.size (k0_off68_inb i v1 hw t)).toLoadRect f16),
   k0_pay103 v27 v31 x.1 x.2.1 ((Memref.whole cc0_scratch3).view.readAt (Elt F) (Rect.unit (s := S2x13056x128) (k0_off68 i v1 t) S1x256x128.size (k0_off68_inb i v1 hw t)).toLoadRect f19) ((Memref.whole cc0_scratch0).view.readAt (Elt F) (Rect.unit (s := S2x13056x128) (k0_off68 i v1 t) S1x256x128.size (k0_off68_inb i v1 hw t)).toLoadRect f16),
   k0_pay104 v27 v31 x.1 x.2.2 ((Memref.whole cc0_scratch3).view.readAt (Elt F) (Rect.unit (s := S2x13056x128) (k0_off68 i v1 t) S1x256x128.size (k0_off68_inb i v1 hw t)).toLoadRect f19) ((Memref.whole cc0_scratch0).view.readAt (Elt F) (Rect.unit (s := S2x13056x128) (k0_off68 i v1 t) S1x256x128.size (k0_off68_inb i v1 hw t)).toLoadRect f16) ((Memref.whole cc0_scratch2).view.readAt (Elt F) (Rect.unit (s := S2x128x13056) (k0_off69 i v1 t) S1x128x256.size (k0_off69_inb i v1 hw t)).toLoadRect f18))
/-- One trip of an attention loop on the carried maximum, sum and weighted values. -/
def step11 (v1 : BitVec 32) (hw : k0_chk1 i v1) (v27 : FVec F S1024x128 .fp8e4m3) (v31 : FVec F S1x1024 .f32) (v152 : BitVec 32) (v163 : BitVec 1) (v164 : BitVec 32) (c0 : BitVec 32) (t : Fin (k0_t11_loop v1).trips) (x : Carry F) : Carry F :=
  (k0_pay112 v1 v27 v31 v152 v163 v164 c0 t x.1 ((Memref.whole cc0_scratch3).view.readAt (Elt F) (Rect.unit (s := S2x13056x128) (k0_off72 i v1 t) S1x256x128.size (k0_off72_inb i v1 hw t)).toLoadRect f19) ((Memref.whole cc0_scratch0).view.readAt (Elt F) (Rect.unit (s := S2x13056x128) (k0_off72 i v1 t) S1x256x128.size (k0_off72_inb i v1 hw t)).toLoadRect f16),
   k0_pay115 v1 v27 v31 v152 v163 v164 c0 t x.1 x.2.1 ((Memref.whole cc0_scratch3).view.readAt (Elt F) (Rect.unit (s := S2x13056x128) (k0_off72 i v1 t) S1x256x128.size (k0_off72_inb i v1 hw t)).toLoadRect f19) ((Memref.whole cc0_scratch0).view.readAt (Elt F) (Rect.unit (s := S2x13056x128) (k0_off72 i v1 t) S1x256x128.size (k0_off72_inb i v1 hw t)).toLoadRect f16),
   k0_pay116 v1 v27 v31 v152 v163 v164 c0 t x.1 x.2.2 ((Memref.whole cc0_scratch3).view.readAt (Elt F) (Rect.unit (s := S2x13056x128) (k0_off72 i v1 t) S1x256x128.size (k0_off72_inb i v1 hw t)).toLoadRect f19) ((Memref.whole cc0_scratch0).view.readAt (Elt F) (Rect.unit (s := S2x13056x128) (k0_off72 i v1 t) S1x256x128.size (k0_off72_inb i v1 hw t)).toLoadRect f16) ((Memref.whole cc0_scratch2).view.readAt (Elt F) (Rect.unit (s := S2x128x13056) (k0_off73 i v1 t) S1x128x256.size (k0_off73_inb i v1 hw t)).toLoadRect f18))

end
section
variable (c : Dev nD) (i : grid0.Coords)
variable (a5 : Memref sig .tc .vmem S1x1x1024x128 .fp8e4m3) (h5 : a5.IsWhole) (a6 : Memref sig .tc .vmem S1x1x1x1x1024 .f32) (h6 : a6.IsWhole)
  (a8 : Memref sig .tc .vmem S2x64x768 .f32) (h8 : a8.IsWhole) (a10 : Memref sig .tc .vmem S2x64x768 .f32) (h10 : a10.IsWhole)
  (a11 : Memref sig .tc .vmem S1x2x640x128 .fp8e4m3) (h11 : a11.IsWhole) (a12 : Memref sig .tc .vmem S1x2x640 .f32) (h12 : a12.IsWhole)
  (a13 : Memref sig .tc .vmem S1x2x640x128 .fp8e4m3) (h13 : a13.IsWhole) (a14 : Memref sig .tc .vmem S1x2x640 .f32) (h14 : a14.IsWhole)
  (a15 : Memref sig .tc .vmem S1x64x2048 .bf16) (h15 : a15.IsWhole)
variable (tbl : main_arg0.ty.Contents (Elt F)) (pl : main_arg1.ty.Contents (Elt F))
  (pk : main_arg4.ty.Contents (Elt F)) (pv : main_arg6.ty.Contents (Elt F))
  (f5 : Buf (Elt F) (a5.view.loc (c : Thread nD τ))) (f6 : Buf (Elt F) (a6.view.loc (c : Thread nD τ)))
  (f8 : Buf (Elt F) (a8.view.loc (c : Thread nD τ))) (f10 : Buf (Elt F) (a10.view.loc (c : Thread nD τ)))
  (f11 : Buf (Elt F) (a11.view.loc (c : Thread nD τ))) (f12 : Buf (Elt F) (a12.view.loc (c : Thread nD τ)))
  (f13 : Buf (Elt F) (a13.view.loc (c : Thread nD τ))) (f14 : Buf (Elt F) (a14.view.loc (c : Thread nD τ)))

/-- The scalars and the starting values of the attention loops. -/
def r30 : (v52 : BitVec 32) ×' (v53 : FVec F S1x1024 .f32) ×' (v54 : FVec F S128x1024 .f32) ×' (v71 : BitVec 32) ×' F .f32 :=
  let arg1 : BitVec 32 := BitVec.ofNat 32 (i 1).val
  let c1_i32_17 : BitVec 32 := 1#32
  let v32 : BitVec 32 := Scalar.addi arg1 c1_i32_17
  let v33 : BitVec 32 := Scalar.muli v32 64#32
  let v34 : BitVec 32 := Scalar.subi v33 1#32
  let v35 : BitVec 32 := Scalar.divsi v34 256#32
  let v36 : BitVec 1 := Scalar.cmpi .sgt v34 0#32
  let v37 : BitVec 32 := Scalar.extui v36
  let v38 : BitVec 1 := Scalar.cmpi .slt v34 0#32
  let v39 : BitVec 32 := Scalar.extui v38
  let v40 : BitVec 32 := Scalar.subi v37 v39
  let v41 : BitVec 1 := Scalar.cmpi .sgt 256#32 0#32
  let v42 : BitVec 32 := Scalar.extui v41
  let v43 : BitVec 1 := Scalar.cmpi .slt 256#32 0#32
  let v44 : BitVec 32 := Scalar.extui v43
  let v45 : BitVec 32 := Scalar.subi v42 v44
  let v46 : BitVec 1 := Scalar.cmpi .ne v40 v45
  let v47 : BitVec 32 := Scalar.remsi v34 256#32
  let v48 : BitVec 1 := Scalar.cmpi .ne v47 0#32
  let v49 : BitVec 1 := Scalar.andi v46 v48
  let v50 : BitVec 32 := Scalar.subi v35 1#32
  let v51 : BitVec 32 := Scalar.select v49 v50 v35
  let v52 : BitVec 32 := Scalar.muli v51 256#32
  let v55 : BitVec 32 := Scalar.divsi v52 256#32
  let v56 : BitVec 1 := Scalar.cmpi .sgt v52 0#32
  let v57 : BitVec 32 := Scalar.extui v56
  let v58 : BitVec 1 := Scalar.cmpi .slt v52 0#32
  let v59 : BitVec 32 := Scalar.extui v58
  let v60 : BitVec 32 := Scalar.subi v57 v59
  let v61 : BitVec 1 := Scalar.cmpi .sgt 256#32 0#32
  let v62 : BitVec 32 := Scalar.extui v61
  let v63 : BitVec 1 := Scalar.cmpi .slt 256#32 0#32
  let v64 : BitVec 32 := Scalar.extui v63
  let v65 : BitVec 32 := Scalar.subi v62 v64
  let v66 : BitVec 1 := Scalar.cmpi .ne v60 v65
  let v67 : BitVec 32 := Scalar.remsi v52 256#32
  let v68 : BitVec 1 := Scalar.cmpi .ne v67 0#32
  let v69 : BitVec 1 := Scalar.andi v66 v68
  let v70 : BitVec 32 := Scalar.subi v55 1#32
  let v71 : BitVec 32 := Scalar.select v69 v70 v55
  ⟨v52, k0_pay73 (F := F), k0_pay74 (F := F), v71, (Scalar.ofBits (F := F) .f32 0xF149F2CA#32)⟩

/-- The carried values after the loop over the complete tail blocks. -/
def carry7 (v27 : FVec F S1024x128 .fp8e4m3) (v31 : FVec F S1x1024 .f32) (f16 : cc0_scratch0.ty.Contents (Elt F)) (f18 : cc0_scratch2.ty.Contents (Elt F)) (f19 : cc0_scratch3.ty.Contents (Elt F)) : Carry F :=
  iter (step7 i f16 f18 f19 v27 v31) (k0_pay75 (Scalar.ofBits (F := F) .f32 0xF149F2CA#32), k0_pay73, k0_pay74) (k0_t7_loop i).trips

/-- What the second stretch yields: the carried values and the scores and masks of the tail's last block. -/
def r31 (v27 : FVec F S1024x128 .fp8e4m3) (v31 : FVec F S1x1024 .f32) (f16 : cc0_scratch0.ty.Contents (Elt F)) (f18 : cc0_scratch2.ty.Contents (Elt F)) (f19 : cc0_scratch3.ty.Contents (Elt F)) :
    (v79_0 : FVec F S1x1024 .f32) ×' (v79_1 : FVec F S1x1024 .f32) ×' (v79_2 : FVec F S128x1024 .f32) ×' (v80 : BitVec 32) ×' (v95 : FVec F S256x1024 .f32) ×' (v98 : IVec S256x1024 32) ×' (v99 : BitVec 32) ×' (v100 : IVec S256x1024 32) ×' (v102 : IVec S256x1024 32) ×' (v116 : IVec S256x1024 1) ×' IVec S256x1024 32 :=
  ⟨(carry7 i v27 v31 f16 f18 f19).1, (carry7 i v27 v31 f16 f18 f19).2.1, (carry7 i v27 v31 f16 f18 f19).2.2, Scalar.addi 12288#32 (r30 (F := F) i).1,
   k0_pay88 v27 v31 ((Memref.whole cc0_scratch3).view.readAt (Elt F) (Rect.unit (s := S2x13056x128) (k0_off66 i) S1x256x128.size (k0_off66_inb i)).toLoadRect f19) ((Memref.whole cc0_scratch0).view.readAt (Elt F) (Rect.unit (s := S2x13056x128) (k0_off66 i) S1x256x128.size (k0_off66_inb i)).toLoadRect f16), k0_pay89 (r30 (F := F) i).1, Scalar.muli (BitVec.ofNat 32 (i 1).val) 64#32, iota .tc S256x1024 32 [1] iota_S256x1024_d1_w32, k0_pay90, k0_pay91, k0_pay92⟩

/-- The carried values after the tail's last block. -/
def mid (v27 : FVec F S1024x128 .fp8e4m3) (v31 : FVec F S1x1024 .f32) (f16 : cc0_scratch0.ty.Contents (Elt F)) (f18 : cc0_scratch2.ty.Contents (Elt F)) (f19 : cc0_scratch3.ty.Contents (Elt F)) : Carry F :=
  (k0_pay94 (r31 i v27 v31 f16 f18 f19).1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2,
   k0_pay97 (r31 i v27 v31 f16 f18 f19).1 (r31 i v27 v31 f16 f18 f19).2.1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2,
   k0_pay98 (r31 i v27 v31 f16 f18 f19).1 (r31 i v27 v31 f16 f18 f19).2.2.1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2 ((Memref.whole cc0_scratch2).view.readAt (Elt F) (Rect.unit (s := S2x128x13056) (k0_off67 i) S1x128x256.size (k0_off67_inb i)).toLoadRect f18))

/-- What the third stretch yields. -/
def r32 (v1 : BitVec 32) (v27 : FVec F S1024x128 .fp8e4m3) (v31 : FVec F S1x1024 .f32) (f16 : cc0_scratch0.ty.Contents (Elt F)) (f18 : cc0_scratch2.ty.Contents (Elt F)) (f19 : cc0_scratch3.ty.Contents (Elt F)) :
    (v132 : FVec F S1x1024 .f32) ×' (v141 : FVec F S1x1024 .f32) ×' (v151 : FVec F S128x1024 .f32) ×' (v152 : BitVec 32) ×' (v163 : BitVec 1) ×' (v164 : BitVec 32) ×' BitVec 32 :=
  let v152 : BitVec 32 := Scalar.divsi v1 256#32
  let v153 : BitVec 1 := Scalar.cmpi .sgt v1 0#32
  let v154 : BitVec 32 := Scalar.extui v153
  let v155 : BitVec 1 := Scalar.cmpi .slt v1 0#32
  let v156 : BitVec 32 := Scalar.extui v155
  let v157 : BitVec 32 := Scalar.subi v154 v156
  let v158 : BitVec 1 := Scalar.cmpi .sgt 256#32 0#32
  let v159 : BitVec 32 := Scalar.extui v158
  let v160 : BitVec 1 := Scalar.cmpi .slt 256#32 0#32
  let v161 : BitVec 32 := Scalar.extui v160
  let v162 : BitVec 32 := Scalar.subi v159 v161
  let v163 : BitVec 1 := Scalar.cmpi .ne v157 v162
  let v164 : BitVec 32 := Scalar.remsi v1 256#32
  ⟨(mid i v27 v31 f16 f18 f19).1, (mid i v27 v31 f16 f18 f19).2.1, (mid i v27 v31 f16 f18 f19).2.2, v152, v163, v164, 0#32⟩

/-- The carried values after the loop over the complete blocks of the past. -/
def carry9 (v1 : BitVec 32) (hw : k0_chk1 i v1) (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (x : Carry F) : Carry F :=
  iter (step9 i f16 f18 f19 v1 hw v27 v31) x (k0_t9_loop v1).trips

/-- The carried values after every block. -/
def carry11 (v1 : BitVec 32) (hw : k0_chk1 i v1) (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (x : Carry F) (v152 : BitVec 32) (v163 : BitVec 1) (v164 : BitVec 32) (c0 : BitVec 32) : Carry F :=
  iter (step11 i f16 f18 f19 v1 hw v27 v31 v152 v163 v164 c0) (carry9 i v1 hw v27 v31 f16 f18 f19 x) (k0_t11_loop v1).trips

/-- The quotient after the loops over the past, from what the earlier stretches yield. -/
def attTail (v1 : BitVec 32) (hw : k0_chk1 i v1) (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (x : Carry F) (v152 : BitVec 32) (v163 : BitVec 1) (v164 : BitVec 32) (c0 : BitVec 32) : FVec F S64x2048 .bf16 :=
  k0_pay123 (carry11 i v1 hw v27 v31 f16 f18 f19 x v152 v163 v164 c0).2.1 (carry11 i v1 hw v27 v31 f16 f18 f19 x v152 v163 v164 c0).2.2

/-- The attention of one block of queries. -/
def attOut (v1 : BitVec 32) (hw : k0_chk1 i v1) (v27 : FVec F S1024x128 .fp8e4m3) (v31 : FVec F S1x1024 .f32) (f16 : cc0_scratch0.ty.Contents (Elt F)) (f18 : cc0_scratch2.ty.Contents (Elt F)) (f19 : cc0_scratch3.ty.Contents (Elt F)) : FVec F S64x2048 .bf16 :=
  attTail i v1 hw v27 v31 f16 f18 f19 (mid i v27 v31 f16 f18 f19) (r32 i v1 v27 v31 f16 f18 f19).2.2.2.1 (r32 i v1 v27 v31 f16 f18 f19).2.2.2.2.1 (r32 i v1 v27 v31 f16 f18 f19).2.2.2.2.2.1 0#32

set_option maxHeartbeats 4000000 in
/-- The first stretch only computes scalars. -/
theorem part30_wp (K : (v52 : BitVec 32) ×' (v53 : FVec F S1x1024 .f32) ×' (v54 : FVec F S128x1024 .f32) ×' (v71 : BitVec 32) ×' F .f32 → sProp 𝕄) :
    K (r30 i) ⊢ wp frame (wpE (defs₀ (F := F)) Variants.none (c : Thread nD τ) none) Set.univ (k0_part30 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 1).val) 1#32) K := by
  rw [k0_part30_eq_skeleton]; unfold k0_part30_skel
  exact fupd_intro

set_option maxHeartbeats 4000000 in
/-- The second stretch: the loop over the tail's complete blocks, and the scores of its last block. -/
theorem part31_wp (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (K : _ → sProp 𝕄) :
    (iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ (((Memref.whole cc0_scratch0).view.loc (c : Thread nD τ) ↦{fullShare} f16) -∗ ((Memref.whole cc0_scratch2).view.loc (c : Thread nD τ) ↦{fullShare} f18) -∗ ((Memref.whole cc0_scratch3).view.loc (c : Thread nD τ) ↦{fullShare} f19) -∗ K (r31 i v27 v31 f16 f18 f19))) : sProp 𝕄)
     ⊢ wp frame (wpE (defs₀ (F := F)) Variants.none (c : Thread nD τ) none) Set.univ (k0_part31 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 1).val) (BitVec.ofNat 32 (i 2).val) v27 v31 (r30 (F := F) i).1 (r30 (F := F) i).2.1 (r30 (F := F) i).2.2.1 (r30 (F := F) i).2.2.2.1 (r30 (F := F) i).2.2.2.2) K := by
  iintro ⟨H16, H18, H19, HK⟩
  rw [k0_part31_eq_skeleton]; unfold k0_part31_skel
  sl_for (fun k x => iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ ⌜x = iter (step7 i f16 f18 f19 v27 v31) (k0_pay75 (Scalar.ofBits (F := F) .f32 0xF149F2CA#32), k0_pay73, k0_pay74) k⌝)) $$ [H16 H18 H19]
  · intro t acc
    iintro ⟨H16, H18, H19, %e⟩
    obtain ⟨x1, x2, x3⟩ := acc
    sl_exec
    sl_step
    isplitl [H16]; · iexact H16
    isplitl [H18]; · iexact H18
    isplitl [H19]; · iexact H19
    ipureintro
    rw [iter_succ, ← e]; rfl
  · isplitl [H16]; · iexact H16
    isplitl [H18]; · iexact H18
    isplitl [H19]; · iexact H19
    ipureintro; rfl
  iintro %x7 ⟨H16, H18, H19, %e7⟩
  obtain ⟨y71, y72, y73⟩ := x7
  sl_exec

  sl_step
  have E : carry7 i v27 v31 f16 f18 f19 = (y71, y72, y73) := e7.symm
  have E' : r31 i v27 v31 f16 f18 f19 = ⟨y71, y72, y73, part31_wp.sl.v80 (F := F) i, k0_pay88 v27 v31 ((Memref.whole cc0_scratch3).view.readAt (Elt F) (Rect.unit (s := S2x13056x128) (k0_off66 i) S1x256x128.size (k0_off66_inb i)).toLoadRect f19) ((Memref.whole cc0_scratch0).view.readAt (Elt F) (Rect.unit (s := S2x13056x128) (k0_off66 i) S1x256x128.size (k0_off66_inb i)).toLoadRect f16), k0_pay89 (r30 (F := F) i).1, part31_wp.sl.v99 i, part31_wp.sl.v100, k0_pay90, k0_pay91, k0_pay92⟩ := by
    unfold r31
    rw [E]; rfl
  rw [E']
  ihave HK := HK $$ H16
  ihave HK := HK $$ H18
  ihave HK := HK $$ H19
  iexact HK

set_option maxHeartbeats 4000000 in
/-- The third stretch: the tail's last block. -/
theorem part32_wp (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (v1 : BitVec 32) (K : _ → sProp 𝕄) :
    (iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ (((Memref.whole cc0_scratch0).view.loc (c : Thread nD τ) ↦{fullShare} f16) -∗ ((Memref.whole cc0_scratch2).view.loc (c : Thread nD τ) ↦{fullShare} f18) -∗ ((Memref.whole cc0_scratch3).view.loc (c : Thread nD τ) ↦{fullShare} f19) -∗ K (r32 i v1 v27 v31 f16 f18 f19))) : sProp 𝕄)
     ⊢ wp frame (wpE (defs₀ (F := F)) Variants.none (c : Thread nD τ) none) Set.univ (k0_part32 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 2).val) v1 (r31 i v27 v31 f16 f18 f19).1 (r31 i v27 v31 f16 f18 f19).2.1 (r31 i v27 v31 f16 f18 f19).2.2.1 (r31 i v27 v31 f16 f18 f19).2.2.2.1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2) K := by
  iintro ⟨H16, H18, H19, HK⟩
  rw [k0_part32_eq_skeleton]; unfold k0_part32_skel
  sl_exec
  sl_step
  have E : r32 i v1 v27 v31 f16 f18 f19 = ⟨k0_pay94 (r31 i v27 v31 f16 f18 f19).1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2, k0_pay97 (r31 i v27 v31 f16 f18 f19).1 (r31 i v27 v31 f16 f18 f19).2.1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2, k0_pay98 (r31 i v27 v31 f16 f18 f19).1 (r31 i v27 v31 f16 f18 f19).2.2.1 (r31 i v27 v31 f16 f18 f19).2.2.2.2.1 (r31 i v27 v31 f16 f18 f19).2.2.2.2.2.1 (r31 i v27 v31 f16 f18 f19).2.2.2.2.2.2.1 (r31 i v27 v31 f16 f18 f19).2.2.2.2.2.2.2.1 (r31 i v27 v31 f16 f18 f19).2.2.2.2.2.2.2.2.1 (r31 i v27 v31 f16 f18 f19).2.2.2.2.2.2.2.2.2.1 (r31 i v27 v31 f16 f18 f19).2.2.2.2.2.2.2.2.2.2 ((Memref.whole cc0_scratch2).view.readAt (Elt F) (Rect.unit (s := S2x128x13056) (k0_off67 i) S1x128x256.size (k0_off67_inb i)).toLoadRect f18), part32_wp.sl.v152 v1, part32_wp.sl.v163 v1, part32_wp.sl.v164 v1, 0#32⟩ := rfl
  rw [E]
  ihave HK := HK $$ H16
  ihave HK := HK $$ H18
  ihave HK := HK $$ H19
  iexact HK

set_option maxHeartbeats 4000000 in
/-- The last stretch: the loops over the past, and the quotient. -/
theorem part33_wp (v27 : FVec F S1024x128 .fp8e4m3) (v31 : FVec F S1x1024 .f32) (f16 : cc0_scratch0.ty.Contents (Elt F)) (f18 : cc0_scratch2.ty.Contents (Elt F)) (f19 : cc0_scratch3.ty.Contents (Elt F)) (v1 : BitVec 32) (hw : k0_chk1 i v1) (v132 : FVec F S1x1024 .f32) (v141 : FVec F S1x1024 .f32) (v151 : FVec F S128x1024 .f32) (v152 : BitVec 32) (v163 : BitVec 1) (v164 : BitVec 32) (c0 : BitVec 32) (K : _ → sProp 𝕄) :
    (iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ (((Memref.whole cc0_scratch0).view.loc (c : Thread nD τ) ↦{fullShare} f16) -∗ ((Memref.whole cc0_scratch2).view.loc (c : Thread nD τ) ↦{fullShare} f18) -∗ ((Memref.whole cc0_scratch3).view.loc (c : Thread nD τ) ↦{fullShare} f19) -∗ K (attTail i v1 hw v27 v31 f16 f18 f19 (v132, v141, v151) v152 v163 v164 c0))) : sProp 𝕄)
     ⊢ wp frame (wpE (defs₀ (F := F)) Variants.none (c : Thread nD τ) none) Set.univ (k0_part33 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 2).val) v1 hw v27 v31 v132 v141 v151 v152 v163 v164 c0) K := by
  iintro ⟨H16, H18, H19, HK⟩
  rw [k0_part33_eq_skeleton]; unfold k0_part33_skel
  sl_for (fun k x => iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ ⌜x = iter (step9 i f16 f18 f19 v1 hw v27 v31) (v132, v141, v151) k⌝)) $$ [H16 H18 H19]
  · intro t acc
    iintro ⟨H16, H18, H19, %e⟩
    obtain ⟨x1, x2, x3⟩ := acc
    sl_exec
    sl_step
    isplitl [H16]; · iexact H16
    isplitl [H18]; · iexact H18
    isplitl [H19]; · iexact H19
    ipureintro
    rw [iter_succ, ← e]; rfl
  · isplitl [H16]; · iexact H16
    isplitl [H18]; · iexact H18
    isplitl [H19]; · iexact H19
    ipureintro; rfl
  iintro %x9 ⟨H16, H18, H19, %e9⟩
  obtain ⟨y91, y92, y93⟩ := x9
  sl_exec

  sl_for (fun k x => iprop(((Memref.whole cc0_scratch0).view.loc (c : Thread nD τ) ↦{fullShare} f16) ∗ ((Memref.whole cc0_scratch2).view.loc (c : Thread nD τ) ↦{fullShare} f18) ∗ ((Memref.whole cc0_scratch3).view.loc (c : Thread nD τ) ↦{fullShare} f19) ∗ ⌜x = iter (step11 i f16 f18 f19 v1 hw v27 v31 v152 v163 v164 c0) (carry9 i v1 hw v27 v31 f16 f18 f19 (v132, v141, v151)) k⌝)) $$ [H16 H18 H19]
  · intro t acc
    iintro ⟨H16, H18, H19, %e⟩
    obtain ⟨x1, x2, x3⟩ := acc
    sl_exec
    sl_step
    isplitl [H16]; · iexact H16
    isplitl [H18]; · iexact H18
    isplitl [H19]; · iexact H19
    ipureintro
    rw [iter_succ, ← e]; rfl
  · isplitl [H16]; · iexact H16
    isplitl [H18]; · iexact H18
    isplitl [H19]; · iexact H19
    ipureintro; exact e9
  iintro %x11 ⟨H16, H18, H19, %e11⟩
  obtain ⟨y111, y112, y113⟩ := x11
  sl_exec

  sl_step
  have E : carry11 i v1 hw v27 v31 f16 f18 f19 (v132, v141, v151) v152 v163 v164 c0 = (y111, y112, y113) := e11.symm
  unfold attTail
  rw [E]
  ihave HK := HK $$ H16
  ihave HK := HK $$ H18
  ihave HK := HK $$ H19
  iexact HK

set_option maxHeartbeats 4000000 in
/-- One grid point: on the first block of a sequence the scratch arrays are filled, otherwise they stay; the block's attention over them is stored. -/
theorem attend (h : ∀ x, 0 ≤ (pl x).toInt ∧ (pl x).toInt ≤ 12288) (ht : ∀ x, 0 ≤ (tbl x).toInt ∧ (tbl x).toInt < 720) (f15 : Buf (Elt F) (a15.view.loc (c : Thread nD τ))) (f16 f17 f18 f19) :
    iprop(held c a5 a6 a8 a10 a11 a12 a13 a14 tbl pl pk pv f5 f6 f8 f10 f11 f12 f13 f14 f16 f17 f18 f19 ∗ (a15.view.loc (c : Thread nD τ) ↦[a15.view.set]{fullShare} f15))
     ⊢ wp frame (wpE (defs₀ (F := F)) Variants.none (c : Thread nD τ) none) Set.univ (cc0_attend (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun _ => iprop(∃ g16 g17 g18 g19, held c a5 a6 a8 a10 a11 a12 a13 a14 tbl pl pk pv f5 f6 f8 f10 f11 f12 f13 f14 g16 g17 g18 g19
       ∗ (∃ g15 : Buf (Elt F) (a15.view.loc (c : Thread nD τ)), (a15.view.loc (c : Thread nD τ) ↦[a15.view.set]{fullShare} g15) ∗ ⌜a15.view.read (Elt F) g15 = k0_pay1 (attOut i (plen i pl) (chk1 i _ (h _)) (k0_pay71 (a5.view.read (Elt F) f5)) (k0_pay72 (a6.view.read (Elt F) f6)) g16 g18 g19)⌝)
       ∗ ⌜(k0_cond1 i = 1#1 → Filled tbl (plen i pl) pk pv (i 0).val (a8.view.read (Elt F) f8) (a10.view.read (Elt F) f10) (a11.view.read (Elt F) f11) (a12.view.read (Elt F) f12) (a13.view.read (Elt F) f13) (a14.view.read (Elt F) f14) g16 g18 g19)
         ∧ (¬ k0_cond1 i = 1#1 → g16 = f16 ∧ g18 = f18 ∧ g19 = f19)⌝)) := by
  iintro ⟨HH, H15⟩
  rw [cc0_attend_eq_skeleton]; unfold cc0_attend_skel
  rw [wp_bind]
  ihave HF : (wp frame (wpE (defs₀ (F := F)) Variants.none (c : Thread nD τ) none) Set.univ (k0_part29 (F := F) i (Memref.whole main_arg0) (Memref.isWhole_whole _) (Memref.whole main_arg1) (Memref.isWhole_whole _) a5 h5 a6 h6 (Memref.whole main_arg4) (Memref.isWhole_whole _) a8 h8 (Memref.whole main_arg6) (Memref.isWhole_whole _) a10 h10 a11 h11 a12 h12 a13 h13 a14 h14 a15 h15 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun r => iprop(∃ g16 g17 g18 g19, held c a5 a6 a8 a10 a11 a12 a13 a14 tbl pl pk pv f5 f6 f8 f10 f11 f12 f13 f14 g16 g17 g18 g19
       ∗ ⌜r = first c i a5 a6 f5 f6 pl h ∧ ((k0_cond1 i = 1#1 → Filled tbl (plen i pl) pk pv (i 0).val (a8.view.read (Elt F) f8) (a10.view.read (Elt F) f10) (a11.view.read (Elt F) f11) (a12.view.read (Elt F) f12) (a13.view.read (Elt F) f13) (a14.view.read (Elt F) f14) g16 g18 g19)
         ∧ (¬ k0_cond1 i = 1#1 → g16 = f16 ∧ g18 = f18 ∧ g19 = f19))⌝)) : sProp 𝕄) $$ [HH]
  · by_cases hc : k0_cond1 i = 1#1
    · iapply (wp_mono _ _ _ (fun r => ?_))
      rotate_left
      · iapply (part29_first c i a5 h5 a6 h6 a8 h8 a10 h10 a11 h11 a12 h12 a13 h13 a14 h14 a15 h15 tbl pl pk pv f5 f6 f8 f10 f11 f12 f13 f14 h ht f16 f17 f18 f19 hc) $$ HH
      · iintro ⟨%g16, %g17, %g18, %g19, HH, %e⟩
        iexists g16, g17, g18, g19
        isplitl [HH]; · iexact HH
        ipureintro
        exact ⟨e.1, fun _ => e.2, fun n => absurd hc n⟩
    · iapply (wp_mono _ _ _ (fun r => ?_))
      rotate_left
      · iapply (part29_later c i a5 h5 a6 h6 a8 h8 a10 h10 a11 h11 a12 h12 a13 h13 a14 h14 a15 h15 tbl pl pk pv f5 f6 f8 f10 f11 f12 f13 f14 h f16 f17 f18 f19 hc) $$ HH
      · iintro ⟨HH, %e⟩
        iexists f16, f17, f18, f19
        isplitl [HH]; · iexact HH
        ipureintro
        exact ⟨e, fun y => absurd y hc, fun _ => ⟨rfl, rfl, rfl⟩⟩
  iapply (wp_wand_r _ _ _)
  isplitl [HF]; · iexact HF
  iintro %r ⟨%g16, %g17, %g18, %g19, HH, %e⟩
  obtain ⟨rfl, e1, e2⟩ := e
  dsimp only [first]
  rw [wp_bind]
  iapply (part30_wp c i a5 h5 a6 h6 a8 h8 a10 h10 a11 h11 a12 h12 a13 h13 a14 h14 a15 h15 _)
  rw [show r30 (F := F) i = ⟨(r30 (F := F) i).1, (r30 (F := F) i).2.1, (r30 (F := F) i).2.2.1, (r30 (F := F) i).2.2.2.1, (r30 (F := F) i).2.2.2.2⟩ from rfl]
  dsimp only
  unfold held
  icases HH with ⟨HT, HP, HPK, HPV, H16, H17, H18, H19, Hs16, Hs17, HO, H5, H6, H8, H10, H11, H12, H13, H14⟩
  rw [wp_bind]
  iapply (part31_wp c i a5 h5 a6 h6 a8 h8 a10 h10 a11 h11 a12 h12 a13 h13 a14 h14 a15 h15 (k0_pay71 (a5.view.read (Elt F) f5)) (k0_pay72 (a6.view.read (Elt F) f6)) g16 g18 g19 _)
  isplitl [H16]; · iexact H16
  isplitl [H18]; · iexact H18
  isplitl [H19]; · iexact H19
  iintro H16 H18 H19
  rw [show r31 i (k0_pay71 (a5.view.read (Elt F) f5)) (k0_pay72 (a6.view.read (Elt F) f6)) g16 g18 g19 = ⟨(r31 i (k0_pay71 (a5.view.read (Elt F) f5)) (k0_pay72 (a6.view.read (Elt F) f6)) g16 g18 g19).1, (r31 i (k0_pay71 (a5.view.read (Elt F) f5)) (k0_pay72 (a6.view.read (Elt F) f6)) g16 g18 g19).2.1, (r31 i (k0_pay71 (a5.view.read (Elt F) f5)) (k0_pay72 (a6.view.read (Elt F) f6)) g16 g18 g19).2.2.1, (r31 i (k0_pay71 (a5.view.read (Elt F) f5)) (k0_pay72 (a6.view.read (Elt F) f6)) g16 g18 g19).2.2.2.1, (r31 i (k0_pay71 (a5.view.read (Elt F) f5)) (k0_pay72 (a6.view.read (Elt F) f6)) g16 g18 g19).2.2.2.2.1, (r31 i (k0_pay71 (a5.view.read (Elt F) f5)) (k0_pay72 (a6.view.read (Elt F) f6)) g16 g18 g19).2.2.2.2.2.1, (r31 i (k0_pay71 (a5.view.read (Elt F) f5)) (k0_pay72 (a6.view.read (Elt F) f6)) g16 g18 g19).2.2.2.2.2.2.1, (r31 i (k0_pay71 (a5.view.read (Elt F) f5)) (k0_pay72 (a6.view.read (Elt F) f6)) g16 g18 g19).2.2.2.2.2.2.2.1, (r31 i (k0_pay71 (a5.view.read (Elt F) f5)) (k0_pay72 (a6.view.read (Elt F) f6)) g16 g18 g19).2.2.2.2.2.2.2.2.1, (r31 i (k0_pay71 (a5.view.read (Elt F) f5)) (k0_pay72 (a6.view.read (Elt F) f6)) g16 g18 g19).2.2.2.2.2.2.2.2.2.1, (r31 i (k0_pay71 (a5.view.read (Elt F) f5)) (k0_pay72 (a6.view.read (Elt F) f6)) g16 g18 g19).2.2.2.2.2.2.2.2.2.2⟩ from rfl]
  dsimp only
  rw [wp_bind]
  iapply (part32_wp c i a5 h5 a6 h6 a8 h8 a10 h10 a11 h11 a12 h12 a13 h13 a14 h14 a15 h15 (k0_pay71 (a5.view.read (Elt F) f5)) (k0_pay72 (a6.view.read (Elt F) f6)) g16 g18 g19 (plen i pl) _)
  isplitl [H16]; · iexact H16
  isplitl [H18]; · iexact H18
  isplitl [H19]; · iexact H19
  iintro H16 H18 H19
  rw [show r32 i (plen i pl) (k0_pay71 (a5.view.read (Elt F) f5)) (k0_pay72 (a6.view.read (Elt F) f6)) g16 g18 g19 = ⟨(r32 i (plen i pl) (k0_pay71 (a5.view.read (Elt F) f5)) (k0_pay72 (a6.view.read (Elt F) f6)) g16 g18 g19).1, (r32 i (plen i pl) (k0_pay71 (a5.view.read (Elt F) f5)) (k0_pay72 (a6.view.read (Elt F) f6)) g16 g18 g19).2.1, (r32 i (plen i pl) (k0_pay71 (a5.view.read (Elt F) f5)) (k0_pay72 (a6.view.read (Elt F) f6)) g16 g18 g19).2.2.1, (r32 i (plen i pl) (k0_pay71 (a5.view.read (Elt F) f5)) (k0_pay72 (a6.view.read (Elt F) f6)) g16 g18 g19).2.2.2.1, (r32 i (plen i pl) (k0_pay71 (a5.view.read (Elt F) f5)) (k0_pay72 (a6.view.read (Elt F) f6)) g16 g18 g19).2.2.2.2.1, (r32 i (plen i pl) (k0_pay71 (a5.view.read (Elt F) f5)) (k0_pay72 (a6.view.read (Elt F) f6)) g16 g18 g19).2.2.2.2.2.1, (r32 i (plen i pl) (k0_pay71 (a5.view.read (Elt F) f5)) (k0_pay72 (a6.view.read (Elt F) f6)) g16 g18 g19).2.2.2.2.2.2⟩ from rfl]
  dsimp only
  rw [wp_bind]
  iapply (part33_wp c i a5 h5 a6 h6 a8 h8 a10 h10 a11 h11 a12 h12 a13 h13 a14 h14 a15 h15 (k0_pay71 (a5.view.read (Elt F) f5)) (k0_pay72 (a6.view.read (Elt F) f6)) g16 g18 g19 (plen i pl) (chk1 i _ (h _)) _ _ _ _ _ _ _ _)
  isplitl [H16]; · iexact H16
  isplitl [H18]; · iexact H18
  isplitl [H19]; · iexact H19
  iintro H16 H18 H19
  sl_exec
  sl_step
  iexists g16, g17, g18, g19
  isplitl [HT HP HPK HPV H16 H17 H18 H19 Hs16 Hs17 HO H5 H6 H8 H10 H11 H12 H13 H14]
  · isplitl [HT]; · iexact HT
    isplitl [HP]; · iexact HP
    isplitl [HPK]; · iexact HPK
    isplitl [HPV]; · iexact HPV
    isplitl [H16]; · iexact H16
    isplitl [H17]; · iexact H17
    isplitl [H18]; · iexact H18
    isplitl [H19]; · iexact H19
    isplitl [Hs16]; · iexact Hs16
    isplitl [Hs17]; · iexact Hs17
    isplitl [HO]; · iexact HO
    isplitl [H5]; · iexact H5
    isplitl [H6]; · iexact H6
    isplitl [H8]; · iexact H8
    isplitl [H10]; · iexact H10
    isplitl [H11]; · iexact H11
    isplitl [H12]; · iexact H12
    isplitl [H13]; · iexact H13
    iexact H14
  isplitl [H15]
  · iexists _
    isplitl [H15]; · iexact H15
    ipureintro
    exact View.read_writes_full a15.view f15 inb_S1x64x2048_S1x64x2048_0_0_0 _ []
  ipureintro
  exact ⟨e1, e2⟩

end
end Cert.KernelIdeal.Hand
-- ==== Proof.KI.Read.lean ====
/- Reading the steps of the attention loops at an index. -/
module

public import proofs.«01_k».proof.Proof.KI.Attn
public import proofs.«01_k».proof.Proof.Soft
public import Idealize.ShloMosaic.PureOps.Ideal.Laws
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic

theorem fold_sup {n : ℕ} (f : Fin n → EReal) : Finset.univ.fold max ⊥ f = Finset.univ.sup f := rfl

theorem minf : Ideal.ofBits .f32 0xFF800000#32 = ⊥ := by simp [Ideal.ofBits, Ideal.ieee]

/-- The scores of a block of keys. -/
theorem score_at (q : FVec Ideal S1024x128 .fp8e4m3) (w : FVec Ideal S1x1024 .f32) (S : Vec Ideal S1x256x128 .f32) (K : Vec Ideal S1x256x128 .fp8e4m3) (k : Fin 256) (c : Fin 1024)
    (z : EReal) (hz : ∀ l : Fin 128, S (ix3 0 k l) = z) :
    k0_pay76 q w S K (ix2 k c) = (∑ l : Fin 128, (K (ix3 0 k l) * q (ix2 c l) : EReal)) * z * w (ix2 0 c) := by
  unfold k0_pay76
  pointwise
  simp only [hz, dite_eq_ite, ite_self]

/-- The largest of a block. -/
def maxS (M : FVec Ideal S1x1024 .f32) (S : FVec Ideal S256x1024 .f32) : FVec Ideal S1x1024 .f32 :=
  maximumf M (shapeCast S1x1024 (multiReduction (F := Ideal) .maximumf [0] S1024 S 0xFF800000#32 reduces_S256x1024_S1024 (.inl rfl) rfl) shapeCasts_S1024_S1x1024)

theorem max_at (M : FVec Ideal S1x1024 .f32) (S : FVec Ideal S256x1024 .f32) (c : Fin 1024) :
    maxS M S (ix2 0 c) = max (M (ix2 0 c) : EReal) (Finset.univ.sup fun k : Fin 256 => (S (ix2 k c) : EReal)) := by
  unfold maxS
  pointwise
  rw [minf]
  exact congrArg (max _) (fold_sup _)

/-- The weights of a block. -/
def wgtS (M : FVec Ideal S1x1024 .f32) (S : FVec Ideal S256x1024 .f32) : FVec Ideal S256x1024 .f32 :=
  exp2 (subf S (broadcastTo S256x1024 (maxS M S) broadcasts_S1x1024_S256x1024))
/-- The factor the carried values take. -/
def facS (M : FVec Ideal S1x1024 .f32) (S : FVec Ideal S256x1024 .f32) : FVec Ideal S1x1024 .f32 := exp2 (subf M (maxS M S))
/-- The sum of the weights. -/
def sumS (M L : FVec Ideal S1x1024 .f32) (S : FVec Ideal S256x1024 .f32) : FVec Ideal S1x1024 .f32 :=
  addf (mulf L (facS M S)) (shapeCast S1x1024 (multiReduction (F := Ideal) .add [0] S1024 (wgtS M S) 0x00000000#32 reduces_S256x1024_S1024 (.inl rfl) rfl) shapeCasts_S1024_S1x1024)
/-- The weighted values. -/
def accS (M : FVec Ideal S1x1024 .f32) (A : FVec Ideal S128x1024 .f32) (S : FVec Ideal S256x1024 .f32) (V : Vec Ideal S1x128x256 .bf16) : FVec Ideal S128x1024 .f32 :=
  addf (mulf A (broadcastTo S128x1024 (facS M S) broadcasts_S1x1024_S128x1024)) (matmul (F := Ideal) (φ₁ := .bf16) (φ₂ := .bf16) dot_S128x256_S256x1024_S128x1024_1_0_0_1_n_n none (shapeCast S128x256 V shapeCasts_S1x128x256_S128x256) (truncf .bf16 (wgtS M S) bitsLt_bf16_f32) (constant S128x1024 .f32 0x00000000#32))

theorem wgt_at (M : FVec Ideal S1x1024 .f32) (S : FVec Ideal S256x1024 .f32) (k : Fin 256) (c : Fin 1024) :
    wgtS M S (ix2 k c) = Ideal.exp2 ((S (ix2 k c) : EReal) - maxS M S (ix2 0 c)) := by
  unfold wgtS
  generalize maxS M S = Z
  pointwise
  rfl
theorem fac_at (M : FVec Ideal S1x1024 .f32) (S : FVec Ideal S256x1024 .f32) (c : Fin 1024) :
    facS M S (ix2 0 c) = Ideal.exp2 ((M (ix2 0 c) : EReal) - maxS M S (ix2 0 c)) := by
  unfold facS
  generalize maxS M S = Z
  pointwise
  rfl
theorem sum_at (M L : FVec Ideal S1x1024 .f32) (S : FVec Ideal S256x1024 .f32) (c : Fin 1024) :
    sumS M L S (ix2 0 c) = (L (ix2 0 c) : EReal) * Ideal.exp2 ((M (ix2 0 c) : EReal) - maxS M S (ix2 0 c)) + ∑ k : Fin 256, Ideal.exp2 ((S (ix2 k c) : EReal) - maxS M S (ix2 0 c)) := by
  simp only [← wgt_at, ← fac_at]
  unfold sumS
  generalize wgtS M S = Z
  generalize facS M S = Y
  pointwise
theorem acc_at (M : FVec Ideal S1x1024 .f32) (A : FVec Ideal S128x1024 .f32) (S : FVec Ideal S256x1024 .f32) (V : Vec Ideal S1x128x256 .bf16) (d : Fin 128) (c : Fin 1024) :
    accS M A S V (ix2 d c) = (A (ix2 d c) : EReal) * Ideal.exp2 ((M (ix2 0 c) : EReal) - maxS M S (ix2 0 c)) + ∑ k : Fin 256, (V (ix3 0 d k) * Ideal.exp2 ((S (ix2 k c) : EReal) - maxS M S (ix2 0 c)) : EReal) := by
  simp only [← wgt_at, ← fac_at]
  unfold accS
  generalize wgtS M S = Z
  generalize facS M S = Y
  pointwise

/-- The quotient laid out by token. -/
theorem fin_at (L : FVec Ideal S1x1024 .f32) (A : FVec Ideal S128x1024 .f32) (r : Fin 64) (u : Fin 16) (d : Fin 128) :
    k0_pay123 (F := Ideal) L A (ix2 r ⟨u.val * 128 + d.val, by omega⟩) = Ideal.div (A (ix2 d ⟨r.val * 16 + u.val, by omega⟩)) (L (ix2 0 ⟨r.val * 16 + u.val, by omega⟩)) := by
  unfold k0_pay123
  pointwise
  have e : (u.val * 128 + d.val) / 128 = u.val := by omega
  simp only [e]

theorem out_at (X : FVec Ideal S64x2048 .bf16) (r : Fin 64) (u : Fin 2048) : k0_pay1 (F := Ideal) X (ix3 0 r u) = X (ix2 r u) := by
  unfold k0_pay1
  pointwise

theorem coef_at (x : Vec Ideal S1x1x1x1x1024 .f32) (c : Fin 1024) : k0_pay72 x (ix2 0 c) = (x (ix5 0 0 0 0 c) : EReal) * (((Real.sqrt 128)⁻¹ * (Real.log 2)⁻¹ : ℝ) : EReal) := by
  unfold k0_pay72
  pointwise
  rfl
theorem code_at (x : Vec Ideal S1x1x1024x128 .fp8e4m3) (c : Fin 1024) (l : Fin 128) : k0_pay71 x (ix2 c l) = x (ix4 0 0 c l) := by
  unfold k0_pay71
  pointwise

theorem start_sum (c : Fin 1024) : k0_pay73 (F := Ideal) (ix2 0 c) = (0 : EReal) := by
  unfold k0_pay73
  pointwise
theorem start_acc (d : Fin 128) (c : Fin 1024) : k0_pay74 (F := Ideal) (ix2 d c) = (0 : EReal) := by
  unfold k0_pay74
  pointwise
theorem start_max (c : Fin 1024) : ∃ r : ℝ, k0_pay75 (F := Ideal) (Scalar.ofBits (F := Ideal) .f32 0xF149F2CA#32) (ix2 0 c) = (r : EReal) := by
  unfold k0_pay75
  pointwise
  show ∃ r : ℝ, Ideal.ofBits .f32 0xF149F2CA#32 = r
  simp [Ideal.ofBits, Ideal.ieee]
  exact ⟨-(13234890 * 2 ^ 76), by push_cast; rfl⟩

end Cert.KernelIdeal.Hand
-- ==== Proof.KI.Row.lean ====
/- One query row through the attention loops: what is carried after each block of keys. -/
module

public import proofs.«01_k».proof.Proof.KI.Read

@[expose] public section

noncomputable section

namespace Cert.KernelIdeal.Hand

open Cert.KernelIdeal Cert.KernelIdeal.Gen
open Idealize.ShloMosaic Idealize.ShloMosaic.TcCoe Idealize.ShloMosaic.Tactic

/-- A block of key rows read. -/
theorem rdR {e : EltTy} (a : Memref sig .tc .vmem S2x13056x128 e) (c : Dev nD) (f : Buf (Elt Ideal) (a.view.loc (c : Thread nD τ))) (g : Fin 2) (B : ℕ) (hB : B ≤ 12800) (off : Fin 3 → ℕ) (inb) (ho : off = ![g.val, B, 0]) (r : Fin 256) (l : Fin 128) :
    View.readAt (Elt Ideal) a.view (Rect.unit (s := S2x13056x128) off S1x256x128.size inb).toLoadRect f (ix3 0 r l) = a.view.read (Elt Ideal) f (ix3 g ⟨B + r.val, by omega⟩ l) := by
  subst ho
  rw [View.readAt_apply]
  refine congrArg (a.view.read (Elt Ideal) f) (funext fun a => Fin.ext ?_)
  match a with
  | ⟨0, _⟩ => show g.val + 1 * 0 = g.val; omega
  | ⟨1, _⟩ => show B + 1 * r.val = B + r.val; omega
  | ⟨2, _⟩ => show 0 + 1 * l.val = l.val; omega

/-- A block of value columns read. -/
theorem rdC {e : EltTy} (a : Memref sig .tc .vmem S2x128x13056 e) (c : Dev nD) (f : Buf (Elt Ideal) (a.view.loc (c : Thread nD τ))) (g : Fin 2) (B : ℕ) (hB : B ≤ 12800) (off : Fin 3 → ℕ) (inb) (ho : off = ![g.val, 0, B]) (l : Fin 128) (r : Fin 256) :
    View.readAt (Elt Ideal) a.view (Rect.unit (s := S2x128x13056) off S1x128x256.size inb).toLoadRect f (ix3 0 l r) = a.view.read (Elt Ideal) f (ix3 g l ⟨B + r.val, by omega⟩) := by
  subst ho
  rw [View.readAt_apply]
  refine congrArg (a.view.read (Elt Ideal) f) (funext fun a => Fin.ext ?_)
  match a with
  | ⟨0, _⟩ => show g.val + 1 * 0 = g.val; omega
  | ⟨1, _⟩ => show 0 + 1 * l.val = l.val; omega
  | ⟨2, _⟩ => show B + 1 * r.val = B + r.val; omega

/-- What is carried of one row. -/
def Row (c0 : ℝ) (s : ℕ → EReal) (vv : Fin 128 → ℕ → EReal) (c : Fin 1024) (T : Finset ℕ) (x : Carry Ideal) : Prop :=
  Soft.Inv c0 s vv T (x.1 (ix2 0 c)) (x.2.1 (ix2 0 c)) (fun d : Fin 128 => x.2.2 (ix2 d c))

theorem Row.block {c0 : ℝ} {s : ℕ → EReal} {vv : Fin 128 → ℕ → EReal} {c : Fin 1024} {T : Finset ℕ} {x : Carry Ideal} (h : Row c0 s vv c T x)
    (S : FVec Ideal S256x1024 .f32) (V : Vec Ideal S1x128x256 .bf16) (b : ℕ) (ok : Fin 256 → Prop)
    (hS : ∀ k, ok k → S (ix2 k c) = s (b + k.val)) (hN : ∀ k, ¬ ok k → S (ix2 k c) = (⊥ : EReal)) (hV : ∀ (d : Fin 128) k, ok k → V (ix3 0 d k) = vv d (b + k.val))
    (B : Finset ℕ) (hB : ∀ y, y ∈ B ↔ ∃ k : Fin 256, ok k ∧ y = b + k.val) (hd : Disjoint T B) :
    Row c0 s vv c (T ∪ B) (maxS x.1 S, sumS x.1 x.2.1 S, accS x.1 x.2.2 S V) :=
  Soft.Inv.block h b ok (fun k => S (ix2 k c)) (fun d k => V (ix3 0 d k)) hS hN hV B hB hd (max_at _ _ _) (sum_at _ _ _ _) (fun d => acc_at _ _ _ _ d c)

/-- The quotient and remainder facts of a block of queries: the complete tail blocks, and their keys. -/
def nTail (i : grid0.Coords) : ℕ := (64 * ((i 1).val + 1) - 1) / 256

theorem nTail_le (i : grid0.Coords) : nTail i ≤ 2 := by
  have : (i 1).val < 10 := (i 1).2
  unfold nTail; omega

theorem t7_trips (i : grid0.Coords) : (k0_t7_loop i).trips = nTail i := by
  unfold nTail k0_t7_loop
  generalize i 1 = x
  have x' : Fin 10 := x
  revert x
  show ∀ x : Fin 10, _
  decide

theorem v52_eq (i : grid0.Coords) : (r30 (F := Ideal) i).1 = BitVec.ofNat 32 (256 * nTail i) := by
  unfold nTail r30
  generalize i 1 = x
  revert x
  show ∀ x : Fin 10, _
  decide

theorem off62_eq (i : grid0.Coords) (t : Fin (k0_t7_loop i).trips) : k0_off62 i t = ![(i 2).val, 12288 + t.val * 256, 0] := by
  have := t.2.trans_eq (t7_trips i)
  have := nTail_le i
  show ![(BitVec.ofNat 32 (i 2).val).toNat, (Scalar.addi 12288#32 (Scalar.muli (Scf.iv 0#32 1#32 t.val) 256#32)).toNat, 0] = _
  rw [coord_toNat _ (by decide), mul_iv, show (12288#32 : BitVec 32) = BitVec.ofNat 32 12288 from rfl, add_nat, ofNat_toNat _ (by omega)]
theorem off63_eq (i : grid0.Coords) (t : Fin (k0_t7_loop i).trips) : k0_off63 i t = ![(i 2).val, 0, 12288 + t.val * 256] := by
  have := t.2.trans_eq (t7_trips i)
  have := nTail_le i
  show ![(BitVec.ofNat 32 (i 2).val).toNat, 0, (Scalar.addi 12288#32 (Scalar.muli (Scf.iv 0#32 1#32 t.val) 256#32)).toNat] = _
  rw [coord_toNat _ (by decide), mul_iv, show (12288#32 : BitVec 32) = BitVec.ofNat 32 12288 from rfl, add_nat, ofNat_toNat _ (by omega)]
theorem off66_eq (i : grid0.Coords) : k0_off66 i = ![(i 2).val, 12288 + nTail i * 256, 0] := by
  have := nTail_le i
  show ![(BitVec.ofNat 32 (i 2).val).toNat, (Scalar.addi 12288#32 (r30 (F := Ideal) i).1).toNat, 0] = _
  rw [coord_toNat _ (by decide), v52_eq, show (12288#32 : BitVec 32) = BitVec.ofNat 32 12288 from rfl, add_nat, ofNat_toNat _ (by omega), Nat.mul_comm 256]
theorem off67_eq (i : grid0.Coords) : k0_off67 i = ![(i 2).val, 0, 12288 + nTail i * 256] := by
  have := nTail_le i
  show ![(BitVec.ofNat 32 (i 2).val).toNat, 0, (Scalar.addi 12288#32 (r30 (F := Ideal) i).1).toNat] = _
  rw [coord_toNat _ (by decide), v52_eq, show (12288#32 : BitVec 32) = BitVec.ofNat 32 12288 from rfl, add_nat, ofNat_toNat _ (by omega), Nat.mul_comm 256]

theorem sel {α : Type} (c : Bool) (a b : α) : Scalar.select (BitVec.ofBool c) a b = if c = true then a else b := by
  cases c <;> rfl

theorem head_token (c : Fin 1024) : Scalar.select (Scalar.andi (Scalar.cmpi .ne
        (Scalar.subi (Scalar.extui (Scalar.cmpi .sgt (BitVec.ofNat 32 c.val) 0#32)) (Scalar.extui (Scalar.cmpi .slt (BitVec.ofNat 32 c.val) 0#32)))
        (Scalar.subi (Scalar.extui (Scalar.cmpi .sgt 16#32 0#32)) (Scalar.extui (Scalar.cmpi .slt 16#32 0#32))))
        (Scalar.cmpi .ne (Scalar.remsi (BitVec.ofNat 32 c.val) 16#32) 0#32))
      (Scalar.subi (Scalar.divsi (BitVec.ofNat 32 c.val) 16#32) 1#32) (Scalar.divsi (BitVec.ofNat 32 c.val) 16#32) = BitVec.ofNat 32 (c.val / 16) := by
  have h0 : 0 ≤ (BitVec.ofNat 32 c.val).toInt := by
    rw [BitVec.toInt_eq_toNat_of_lt (by rw [BitVec.toNat_ofNat]; omega)]; omega
  have h1 : (BitVec.ofNat 32 c.val).toInt = c.val := by
    rw [BitVec.toInt_eq_toNat_of_lt (by rw [BitVec.toNat_ofNat]; omega), BitVec.toNat_ofNat]; omega
  refine (floor_div _ _ h0 (by decide)).trans ?_
  have h2 := quot _ h0 16 (by omega)
  rw [h1] at h2
  have := nat_of _ (show 0 ≤ (Scalar.divsi (BitVec.ofNat 32 c.val) (BitVec.ofNat 32 16)).toInt by rw [h2]; omega)
  apply BitVec.eq_of_toNat_eq
  rw [BitVec.toNat_ofNat]
  have : (Scalar.divsi (BitVec.ofNat 32 c.val) 16#32).toNat = c.val / 16 := by omega
  rw [this]; omega

theorem vdiv (x : BitVec 32) : IntOp.divsi ArithUnit.vector x 16#32 = Scalar.divsi x 16#32 := by
  simp [IntOp.divsi, Scalar.divsi, IntOp.SDivCorner]
theorem vrem (x : BitVec 32) : IntOp.remsi ArithUnit.vector x 16#32 = Scalar.remsi x 16#32 := by
  simp [IntOp.remsi, Scalar.remsi, IntOp.SDivCorner]

theorem sle_nat (a b : ℕ) (ha : a < 2 ^ 31) (hb : b < 2 ^ 31) : (BitVec.ofNat 32 a).sle (BitVec.ofNat 32 b) = true ↔ a ≤ b := by
  have e1 : (BitVec.ofNat 32 a).toInt = a := by
    rw [BitVec.toInt_eq_toNat_of_lt (by rw [BitVec.toNat_ofNat]; omega), BitVec.toNat_ofNat]; omega
  have e2 : (BitVec.ofNat 32 b).toInt = b := by
    rw [BitVec.toInt_eq_toNat_of_lt (by rw [BitVec.toNat_ofNat]; omega), BitVec.toNat_ofNat]; omega
  rw [BitVec.sle_eq_decide, decide_eq_true_iff, e1, e2]
  omega

theorem masked_tail (Z : FVec Ideal S256x1024 .f32) (a b : ℕ) (ha : a ≤ 512) (hb : b < 10) (k : Fin 256) (c : Fin 1024) :
    k0_pay93 Z (k0_pay89 (BitVec.ofNat 32 a)) (Scalar.muli (BitVec.ofNat 32 b) 64#32) (iota .tc S256x1024 32 [1] iota_S256x1024_d1_w32) k0_pay90 k0_pay91 k0_pay92 (ix2 k c)
      = if a + k.val ≤ b * 64 + c.val / 16 then Z (ix2 k c) else (⊥ : EReal) := by
  unfold k0_pay93 k0_pay89 k0_pay90 k0_pay91 k0_pay92
  pointwise
  rw [vdiv, vrem, minf]
  refine Eq.trans (congrArg (fun w => Scalar.select (IntOp.cmpi CmpIPredicate.sle (IntOp.addi (BitVec.ofNat 32 a) (BitVec.ofNat 32 k.val)) (IntOp.addi (Scalar.muli (BitVec.ofNat 32 b) 64#32) w)) (Z (ix2 k c)) (⊥ : EReal)) (head_token c)) ?_
  rw [show (64#32 : BitVec 32) = BitVec.ofNat 32 64 from rfl, mul_nat,
    show IntOp.addi (BitVec.ofNat 32 a) (BitVec.ofNat 32 k.val) = BitVec.ofNat 32 (a + k.val) from add_nat _ _,
    show IntOp.addi (BitVec.ofNat 32 (b * 64)) (BitVec.ofNat 32 (c.val / 16)) = BitVec.ofNat 32 (b * 64 + c.val / 16) from add_nat _ _]
  refine (sel _ _ _).trans (if_congr ?_ rfl rfl)
  exact sle_nat _ _ (by omega) (by omega)

theorem masked_past (v1 : BitVec 32) (hv : 0 ≤ v1.toInt ∧ v1.toInt ≤ 12288) (q : FVec Ideal S1024x128 .fp8e4m3) (w : FVec Ideal S1x1024 .f32) (S : Vec Ideal S1x256x128 .f32) (K : Vec Ideal S1x256x128 .fp8e4m3) (i : grid0.Coords) (f16 f18 f19) (t : Fin (k0_t11_loop v1).trips) (k : Fin 256) (c : Fin 1024) :
    k0_pay111 (F := Ideal) v1 q w (r32 i v1 q w f16 f18 f19).2.2.2.1 (r32 i v1 q w f16 f18 f19).2.2.2.2.1 (r32 i v1 q w f16 f18 f19).2.2.2.2.2.1 0#32 t S K (ix2 k c)
      = if (nFull v1 + t.val) * 256 + k.val < v1.toNat then k0_pay76 q w S K (ix2 k c) else (⊥ : EReal) := by
  show select (cmpi .slt (addi (broadcast S256x1024 (k0_mult58 v1 t)) (iota .tc S256x1024 32 [0] iota_S256x1024_d0_w32)) (broadcast S256x1024 v1)) (k0_pay76 q w S K) (broadcast S256x1024 (Scalar.ofBits (F := Ideal) .f32 0xFF800000#32)) (ix2 k c) = _
  have e := mult58_eq v1 hv t
  generalize k0_mult58 v1 t = m at *
  generalize k0_pay76 q w S K = Z
  pointwise
  rw [minf]
  have := t11_lt v1 hv t
  have em : IntOp.addi m (BitVec.ofNat 32 k.val) = BitVec.ofNat 32 ((nFull v1 + t.val) * 256 + k.val) := by
    rw [← e, ← add_nat]; rw [BitVec.ofNat_toNat, BitVec.setWidth_eq]; rfl
  rw [em]
  refine (sel _ _ _).trans (if_congr ?_ rfl rfl)
  have hn := nat_of v1 hv.1
  have e1 : (BitVec.ofNat 32 ((nFull v1 + t.val) * 256 + k.val)).toInt = ((nFull v1 + t.val) * 256 + k.val : ℕ) := by
    rw [BitVec.toInt_eq_toNat_of_lt (by rw [BitVec.toNat_ofNat]; omega), BitVec.toNat_ofNat]; omega
  rw [BitVec.slt_eq_decide, decide_eq_true_iff, e1, ← hn]
  omega

section
variable (i : grid0.Coords) (f16 : cc0_scratch0.ty.Contents (Elt Ideal)) (f18 : cc0_scratch2.ty.Contents (Elt Ideal)) (f19 : cc0_scratch3.ty.Contents (Elt Ideal))
variable (v1 : BitVec 32) (hv : 0 ≤ v1.toInt ∧ v1.toInt ≤ 12288) (hw : k0_chk1 i v1)
variable (q : FVec Ideal S1024x128 .fp8e4m3) (w : FVec Ideal S1x1024 .f32) (c : Fin 1024)
variable (kk : ℕ → Fin 128 → EReal) (zz : ℕ → EReal) (vv : Fin 128 → ℕ → EReal)

/-- The group of a grid point. -/
def grp : Fin 2 := ⟨(i 2).val, (i 2).2⟩

/-- A key that counts: stored, or of the tail. -/
def Ok (k : ℕ) : Prop := k < v1.toNat ∨ (12288 ≤ k ∧ k < 12928)

/-- What the scratch arrays hold at the keys that count. -/
def Holds : Prop := ∀ k : Fin 13056, Ok v1 k.val →
  (∀ l : Fin 128, f16 (ix3 (grp i) k l) = kk k.val l) ∧ (∀ l : Fin 128, f19 (ix3 (grp i) k l) = zz k.val) ∧ ∀ l : Fin 128, f18 (ix3 (grp i) l k) = vv l k.val

/-- A row's score of a key. -/
def sc (k : ℕ) : EReal := (∑ l : Fin 128, kk k l * (q (ix2 c l) : EReal)) * zz k * w (ix2 0 c)

variable {i f16 f18 f19 v1 kk zz vv}
include hv in
theorem ok_lt {k : ℕ} (h : Ok v1 k) : k < 13056 := by
  have := nat_of v1 hv.1
  unfold Ok at h; omega

theorem blk_score (H : Holds i f16 f18 f19 v1 kk zz vv) (off : Fin 3 → ℕ) (inb) (B : ℕ) (hB : B ≤ 12800) (ho : off = ![(i 2).val, B, 0]) (k : Fin 256) (hk : Ok v1 (B + k.val)) :
    k0_pay76 (F := Ideal) q w ((Memref.whole cc0_scratch3).view.readAt (Elt Ideal) (Rect.unit (s := S2x13056x128) off S1x256x128.size inb).toLoadRect f19) ((Memref.whole cc0_scratch0).view.readAt (Elt Ideal) (Rect.unit (s := S2x13056x128) off S1x256x128.size inb).toLoadRect f16) (ix2 k c)
      = sc q w c kk zz (B + k.val) := by
  have H' := H ⟨B + k.val, by omega⟩ hk
  have e1 : ∀ l : Fin 128, ((Memref.whole cc0_scratch3).view.readAt (Elt Ideal) (Rect.unit (s := S2x13056x128) off S1x256x128.size inb).toLoadRect f19) (ix3 0 k l) = zz (B + k.val) := fun l =>
    (rdR (Memref.whole cc0_scratch3) ⟨0, by decide⟩ f19 (grp i) B hB off inb ho k l).trans ((congrFun (View.read_whole cc0_scratch3 f19) _).trans (H'.2.1 l))
  have e2 : ∀ l : Fin 128, ((Memref.whole cc0_scratch0).view.readAt (Elt Ideal) (Rect.unit (s := S2x13056x128) off S1x256x128.size inb).toLoadRect f16) (ix3 0 k l) = kk (B + k.val) l := fun l =>
    (rdR (Memref.whole cc0_scratch0) ⟨0, by decide⟩ f16 (grp i) B hB off inb ho k l).trans ((congrFun (View.read_whole cc0_scratch0 f16) _).trans (H'.1 l))
  refine (score_at q w _ _ k c _ e1).trans ?_
  unfold sc
  rw [Finset.sum_congr rfl fun l _ => congrArg (· * (q (ix2 c l) : EReal)) (e2 l)]

theorem blk_val (H : Holds i f16 f18 f19 v1 kk zz vv) (off : Fin 3 → ℕ) (inb) (B : ℕ) (hB : B ≤ 12800) (ho : off = ![(i 2).val, 0, B]) (d : Fin 128) (k : Fin 256) (hk : Ok v1 (B + k.val)) :
    ((Memref.whole cc0_scratch2).view.readAt (Elt Ideal) (Rect.unit (s := S2x128x13056) off S1x128x256.size inb).toLoadRect f18) (ix3 0 d k) = vv d (B + k.val) :=
  (rdC (Memref.whole cc0_scratch2) ⟨0, by decide⟩ f18 (grp i) B hB off inb ho d k).trans ((congrFun (View.read_whole cc0_scratch2 f18) _).trans ((H ⟨B + k.val, by omega⟩ hk).2.2 d))

theorem carry7_row (H : Holds i f16 f18 f19 v1 kk zz vv) : ∃ c0 : ℝ, Row c0 (sc q w c kk zz) vv c (Finset.Ico 12288 (12288 + nTail i * 256)) (carry7 i q w f16 f18 f19) := by
  obtain ⟨c0, e0⟩ := start_max c
  refine ⟨c0, ?_⟩
  have key : ∀ n, n ≤ (k0_t7_loop i).trips → Row c0 (sc q w c kk zz) vv c (Finset.Ico 12288 (12288 + n * 256))
      (iter (step7 i f16 f18 f19 q w) (k0_pay75 (Scalar.ofBits (F := Ideal) .f32 0xF149F2CA#32), k0_pay73, k0_pay74) n) := by
    intro n
    induction n with
    | zero =>
      intro _
      rw [show Finset.Ico 12288 (12288 + 0 * 256) = ∅ by simp]
      have := Soft.Inv.start c0 (sc q w c kk zz) vv
      unfold Row
      show Soft.Inv c0 _ vv ∅ (k0_pay75 (F := Ideal) (Scalar.ofBits (F := Ideal) .f32 0xF149F2CA#32) (ix2 0 c)) (k0_pay73 (F := Ideal) (ix2 0 c)) (fun d : Fin 128 => k0_pay74 (F := Ideal) (ix2 d c))
      rw [e0, start_sum, funext fun d : Fin 128 => start_acc d c]
      exact this
    | succ n ih =>
      intro hn
      have ih := ih (Nat.le_of_succ_le hn)
      rw [iter_succ (step7 i f16 f18 f19 q w) _ ⟨n, hn⟩]
      have h7 := t7_trips i
      have hl := nTail_le i
      rw [show Finset.Ico 12288 (12288 + (n + 1) * 256) = Finset.Ico 12288 (12288 + n * 256) ∪ Finset.Ico (12288 + n * 256) (12288 + (n + 1) * 256) by
        rw [Finset.Ico_union_Ico_eq_Ico] <;> omega]
      exact ih.block _ _ (12288 + n * 256) (fun _ => True) (fun k _ => blk_score q w c H _ _ _ (by omega) (off62_eq i ⟨n, hn⟩) k (.inr (by omega)))
        (fun k hk => absurd trivial hk) (fun d k _ => blk_val H _ _ _ (by omega) (off63_eq i ⟨n, hn⟩) d k (.inr (by omega))) _
        (fun y => by
          simp only [Finset.mem_Ico, true_and]
          exact ⟨fun h => ⟨⟨y - (12288 + n * 256), by omega⟩, by show y = 12288 + n * 256 + (y - (12288 + n * 256)); omega⟩, fun ⟨k, e⟩ => by omega⟩)
        (by rw [Finset.disjoint_left]; intro y h1 h2; rw [Finset.mem_Ico] at h1 h2; omega)
  have := key _ (le_refl _)
  rw [show Finset.Ico 12288 (12288 + (k0_t7_loop i).trips * 256) = Finset.Ico 12288 (12288 + nTail i * 256) by rw [t7_trips i]] at this
  exact this

/-- The token of a row. -/
def tok (i : grid0.Coords) (c : Fin 1024) : ℕ := (i 1).val * 64 + c.val / 16

theorem mid_row (H : Holds i f16 f18 f19 v1 kk zz vv) : ∃ c0 : ℝ, Row c0 (sc q w c kk zz) vv c (Finset.Icc 12288 (12288 + tok i c)) (mid i q w f16 f18 f19) := by
  obtain ⟨c0, h⟩ := carry7_row q w c H
  have hl := nTail_le i
  have hi : (i 1).val < 10 := (i 1).2
  have ht : nTail i * 256 ≤ tok i c ∧ tok i c < nTail i * 256 + 256 ∧ tok i c < 640 := by unfold nTail tok; omega
  refine ⟨c0, ?_⟩
  rw [show Finset.Icc 12288 (12288 + tok i c) = Finset.Ico 12288 (12288 + nTail i * 256) ∪ Finset.Icc (12288 + nTail i * 256) (12288 + tok i c) by
    ext y; simp only [Finset.mem_union, Finset.mem_Icc, Finset.mem_Ico]; omega]
  have em : ∀ k : Fin 256, k0_pay93 (F := Ideal) (r31 i q w f16 f18 f19).2.2.2.2.1 (r31 i q w f16 f18 f19).2.2.2.2.2.1 (r31 i q w f16 f18 f19).2.2.2.2.2.2.1 (r31 i q w f16 f18 f19).2.2.2.2.2.2.2.1 (r31 i q w f16 f18 f19).2.2.2.2.2.2.2.2.1 (r31 i q w f16 f18 f19).2.2.2.2.2.2.2.2.2.1 (r31 i q w f16 f18 f19).2.2.2.2.2.2.2.2.2.2 (ix2 k c)
      = if 256 * nTail i + k.val ≤ (i 1).val * 64 + c.val / 16 then (r31 i q w f16 f18 f19).2.2.2.2.1 (ix2 k c) else (⊥ : EReal) := fun k => by
    have := masked_tail (r31 i q w f16 f18 f19).2.2.2.2.1 (256 * nTail i) (i 1).val (by omega) hi k c
    rw [← v52_eq] at this
    exact this
  refine h.block (k0_pay93 (F := Ideal) (r31 i q w f16 f18 f19).2.2.2.2.1 (r31 i q w f16 f18 f19).2.2.2.2.2.1 (r31 i q w f16 f18 f19).2.2.2.2.2.2.1 (r31 i q w f16 f18 f19).2.2.2.2.2.2.2.1 (r31 i q w f16 f18 f19).2.2.2.2.2.2.2.2.1 (r31 i q w f16 f18 f19).2.2.2.2.2.2.2.2.2.1 (r31 i q w f16 f18 f19).2.2.2.2.2.2.2.2.2.2)
    _ (12288 + nTail i * 256) (fun k => nTail i * 256 + k.val ≤ tok i c) (fun k hk => ?_) (fun k hk => ?_) (fun d k hk => blk_val H _ _ _ (by omega) (off67_eq i) d k (.inr (by omega))) _
    (fun y => ?_) ?_
  · rw [em k, if_pos (by unfold tok at hk; omega)]
    exact blk_score q w c H _ _ _ (by omega) (off66_eq i) k (.inr (by omega))
  · rw [em k, if_neg (by unfold tok at hk; omega)]
  · simp only [Finset.mem_Icc]
    exact ⟨fun h => ⟨⟨y - (12288 + nTail i * 256), by omega⟩, by show nTail i * 256 + (y - (12288 + nTail i * 256)) ≤ tok i c; omega, by show y = 12288 + nTail i * 256 + (y - (12288 + nTail i * 256)); omega⟩, fun ⟨k, h, e⟩ => by omega⟩
  · rw [Finset.disjoint_left]; intro y h1 h2; rw [Finset.mem_Ico] at h1; rw [Finset.mem_Icc] at h2; omega

include hv in
theorem carry9_row (H : Holds i f16 f18 f19 v1 kk zz vv) {c0 : ℝ} {T : Finset ℕ} (hT : ∀ y ∈ T, 12288 ≤ y) {x : Carry Ideal} (h : Row c0 (sc q w c kk zz) vv c T x) :
    Row c0 (sc q w c kk zz) vv c (T ∪ Finset.Ico 0 (nFull v1 * 256)) (carry9 i v1 hw q w f16 f18 f19 x) := by
  have h9 := t9_trips v1 hv
  have hn := nat_of v1 hv.1
  have hf : nFull v1 = v1.toNat / 256 := by unfold nFull; rfl
  have key : ∀ n, n ≤ (k0_t9_loop v1).trips → Row c0 (sc q w c kk zz) vv c (T ∪ Finset.Ico 0 (n * 256)) (iter (step9 i f16 f18 f19 v1 hw q w) x n) := by
    intro n
    induction n with
    | zero =>
      intro _
      rw [show T ∪ Finset.Ico 0 (0 * 256) = T by simp]
      exact h
    | succ n ih =>
      intro hl
      have ih := ih (Nat.le_of_succ_le hl)
      rw [iter_succ (step9 i f16 f18 f19 v1 hw q w) _ ⟨n, hl⟩]
      rw [show T ∪ Finset.Ico 0 ((n + 1) * 256) = (T ∪ Finset.Ico 0 (n * 256)) ∪ Finset.Ico (n * 256) ((n + 1) * 256) by
        rw [Finset.union_assoc, Finset.Ico_union_Ico_eq_Ico] <;> omega]
      exact ih.block _ _ (n * 256) (fun _ => True) (fun k _ => blk_score q w c H _ _ _ (by omega) (off68_eq v1 hv i ⟨n, hl⟩) k (.inl (by omega)))
        (fun k hk => absurd trivial hk) (fun d k _ => blk_val H _ _ _ (by omega) (off69_eq v1 hv i ⟨n, hl⟩) d k (.inl (by omega))) _
        (fun y => by
          simp only [Finset.mem_Ico, true_and]
          exact ⟨fun h => ⟨⟨y - n * 256, by omega⟩, by show y = n * 256 + (y - n * 256); omega⟩, fun ⟨k, e⟩ => by omega⟩)
        (by
          rw [Finset.disjoint_left]; intro y h1 h2; rw [Finset.mem_union, Finset.mem_Ico] at h1; rw [Finset.mem_Ico] at h2
          rcases h1 with h1 | h1
          · have := hT y h1; omega
          · omega)
  have := key _ (le_refl _)
  rw [show T ∪ Finset.Ico 0 ((k0_t9_loop v1).trips * 256) = T ∪ Finset.Ico 0 (nFull v1 * 256) by rw [h9]] at this
  exact this

include hv in
theorem carry11_row (H : Holds i f16 f18 f19 v1 kk zz vv) {c0 : ℝ} {T : Finset ℕ} (hT : ∀ y ∈ T, 12288 ≤ y) {x : Carry Ideal} (h : Row c0 (sc q w c kk zz) vv c T x) :
    Row c0 (sc q w c kk zz) vv c (T ∪ Finset.Ico 0 v1.toNat) (carry11 i v1 hw q w f16 f18 f19 x (r32 i v1 q w f16 f18 f19).2.2.2.1 (r32 i v1 q w f16 f18 f19).2.2.2.2.1 (r32 i v1 q w f16 f18 f19).2.2.2.2.2.1 0#32) := by
  have h11 := t11_trips v1 hv
  have hn := nat_of v1 hv.1
  have hf : nFull v1 = v1.toNat / 256 := by unfold nFull; rfl
  have hb : nBlocks v1 = (v1.toNat + 255) / 256 := by unfold nBlocks; rfl
  have key : ∀ n, n ≤ (k0_t11_loop v1).trips → Row c0 (sc q w c kk zz) vv c (T ∪ Finset.Ico 0 (min v1.toNat ((nFull v1 + n) * 256)))
      (iter (step11 i f16 f18 f19 v1 hw q w (r32 i v1 q w f16 f18 f19).2.2.2.1 (r32 i v1 q w f16 f18 f19).2.2.2.2.1 (r32 i v1 q w f16 f18 f19).2.2.2.2.2.1 0#32) (carry9 i v1 hw q w f16 f18 f19 x) n) := by
    intro n
    induction n with
    | zero =>
      intro _
      rw [show min v1.toNat ((nFull v1 + 0) * 256) = nFull v1 * 256 by omega]
      exact carry9_row hv hw q w c H hT h
    | succ n ih =>
      intro hl
      have ih := ih (Nat.le_of_succ_le hl)
      rw [iter_succ (step11 i f16 f18 f19 v1 hw q w (r32 i v1 q w f16 f18 f19).2.2.2.1 (r32 i v1 q w f16 f18 f19).2.2.2.2.1 (r32 i v1 q w f16 f18 f19).2.2.2.2.2.1 0#32) _ ⟨n, hl⟩]
      rw [show T ∪ Finset.Ico 0 (min v1.toNat ((nFull v1 + (n + 1)) * 256)) = (T ∪ Finset.Ico 0 (min v1.toNat ((nFull v1 + n) * 256))) ∪ Finset.Ico ((nFull v1 + n) * 256) (min v1.toNat ((nFull v1 + (n + 1)) * 256)) by
        ext y; simp only [Finset.mem_union, Finset.mem_Ico]; constructor
        · rintro (h | h)
          · exact .inl (.inl h)
          · by_cases hy : y < (nFull v1 + n) * 256
            · exact .inl (.inr (by omega))
            · exact .inr (by omega)
        · rintro ((h | h) | h)
          · exact .inl h
          · exact .inr (by omega)
          · exact .inr (by omega)]
      refine ih.block _ _ ((nFull v1 + n) * 256) (fun k => (nFull v1 + n) * 256 + k.val < v1.toNat) (fun k hk => ?_) (fun k hk => ?_)
        (fun d k hk => blk_val H _ _ _ (by omega) (off73_eq v1 hv i ⟨n, hl⟩) d k (.inl hk)) _ (fun y => ?_) ?_
      · exact (masked_past v1 hv q w _ _ i f16 f18 f19 ⟨n, hl⟩ k c).trans ((if_pos hk).trans (blk_score q w c H _ _ _ (by omega) (off72_eq v1 hv i ⟨n, hl⟩) k (.inl hk)))
      · exact (masked_past v1 hv q w _ _ i f16 f18 f19 ⟨n, hl⟩ k c).trans (if_neg hk)
      · simp only [Finset.mem_Ico]
        exact ⟨fun h => ⟨⟨y - (nFull v1 + n) * 256, by omega⟩, by show (nFull v1 + n) * 256 + (y - (nFull v1 + n) * 256) < _; omega, by show y = (nFull v1 + n) * 256 + (y - (nFull v1 + n) * 256); omega⟩, fun ⟨k, h, e⟩ => by omega⟩
      · rw [Finset.disjoint_left]; intro y h1 h2; rw [Finset.mem_union, Finset.mem_Ico] at h1; rw [Finset.mem_Ico] at h2
        rcases h1 with h1 | h1
        · have := hT y h1; omega
        · omega
  have := key _ (le_refl _)
  rw [show min v1.toNat ((nFull v1 + (k0_t11_loop v1).trips) * 256) = v1.toNat by rw [h11]; omega] at this
  exact this

include hv in
/-- The quotient of a row, by its keys. -/
theorem row_out (H : Holds i f16 f18 f19 v1 kk zz vv) (r : Fin 64) (u : Fin 16) (d : Fin 128) (hc : c.val = r.val * 16 + u.val) (s : ℕ → EReal)
    (hs : ∀ k, sc q w c kk zz k = s k * ((Real.log 2)⁻¹ : ℝ)) :
    attOut (F := Ideal) i v1 hw q w f16 f18 f19 (ix2 r ⟨u.val * 128 + d.val, by omega⟩)
      = Ideal.div (∑ k ∈ Finset.Icc 12288 (12288 + tok i c) ∪ Finset.Ico 0 v1.toNat, vv d k * Ideal.exp (s k - (Finset.Icc 12288 (12288 + tok i c) ∪ Finset.Ico 0 v1.toNat).sup s))
          (∑ k ∈ Finset.Icc 12288 (12288 + tok i c) ∪ Finset.Ico 0 v1.toNat, Ideal.exp (s k - (Finset.Icc 12288 (12288 + tok i c) ∪ Finset.Ico 0 v1.toNat).sup s)) := by
  obtain ⟨c0, h⟩ := mid_row q w c H
  have h := carry11_row hv hw q w c H (fun y hy => (Finset.mem_Icc.mp hy).1) h
  have ec : (⟨r.val * 16 + u.val, by omega⟩ : Fin 1024) = c := Fin.ext hc.symm
  refine (fin_at _ _ r u d).trans ?_
  unfold Row at h
  rw [funext hs] at h
  rw [ec]
  exact h.quotient d

end
end Cert.KernelIdeal.Hand
-- ==== Proof.KI.Run.lean ====
/- The run of the call: the pipeline's data, a grid point's obligation, the launch. -/
module

public import proofs.«01_k».proof.Proof.Gen.KernelIdeal.Launch
public import Idealize.ShloMosaic.Lib.Pipeline.DatRel
public import proofs.«01_k».proof.Proof.KI.Attn

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources of the proof: the buffers and semaphores, the pipeline's records and the counters of the body's own transfers. -/
local notation "𝕄" => MT nD τ sig Unit (Elt F) ℕ (Pipeline.UD sig nD τ) ℕ

variable (m : (ℓ : Loc nD τ sig) → Buf (Elt F) ℓ) (ρ : Dev nD → PrngReg)

/-- What a buffer holds at the start. -/
abbrev V (c : Dev nD) (b : Ref sig .tc) : Buf (Elt F) ((c : Thread nD τ).loc b) := m ((c : Thread nD τ).loc b)

/-- The prefetched tables at the start. -/
abbrev adm : (pcfg0 (F := F)).Adm := ⟨fun k => V m 0 (pre0.ref k), trivial⟩

/-- The table words are pages and the lengths fit. -/
def InRange : Prop := (∀ c : Dev nD, ∀ x, 0 ≤ (V m c main_arg1 x : BitVec 32).toInt ∧ (V m c main_arg1 x : BitVec 32).toInt ≤ 12288)
  ∧ ∀ c : Dev nD, ∀ x, 0 ≤ (V m c main_arg0 x : BitVec 32).toInt ∧ (V m c main_arg0 x : BitVec 32).toInt < 720

abbrev ms0 (t : Fin grid0.N) := spec0_0.stage ((cfg0 (adm m)).slots t 0)
theorem hs0 (t : Fin grid0.N) : (ms0 m t).IsWhole := hstage0_0 (((cfg0 (adm m)).slots t 0).cast nbuf0_0)
abbrev ms1 (t : Fin grid0.N) := spec0_1.stage ((cfg0 (adm m)).slots t 1)
theorem hs1 (t : Fin grid0.N) : (ms1 m t).IsWhole := hstage0_1 (((cfg0 (adm m)).slots t 1).cast nbuf0_1)
abbrev ms2 (t : Fin grid0.N) := spec0_2.stage ((cfg0 (adm m)).slots t 2)
theorem hs2 (t : Fin grid0.N) : (ms2 m t).IsWhole := hstage0_2 (((cfg0 (adm m)).slots t 2).cast nbuf0_2)
abbrev ms3 (t : Fin grid0.N) := spec0_3.stage ((cfg0 (adm m)).slots t 3)
theorem hs3 (t : Fin grid0.N) : (ms3 m t).IsWhole := hstage0_3 (((cfg0 (adm m)).slots t 3).cast nbuf0_3)
abbrev ms4 (t : Fin grid0.N) := spec0_4.stage ((cfg0 (adm m)).slots t 4)
theorem hs4 (t : Fin grid0.N) : (ms4 m t).IsWhole := hstage0_4 (((cfg0 (adm m)).slots t 4).cast nbuf0_4)
abbrev ms5 (t : Fin grid0.N) := spec0_5.stage ((cfg0 (adm m)).slots t 5)
theorem hs5 (t : Fin grid0.N) : (ms5 m t).IsWhole := hstage0_5 (((cfg0 (adm m)).slots t 5).cast nbuf0_5)
abbrev ms6 (t : Fin grid0.N) := spec0_6.stage ((cfg0 (adm m)).slots t 6)
theorem hs6 (t : Fin grid0.N) : (ms6 m t).IsWhole := hstage0_6 (((cfg0 (adm m)).slots t 6).cast nbuf0_6)
abbrev ms7 (t : Fin grid0.N) := spec0_7.stage ((cfg0 (adm m)).slots t 7)
theorem hs7 (t : Fin grid0.N) : (ms7 m t).IsWhole := hstage0_7 (((cfg0 (adm m)).slots t 7).cast nbuf0_7)
abbrev ms8 (t : Fin grid0.N) := spec0_8.stage ((cfg0 (adm m)).slots t 8)
theorem hs8 (t : Fin grid0.N) : (ms8 m t).IsWhole := hstage0_8 (((cfg0 (adm m)).slots t 8).cast nbuf0_8)

/-- The block a window holds at a grid point. -/
def blkAt (c : Dev nD) (w : Fin 9) (t : Fin grid0.N) : (spec0 w).block.Idx → Elt F (spec0 w).elt :=
  Pipeline.heldIn (c := c) (cfg0 (adm m)) (fun w => V m c (Pipeline.arrRef spec0 w)) w t.val t.isLt

/-- The scratch arrays hold the sequence of grid point `t`. -/
def FilledAt (c : Dev nD) (t : Fin grid0.N) (g16 : cc0_scratch0.ty.Contents (Elt F)) (g18 : cc0_scratch2.ty.Contents (Elt F)) (g19 : cc0_scratch3.ty.Contents (Elt F)) : Prop :=
  Filled (V m c main_arg0) (plen (grid0.coords t) (V m c main_arg1)) (V m c main_arg4) (V m c main_arg6) (grid0.coords t 0).val (blkAt m c 2 t) (blkAt m c 3 t) (blkAt m c 4 t) (blkAt m c 5 t) (blkAt m c 6 t) (blkAt m c 7 t) g16 g18 g19

/-- What the result's block holds after a grid point. -/
def OutAt (hr : InRange m) (c : Dev nD) (t : Fin grid0.N) (X : Vec F S1x64x2048 .bf16) : Prop :=
  ∃ g16 g18 g19, FilledAt m c t g16 g18 g19
    ∧ X = k0_pay1 (attOut (grid0.coords t) (plen (grid0.coords t) (V m c main_arg1)) (chk1 _ _ (hr.1 c _)) (k0_pay71 (blkAt m c 0 t)) (k0_pay72 (blkAt m c 1 t)) g16 g18 g19)

/-- The invariant between grid points: the scratch arrays hold the sequence of the last point. -/
def PhiAt (c : Dev nD) (n : ℕ) : sProp 𝕄 :=
  iprop(∃ (f16 : cc0_scratch0.ty.Contents (Elt F)) (f17 : cc0_scratch1.ty.Contents (Elt F)) (f18 : cc0_scratch2.ty.Contents (Elt F)) (f19 : cc0_scratch3.ty.Contents (Elt F)),
    ((Memref.whole main_arg0).view.loc (c : Thread nD τ) ↦{fullShare.right} V m c main_arg0) ∗ ((Memref.whole main_arg1).view.loc (c : Thread nD τ) ↦{fullShare.right} V m c main_arg1)
      ∗ (∃ q, (Memref.whole main_arg4).view.loc (c : Thread nD τ) ↦{q} V m c main_arg4) ∗ (∃ q, (Memref.whole main_arg6).view.loc (c : Thread nD τ) ↦{q} V m c main_arg6)
      ∗ ((Memref.whole cc0_scratch0).view.loc (c : Thread nD τ) ↦{fullShare} f16) ∗ ((Memref.whole cc0_scratch1).view.loc (c : Thread nD τ) ↦{fullShare} f17) ∗ ((Memref.whole cc0_scratch2).view.loc (c : Thread nD τ) ↦{fullShare} f18) ∗ ((Memref.whole cc0_scratch3).view.loc (c : Thread nD τ) ↦{fullShare} f19)
      ∗ semVal ((c : Thread nD τ), SemLoc.dma 16) 0 ∗ semVal ((c : Thread nD τ), SemLoc.dma 17) 0
      ∗ ⌜∀ u : Fin grid0.N, u.val + 1 = n → FilledAt m c u f16 f18 f19⌝)

/-- The proof data of the pipeline. -/
def dats (c : Dev nD) : Pipeline.Dat τ (Elt F) Unit ℕ (Pipeline.UD sig nD τ) ℕ (cfg0 (adm m)) c where
  A w := V m c (Pipeline.arrRef spec0 w)
  after w t := blkAt m c w t
  Φ t := PhiAt m c t.val
  q _ := fullShare
  owed _ := 0

/-- The result's window, the only one that the body writes. -/
def fgt (w : Fin 9) : Bool := match w with | ⟨8, _⟩ => true | _ => false

/-- What the body leaves in the result's window. -/
def Rl (hr : InRange m) (c : Dev nD) : (w : Fin 9) → Fin grid0.N → ((spec0 w).block.Idx → Elt F (spec0 w).elt) → Prop
  | ⟨8, _⟩, t, X => OutAt m hr c t X
  | _, _, _ => True

theorem before_eq (c : Dev nD) (w : Fin 9) (hw : (spec0 w).isOut = false) (t : Fin grid0.N) (d) : (dats m c).before w t d = blkAt m c w t :=
  Pipeline.Dat.before_eq_heldIn (dats m c) w hw (fun _ => rfl) (fun _ _ => rfl) (fun _ => rfl) t d

theorem same_seq' : ∀ t : Fin grid0.N, (h : 0 < t.val) → ¬ k0_cond1 (grid0.coords t) = 1#1 → grid0.coords t 0 = grid0.coords ⟨t.val - 1, lt_of_le_of_lt (Nat.sub_le _ _) t.isLt⟩ 0 := by
  decide +kernel
theorem same_seq (n : ℕ) (h : n + 1 < grid0.N) (hc : ¬ k0_cond1 (grid0.coords ⟨n + 1, h⟩) = 1#1) : grid0.coords ⟨n + 1, h⟩ 0 = grid0.coords ⟨n, Nat.lt_of_succ_lt h⟩ 0 :=
  same_seq' ⟨n + 1, h⟩ (Nat.succ_pos n) hc
theorem first_cond' : ∀ t : Fin grid0.N, t.val = 0 → k0_cond1 (grid0.coords t) = 1#1 := by
  decide +kernel
theorem first_cond (h : 0 < grid0.N) : k0_cond1 (grid0.coords ⟨0, h⟩) = 1#1 := first_cond' ⟨0, h⟩ rfl

/-- The windows of a sequence move at most with the sequence. -/
theorem reads_seq : ∀ w : Fin 9, (w = 2 ∨ w = 3 ∨ w = 4 ∨ w = 5 ∨ w = 6 ∨ w = 7) → (spec0 w).isOut = false ∧ ∀ a, (spec0 w).reads a = true → a = 0 := by
  decide

theorem blk_same (c : Dev nD) (w : Fin 9) (hw : w = 2 ∨ w = 3 ∨ w = 4 ∨ w = 5 ∨ w = 6 ∨ w = 7) (n : ℕ) (h : n + 1 < grid0.N) (e : grid0.coords ⟨n + 1, h⟩ 0 = grid0.coords ⟨n, Nat.lt_of_succ_lt h⟩ 0) :
    blkAt m c w ⟨n + 1, h⟩ = blkAt m c w ⟨n, Nat.lt_of_succ_lt h⟩ := by
  refine Pipeline.heldIn_of_not_fetch (c := c) (cfg := cfg0 (adm m)) _ w n h ?_
  rw [Bool.eq_false_iff]
  intro hf
  rcases (Pipeline.Window.fetch_in ((cfg0 (adm m)).win w) (reads_seq w hw).1 ⟨n + 1, h⟩).mp hf with h0 | ⟨_, hn⟩
  · exact absurd h0 (Nat.succ_ne_zero n)
  · refine hn (hreads0 (adm m).1 w _ _ fun a ha => ?_)
    obtain rfl := (reads_seq w hw).2 a ha
    exact e

/-- Within a sequence the scratch arrays stay good. -/
theorem filled_step (c : Dev nD) (t : Fin grid0.N) (hc : ¬ k0_cond1 (grid0.coords t) = 1#1) (f16 f18 f19)
    (hk : ∀ u : Fin grid0.N, u.val + 1 = t.val → FilledAt m c u f16 f18 f19) : FilledAt m c t f16 f18 f19 := by
  obtain ⟨n, hn⟩ := t
  cases n with
  | zero => exact absurd (first_cond hn) hc
  | succ n =>
    have e := same_seq n hn hc
    have := hk ⟨n, Nat.lt_of_succ_lt hn⟩ rfl
    have ep : plen (grid0.coords ⟨n + 1, hn⟩) (V m c main_arg1) = plen (grid0.coords ⟨n, Nat.lt_of_succ_lt hn⟩) (V m c main_arg1) := by
      unfold plen
      refine congrArg (V m c main_arg1) (funext fun a => ?_)
      match a with
      | ⟨0, _⟩ => exact Fin.ext (congrArg Fin.val e)
    unfold FilledAt at this ⊢
    rw [blk_same m c 2 (by decide) n hn e, blk_same m c 3 (by decide) n hn e, blk_same m c 4 (by decide) n hn e, blk_same m c 5 (by decide) n hn e, blk_same m c 6 (by decide) n hn e, blk_same m c 7 (by decide) n hn e, e, ep]
    exact this

/-- The body at a grid point. -/
abbrev bodyAt (t : Fin grid0.N) : Prog (TpuEff nD τ sig (Elt F) Λ₀ .tc) PUnit :=
  cc0_attend (F := F) (grid0.coords t) (Memref.whole main_arg0) (Memref.isWhole_whole _) (Memref.whole main_arg1) (Memref.isWhole_whole _) (ms0 m t) (hs0 m t) (ms1 m t) (hs1 m t) (Memref.whole main_arg4) (Memref.isWhole_whole _) (ms2 m t) (hs2 m t) (Memref.whole main_arg6) (Memref.isWhole_whole _) (ms3 m t) (hs3 m t) (ms4 m t) (hs4 m t) (ms5 m t) (hs5 m t) (ms6 m t) (hs6 m t) (ms7 m t) (hs7 m t) (ms8 m t) (hs8 m t) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

/-- What a grid point is given. -/
def bodyPre (hr : InRange m) (c : Dev nD) (t : Fin grid0.N) : sProp 𝕄 :=
  iprop((dats m c).Φ t.castSucc ∗ (dats m c).owesAt () t.castSucc
    ∗ (∃ d, owns (c : Thread nD τ) (ms0 m t) fullShare ((dats m c).before 0 t d))
    ∗ (∃ d, owns (c : Thread nD τ) (ms1 m t) fullShare ((dats m c).before 1 t d))
    ∗ (∃ d, owns (c : Thread nD τ) (ms2 m t) fullShare ((dats m c).before 2 t d))
    ∗ (∃ d, owns (c : Thread nD τ) (ms3 m t) fullShare ((dats m c).before 3 t d))
    ∗ (∃ d, owns (c : Thread nD τ) (ms4 m t) fullShare ((dats m c).before 4 t d))
    ∗ (∃ d, owns (c : Thread nD τ) (ms5 m t) fullShare ((dats m c).before 5 t d))
    ∗ (∃ d, owns (c : Thread nD τ) (ms6 m t) fullShare ((dats m c).before 6 t d))
    ∗ (∃ d, owns (c : Thread nD τ) (ms7 m t) fullShare ((dats m c).before 7 t d))
    ∗ (∃ Y, ⌜((dats m c).toRRel fgt (Rl m hr c)).Finds 8 t Y⌝ ∗ owns (c : Thread nD τ) (ms8 m t) fullShare Y))
/-- What a grid point leaves. -/
def bodyPost (hr : InRange m) (c : Dev nD) (t : Fin grid0.N) : sProp 𝕄 :=
  iprop((dats m c).Φ t.succ ∗ (dats m c).owesAt () t.succ
    ∗ owns (c : Thread nD τ) (ms0 m t) fullShare (blkAt m c 0 t)
    ∗ owns (c : Thread nD τ) (ms1 m t) fullShare (blkAt m c 1 t)
    ∗ owns (c : Thread nD τ) (ms2 m t) fullShare (blkAt m c 2 t)
    ∗ owns (c : Thread nD τ) (ms3 m t) fullShare (blkAt m c 3 t)
    ∗ owns (c : Thread nD τ) (ms4 m t) fullShare (blkAt m c 4 t)
    ∗ owns (c : Thread nD τ) (ms5 m t) fullShare (blkAt m c 5 t)
    ∗ owns (c : Thread nD τ) (ms6 m t) fullShare (blkAt m c 6 t)
    ∗ owns (c : Thread nD τ) (ms7 m t) fullShare (blkAt m c 7 t)
    ∗ (∃ X, ⌜OutAt m hr c t X⌝ ∗ owns (c : Thread nD τ) (ms8 m t) fullShare X))

set_option maxHeartbeats 4000000 in
/-- A grid point's obligation. -/
theorem sound_body (hr : InRange m) (c : Dev nD) (t : Fin grid0.N) :
    bodyPre m hr c t ⊢ wp frame (wpE (defs₀ (F := F)) Variants.none (c : Thread nD τ) none) Set.univ (bodyAt m t) (fun _ => bodyPost m hr c t) := by
  unfold bodyPre bodyPost bodyAt
  rw [show (dats m c).Φ t.castSucc = PhiAt m c t.val from rfl, show (dats m c).Φ t.succ = PhiAt m c (t.val + 1) from rfl]
  unfold Pipeline.Dat.owesAt Pipeline.owesWithin
  rw [show (dats m c).owed t.castSucc = 0 from rfl, show (dats m c).owed t.succ = 0 from rfl]
  simp only [before_eq m c 0 rfl, before_eq m c 1 rfl, before_eq m c 2 rfl, before_eq m c 3 rfl, before_eq m c 4 rfl, before_eq m c 5 rfl, before_eq m c 6 rfl, before_eq m c 7 rfl]
  unfold PhiAt owns
  iintro ⟨⟨%f16, %f17, %f18, %f19, HT, HP, HPK, HPV, H16, H17, H18, H19, Hs16, Hs17, %hk⟩, ⟨%W0, -, HW⟩, ⟨%d0, %f5, %e5, H5⟩, ⟨%d1, %f6, %e6, H6⟩, ⟨%d2, %f8, %e8, H8⟩, ⟨%d3, %f10, %e10, H10⟩, ⟨%d4, %f11, %e11, H11⟩, ⟨%d5, %f12, %e12, H12⟩, ⟨%d6, %f13, %e13, H13⟩, ⟨%d7, %f14, %e14, H14⟩, ⟨%Y, -, %f15, -, H15⟩⟩
  iapply (wp_wand_r _ _ _)
  isplitl [HT HP HPK HPV H16 H17 H18 H19 Hs16 Hs17 HW H5 H6 H8 H10 H11 H12 H13 H14 H15]
  · iapply (attend c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (V m c main_arg0) (V m c main_arg1) (V m c main_arg4) (V m c main_arg6) f5 f6 f8 f10 f11 f12 f13 f14 (hr.1 c) (hr.2 c) f15 f16 f17 f18 f19)
    isplitr [H15]
    · unfold held
      isplitl [HT]; · iexact HT
      isplitl [HP]; · iexact HP
      isplitl [HPK]; · iexact HPK
      isplitl [HPV]; · iexact HPV
      isplitl [H16]; · iexact H16
      isplitl [H17]; · iexact H17
      isplitl [H18]; · iexact H18
      isplitl [H19]; · iexact H19
      isplitl [Hs16]; · iexact Hs16
      isplitl [Hs17]; · iexact Hs17
      isplitl [HW]; · iexists _; iexact HW
      isplitl [H5]; · iexact H5
      isplitl [H6]; · iexact H6
      isplitl [H8]; · iexact H8
      isplitl [H10]; · iexact H10
      isplitl [H11]; · iexact H11
      isplitl [H12]; · iexact H12
      isplitl [H13]; · iexact H13
      iexact H14
    iexact H15
  unfold held
  iintro %_ ⟨%g16, %g17, %g18, %g19, ⟨HT, HP, HPK, HPV, H16, H17, H18, H19, Hs16, Hs17, ⟨%W1, HW⟩, H5, H6, H8, H10, H11, H12, H13, H14⟩, ⟨%g15, H15, %e15⟩, %e⟩
  replace e5 := e5.trans (before_eq m c 0 rfl t d0)
  replace e6 := e6.trans (before_eq m c 1 rfl t d1)
  replace e8 := e8.trans (before_eq m c 2 rfl t d2)
  replace e10 := e10.trans (before_eq m c 3 rfl t d3)
  replace e11 := e11.trans (before_eq m c 4 rfl t d4)
  replace e12 := e12.trans (before_eq m c 5 rfl t d5)
  replace e13 := e13.trans (before_eq m c 6 rfl t d6)
  replace e14 := e14.trans (before_eq m c 7 rfl t d7)
  have hF : FilledAt m c t g16 g18 g19 := by
    by_cases hc : k0_cond1 (grid0.coords t) = 1#1
    · have := e.1 hc
      rw [e8, e10, e11, e12, e13, e14] at this
      exact this
    · obtain ⟨rfl, rfl, rfl⟩ := e.2 hc
      exact filled_step m c t hc _ _ _ hk
  isplitl [HT HP HPK HPV H16 H17 H18 H19 Hs16 Hs17]
  · iexists g16, g17, g18, g19
    isplitl [HT]; · iexact HT
    isplitl [HP]; · iexact HP
    isplitl [HPK]; · iexact HPK
    isplitl [HPV]; · iexact HPV
    isplitl [H16]; · iexact H16
    isplitl [H17]; · iexact H17
    isplitl [H18]; · iexact H18
    isplitl [H19]; · iexact H19
    isplitl [Hs16]; · iexact Hs16
    isplitl [Hs17]; · iexact Hs17
    ipureintro
    intro u hu
    obtain rfl : u = t := Fin.ext (Nat.succ.inj hu)
    exact hF
  isplitl [HW]
  · iexists W1; isplitr; · ipureintro; exact fun _ _ => Or.inl trivial
    iexact HW
  isplitl [H5]
  · iexists f5; isplitr; · ipureintro; exact e5
    iexact H5
  isplitl [H6]
  · iexists f6; isplitr; · ipureintro; exact e6
    iexact H6
  isplitl [H8]
  · iexists f8; isplitr; · ipureintro; exact e8
    iexact H8
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  isplitl [H14]
  · iexists f14; isplitr; · ipureintro; exact e14
    iexact H14
  iexists _
  isplitr
  swap
  · iexists g15; isplitr; swap; · iexact H15
    ipureintro; rfl
  ipureintro
  refine ⟨g16, g18, g19, hF, ?_⟩
  rw [e15, e5, e6]

theorem defs₀_row (t : Fin grid0.N) :
    defs₀ (F := F) .tc (cfg0 (adm m)).body ((cfg0 (adm m)).bodyArgs t ((cfg0 (adm m)).slots t)) = bodyAt m t := by
  unfold defs₀; rw [Defs.onTc_tc]

theorem body_obligation (hr : InRange m) (c : Dev nD) : ((dats m c).toRRel fgt (Rl m hr c)).BodyObligation (defs₀ (F := F)) Variants.none () Set.univ :=
  Pipeline.BodyObligationRel.toRRel (dats m c) fun t => by
    rw [bigSep_W0, bigSep_W0, defs₀_row]
    exact triple_restated (sound_body m hr c t) rfl .rfl fun _ => .rfl

/-- The cells of the body's transfers. -/
def osem0 : Fin 2 → SemLoc sig := ![SemLoc.dma 16, SemLoc.dma 17]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0) := by
  rw [Pipeline.ownSems0_eq_of_list c osem0 [0, 1] (by decide) (by decide)]; rfl

theorem prefHeld0_eq (c : Dev nD) :
    (Pipeline.prefHeld pre0 c (fun _ => fullShare.right) (adm m).1 : sProp 𝕄)
      = iprop(((c : Thread nD τ).loc main_arg0 ↦{fullShare.right} V m 0 main_arg0) ∗ ((c : Thread nD τ).loc main_arg1 ↦{fullShare.right} V m 0 main_arg1)) := by
  unfold Pipeline.prefHeld
  rw [BI.bigSep_eq_bigSepL_of_eq [(0 : Fin 2), 1] (by decide) (by decide)]; rfl

/-- The relational data of every core. -/
abbrev rdat (hr : InRange m) (c : Dev nD) : Pipeline.RDat τ (Elt F) Unit ℕ (Pipeline.UD sig nD τ) ℕ (cfg0 (adm m)) c := (dats m c).toRRel fgt (Rl m hr c)

theorem dev0 (c : Dev nD) : c = 0 := Subsingleton.elim _ _

open Idealize.ShloMosaic.Pipeline Idealize.ShloMosaic.Rounds in
/-- Every run of the program terminates with the arrays as the data say, the tables and pools unchanged, and every counter at zero. -/
theorem run_main (hr : InRange m) : θ_run defs (onTc (τ := τ) (main (F := F))) ⟨m, fun _ => 0, ρ⟩
    (fun r => (∀ c : Dev nD, (∀ w, (rdat m hr c).ArrAt w grid0.N (r.2.mem ((spec0 w).arr.view.loc (c : Thread nD τ))))
      ∧ (∀ k, r.2.mem ((c : Thread nD τ).loc (pre0.ref k)) = (adm m).1 k)
      ∧ r.2.mem ((c : Thread nD τ).loc main_arg4) = V m c main_arg4 ∧ r.2.mem ((c : Thread nD τ).loc main_arg6) = V m c main_arg6)
      ∧ r.2.sem = fun _ => 0) :=
  RDat.θ_run_region_pf_quiescent pcfgs (fun _ => adm m) (fun _ c => rdat m hr c) () (cellOf_inj _) (0 : Fin 1) (launch0 (F := F)).win.to₀ ownSemFacts0 (launch0 (F := F)).pre
    embL defs₀ Variants.none m ρ main
    (fun c => body_obligation m hr c) (launch0 (F := F)).block_pos (launch0 (F := F)).arr_whole (launch0 (F := F)).stage_whole
    (fun c t => rfl)
    (G := fun _ => iprop(emp)) (u₀ := (initOf (cells (pin pcfgs fun _ => adm m) (cellOf_inj _)) (launchToks (pin pcfgs fun _ => adm m) (cellOf_inj _)), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainP_region pcfgs 0 defs₀ Variants.none m main fun c => rfl)
    (hsplit := fun c => RDat.arrays_split₁ pcfgs (fun _ => adm m) 0 (fun c => rdat m hr c) (launch0 (F := F)).win.arr_inj c (launch0 (F := F)).arr_whole (fun w => (dats m c).share_full (fun _ => rfl) w) (V m c) _ fun w => rfl)
    (hpf := fun c k => by obtain rfl := dev0 c; rfl)
    (X := fun c => iprop((((c : Thread nD τ).loc main_arg4) ↦{fullShare} V m c main_arg4) ∗ (((c : Thread nD τ).loc main_arg6) ↦{fullShare} V m c main_arg6)
      ∗ semVal ((c : Thread nD τ), SemLoc.dma 16) 0 ∗ semVal ((c : Thread nD τ), SemLoc.dma 17) 0))
    (Y := fun c => iprop((∃ q, ((c : Thread nD τ).loc main_arg4) ↦{q} V m c main_arg4) ∗ (∃ q, ((c : Thread nD τ).loc main_arg6) ↦{q} V m c main_arg6)))
    (Z := fun _ => iprop(emp))
    (hX := fun c => by
      show iprop(unscopedRestP pre0 spec0 c (V m c) ∗ _) ⊢ _
      rw [unscopedRestP0_eq, ownSems00_eq]
      iintro ⟨⟨H4, H6⟩, ⟨Hs, Hs'⟩, -⟩
      imodintro
      isplitl [H4 H6 Hs Hs']
      · isplitl [H4]; · iexact H4
        isplitl [H6]; · iexact H6
        isplitl [Hs]; · iexact Hs
        iexact Hs'
      iempintro)
    (hin := fun c => by
      show iprop(_ ∗ prefHeld pre0 c (fun _ => fullShare.right) (adm m).1 ∗ scopedRest spec0 c) ⊢ PhiAt m c 0
      rw [scopedRest0_eq, prefHeld0_eq]
      obtain rfl := dev0 c
      unfold PhiAt
      iintro ⟨⟨H4, H6, Hs, Hs'⟩, ⟨HT, HP⟩, ⟨%f16, H16⟩, ⟨%f17, H17⟩, ⟨%f18, H18⟩, ⟨%f19, H19⟩⟩
      iexists f16, f17, f18, f19
      isplitl [HT]; · iexact HT
      isplitl [HP]; · iexact HP
      isplitl [H4]; · iexists _; iexact H4
      isplitl [H6]; · iexists _; iexact H6
      isplitl [H16]; · iexact H16
      isplitl [H17]; · iexact H17
      isplitl [H18]; · iexact H18
      isplitl [H19]; · iexact H19
      isplitl [Hs]; · iexact Hs
      isplitl [Hs']; · iexact Hs'
      ipureintro
      intro u hu
      exact absurd hu (Nat.succ_ne_zero _))
    (hout := fun c => by
      show PhiAt m c grid0.N ⊢ iprop(_ ∗ ownSems0 osem0 c ∗ scopedRest spec0 c)
      rw [scopedRest0_eq, ownSems00_eq]
      unfold PhiAt
      iintro ⟨%f16, %f17, %f18, %f19, HT, HP, H4, H6, H16, H17, H18, H19, Hs, Hs', -⟩
      isplitl [H4 H6]
      · isplitl [H4]; · iexact H4
        iexact H6
      isplitl [Hs Hs']
      · isplitl [Hs]; · iexact Hs
        iexact Hs'
      isplitl [H16]; · iexists f16; iexact H16
      isplitl [H17]; · iexists f17; iexact H17
      isplitl [H18]; · iexists f18; iexact H18
      iexists f19; iexact H19)
    (QY := fun c s => s.mem ((c : Thread nD τ).loc main_arg4) = V m c main_arg4 ∧ s.mem ((c : Thread nD τ).loc main_arg6) = V m c main_arg6)
    (hY := fun c s' => by
      iintro ⟨⟨⟨%q, H3⟩, ⟨%q', H6⟩⟩, -, HSI⟩
      icombine HSI H3 gives %h3
      icombine HSI H6 gives %h6
      imodintro
      isplitr; · ipureintro; exact ⟨Buf.eq_of_forall_mem_univ h3, Buf.eq_of_forall_mem_univ h6⟩
      iexact HSI)
    (hQ := fun _ h hz => ⟨h, hz⟩)

theorem in_same (hr : InRange m) (c : Dev nD) (w : Fin 9) (hw : (spec0 w).isOut = false) (X) (h : (rdat m hr c).ArrAt w grid0.N X) : X = V m c (Pipeline.arrRef spec0 w) := by
  exact Eq.mp (congrFun (Pipeline.RDat.ArrAt_in (rdat m hr c) w hw grid0.N) X) h

/-- The frame: the arguments are unchanged and every counter is at zero. -/
theorem frame (hr : InRange m) : θ_run defs (onTc (τ := τ) (main (F := F))) ⟨m, fun _ => 0, ρ⟩ (fun r => (∀ c : Dev nD,
r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0) :=
  (θ_run defs _ _).mono (fun r h => ⟨fun c => by
    obtain ⟨hw, hp, h4, h6⟩ := h.1 c
    have hi := fun w hw' => in_same m hr c w hw' _ (hw w)
    refine ⟨?_, ?_, hi 0 rfl, hi 1 rfl, h4, hi 2 rfl, h6, hi 3 rfl, hi 4 rfl, hi 5 rfl, hi 6 rfl, hi 7 rfl⟩
    · have := hp 0; obtain rfl := dev0 c; exact this
    · have := hp 1; obtain rfl := dev0 c; exact this, h.2⟩) (run_main m ρ hr)

end Cert.KernelIdeal.Hand
-- ==== Proof.KI.Block.lean ====
/- The call's result is the attention: what the windows hold, a grid point's block, the array. -/
module

public import proofs.«01_k».proof.Proof.Att
public import proofs.«01_k».proof.Proof.KI.Row
public import proofs.«01_k».proof.Proof.KI.Run
public import Idealize.ShloMosaic.Lib.Pipeline.ArrRel
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem

variable (m : (ℓ : Loc nD τ sig) → Buf (Elt Ideal) ℓ) (ρ : Dev nD → PrngReg)

theorem blk_ind (c : Dev nD) (w : Fin 9) (hw : (spec0 w).isOut = false) (P : (Fin (spec0 w).shape.rank → ℕ) → ((spec0 w).block.Idx → Elt Ideal (spec0 w).elt) → Prop)
    (h : ∀ t : Fin grid0.N, P (ix0 (adm m).1 w (grid0.coords t)) (((cfg0 (adm m)).win w).fill (grid0.coords t) (fun _ => Classical.arbitrary _) ((((cfg0 (adm m)).win w).blk t).view.read (Elt Ideal) (V m c (Pipeline.arrRef spec0 w)))))
    (t : Fin grid0.N) : P (ix0 (adm m).1 w (grid0.coords t)) (blkAt m c w t) := by
  obtain ⟨n, hn⟩ := t
  induction n with
  | zero => exact h ⟨0, hn⟩
  | succ n ih =>
    by_cases hf : ((cfg0 (adm m)).win w).fetch ⟨n + 1, hn⟩ = true
    · have e : blkAt m c w ⟨n + 1, hn⟩ = _ := Pipeline.heldIn_of_fetch (c := c) (cfg := cfg0 (adm m)) (fun w => V m c (Pipeline.arrRef spec0 w)) w ⟨n + 1, hn⟩ hf
      rw [e]
      exact h ⟨n + 1, hn⟩
    · have e : blkAt m c w ⟨n + 1, hn⟩ = blkAt m c w ⟨n, Nat.lt_of_succ_lt hn⟩ := Pipeline.heldIn_of_not_fetch (c := c) (cfg := cfg0 (adm m)) _ w n hn (Bool.eq_false_iff.mpr hf)
      have ei : ix0 (adm m).1 w (grid0.coords ⟨n + 1, hn⟩) = ix0 (adm m).1 w (grid0.coords ⟨n, Nat.lt_of_succ_lt hn⟩) := by
        by_contra hne
        exact hf ((Pipeline.Window.fetch_in ((cfg0 (adm m)).win w) hw ⟨n + 1, hn⟩).mpr (.inr ⟨Nat.succ_pos n, hne⟩))
      rw [e, ei]
      exact ih _

theorem tn (k : ℕ) (h : k < 1000) : (BitVec.ofNat 32 k).toNat = k := by
  rw [BitVec.toNat_ofNat]; exact Nat.mod_eq_of_lt (by omega)

/-- The sequence, the block of tokens and the group of a grid point. -/
def seqAt (t : Fin grid0.N) : Fin 3 := ⟨(grid0.coords t 0).val, (grid0.coords t 0).2⟩
def tbkAt (t : Fin grid0.N) : Fin 10 := ⟨(grid0.coords t 1).val, (grid0.coords t 1).2⟩
def grpAt (t : Fin grid0.N) : Fin 2 := ⟨(grid0.coords t 2).val, (grid0.coords t 2).2⟩

theorem cs (t : Fin grid0.N) : (BitVec.ofNat 32 (grid0.coords t 0).val).toNat = (seqAt t).val := tn _ (lt_trans (seqAt t).2 (by decide))
theorem ct (t : Fin grid0.N) : (BitVec.ofNat 32 (grid0.coords t 1).val).toNat = (tbkAt t).val := tn _ (lt_trans (tbkAt t).2 (by decide))
theorem cg (t : Fin grid0.N) : (BitVec.ofNat 32 (grid0.coords t 2).val).toNat = (grpAt t).val := tn _ (lt_trans (grpAt t).2 (by decide))

theorem blk0 (c : Dev nD) (t : Fin grid0.N) (y : Fin 1024) (l : Fin 128) : blkAt m c 0 t (ix4 0 0 y l) = V m c main_arg2 (ix4 (seqAt t) (grpAt t) (⟨(tbkAt t).val * 1024 + y.val, by omega⟩ : Fin 10240) l) := by
  refine blk_ind m c 0 rfl (fun ix X => ∀ (y : S1x1x1024x128.Idx) (z : S3x2x10240x128.Idx), (∀ a, (z a).val = ix a * S1x1x1024x128.size a + (y a).val) → X y = V m c main_arg2 z) (fun t y z hz => ?_) t _ _ fun a => ?_
  · show V m c main_arg2 ((((cfg0 (adm m)).win 0).blk t).view.emb y) = _
    exact congrArg (V m c main_arg2) (funext fun a => Fin.ext ((Pipeline.Window.rect_emb_val ((cfg0 (adm m)).win 0) t y a).trans (hz a).symm))
  · match a with
    | ⟨0, _⟩ => show (seqAt t).val = (BitVec.ofNat 32 (grid0.coords t 0).val).toNat * 1 + 0; rw [cs]; omega
    | ⟨1, _⟩ => show (grpAt t).val = (BitVec.ofNat 32 (grid0.coords t 2).val).toNat * 1 + 0; rw [cg]; omega
    | ⟨2, _⟩ => show (tbkAt t).val * 1024 + y.val = (BitVec.ofNat 32 (grid0.coords t 1).val).toNat * 1024 + y.val; rw [ct]
    | ⟨3, _⟩ => show l.val = 0 * 128 + l.val; omega

theorem blk1 (c : Dev nD) (t : Fin grid0.N) (y : Fin 1024) : blkAt m c 1 t (ix5 0 0 0 0 y) = V m c main_arg3 (ix5 (seqAt t) (grpAt t) (tbkAt t) (0 : Fin 1) y) := by
  refine blk_ind m c 1 rfl (fun ix X => ∀ (y : S1x1x1x1x1024.Idx) (z : S3x2x10x1x1024.Idx), (∀ a, (z a).val = ix a * S1x1x1x1x1024.size a + (y a).val) → X y = V m c main_arg3 z) (fun t y z hz => ?_) t _ _ fun a => ?_
  · show V m c main_arg3 ((((cfg0 (adm m)).win 1).blk t).view.emb y) = _
    exact congrArg (V m c main_arg3) (funext fun a => Fin.ext ((Pipeline.Window.rect_emb_val ((cfg0 (adm m)).win 1) t y a).trans (hz a).symm))
  · match a with
    | ⟨0, _⟩ => show (seqAt t).val = (BitVec.ofNat 32 (grid0.coords t 0).val).toNat * 1 + 0; rw [cs]; omega
    | ⟨1, _⟩ => show (grpAt t).val = (BitVec.ofNat 32 (grid0.coords t 2).val).toNat * 1 + 0; rw [cg]; omega
    | ⟨2, _⟩ => show (tbkAt t).val = (BitVec.ofNat 32 (grid0.coords t 1).val).toNat * 1 + 0; rw [ct]; omega
    | ⟨3, _⟩ => show 0 = 0 * 1 + 0; omega
    | ⟨4, _⟩ => show y.val = 0 * 1024 + y.val; omega

theorem blk2 (c : Dev nD) (t : Fin grid0.N) (g : Fin 2) (k : Fin 64) (p : Fin 768) : blkAt m c 2 t (ix3 g k p) = V m c main_arg5 (ix3 g k p) := by
  refine blk_ind m c 2 rfl (fun ix X => ∀ (y : S2x64x768.Idx) (z : S2x64x768.Idx), (∀ a, (z a).val = ix a * S2x64x768.size a + (y a).val) → X y = V m c main_arg5 z) (fun t y z hz => ?_) t _ _ fun a => ?_
  · show V m c main_arg5 ((((cfg0 (adm m)).win 2).blk t).view.emb y) = _
    exact congrArg (V m c main_arg5) (funext fun a => Fin.ext ((Pipeline.Window.rect_emb_val ((cfg0 (adm m)).win 2) t y a).trans (hz a).symm))
  · match a with
    | ⟨0, _⟩ => show g.val = 0 * 2 + g.val; omega
    | ⟨1, _⟩ => show k.val = 0 * 64 + k.val; omega
    | ⟨2, _⟩ => show p.val = 0 * 768 + p.val; omega

theorem blk3 (c : Dev nD) (t : Fin grid0.N) (g : Fin 2) (k : Fin 64) (p : Fin 768) : blkAt m c 3 t (ix3 g k p) = V m c main_arg7 (ix3 g k p) := by
  refine blk_ind m c 3 rfl (fun ix X => ∀ (y : S2x64x768.Idx) (z : S2x64x768.Idx), (∀ a, (z a).val = ix a * S2x64x768.size a + (y a).val) → X y = V m c main_arg7 z) (fun t y z hz => ?_) t _ _ fun a => ?_
  · show V m c main_arg7 ((((cfg0 (adm m)).win 3).blk t).view.emb y) = _
    exact congrArg (V m c main_arg7) (funext fun a => Fin.ext ((Pipeline.Window.rect_emb_val ((cfg0 (adm m)).win 3) t y a).trans (hz a).symm))
  · match a with
    | ⟨0, _⟩ => show g.val = 0 * 2 + g.val; omega
    | ⟨1, _⟩ => show k.val = 0 * 64 + k.val; omega
    | ⟨2, _⟩ => show p.val = 0 * 768 + p.val; omega

theorem blk4 (c : Dev nD) (t : Fin grid0.N) (g : Fin 2) (j : Fin 640) (l : Fin 128) : blkAt m c 4 t (ix4 0 g j l) = V m c main_arg8 (ix4 (seqAt t) g j l) := by
  refine blk_ind m c 4 rfl (fun ix X => ∀ (y : S1x2x640x128.Idx) (z : S3x2x640x128.Idx), (∀ a, (z a).val = ix a * S1x2x640x128.size a + (y a).val) → X y = V m c main_arg8 z) (fun t y z hz => ?_) t _ _ fun a => ?_
  · show V m c main_arg8 ((((cfg0 (adm m)).win 4).blk t).view.emb y) = _
    exact congrArg (V m c main_arg8) (funext fun a => Fin.ext ((Pipeline.Window.rect_emb_val ((cfg0 (adm m)).win 4) t y a).trans (hz a).symm))
  · match a with
    | ⟨0, _⟩ => show (seqAt t).val = (BitVec.ofNat 32 (grid0.coords t 0).val).toNat * 1 + 0; rw [cs]; omega
    | ⟨1, _⟩ => show g.val = 0 * 2 + g.val; omega
    | ⟨2, _⟩ => show j.val = 0 * 640 + j.val; omega
    | ⟨3, _⟩ => show l.val = 0 * 128 + l.val; omega

theorem blk5 (c : Dev nD) (t : Fin grid0.N) (g : Fin 2) (j : Fin 640) : blkAt m c 5 t (ix3 0 g j) = V m c main_arg9 (ix3 (seqAt t) g j) := by
  refine blk_ind m c 5 rfl (fun ix X => ∀ (y : S1x2x640.Idx) (z : S3x2x640.Idx), (∀ a, (z a).val = ix a * S1x2x640.size a + (y a).val) → X y = V m c main_arg9 z) (fun t y z hz => ?_) t _ _ fun a => ?_
  · show V m c main_arg9 ((((cfg0 (adm m)).win 5).blk t).view.emb y) = _
    exact congrArg (V m c main_arg9) (funext fun a => Fin.ext ((Pipeline.Window.rect_emb_val ((cfg0 (adm m)).win 5) t y a).trans (hz a).symm))
  · match a with
    | ⟨0, _⟩ => show (seqAt t).val = (BitVec.ofNat 32 (grid0.coords t 0).val).toNat * 1 + 0; rw [cs]; omega
    | ⟨1, _⟩ => show g.val = 0 * 2 + g.val; omega
    | ⟨2, _⟩ => show j.val = 0 * 640 + j.val; omega

theorem blk6 (c : Dev nD) (t : Fin grid0.N) (g : Fin 2) (j : Fin 640) (l : Fin 128) : blkAt m c 6 t (ix4 0 g j l) = V m c main_arg10 (ix4 (seqAt t) g j l) := by
  refine blk_ind m c 6 rfl (fun ix X => ∀ (y : S1x2x640x128.Idx) (z : S3x2x640x128.Idx), (∀ a, (z a).val = ix a * S1x2x640x128.size a + (y a).val) → X y = V m c main_arg10 z) (fun t y z hz => ?_) t _ _ fun a => ?_
  · show V m c main_arg10 ((((cfg0 (adm m)).win 6).blk t).view.emb y) = _
    exact congrArg (V m c main_arg10) (funext fun a => Fin.ext ((Pipeline.Window.rect_emb_val ((cfg0 (adm m)).win 6) t y a).trans (hz a).symm))
  · match a with
    | ⟨0, _⟩ => show (seqAt t).val = (BitVec.ofNat 32 (grid0.coords t 0).val).toNat * 1 + 0; rw [cs]; omega
    | ⟨1, _⟩ => show g.val = 0 * 2 + g.val; omega
    | ⟨2, _⟩ => show j.val = 0 * 640 + j.val; omega
    | ⟨3, _⟩ => show l.val = 0 * 128 + l.val; omega

theorem blk7 (c : Dev nD) (t : Fin grid0.N) (g : Fin 2) (j : Fin 640) : blkAt m c 7 t (ix3 0 g j) = V m c main_arg11 (ix3 (seqAt t) g j) := by
  refine blk_ind m c 7 rfl (fun ix X => ∀ (y : S1x2x640.Idx) (z : S3x2x640.Idx), (∀ a, (z a).val = ix a * S1x2x640.size a + (y a).val) → X y = V m c main_arg11 z) (fun t y z hz => ?_) t _ _ fun a => ?_
  · show V m c main_arg11 ((((cfg0 (adm m)).win 7).blk t).view.emb y) = _
    exact congrArg (V m c main_arg11) (funext fun a => Fin.ext ((Pipeline.Window.rect_emb_val ((cfg0 (adm m)).win 7) t y a).trans (hz a).symm))
  · match a with
    | ⟨0, _⟩ => show (seqAt t).val = (BitVec.ofNat 32 (grid0.coords t 0).val).toNat * 1 + 0; rw [cs]; omega
    | ⟨1, _⟩ => show g.val = 0 * 2 + g.val; omega
    | ⟨2, _⟩ => show j.val = 0 * 640 + j.val; omega

end Cert.KernelIdeal.Hand
-- ==== Proof.KI.Val.lean ====
/- The call's result is the attention: a grid point's block, the array, the run. -/
module

public import proofs.«01_k».proof.Proof.KI.Block

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem

variable (m : (ℓ : Loc nD τ sig) → Buf (Elt Ideal) ℓ) (ρ : Dev nD → PrngReg)

theorem len_at (c : Dev nD) (t : Fin grid0.N) : plen (F := Ideal) (grid0.coords t) (V m c main_arg1) = V m c main_arg1 (ix1 (seqAt t)) := by
  unfold plen
  exact congrArg (V m c main_arg1) (funext fun a => by match a with | ⟨0, _⟩ => rfl)

theorem page_eq (tbl : main_arg0.ty.Contents (Elt Ideal)) (t : Fin grid0.N) (k : ℕ) : page (F := Ideal) tbl (grid0.coords t 0).val (k / 64) = Att.pageOf tbl (seqAt t) k := by
  refine Fin.ext ?_
  show (tbl (pgIx (grid0.coords t 0).val (k / 64)) : BitVec 32).toNat % 720 = (tbl (ix2 (seqAt t) (⟨k / 64 % 192, Nat.mod_lt _ (by decide)⟩ : Fin 192)) : BitVec 32).toNat % 720
  have e : pgIx (grid0.coords t 0).val (k / 64) = ix2 (seqAt t) (⟨k / 64 % 192, Nat.mod_lt _ (by decide)⟩ : Fin 192) := by
    unfold pgIx
    exact congrArg (fun b : Fin 3 => ix2 b (⟨k / 64 % 192, Nat.mod_lt _ (by decide)⟩ : Fin 192)) (Fin.ext (Nat.mod_eq_of_lt (seqAt t).2))
  rw [e]

theorem len_le (hr : InRange m) (c : Dev nD) (t : Fin grid0.N) : (plen (F := Ideal) (grid0.coords t) (V m c main_arg1)).toNat ≤ 12288 := by
  have h := hr.1 c (ix1 (seqAt t))
  rw [len_at]
  have := nat_of _ h.1
  omega

theorem valOf_at (x : Ideal .fp8e4m3) (s : Ideal .f32) : (valOf (F := Ideal) x s : EReal) = (x : EReal) * s := rfl

/-- The scratch arrays hold the sequence's codes, scales and values. -/
theorem holds (hr : InRange m) (c : Dev nD) (t : Fin grid0.N) (g16 g18 g19) (H : FilledAt m c t g16 g18 g19) :
    Holds (grid0.coords t) g16 g18 g19 (plen (F := Ideal) (grid0.coords t) (V m c main_arg1)) (Att.codeOf (V m c main_arg0) (seqAt t) (grpAt t) (V m c main_arg4) (V m c main_arg8))
      (Att.scaleOf (V m c main_arg0) (seqAt t) (grpAt t) (V m c main_arg5) (V m c main_arg9))
      (Att.value (V m c main_arg0) (V m c main_arg6) (V m c main_arg7) (V m c main_arg10) (V m c main_arg11) (seqAt t) (grpAt t)) := by
  intro k hk
  have hn := len_le m hr c t
  rcases hk with hk | hk
  · have h : k.val < 12288 := lt_of_lt_of_le hk hn
    have hp := page_eq (V m c main_arg0) t k.val
    have hg : pg (F := Ideal) (V m c main_arg0) (grid0.coords t 0).val (k.val / 64) = (⟨(Att.pageOf (V m c main_arg0) (seqAt t) k.val).val, by have := (Att.pageOf (V m c main_arg0) (seqAt t) k.val).2; omega⟩ : Fin 768) :=
      Fin.ext (show (page (F := Ideal) (V m c main_arg0) (grid0.coords t 0).val (k.val / 64)).val = _ from congrArg Fin.val hp)
    refine ⟨fun l => ?_, fun l => ?_, fun l => ?_⟩
    · refine (H.keyP (grp (grid0.coords t)) k l hk).trans ?_
      unfold Att.codeOf
      rw [if_pos h, hp]
      rfl
    · refine (H.sclP (grp (grid0.coords t)) k l hk).trans ?_
      unfold Att.scaleOf
      rw [if_pos h, blk2, hg]
      rfl
    · refine (H.valP (grp (grid0.coords t)) k l hk).trans ?_
      refine (valOf_at _ _).trans ?_
      unfold Att.value Att.codeOf Att.scaleOf
      rw [if_pos h, if_pos h, blk3, hg, hp]
      rfl
  · have h : ¬ k.val < 12288 := by omega
    have hj : k.val = 12288 + ((⟨(k.val - 12288) % 640, Nat.mod_lt _ (by decide)⟩ : Fin 640)).val := by
      show k.val = 12288 + (k.val - 12288) % 640; omega
    refine ⟨fun l => ?_, fun l => ?_, fun l => ?_⟩
    · refine (H.keyT (grp (grid0.coords t)) k l _ hj).trans ?_
      unfold Att.codeOf
      rw [if_neg h, blk4]
      rfl
    · refine (H.sclT (grp (grid0.coords t)) k l _ hj).trans ?_
      unfold Att.scaleOf
      rw [if_neg h, blk5]
      rfl
    · refine (H.valT (grp (grid0.coords t)) k l _ hj).trans ?_
      refine (valOf_at _ _).trans ?_
      unfold Att.value Att.codeOf Att.scaleOf
      rw [if_neg h, if_neg h, blk6, blk7]
      rfl

theorem assoc5 (Q z s r l : EReal) : Q * z * (s * (r * l)) = Q * (s * z) * r * l := by
  rw [mul_assoc Q z, mul_left_comm z s, ← mul_assoc s z, ← mul_assoc (s * z) r l, ← mul_assoc Q, ← mul_assoc Q]

theorem div_root (x : EReal) : Ideal.div x (Real.sqrt 128 : ℝ) = x * ((Real.sqrt 128)⁻¹ : ℝ) := by
  have h : ((Real.sqrt 128 : ℝ) : EReal) ≠ 0 := by
    rw [Ne, EReal.coe_eq_zero]
    exact (Real.sqrt_pos.mpr (by norm_num)).ne'
  unfold Ideal.div
  rw [if_neg h, EReal.coe_inv]

/-- A row's score, in the base-two exponent. -/
theorem score_eq (c : Dev nD) (t : Fin grid0.N) (y : Fin 1024) (tt : Fin 640) (u : Fin 16) (ht : tt.val = (tbkAt t).val * 64 + y.val / 16) (hu : u.val = y.val % 16) (k : ℕ) :
    sc (k0_pay71 (blkAt m c 0 t)) (k0_pay72 (blkAt m c 1 t)) y (Att.codeOf (V m c main_arg0) (seqAt t) (grpAt t) (V m c main_arg4) (V m c main_arg8))
        (Att.scaleOf (V m c main_arg0) (seqAt t) (grpAt t) (V m c main_arg5) (V m c main_arg9)) k
      = Att.score (V m c main_arg0) (V m c main_arg2) (V m c main_arg3) (V m c main_arg4) (V m c main_arg5) (V m c main_arg8) (V m c main_arg9) (seqAt t) (grpAt t) tt u k * ((Real.log 2)⁻¹ : ℝ) := by
  have hb : (tbkAt t).val < 10 := (tbkAt t).2
  unfold sc Att.score
  rw [coef_at, blk1, div_root, EReal.coe_mul, assoc5]
  have e1 : (⟨tt.val / 64, by omega⟩ : Fin 10) = tbkAt t := Fin.ext (show tt.val / 64 = (tbkAt t).val by omega)
  have e2 : (⟨tt.val % 64 * 16 + u.val, by omega⟩ : Fin 1024) = y := Fin.ext (show tt.val % 64 * 16 + u.val = y.val by omega)
  have e3 : (⟨tt.val * 16 + u.val, by omega⟩ : Fin 10240) = ⟨(tbkAt t).val * 1024 + y.val, by omega⟩ := Fin.ext (show tt.val * 16 + u.val = (tbkAt t).val * 1024 + y.val by omega)
  rw [e1, e2, e3]
  refine congrArg (fun Q : EReal => Q * _ * _ * _) (Finset.sum_congr rfl fun l _ => ?_)
  rw [code_at, blk0]
  exact mul_comm _ _

/-- The attention of the arguments. -/
abbrev res (c : Dev nD) : (⟨3, ![3, 640, 4096]⟩ : Shape).Idx → EReal :=
  Att.result (V m c main_arg0) (V m c main_arg1) (V m c main_arg2) (V m c main_arg3) (V m c main_arg4) (V m c main_arg5) (V m c main_arg6) (V m c main_arg7) (V m c main_arg8) (V m c main_arg9) (V m c main_arg10) (V m c main_arg11)

/-- What a grid point leaves in its block is the attention. -/
theorem out_val (hr : InRange m) (c : Dev nD) (t : Fin grid0.N) (X : Vec Ideal S1x64x2048 .bf16) (h : OutAt m hr c t X) (r : Fin 64) (w : Fin 2048) (z : (⟨3, ![3, 640, 4096]⟩ : Shape).Idx)
    (h0 : (z 0).val = (seqAt t).val) (h1 : (z 1).val = (tbkAt t).val * 64 + r.val) (h2 : (z 2).val = (grpAt t).val * 2048 + w.val) :
    X (ix3 0 r w) = res m c z := by
  obtain ⟨g16, g18, g19, H, rfl⟩ := h
  have hb : (tbkAt t).val < 10 := (tbkAt t).2
  have hg : (grpAt t).val < 2 := (grpAt t).2
  have hv := hr.1 c (ix1 (seqAt t))
  rw [← len_at] at hv
  have ew : w = (⟨((⟨w.val / 128, by omega⟩ : Fin 16)).val * 128 + ((⟨w.val % 128, Nat.mod_lt _ (by decide)⟩ : Fin 128)).val, by show w.val / 128 * 128 + w.val % 128 < 2048; omega⟩ : Fin 2048) :=
    Fin.ext (show w.val = w.val / 128 * 128 + w.val % 128 by omega)
  rw [out_at]
  rw [ew]
  refine (row_out hv (chk1 _ _ (hr.1 c _)) (k0_pay71 (blkAt m c 0 t)) (k0_pay72 (blkAt m c 1 t)) (⟨r.val * 16 + w.val / 128, by omega⟩ : Fin 1024) (holds m hr c t g16 g18 g19 H) r (⟨w.val / 128, by omega⟩ : Fin 16) _ rfl
    (Att.score (V m c main_arg0) (V m c main_arg2) (V m c main_arg3) (V m c main_arg4) (V m c main_arg5) (V m c main_arg8) (V m c main_arg9) (seqAt t) (grpAt t) (⟨(tbkAt t).val * 64 + r.val, by omega⟩ : Fin 640) (⟨w.val / 128, by omega⟩ : Fin 16))
    (fun k => score_eq m c t _ _ _ (show (tbkAt t).val * 64 + r.val = (tbkAt t).val * 64 + (r.val * 16 + w.val / 128) / 16 by omega) (show w.val / 128 = (r.val * 16 + w.val / 128) % 16 by omega) k)).trans ?_
  have et : tok (grid0.coords t) (⟨r.val * 16 + w.val / 128, by omega⟩ : Fin 1024) = (tbkAt t).val * 64 + r.val := by
    show (tbkAt t).val * 64 + (r.val * 16 + w.val / 128) / 16 = _; omega
  rw [et, len_at]
  have e0 : z 0 = seqAt t := Fin.ext h0
  have e1 : z 1 = (⟨(tbkAt t).val * 64 + r.val, by omega⟩ : Fin 640) := Fin.ext h1
  have e2 : (⟨(z 2).val / 2048, by have : (z 2).val < 4096 := (z 2).2; omega⟩ : Fin 2) = grpAt t := Fin.ext (show (z 2).val / 2048 = (grpAt t).val by omega)
  have e3 : (⟨(z 2).val / 128 % 16, Nat.mod_lt _ (by decide)⟩ : Fin 16) = ⟨w.val / 128, by omega⟩ := Fin.ext (show (z 2).val / 128 % 16 = w.val / 128 by omega)
  have e4 : (⟨(z 2).val % 128, Nat.mod_lt _ (by decide)⟩ : Fin 128) = ⟨w.val % 128, Nat.mod_lt _ (by decide)⟩ := Fin.ext (show (z 2).val % 128 = w.val % 128 by omega)
  unfold res Att.result
  rw [e0, e1, e2, e3, e4]
  rfl

/-- Tables at zero, to decide what does not depend on them. -/
def adm0 : (pcfg0 (F := Ideal)).Adm := ⟨fun k => fun _ => Classical.arbitrary _, trivial⟩
theorem covers0 : ((cfg0 adm0).win 8).Covers := by decide +kernel
theorem covers : ((cfg0 (adm m)).win 8).Covers := covers0

/-- A tiled array is what each flushed block is said to be. -/
theorem array_of_blocks {nD : Nat} {τ : Topo} {sig : RefSig} {Val : EltTy → Type} {Λ₀ : Labels} {Ix : Type} [DecidableEq Ix] {Name : Type} [DecidableEq Name] {U : Type} [URA U] {Lvl : Type}
    {cfg : Pipeline.Cfg sig Λ₀} {c : Dev nD} {rd : Pipeline.RDat τ Val Ix Name U Lvl cfg c} [∀ e, Nonempty (Val e)] {w : Fin cfg.W} {G : Buf Val ((cfg.win w).arr.view.loc (c.tc : Thread nD τ))}
    (hG : rd.ArrAt w cfg.N G) (hcov : (cfg.win w).Covers) (harr : (cfg.win w).arr.IsWhole) (G' : Buf Val ((cfg.win w).arr.view.loc (c.tc : Thread nD τ)))
    (h : ∀ t X, rd.Leaves w t X → ∀ y : ((cfg.win w).xblock (cfg.grid.coords t)).Idx,
      _root_.cast (congrArg Val ((cfg.win w).blk t).view.elt_eq.symm) (X ((cfg.win w).xinj (cfg.grid.coords t) y)) = G' (((cfg.win w).blk t).view.emb y)) : G = G' := by
  obtain ⟨X, hX, hA⟩ := hG.exists_exact
  have e := hA (Function.update (fun _ _ _ => Classical.arbitrary _) w X) fun u _ _ => by rw [Function.update_self]
  rw [e]
  refine Pipeline.Dat.arrAt_eq_of_covers _ w _ hcov (fun t hf y => ?_) harr
  rw [Pipeline.RDat.withAfter_after, Function.update_self]
  exact h t (X t) (hX t t.isLt hf) y

/-- The result's array is the attention. -/
theorem arr_val (hr : InRange m) (c : Dev nD) (G) (h : (rdat m hr c).ArrAt 8 grid0.N G) : G = res m c := by
  refine array_of_blocks h (covers m) (Memref.isWhole_whole _) _ fun t X hL y => ?_
  have hx : OutAt m hr c t X := by
    obtain ⟨Y, _, hY⟩ := hL
    exact hY
  have hz := fun a : Fin 3 => Pipeline.Window.rect_emb_val ((cfg0 (adm m)).win 8) t y a
  revert hz
  show (∀ a : Fin 3, _) → X y = _
  revert y
  show ∀ y : S1x64x2048.Idx, _
  intro y hz
  have hy : y = ix3 (0 : Fin 1) (y 1) (y 2) := by
    funext a
    match a with
    | ⟨0, _⟩ => exact Fin.ext (show (y 0).val = 0 by have : (y 0).val < 1 := (y 0).2; omega)
    | ⟨1, _⟩ => rfl
    | ⟨2, _⟩ => rfl
  refine (congrArg X hy).trans (out_val m hr c t X hx (y 1) (y 2) _ ?_ ?_ ?_)
  · exact (hz 0).trans (show (BitVec.ofNat 32 (grid0.coords t 0).val).toNat * 1 + (y 0).val = _ by
      have : (y 0).val < 1 := (y 0).2
      rw [cs]; omega)
  · exact (hz 1).trans (show (BitVec.ofNat 32 (grid0.coords t 1).val).toNat * 64 + (y 1).val = _ by rw [ct])
  · exact (hz 2).trans (show (BitVec.ofNat 32 (grid0.coords t 2).val).toNat * 2048 + (y 2).val = _ by rw [cg])

end Cert.KernelIdeal.Hand
-- ==== Proof.RF.Run.lean ====
/- The run of the reference: the call that decodes the eight-bit codes, and the frame. -/
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Lib.Pipeline.FrameBody
public import Idealize.ShloMosaic.Lib.Pipeline.FrameSuffix
public import Idealize.ShloMosaic.Lib.Exec
public import Idealize.ShloMosaic.Lib.VecWindow
public import Idealize.ShloMosaic.Rules

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the proof: the buffers and semaphores and the pipeline's records. -/
local notation "𝕄" => MT nD τ sig Unit (Elt F) ℕ (UR sig nD τ) ℕ

set_option maxHeartbeats 4000000 in
/-- The decoding body reads each input whole and writes it, decoded, to its output. -/
theorem decode_wp (c : Dev nD) (a0 : Memref sig .tc .vmem S3x2x10240x128 .fp8e4m3) (h0 : a0.IsWhole) (a1 : Memref sig .tc .vmem S720x2x64x128 .fp8e4m3) (h1 : a1.IsWhole) (a2 : Memref sig .tc .vmem S720x2x64x128 .fp8e4m3) (h2 : a2.IsWhole) (a3 : Memref sig .tc .vmem S3x2x640x128 .fp8e4m3) (h3 : a3.IsWhole) (a4 : Memref sig .tc .vmem S3x2x640x128 .fp8e4m3) (h4 : a4.IsWhole) (a5 : Memref sig .tc .vmem S3x2x10240x128 .bf16) (h5 : a5.IsWhole) (a6 : Memref sig .tc .vmem S720x2x64x128 .bf16) (h6 : a6.IsWhole) (a7 : Memref sig .tc .vmem S720x2x64x128 .bf16) (h7 : a7.IsWhole) (a8 : Memref sig .tc .vmem S3x2x640x128 .bf16) (h8 : a8.IsWhole) (a9 : Memref sig .tc .vmem S3x2x640x128 .bf16) (h9 : a9.IsWhole) f0 f1 f2 f3 f4 f5 f6 f7 f8 f9 :
    (iprop((a0.view.loc (c : Thread nD τ) ↦[a0.view.set]{fullShare} f0) ∗ (a1.view.loc (c : Thread nD τ) ↦[a1.view.set]{fullShare} f1) ∗ (a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (a7.view.loc (c : Thread nD τ) ↦[a7.view.set]{fullShare} f7) ∗ (a8.view.loc (c : Thread nD τ) ↦[a8.view.set]{fullShare} f8) ∗ (a9.view.loc (c : Thread nD τ) ↦[a9.view.set]{fullShare} f9)) : sProp 𝕄)
     ⊢ wp frame (wpE (defs₀ (F := F)) Variants.none (c : Thread nD τ) none) Set.univ (cc0_decode (F := F) a0 h0 a1 h1 a2 h2 a3 h3 a4 h4 a5 h5 a6 h6 a7 h7 a8 h8 a9 h9) (fun _ => iprop((a0.view.loc (c : Thread nD τ) ↦[a0.view.set]{fullShare} f0) ∗ (a1.view.loc (c : Thread nD τ) ↦[a1.view.set]{fullShare} f1) ∗ (a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (∃ g, (a5.view.loc (c : Thread nD τ) ↦[a5.view.set]{fullShare} g) ∗ ⌜a5.view.read (Elt F) g = k0_pay1 (a0.view.read (Elt F) f0)⌝) ∗ (∃ g, (a6.view.loc (c : Thread nD τ) ↦[a6.view.set]{fullShare} g) ∗ ⌜a6.view.read (Elt F) g = k0_pay2 (a1.view.read (Elt F) f1)⌝) ∗ (∃ g, (a7.view.loc (c : Thread nD τ) ↦[a7.view.set]{fullShare} g) ∗ ⌜a7.view.read (Elt F) g = k0_pay3 (a2.view.read (Elt F) f2)⌝) ∗ (∃ g, (a8.view.loc (c : Thread nD τ) ↦[a8.view.set]{fullShare} g) ∗ ⌜a8.view.read (Elt F) g = k0_pay4 (a3.view.read (Elt F) f3)⌝) ∗ (∃ g, (a9.view.loc (c : Thread nD τ) ↦[a9.view.set]{fullShare} g) ∗ ⌜a9.view.read (Elt F) g = k0_pay5 (a4.view.read (Elt F) f4)⌝))) := by
  iintro ⟨H0, H1, H2, H3, H4, H5, H6, H7, H8, H9⟩
  rw [cc0_decode_eq_skeleton]; unfold cc0_decode_skel
  rw [k0_part1_eq_skeleton]; unfold k0_part1_skel
  sl_exec
  sl_step
  isplitl [H0]; · iexact H0
  isplitl [H1]; · iexact H1
  isplitl [H2]; · iexact H2
  isplitl [H3]; · iexact H3
  isplitl [H4]; · iexact H4
  isplitl [H5]
  · iexists _; isplitl [H5]; · iexact H5
    ipureintro
    rw [View.read_writes_full, View.readAt_full]
  isplitl [H6]
  · iexists _; isplitl [H6]; · iexact H6
    ipureintro
    rw [View.read_writes_full, View.readAt_full]
  isplitl [H7]
  · iexists _; isplitl [H7]; · iexact H7
    ipureintro
    rw [View.read_writes_full, View.readAt_full]
  isplitl [H8]
  · iexists _; isplitl [H8]; · iexact H8
    ipureintro
    rw [View.read_writes_full, View.readAt_full]
  · iexists _; isplitl [H9]; · iexact H9
    ipureintro
    rw [View.read_writes_full, View.readAt_full]

variable (m : (ℓ : Loc nD τ sig) → Buf (Elt F) ℓ) (ρ : Dev nD → PrngReg)

/-- What a window holds after the body. -/
def aft (c : Dev nD) : (w : Fin 10) → (t : Fin cfg0.N) → ((cfg0.win w).block.Idx → Elt F (cfg0.win w).elt)
  | ⟨0, _⟩, t => iblk m c 0 t
  | ⟨1, _⟩, t => iblk m c 1 t
  | ⟨2, _⟩, t => iblk m c 2 t
  | ⟨3, _⟩, t => iblk m c 3 t
  | ⟨4, _⟩, t => iblk m c 4 t
  | ⟨5, _⟩, t => k0_pay1 (iblk m c 0 t)
  | ⟨6, _⟩, t => k0_pay2 (iblk m c 1 t)
  | ⟨7, _⟩, t => k0_pay3 (iblk m c 2 t)
  | ⟨8, _⟩, t => k0_pay4 (iblk m c 3 t)
  | ⟨9, _⟩, t => k0_pay5 (iblk m c 4 t)
  | ⟨_ + 10, h⟩, _ => absurd h (Nat.not_lt.2 (Nat.le_add_left _ _))

/-- The proof data of the pipeline. -/
def dats (_ : Fin 1) (c : Dev nD) : Pipeline.Dat τ (Elt F) Unit ℕ (UR sig nD τ) ℕ cfg0 c where
  A w := V m c (Pipeline.arrRef spec0 w)
  after w t := aft m c w t
  Φ _ := Pipeline.ΦA spec0 c
  q _ := fullShare
  owed _ := 0

/-- What a grid point is given. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
/-- What a grid point leaves. -/
def bodyPost (c : Dev nD) (t : Fin cfg0.N) : sProp 𝕄 :=
  iprop((dats m 0 c).Φ t.succ ∗ (dats m 0 c).owesAt () t.succ
    ∗ owns (c : Thread nD τ) (st0_0 t) fullShare (aft m c 0 t)
    ∗ owns (c : Thread nD τ) (st0_1 t) fullShare (aft m c 1 t)
    ∗ owns (c : Thread nD τ) (st0_2 t) fullShare (aft m c 2 t)
    ∗ owns (c : Thread nD τ) (st0_3 t) fullShare (aft m c 3 t)
    ∗ owns (c : Thread nD τ) (st0_4 t) fullShare (aft m c 4 t)
    ∗ owns (c : Thread nD τ) (st0_5 t) fullShare (aft m c 5 t)
    ∗ owns (c : Thread nD τ) (st0_6 t) fullShare (aft m c 6 t)
    ∗ owns (c : Thread nD τ) (st0_7 t) fullShare (aft m c 7 t)
    ∗ owns (c : Thread nD τ) (st0_8 t) fullShare (aft m c 8 t)
    ∗ owns (c : Thread nD τ) (st0_9 t) fullShare (aft m c 9 t))

set_option maxHeartbeats 4000000 in
/-- A grid point's obligation. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.castSucc = Pipeline.ΦA spec0 c from rfl, show (dats m 0 c).Φ t.succ = Pipeline.ΦA spec0 c from rfl,
    show (dats m 0 c).owesAt () t.castSucc = (dats m 0 c).owesAt () t.succ from rfl]
  unfold owns
  iintro ⟨HΦ, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  iapply (wp_wand_r _ _ _)
  isplitl [H0 H1 H2 H3 H4 H5 H6 H7 H8 H9]
  · iapply (decode_wp c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) f0 f1 f2 f3 f4 f5 f6 f7 f8 f9)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  replace e0 := e0.trans (before0_0_of m (dats m 0 c) rfl (fun _ => rfl) t d0)
  replace e1 := e1.trans (before0_1_of m (dats m 0 c) rfl (fun _ => rfl) t d1)
  replace e2 := e2.trans (before0_2_of m (dats m 0 c) rfl (fun _ => rfl) t d2)
  replace e3 := e3.trans (before0_3_of m (dats m 0 c) rfl (fun _ => rfl) t d3)
  replace e4 := e4.trans (before0_4_of m (dats m 0 c) rfl (fun _ => rfl) t d4)
  iintro %_ ⟨H0, H1, H2, H3, H4, ⟨%g5, H5, %r5⟩, ⟨%g6, H6, %r6⟩, ⟨%g7, H7, %r7⟩, ⟨%g8, H8, %r8⟩, ⟨%g9, H9, %r9⟩⟩
  isplitl [HΦ]; · iexact HΦ
  isplitl [HW]; · iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists g5; isplitr; · ipureintro; rw [r5, e0]; rfl
    iexact H5
  isplitl [H6]
  · iexists g6; isplitr; · ipureintro; rw [r6, e1]; rfl
    iexact H6
  isplitl [H7]
  · iexists g7; isplitr; · ipureintro; rw [r7, e2]; rfl
    iexact H7
  isplitl [H8]
  · iexists g8; isplitr; · ipureintro; rw [r8, e3]; rfl
    iexact H8
  · iexists g9; isplitr; · ipureintro; rw [r9, e4]; rfl
    iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligation (dats m 0 c) (defs₀ (F := F)) Variants.none () Set.univ := fun t => by
  rw [bigSep_W0, bigSep_W0, defs₀_row]
  exact triple_restated (sound_body m c t) rfl .rfl fun _ => .rfl

/-- Every run terminates, with the arrays the operations compute and every counter at zero. -/
theorem run_main : θ_run defs (onTc (τ := τ) (main (F := F))) (s₀ m ρ)
    (fun r => Pipeline.FramePost cfgs (dats m) 0 (Pipeline.afterTail₀ cfgs (dats m) 0 (V0 m) [hostOps1, hostOps1_1, hostOps1_2, hostOps1_3, hostOps1_4]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := fun _ _ => rfl) (hΦ := fun _ _ => rfl)

/-- The frame of the reference. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0) :=
  (θ_run defs _ _).mono (fun _ h => ⟨fun c => ⟨((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).1 0).trans (((dats m 0 c).arrAt_in 0 rfl _).trans (V_main_arg2 m c)),
    ((h.1 c).2 main_arg3 (Pipeline.mem_restRefs_of main_arg3 (by decide) (by decide))).trans (W_main_arg3 m (dats m) c),
    ((h.1 c).1 1).trans (((dats m 0 c).arrAt_in 1 rfl _).trans (V_main_arg4 m c)),
    ((h.1 c).2 main_arg5 (Pipeline.mem_restRefs_of main_arg5 (by decide) (by decide))).trans (W_main_arg5 m (dats m) c),
    ((h.1 c).1 2).trans (((dats m 0 c).arrAt_in 2 rfl _).trans (V_main_arg6 m c)),
    ((h.1 c).2 main_arg7 (Pipeline.mem_restRefs_of main_arg7 (by decide) (by decide))).trans (W_main_arg7 m (dats m) c),
    ((h.1 c).1 3).trans (((dats m 0 c).arrAt_in 3 rfl _).trans (V_main_arg8 m c)),
    ((h.1 c).2 main_arg9 (Pipeline.mem_restRefs_of main_arg9 (by decide) (by decide))).trans (W_main_arg9 m (dats m) c),
    ((h.1 c).1 4).trans (((dats m 0 c).arrAt_in 4 rfl _).trans (V_main_arg10 m c)),
    ((h.1 c).2 main_arg11 (Pipeline.mem_restRefs_of main_arg11 (by decide) (by decide))).trans (W_main_arg11 m (dats m) c)⟩, h.2⟩) (run_main m ρ)

end Cert.ReferenceIdeal.Hand
-- ==== Proof.RF.Stages.lean ====
/- What the reference's host operations compute, by stages. -/
module

public import proofs.«01_k».proof.Proof.RF.Run
public import Idealize.ShloMosaic.Lib.StableHlo.RunRead
public import Idealize.ShloMosaic.PureOps.Ideal

@[expose] public section

noncomputable section

namespace Cert.ReferenceIdeal.Hand

open Cert.ReferenceIdeal Cert.ReferenceIdeal.Gen
open Idealize.ShloMosaic Idealize.ShloMosaic.TcCoe Idealize.ShloMosaic.Tactic

/-- The rows of a pool that a sequence names, in order. -/
def poolOf (v0_1 : (⟨S720x2x64x128, .bf16⟩ : BufTy).Contents (Elt Ideal)) (arg0 : (⟨S3x192, .i32⟩ : BufTy).Contents (Elt Ideal)) : (⟨S3x2x12288x128, .bf16⟩ : BufTy).Contents (Elt Ideal) :=
  (shapeCast S3x2x12288x128 (((transpose S3x2x192x64x128 [0, 2, 1, 3, 4] · transposes_S3x192x2x64x128_S3x2x192x64x128_0_2_1_3_4) : (⟨S3x192x2x64x128, .bf16⟩ : BufTy).Contents (Elt Ideal) → (⟨S3x2x192x64x128, .bf16⟩ : BufTy).Contents (Elt Ideal)) (((fun x i => Host.gather gather_S720x2x64x128_S3x192x1_S3x192x2x64x128_234_0_n_n_0_2_1264128 x i) : (⟨S720x2x64x128, .bf16⟩ : BufTy).Contents (Elt Ideal) → (⟨S3x192x1, .i32⟩ : BufTy).Contents (Elt Ideal) → (⟨S3x192x2x64x128, .bf16⟩ : BufTy).Contents (Elt Ideal)) v0_1 ((broadcastInDim S3x192x1 ![0, 1] bcast_S3x192_S3x192x1_0_1 : (⟨S3x192, .i32⟩ : BufTy).Contents (Elt Ideal) → (⟨S3x192x1, .i32⟩ : BufTy).Contents (Elt Ideal)) ((select : (⟨S3x192, .i1⟩ : BufTy).Contents (Elt Ideal) → (⟨S3x192, .i32⟩ : BufTy).Contents (Elt Ideal) → (⟨S3x192, .i32⟩ : BufTy).Contents (Elt Ideal) → (⟨S3x192, .i32⟩ : BufTy).Contents (Elt Ideal)) ((cmpi .slt : (⟨S3x192, .i32⟩ : BufTy).Contents (Elt Ideal) → (⟨S3x192, .i32⟩ : BufTy).Contents (Elt Ideal) → (⟨S3x192, .i1⟩ : BufTy).Contents (Elt Ideal)) arg0 ((broadcastInDim S3x192 ![] bcast_S_S3x192 : (⟨S_, .i32⟩ : BufTy).Contents (Elt Ideal) → (⟨S3x192, .i32⟩ : BufTy).Contents (Elt Ideal)) ((constantI S_ 32 0#32) : (⟨S_, .i32⟩ : BufTy).Contents (Elt Ideal)) : (⟨S3x192, .i32⟩ : BufTy).Contents (Elt Ideal)) : (⟨S3x192, .i1⟩ : BufTy).Contents (Elt Ideal)) ((addi : (⟨S3x192, .i32⟩ : BufTy).Contents (Elt Ideal) → (⟨S3x192, .i32⟩ : BufTy).Contents (Elt Ideal) → (⟨S3x192, .i32⟩ : BufTy).Contents (Elt Ideal)) arg0 ((broadcastInDim S3x192 ![] bcast_S_S3x192 : (⟨S_, .i32⟩ : BufTy).Contents (Elt Ideal) → (⟨S3x192, .i32⟩ : BufTy).Contents (Elt Ideal)) ((constantI S_ 32 720#32) : (⟨S_, .i32⟩ : BufTy).Contents (Elt Ideal)) : (⟨S3x192, .i32⟩ : BufTy).Contents (Elt Ideal)) : (⟨S3x192, .i32⟩ : BufTy).Contents (Elt Ideal)) arg0 : (⟨S3x192, .i32⟩ : BufTy).Contents (Elt Ideal)) : (⟨S3x192x1, .i32⟩ : BufTy).Contents (Elt Ideal)) : (⟨S3x192x2x64x128, .bf16⟩ : BufTy).Contents (Elt Ideal)) : (⟨S3x2x192x64x128, .bf16⟩ : BufTy).Contents (Elt Ideal)) shapeCasts_S3x2x192x64x128_S3x2x12288x128 : (⟨S3x2x12288x128, .bf16⟩ : BufTy).Contents (Elt Ideal))

/-- Their scales. -/
def scaleOf (arg5 : (⟨S2x64x768, .f32⟩ : BufTy).Contents (Elt Ideal)) (arg0 : (⟨S3x192, .i32⟩ : BufTy).Contents (Elt Ideal)) : (⟨S3x2x12288, .f32⟩ : BufTy).Contents (Elt Ideal) :=
  (shapeCast S3x2x12288 (((transpose S3x2x192x64 [2, 0, 3, 1] · transposes_S2x64x3x192_S3x2x192x64_2_0_3_1) : (⟨S2x64x3x192, .f32⟩ : BufTy).Contents (Elt Ideal) → (⟨S3x2x192x64, .f32⟩ : BufTy).Contents (Elt Ideal)) (((fun x i => Host.gather gather_S2x64x768_S3x192x1_S2x64x3x192_01_2_n_n_2_2_2641 x i) : (⟨S2x64x768, .f32⟩ : BufTy).Contents (Elt Ideal) → (⟨S3x192x1, .i32⟩ : BufTy).Contents (Elt Ideal) → (⟨S2x64x3x192, .f32⟩ : BufTy).Contents (Elt Ideal)) arg5 ((broadcastInDim S3x192x1 ![0, 1] bcast_S3x192_S3x192x1_0_1 : (⟨S3x192, .i32⟩ : BufTy).Contents (Elt Ideal) → (⟨S3x192x1, .i32⟩ : BufTy).Contents (Elt Ideal)) ((select : (⟨S3x192, .i1⟩ : BufTy).Contents (Elt Ideal) → (⟨S3x192, .i32⟩ : BufTy).Contents (Elt Ideal) → (⟨S3x192, .i32⟩ : BufTy).Contents (Elt Ideal) → (⟨S3x192, .i32⟩ : BufTy).Contents (Elt Ideal)) ((cmpi .slt : (⟨S3x192, .i32⟩ : BufTy).Contents (Elt Ideal) → (⟨S3x192, .i32⟩ : BufTy).Contents (Elt Ideal) → (⟨S3x192, .i1⟩ : BufTy).Contents (Elt Ideal)) arg0 ((broadcastInDim S3x192 ![] bcast_S_S3x192 : (⟨S_, .i32⟩ : BufTy).Contents (Elt Ideal) → (⟨S3x192, .i32⟩ : BufTy).Contents (Elt Ideal)) ((constantI S_ 32 0#32) : (⟨S_, .i32⟩ : BufTy).Contents (Elt Ideal)) : (⟨S3x192, .i32⟩ : BufTy).Contents (Elt Ideal)) : (⟨S3x192, .i1⟩ : BufTy).Contents (Elt Ideal)) ((addi : (⟨S3x192, .i32⟩ : BufTy).Contents (Elt Ideal) → (⟨S3x192, .i32⟩ : BufTy).Contents (Elt Ideal) → (⟨S3x192, .i32⟩ : BufTy).Contents (Elt Ideal)) arg0 ((broadcastInDim S3x192 ![] bcast_S_S3x192 : (⟨S_, .i32⟩ : BufTy).Contents (Elt Ideal) → (⟨S3x192, .i32⟩ : BufTy).Contents (Elt Ideal)) ((constantI S_ 32 768#32) : (⟨S_, .i32⟩ : BufTy).Contents (Elt Ideal)) : (⟨S3x192, .i32⟩ : BufTy).Contents (Elt Ideal)) : (⟨S3x192, .i32⟩ : BufTy).Contents (Elt Ideal)) arg0 : (⟨S3x192, .i32⟩ : BufTy).Contents (Elt Ideal)) : (⟨S3x192x1, .i32⟩ : BufTy).Contents (Elt Ideal)) : (⟨S2x64x3x192, .f32⟩ : BufTy).Contents (Elt Ideal)) : (⟨S3x2x192x64, .f32⟩ : BufTy).Contents (Elt Ideal)) shapeCasts_S3x2x192x64_S3x2x12288 : (⟨S3x2x12288, .f32⟩ : BufTy).Contents (Elt Ideal))

/-- The queries by token and head. -/
def qOf (v0_0 : (⟨S3x2x10240x128, .bf16⟩ : BufTy).Contents (Elt Ideal)) : (⟨S3x2x640x16x128, .bf16⟩ : BufTy).Contents (Elt Ideal) :=
  (shapeCast S3x2x640x16x128 v0_0 shapeCasts_S3x2x10240x128_S3x2x640x16x128 : (⟨S3x2x640x16x128, .bf16⟩ : BufTy).Contents (Elt Ideal))

/-- Their scales. -/
def qsOf (arg3 : (⟨S3x2x10x1x1024, .f32⟩ : BufTy).Contents (Elt Ideal)) : (⟨S3x2x640x16, .f32⟩ : BufTy).Contents (Elt Ideal) :=
  (shapeCast S3x2x640x16 arg3 shapeCasts_S3x2x10x1x1024_S3x2x640x16 : (⟨S3x2x640x16, .f32⟩ : BufTy).Contents (Elt Ideal))

/-- The scores of the cache. -/
def scoreC (v1 : (⟨S3x2x640x16x128, .bf16⟩ : BufTy).Contents (Elt Ideal)) (v11 : (⟨S3x2x12288x128, .bf16⟩ : BufTy).Contents (Elt Ideal)) (v2 : (⟨S3x2x640x16, .f32⟩ : BufTy).Contents (Elt Ideal)) (v29 : (⟨S3x2x12288, .f32⟩ : BufTy).Contents (Elt Ideal)) : (⟨S3x2x640x16x12288, .f32⟩ : BufTy).Contents (Elt Ideal) :=
  ((Host.divf (F := Ideal) (φ := .f32) : (⟨S3x2x640x16x12288, .f32⟩ : BufTy).Contents (Elt Ideal) → (⟨S3x2x640x16x12288, .f32⟩ : BufTy).Contents (Elt Ideal) → (⟨S3x2x640x16x12288, .f32⟩ : BufTy).Contents (Elt Ideal)) ((mulf (F := Ideal) (φ := .f32) : (⟨S3x2x640x16x12288, .f32⟩ : BufTy).Contents (Elt Ideal) → (⟨S3x2x640x16x12288, .f32⟩ : BufTy).Contents (Elt Ideal) → (⟨S3x2x640x16x12288, .f32⟩ : BufTy).Contents (Elt Ideal)) (((fun l r => Host.dotGeneral (F := Ideal) (φ₁ := .bf16) (φ₂ := .bf16) dot_S3x2x640x16x128_S3x2x12288x128_S3x2x640x16x12288_4_3_23_2_01_01 none l r) : (⟨S3x2x640x16x128, .bf16⟩ : BufTy).Contents (Elt Ideal) → (⟨S3x2x12288x128, .bf16⟩ : BufTy).Contents (Elt Ideal) → (⟨S3x2x640x16x12288, .f32⟩ : BufTy).Contents (Elt Ideal)) v1 v11 : (⟨S3x2x640x16x12288, .f32⟩ : BufTy).Contents (Elt Ideal)) ((mulf (F := Ideal) (φ := .f32) : (⟨S3x2x640x16x12288, .f32⟩ : BufTy).Contents (Elt Ideal) → (⟨S3x2x640x16x12288, .f32⟩ : BufTy).Contents (Elt Ideal) → (⟨S3x2x640x16x12288, .f32⟩ : BufTy).Contents (Elt Ideal)) ((broadcastInDim S3x2x640x16x12288 ![0, 1, 2, 3, 4] bcast_S3x2x640x16x1_S3x2x640x16x12288_0_1_2_3_4 : (⟨S3x2x640x16x1, .f32⟩ : BufTy).Contents (Elt Ideal) → (⟨S3x2x640x16x12288, .f32⟩ : BufTy).Contents (Elt Ideal)) ((broadcastInDim S3x2x640x16x1 ![0, 1, 2, 3] bcast_S3x2x640x16_S3x2x640x16x1_0_1_2_3 : (⟨S3x2x640x16, .f32⟩ : BufTy).Contents (Elt Ideal) → (⟨S3x2x640x16x1, .f32⟩ : BufTy).Contents (Elt Ideal)) v2 : (⟨S3x2x640x16x1, .f32⟩ : BufTy).Contents (Elt Ideal)) : (⟨S3x2x640x16x12288, .f32⟩ : BufTy).Contents (Elt Ideal)) ((broadcastInDim S3x2x640x16x12288 ![0, 1, 2, 3, 4] bcast_S3x2x1x1x12288_S3x2x640x16x12288_0_1_2_3_4 : (⟨S3x2x1x1x12288, .f32⟩ : BufTy).Contents (Elt Ideal) → (⟨S3x2x640x16x12288, .f32⟩ : BufTy).Contents (Elt Ideal)) ((broadcastInDim S3x2x1x1x12288 ![0, 1, 4] bcast_S3x2x12288_S3x2x1x1x12288_0_1_4 : (⟨S3x2x12288, .f32⟩ : BufTy).Contents (Elt Ideal) → (⟨S3x2x1x1x12288, .f32⟩ : BufTy).Contents (Elt Ideal)) v29 : (⟨S3x2x1x1x12288, .f32⟩ : BufTy).Contents (Elt Ideal)) : (⟨S3x2x640x16x12288, .f32⟩ : BufTy).Contents (Elt Ideal)) : (⟨S3x2x640x16x12288, .f32⟩ : BufTy).Contents (Elt Ideal)) : (⟨S3x2x640x16x12288, .f32⟩ : BufTy).Contents (Elt Ideal)) ((broadcastInDim S3x2x640x16x12288 ![] bcast_S_S3x2x640x16x12288 : (⟨S_, .f32⟩ : BufTy).Contents (Elt Ideal) → (⟨S3x2x640x16x12288, .f32⟩ : BufTy).Contents (Elt Ideal)) ((Host.sqrt (F := Ideal) (φ := .f32) : (⟨S_, .f32⟩ : BufTy).Contents (Elt Ideal) → (⟨S_, .f32⟩ : BufTy).Contents (Elt Ideal)) ((constant (F := Ideal) S_ .f32 0x43000000#32) : (⟨S_, .f32⟩ : BufTy).Contents (Elt Ideal)) : (⟨S_, .f32⟩ : BufTy).Contents (Elt Ideal)) : (⟨S3x2x640x16x12288, .f32⟩ : BufTy).Contents (Elt Ideal)) : (⟨S3x2x640x16x12288, .f32⟩ : BufTy).Contents (Elt Ideal))

/-- The scores of the chunk. -/
def scoreN (v1 : (⟨S3x2x640x16x128, .bf16⟩ : BufTy).Contents (Elt Ideal)) (v0_3 : (⟨S3x2x640x128, .bf16⟩ : BufTy).Contents (Elt Ideal)) (v2 : (⟨S3x2x640x16, .f32⟩ : BufTy).Contents (Elt Ideal)) (arg9 : (⟨S3x2x640, .f32⟩ : BufTy).Contents (Elt Ideal)) : (⟨S3x2x640x16x640, .f32⟩ : BufTy).Contents (Elt Ideal) :=
  ((Host.divf (F := Ideal) (φ := .f32) : (⟨S3x2x640x16x640, .f32⟩ : BufTy).Contents (Elt Ideal) → (⟨S3x2x640x16x640, .f32⟩ : BufTy).Contents (Elt Ideal) → (⟨S3x2x640x16x640, .f32⟩ : BufTy).Contents (Elt Ideal)) ((mulf (F := Ideal) (φ := .f32) : (⟨S3x2x640x16x640, .f32⟩ : BufTy).Contents (Elt Ideal) → (⟨S3x2x640x16x640, .f32⟩ : BufTy).Contents (Elt Ideal) → (⟨S3x2x640x16x640, .f32⟩ : BufTy).Contents (Elt Ideal)) (((fun l r => Host.dotGeneral (F := Ideal) (φ₁ := .bf16) (φ₂ := .bf16) dot_S3x2x640x16x128_S3x2x640x128_S3x2x640x16x640_4_3_23_2_01_01 none l r) : (⟨S3x2x640x16x128, .bf16⟩ : BufTy).Contents (Elt Ideal) → (⟨S3x2x640x128, .bf16⟩ : BufTy).Contents (Elt Ideal) → (⟨S3x2x640x16x640, .f32⟩ : BufTy).Contents (Elt Ideal)) v1 v0_3 : (⟨S3x2x640x16x640, .f32⟩ : BufTy).Contents (Elt Ideal)) ((mulf (F := Ideal) (φ := .f32) : (⟨S3x2x640x16x640, .f32⟩ : BufTy).Contents (Elt Ideal) → (⟨S3x2x640x16x640, .f32⟩ : BufTy).Contents (Elt Ideal) → (⟨S3x2x640x16x640, .f32⟩ : BufTy).Contents (Elt Ideal)) ((broadcastInDim S3x2x640x16x640 ![0, 1, 2, 3, 4] bcast_S3x2x640x16x1_S3x2x640x16x640_0_1_2_3_4 : (⟨S3x2x640x16x1, .f32⟩ : BufTy).Contents (Elt Ideal) → (⟨S3x2x640x16x640, .f32⟩ : BufTy).Contents (Elt Ideal)) ((broadcastInDim S3x2x640x16x1 ![0, 1, 2, 3] bcast_S3x2x640x16_S3x2x640x16x1_0_1_2_3 : (⟨S3x2x640x16, .f32⟩ : BufTy).Contents (Elt Ideal) → (⟨S3x2x640x16x1, .f32⟩ : BufTy).Contents (Elt Ideal)) v2 : (⟨S3x2x640x16x1, .f32⟩ : BufTy).Contents (Elt Ideal)) : (⟨S3x2x640x16x640, .f32⟩ : BufTy).Contents (Elt Ideal)) ((broadcastInDim S3x2x640x16x640 ![0, 1, 2, 3, 4] bcast_S3x2x1x1x640_S3x2x640x16x640_0_1_2_3_4 : (⟨S3x2x1x1x640, .f32⟩ : BufTy).Contents (Elt Ideal) → (⟨S3x2x640x16x640, .f32⟩ : BufTy).Contents (Elt Ideal)) ((broadcastInDim S3x2x1x1x640 ![0, 1, 4] bcast_S3x2x640_S3x2x1x1x640_0_1_4 : (⟨S3x2x640, .f32⟩ : BufTy).Contents (Elt Ideal) → (⟨S3x2x1x1x640, .f32⟩ : BufTy).Contents (Elt Ideal)) arg9 : (⟨S3x2x1x1x640, .f32⟩ : BufTy).Contents (Elt Ideal)) : (⟨S3x2x640x16x640, .f32⟩ : BufTy).Contents (Elt Ideal)) : (⟨S3x2x640x16x640, .f32⟩ : BufTy).Contents (Elt Ideal)) : (⟨S3x2x640x16x640, .f32⟩ : BufTy).Contents (Elt Ideal)) ((broadcastInDim S3x2x640x16x640 ![] bcast_S_S3x2x640x16x640 : (⟨S_, .f32⟩ : BufTy).Contents (Elt Ideal) → (⟨S3x2x640x16x640, .f32⟩ : BufTy).Contents (Elt Ideal)) ((Host.sqrt (F := Ideal) (φ := .f32) : (⟨S_, .f32⟩ : BufTy).Contents (Elt Ideal) → (⟨S_, .f32⟩ : BufTy).Contents (Elt Ideal)) ((constant (F := Ideal) S_ .f32 0x43000000#32) : (⟨S_, .f32⟩ : BufTy).Contents (Elt Ideal)) : (⟨S_, .f32⟩ : BufTy).Contents (Elt Ideal)) : (⟨S3x2x640x16x640, .f32⟩ : BufTy).Contents (Elt Ideal)) : (⟨S3x2x640x16x640, .f32⟩ : BufTy).Contents (Elt Ideal))

/-- The cache beyond the length masked. -/
def maskC (v49 : (⟨S3x2x640x16x12288, .f32⟩ : BufTy).Contents (Elt Ideal)) (arg1 : (⟨S3, .i32⟩ : BufTy).Contents (Elt Ideal)) : (⟨S3x2x640x16x12288, .f32⟩ : BufTy).Contents (Elt Ideal) :=
  (select ((broadcastInDim S3x2x640x16x12288 ![0, 1, 2, 3, 4] bcast_S3x1x1x1x12288_S3x2x640x16x12288_0_1_2_3_4) ((broadcastInDim S3x1x1x1x12288 ![0, 4] bcast_S3x12288_S3x1x1x1x12288_0_4 : (⟨S3x12288, .i1⟩ : BufTy).Contents (Elt Ideal) → (⟨S3x1x1x1x12288, .i1⟩ : BufTy).Contents (Elt Ideal)) ((cmpi .slt : (⟨S3x12288, .i32⟩ : BufTy).Contents (Elt Ideal) → (⟨S3x12288, .i32⟩ : BufTy).Contents (Elt Ideal) → (⟨S3x12288, .i1⟩ : BufTy).Contents (Elt Ideal)) ((broadcastInDim S3x12288 ![0, 1] bcast_S1x12288_S3x12288_0_1 : (⟨S1x12288, .i32⟩ : BufTy).Contents (Elt Ideal) → (⟨S3x12288, .i32⟩ : BufTy).Contents (Elt Ideal)) ((broadcastInDim S1x12288 ![1] bcast_S12288_S1x12288_1 : (⟨S12288, .i32⟩ : BufTy).Contents (Elt Ideal) → (⟨S1x12288, .i32⟩ : BufTy).Contents (Elt Ideal)) ((iotaInDim S12288 32 0) : (⟨S12288, .i32⟩ : BufTy).Contents (Elt Ideal)) : (⟨S1x12288, .i32⟩ : BufTy).Contents (Elt Ideal)) : (⟨S3x12288, .i32⟩ : BufTy).Contents (Elt Ideal)) ((broadcastInDim S3x12288 ![0, 1] bcast_S3x1_S3x12288_0_1 : (⟨S3x1, .i32⟩ : BufTy).Contents (Elt Ideal) → (⟨S3x12288, .i32⟩ : BufTy).Contents (Elt Ideal)) ((broadcastInDim S3x1 ![0] bcast_S3_S3x1_0 : (⟨S3, .i32⟩ : BufTy).Contents (Elt Ideal) → (⟨S3x1, .i32⟩ : BufTy).Contents (Elt Ideal)) arg1 : (⟨S3x1, .i32⟩ : BufTy).Contents (Elt Ideal)) : (⟨S3x12288, .i32⟩ : BufTy).Contents (Elt Ideal)) : (⟨S3x12288, .i1⟩ : BufTy).Contents (Elt Ideal)) : (⟨S3x1x1x1x12288, .i1⟩ : BufTy).Contents (Elt Ideal)) : (⟨S3x2x640x16x12288, .i1⟩ : BufTy).Contents (Elt Ideal)) v49 ((broadcastInDim S3x2x640x16x12288 ![] bcast_S_S3x2x640x16x12288) ((constant (F := Ideal) S_ .f32 0xFF800000#32) : (⟨S_, .f32⟩ : BufTy).Contents (Elt Ideal)) : (⟨S3x2x640x16x12288, .f32⟩ : BufTy).Contents (Elt Ideal)) : (⟨S3x2x640x16x12288, .f32⟩ : BufTy).Contents (Elt Ideal))

/-- The future of the chunk masked. -/
def maskN (v57 : (⟨S3x2x640x16x640, .f32⟩ : BufTy).Contents (Elt Ideal)) : (⟨S3x2x640x16x640, .f32⟩ : BufTy).Contents (Elt Ideal) :=
  (select ((broadcastInDim S3x2x640x16x640 ![0, 1, 2, 3, 4] bcast_S1x1x640x1x640_S3x2x640x16x640_0_1_2_3_4) ((broadcastInDim S1x1x640x1x640 ![2, 4] bcast_S640x640_S1x1x640x1x640_2_4 : (⟨S640x640, .i1⟩ : BufTy).Contents (Elt Ideal) → (⟨S1x1x640x1x640, .i1⟩ : BufTy).Contents (Elt Ideal)) ((cmpi .sle : (⟨S640x640, .i32⟩ : BufTy).Contents (Elt Ideal) → (⟨S640x640, .i32⟩ : BufTy).Contents (Elt Ideal) → (⟨S640x640, .i1⟩ : BufTy).Contents (Elt Ideal)) ((broadcastInDim S640x640 ![0, 1] bcast_S1x640_S640x640_0_1 : (⟨S1x640, .i32⟩ : BufTy).Contents (Elt Ideal) → (⟨S640x640, .i32⟩ : BufTy).Contents (Elt Ideal)) ((broadcastInDim S1x640 ![1] bcast_S640_S1x640_1 : (⟨S640, .i32⟩ : BufTy).Contents (Elt Ideal) → (⟨S1x640, .i32⟩ : BufTy).Contents (Elt Ideal)) ((iotaInDim S640 32 0) : (⟨S640, .i32⟩ : BufTy).Contents (Elt Ideal)) : (⟨S1x640, .i32⟩ : BufTy).Contents (Elt Ideal)) : (⟨S640x640, .i32⟩ : BufTy).Contents (Elt Ideal)) ((broadcastInDim S640x640 ![0, 1] bcast_S640x1_S640x640_0_1 : (⟨S640x1, .i32⟩ : BufTy).Contents (Elt Ideal) → (⟨S640x640, .i32⟩ : BufTy).Contents (Elt Ideal)) ((broadcastInDim S640x1 ![0] bcast_S640_S640x1_0 : (⟨S640, .i32⟩ : BufTy).Contents (Elt Ideal) → (⟨S640x1, .i32⟩ : BufTy).Contents (Elt Ideal)) ((iotaInDim S640 32 0) : (⟨S640, .i32⟩ : BufTy).Contents (Elt Ideal)) : (⟨S640x1, .i32⟩ : BufTy).Contents (Elt Ideal)) : (⟨S640x640, .i32⟩ : BufTy).Contents (Elt Ideal)) : (⟨S640x640, .i1⟩ : BufTy).Contents (Elt Ideal)) : (⟨S1x1x640x1x640, .i1⟩ : BufTy).Contents (Elt Ideal)) : (⟨S3x2x640x16x640, .i1⟩ : BufTy).Contents (Elt Ideal)) v57 ((broadcastInDim S3x2x640x16x640 ![] bcast_S_S3x2x640x16x640) ((constant (F := Ideal) S_ .f32 0xFF800000#32) : (⟨S_, .f32⟩ : BufTy).Contents (Elt Ideal)) : (⟨S3x2x640x16x640, .f32⟩ : BufTy).Contents (Elt Ideal)) : (⟨S3x2x640x16x640, .f32⟩ : BufTy).Contents (Elt Ideal))

/-- The largest score. -/
def topOf (v71 : (⟨S3x2x640x16x12288, .f32⟩ : BufTy).Contents (Elt Ideal)) (v73 : (⟨S3x2x640x16x640, .f32⟩ : BufTy).Contents (Elt Ideal)) : (⟨S3x2x640x16x1, .f32⟩ : BufTy).Contents (Elt Ideal) :=
  ((maximumf (F := Ideal) (φ := .f32) : (⟨S3x2x640x16x1, .f32⟩ : BufTy).Contents (Elt Ideal) → (⟨S3x2x640x16x1, .f32⟩ : BufTy).Contents (Elt Ideal) → (⟨S3x2x640x16x1, .f32⟩ : BufTy).Contents (Elt Ideal)) ((broadcastInDim S3x2x640x16x1 ![0, 1, 2, 3] bcast_S3x2x640x16_S3x2x640x16x1_0_1_2_3 : (⟨S3x2x640x16, .f32⟩ : BufTy).Contents (Elt Ideal) → (⟨S3x2x640x16x1, .f32⟩ : BufTy).Contents (Elt Ideal)) (((fun x v => Host.reduce (FloatOps.maximumf (F := Ideal) (φ := .f32)) x v reducesTo_S3x2x640x16x12288_S3x2x640x16_d4 h_S_) : (⟨S3x2x640x16x12288, .f32⟩ : BufTy).Contents (Elt Ideal) → (⟨S_, .f32⟩ : BufTy).Contents (Elt Ideal) → (⟨S3x2x640x16, .f32⟩ : BufTy).Contents (Elt Ideal)) v71 ((constant (F := Ideal) S_ .f32 0xFF800000#32) : (⟨S_, .f32⟩ : BufTy).Contents (Elt Ideal)) : (⟨S3x2x640x16, .f32⟩ : BufTy).Contents (Elt Ideal)) : (⟨S3x2x640x16x1, .f32⟩ : BufTy).Contents (Elt Ideal)) ((broadcastInDim S3x2x640x16x1 ![0, 1, 2, 3] bcast_S3x2x640x16_S3x2x640x16x1_0_1_2_3 : (⟨S3x2x640x16, .f32⟩ : BufTy).Contents (Elt Ideal) → (⟨S3x2x640x16x1, .f32⟩ : BufTy).Contents (Elt Ideal)) (((fun x v => Host.reduce (FloatOps.maximumf (F := Ideal) (φ := .f32)) x v reducesTo_S3x2x640x16x640_S3x2x640x16_d4 h_S_) : (⟨S3x2x640x16x640, .f32⟩ : BufTy).Contents (Elt Ideal) → (⟨S_, .f32⟩ : BufTy).Contents (Elt Ideal) → (⟨S3x2x640x16, .f32⟩ : BufTy).Contents (Elt Ideal)) v73 ((constant (F := Ideal) S_ .f32 0xFF800000#32) : (⟨S_, .f32⟩ : BufTy).Contents (Elt Ideal)) : (⟨S3x2x640x16, .f32⟩ : BufTy).Contents (Elt Ideal)) : (⟨S3x2x640x16x1, .f32⟩ : BufTy).Contents (Elt Ideal)) : (⟨S3x2x640x16x1, .f32⟩ : BufTy).Contents (Elt Ideal))

/-- The weights of the cache. -/
def weightC (v71 : (⟨S3x2x640x16x12288, .f32⟩ : BufTy).Contents (Elt Ideal)) (v78 : (⟨S3x2x640x16x1, .f32⟩ : BufTy).Contents (Elt Ideal)) : (⟨S3x2x640x16x12288, .f32⟩ : BufTy).Contents (Elt Ideal) :=
  ((Host.exp (F := Ideal) (φ := .f32) : (⟨S3x2x640x16x12288, .f32⟩ : BufTy).Contents (Elt Ideal) → (⟨S3x2x640x16x12288, .f32⟩ : BufTy).Contents (Elt Ideal)) ((subf (F := Ideal) (φ := .f32) : (⟨S3x2x640x16x12288, .f32⟩ : BufTy).Contents (Elt Ideal) → (⟨S3x2x640x16x12288, .f32⟩ : BufTy).Contents (Elt Ideal) → (⟨S3x2x640x16x12288, .f32⟩ : BufTy).Contents (Elt Ideal)) v71 ((broadcastInDim S3x2x640x16x12288 ![0, 1, 2, 3, 4] bcast_S3x2x640x16x1_S3x2x640x16x12288_0_1_2_3_4 : (⟨S3x2x640x16x1, .f32⟩ : BufTy).Contents (Elt Ideal) → (⟨S3x2x640x16x12288, .f32⟩ : BufTy).Contents (Elt Ideal)) v78 : (⟨S3x2x640x16x12288, .f32⟩ : BufTy).Contents (Elt Ideal)) : (⟨S3x2x640x16x12288, .f32⟩ : BufTy).Contents (Elt Ideal)) : (⟨S3x2x640x16x12288, .f32⟩ : BufTy).Contents (Elt Ideal))

/-- The weights of the chunk. -/
def weightN (v73 : (⟨S3x2x640x16x640, .f32⟩ : BufTy).Contents (Elt Ideal)) (v78 : (⟨S3x2x640x16x1, .f32⟩ : BufTy).Contents (Elt Ideal)) : (⟨S3x2x640x16x640, .f32⟩ : BufTy).Contents (Elt Ideal) :=
  ((Host.exp (F := Ideal) (φ := .f32) : (⟨S3x2x640x16x640, .f32⟩ : BufTy).Contents (Elt Ideal) → (⟨S3x2x640x16x640, .f32⟩ : BufTy).Contents (Elt Ideal)) ((subf (F := Ideal) (φ := .f32) : (⟨S3x2x640x16x640, .f32⟩ : BufTy).Contents (Elt Ideal) → (⟨S3x2x640x16x640, .f32⟩ : BufTy).Contents (Elt Ideal) → (⟨S3x2x640x16x640, .f32⟩ : BufTy).Contents (Elt Ideal)) v73 ((broadcastInDim S3x2x640x16x640 ![0, 1, 2, 3, 4] bcast_S3x2x640x16x1_S3x2x640x16x640_0_1_2_3_4 : (⟨S3x2x640x16x1, .f32⟩ : BufTy).Contents (Elt Ideal) → (⟨S3x2x640x16x640, .f32⟩ : BufTy).Contents (Elt Ideal)) v78 : (⟨S3x2x640x16x640, .f32⟩ : BufTy).Contents (Elt Ideal)) : (⟨S3x2x640x16x640, .f32⟩ : BufTy).Contents (Elt Ideal)) : (⟨S3x2x640x16x640, .f32⟩ : BufTy).Contents (Elt Ideal))

/-- Their sum. -/
def sumOf (v81 : (⟨S3x2x640x16x12288, .f32⟩ : BufTy).Contents (Elt Ideal)) (v84 : (⟨S3x2x640x16x640, .f32⟩ : BufTy).Contents (Elt Ideal)) : (⟨S3x2x640x16x1, .f32⟩ : BufTy).Contents (Elt Ideal) :=
  ((addf (F := Ideal) (φ := .f32) : (⟨S3x2x640x16x1, .f32⟩ : BufTy).Contents (Elt Ideal) → (⟨S3x2x640x16x1, .f32⟩ : BufTy).Contents (Elt Ideal) → (⟨S3x2x640x16x1, .f32⟩ : BufTy).Contents (Elt Ideal)) ((broadcastInDim S3x2x640x16x1 ![0, 1, 2, 3] bcast_S3x2x640x16_S3x2x640x16x1_0_1_2_3 : (⟨S3x2x640x16, .f32⟩ : BufTy).Contents (Elt Ideal) → (⟨S3x2x640x16x1, .f32⟩ : BufTy).Contents (Elt Ideal)) (((fun x v => Host.reduceAdd (F := Ideal) (φ := .f32) x v reducesTo_S3x2x640x16x12288_S3x2x640x16_d4 h_S_) : (⟨S3x2x640x16x12288, .f32⟩ : BufTy).Contents (Elt Ideal) → (⟨S_, .f32⟩ : BufTy).Contents (Elt Ideal) → (⟨S3x2x640x16, .f32⟩ : BufTy).Contents (Elt Ideal)) v81 ((constant (F := Ideal) S_ .f32 0x00000000#32) : (⟨S_, .f32⟩ : BufTy).Contents (Elt Ideal)) : (⟨S3x2x640x16, .f32⟩ : BufTy).Contents (Elt Ideal)) : (⟨S3x2x640x16x1, .f32⟩ : BufTy).Contents (Elt Ideal)) ((broadcastInDim S3x2x640x16x1 ![0, 1, 2, 3] bcast_S3x2x640x16_S3x2x640x16x1_0_1_2_3 : (⟨S3x2x640x16, .f32⟩ : BufTy).Contents (Elt Ideal) → (⟨S3x2x640x16x1, .f32⟩ : BufTy).Contents (Elt Ideal)) (((fun x v => Host.reduceAdd (F := Ideal) (φ := .f32) x v reducesTo_S3x2x640x16x640_S3x2x640x16_d4 h_S_) : (⟨S3x2x640x16x640, .f32⟩ : BufTy).Contents (Elt Ideal) → (⟨S_, .f32⟩ : BufTy).Contents (Elt Ideal) → (⟨S3x2x640x16, .f32⟩ : BufTy).Contents (Elt Ideal)) v84 ((constant (F := Ideal) S_ .f32 0x00000000#32) : (⟨S_, .f32⟩ : BufTy).Contents (Elt Ideal)) : (⟨S3x2x640x16, .f32⟩ : BufTy).Contents (Elt Ideal)) : (⟨S3x2x640x16x1, .f32⟩ : BufTy).Contents (Elt Ideal)) : (⟨S3x2x640x16x1, .f32⟩ : BufTy).Contents (Elt Ideal))

/-- The weighted values of the cache. -/
def valC (v81 : (⟨S3x2x640x16x12288, .f32⟩ : BufTy).Contents (Elt Ideal)) (v38 : (⟨S3x2x12288, .f32⟩ : BufTy).Contents (Elt Ideal)) (v20 : (⟨S3x2x12288x128, .bf16⟩ : BufTy).Contents (Elt Ideal)) : (⟨S3x2x640x16x128, .f32⟩ : BufTy).Contents (Elt Ideal) :=
  (((fun l r => Host.dotGeneral (F := Ideal) (φ₁ := .bf16) (φ₂ := .bf16) dot_S3x2x640x16x12288_S3x2x12288x128_S3x2x640x16x128_4_2_23_3_01_01 none l r) : (⟨S3x2x640x16x12288, .bf16⟩ : BufTy).Contents (Elt Ideal) → (⟨S3x2x12288x128, .bf16⟩ : BufTy).Contents (Elt Ideal) → (⟨S3x2x640x16x128, .f32⟩ : BufTy).Contents (Elt Ideal)) (((truncf (F := Ideal) .bf16 (φ := .f32) · bitsLt_bf16_f32) : (⟨S3x2x640x16x12288, .f32⟩ : BufTy).Contents (Elt Ideal) → (⟨S3x2x640x16x12288, .bf16⟩ : BufTy).Contents (Elt Ideal)) ((mulf (F := Ideal) (φ := .f32) : (⟨S3x2x640x16x12288, .f32⟩ : BufTy).Contents (Elt Ideal) → (⟨S3x2x640x16x12288, .f32⟩ : BufTy).Contents (Elt Ideal) → (⟨S3x2x640x16x12288, .f32⟩ : BufTy).Contents (Elt Ideal)) v81 ((broadcastInDim S3x2x640x16x12288 ![0, 1, 2, 3, 4] bcast_S3x2x1x1x12288_S3x2x640x16x12288_0_1_2_3_4 : (⟨S3x2x1x1x12288, .f32⟩ : BufTy).Contents (Elt Ideal) → (⟨S3x2x640x16x12288, .f32⟩ : BufTy).Contents (Elt Ideal)) ((broadcastInDim S3x2x1x1x12288 ![0, 1, 4] bcast_S3x2x12288_S3x2x1x1x12288_0_1_4 : (⟨S3x2x12288, .f32⟩ : BufTy).Contents (Elt Ideal) → (⟨S3x2x1x1x12288, .f32⟩ : BufTy).Contents (Elt Ideal)) v38 : (⟨S3x2x1x1x12288, .f32⟩ : BufTy).Contents (Elt Ideal)) : (⟨S3x2x640x16x12288, .f32⟩ : BufTy).Contents (Elt Ideal)) : (⟨S3x2x640x16x12288, .f32⟩ : BufTy).Contents (Elt Ideal)) : (⟨S3x2x640x16x12288, .bf16⟩ : BufTy).Contents (Elt Ideal)) v20 : (⟨S3x2x640x16x128, .f32⟩ : BufTy).Contents (Elt Ideal))

/-- The weighted values of the chunk. -/
def valN (v84 : (⟨S3x2x640x16x640, .f32⟩ : BufTy).Contents (Elt Ideal)) (arg11 : (⟨S3x2x640, .f32⟩ : BufTy).Contents (Elt Ideal)) (v0_4 : (⟨S3x2x640x128, .bf16⟩ : BufTy).Contents (Elt Ideal)) : (⟨S3x2x640x16x128, .f32⟩ : BufTy).Contents (Elt Ideal) :=
  (((fun l r => Host.dotGeneral (F := Ideal) (φ₁ := .bf16) (φ₂ := .bf16) dot_S3x2x640x16x640_S3x2x640x128_S3x2x640x16x128_4_2_23_3_01_01 none l r) : (⟨S3x2x640x16x640, .bf16⟩ : BufTy).Contents (Elt Ideal) → (⟨S3x2x640x128, .bf16⟩ : BufTy).Contents (Elt Ideal) → (⟨S3x2x640x16x128, .f32⟩ : BufTy).Contents (Elt Ideal)) (((truncf (F := Ideal) .bf16 (φ := .f32) · bitsLt_bf16_f32) : (⟨S3x2x640x16x640, .f32⟩ : BufTy).Contents (Elt Ideal) → (⟨S3x2x640x16x640, .bf16⟩ : BufTy).Contents (Elt Ideal)) ((mulf (F := Ideal) (φ := .f32) : (⟨S3x2x640x16x640, .f32⟩ : BufTy).Contents (Elt Ideal) → (⟨S3x2x640x16x640, .f32⟩ : BufTy).Contents (Elt Ideal) → (⟨S3x2x640x16x640, .f32⟩ : BufTy).Contents (Elt Ideal)) v84 ((broadcastInDim S3x2x640x16x640 ![0, 1, 2, 3, 4] bcast_S3x2x1x1x640_S3x2x640x16x640_0_1_2_3_4 : (⟨S3x2x1x1x640, .f32⟩ : BufTy).Contents (Elt Ideal) → (⟨S3x2x640x16x640, .f32⟩ : BufTy).Contents (Elt Ideal)) ((broadcastInDim S3x2x1x1x640 ![0, 1, 4] bcast_S3x2x640_S3x2x1x1x640_0_1_4 : (⟨S3x2x640, .f32⟩ : BufTy).Contents (Elt Ideal) → (⟨S3x2x1x1x640, .f32⟩ : BufTy).Contents (Elt Ideal)) arg11 : (⟨S3x2x1x1x640, .f32⟩ : BufTy).Contents (Elt Ideal)) : (⟨S3x2x640x16x640, .f32⟩ : BufTy).Contents (Elt Ideal)) : (⟨S3x2x640x16x640, .f32⟩ : BufTy).Contents (Elt Ideal)) : (⟨S3x2x640x16x640, .bf16⟩ : BufTy).Contents (Elt Ideal)) v0_4 : (⟨S3x2x640x16x128, .f32⟩ : BufTy).Contents (Elt Ideal))

/-- The quotient, laid out by token. -/
def outOf (v98 : (⟨S3x2x640x16x128, .f32⟩ : BufTy).Contents (Elt Ideal)) (v99 : (⟨S3x2x640x16x128, .f32⟩ : BufTy).Contents (Elt Ideal)) (v89 : (⟨S3x2x640x16x1, .f32⟩ : BufTy).Contents (Elt Ideal)) : (⟨S3x640x4096, .bf16⟩ : BufTy).Contents (Elt Ideal) :=
  (((truncf (F := Ideal) .bf16 (φ := .f32) · bitsLt_bf16_f32) : (⟨S3x640x4096, .f32⟩ : BufTy).Contents (Elt Ideal) → (⟨S3x640x4096, .bf16⟩ : BufTy).Contents (Elt Ideal)) (shapeCast S3x640x4096 (((transpose S3x640x2x16x128 [0, 2, 1, 3, 4] · transposes_S3x2x640x16x128_S3x640x2x16x128_0_2_1_3_4) : (⟨S3x2x640x16x128, .f32⟩ : BufTy).Contents (Elt Ideal) → (⟨S3x640x2x16x128, .f32⟩ : BufTy).Contents (Elt Ideal)) ((Host.divf (F := Ideal) (φ := .f32) : (⟨S3x2x640x16x128, .f32⟩ : BufTy).Contents (Elt Ideal) → (⟨S3x2x640x16x128, .f32⟩ : BufTy).Contents (Elt Ideal) → (⟨S3x2x640x16x128, .f32⟩ : BufTy).Contents (Elt Ideal)) ((addf (F := Ideal) (φ := .f32) : (⟨S3x2x640x16x128, .f32⟩ : BufTy).Contents (Elt Ideal) → (⟨S3x2x640x16x128, .f32⟩ : BufTy).Contents (Elt Ideal) → (⟨S3x2x640x16x128, .f32⟩ : BufTy).Contents (Elt Ideal)) v98 v99 : (⟨S3x2x640x16x128, .f32⟩ : BufTy).Contents (Elt Ideal)) ((broadcastInDim S3x2x640x16x128 ![0, 1, 2, 3, 4] bcast_S3x2x640x16x1_S3x2x640x16x128_0_1_2_3_4 : (⟨S3x2x640x16x1, .f32⟩ : BufTy).Contents (Elt Ideal) → (⟨S3x2x640x16x128, .f32⟩ : BufTy).Contents (Elt Ideal)) v89 : (⟨S3x2x640x16x128, .f32⟩ : BufTy).Contents (Elt Ideal)) : (⟨S3x2x640x16x128, .f32⟩ : BufTy).Contents (Elt Ideal)) : (⟨S3x640x2x16x128, .f32⟩ : BufTy).Contents (Elt Ideal)) shapeCasts_S3x640x2x16x128_S3x640x4096 : (⟨S3x640x4096, .f32⟩ : BufTy).Contents (Elt Ideal)) : (⟨S3x640x4096, .bf16⟩ : BufTy).Contents (Elt Ideal))

set_option maxHeartbeats 8000000 in
/-- The host lines compute the stages, one after the other. -/
theorem lines_eq (W : Valuation τ sig (Elt Ideal)) :
    StableHlo.after ([hostOps1, hostOps1_1, hostOps1_2, hostOps1_3, hostOps1_4] : List (List (HloOp τ sig (Elt Ideal)))).flatten W (Proc.devRef .tc main_v105)
      = (let kc := poolOf (W (Proc.devRef .tc main_v0_1)) (W (Proc.devRef .tc main_arg0))
         let vc := poolOf (W (Proc.devRef .tc main_v0_2)) (W (Proc.devRef .tc main_arg0))
         let ks := scaleOf (W (Proc.devRef .tc main_arg5)) (W (Proc.devRef .tc main_arg0))
         let vs := scaleOf (W (Proc.devRef .tc main_arg7)) (W (Proc.devRef .tc main_arg0))
         let q := qOf (W (Proc.devRef .tc main_v0_0))
         let qs := qsOf (W (Proc.devRef .tc main_arg3))
         let sc := maskC (scoreC q kc qs ks) (W (Proc.devRef .tc main_arg1))
         let sn := maskN (scoreN q (W (Proc.devRef .tc main_v0_3)) qs (W (Proc.devRef .tc main_arg9)))
         let mx := topOf sc sn
         let pc := weightC sc mx
         let pn := weightN sn mx
         outOf (valC pc vs vc) (valN pn (W (Proc.devRef .tc main_arg11)) (W (Proc.devRef .tc main_v0_4))) (sumOf pc pn)) := by
  simp only [List.flatten_cons, List.flatten_nil, List.append_nil, hostOps1, hostOps1_1, hostOps1_2, hostOps1_3, hostOps1_4, List.cons_append, List.nil_append]
  after_reads_simp
  rfl

end Cert.ReferenceIdeal.Hand
-- ==== Proof.RF.Gather.lean ====
/- Reading the pages the reference gathers. -/
module

public import proofs.«01_k».proof.Proof.RF.Stages
public import Idealize.ShloMosaic.PureOps.Ideal.Laws
public import Idealize.ShloMosaic.Lib.IdealHost
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe Idealize.ShloMosaic.Tactic

theorem gather_pool (x : (⟨S720x2x64x128, .bf16⟩ : BufTy).Contents (Elt Ideal)) (idx : (⟨S3x192x1, .i32⟩ : BufTy).Contents (Elt Ideal)) (b : Fin 3) (p : Fin 192) (g : Fin 2) (o : Fin 64) (l : Fin 128) (w : ℕ) (hw : w < 720)
    (h : idx (ix3 b p 0) = BitVec.ofNat 32 w) :
    Host.gather gather_S720x2x64x128_S3x192x1_S3x192x2x64x128_234_0_n_n_0_2_1264128 x idx (ix5 b p g o l) = x (ix4 ⟨w, hw⟩ g o l) := by
  unfold Host.gather
  congr 1
  funext a
  refine Fin.ext ?_
  match a with
  | ⟨0, _⟩ =>
    have e : gather_S720x2x64x128_S3x192x1_S3x192x2x64x128_234_0_n_n_0_2_1264128.siIdx (ix5 b p g o l) ⟨0, by decide⟩ = ix3 b p 0 := by
      funext c
      match c with
      | ⟨0, _⟩ => rfl
      | ⟨1, _⟩ => rfl
      | ⟨2, _⟩ => rfl
    show min (idx (gather_S720x2x64x128_S3x192x1_S3x192x2x64x128_234_0_n_n_0_2_1264128.siIdx (ix5 b p g o l) ⟨0, by decide⟩)).toInt.toNat 719 + 0 + 0 = w
    rw [e, h]
    have := BitVec.toInt_eq_toNat_of_lt (x := BitVec.ofNat 32 w) (by rw [BitVec.toNat_ofNat]; omega)
    rw [this, BitVec.toNat_ofNat]; omega
  | ⟨1, _⟩ => show 0 + 0 + g.val = g.val; omega
  | ⟨2, _⟩ => show 0 + 0 + o.val = o.val; omega
  | ⟨3, _⟩ => show 0 + 0 + l.val = l.val; omega

theorem gather_scale (x : (⟨S2x64x768, .f32⟩ : BufTy).Contents (Elt Ideal)) (idx : (⟨S3x192x1, .i32⟩ : BufTy).Contents (Elt Ideal)) (b : Fin 3) (p : Fin 192) (g : Fin 2) (o : Fin 64) (w : ℕ) (hw : w < 768)
    (h : idx (ix3 b p 0) = BitVec.ofNat 32 w) :
    Host.gather gather_S2x64x768_S3x192x1_S2x64x3x192_01_2_n_n_2_2_2641 x idx (ix4 g o b p) = x (ix3 g o ⟨w, hw⟩) := by
  unfold Host.gather
  congr 1
  funext a
  refine Fin.ext ?_
  match a with
  | ⟨2, _⟩ =>
    have e : gather_S2x64x768_S3x192x1_S2x64x3x192_01_2_n_n_2_2_2641.siIdx (ix4 g o b p) ⟨0, by decide⟩ = ix3 b p 0 := by
      funext c
      match c with
      | ⟨0, _⟩ => rfl
      | ⟨1, _⟩ => rfl
      | ⟨2, _⟩ => rfl
    show min (idx (gather_S2x64x768_S3x192x1_S2x64x3x192_01_2_n_n_2_2_2641.siIdx (ix4 g o b p) ⟨0, by decide⟩)).toInt.toNat 767 + 0 + 0 = w
    rw [e, h]
    have := BitVec.toInt_eq_toNat_of_lt (x := BitVec.ofNat 32 w) (by rw [BitVec.toNat_ofNat]; omega)
    rw [this, BitVec.toNat_ofNat]; omega
  | ⟨0, _⟩ => show 0 + 0 + g.val = g.val; omega
  | ⟨1, _⟩ => show 0 + 0 + o.val = o.val; omega

theorem entry (tbl : (⟨S3x192, .i32⟩ : BufTy).Contents (Elt Ideal)) (c : BitVec 32) (b : Fin 3) (p : Fin 192) (h : 0 ≤ (tbl (ix2 b p)).toInt) :
    (broadcastInDim S3x192x1 ![0, 1] bcast_S3x192_S3x192x1_0_1 (select (cmpi CmpIPredicate.slt tbl (broadcastInDim S3x192 ![] bcast_S_S3x192 (constantI S_ 32 0#32)))
          (addi tbl (broadcastInDim S3x192 ![] bcast_S_S3x192 (constantI S_ 32 c))) tbl)) (ix3 b p 0) = BitVec.ofNat 32 (tbl (ix2 b p)).toNat := by
  pointwise
  have : IntOp.cmpi .slt (tbl (ix2 b p)) 0#32 = 0#1 := by
    show BitVec.ofBool ((tbl (ix2 b p)).slt 0#32) = _
    rw [show (tbl (ix2 b p)).slt 0#32 = false by rw [BitVec.slt_eq_decide]; simp; exact h]
    rfl
  rw [this, BitVec.ofNat_toNat, BitVec.setWidth_eq]
  rfl

theorem pool_at (x tbl) (b : Fin 3) (g : Fin 2) (j : Fin 12288) (l : Fin 128) (h : 0 ≤ (tbl (ix2 b (⟨j.val / 64, by omega⟩ : Fin 192))).toInt) (hw : (tbl (ix2 b (⟨j.val / 64, by omega⟩ : Fin 192))).toNat < 720) :
    poolOf x tbl (ix4 b g j l) = x (ix4 ⟨_, hw⟩ g ⟨j.val % 64, Nat.mod_lt _ (by decide)⟩ l) := by
  unfold poolOf
  beta_reduce
  rw [← gather_pool x _ b ⟨j.val / 64, by omega⟩ g ⟨j.val % 64, Nat.mod_lt _ (by decide)⟩ l _ hw (entry tbl 720#32 b _ h)]
  generalize Host.gather _ _ _ = A
  pointwise

theorem scale_at (x tbl) (b : Fin 3) (g : Fin 2) (j : Fin 12288) (h : 0 ≤ (tbl (ix2 b (⟨j.val / 64, by omega⟩ : Fin 192))).toInt) (hw : (tbl (ix2 b (⟨j.val / 64, by omega⟩ : Fin 192))).toNat < 768) :
    scaleOf x tbl (ix3 b g j) = x (ix3 g ⟨j.val % 64, Nat.mod_lt _ (by decide)⟩ ⟨_, hw⟩) := by
  unfold scaleOf
  beta_reduce
  rw [← gather_scale x _ b ⟨j.val / 64, by omega⟩ g ⟨j.val % 64, Nat.mod_lt _ (by decide)⟩ _ hw (entry tbl 768#32 b _ h)]
  generalize Host.gather _ _ _ = A
  pointwise
end Cert.ReferenceIdeal.Hand
-- ==== Proof.RF.Read.lean ====
/- Reading the stages of the reference at an index. -/
module

public import proofs.«01_k».proof.Proof.RF.Stages
public import Idealize.ShloMosaic.PureOps.Ideal.Laws
public import Idealize.ShloMosaic.Lib.IdealHost
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe Idealize.ShloMosaic.Tactic

theorem minf : Ideal.ofBits .f32 0xFF800000#32 = ⊥ := by simp [Ideal.ofBits, Ideal.ieee]

theorem root : Ideal.sqrt (Ideal.ofBits .f32 0x43000000#32) = ((Real.sqrt 128 : ℝ) : EReal) := by
  rw [show Ideal.ofBits .f32 0x43000000#32 = ((128 : ℝ) : EReal) by
    simp [Ideal.ofBits, Ideal.ieee]
    norm_num [← EReal.coe_mul]]
  rw [Ideal.sqrt_coe, if_neg (by norm_num)]

theorem sel {α : Type} (c : Bool) (a b : α) : Scalar.select (BitVec.ofBool c) a b = if c = true then a else b := by
  cases c <;> rfl

theorem q_at (x) (b : Fin 3) (g : Fin 2) (t : Fin 640) (r : Fin 16) (l : Fin 128) :
    qOf x (ix5 b g t r l) = x (ix4 b g ⟨t.val * 16 + r.val, by omega⟩ l) := by
  unfold qOf
  pointwise

theorem qs_at (x) (b : Fin 3) (g : Fin 2) (t : Fin 640) (r : Fin 16) :
    qsOf x (ix4 b g t r) = x (ix5 b g ⟨t.val / 64, by omega⟩ 0 ⟨t.val % 64 * 16 + r.val, by omega⟩) := by
  unfold qsOf
  pointwise

theorem scoreC_at (q k qs ks) (b : Fin 3) (g : Fin 2) (t : Fin 640) (r : Fin 16) (j : Fin 12288) :
    scoreC q k qs ks (ix5 b g t r j) = Ideal.div ((∑ l : Fin 128, (q (ix5 b g t r l) * k (ix4 b g j l) : EReal)) * ((qs (ix4 b g t r) : EReal) * (ks (ix3 b g j)))) (Real.sqrt 128 : ℝ) := by
  unfold scoreC
  beta_reduce
  pointwise
  rw [root]

theorem weightC_at (s m) (b : Fin 3) (g : Fin 2) (t : Fin 640) (r : Fin 16) (j : Fin 12288) :
    weightC s m (ix5 b g t r j) = Ideal.exp ((s (ix5 b g t r j) : EReal) - m (ix5 b g t r 0)) := by
  unfold weightC
  beta_reduce
  pointwise

theorem valC_at (p s v) (b : Fin 3) (g : Fin 2) (t : Fin 640) (r : Fin 16) (d : Fin 128) :
    valC p s v (ix5 b g t r d) = ∑ j : Fin 12288, ((p (ix5 b g t r j) * s (ix3 b g j) : EReal) * v (ix4 b g j d)) := by
  unfold valC
  beta_reduce
  pointwise

theorem scoreN_at (q k qs ks) (b : Fin 3) (g : Fin 2) (t : Fin 640) (r : Fin 16) (j : Fin 640) :
    scoreN q k qs ks (ix5 b g t r j) = Ideal.div ((∑ l : Fin 128, (q (ix5 b g t r l) * k (ix4 b g j l) : EReal)) * ((qs (ix4 b g t r) : EReal) * (ks (ix3 b g j)))) (Real.sqrt 128 : ℝ) := by
  unfold scoreN
  beta_reduce
  pointwise
  rw [root]

theorem weightN_at (s m) (b : Fin 3) (g : Fin 2) (t : Fin 640) (r : Fin 16) (j : Fin 640) :
    weightN s m (ix5 b g t r j) = Ideal.exp ((s (ix5 b g t r j) : EReal) - m (ix5 b g t r 0)) := by
  unfold weightN
  beta_reduce
  pointwise

theorem valN_at (p s v) (b : Fin 3) (g : Fin 2) (t : Fin 640) (r : Fin 16) (d : Fin 128) :
    valN p s v (ix5 b g t r d) = ∑ j : Fin 640, ((p (ix5 b g t r j) * s (ix3 b g j) : EReal) * v (ix4 b g j d)) := by
  unfold valN
  beta_reduce
  pointwise

theorem maskC_at (s n) (b : Fin 3) (g : Fin 2) (t : Fin 640) (r : Fin 16) (j : Fin 12288) :
    maskC s n (ix5 b g t r j) = if (BitVec.ofNat 32 j.val).slt (n (ix1 b)) = true then s (ix5 b g t r j) else (⊥ : EReal) := by
  unfold maskC
  beta_reduce
  pointwise
  rw [minf]
  exact sel _ _ _

theorem maskN_at (s) (b : Fin 3) (g : Fin 2) (t : Fin 640) (r : Fin 16) (j : Fin 640) :
    maskN s (ix5 b g t r j) = if (BitVec.ofNat 32 j.val).sle (BitVec.ofNat 32 t.val) = true then s (ix5 b g t r j) else (⊥ : EReal) := by
  unfold maskN
  beta_reduce
  pointwise
  rw [minf]
  exact sel _ _ _

theorem sum_at (s1 s2) (b : Fin 3) (g : Fin 2) (t : Fin 640) (r : Fin 16) :
    sumOf s1 s2 (ix5 b g t r 0) = (∑ j : Fin 12288, (s1 (ix5 b g t r j) : EReal)) + (∑ j : Fin 640, (s2 (ix5 b g t r j) : EReal)) := by
  unfold sumOf
  beta_reduce
  pointwise

theorem out_at (v98 v99 v89) (b : Fin 3) (g : Fin 2) (t : Fin 640) (r : Fin 16) (d : Fin 128) :
    outOf v98 v99 v89 (ix3 b t ⟨(g.val * 16 + r.val) * 128 + d.val, by omega⟩) = Ideal.div ((v98 (ix5 b g t r d) : EReal) + v99 (ix5 b g t r d)) (v89 (ix5 b g t r 0)) := by
  unfold outOf
  beta_reduce
  pointwise

end Cert.ReferenceIdeal.Hand
-- ==== Proof.RF.Top.lean ====
/- Reading the stages of the reference at an index. -/
module

public import proofs.«01_k».proof.Proof.RF.Stages
public import Idealize.ShloMosaic.PureOps.Ideal.Laws
public import Idealize.ShloMosaic.Lib.IdealHost
public import Idealize.ShloMosaic.Lib.Pointwise
public import proofs.«01_k».proof.Proof.RF.Read

@[expose] public section

noncomputable section

namespace Cert.ReferenceIdeal.Hand

open Cert.ReferenceIdeal Cert.ReferenceIdeal.Gen
open Idealize.ShloMosaic Idealize.ShloMosaic.TcCoe Idealize.ShloMosaic.Tactic

theorem fold_sup {n : ℕ} (f : Fin n → EReal) : Finset.univ.fold max ⊥ f = Finset.univ.sup f := rfl

theorem max_gen {n k : ℕ} (x : FVec Ideal ⟨5, ![3, 2, 640, 16, n]⟩ .f32) (y : FVec Ideal ⟨5, ![3, 2, 640, 16, k]⟩ .f32)
    (h : (⟨5, ![3, 2, 640, 16, n]⟩ : Shape).ReducesTo [4] ⟨4, ![3, 2, 640, 16]⟩) (h' : (⟨5, ![3, 2, 640, 16, k]⟩ : Shape).ReducesTo [4] ⟨4, ![3, 2, 640, 16]⟩) (hu)
    (hb : (⟨4, ![3, 2, 640, 16]⟩ : Shape).BroadcastsInDim ⟨5, ![3, 2, 640, 16, 1]⟩ ![0, 1, 2, 3])
    (i : Fin 3) (j : Fin 2) (e : Fin 640) (l : Fin 16) :
    maximumf (F := Ideal) (φ := .f32) (broadcastInDim ⟨5, ![3, 2, 640, 16, 1]⟩ ![0, 1, 2, 3] hb (Host.reduce (FloatOps.maximumf (F := Ideal) (φ := .f32)) x (constant (F := Ideal) S_ .f32 0xFF800000#32) h hu))
      (broadcastInDim ⟨5, ![3, 2, 640, 16, 1]⟩ ![0, 1, 2, 3] hb (Host.reduce (FloatOps.maximumf (F := Ideal) (φ := .f32)) y (constant (F := Ideal) S_ .f32 0xFF800000#32) h' hu)) (ix5 i j e l 0)
      = max (Finset.univ.sup fun m : Fin n => (x (ix5 i j e l m) : EReal)) (Finset.univ.sup fun m : Fin k => (y (ix5 i j e l m) : EReal)) := by
  pointwise
  rw [minf]
  rfl

theorem top_at (s1 s2) (b : Fin 3) (g : Fin 2) (t : Fin 640) (r : Fin 16) :
    topOf s1 s2 (ix5 b g t r 0) = max (Finset.univ.sup fun j : Fin 12288 => (s1 (ix5 b g t r j) : EReal)) (Finset.univ.sup fun j : Fin 640 => (s2 (ix5 b g t r j) : EReal)) :=
  max_gen s1 s2 reducesTo_S3x2x640x16x12288_S3x2x640x16_d4 reducesTo_S3x2x640x16x640_S3x2x640x16_d4 h_S_ bcast_S3x2x640x16_S3x2x640x16x1_0_1_2_3 b g t r

end Cert.ReferenceIdeal.Hand
-- ==== Proof.RF.Val.lean ====
/- The reference computes the attention. -/
module

public import proofs.«01_k».proof.Proof.Att
public import proofs.«01_k».proof.Proof.RF.Gather
public import proofs.«01_k».proof.Proof.RF.Read
public import proofs.«01_k».proof.Proof.RF.Top

@[expose] public section

noncomputable section

namespace Cert.ReferenceIdeal.Hand

open Cert.ReferenceIdeal Cert.ReferenceIdeal.Gen
open Idealize.ShloMosaic Idealize.ShloMosaic.TcCoe Idealize.ShloMosaic.Tactic

theorem int_nat (x : BitVec 32) (h : 0 ≤ x.toInt) : (x.toNat : Int) = x.toInt := by
  rw [BitVec.toInt_eq_toNat_cond] at h ⊢
  split at h
  · rw [if_pos (by assumption)]
  · have := x.isLt; omega

theorem perm (x y z : EReal) : x * y * z = z * y * x := by
  rw [mul_comm x y, mul_comm (y * x) z, mul_assoc z y x]

theorem ofNat_int (a : ℕ) (ha : a < 2 ^ 31) : (BitVec.ofNat 32 a).toInt = a := by
  rw [BitVec.toInt_eq_toNat_of_lt (by rw [BitVec.toNat_ofNat]; omega), BitVec.toNat_ofNat]; omega

variable (a0 : (⟨S3x192, .i32⟩ : BufTy).Contents (Elt Ideal)) (a1 : (⟨S3, .i32⟩ : BufTy).Contents (Elt Ideal)) (a2 : (⟨S3x2x10240x128, .bf16⟩ : BufTy).Contents (Elt Ideal)) (a3 : (⟨S3x2x10x1x1024, .f32⟩ : BufTy).Contents (Elt Ideal))
  (a4 : (⟨S720x2x64x128, .bf16⟩ : BufTy).Contents (Elt Ideal)) (a5 : (⟨S2x64x768, .f32⟩ : BufTy).Contents (Elt Ideal)) (a6 : (⟨S720x2x64x128, .bf16⟩ : BufTy).Contents (Elt Ideal)) (a7 : (⟨S2x64x768, .f32⟩ : BufTy).Contents (Elt Ideal))
  (a8 : (⟨S3x2x640x128, .bf16⟩ : BufTy).Contents (Elt Ideal)) (a9 : (⟨S3x2x640, .f32⟩ : BufTy).Contents (Elt Ideal)) (a10 : (⟨S3x2x640x128, .bf16⟩ : BufTy).Contents (Elt Ideal)) (a11 : (⟨S3x2x640, .f32⟩ : BufTy).Contents (Elt Ideal))
  (h0 : ∀ x, 0 ≤ (a0 x : BitVec 32).toInt ∧ (a0 x : BitVec 32).toInt < 720) (h1 : ∀ x, 0 ≤ (a1 x : BitVec 32).toInt ∧ (a1 x : BitVec 32).toInt ≤ 12288)
  (b : Fin 3) (g : Fin 2) (t : Fin 640) (r : Fin 16)

include h0 in
theorem page_lt (x) : (a0 x : BitVec 32).toNat < 720 := by
  have := int_nat _ (h0 x).1; have := (h0 x).2; omega

include h0 in
theorem page_at (j : Fin 12288) : (Att.pageOf a0 b j.val).val = (a0 (ix2 b (⟨j.val / 64, by omega⟩ : Fin 192)) : BitVec 32).toNat := by
  have e : (⟨j.val / 64 % 192, Nat.mod_lt _ (by decide)⟩ : Fin 192) = ⟨j.val / 64, by omega⟩ := Fin.ext (show j.val / 64 % 192 = j.val / 64 by omega)
  show (a0 (ix2 b (⟨j.val / 64 % 192, Nat.mod_lt _ (by decide)⟩ : Fin 192)) : BitVec 32).toNat % 720 = _
  rw [e]
  exact Nat.mod_eq_of_lt (page_lt a0 h0 _)

include h0 in
theorem code_stored (x4 : (⟨S720x2x64x128, .bf16⟩ : BufTy).Contents (Elt Ideal)) (x8 : (⟨S3x2x640x128, .bf16⟩ : BufTy).Contents (Elt Ideal)) (j : Fin 12288) (l : Fin 128) :
    poolOf x4 a0 (ix4 b g j l) = Att.codeOf a0 b g x4 x8 j.val l := by
  rw [pool_at x4 a0 b g j l (h0 _).1 (page_lt a0 h0 _)]
  unfold Att.codeOf
  rw [if_pos j.2]
  exact congrArg (fun p : Fin 720 => x4 (ix4 p g (⟨j.val % 64, Nat.mod_lt _ (by decide)⟩ : Fin 64) l)) (Fin.ext (page_at a0 h0 b j).symm)

include h0 in
theorem scale_stored (x5 : (⟨S2x64x768, .f32⟩ : BufTy).Contents (Elt Ideal)) (x9 : (⟨S3x2x640, .f32⟩ : BufTy).Contents (Elt Ideal)) (j : Fin 12288) :
    scaleOf x5 a0 (ix3 b g j) = Att.scaleOf a0 b g x5 x9 j.val := by
  rw [scale_at x5 a0 b g j (h0 _).1 (lt_trans (page_lt a0 h0 _) (by decide))]
  unfold Att.scaleOf
  rw [if_pos j.2]
  exact congrArg (fun p : Fin 768 => x5 (ix3 g (⟨j.val % 64, Nat.mod_lt _ (by decide)⟩ : Fin 64) p)) (Fin.ext (page_at a0 h0 b j).symm)

theorem code_new (x4 : (⟨S720x2x64x128, .bf16⟩ : BufTy).Contents (Elt Ideal)) (x8 : (⟨S3x2x640x128, .bf16⟩ : BufTy).Contents (Elt Ideal)) (j : Fin 640) (l : Fin 128) :
    x8 (ix4 b g j l) = Att.codeOf a0 b g x4 x8 (12288 + j.val) l := by
  unfold Att.codeOf
  rw [if_neg (by omega)]
  exact congrArg (fun p : Fin 640 => x8 (ix4 b g p l)) (Fin.ext (show j.val = (12288 + j.val - 12288) % 640 by omega))

theorem scale_new (x5 : (⟨S2x64x768, .f32⟩ : BufTy).Contents (Elt Ideal)) (x9 : (⟨S3x2x640, .f32⟩ : BufTy).Contents (Elt Ideal)) (j : Fin 640) :
    x9 (ix3 b g j) = Att.scaleOf a0 b g x5 x9 (12288 + j.val) := by
  unfold Att.scaleOf
  rw [if_neg (by omega)]
  exact congrArg (fun p : Fin 640 => x9 (ix3 b g p)) (Fin.ext (show j.val = (12288 + j.val - 12288) % 640 by omega))

include h0 h1 in
theorem maskedC (j : Fin 12288) : maskC (scoreC (qOf a2) (poolOf a4 a0) (qsOf a3) (scaleOf a5 a0)) a1 (ix5 b g t r j)
    = if j.val < (a1 (ix1 b) : BitVec 32).toNat then Att.score a0 a2 a3 a4 a5 a8 a9 b g t r j.val else (⊥ : EReal) := by
  refine (maskC_at _ _ b g t r j).trans (if_congr ?_ ?_ rfl)
  · have := int_nat _ (h1 (ix1 b)).1
    rw [BitVec.slt_eq_decide, decide_eq_true_iff, ofNat_int _ (by omega), ← this]
    omega
  · rw [scoreC_at, qs_at, scale_stored a0 h0 b g a5 a9 j]
    unfold Att.score
    rw [Finset.sum_congr rfl fun l _ => congrArg₂ (fun x y : EReal => x * y) (q_at a2 b g t r l) (code_stored a0 h0 b g a4 a8 j l)]

theorem maskedN (j : Fin 640) : maskN (scoreN (qOf a2) a8 (qsOf a3) a9) (ix5 b g t r j)
    = if j.val ≤ t.val then Att.score a0 a2 a3 a4 a5 a8 a9 b g t r (12288 + j.val) else (⊥ : EReal) := by
  refine (maskN_at _ b g t r j).trans (if_congr ?_ ?_ rfl)
  · rw [BitVec.sle_eq_decide, decide_eq_true_iff, ofNat_int _ (by omega), ofNat_int _ (by omega)]
    omega
  · rw [scoreN_at, qs_at, scale_new a0 b g a5 a9 j]
    unfold Att.score
    rw [Finset.sum_congr rfl fun l _ => congrArg₂ (fun x y : EReal => x * y) (q_at a2 b g t r l) (code_new a0 b g a4 a8 j l)]

include h0 h1 in
theorem out_att (d : Fin 128) (sc sn mx pc pn)
    (hsc : sc = maskC (scoreC (qOf a2) (poolOf a4 a0) (qsOf a3) (scaleOf a5 a0)) a1) (hsn : sn = maskN (scoreN (qOf a2) a8 (qsOf a3) a9))
    (hmx : mx = topOf sc sn) (hpc : pc = weightC sc mx) (hpn : pn = weightN sn mx) :
    outOf (valC pc (scaleOf a7 a0) (poolOf a6 a0)) (valN pn a11 a10) (sumOf pc pn) (ix3 b t ⟨(g.val * 16 + r.val) * 128 + d.val, by omega⟩)
      = Att.att a0 a1 a2 a3 a4 a5 a6 a7 a8 a9 a10 a11 b g t r d := by
  have hn : (a1 (ix1 b) : BitVec 32).toNat ≤ 12288 := by
    have := int_nat _ (h1 (ix1 b)).1; have := (h1 (ix1 b)).2; omega
  have eC : ∀ j : Fin 12288, sc (ix5 b g t r j) = if j.val < (a1 (ix1 b) : BitVec 32).toNat then Att.score a0 a2 a3 a4 a5 a8 a9 b g t r j.val else (⊥ : EReal) := fun j => by
    rw [hsc]; exact maskedC a0 a1 a2 a3 a4 a5 a8 a9 h0 h1 b g t r j
  have eN : ∀ j : Fin 640, sn (ix5 b g t r j) = if j.val ≤ t.val then Att.score a0 a2 a3 a4 a5 a8 a9 b g t r (12288 + j.val) else (⊥ : EReal) := fun j => by
    rw [hsn]; exact maskedN a0 a2 a3 a4 a5 a8 a9 b g t r j
  have eM : mx (ix5 b g t r 0) = (Att.keys (a1 (ix1 b) : BitVec 32).toNat t.val).sup (Att.score a0 a2 a3 a4 a5 a8 a9 b g t r) := by
    rw [hmx]
    exact (top_at sc sn b g t r).trans (Att.sup_keys _ _ hn t.2 _ _ _ eC eN)
  have eP : ∀ j : Fin 12288, pc (ix5 b g t r j) = if j.val < (a1 (ix1 b) : BitVec 32).toNat then Ideal.exp (Att.score a0 a2 a3 a4 a5 a8 a9 b g t r j.val - (Att.keys (a1 (ix1 b) : BitVec 32).toNat t.val).sup (Att.score a0 a2 a3 a4 a5 a8 a9 b g t r)) else 0 := fun j => by
    rw [hpc, weightC_at, eM, eC]
    split
    · rfl
    · exact Soft.exp_bot_sub _
  have eQ : ∀ j : Fin 640, pn (ix5 b g t r j) = if j.val ≤ t.val then Ideal.exp (Att.score a0 a2 a3 a4 a5 a8 a9 b g t r (12288 + j.val) - (Att.keys (a1 (ix1 b) : BitVec 32).toNat t.val).sup (Att.score a0 a2 a3 a4 a5 a8 a9 b g t r)) else 0 := fun j => by
    rw [hpn, weightN_at, eM, eN]
    split
    · rfl
    · exact Soft.exp_bot_sub _
  rw [out_at, sum_at, valC_at, valN_at]
  unfold Att.att
  refine congrArg₂ Ideal.div (Att.sum_keys _ _ hn t.2 _ _ _ (fun j => ?_) fun j => ?_) (Att.sum_keys _ _ hn t.2 _ _ _ eP eQ)
  · show (pc (ix5 b g t r j) * scaleOf a7 a0 (ix3 b g j) : EReal) * poolOf a6 a0 (ix4 b g j d) = _
    rw [eP]
    split
    · rw [scale_stored a0 h0 b g a7 a11 j, code_stored a0 h0 b g a6 a10 j d]
      unfold Att.value
      exact perm _ _ _
    · rw [zero_mul, zero_mul]
  · show (pn (ix5 b g t r j) * a11 (ix3 b g j) : EReal) * a10 (ix4 b g j d) = _
    rw [eQ]
    split
    · rw [scale_new a0 b g a7 a11 j, code_new a0 b g a6 a10 j d]
      unfold Att.value
      exact perm _ _ _
    · rw [zero_mul, zero_mul]

end Cert.ReferenceIdeal.Hand
-- ==== Proof.RF.End.lean ====
/- Every run of the reference ends with the attention in its result. -/
module

public import proofs.«01_k».proof.Proof.RF.Val
public import proofs.«01_k».proof.Proof.RF.Stages
public import proofs.«01_k».proof.Proof.RF.Run
public import Idealize.ShloMosaic.Lib.Pipeline.ValueKit

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL.Sem

/-- The host lines compute the attention of the arrays they start from. -/
theorem lines_att (W : Valuation τ sig (Elt Ideal))
    (h0 : ∀ x, 0 ≤ (W (Proc.devRef .tc main_arg0) x : BitVec 32).toInt ∧ (W (Proc.devRef .tc main_arg0) x : BitVec 32).toInt < 720)
    (h1 : ∀ x, 0 ≤ (W (Proc.devRef .tc main_arg1) x : BitVec 32).toInt ∧ (W (Proc.devRef .tc main_arg1) x : BitVec 32).toInt ≤ 12288) :
    StableHlo.after ([hostOps1, hostOps1_1, hostOps1_2, hostOps1_3, hostOps1_4] : List (List (HloOp τ sig (Elt Ideal)))).flatten W (Proc.devRef .tc main_v105)
      = Att.result (W (Proc.devRef .tc main_arg0)) (W (Proc.devRef .tc main_arg1)) (W (Proc.devRef .tc main_v0_0)) (W (Proc.devRef .tc main_arg3)) (W (Proc.devRef .tc main_v0_1)) (W (Proc.devRef .tc main_arg5))
          (W (Proc.devRef .tc main_v0_2)) (W (Proc.devRef .tc main_arg7)) (W (Proc.devRef .tc main_v0_3)) (W (Proc.devRef .tc main_arg9)) (W (Proc.devRef .tc main_v0_4)) (W (Proc.devRef .tc main_arg11)) := by
  refine (lines_eq W).trans (funext fun x => ?_)
  have hx : (x 2).val < 4096 := (x 2).2
  have ex : x = ix3 (x 0) (x 1) (⟨(((⟨(x 2).val / 2048, by omega⟩ : Fin 2)).val * 16 + ((⟨(x 2).val / 128 % 16, Nat.mod_lt _ (by decide)⟩ : Fin 16)).val) * 128 + ((⟨(x 2).val % 128, Nat.mod_lt _ (by decide)⟩ : Fin 128)).val, by show ((x 2).val / 2048 * 16 + (x 2).val / 128 % 16) * 128 + (x 2).val % 128 < 4096; omega⟩ : Fin 4096) := by
    funext a
    match a with
    | ⟨0, _⟩ => rfl
    | ⟨1, _⟩ => rfl
    | ⟨2, _⟩ => exact Fin.ext (show (x 2).val = ((x 2).val / 2048 * 16 + (x 2).val / 128 % 16) * 128 + (x 2).val % 128 by omega)
  refine (congrArg _ ex).trans ?_
  exact out_att _ _ _ _ _ _ _ _ _ _ _ _ h0 h1 (x 0) _ (x 1) _ _ _ _ _ _ _ rfl rfl rfl rfl rfl

variable (m : (ℓ : Loc nD τ sig) → Buf (Elt Ideal) ℓ) (ρ : Dev nD → PrngReg)

theorem arr5 (c : Dev nD) : (dats m 0 c).arrAt 5 cfg0.N = m ((c : Thread nD τ).loc main_arg2) := by
  refine (dats m 0 c).arrAt_eq_of_covers 5 _ (by decide +kernel) fun t hf y => ?_
  rfl
theorem arr6 (c : Dev nD) : (dats m 0 c).arrAt 6 cfg0.N = m ((c : Thread nD τ).loc main_arg4) := by
  refine (dats m 0 c).arrAt_eq_of_covers 6 _ (by decide +kernel) fun t hf y => ?_
  rfl
theorem arr7 (c : Dev nD) : (dats m 0 c).arrAt 7 cfg0.N = m ((c : Thread nD τ).loc main_arg6) := by
  refine (dats m 0 c).arrAt_eq_of_covers 7 _ (by decide +kernel) fun t hf y => ?_
  rfl
theorem arr8 (c : Dev nD) : (dats m 0 c).arrAt 8 cfg0.N = m ((c : Thread nD τ).loc main_arg8) := by
  refine (dats m 0 c).arrAt_eq_of_covers 8 _ (by decide +kernel) fun t hf y => ?_
  rfl
theorem arr9 (c : Dev nD) : (dats m 0 c).arrAt 9 cfg0.N = m ((c : Thread nD τ).loc main_arg10) := by
  refine (dats m 0 c).arrAt_eq_of_covers 9 _ (by decide +kernel) fun t hf y => ?_
  rfl

/-- What the host lines start from. -/
abbrev Wd (c : Dev nD) : Valuation τ sig (Elt Ideal) := Pipeline.withArrays spec0 c (V0 m c) fun w => (dats m 0 c).arrAt w cfg0.N

theorem res_att (c : Dev nD)
    (h0 : ∀ x, 0 ≤ (m ((c : Thread nD τ).loc main_arg0) x : BitVec 32).toInt ∧ (m ((c : Thread nD τ).loc main_arg0) x : BitVec 32).toInt < 720)
    (h1 : ∀ x, 0 ≤ (m ((c : Thread nD τ).loc main_arg1) x : BitVec 32).toInt ∧ (m ((c : Thread nD τ).loc main_arg1) x : BitVec 32).toInt ≤ 12288) :
    Pipeline.afterTail₀ cfgs (dats m) 0 (V0 m) [hostOps1, hostOps1_1, hostOps1_2, hostOps1_3, hostOps1_4] c main_v105
      = Att.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have e0 : Wd m c (Proc.devRef .tc main_arg0) = m ((c : Thread nD τ).loc main_arg0) := (Pipeline.withArrays_of_ne _ c (V0 m c) _ main_arg0 (by exact (by decide : ∀ w, Pipeline.arrRef spec0 w ≠ main_arg0))).trans (V_main_arg0 m c)
  have e1 : Wd m c (Proc.devRef .tc main_arg1) = m ((c : Thread nD τ).loc main_arg1) := (Pipeline.withArrays_of_ne _ c (V0 m c) _ main_arg1 (by exact (by decide : ∀ w, Pipeline.arrRef spec0 w ≠ main_arg1))).trans (V_main_arg1 m c)
  have e3 : Wd m c (Proc.devRef .tc main_arg3) = m ((c : Thread nD τ).loc main_arg3) := (Pipeline.withArrays_of_ne _ c (V0 m c) _ main_arg3 (by exact (by decide : ∀ w, Pipeline.arrRef spec0 w ≠ main_arg3))).trans (V_main_arg3 m c)
  have e5 : Wd m c (Proc.devRef .tc main_arg5) = m ((c : Thread nD τ).loc main_arg5) := (Pipeline.withArrays_of_ne _ c (V0 m c) _ main_arg5 (by exact (by decide : ∀ w, Pipeline.arrRef spec0 w ≠ main_arg5))).trans (V_main_arg5 m c)
  have e7 : Wd m c (Proc.devRef .tc main_arg7) = m ((c : Thread nD τ).loc main_arg7) := (Pipeline.withArrays_of_ne _ c (V0 m c) _ main_arg7 (by exact (by decide : ∀ w, Pipeline.arrRef spec0 w ≠ main_arg7))).trans (V_main_arg7 m c)
  have e9 : Wd m c (Proc.devRef .tc main_arg9) = m ((c : Thread nD τ).loc main_arg9) := (Pipeline.withArrays_of_ne _ c (V0 m c) _ main_arg9 (by exact (by decide : ∀ w, Pipeline.arrRef spec0 w ≠ main_arg9))).trans (V_main_arg9 m c)
  have e11 : Wd m c (Proc.devRef .tc main_arg11) = m ((c : Thread nD τ).loc main_arg11) := (Pipeline.withArrays_of_ne _ c (V0 m c) _ main_arg11 (by exact (by decide : ∀ w, Pipeline.arrRef spec0 w ≠ main_arg11))).trans (V_main_arg11 m c)
  have d0 : Wd m c (Proc.devRef .tc main_v0_0) = m ((c : Thread nD τ).loc main_arg2) := (Pipeline.withArrays_arr spec0 launch0.win.arr_inj c _ _ 5).trans (arr5 m c)
  have d1 : Wd m c (Proc.devRef .tc main_v0_1) = m ((c : Thread nD τ).loc main_arg4) := (Pipeline.withArrays_arr spec0 launch0.win.arr_inj c _ _ 6).trans (arr6 m c)
  have d2 : Wd m c (Proc.devRef .tc main_v0_2) = m ((c : Thread nD τ).loc main_arg6) := (Pipeline.withArrays_arr spec0 launch0.win.arr_inj c _ _ 7).trans (arr7 m c)
  have d3 : Wd m c (Proc.devRef .tc main_v0_3) = m ((c : Thread nD τ).loc main_arg8) := (Pipeline.withArrays_arr spec0 launch0.win.arr_inj c _ _ 8).trans (arr8 m c)
  have d4 : Wd m c (Proc.devRef .tc main_v0_4) = m ((c : Thread nD τ).loc main_arg10) := (Pipeline.withArrays_arr spec0 launch0.win.arr_inj c _ _ 9).trans (arr9 m c)
  have h := lines_att (Wd m c) (fun x => by rw [e0]; exact h0 x) (fun x => by rw [e1]; exact h1 x)
  rw [e0, e1, e3, e5, e7, e9, e11, d0, d1, d2, d3, d4] at h
  exact h

end Cert.ReferenceIdeal.Hand
-- ==== Proof.lean ====
/- The claims, put together. -/
module

public import proofs.«01_k».proof.Defs
public import proofs.«01_k».proof.Proof.Range
public import proofs.«01_k».proof.Proof.KN.Run
public import proofs.«01_k».proof.Proof.KI.Val
public import proofs.«01_k».proof.Proof.RF.End

@[expose] public section

noncomputable section

namespace Cert.Proof

open Idealize.ShloMosaic Idealize.SL.Sem

attribute [local instance] Cert.Pre_in_range.Gen.facts

theorem inRange_Kernel (m : (ℓ : Loc Cert.Kernel.nD Cert.Kernel.τ Cert.Kernel.sig) → Buf (Elt Bits) ℓ) (h : Pre_Kernel m) : Cert.Kernel.Hand.InRange m :=
  ⟨fun c => (Cert.Hand.ranges _ _ _ _ _ _ _ _ _ _ _ _ (h c)).1, fun c => (Cert.Hand.ranges _ _ _ _ _ _ _ _ _ _ _ _ (h c)).2⟩

theorem inRange_KernelIdeal (m : (ℓ : Loc Cert.KernelIdeal.nD Cert.KernelIdeal.τ Cert.KernelIdeal.sig) → Buf (Elt Ideal) ℓ) (h : Pre_KernelIdeal m) : Cert.KernelIdeal.Hand.InRange m :=
  ⟨fun c => (Cert.Hand.ranges _ _ _ _ _ _ _ _ _ _ _ _ (h c)).1, fun c => (Cert.Hand.ranges _ _ _ _ _ _ _ _ _ _ _ _ (h c)).2⟩

/-- The call and the reference end with the same array: the attention of the arguments. -/
theorem value : algebraic_KernelIdeal_ReferenceIdeal (hKernelIdeal := Cert.KernelIdeal.Gen.facts) (hReferenceIdeal := Cert.ReferenceIdeal.Gen.facts) (hPre_in_range := Cert.Pre_in_range.Gen.facts) := by
  intro m g m' g' hp ha
  have hr := inRange_KernelIdeal m hp
  refine ⟨fun c => Cert.KernelIdeal.Hand.res m c, ?_, ?_⟩
  · refine (θ_run Cert.KernelIdeal.defs _ _).mono (fun r h c => ?_) (Cert.KernelIdeal.Hand.run_main m g hr)
    obtain ⟨hw, hq, h4, h6⟩ := h.1 c
    have hi := fun w hw' => Cert.KernelIdeal.Hand.in_same m hr c w hw' _ (hw w)
    refine ⟨Cert.KernelIdeal.Hand.arr_val m hr c _ (hw 8), ?_, ?_, hi 0 rfl, hi 1 rfl, h4, hi 2 rfl, h6, hi 3 rfl, hi 4 rfl, hi 5 rfl, hi 6 rfl, hi 7 rfl⟩
    · have := hq 0; obtain rfl := Cert.KernelIdeal.Hand.dev0 c; exact this
    · have := hq 1; obtain rfl := Cert.KernelIdeal.Hand.dev0 c; exact this
  · refine (θ_run Cert.ReferenceIdeal.defs _ _).mono (fun r h c => ?_) (Cert.ReferenceIdeal.Hand.run_main m' g')
    obtain ⟨a0, a1, a2, a3, a4, a5, a6, a7, a8, a9, a10, a11⟩ := ha c
    refine ⟨?_, ((h.1 c).2 Cert.ReferenceIdeal.main_arg0 (Pipeline.mem_restRefs_of Cert.ReferenceIdeal.main_arg0 (by decide) (by decide))).trans (Cert.ReferenceIdeal.Gen.W_main_arg0 m' (Cert.ReferenceIdeal.Hand.dats m') c),
      ((h.1 c).2 Cert.ReferenceIdeal.main_arg1 (Pipeline.mem_restRefs_of Cert.ReferenceIdeal.main_arg1 (by decide) (by decide))).trans (Cert.ReferenceIdeal.Gen.W_main_arg1 m' (Cert.ReferenceIdeal.Hand.dats m') c),
      ((h.1 c).1 0).trans (((Cert.ReferenceIdeal.Hand.dats m' 0 c).arrAt_in 0 rfl _).trans (Cert.ReferenceIdeal.Gen.V_main_arg2 m' c)),
      ((h.1 c).2 Cert.ReferenceIdeal.main_arg3 (Pipeline.mem_restRefs_of Cert.ReferenceIdeal.main_arg3 (by decide) (by decide))).trans (Cert.ReferenceIdeal.Gen.W_main_arg3 m' (Cert.ReferenceIdeal.Hand.dats m') c),
      ((h.1 c).1 1).trans (((Cert.ReferenceIdeal.Hand.dats m' 0 c).arrAt_in 1 rfl _).trans (Cert.ReferenceIdeal.Gen.V_main_arg4 m' c)),
      ((h.1 c).2 Cert.ReferenceIdeal.main_arg5 (Pipeline.mem_restRefs_of Cert.ReferenceIdeal.main_arg5 (by decide) (by decide))).trans (Cert.ReferenceIdeal.Gen.W_main_arg5 m' (Cert.ReferenceIdeal.Hand.dats m') c),
      ((h.1 c).1 2).trans (((Cert.ReferenceIdeal.Hand.dats m' 0 c).arrAt_in 2 rfl _).trans (Cert.ReferenceIdeal.Gen.V_main_arg6 m' c)),
      ((h.1 c).2 Cert.ReferenceIdeal.main_arg7 (Pipeline.mem_restRefs_of Cert.ReferenceIdeal.main_arg7 (by decide) (by decide))).trans (Cert.ReferenceIdeal.Gen.W_main_arg7 m' (Cert.ReferenceIdeal.Hand.dats m') c),
      ((h.1 c).1 3).trans (((Cert.ReferenceIdeal.Hand.dats m' 0 c).arrAt_in 3 rfl _).trans (Cert.ReferenceIdeal.Gen.V_main_arg8 m' c)),
      ((h.1 c).2 Cert.ReferenceIdeal.main_arg9 (Pipeline.mem_restRefs_of Cert.ReferenceIdeal.main_arg9 (by decide) (by decide))).trans (Cert.ReferenceIdeal.Gen.W_main_arg9 m' (Cert.ReferenceIdeal.Hand.dats m') c),
      ((h.1 c).1 4).trans (((Cert.ReferenceIdeal.Hand.dats m' 0 c).arrAt_in 4 rfl _).trans (Cert.ReferenceIdeal.Gen.V_main_arg10 m' c)),
      ((h.1 c).2 Cert.ReferenceIdeal.main_arg11 (Pipeline.mem_restRefs_of Cert.ReferenceIdeal.main_arg11 (by decide) (by decide))).trans (Cert.ReferenceIdeal.Gen.W_main_arg11 m' (Cert.ReferenceIdeal.Hand.dats m') c)⟩
    refine ((h.1 c).2 Cert.ReferenceIdeal.main_v105 (Pipeline.mem_restRefs_of Cert.ReferenceIdeal.main_v105 (by decide) (by decide))).trans ?_
    refine (Cert.ReferenceIdeal.Hand.res_att m' c (fun x => by rw [a0]; exact hr.2 c x) (fun x => by rw [a1]; exact hr.1 c x)).trans ?_
    rw [a0, a1, a2, a3, a4, a5, a6, a7, a8, a9, a10, a11]

theorem claim : Cert.Claim := ⟨Cert.Kernel.Gen.facts, Cert.KernelIdeal.Gen.facts, Cert.ReferenceIdeal.Gen.facts, Cert.Pre_in_range.Gen.facts,
  fun m g h => Cert.Kernel.Hand.frame m g (inRange_Kernel m h),
  fun m g h => Cert.KernelIdeal.Hand.frame m g (inRange_KernelIdeal m h),
  fun m g _ => Cert.ReferenceIdeal.Hand.frame m g,
  IdealRules.named_const.statement _ _ _ _ _ rfl,
  value⟩

end Cert.Proof

end
